-- ==== Defs.lean ====
def Pre_ProjBwd (m : (ℓ : Loc Cert.ProjBwd.nD Cert.ProjBwd.τ Cert.ProjBwd.sig) → Buf (Elt Bits) ℓ) : Prop :=
  True

def Pre_ProjBwdIdeal (m : (ℓ : Loc Cert.ProjBwdIdeal.nD Cert.ProjBwdIdeal.τ Cert.ProjBwdIdeal.sig) → Buf (Elt Ideal) ℓ) : Prop :=
  True

def Pre_ProjBwdIdeal_finite_proj_bwd [hPre_finite_proj_bwd : Cert.Pre_finite_proj_bwd.Facts] (m : (ℓ : Loc Cert.ProjBwdIdeal.nD Cert.ProjBwdIdeal.τ Cert.ProjBwdIdeal.sig) → Buf (Elt Ideal) ℓ) : Prop :=
  ∀ c : Dev Cert.ProjBwdIdeal.nD,
    (Cert.Pre_finite_proj_bwd.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4))) = (fun _ => 1#1)

def Pre_ProjBwdRefIdeal (m : (ℓ : Loc Cert.ProjBwdRefIdeal.nD Cert.ProjBwdRefIdeal.τ Cert.ProjBwdRefIdeal.sig) → Buf (Elt Ideal) ℓ) : Prop :=
  True

def Pre_ProjBwdRefIdeal_finite_proj_bwd [hPre_finite_proj_bwd : Cert.Pre_finite_proj_bwd.Facts] (m : (ℓ : Loc Cert.ProjBwdRefIdeal.nD Cert.ProjBwdRefIdeal.τ Cert.ProjBwdRefIdeal.sig) → Buf (Elt Ideal) ℓ) : Prop :=
  ∀ c : Dev Cert.ProjBwdRefIdeal.nD,
    (Cert.Pre_finite_proj_bwd.fn (F := Ideal) (m ((c.tc : Thread Cert.ProjBwdRefIdeal.nD Cert.ProjBwdRefIdeal.τ).loc Cert.ProjBwdRefIdeal.main_arg0)) (m ((c.tc : Thread Cert.ProjBwdRefIdeal.nD Cert.ProjBwdRefIdeal.τ).loc Cert.ProjBwdRefIdeal.main_arg1)) (m ((c.tc : Thread Cert.ProjBwdRefIdeal.nD Cert.ProjBwdRefIdeal.τ).loc Cert.ProjBwdRefIdeal.main_arg2)) (m ((c.tc : Thread Cert.ProjBwdRefIdeal.nD Cert.ProjBwdRefIdeal.τ).loc Cert.ProjBwdRefIdeal.main_arg3)) (m ((c.tc : Thread Cert.ProjBwdRefIdeal.nD Cert.ProjBwdRefIdeal.τ).loc Cert.ProjBwdRefIdeal.main_arg4))) = (fun _ => 1#1)

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdIdeal_finite_out_bwd [hPre_finite_out_bwd : Cert.Pre_finite_out_bwd.Facts] (m : (ℓ : Loc Cert.OutBwdIdeal.nD Cert.OutBwdIdeal.τ Cert.OutBwdIdeal.sig) → Buf (Elt Ideal) ℓ) : Prop :=
  ∀ c : Dev Cert.OutBwdIdeal.nD,
    (Cert.Pre_finite_out_bwd.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6))) = (fun _ => 1#1)

def Pre_OutBwdRefIdeal (m : (ℓ : Loc Cert.OutBwdRefIdeal.nD Cert.OutBwdRefIdeal.τ Cert.OutBwdRefIdeal.sig) → Buf (Elt Ideal) ℓ) : Prop :=
  True

def Pre_OutBwdRefIdeal_finite_out_bwd [hPre_finite_out_bwd : Cert.Pre_finite_out_bwd.Facts] (m : (ℓ : Loc Cert.OutBwdRefIdeal.nD Cert.OutBwdRefIdeal.τ Cert.OutBwdRefIdeal.sig) → Buf (Elt Ideal) ℓ) : Prop :=
  ∀ c : Dev Cert.OutBwdRefIdeal.nD,
    (Cert.Pre_finite_out_bwd.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4)) (m ((c.tc : Thread Cert.OutBwdRefIdeal.nD Cert.OutBwdRefIdeal.τ).loc Cert.OutBwdRefIdeal.main_arg5)) (m ((c.tc : Thread Cert.OutBwdRefIdeal.nD Cert.OutBwdRefIdeal.τ).loc Cert.OutBwdRefIdeal.main_arg6))) = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_attn_bwd [hPre_finite_attn_bwd : Cert.Pre_finite_attn_bwd.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_attn_bwd.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))) = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_finite_attn_bwd [hPre_finite_attn_bwd : Cert.Pre_finite_attn_bwd.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_finite_attn_bwd.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))) = (fun _ => 1#1)

def Pre_QPrepBwd (m : (ℓ : Loc Cert.QPrepBwd.nD Cert.QPrepBwd.τ Cert.QPrepBwd.sig) → Buf (Elt Bits) ℓ) : Prop :=
  True

def Pre_QPrepBwdIdeal (m : (ℓ : Loc Cert.QPrepBwdIdeal.nD Cert.QPrepBwdIdeal.τ Cert.QPrepBwdIdeal.sig) → Buf (Elt Ideal) ℓ) : Prop :=
  True

def Pre_QPrepBwdIdeal_finite_q_prep_bwd [hPre_finite_q_prep_bwd : Cert.Pre_finite_q_prep_bwd.Facts] (m : (ℓ : Loc Cert.QPrepBwdIdeal.nD Cert.QPrepBwdIdeal.τ Cert.QPrepBwdIdeal.sig) → Buf (Elt Ideal) ℓ) : Prop :=
  ∀ c : Dev Cert.QPrepBwdIdeal.nD,
    (Cert.Pre_finite_q_prep_bwd.fn (F := Ideal) (m ((c.tc : Thread Cert.QPrepBwdIdeal.nD Cert.QPrepBwdIdeal.τ).loc Cert.QPrepBwdIdeal.main_arg0)) (m ((c.tc : Thread Cert.QPrepBwdIdeal.nD Cert.QPrepBwdIdeal.τ).loc Cert.QPrepBwdIdeal.main_arg1)) (m ((c.tc : Thread Cert.QPrepBwdIdeal.nD Cert.QPrepBwdIdeal.τ).loc Cert.QPrepBwdIdeal.main_arg2))) = (fun _ => 1#1)

def Pre_QPrepBwdRefIdeal (m : (ℓ : Loc Cert.QPrepBwdRefIdeal.nD Cert.QPrepBwdRefIdeal.τ Cert.QPrepBwdRefIdeal.sig) → Buf (Elt Ideal) ℓ) : Prop :=
  True

def Pre_QPrepBwdRefIdeal_finite_q_prep_bwd [hPre_finite_q_prep_bwd : Cert.Pre_finite_q_prep_bwd.Facts] (m : (ℓ : Loc Cert.QPrepBwdRefIdeal.nD Cert.QPrepBwdRefIdeal.τ Cert.QPrepBwdRefIdeal.sig) → Buf (Elt Ideal) ℓ) : Prop :=
  ∀ c : Dev Cert.QPrepBwdRefIdeal.nD,
    (Cert.Pre_finite_q_prep_bwd.fn (F := Ideal) (m ((c.tc : Thread Cert.QPrepBwdRefIdeal.nD Cert.QPrepBwdRefIdeal.τ).loc Cert.QPrepBwdRefIdeal.main_arg0)) (m ((c.tc : Thread Cert.QPrepBwdRefIdeal.nD Cert.QPrepBwdRefIdeal.τ).loc Cert.QPrepBwdRefIdeal.main_arg1)) (m ((c.tc : Thread Cert.QPrepBwdRefIdeal.nD Cert.QPrepBwdRefIdeal.τ).loc Cert.QPrepBwdRefIdeal.main_arg2))) = (fun _ => 1#1)

def Pre_KPrepBwd (m : (ℓ : Loc Cert.KPrepBwd.nD Cert.KPrepBwd.τ Cert.KPrepBwd.sig) → Buf (Elt Bits) ℓ) : Prop :=
  True

def Pre_KPrepBwdIdeal (m : (ℓ : Loc Cert.KPrepBwdIdeal.nD Cert.KPrepBwdIdeal.τ Cert.KPrepBwdIdeal.sig) → Buf (Elt Ideal) ℓ) : Prop :=
  True

def Pre_KPrepBwdIdeal_finite_k_prep_bwd [hPre_finite_k_prep_bwd : Cert.Pre_finite_k_prep_bwd.Facts] (m : (ℓ : Loc Cert.KPrepBwdIdeal.nD Cert.KPrepBwdIdeal.τ Cert.KPrepBwdIdeal.sig) → Buf (Elt Ideal) ℓ) : Prop :=
  ∀ c : Dev Cert.KPrepBwdIdeal.nD,
    (Cert.Pre_finite_k_prep_bwd.fn (F := Ideal) (m ((c.tc : Thread Cert.KPrepBwdIdeal.nD Cert.KPrepBwdIdeal.τ).loc Cert.KPrepBwdIdeal.main_arg0)) (m ((c.tc : Thread Cert.KPrepBwdIdeal.nD Cert.KPrepBwdIdeal.τ).loc Cert.KPrepBwdIdeal.main_arg1)) (m ((c.tc : Thread Cert.KPrepBwdIdeal.nD Cert.KPrepBwdIdeal.τ).loc Cert.KPrepBwdIdeal.main_arg2))) = (fun _ => 1#1)

def Pre_KPrepBwdRefIdeal (m : (ℓ : Loc Cert.KPrepBwdRefIdeal.nD Cert.KPrepBwdRefIdeal.τ Cert.KPrepBwdRefIdeal.sig) → Buf (Elt Ideal) ℓ) : Prop :=
  True

def Pre_KPrepBwdRefIdeal_finite_k_prep_bwd [hPre_finite_k_prep_bwd : Cert.Pre_finite_k_prep_bwd.Facts] (m : (ℓ : Loc Cert.KPrepBwdRefIdeal.nD Cert.KPrepBwdRefIdeal.τ Cert.KPrepBwdRefIdeal.sig) → Buf (Elt Ideal) ℓ) : Prop :=
  ∀ c : Dev Cert.KPrepBwdRefIdeal.nD,
    (Cert.Pre_finite_k_prep_bwd.fn (F := Ideal) (m ((c.tc : Thread Cert.KPrepBwdRefIdeal.nD Cert.KPrepBwdRefIdeal.τ).loc Cert.KPrepBwdRefIdeal.main_arg0)) (m ((c.tc : Thread Cert.KPrepBwdRefIdeal.nD Cert.KPrepBwdRefIdeal.τ).loc Cert.KPrepBwdRefIdeal.main_arg1)) (m ((c.tc : Thread Cert.KPrepBwdRefIdeal.nD Cert.KPrepBwdRefIdeal.τ).loc Cert.KPrepBwdRefIdeal.main_arg2))) = (fun _ => 1#1)

def Pre_ConvBwdB (m : (ℓ : Loc Cert.ConvBwdB.nD Cert.ConvBwdB.τ Cert.ConvBwdB.sig) → Buf (Elt Bits) ℓ) : Prop :=
  True

def Pre_ConvBwdBIdeal (m : (ℓ : Loc Cert.ConvBwdBIdeal.nD Cert.ConvBwdBIdeal.τ Cert.ConvBwdBIdeal.sig) → Buf (Elt Ideal) ℓ) : Prop :=
  True

def Pre_ConvBwdBRefIdeal (m : (ℓ : Loc Cert.ConvBwdBRefIdeal.nD Cert.ConvBwdBRefIdeal.τ Cert.ConvBwdBRefIdeal.sig) → Buf (Elt Ideal) ℓ) : Prop :=
  True

def Pre_ConvBwdA (m : (ℓ : Loc Cert.ConvBwdA.nD Cert.ConvBwdA.τ Cert.ConvBwdA.sig) → Buf (Elt Bits) ℓ) : Prop :=
  True

def Pre_ConvBwdAIdeal (m : (ℓ : Loc Cert.ConvBwdAIdeal.nD Cert.ConvBwdAIdeal.τ Cert.ConvBwdAIdeal.sig) → Buf (Elt Ideal) ℓ) : Prop :=
  True

def Pre_ConvBwdAIdeal_finite_conv_bwd_a [hPre_finite_conv_bwd_a : Cert.Pre_finite_conv_bwd_a.Facts] (m : (ℓ : Loc Cert.ConvBwdAIdeal.nD Cert.ConvBwdAIdeal.τ Cert.ConvBwdAIdeal.sig) → Buf (Elt Ideal) ℓ) : Prop :=
  ∀ c : Dev Cert.ConvBwdAIdeal.nD,
    (Cert.Pre_finite_conv_bwd_a.fn (F := Ideal) (m ((c.tc : Thread Cert.ConvBwdAIdeal.nD Cert.ConvBwdAIdeal.τ).loc Cert.ConvBwdAIdeal.main_arg0)) (m ((c.tc : Thread Cert.ConvBwdAIdeal.nD Cert.ConvBwdAIdeal.τ).loc Cert.ConvBwdAIdeal.main_arg1)) (m ((c.tc : Thread Cert.ConvBwdAIdeal.nD Cert.ConvBwdAIdeal.τ).loc Cert.ConvBwdAIdeal.main_arg2)) (m ((c.tc : Thread Cert.ConvBwdAIdeal.nD Cert.ConvBwdAIdeal.τ).loc Cert.ConvBwdAIdeal.main_arg3)) (m ((c.tc : Thread Cert.ConvBwdAIdeal.nD Cert.ConvBwdAIdeal.τ).loc Cert.ConvBwdAIdeal.main_arg4)) (m ((c.tc : Thread Cert.ConvBwdAIdeal.nD Cert.ConvBwdAIdeal.τ).loc Cert.ConvBwdAIdeal.main_arg5))) = (fun _ => 1#1)

def Pre_ConvBwdARefIdeal (m : (ℓ : Loc Cert.ConvBwdARefIdeal.nD Cert.ConvBwdARefIdeal.τ Cert.ConvBwdARefIdeal.sig) → Buf (Elt Ideal) ℓ) : Prop :=
  True

def Pre_ConvBwdARefIdeal_finite_conv_bwd_a [hPre_finite_conv_bwd_a : Cert.Pre_finite_conv_bwd_a.Facts] (m : (ℓ : Loc Cert.ConvBwdARefIdeal.nD Cert.ConvBwdARefIdeal.τ Cert.ConvBwdARefIdeal.sig) → Buf (Elt Ideal) ℓ) : Prop :=
  ∀ c : Dev Cert.ConvBwdARefIdeal.nD,
    (Cert.Pre_finite_conv_bwd_a.fn (F := Ideal) (m ((c.tc : Thread Cert.ConvBwdARefIdeal.nD Cert.ConvBwdARefIdeal.τ).loc Cert.ConvBwdARefIdeal.main_arg0)) (m ((c.tc : Thread Cert.ConvBwdARefIdeal.nD Cert.ConvBwdARefIdeal.τ).loc Cert.ConvBwdARefIdeal.main_arg1)) (m ((c.tc : Thread Cert.ConvBwdARefIdeal.nD Cert.ConvBwdARefIdeal.τ).loc Cert.ConvBwdARefIdeal.main_arg2)) (m ((c.tc : Thread Cert.ConvBwdARefIdeal.nD Cert.ConvBwdARefIdeal.τ).loc Cert.ConvBwdARefIdeal.main_arg3)) (m ((c.tc : Thread Cert.ConvBwdARefIdeal.nD Cert.ConvBwdARefIdeal.τ).loc Cert.ConvBwdARefIdeal.main_arg4)) (m ((c.tc : Thread Cert.ConvBwdARefIdeal.nD Cert.ConvBwdARefIdeal.τ).loc Cert.ConvBwdARefIdeal.main_arg5))) = (fun _ => 1#1)

def Pre_SguBwd (m : (ℓ : Loc Cert.SguBwd.nD Cert.SguBwd.τ Cert.SguBwd.sig) → Buf (Elt Bits) ℓ) : Prop :=
  True

def Pre_SguBwdIdeal (m : (ℓ : Loc Cert.SguBwdIdeal.nD Cert.SguBwdIdeal.τ Cert.SguBwdIdeal.sig) → Buf (Elt Ideal) ℓ) : Prop :=
  True

def Pre_SguBwdIdeal_finite_sgu_bwd [hPre_finite_sgu_bwd : Cert.Pre_finite_sgu_bwd.Facts] (m : (ℓ : Loc Cert.SguBwdIdeal.nD Cert.SguBwdIdeal.τ Cert.SguBwdIdeal.sig) → Buf (Elt Ideal) ℓ) : Prop :=
  ∀ c : Dev Cert.SguBwdIdeal.nD,
    (Cert.Pre_finite_sgu_bwd.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5))) = (fun _ => 1#1)

def Pre_SguBwdRefIdeal (m : (ℓ : Loc Cert.SguBwdRefIdeal.nD Cert.SguBwdRefIdeal.τ Cert.SguBwdRefIdeal.sig) → Buf (Elt Ideal) ℓ) : Prop :=
  True

def Pre_SguBwdRefIdeal_finite_sgu_bwd [hPre_finite_sgu_bwd : Cert.Pre_finite_sgu_bwd.Facts] (m : (ℓ : Loc Cert.SguBwdRefIdeal.nD Cert.SguBwdRefIdeal.τ Cert.SguBwdRefIdeal.sig) → Buf (Elt Ideal) ℓ) : Prop :=
  ∀ c : Dev Cert.SguBwdRefIdeal.nD,
    (Cert.Pre_finite_sgu_bwd.fn (F := Ideal) (m ((c.tc : Thread Cert.SguBwdRefIdeal.nD Cert.SguBwdRefIdeal.τ).loc Cert.SguBwdRefIdeal.main_arg0)) (m ((c.tc : Thread Cert.SguBwdRefIdeal.nD Cert.SguBwdRefIdeal.τ).loc Cert.SguBwdRefIdeal.main_arg1)) (m ((c.tc : Thread Cert.SguBwdRefIdeal.nD Cert.SguBwdRefIdeal.τ).loc Cert.SguBwdRefIdeal.main_arg2)) (m ((c.tc : Thread Cert.SguBwdRefIdeal.nD Cert.SguBwdRefIdeal.τ).loc Cert.SguBwdRefIdeal.main_arg3)) (m ((c.tc : Thread Cert.SguBwdRefIdeal.nD Cert.SguBwdRefIdeal.τ).loc Cert.SguBwdRefIdeal.main_arg4)) (m ((c.tc : Thread Cert.SguBwdRefIdeal.nD Cert.SguBwdRefIdeal.τ).loc Cert.SguBwdRefIdeal.main_arg5))) = (fun _ => 1#1)

def quiescent_ProjBwd [hProjBwd : Cert.ProjBwd.Facts] : Prop :=
  ∀ (m : (ℓ : Loc Cert.ProjBwd.nD Cert.ProjBwd.τ Cert.ProjBwd.sig) → Buf (Elt Bits) ℓ) (g : Dev Cert.ProjBwd.nD → PrngReg), Pre_ProjBwd m →
    θ_run (Cert.ProjBwd.defs (F := Bits)) (onTc (τ := Cert.ProjBwd.τ) (Cert.ProjBwd.main (F := Bits))) ⟨m, fun _ => 0, g⟩ (fun r => (∀ c : Dev Cert.ProjBwd.nD,
      r.2.mem ((c.tc : Thread Cert.ProjBwd.nD Cert.ProjBwd.τ).loc Cert.ProjBwd.main_arg0) = m ((c.tc : Thread Cert.ProjBwd.nD Cert.ProjBwd.τ).loc Cert.ProjBwd.main_arg0)
      ∧ r.2.mem ((c.tc : Thread Cert.ProjBwd.nD Cert.ProjBwd.τ).loc Cert.ProjBwd.main_arg1) = m ((c.tc : Thread Cert.ProjBwd.nD Cert.ProjBwd.τ).loc Cert.ProjBwd.main_arg1)
      ∧ r.2.mem ((c.tc : Thread Cert.ProjBwd.nD Cert.ProjBwd.τ).loc Cert.ProjBwd.main_arg2) = m ((c.tc : Thread Cert.ProjBwd.nD Cert.ProjBwd.τ).loc Cert.ProjBwd.main_arg2)
      ∧ r.2.mem ((c.tc : Thread Cert.ProjBwd.nD Cert.ProjBwd.τ).loc Cert.ProjBwd.main_arg3) = m ((c.tc : Thread Cert.ProjBwd.nD Cert.ProjBwd.τ).loc Cert.ProjBwd.main_arg3)
      ∧ r.2.mem ((c.tc : Thread Cert.ProjBwd.nD Cert.ProjBwd.τ).loc Cert.ProjBwd.main_arg4) = m ((c.tc : Thread Cert.ProjBwd.nD Cert.ProjBwd.τ).loc Cert.ProjBwd.main_arg4))
      ∧ r.2.sem = fun _ => 0)

def quiescent_ProjBwdIdeal [hProjBwdIdeal : Cert.ProjBwdIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4))
      ∧ r.2.sem = fun _ => 0)

def quiescent_ProjBwdIdeal_pre_finite_proj_bwd [hProjBwdIdeal : Cert.ProjBwdIdeal.Facts] [hPre_finite_proj_bwd : Cert.Pre_finite_proj_bwd.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal_finite_proj_bwd m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4))
      ∧ r.2.sem = fun _ => 0)

def quiescent_ProjBwdRefIdeal [hProjBwdRefIdeal : Cert.ProjBwdRefIdeal.Facts] : Prop :=
  ∀ (m : (ℓ : Loc Cert.ProjBwdRefIdeal.nD Cert.ProjBwdRefIdeal.τ Cert.ProjBwdRefIdeal.sig) → Buf (Elt Ideal) ℓ) (g : Dev Cert.ProjBwdRefIdeal.nD → PrngReg), Pre_ProjBwdRefIdeal m →
    θ_run (Cert.ProjBwdRefIdeal.defs (F := Ideal)) (onTc (τ := Cert.ProjBwdRefIdeal.τ) (Cert.ProjBwdRefIdeal.main (F := Ideal))) ⟨m, fun _ => 0, g⟩ (fun r => (∀ c : Dev Cert.ProjBwdRefIdeal.nD,
      r.2.mem ((c.tc : Thread Cert.ProjBwdRefIdeal.nD Cert.ProjBwdRefIdeal.τ).loc Cert.ProjBwdRefIdeal.main_arg0) = m ((c.tc : Thread Cert.ProjBwdRefIdeal.nD Cert.ProjBwdRefIdeal.τ).loc Cert.ProjBwdRefIdeal.main_arg0)
      ∧ r.2.mem ((c.tc : Thread Cert.ProjBwdRefIdeal.nD Cert.ProjBwdRefIdeal.τ).loc Cert.ProjBwdRefIdeal.main_arg1) = m ((c.tc : Thread Cert.ProjBwdRefIdeal.nD Cert.ProjBwdRefIdeal.τ).loc Cert.ProjBwdRefIdeal.main_arg1)
      ∧ r.2.mem ((c.tc : Thread Cert.ProjBwdRefIdeal.nD Cert.ProjBwdRefIdeal.τ).loc Cert.ProjBwdRefIdeal.main_arg2) = m ((c.tc : Thread Cert.ProjBwdRefIdeal.nD Cert.ProjBwdRefIdeal.τ).loc Cert.ProjBwdRefIdeal.main_arg2)
      ∧ r.2.mem ((c.tc : Thread Cert.ProjBwdRefIdeal.nD Cert.ProjBwdRefIdeal.τ).loc Cert.ProjBwdRefIdeal.main_arg3) = m ((c.tc : Thread Cert.ProjBwdRefIdeal.nD Cert.ProjBwdRefIdeal.τ).loc Cert.ProjBwdRefIdeal.main_arg3)
      ∧ r.2.mem ((c.tc : Thread Cert.ProjBwdRefIdeal.nD Cert.ProjBwdRefIdeal.τ).loc Cert.ProjBwdRefIdeal.main_arg4) = m ((c.tc : Thread Cert.ProjBwdRefIdeal.nD Cert.ProjBwdRefIdeal.τ).loc Cert.ProjBwdRefIdeal.main_arg4))
      ∧ r.2.sem = fun _ => 0)

def quiescent_ProjBwdRefIdeal_pre_finite_proj_bwd [hProjBwdRefIdeal : Cert.ProjBwdRefIdeal.Facts] [hPre_finite_proj_bwd : Cert.Pre_finite_proj_bwd.Facts] : Prop :=
  ∀ (m : (ℓ : Loc Cert.ProjBwdRefIdeal.nD Cert.ProjBwdRefIdeal.τ Cert.ProjBwdRefIdeal.sig) → Buf (Elt Ideal) ℓ) (g : Dev Cert.ProjBwdRefIdeal.nD → PrngReg), Pre_ProjBwdRefIdeal_finite_proj_bwd m →
    θ_run (Cert.ProjBwdRefIdeal.defs (F := Ideal)) (onTc (τ := Cert.ProjBwdRefIdeal.τ) (Cert.ProjBwdRefIdeal.main (F := Ideal))) ⟨m, fun _ => 0, g⟩ (fun r => (∀ c : Dev Cert.ProjBwdRefIdeal.nD,
      r.2.mem ((c.tc : Thread Cert.ProjBwdRefIdeal.nD Cert.ProjBwdRefIdeal.τ).loc Cert.ProjBwdRefIdeal.main_arg0) = m ((c.tc : Thread Cert.ProjBwdRefIdeal.nD Cert.ProjBwdRefIdeal.τ).loc Cert.ProjBwdRefIdeal.main_arg0)
      ∧ r.2.mem ((c.tc : Thread Cert.ProjBwdRefIdeal.nD Cert.ProjBwdRefIdeal.τ).loc Cert.ProjBwdRefIdeal.main_arg1) = m ((c.tc : Thread Cert.ProjBwdRefIdeal.nD Cert.ProjBwdRefIdeal.τ).loc Cert.ProjBwdRefIdeal.main_arg1)
      ∧ r.2.mem ((c.tc : Thread Cert.ProjBwdRefIdeal.nD Cert.ProjBwdRefIdeal.τ).loc Cert.ProjBwdRefIdeal.main_arg2) = m ((c.tc : Thread Cert.ProjBwdRefIdeal.nD Cert.ProjBwdRefIdeal.τ).loc Cert.ProjBwdRefIdeal.main_arg2)
      ∧ r.2.mem ((c.tc : Thread Cert.ProjBwdRefIdeal.nD Cert.ProjBwdRefIdeal.τ).loc Cert.ProjBwdRefIdeal.main_arg3) = m ((c.tc : Thread Cert.ProjBwdRefIdeal.nD Cert.ProjBwdRefIdeal.τ).loc Cert.ProjBwdRefIdeal.main_arg3)
      ∧ r.2.mem ((c.tc : Thread Cert.ProjBwdRefIdeal.nD Cert.ProjBwdRefIdeal.τ).loc Cert.ProjBwdRefIdeal.main_arg4) = m ((c.tc : Thread Cert.ProjBwdRefIdeal.nD Cert.ProjBwdRefIdeal.τ).loc Cert.ProjBwdRefIdeal.main_arg4))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3)
      ∧ r.2.mem ((c.tc : Thread Cert.OutBwd.nD Cert.OutBwd.τ).loc Cert.OutBwd.main_arg4) = m ((c.tc : Thread Cert.OutBwd.nD Cert.OutBwd.τ).loc Cert.OutBwd.main_arg4)
      ∧ r.2.mem ((c.tc : Thread Cert.OutBwd.nD Cert.OutBwd.τ).loc Cert.OutBwd.main_arg5) = m ((c.tc : Thread Cert.OutBwd.nD Cert.OutBwd.τ).loc Cert.OutBwd.main_arg5)
      ∧ r.2.mem ((c.tc : Thread Cert.OutBwd.nD Cert.OutBwd.τ).loc Cert.OutBwd.main_arg6) = m ((c.tc : Thread Cert.OutBwd.nD Cert.OutBwd.τ).loc Cert.OutBwd.main_arg6))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
      ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5)
      ∧ r.2.mem ((c.tc : Thread Cert.OutBwdIdeal.nD Cert.OutBwdIdeal.τ).loc Cert.OutBwdIdeal.main_arg6) = m ((c.tc : Thread Cert.OutBwdIdeal.nD Cert.OutBwdIdeal.τ).loc Cert.OutBwdIdeal.main_arg6))
      ∧ r.2.sem = fun _ => 0)

def quiescent_OutBwdIdeal_pre_finite_out_bwd [hOutBwdIdeal : Cert.OutBwdIdeal.Facts] [hPre_finite_out_bwd : Cert.Pre_finite_out_bwd.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal_finite_out_bwd m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
      ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5)
      ∧ r.2.mem ((c.tc : Thread Cert.OutBwdIdeal.nD Cert.OutBwdIdeal.τ).loc Cert.OutBwdIdeal.main_arg6) = m ((c.tc : Thread Cert.OutBwdIdeal.nD Cert.OutBwdIdeal.τ).loc Cert.OutBwdIdeal.main_arg6))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3)
      ∧ r.2.mem ((c.tc : Thread Cert.OutBwdRefIdeal.nD Cert.OutBwdRefIdeal.τ).loc Cert.OutBwdRefIdeal.main_arg4) = m ((c.tc : Thread Cert.OutBwdRefIdeal.nD Cert.OutBwdRefIdeal.τ).loc Cert.OutBwdRefIdeal.main_arg4)
      ∧ r.2.mem ((c.tc : Thread Cert.OutBwdRefIdeal.nD Cert.OutBwdRefIdeal.τ).loc Cert.OutBwdRefIdeal.main_arg5) = m ((c.tc : Thread Cert.OutBwdRefIdeal.nD Cert.OutBwdRefIdeal.τ).loc Cert.OutBwdRefIdeal.main_arg5)
      ∧ r.2.mem ((c.tc : Thread Cert.OutBwdRefIdeal.nD Cert.OutBwdRefIdeal.τ).loc Cert.OutBwdRefIdeal.main_arg6) = m ((c.tc : Thread Cert.OutBwdRefIdeal.nD Cert.OutBwdRefIdeal.τ).loc Cert.OutBwdRefIdeal.main_arg6))
      ∧ r.2.sem = fun _ => 0)

def quiescent_OutBwdRefIdeal_pre_finite_out_bwd [hOutBwdRefIdeal : Cert.OutBwdRefIdeal.Facts] [hPre_finite_out_bwd : Cert.Pre_finite_out_bwd.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal_finite_out_bwd m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3)
      ∧ r.2.mem ((c.tc : Thread Cert.OutBwdRefIdeal.nD Cert.OutBwdRefIdeal.τ).loc Cert.OutBwdRefIdeal.main_arg4) = m ((c.tc : Thread Cert.OutBwdRefIdeal.nD Cert.OutBwdRefIdeal.τ).loc Cert.OutBwdRefIdeal.main_arg4)
      ∧ r.2.mem ((c.tc : Thread Cert.OutBwdRefIdeal.nD Cert.OutBwdRefIdeal.τ).loc Cert.OutBwdRefIdeal.main_arg5) = m ((c.tc : Thread Cert.OutBwdRefIdeal.nD Cert.OutBwdRefIdeal.τ).loc Cert.OutBwdRefIdeal.main_arg5)
      ∧ r.2.mem ((c.tc : Thread Cert.OutBwdRefIdeal.nD Cert.OutBwdRefIdeal.τ).loc Cert.OutBwdRefIdeal.main_arg6) = m ((c.tc : Thread Cert.OutBwdRefIdeal.nD Cert.OutBwdRefIdeal.τ).loc Cert.OutBwdRefIdeal.main_arg6))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_finite_attn_bwd [hAttnBwdIdeal : Cert.AttnBwdIdeal.Facts] [hPre_finite_attn_bwd : Cert.Pre_finite_attn_bwd.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_attn_bwd m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_AttnBwdRefIdeal_pre_finite_attn_bwd [hAttnBwdRefIdeal : Cert.AttnBwdRefIdeal.Facts] [hPre_finite_attn_bwd : Cert.Pre_finite_attn_bwd.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_finite_attn_bwd m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_QPrepBwd [hQPrepBwd : Cert.QPrepBwd.Facts] : Prop :=
  ∀ (m : (ℓ : Loc Cert.QPrepBwd.nD Cert.QPrepBwd.τ Cert.QPrepBwd.sig) → Buf (Elt Bits) ℓ) (g : Dev Cert.QPrepBwd.nD → PrngReg), Pre_QPrepBwd m →
    θ_run (Cert.QPrepBwd.defs (F := Bits)) (onTc (τ := Cert.QPrepBwd.τ) (Cert.QPrepBwd.main (F := Bits))) ⟨m, fun _ => 0, g⟩ (fun r => (∀ c : Dev Cert.QPrepBwd.nD,
      r.2.mem ((c.tc : Thread Cert.QPrepBwd.nD Cert.QPrepBwd.τ).loc Cert.QPrepBwd.main_arg0) = m ((c.tc : Thread Cert.QPrepBwd.nD Cert.QPrepBwd.τ).loc Cert.QPrepBwd.main_arg0)
      ∧ r.2.mem ((c.tc : Thread Cert.QPrepBwd.nD Cert.QPrepBwd.τ).loc Cert.QPrepBwd.main_arg1) = m ((c.tc : Thread Cert.QPrepBwd.nD Cert.QPrepBwd.τ).loc Cert.QPrepBwd.main_arg1)
      ∧ r.2.mem ((c.tc : Thread Cert.QPrepBwd.nD Cert.QPrepBwd.τ).loc Cert.QPrepBwd.main_arg2) = m ((c.tc : Thread Cert.QPrepBwd.nD Cert.QPrepBwd.τ).loc Cert.QPrepBwd.main_arg2))
      ∧ r.2.sem = fun _ => 0)

def quiescent_QPrepBwdIdeal [hQPrepBwdIdeal : Cert.QPrepBwdIdeal.Facts] : Prop :=
  ∀ (m : (ℓ : Loc Cert.QPrepBwdIdeal.nD Cert.QPrepBwdIdeal.τ Cert.QPrepBwdIdeal.sig) → Buf (Elt Ideal) ℓ) (g : Dev Cert.QPrepBwdIdeal.nD → PrngReg), Pre_QPrepBwdIdeal m →
    θ_run (Cert.QPrepBwdIdeal.defs (F := Ideal)) (onTc (τ := Cert.QPrepBwdIdeal.τ) (Cert.QPrepBwdIdeal.main (F := Ideal))) ⟨m, fun _ => 0, g⟩ (fun r => (∀ c : Dev Cert.QPrepBwdIdeal.nD,
      r.2.mem ((c.tc : Thread Cert.QPrepBwdIdeal.nD Cert.QPrepBwdIdeal.τ).loc Cert.QPrepBwdIdeal.main_arg0) = m ((c.tc : Thread Cert.QPrepBwdIdeal.nD Cert.QPrepBwdIdeal.τ).loc Cert.QPrepBwdIdeal.main_arg0)
      ∧ r.2.mem ((c.tc : Thread Cert.QPrepBwdIdeal.nD Cert.QPrepBwdIdeal.τ).loc Cert.QPrepBwdIdeal.main_arg1) = m ((c.tc : Thread Cert.QPrepBwdIdeal.nD Cert.QPrepBwdIdeal.τ).loc Cert.QPrepBwdIdeal.main_arg1)
      ∧ r.2.mem ((c.tc : Thread Cert.QPrepBwdIdeal.nD Cert.QPrepBwdIdeal.τ).loc Cert.QPrepBwdIdeal.main_arg2) = m ((c.tc : Thread Cert.QPrepBwdIdeal.nD Cert.QPrepBwdIdeal.τ).loc Cert.QPrepBwdIdeal.main_arg2))
      ∧ r.2.sem = fun _ => 0)

def quiescent_QPrepBwdIdeal_pre_finite_q_prep_bwd [hQPrepBwdIdeal : Cert.QPrepBwdIdeal.Facts] [hPre_finite_q_prep_bwd : Cert.Pre_finite_q_prep_bwd.Facts] : Prop :=
  ∀ (m : (ℓ : Loc Cert.QPrepBwdIdeal.nD Cert.QPrepBwdIdeal.τ Cert.QPrepBwdIdeal.sig) → Buf (Elt Ideal) ℓ) (g : Dev Cert.QPrepBwdIdeal.nD → PrngReg), Pre_QPrepBwdIdeal_finite_q_prep_bwd m →
    θ_run (Cert.QPrepBwdIdeal.defs (F := Ideal)) (onTc (τ := Cert.QPrepBwdIdeal.τ) (Cert.QPrepBwdIdeal.main (F := Ideal))) ⟨m, fun _ => 0, g⟩ (fun r => (∀ c : Dev Cert.QPrepBwdIdeal.nD,
      r.2.mem ((c.tc : Thread Cert.QPrepBwdIdeal.nD Cert.QPrepBwdIdeal.τ).loc Cert.QPrepBwdIdeal.main_arg0) = m ((c.tc : Thread Cert.QPrepBwdIdeal.nD Cert.QPrepBwdIdeal.τ).loc Cert.QPrepBwdIdeal.main_arg0)
      ∧ r.2.mem ((c.tc : Thread Cert.QPrepBwdIdeal.nD Cert.QPrepBwdIdeal.τ).loc Cert.QPrepBwdIdeal.main_arg1) = m ((c.tc : Thread Cert.QPrepBwdIdeal.nD Cert.QPrepBwdIdeal.τ).loc Cert.QPrepBwdIdeal.main_arg1)
      ∧ r.2.mem ((c.tc : Thread Cert.QPrepBwdIdeal.nD Cert.QPrepBwdIdeal.τ).loc Cert.QPrepBwdIdeal.main_arg2) = m ((c.tc : Thread Cert.QPrepBwdIdeal.nD Cert.QPrepBwdIdeal.τ).loc Cert.QPrepBwdIdeal.main_arg2))
      ∧ r.2.sem = fun _ => 0)

def quiescent_QPrepBwdRefIdeal [hQPrepBwdRefIdeal : Cert.QPrepBwdRefIdeal.Facts] : Prop :=
  ∀ (m : (ℓ : Loc Cert.QPrepBwdRefIdeal.nD Cert.QPrepBwdRefIdeal.τ Cert.QPrepBwdRefIdeal.sig) → Buf (Elt Ideal) ℓ) (g : Dev Cert.QPrepBwdRefIdeal.nD → PrngReg), Pre_QPrepBwdRefIdeal m →
    θ_run (Cert.QPrepBwdRefIdeal.defs (F := Ideal)) (onTc (τ := Cert.QPrepBwdRefIdeal.τ) (Cert.QPrepBwdRefIdeal.main (F := Ideal))) ⟨m, fun _ => 0, g⟩ (fun r => (∀ c : Dev Cert.QPrepBwdRefIdeal.nD,
      r.2.mem ((c.tc : Thread Cert.QPrepBwdRefIdeal.nD Cert.QPrepBwdRefIdeal.τ).loc Cert.QPrepBwdRefIdeal.main_arg0) = m ((c.tc : Thread Cert.QPrepBwdRefIdeal.nD Cert.QPrepBwdRefIdeal.τ).loc Cert.QPrepBwdRefIdeal.main_arg0)
      ∧ r.2.mem ((c.tc : Thread Cert.QPrepBwdRefIdeal.nD Cert.QPrepBwdRefIdeal.τ).loc Cert.QPrepBwdRefIdeal.main_arg1) = m ((c.tc : Thread Cert.QPrepBwdRefIdeal.nD Cert.QPrepBwdRefIdeal.τ).loc Cert.QPrepBwdRefIdeal.main_arg1)
      ∧ r.2.mem ((c.tc : Thread Cert.QPrepBwdRefIdeal.nD Cert.QPrepBwdRefIdeal.τ).loc Cert.QPrepBwdRefIdeal.main_arg2) = m ((c.tc : Thread Cert.QPrepBwdRefIdeal.nD Cert.QPrepBwdRefIdeal.τ).loc Cert.QPrepBwdRefIdeal.main_arg2))
      ∧ r.2.sem = fun _ => 0)

def quiescent_QPrepBwdRefIdeal_pre_finite_q_prep_bwd [hQPrepBwdRefIdeal : Cert.QPrepBwdRefIdeal.Facts] [hPre_finite_q_prep_bwd : Cert.Pre_finite_q_prep_bwd.Facts] : Prop :=
  ∀ (m : (ℓ : Loc Cert.QPrepBwdRefIdeal.nD Cert.QPrepBwdRefIdeal.τ Cert.QPrepBwdRefIdeal.sig) → Buf (Elt Ideal) ℓ) (g : Dev Cert.QPrepBwdRefIdeal.nD → PrngReg), Pre_QPrepBwdRefIdeal_finite_q_prep_bwd m →
    θ_run (Cert.QPrepBwdRefIdeal.defs (F := Ideal)) (onTc (τ := Cert.QPrepBwdRefIdeal.τ) (Cert.QPrepBwdRefIdeal.main (F := Ideal))) ⟨m, fun _ => 0, g⟩ (fun r => (∀ c : Dev Cert.QPrepBwdRefIdeal.nD,
      r.2.mem ((c.tc : Thread Cert.QPrepBwdRefIdeal.nD Cert.QPrepBwdRefIdeal.τ).loc Cert.QPrepBwdRefIdeal.main_arg0) = m ((c.tc : Thread Cert.QPrepBwdRefIdeal.nD Cert.QPrepBwdRefIdeal.τ).loc Cert.QPrepBwdRefIdeal.main_arg0)
      ∧ r.2.mem ((c.tc : Thread Cert.QPrepBwdRefIdeal.nD Cert.QPrepBwdRefIdeal.τ).loc Cert.QPrepBwdRefIdeal.main_arg1) = m ((c.tc : Thread Cert.QPrepBwdRefIdeal.nD Cert.QPrepBwdRefIdeal.τ).loc Cert.QPrepBwdRefIdeal.main_arg1)
      ∧ r.2.mem ((c.tc : Thread Cert.QPrepBwdRefIdeal.nD Cert.QPrepBwdRefIdeal.τ).loc Cert.QPrepBwdRefIdeal.main_arg2) = m ((c.tc : Thread Cert.QPrepBwdRefIdeal.nD Cert.QPrepBwdRefIdeal.τ).loc Cert.QPrepBwdRefIdeal.main_arg2))
      ∧ r.2.sem = fun _ => 0)

def quiescent_KPrepBwd [hKPrepBwd : Cert.KPrepBwd.Facts] : Prop :=
  ∀ (m : (ℓ : Loc Cert.KPrepBwd.nD Cert.KPrepBwd.τ Cert.KPrepBwd.sig) → Buf (Elt Bits) ℓ) (g : Dev Cert.KPrepBwd.nD → PrngReg), Pre_KPrepBwd m →
    θ_run (Cert.KPrepBwd.defs (F := Bits)) (onTc (τ := Cert.KPrepBwd.τ) (Cert.KPrepBwd.main (F := Bits))) ⟨m, fun _ => 0, g⟩ (fun r => (∀ c : Dev Cert.KPrepBwd.nD,
      r.2.mem ((c.tc : Thread Cert.KPrepBwd.nD Cert.KPrepBwd.τ).loc Cert.KPrepBwd.main_arg0) = m ((c.tc : Thread Cert.KPrepBwd.nD Cert.KPrepBwd.τ).loc Cert.KPrepBwd.main_arg0)
      ∧ r.2.mem ((c.tc : Thread Cert.KPrepBwd.nD Cert.KPrepBwd.τ).loc Cert.KPrepBwd.main_arg1) = m ((c.tc : Thread Cert.KPrepBwd.nD Cert.KPrepBwd.τ).loc Cert.KPrepBwd.main_arg1)
      ∧ r.2.mem ((c.tc : Thread Cert.KPrepBwd.nD Cert.KPrepBwd.τ).loc Cert.KPrepBwd.main_arg2) = m ((c.tc : Thread Cert.KPrepBwd.nD Cert.KPrepBwd.τ).loc Cert.KPrepBwd.main_arg2))
      ∧ r.2.sem = fun _ => 0)

def quiescent_KPrepBwdIdeal [hKPrepBwdIdeal : Cert.KPrepBwdIdeal.Facts] : Prop :=
  ∀ (m : (ℓ : Loc Cert.KPrepBwdIdeal.nD Cert.KPrepBwdIdeal.τ Cert.KPrepBwdIdeal.sig) → Buf (Elt Ideal) ℓ) (g : Dev Cert.KPrepBwdIdeal.nD → PrngReg), Pre_KPrepBwdIdeal m →
    θ_run (Cert.KPrepBwdIdeal.defs (F := Ideal)) (onTc (τ := Cert.KPrepBwdIdeal.τ) (Cert.KPrepBwdIdeal.main (F := Ideal))) ⟨m, fun _ => 0, g⟩ (fun r => (∀ c : Dev Cert.KPrepBwdIdeal.nD,
      r.2.mem ((c.tc : Thread Cert.KPrepBwdIdeal.nD Cert.KPrepBwdIdeal.τ).loc Cert.KPrepBwdIdeal.main_arg0) = m ((c.tc : Thread Cert.KPrepBwdIdeal.nD Cert.KPrepBwdIdeal.τ).loc Cert.KPrepBwdIdeal.main_arg0)
      ∧ r.2.mem ((c.tc : Thread Cert.KPrepBwdIdeal.nD Cert.KPrepBwdIdeal.τ).loc Cert.KPrepBwdIdeal.main_arg1) = m ((c.tc : Thread Cert.KPrepBwdIdeal.nD Cert.KPrepBwdIdeal.τ).loc Cert.KPrepBwdIdeal.main_arg1)
      ∧ r.2.mem ((c.tc : Thread Cert.KPrepBwdIdeal.nD Cert.KPrepBwdIdeal.τ).loc Cert.KPrepBwdIdeal.main_arg2) = m ((c.tc : Thread Cert.KPrepBwdIdeal.nD Cert.KPrepBwdIdeal.τ).loc Cert.KPrepBwdIdeal.main_arg2))
      ∧ r.2.sem = fun _ => 0)

def quiescent_KPrepBwdIdeal_pre_finite_k_prep_bwd [hKPrepBwdIdeal : Cert.KPrepBwdIdeal.Facts] [hPre_finite_k_prep_bwd : Cert.Pre_finite_k_prep_bwd.Facts] : Prop :=
  ∀ (m : (ℓ : Loc Cert.KPrepBwdIdeal.nD Cert.KPrepBwdIdeal.τ Cert.KPrepBwdIdeal.sig) → Buf (Elt Ideal) ℓ) (g : Dev Cert.KPrepBwdIdeal.nD → PrngReg), Pre_KPrepBwdIdeal_finite_k_prep_bwd m →
    θ_run (Cert.KPrepBwdIdeal.defs (F := Ideal)) (onTc (τ := Cert.KPrepBwdIdeal.τ) (Cert.KPrepBwdIdeal.main (F := Ideal))) ⟨m, fun _ => 0, g⟩ (fun r => (∀ c : Dev Cert.KPrepBwdIdeal.nD,
      r.2.mem ((c.tc : Thread Cert.KPrepBwdIdeal.nD Cert.KPrepBwdIdeal.τ).loc Cert.KPrepBwdIdeal.main_arg0) = m ((c.tc : Thread Cert.KPrepBwdIdeal.nD Cert.KPrepBwdIdeal.τ).loc Cert.KPrepBwdIdeal.main_arg0)
      ∧ r.2.mem ((c.tc : Thread Cert.KPrepBwdIdeal.nD Cert.KPrepBwdIdeal.τ).loc Cert.KPrepBwdIdeal.main_arg1) = m ((c.tc : Thread Cert.KPrepBwdIdeal.nD Cert.KPrepBwdIdeal.τ).loc Cert.KPrepBwdIdeal.main_arg1)
      ∧ r.2.mem ((c.tc : Thread Cert.KPrepBwdIdeal.nD Cert.KPrepBwdIdeal.τ).loc Cert.KPrepBwdIdeal.main_arg2) = m ((c.tc : Thread Cert.KPrepBwdIdeal.nD Cert.KPrepBwdIdeal.τ).loc Cert.KPrepBwdIdeal.main_arg2))
      ∧ r.2.sem = fun _ => 0)

def quiescent_KPrepBwdRefIdeal [hKPrepBwdRefIdeal : Cert.KPrepBwdRefIdeal.Facts] : Prop :=
  ∀ (m : (ℓ : Loc Cert.KPrepBwdRefIdeal.nD Cert.KPrepBwdRefIdeal.τ Cert.KPrepBwdRefIdeal.sig) → Buf (Elt Ideal) ℓ) (g : Dev Cert.KPrepBwdRefIdeal.nD → PrngReg), Pre_KPrepBwdRefIdeal m →
    θ_run (Cert.KPrepBwdRefIdeal.defs (F := Ideal)) (onTc (τ := Cert.KPrepBwdRefIdeal.τ) (Cert.KPrepBwdRefIdeal.main (F := Ideal))) ⟨m, fun _ => 0, g⟩ (fun r => (∀ c : Dev Cert.KPrepBwdRefIdeal.nD,
      r.2.mem ((c.tc : Thread Cert.KPrepBwdRefIdeal.nD Cert.KPrepBwdRefIdeal.τ).loc Cert.KPrepBwdRefIdeal.main_arg0) = m ((c.tc : Thread Cert.KPrepBwdRefIdeal.nD Cert.KPrepBwdRefIdeal.τ).loc Cert.KPrepBwdRefIdeal.main_arg0)
      ∧ r.2.mem ((c.tc : Thread Cert.KPrepBwdRefIdeal.nD Cert.KPrepBwdRefIdeal.τ).loc Cert.KPrepBwdRefIdeal.main_arg1) = m ((c.tc : Thread Cert.KPrepBwdRefIdeal.nD Cert.KPrepBwdRefIdeal.τ).loc Cert.KPrepBwdRefIdeal.main_arg1)
      ∧ r.2.mem ((c.tc : Thread Cert.KPrepBwdRefIdeal.nD Cert.KPrepBwdRefIdeal.τ).loc Cert.KPrepBwdRefIdeal.main_arg2) = m ((c.tc : Thread Cert.KPrepBwdRefIdeal.nD Cert.KPrepBwdRefIdeal.τ).loc Cert.KPrepBwdRefIdeal.main_arg2))
      ∧ r.2.sem = fun _ => 0)

def quiescent_KPrepBwdRefIdeal_pre_finite_k_prep_bwd [hKPrepBwdRefIdeal : Cert.KPrepBwdRefIdeal.Facts] [hPre_finite_k_prep_bwd : Cert.Pre_finite_k_prep_bwd.Facts] : Prop :=
  ∀ (m : (ℓ : Loc Cert.KPrepBwdRefIdeal.nD Cert.KPrepBwdRefIdeal.τ Cert.KPrepBwdRefIdeal.sig) → Buf (Elt Ideal) ℓ) (g : Dev Cert.KPrepBwdRefIdeal.nD → PrngReg), Pre_KPrepBwdRefIdeal_finite_k_prep_bwd m →
    θ_run (Cert.KPrepBwdRefIdeal.defs (F := Ideal)) (onTc (τ := Cert.KPrepBwdRefIdeal.τ) (Cert.KPrepBwdRefIdeal.main (F := Ideal))) ⟨m, fun _ => 0, g⟩ (fun r => (∀ c : Dev Cert.KPrepBwdRefIdeal.nD,
      r.2.mem ((c.tc : Thread Cert.KPrepBwdRefIdeal.nD Cert.KPrepBwdRefIdeal.τ).loc Cert.KPrepBwdRefIdeal.main_arg0) = m ((c.tc : Thread Cert.KPrepBwdRefIdeal.nD Cert.KPrepBwdRefIdeal.τ).loc Cert.KPrepBwdRefIdeal.main_arg0)
      ∧ r.2.mem ((c.tc : Thread Cert.KPrepBwdRefIdeal.nD Cert.KPrepBwdRefIdeal.τ).loc Cert.KPrepBwdRefIdeal.main_arg1) = m ((c.tc : Thread Cert.KPrepBwdRefIdeal.nD Cert.KPrepBwdRefIdeal.τ).loc Cert.KPrepBwdRefIdeal.main_arg1)
      ∧ r.2.mem ((c.tc : Thread Cert.KPrepBwdRefIdeal.nD Cert.KPrepBwdRefIdeal.τ).loc Cert.KPrepBwdRefIdeal.main_arg2) = m ((c.tc : Thread Cert.KPrepBwdRefIdeal.nD Cert.KPrepBwdRefIdeal.τ).loc Cert.KPrepBwdRefIdeal.main_arg2))
      ∧ r.2.sem = fun _ => 0)

def quiescent_ConvBwdB [hConvBwdB : Cert.ConvBwdB.Facts] : Prop :=
  ∀ (m : (ℓ : Loc Cert.ConvBwdB.nD Cert.ConvBwdB.τ Cert.ConvBwdB.sig) → Buf (Elt Bits) ℓ) (g : Dev Cert.ConvBwdB.nD → PrngReg), Pre_ConvBwdB m →
    θ_run (Cert.ConvBwdB.defs (F := Bits)) (onTc (τ := Cert.ConvBwdB.τ) (Cert.ConvBwdB.main (F := Bits))) ⟨m, fun _ => 0, g⟩ (fun r => (∀ c : Dev Cert.ConvBwdB.nD,
      r.2.mem ((c.tc : Thread Cert.ConvBwdB.nD Cert.ConvBwdB.τ).loc Cert.ConvBwdB.main_arg0) = m ((c.tc : Thread Cert.ConvBwdB.nD Cert.ConvBwdB.τ).loc Cert.ConvBwdB.main_arg0)
      ∧ r.2.mem ((c.tc : Thread Cert.ConvBwdB.nD Cert.ConvBwdB.τ).loc Cert.ConvBwdB.main_arg1) = m ((c.tc : Thread Cert.ConvBwdB.nD Cert.ConvBwdB.τ).loc Cert.ConvBwdB.main_arg1)
      ∧ r.2.mem ((c.tc : Thread Cert.ConvBwdB.nD Cert.ConvBwdB.τ).loc Cert.ConvBwdB.main_arg2) = m ((c.tc : Thread Cert.ConvBwdB.nD Cert.ConvBwdB.τ).loc Cert.ConvBwdB.main_arg2))
      ∧ r.2.sem = fun _ => 0)

def quiescent_ConvBwdBIdeal [hConvBwdBIdeal : Cert.ConvBwdBIdeal.Facts] : Prop :=
  ∀ (m : (ℓ : Loc Cert.ConvBwdBIdeal.nD Cert.ConvBwdBIdeal.τ Cert.ConvBwdBIdeal.sig) → Buf (Elt Ideal) ℓ) (g : Dev Cert.ConvBwdBIdeal.nD → PrngReg), Pre_ConvBwdBIdeal m →
    θ_run (Cert.ConvBwdBIdeal.defs (F := Ideal)) (onTc (τ := Cert.ConvBwdBIdeal.τ) (Cert.ConvBwdBIdeal.main (F := Ideal))) ⟨m, fun _ => 0, g⟩ (fun r => (∀ c : Dev Cert.ConvBwdBIdeal.nD,
      r.2.mem ((c.tc : Thread Cert.ConvBwdBIdeal.nD Cert.ConvBwdBIdeal.τ).loc Cert.ConvBwdBIdeal.main_arg0) = m ((c.tc : Thread Cert.ConvBwdBIdeal.nD Cert.ConvBwdBIdeal.τ).loc Cert.ConvBwdBIdeal.main_arg0)
      ∧ r.2.mem ((c.tc : Thread Cert.ConvBwdBIdeal.nD Cert.ConvBwdBIdeal.τ).loc Cert.ConvBwdBIdeal.main_arg1) = m ((c.tc : Thread Cert.ConvBwdBIdeal.nD Cert.ConvBwdBIdeal.τ).loc Cert.ConvBwdBIdeal.main_arg1)
      ∧ r.2.mem ((c.tc : Thread Cert.ConvBwdBIdeal.nD Cert.ConvBwdBIdeal.τ).loc Cert.ConvBwdBIdeal.main_arg2) = m ((c.tc : Thread Cert.ConvBwdBIdeal.nD Cert.ConvBwdBIdeal.τ).loc Cert.ConvBwdBIdeal.main_arg2))
      ∧ r.2.sem = fun _ => 0)

def quiescent_ConvBwdBRefIdeal [hConvBwdBRefIdeal : Cert.ConvBwdBRefIdeal.Facts] : Prop :=
  ∀ (m : (ℓ : Loc Cert.ConvBwdBRefIdeal.nD Cert.ConvBwdBRefIdeal.τ Cert.ConvBwdBRefIdeal.sig) → Buf (Elt Ideal) ℓ) (g : Dev Cert.ConvBwdBRefIdeal.nD → PrngReg), Pre_ConvBwdBRefIdeal m →
    θ_run (Cert.ConvBwdBRefIdeal.defs (F := Ideal)) (onTc (τ := Cert.ConvBwdBRefIdeal.τ) (Cert.ConvBwdBRefIdeal.main (F := Ideal))) ⟨m, fun _ => 0, g⟩ (fun r => (∀ c : Dev Cert.ConvBwdBRefIdeal.nD,
      r.2.mem ((c.tc : Thread Cert.ConvBwdBRefIdeal.nD Cert.ConvBwdBRefIdeal.τ).loc Cert.ConvBwdBRefIdeal.main_arg0) = m ((c.tc : Thread Cert.ConvBwdBRefIdeal.nD Cert.ConvBwdBRefIdeal.τ).loc Cert.ConvBwdBRefIdeal.main_arg0)
      ∧ r.2.mem ((c.tc : Thread Cert.ConvBwdBRefIdeal.nD Cert.ConvBwdBRefIdeal.τ).loc Cert.ConvBwdBRefIdeal.main_arg1) = m ((c.tc : Thread Cert.ConvBwdBRefIdeal.nD Cert.ConvBwdBRefIdeal.τ).loc Cert.ConvBwdBRefIdeal.main_arg1)
      ∧ r.2.mem ((c.tc : Thread Cert.ConvBwdBRefIdeal.nD Cert.ConvBwdBRefIdeal.τ).loc Cert.ConvBwdBRefIdeal.main_arg2) = m ((c.tc : Thread Cert.ConvBwdBRefIdeal.nD Cert.ConvBwdBRefIdeal.τ).loc Cert.ConvBwdBRefIdeal.main_arg2))
      ∧ r.2.sem = fun _ => 0)

def quiescent_ConvBwdA [hConvBwdA : Cert.ConvBwdA.Facts] : Prop :=
  ∀ (m : (ℓ : Loc Cert.ConvBwdA.nD Cert.ConvBwdA.τ Cert.ConvBwdA.sig) → Buf (Elt Bits) ℓ) (g : Dev Cert.ConvBwdA.nD → PrngReg), Pre_ConvBwdA m →
    θ_run (Cert.ConvBwdA.defs (F := Bits)) (onTc (τ := Cert.ConvBwdA.τ) (Cert.ConvBwdA.main (F := Bits))) ⟨m, fun _ => 0, g⟩ (fun r => (∀ c : Dev Cert.ConvBwdA.nD,
      r.2.mem ((c.tc : Thread Cert.ConvBwdA.nD Cert.ConvBwdA.τ).loc Cert.ConvBwdA.main_arg0) = m ((c.tc : Thread Cert.ConvBwdA.nD Cert.ConvBwdA.τ).loc Cert.ConvBwdA.main_arg0)
      ∧ r.2.mem ((c.tc : Thread Cert.ConvBwdA.nD Cert.ConvBwdA.τ).loc Cert.ConvBwdA.main_arg1) = m ((c.tc : Thread Cert.ConvBwdA.nD Cert.ConvBwdA.τ).loc Cert.ConvBwdA.main_arg1)
      ∧ r.2.mem ((c.tc : Thread Cert.ConvBwdA.nD Cert.ConvBwdA.τ).loc Cert.ConvBwdA.main_arg2) = m ((c.tc : Thread Cert.ConvBwdA.nD Cert.ConvBwdA.τ).loc Cert.ConvBwdA.main_arg2)
      ∧ r.2.mem ((c.tc : Thread Cert.ConvBwdA.nD Cert.ConvBwdA.τ).loc Cert.ConvBwdA.main_arg3) = m ((c.tc : Thread Cert.ConvBwdA.nD Cert.ConvBwdA.τ).loc Cert.ConvBwdA.main_arg3)
      ∧ r.2.mem ((c.tc : Thread Cert.ConvBwdA.nD Cert.ConvBwdA.τ).loc Cert.ConvBwdA.main_arg4) = m ((c.tc : Thread Cert.ConvBwdA.nD Cert.ConvBwdA.τ).loc Cert.ConvBwdA.main_arg4)
      ∧ r.2.mem ((c.tc : Thread Cert.ConvBwdA.nD Cert.ConvBwdA.τ).loc Cert.ConvBwdA.main_arg5) = m ((c.tc : Thread Cert.ConvBwdA.nD Cert.ConvBwdA.τ).loc Cert.ConvBwdA.main_arg5))
      ∧ r.2.sem = fun _ => 0)

def quiescent_ConvBwdAIdeal [hConvBwdAIdeal : Cert.ConvBwdAIdeal.Facts] : Prop :=
  ∀ (m : (ℓ : Loc Cert.ConvBwdAIdeal.nD Cert.ConvBwdAIdeal.τ Cert.ConvBwdAIdeal.sig) → Buf (Elt Ideal) ℓ) (g : Dev Cert.ConvBwdAIdeal.nD → PrngReg), Pre_ConvBwdAIdeal m →
    θ_run (Cert.ConvBwdAIdeal.defs (F := Ideal)) (onTc (τ := Cert.ConvBwdAIdeal.τ) (Cert.ConvBwdAIdeal.main (F := Ideal))) ⟨m, fun _ => 0, g⟩ (fun r => (∀ c : Dev Cert.ConvBwdAIdeal.nD,
      r.2.mem ((c.tc : Thread Cert.ConvBwdAIdeal.nD Cert.ConvBwdAIdeal.τ).loc Cert.ConvBwdAIdeal.main_arg0) = m ((c.tc : Thread Cert.ConvBwdAIdeal.nD Cert.ConvBwdAIdeal.τ).loc Cert.ConvBwdAIdeal.main_arg0)
      ∧ r.2.mem ((c.tc : Thread Cert.ConvBwdAIdeal.nD Cert.ConvBwdAIdeal.τ).loc Cert.ConvBwdAIdeal.main_arg1) = m ((c.tc : Thread Cert.ConvBwdAIdeal.nD Cert.ConvBwdAIdeal.τ).loc Cert.ConvBwdAIdeal.main_arg1)
      ∧ r.2.mem ((c.tc : Thread Cert.ConvBwdAIdeal.nD Cert.ConvBwdAIdeal.τ).loc Cert.ConvBwdAIdeal.main_arg2) = m ((c.tc : Thread Cert.ConvBwdAIdeal.nD Cert.ConvBwdAIdeal.τ).loc Cert.ConvBwdAIdeal.main_arg2)
      ∧ r.2.mem ((c.tc : Thread Cert.ConvBwdAIdeal.nD Cert.ConvBwdAIdeal.τ).loc Cert.ConvBwdAIdeal.main_arg3) = m ((c.tc : Thread Cert.ConvBwdAIdeal.nD Cert.ConvBwdAIdeal.τ).loc Cert.ConvBwdAIdeal.main_arg3)
      ∧ r.2.mem ((c.tc : Thread Cert.ConvBwdAIdeal.nD Cert.ConvBwdAIdeal.τ).loc Cert.ConvBwdAIdeal.main_arg4) = m ((c.tc : Thread Cert.ConvBwdAIdeal.nD Cert.ConvBwdAIdeal.τ).loc Cert.ConvBwdAIdeal.main_arg4)
      ∧ r.2.mem ((c.tc : Thread Cert.ConvBwdAIdeal.nD Cert.ConvBwdAIdeal.τ).loc Cert.ConvBwdAIdeal.main_arg5) = m ((c.tc : Thread Cert.ConvBwdAIdeal.nD Cert.ConvBwdAIdeal.τ).loc Cert.ConvBwdAIdeal.main_arg5))
      ∧ r.2.sem = fun _ => 0)

def quiescent_ConvBwdAIdeal_pre_finite_conv_bwd_a [hConvBwdAIdeal : Cert.ConvBwdAIdeal.Facts] [hPre_finite_conv_bwd_a : Cert.Pre_finite_conv_bwd_a.Facts] : Prop :=
  ∀ (m : (ℓ : Loc Cert.ConvBwdAIdeal.nD Cert.ConvBwdAIdeal.τ Cert.ConvBwdAIdeal.sig) → Buf (Elt Ideal) ℓ) (g : Dev Cert.ConvBwdAIdeal.nD → PrngReg), Pre_ConvBwdAIdeal_finite_conv_bwd_a m →
    θ_run (Cert.ConvBwdAIdeal.defs (F := Ideal)) (onTc (τ := Cert.ConvBwdAIdeal.τ) (Cert.ConvBwdAIdeal.main (F := Ideal))) ⟨m, fun _ => 0, g⟩ (fun r => (∀ c : Dev Cert.ConvBwdAIdeal.nD,
      r.2.mem ((c.tc : Thread Cert.ConvBwdAIdeal.nD Cert.ConvBwdAIdeal.τ).loc Cert.ConvBwdAIdeal.main_arg0) = m ((c.tc : Thread Cert.ConvBwdAIdeal.nD Cert.ConvBwdAIdeal.τ).loc Cert.ConvBwdAIdeal.main_arg0)
      ∧ r.2.mem ((c.tc : Thread Cert.ConvBwdAIdeal.nD Cert.ConvBwdAIdeal.τ).loc Cert.ConvBwdAIdeal.main_arg1) = m ((c.tc : Thread Cert.ConvBwdAIdeal.nD Cert.ConvBwdAIdeal.τ).loc Cert.ConvBwdAIdeal.main_arg1)
      ∧ r.2.mem ((c.tc : Thread Cert.ConvBwdAIdeal.nD Cert.ConvBwdAIdeal.τ).loc Cert.ConvBwdAIdeal.main_arg2) = m ((c.tc : Thread Cert.ConvBwdAIdeal.nD Cert.ConvBwdAIdeal.τ).loc Cert.ConvBwdAIdeal.main_arg2)
      ∧ r.2.mem ((c.tc : Thread Cert.ConvBwdAIdeal.nD Cert.ConvBwdAIdeal.τ).loc Cert.ConvBwdAIdeal.main_arg3) = m ((c.tc : Thread Cert.ConvBwdAIdeal.nD Cert.ConvBwdAIdeal.τ).loc Cert.ConvBwdAIdeal.main_arg3)
      ∧ r.2.mem ((c.tc : Thread Cert.ConvBwdAIdeal.nD Cert.ConvBwdAIdeal.τ).loc Cert.ConvBwdAIdeal.main_arg4) = m ((c.tc : Thread Cert.ConvBwdAIdeal.nD Cert.ConvBwdAIdeal.τ).loc Cert.ConvBwdAIdeal.main_arg4)
      ∧ r.2.mem ((c.tc : Thread Cert.ConvBwdAIdeal.nD Cert.ConvBwdAIdeal.τ).loc Cert.ConvBwdAIdeal.main_arg5) = m ((c.tc : Thread Cert.ConvBwdAIdeal.nD Cert.ConvBwdAIdeal.τ).loc Cert.ConvBwdAIdeal.main_arg5))
      ∧ r.2.sem = fun _ => 0)

def quiescent_ConvBwdARefIdeal [hConvBwdARefIdeal : Cert.ConvBwdARefIdeal.Facts] : Prop :=
  ∀ (m : (ℓ : Loc Cert.ConvBwdARefIdeal.nD Cert.ConvBwdARefIdeal.τ Cert.ConvBwdARefIdeal.sig) → Buf (Elt Ideal) ℓ) (g : Dev Cert.ConvBwdARefIdeal.nD → PrngReg), Pre_ConvBwdARefIdeal m →
    θ_run (Cert.ConvBwdARefIdeal.defs (F := Ideal)) (onTc (τ := Cert.ConvBwdARefIdeal.τ) (Cert.ConvBwdARefIdeal.main (F := Ideal))) ⟨m, fun _ => 0, g⟩ (fun r => (∀ c : Dev Cert.ConvBwdARefIdeal.nD,
      r.2.mem ((c.tc : Thread Cert.ConvBwdARefIdeal.nD Cert.ConvBwdARefIdeal.τ).loc Cert.ConvBwdARefIdeal.main_arg0) = m ((c.tc : Thread Cert.ConvBwdARefIdeal.nD Cert.ConvBwdARefIdeal.τ).loc Cert.ConvBwdARefIdeal.main_arg0)
      ∧ r.2.mem ((c.tc : Thread Cert.ConvBwdARefIdeal.nD Cert.ConvBwdARefIdeal.τ).loc Cert.ConvBwdARefIdeal.main_arg1) = m ((c.tc : Thread Cert.ConvBwdARefIdeal.nD Cert.ConvBwdARefIdeal.τ).loc Cert.ConvBwdARefIdeal.main_arg1)
      ∧ r.2.mem ((c.tc : Thread Cert.ConvBwdARefIdeal.nD Cert.ConvBwdARefIdeal.τ).loc Cert.ConvBwdARefIdeal.main_arg2) = m ((c.tc : Thread Cert.ConvBwdARefIdeal.nD Cert.ConvBwdARefIdeal.τ).loc Cert.ConvBwdARefIdeal.main_arg2)
      ∧ r.2.mem ((c.tc : Thread Cert.ConvBwdARefIdeal.nD Cert.ConvBwdARefIdeal.τ).loc Cert.ConvBwdARefIdeal.main_arg3) = m ((c.tc : Thread Cert.ConvBwdARefIdeal.nD Cert.ConvBwdARefIdeal.τ).loc Cert.ConvBwdARefIdeal.main_arg3)
      ∧ r.2.mem ((c.tc : Thread Cert.ConvBwdARefIdeal.nD Cert.ConvBwdARefIdeal.τ).loc Cert.ConvBwdARefIdeal.main_arg4) = m ((c.tc : Thread Cert.ConvBwdARefIdeal.nD Cert.ConvBwdARefIdeal.τ).loc Cert.ConvBwdARefIdeal.main_arg4)
      ∧ r.2.mem ((c.tc : Thread Cert.ConvBwdARefIdeal.nD Cert.ConvBwdARefIdeal.τ).loc Cert.ConvBwdARefIdeal.main_arg5) = m ((c.tc : Thread Cert.ConvBwdARefIdeal.nD Cert.ConvBwdARefIdeal.τ).loc Cert.ConvBwdARefIdeal.main_arg5))
      ∧ r.2.sem = fun _ => 0)

def quiescent_ConvBwdARefIdeal_pre_finite_conv_bwd_a [hConvBwdARefIdeal : Cert.ConvBwdARefIdeal.Facts] [hPre_finite_conv_bwd_a : Cert.Pre_finite_conv_bwd_a.Facts] : Prop :=
  ∀ (m : (ℓ : Loc Cert.ConvBwdARefIdeal.nD Cert.ConvBwdARefIdeal.τ Cert.ConvBwdARefIdeal.sig) → Buf (Elt Ideal) ℓ) (g : Dev Cert.ConvBwdARefIdeal.nD → PrngReg), Pre_ConvBwdARefIdeal_finite_conv_bwd_a m →
    θ_run (Cert.ConvBwdARefIdeal.defs (F := Ideal)) (onTc (τ := Cert.ConvBwdARefIdeal.τ) (Cert.ConvBwdARefIdeal.main (F := Ideal))) ⟨m, fun _ => 0, g⟩ (fun r => (∀ c : Dev Cert.ConvBwdARefIdeal.nD,
      r.2.mem ((c.tc : Thread Cert.ConvBwdARefIdeal.nD Cert.ConvBwdARefIdeal.τ).loc Cert.ConvBwdARefIdeal.main_arg0) = m ((c.tc : Thread Cert.ConvBwdARefIdeal.nD Cert.ConvBwdARefIdeal.τ).loc Cert.ConvBwdARefIdeal.main_arg0)
      ∧ r.2.mem ((c.tc : Thread Cert.ConvBwdARefIdeal.nD Cert.ConvBwdARefIdeal.τ).loc Cert.ConvBwdARefIdeal.main_arg1) = m ((c.tc : Thread Cert.ConvBwdARefIdeal.nD Cert.ConvBwdARefIdeal.τ).loc Cert.ConvBwdARefIdeal.main_arg1)
      ∧ r.2.mem ((c.tc : Thread Cert.ConvBwdARefIdeal.nD Cert.ConvBwdARefIdeal.τ).loc Cert.ConvBwdARefIdeal.main_arg2) = m ((c.tc : Thread Cert.ConvBwdARefIdeal.nD Cert.ConvBwdARefIdeal.τ).loc Cert.ConvBwdARefIdeal.main_arg2)
      ∧ r.2.mem ((c.tc : Thread Cert.ConvBwdARefIdeal.nD Cert.ConvBwdARefIdeal.τ).loc Cert.ConvBwdARefIdeal.main_arg3) = m ((c.tc : Thread Cert.ConvBwdARefIdeal.nD Cert.ConvBwdARefIdeal.τ).loc Cert.ConvBwdARefIdeal.main_arg3)
      ∧ r.2.mem ((c.tc : Thread Cert.ConvBwdARefIdeal.nD Cert.ConvBwdARefIdeal.τ).loc Cert.ConvBwdARefIdeal.main_arg4) = m ((c.tc : Thread Cert.ConvBwdARefIdeal.nD Cert.ConvBwdARefIdeal.τ).loc Cert.ConvBwdARefIdeal.main_arg4)
      ∧ r.2.mem ((c.tc : Thread Cert.ConvBwdARefIdeal.nD Cert.ConvBwdARefIdeal.τ).loc Cert.ConvBwdARefIdeal.main_arg5) = m ((c.tc : Thread Cert.ConvBwdARefIdeal.nD Cert.ConvBwdARefIdeal.τ).loc Cert.ConvBwdARefIdeal.main_arg5))
      ∧ r.2.sem = fun _ => 0)

def quiescent_SguBwd [hSguBwd : Cert.SguBwd.Facts] : Prop :=
  ∀ (m : (ℓ : Loc Cert.SguBwd.nD Cert.SguBwd.τ Cert.SguBwd.sig) → Buf (Elt Bits) ℓ) (g : Dev Cert.SguBwd.nD → PrngReg), Pre_SguBwd m →
    θ_run (Cert.SguBwd.defs (F := Bits)) (onTc (τ := Cert.SguBwd.τ) (Cert.SguBwd.main (F := Bits))) ⟨m, fun _ => 0, g⟩ (fun r => (∀ c : Dev Cert.SguBwd.nD,
      r.2.mem ((c.tc : Thread Cert.SguBwd.nD Cert.SguBwd.τ).loc Cert.SguBwd.main_arg0) = m ((c.tc : Thread Cert.SguBwd.nD Cert.SguBwd.τ).loc Cert.SguBwd.main_arg0)
      ∧ r.2.mem ((c.tc : Thread Cert.SguBwd.nD Cert.SguBwd.τ).loc Cert.SguBwd.main_arg1) = m ((c.tc : Thread Cert.SguBwd.nD Cert.SguBwd.τ).loc Cert.SguBwd.main_arg1)
      ∧ r.2.mem ((c.tc : Thread Cert.SguBwd.nD Cert.SguBwd.τ).loc Cert.SguBwd.main_arg2) = m ((c.tc : Thread Cert.SguBwd.nD Cert.SguBwd.τ).loc Cert.SguBwd.main_arg2)
      ∧ r.2.mem ((c.tc : Thread Cert.SguBwd.nD Cert.SguBwd.τ).loc Cert.SguBwd.main_arg3) = m ((c.tc : Thread Cert.SguBwd.nD Cert.SguBwd.τ).loc Cert.SguBwd.main_arg3)
      ∧ r.2.mem ((c.tc : Thread Cert.SguBwd.nD Cert.SguBwd.τ).loc Cert.SguBwd.main_arg4) = m ((c.tc : Thread Cert.SguBwd.nD Cert.SguBwd.τ).loc Cert.SguBwd.main_arg4)
      ∧ r.2.mem ((c.tc : Thread Cert.SguBwd.nD Cert.SguBwd.τ).loc Cert.SguBwd.main_arg5) = m ((c.tc : Thread Cert.SguBwd.nD Cert.SguBwd.τ).loc Cert.SguBwd.main_arg5))
      ∧ r.2.sem = fun _ => 0)

def quiescent_SguBwdIdeal [hSguBwdIdeal : Cert.SguBwdIdeal.Facts] : Prop :=
  ∀ (m : (ℓ : Loc Cert.SguBwdIdeal.nD Cert.SguBwdIdeal.τ Cert.SguBwdIdeal.sig) → Buf (Elt Ideal) ℓ) (g : Dev Cert.SguBwdIdeal.nD → PrngReg), Pre_SguBwdIdeal m →
    θ_run (Cert.SguBwdIdeal.defs (F := Ideal)) (onTc (τ := Cert.SguBwdIdeal.τ) (Cert.SguBwdIdeal.main (F := Ideal))) ⟨m, fun _ => 0, g⟩ (fun r => (∀ c : Dev Cert.SguBwdIdeal.nD,
      r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
      ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
      ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
      ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
      ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
      ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5))
      ∧ r.2.sem = fun _ => 0)

def quiescent_SguBwdIdeal_pre_finite_sgu_bwd [hSguBwdIdeal : Cert.SguBwdIdeal.Facts] [hPre_finite_sgu_bwd : Cert.Pre_finite_sgu_bwd.Facts] : Prop :=
  ∀ (m : (ℓ : Loc Cert.SguBwdIdeal.nD Cert.SguBwdIdeal.τ Cert.SguBwdIdeal.sig) → Buf (Elt Ideal) ℓ) (g : Dev Cert.SguBwdIdeal.nD → PrngReg), Pre_SguBwdIdeal_finite_sgu_bwd m →
    θ_run (Cert.SguBwdIdeal.defs (F := Ideal)) (onTc (τ := Cert.SguBwdIdeal.τ) (Cert.SguBwdIdeal.main (F := Ideal))) ⟨m, fun _ => 0, g⟩ (fun r => (∀ c : Dev Cert.SguBwdIdeal.nD,
      r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
      ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
      ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
      ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
      ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
      ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5))
      ∧ r.2.sem = fun _ => 0)

def quiescent_SguBwdRefIdeal [hSguBwdRefIdeal : Cert.SguBwdRefIdeal.Facts] : Prop :=
  ∀ (m : (ℓ : Loc Cert.SguBwdRefIdeal.nD Cert.SguBwdRefIdeal.τ Cert.SguBwdRefIdeal.sig) → Buf (Elt Ideal) ℓ) (g : Dev Cert.SguBwdRefIdeal.nD → PrngReg), Pre_SguBwdRefIdeal m →
    θ_run (Cert.SguBwdRefIdeal.defs (F := Ideal)) (onTc (τ := Cert.SguBwdRefIdeal.τ) (Cert.SguBwdRefIdeal.main (F := Ideal))) ⟨m, fun _ => 0, g⟩ (fun r => (∀ c : Dev Cert.SguBwdRefIdeal.nD,
      r.2.mem ((c.tc : Thread Cert.SguBwdRefIdeal.nD Cert.SguBwdRefIdeal.τ).loc Cert.SguBwdRefIdeal.main_arg0) = m ((c.tc : Thread Cert.SguBwdRefIdeal.nD Cert.SguBwdRefIdeal.τ).loc Cert.SguBwdRefIdeal.main_arg0)
      ∧ r.2.mem ((c.tc : Thread Cert.SguBwdRefIdeal.nD Cert.SguBwdRefIdeal.τ).loc Cert.SguBwdRefIdeal.main_arg1) = m ((c.tc : Thread Cert.SguBwdRefIdeal.nD Cert.SguBwdRefIdeal.τ).loc Cert.SguBwdRefIdeal.main_arg1)
      ∧ r.2.mem ((c.tc : Thread Cert.SguBwdRefIdeal.nD Cert.SguBwdRefIdeal.τ).loc Cert.SguBwdRefIdeal.main_arg2) = m ((c.tc : Thread Cert.SguBwdRefIdeal.nD Cert.SguBwdRefIdeal.τ).loc Cert.SguBwdRefIdeal.main_arg2)
      ∧ r.2.mem ((c.tc : Thread Cert.SguBwdRefIdeal.nD Cert.SguBwdRefIdeal.τ).loc Cert.SguBwdRefIdeal.main_arg3) = m ((c.tc : Thread Cert.SguBwdRefIdeal.nD Cert.SguBwdRefIdeal.τ).loc Cert.SguBwdRefIdeal.main_arg3)
      ∧ r.2.mem ((c.tc : Thread Cert.SguBwdRefIdeal.nD Cert.SguBwdRefIdeal.τ).loc Cert.SguBwdRefIdeal.main_arg4) = m ((c.tc : Thread Cert.SguBwdRefIdeal.nD Cert.SguBwdRefIdeal.τ).loc Cert.SguBwdRefIdeal.main_arg4)
      ∧ r.2.mem ((c.tc : Thread Cert.SguBwdRefIdeal.nD Cert.SguBwdRefIdeal.τ).loc Cert.SguBwdRefIdeal.main_arg5) = m ((c.tc : Thread Cert.SguBwdRefIdeal.nD Cert.SguBwdRefIdeal.τ).loc Cert.SguBwdRefIdeal.main_arg5))
      ∧ r.2.sem = fun _ => 0)

def quiescent_SguBwdRefIdeal_pre_finite_sgu_bwd [hSguBwdRefIdeal : Cert.SguBwdRefIdeal.Facts] [hPre_finite_sgu_bwd : Cert.Pre_finite_sgu_bwd.Facts] : Prop :=
  ∀ (m : (ℓ : Loc Cert.SguBwdRefIdeal.nD Cert.SguBwdRefIdeal.τ Cert.SguBwdRefIdeal.sig) → Buf (Elt Ideal) ℓ) (g : Dev Cert.SguBwdRefIdeal.nD → PrngReg), Pre_SguBwdRefIdeal_finite_sgu_bwd m →
    θ_run (Cert.SguBwdRefIdeal.defs (F := Ideal)) (onTc (τ := Cert.SguBwdRefIdeal.τ) (Cert.SguBwdRefIdeal.main (F := Ideal))) ⟨m, fun _ => 0, g⟩ (fun r => (∀ c : Dev Cert.SguBwdRefIdeal.nD,
      r.2.mem ((c.tc : Thread Cert.SguBwdRefIdeal.nD Cert.SguBwdRefIdeal.τ).loc Cert.SguBwdRefIdeal.main_arg0) = m ((c.tc : Thread Cert.SguBwdRefIdeal.nD Cert.SguBwdRefIdeal.τ).loc Cert.SguBwdRefIdeal.main_arg0)
      ∧ r.2.mem ((c.tc : Thread Cert.SguBwdRefIdeal.nD Cert.SguBwdRefIdeal.τ).loc Cert.SguBwdRefIdeal.main_arg1) = m ((c.tc : Thread Cert.SguBwdRefIdeal.nD Cert.SguBwdRefIdeal.τ).loc Cert.SguBwdRefIdeal.main_arg1)
      ∧ r.2.mem ((c.tc : Thread Cert.SguBwdRefIdeal.nD Cert.SguBwdRefIdeal.τ).loc Cert.SguBwdRefIdeal.main_arg2) = m ((c.tc : Thread Cert.SguBwdRefIdeal.nD Cert.SguBwdRefIdeal.τ).loc Cert.SguBwdRefIdeal.main_arg2)
      ∧ r.2.mem ((c.tc : Thread Cert.SguBwdRefIdeal.nD Cert.SguBwdRefIdeal.τ).loc Cert.SguBwdRefIdeal.main_arg3) = m ((c.tc : Thread Cert.SguBwdRefIdeal.nD Cert.SguBwdRefIdeal.τ).loc Cert.SguBwdRefIdeal.main_arg3)
      ∧ r.2.mem ((c.tc : Thread Cert.SguBwdRefIdeal.nD Cert.SguBwdRefIdeal.τ).loc Cert.SguBwdRefIdeal.main_arg4) = m ((c.tc : Thread Cert.SguBwdRefIdeal.nD Cert.SguBwdRefIdeal.τ).loc Cert.SguBwdRefIdeal.main_arg4)
      ∧ r.2.mem ((c.tc : Thread Cert.SguBwdRefIdeal.nD Cert.SguBwdRefIdeal.τ).loc Cert.SguBwdRefIdeal.main_arg5) = m ((c.tc : Thread Cert.SguBwdRefIdeal.nD Cert.SguBwdRefIdeal.τ).loc Cert.SguBwdRefIdeal.main_arg5))
      ∧ r.2.sem = fun _ => 0)

def preserves_ProjBwd_ProjBwdIdeal : Prop :=
  True

def algebraic_ProjBwdIdeal_ProjBwdRefIdeal_pre_finite_proj_bwd [hProjBwdIdeal : Cert.ProjBwdIdeal.Facts] [hProjBwdRefIdeal : Cert.ProjBwdRefIdeal.Facts] [hPre_finite_proj_bwd : Cert.Pre_finite_proj_bwd.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg)
    (m' : (ℓ : Loc Cert.ProjBwdRefIdeal.nD Cert.ProjBwdRefIdeal.τ Cert.ProjBwdRefIdeal.sig) → Buf (Elt Ideal) ℓ) (g' : Dev Cert.ProjBwdRefIdeal.nD → PrngReg), Pre_ProjBwdIdeal_finite_proj_bwd m →
    (∀ c : Dev Cert.ProjBwdIdeal.nD,
      m' ((c.tc : Thread Cert.ProjBwdRefIdeal.nD Cert.ProjBwdRefIdeal.τ).loc Cert.ProjBwdRefIdeal.main_arg0) = m ((c.tc : Thread Cert.ProjBwdIdeal.nD Cert.ProjBwdIdeal.τ).loc Cert.ProjBwdIdeal.main_arg0)
      ∧ m' ((c.tc : Thread Cert.ProjBwdRefIdeal.nD Cert.ProjBwdRefIdeal.τ).loc Cert.ProjBwdRefIdeal.main_arg1) = m ((c.tc : Thread Cert.ProjBwdIdeal.nD Cert.ProjBwdIdeal.τ).loc Cert.ProjBwdIdeal.main_arg1)
      ∧ m' ((c.tc : Thread Cert.ProjBwdRefIdeal.nD Cert.ProjBwdRefIdeal.τ).loc Cert.ProjBwdRefIdeal.main_arg2) = m ((c.tc : Thread Cert.ProjBwdIdeal.nD Cert.ProjBwdIdeal.τ).loc Cert.ProjBwdIdeal.main_arg2)
      ∧ m' ((c.tc : Thread Cert.ProjBwdRefIdeal.nD Cert.ProjBwdRefIdeal.τ).loc Cert.ProjBwdRefIdeal.main_arg3) = m ((c.tc : Thread Cert.ProjBwdIdeal.nD Cert.ProjBwdIdeal.τ).loc Cert.ProjBwdIdeal.main_arg3)
      ∧ m' ((c.tc : Thread Cert.ProjBwdRefIdeal.nD Cert.ProjBwdRefIdeal.τ).loc Cert.ProjBwdRefIdeal.main_arg4) = m ((c.tc : Thread Cert.ProjBwdIdeal.nD Cert.ProjBwdIdeal.τ).loc Cert.ProjBwdIdeal.main_arg4)) →
    ∃ (v0 : (c : Dev Cert.ProjBwdIdeal.nD) → Buf (Elt Ideal) ((c.tc : Thread Cert.ProjBwdIdeal.nD Cert.ProjBwdIdeal.τ).loc Cert.ProjBwdIdeal.main_v7_0)) (v1 : (c : Dev Cert.ProjBwdIdeal.nD) → Buf (Elt Ideal) ((c.tc : Thread Cert.ProjBwdIdeal.nD Cert.ProjBwdIdeal.τ).loc Cert.ProjBwdIdeal.main_v7_1)),
      θ_run (Cert.ProjBwdIdeal.defs (F := Ideal)) (onTc (τ := Cert.ProjBwdIdeal.τ) (Cert.ProjBwdIdeal.main (F := Ideal))) ⟨m, fun _ => 0, g⟩ (fun r => ∀ c : Dev Cert.ProjBwdIdeal.nD,
          r.2.mem ((c.tc : Thread Cert.ProjBwdIdeal.nD Cert.ProjBwdIdeal.τ).loc Cert.ProjBwdIdeal.main_v7_0) = v0 c
          ∧ r.2.mem ((c.tc : Thread Cert.ProjBwdIdeal.nD Cert.ProjBwdIdeal.τ).loc Cert.ProjBwdIdeal.main_v7_1) = v1 c
          ∧ r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
          ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
          ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
          ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
          ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4))
      ∧ θ_run (Cert.ProjBwdRefIdeal.defs (F := Ideal)) (onTc (τ := Cert.ProjBwdRefIdeal.τ) (Cert.ProjBwdRefIdeal.main (F := Ideal))) ⟨m', fun _ => 0, g'⟩ (fun r => ∀ c : Dev Cert.ProjBwdRefIdeal.nD,
          r.2.mem ((c.tc : Thread Cert.ProjBwdRefIdeal.nD Cert.ProjBwdRefIdeal.τ).loc Cert.ProjBwdRefIdeal.main_v40) = v0 c
          ∧ r.2.mem ((c.tc : Thread Cert.ProjBwdRefIdeal.nD Cert.ProjBwdRefIdeal.τ).loc Cert.ProjBwdRefIdeal.main_v41) = v1 c
          ∧ r.2.mem ((c.tc : Thread Cert.ProjBwdRefIdeal.nD Cert.ProjBwdRefIdeal.τ).loc Cert.ProjBwdRefIdeal.main_arg0) = m' ((c.tc : Thread Cert.ProjBwdRefIdeal.nD Cert.ProjBwdRefIdeal.τ).loc Cert.ProjBwdRefIdeal.main_arg0)
          ∧ r.2.mem ((c.tc : Thread Cert.ProjBwdRefIdeal.nD Cert.ProjBwdRefIdeal.τ).loc Cert.ProjBwdRefIdeal.main_arg1) = m' ((c.tc : Thread Cert.ProjBwdRefIdeal.nD Cert.ProjBwdRefIdeal.τ).loc Cert.ProjBwdRefIdeal.main_arg1)
          ∧ r.2.mem ((c.tc : Thread Cert.ProjBwdRefIdeal.nD Cert.ProjBwdRefIdeal.τ).loc Cert.ProjBwdRefIdeal.main_arg2) = m' ((c.tc : Thread Cert.ProjBwdRefIdeal.nD Cert.ProjBwdRefIdeal.τ).loc Cert.ProjBwdRefIdeal.main_arg2)
          ∧ r.2.mem ((c.tc : Thread Cert.ProjBwdRefIdeal.nD Cert.ProjBwdRefIdeal.τ).loc Cert.ProjBwdRefIdeal.main_arg3) = m' ((c.tc : Thread Cert.ProjBwdRefIdeal.nD Cert.ProjBwdRefIdeal.τ).loc Cert.ProjBwdRefIdeal.main_arg3)
          ∧ r.2.mem ((c.tc : Thread Cert.ProjBwdRefIdeal.nD Cert.ProjBwdRefIdeal.τ).loc Cert.ProjBwdRefIdeal.main_arg4) = m' ((c.tc : Thread Cert.ProjBwdRefIdeal.nD Cert.ProjBwdRefIdeal.τ).loc Cert.ProjBwdRefIdeal.main_arg4))

def preserves_OutBwd_OutBwdIdeal : Prop :=
  True

def algebraic_OutBwdIdeal_OutBwdRefIdeal_pre_finite_out_bwd [hOutBwdIdeal : Cert.OutBwdIdeal.Facts] [hOutBwdRefIdeal : Cert.OutBwdRefIdeal.Facts] [hPre_finite_out_bwd : Cert.Pre_finite_out_bwd.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal_finite_out_bwd m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)
      ∧ m' ((c.tc : Thread Cert.OutBwdRefIdeal.nD Cert.OutBwdRefIdeal.τ).loc Cert.OutBwdRefIdeal.main_arg2) = m ((c.tc : Thread Cert.OutBwdIdeal.nD Cert.OutBwdIdeal.τ).loc Cert.OutBwdIdeal.main_arg2)
      ∧ m' ((c.tc : Thread Cert.OutBwdRefIdeal.nD Cert.OutBwdRefIdeal.τ).loc Cert.OutBwdRefIdeal.main_arg3) = m ((c.tc : Thread Cert.OutBwdIdeal.nD Cert.OutBwdIdeal.τ).loc Cert.OutBwdIdeal.main_arg3)
      ∧ m' ((c.tc : Thread Cert.OutBwdRefIdeal.nD Cert.OutBwdRefIdeal.τ).loc Cert.OutBwdRefIdeal.main_arg4) = m ((c.tc : Thread Cert.OutBwdIdeal.nD Cert.OutBwdIdeal.τ).loc Cert.OutBwdIdeal.main_arg4)
      ∧ m' ((c.tc : Thread Cert.OutBwdRefIdeal.nD Cert.OutBwdRefIdeal.τ).loc Cert.OutBwdRefIdeal.main_arg5) = m ((c.tc : Thread Cert.OutBwdIdeal.nD Cert.OutBwdIdeal.τ).loc Cert.OutBwdIdeal.main_arg5)
      ∧ m' ((c.tc : Thread Cert.OutBwdRefIdeal.nD Cert.OutBwdRefIdeal.τ).loc Cert.OutBwdRefIdeal.main_arg6) = m ((c.tc : Thread Cert.OutBwdIdeal.nD Cert.OutBwdIdeal.τ).loc Cert.OutBwdIdeal.main_arg6)) →
    ∃ (v0 : (c : Dev Cert.OutBwdIdeal.nD) → Buf (Elt Ideal) ((c.tc : Thread Cert.OutBwdIdeal.nD Cert.OutBwdIdeal.τ).loc Cert.OutBwdIdeal.main_v21_0)) (v1 : (c : Dev Cert.OutBwdIdeal.nD) → Buf (Elt Ideal) ((c.tc : Thread Cert.OutBwdIdeal.nD Cert.OutBwdIdeal.τ).loc Cert.OutBwdIdeal.main_v21_1)) (v2 : (c : Dev Cert.OutBwdIdeal.nD) → Buf (Elt Ideal) ((c.tc : Thread Cert.OutBwdIdeal.nD Cert.OutBwdIdeal.τ).loc Cert.OutBwdIdeal.main_v21_2)) (v3 : (c : Dev Cert.OutBwdIdeal.nD) → Buf (Elt Ideal) ((c.tc : Thread Cert.OutBwdIdeal.nD Cert.OutBwdIdeal.τ).loc Cert.OutBwdIdeal.main_v21_3)) (v4 : (c : Dev Cert.OutBwdIdeal.nD) → Buf (Elt Ideal) ((c.tc : Thread Cert.OutBwdIdeal.nD Cert.OutBwdIdeal.τ).loc Cert.OutBwdIdeal.main_v21_4)) (v5 : (c : Dev Cert.OutBwdIdeal.nD) → Buf (Elt Ideal) ((c.tc : Thread Cert.OutBwdIdeal.nD Cert.OutBwdIdeal.τ).loc Cert.OutBwdIdeal.main_v21_5)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v21_0) = v0 c
          ∧ r.2.mem ((c.tc : Thread Cert.OutBwdIdeal.nD Cert.OutBwdIdeal.τ).loc Cert.OutBwdIdeal.main_v21_1) = v1 c
          ∧ r.2.mem ((c.tc : Thread Cert.OutBwdIdeal.nD Cert.OutBwdIdeal.τ).loc Cert.OutBwdIdeal.main_v21_2) = v2 c
          ∧ r.2.mem ((c.tc : Thread Cert.OutBwdIdeal.nD Cert.OutBwdIdeal.τ).loc Cert.OutBwdIdeal.main_v21_3) = v3 c
          ∧ r.2.mem ((c.tc : Thread Cert.OutBwdIdeal.nD Cert.OutBwdIdeal.τ).loc Cert.OutBwdIdeal.main_v21_4) = v4 c
          ∧ r.2.mem ((c.tc : Thread Cert.OutBwdIdeal.nD Cert.OutBwdIdeal.τ).loc Cert.OutBwdIdeal.main_v21_5) = v5 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
          ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
          ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5)
          ∧ r.2.mem ((c.tc : Thread Cert.OutBwdIdeal.nD Cert.OutBwdIdeal.τ).loc Cert.OutBwdIdeal.main_arg6) = m ((c.tc : Thread Cert.OutBwdIdeal.nD Cert.OutBwdIdeal.τ).loc Cert.OutBwdIdeal.main_arg6))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v58) = v0 c
          ∧ r.2.mem ((c.tc : Thread Cert.OutBwdRefIdeal.nD Cert.OutBwdRefIdeal.τ).loc Cert.OutBwdRefIdeal.main_v60) = v1 c
          ∧ r.2.mem ((c.tc : Thread Cert.OutBwdRefIdeal.nD Cert.OutBwdRefIdeal.τ).loc Cert.OutBwdRefIdeal.main_v62) = v2 c
          ∧ r.2.mem ((c.tc : Thread Cert.OutBwdRefIdeal.nD Cert.OutBwdRefIdeal.τ).loc Cert.OutBwdRefIdeal.main_v63) = v3 c
          ∧ r.2.mem ((c.tc : Thread Cert.OutBwdRefIdeal.nD Cert.OutBwdRefIdeal.τ).loc Cert.OutBwdRefIdeal.main_v64) = v4 c
          ∧ r.2.mem ((c.tc : Thread Cert.OutBwdRefIdeal.nD Cert.OutBwdRefIdeal.τ).loc Cert.OutBwdRefIdeal.main_v65) = v5 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1)
          ∧ r.2.mem ((c.tc : Thread Cert.OutBwdRefIdeal.nD Cert.OutBwdRefIdeal.τ).loc Cert.OutBwdRefIdeal.main_arg2) = m' ((c.tc : Thread Cert.OutBwdRefIdeal.nD Cert.OutBwdRefIdeal.τ).loc Cert.OutBwdRefIdeal.main_arg2)
          ∧ r.2.mem ((c.tc : Thread Cert.OutBwdRefIdeal.nD Cert.OutBwdRefIdeal.τ).loc Cert.OutBwdRefIdeal.main_arg3) = m' ((c.tc : Thread Cert.OutBwdRefIdeal.nD Cert.OutBwdRefIdeal.τ).loc Cert.OutBwdRefIdeal.main_arg3)
          ∧ r.2.mem ((c.tc : Thread Cert.OutBwdRefIdeal.nD Cert.OutBwdRefIdeal.τ).loc Cert.OutBwdRefIdeal.main_arg4) = m' ((c.tc : Thread Cert.OutBwdRefIdeal.nD Cert.OutBwdRefIdeal.τ).loc Cert.OutBwdRefIdeal.main_arg4)
          ∧ r.2.mem ((c.tc : Thread Cert.OutBwdRefIdeal.nD Cert.OutBwdRefIdeal.τ).loc Cert.OutBwdRefIdeal.main_arg5) = m' ((c.tc : Thread Cert.OutBwdRefIdeal.nD Cert.OutBwdRefIdeal.τ).loc Cert.OutBwdRefIdeal.main_arg5)
          ∧ r.2.mem ((c.tc : Thread Cert.OutBwdRefIdeal.nD Cert.OutBwdRefIdeal.τ).loc Cert.OutBwdRefIdeal.main_arg6) = m' ((c.tc : Thread Cert.OutBwdRefIdeal.nD Cert.OutBwdRefIdeal.τ).loc Cert.OutBwdRefIdeal.main_arg6))

def preserves_AttnBwd_AttnBwdIdeal : Prop :=
  IdealRules.named_const.Statement Cert.AttnBwdIdeal.κ "ln_2" .f32 0x3F317218#32 ((Real.log 2 : ℝ) : EReal)

def algebraic_AttnBwdIdeal_AttnBwdRefIdeal_pre_finite_attn_bwd [hAttnBwdIdeal : Cert.AttnBwdIdeal.Facts] [hAttnBwdRefIdeal : Cert.AttnBwdRefIdeal.Facts] [hPre_finite_attn_bwd : Cert.Pre_finite_attn_bwd.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_finite_attn_bwd m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v54_0)) (v1 : (c : Dev Cert.AttnBwdIdeal.nD) → Buf (Elt Ideal) ((c.tc : Thread Cert.AttnBwdIdeal.nD Cert.AttnBwdIdeal.τ).loc Cert.AttnBwdIdeal.main_v54_1)) (v2 : (c : Dev Cert.AttnBwdIdeal.nD) → Buf (Elt Ideal) ((c.tc : Thread Cert.AttnBwdIdeal.nD Cert.AttnBwdIdeal.τ).loc Cert.AttnBwdIdeal.main_v54_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v54_0) = v0 c
          ∧ r.2.mem ((c.tc : Thread Cert.AttnBwdIdeal.nD Cert.AttnBwdIdeal.τ).loc Cert.AttnBwdIdeal.main_v54_1) = v1 c
          ∧ r.2.mem ((c.tc : Thread Cert.AttnBwdIdeal.nD Cert.AttnBwdIdeal.τ).loc Cert.AttnBwdIdeal.main_v54_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v70) = v0 c
          ∧ r.2.mem ((c.tc : Thread Cert.AttnBwdRefIdeal.nD Cert.AttnBwdRefIdeal.τ).loc Cert.AttnBwdRefIdeal.main_v74) = v1 c
          ∧ r.2.mem ((c.tc : Thread Cert.AttnBwdRefIdeal.nD Cert.AttnBwdRefIdeal.τ).loc Cert.AttnBwdRefIdeal.main_v78) = v2 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3))

def preserves_QPrepBwd_QPrepBwdIdeal : Prop :=
  True

def algebraic_QPrepBwdIdeal_QPrepBwdRefIdeal_pre_finite_q_prep_bwd [hQPrepBwdIdeal : Cert.QPrepBwdIdeal.Facts] [hQPrepBwdRefIdeal : Cert.QPrepBwdRefIdeal.Facts] [hPre_finite_q_prep_bwd : Cert.Pre_finite_q_prep_bwd.Facts] : Prop :=
  ∀ (m : (ℓ : Loc Cert.QPrepBwdIdeal.nD Cert.QPrepBwdIdeal.τ Cert.QPrepBwdIdeal.sig) → Buf (Elt Ideal) ℓ) (g : Dev Cert.QPrepBwdIdeal.nD → PrngReg)
    (m' : (ℓ : Loc Cert.QPrepBwdRefIdeal.nD Cert.QPrepBwdRefIdeal.τ Cert.QPrepBwdRefIdeal.sig) → Buf (Elt Ideal) ℓ) (g' : Dev Cert.QPrepBwdRefIdeal.nD → PrngReg), Pre_QPrepBwdIdeal_finite_q_prep_bwd m →
    (∀ c : Dev Cert.QPrepBwdIdeal.nD,
      m' ((c.tc : Thread Cert.QPrepBwdRefIdeal.nD Cert.QPrepBwdRefIdeal.τ).loc Cert.QPrepBwdRefIdeal.main_arg0) = m ((c.tc : Thread Cert.QPrepBwdIdeal.nD Cert.QPrepBwdIdeal.τ).loc Cert.QPrepBwdIdeal.main_arg0)
      ∧ m' ((c.tc : Thread Cert.QPrepBwdRefIdeal.nD Cert.QPrepBwdRefIdeal.τ).loc Cert.QPrepBwdRefIdeal.main_arg1) = m ((c.tc : Thread Cert.QPrepBwdIdeal.nD Cert.QPrepBwdIdeal.τ).loc Cert.QPrepBwdIdeal.main_arg1)
      ∧ m' ((c.tc : Thread Cert.QPrepBwdRefIdeal.nD Cert.QPrepBwdRefIdeal.τ).loc Cert.QPrepBwdRefIdeal.main_arg2) = m ((c.tc : Thread Cert.QPrepBwdIdeal.nD Cert.QPrepBwdIdeal.τ).loc Cert.QPrepBwdIdeal.main_arg2)) →
    ∃ (v0 : (c : Dev Cert.QPrepBwdIdeal.nD) → Buf (Elt Ideal) ((c.tc : Thread Cert.QPrepBwdIdeal.nD Cert.QPrepBwdIdeal.τ).loc Cert.QPrepBwdIdeal.main_v42_0)) (v1 : (c : Dev Cert.QPrepBwdIdeal.nD) → Buf (Elt Ideal) ((c.tc : Thread Cert.QPrepBwdIdeal.nD Cert.QPrepBwdIdeal.τ).loc Cert.QPrepBwdIdeal.main_v42_1)),
      θ_run (Cert.QPrepBwdIdeal.defs (F := Ideal)) (onTc (τ := Cert.QPrepBwdIdeal.τ) (Cert.QPrepBwdIdeal.main (F := Ideal))) ⟨m, fun _ => 0, g⟩ (fun r => ∀ c : Dev Cert.QPrepBwdIdeal.nD,
          r.2.mem ((c.tc : Thread Cert.QPrepBwdIdeal.nD Cert.QPrepBwdIdeal.τ).loc Cert.QPrepBwdIdeal.main_v42_0) = v0 c
          ∧ r.2.mem ((c.tc : Thread Cert.QPrepBwdIdeal.nD Cert.QPrepBwdIdeal.τ).loc Cert.QPrepBwdIdeal.main_v42_1) = v1 c
          ∧ r.2.mem ((c.tc : Thread Cert.QPrepBwdIdeal.nD Cert.QPrepBwdIdeal.τ).loc Cert.QPrepBwdIdeal.main_arg0) = m ((c.tc : Thread Cert.QPrepBwdIdeal.nD Cert.QPrepBwdIdeal.τ).loc Cert.QPrepBwdIdeal.main_arg0)
          ∧ r.2.mem ((c.tc : Thread Cert.QPrepBwdIdeal.nD Cert.QPrepBwdIdeal.τ).loc Cert.QPrepBwdIdeal.main_arg1) = m ((c.tc : Thread Cert.QPrepBwdIdeal.nD Cert.QPrepBwdIdeal.τ).loc Cert.QPrepBwdIdeal.main_arg1)
          ∧ r.2.mem ((c.tc : Thread Cert.QPrepBwdIdeal.nD Cert.QPrepBwdIdeal.τ).loc Cert.QPrepBwdIdeal.main_arg2) = m ((c.tc : Thread Cert.QPrepBwdIdeal.nD Cert.QPrepBwdIdeal.τ).loc Cert.QPrepBwdIdeal.main_arg2))
      ∧ θ_run (Cert.QPrepBwdRefIdeal.defs (F := Ideal)) (onTc (τ := Cert.QPrepBwdRefIdeal.τ) (Cert.QPrepBwdRefIdeal.main (F := Ideal))) ⟨m', fun _ => 0, g'⟩ (fun r => ∀ c : Dev Cert.QPrepBwdRefIdeal.nD,
          r.2.mem ((c.tc : Thread Cert.QPrepBwdRefIdeal.nD Cert.QPrepBwdRefIdeal.τ).loc Cert.QPrepBwdRefIdeal.main_v167) = v0 c
          ∧ r.2.mem ((c.tc : Thread Cert.QPrepBwdRefIdeal.nD Cert.QPrepBwdRefIdeal.τ).loc Cert.QPrepBwdRefIdeal.main_v168) = v1 c
          ∧ r.2.mem ((c.tc : Thread Cert.QPrepBwdRefIdeal.nD Cert.QPrepBwdRefIdeal.τ).loc Cert.QPrepBwdRefIdeal.main_arg0) = m' ((c.tc : Thread Cert.QPrepBwdRefIdeal.nD Cert.QPrepBwdRefIdeal.τ).loc Cert.QPrepBwdRefIdeal.main_arg0)
          ∧ r.2.mem ((c.tc : Thread Cert.QPrepBwdRefIdeal.nD Cert.QPrepBwdRefIdeal.τ).loc Cert.QPrepBwdRefIdeal.main_arg1) = m' ((c.tc : Thread Cert.QPrepBwdRefIdeal.nD Cert.QPrepBwdRefIdeal.τ).loc Cert.QPrepBwdRefIdeal.main_arg1)
          ∧ r.2.mem ((c.tc : Thread Cert.QPrepBwdRefIdeal.nD Cert.QPrepBwdRefIdeal.τ).loc Cert.QPrepBwdRefIdeal.main_arg2) = m' ((c.tc : Thread Cert.QPrepBwdRefIdeal.nD Cert.QPrepBwdRefIdeal.τ).loc Cert.QPrepBwdRefIdeal.main_arg2))

def preserves_KPrepBwd_KPrepBwdIdeal : Prop :=
  True

def algebraic_KPrepBwdIdeal_KPrepBwdRefIdeal_pre_finite_k_prep_bwd [hKPrepBwdIdeal : Cert.KPrepBwdIdeal.Facts] [hKPrepBwdRefIdeal : Cert.KPrepBwdRefIdeal.Facts] [hPre_finite_k_prep_bwd : Cert.Pre_finite_k_prep_bwd.Facts] : Prop :=
  ∀ (m : (ℓ : Loc Cert.KPrepBwdIdeal.nD Cert.KPrepBwdIdeal.τ Cert.KPrepBwdIdeal.sig) → Buf (Elt Ideal) ℓ) (g : Dev Cert.KPrepBwdIdeal.nD → PrngReg)
    (m' : (ℓ : Loc Cert.KPrepBwdRefIdeal.nD Cert.KPrepBwdRefIdeal.τ Cert.KPrepBwdRefIdeal.sig) → Buf (Elt Ideal) ℓ) (g' : Dev Cert.KPrepBwdRefIdeal.nD → PrngReg), Pre_KPrepBwdIdeal_finite_k_prep_bwd m →
    (∀ c : Dev Cert.KPrepBwdIdeal.nD,
      m' ((c.tc : Thread Cert.KPrepBwdRefIdeal.nD Cert.KPrepBwdRefIdeal.τ).loc Cert.KPrepBwdRefIdeal.main_arg0) = m ((c.tc : Thread Cert.KPrepBwdIdeal.nD Cert.KPrepBwdIdeal.τ).loc Cert.KPrepBwdIdeal.main_arg0)
      ∧ m' ((c.tc : Thread Cert.KPrepBwdRefIdeal.nD Cert.KPrepBwdRefIdeal.τ).loc Cert.KPrepBwdRefIdeal.main_arg1) = m ((c.tc : Thread Cert.KPrepBwdIdeal.nD Cert.KPrepBwdIdeal.τ).loc Cert.KPrepBwdIdeal.main_arg1)
      ∧ m' ((c.tc : Thread Cert.KPrepBwdRefIdeal.nD Cert.KPrepBwdRefIdeal.τ).loc Cert.KPrepBwdRefIdeal.main_arg2) = m ((c.tc : Thread Cert.KPrepBwdIdeal.nD Cert.KPrepBwdIdeal.τ).loc Cert.KPrepBwdIdeal.main_arg2)) →
    ∃ (v0 : (c : Dev Cert.KPrepBwdIdeal.nD) → Buf (Elt Ideal) ((c.tc : Thread Cert.KPrepBwdIdeal.nD Cert.KPrepBwdIdeal.τ).loc Cert.KPrepBwdIdeal.main_v42_0)) (v1 : (c : Dev Cert.KPrepBwdIdeal.nD) → Buf (Elt Ideal) ((c.tc : Thread Cert.KPrepBwdIdeal.nD Cert.KPrepBwdIdeal.τ).loc Cert.KPrepBwdIdeal.main_v42_1)),
      θ_run (Cert.KPrepBwdIdeal.defs (F := Ideal)) (onTc (τ := Cert.KPrepBwdIdeal.τ) (Cert.KPrepBwdIdeal.main (F := Ideal))) ⟨m, fun _ => 0, g⟩ (fun r => ∀ c : Dev Cert.KPrepBwdIdeal.nD,
          r.2.mem ((c.tc : Thread Cert.KPrepBwdIdeal.nD Cert.KPrepBwdIdeal.τ).loc Cert.KPrepBwdIdeal.main_v42_0) = v0 c
          ∧ r.2.mem ((c.tc : Thread Cert.KPrepBwdIdeal.nD Cert.KPrepBwdIdeal.τ).loc Cert.KPrepBwdIdeal.main_v42_1) = v1 c
          ∧ r.2.mem ((c.tc : Thread Cert.KPrepBwdIdeal.nD Cert.KPrepBwdIdeal.τ).loc Cert.KPrepBwdIdeal.main_arg0) = m ((c.tc : Thread Cert.KPrepBwdIdeal.nD Cert.KPrepBwdIdeal.τ).loc Cert.KPrepBwdIdeal.main_arg0)
          ∧ r.2.mem ((c.tc : Thread Cert.KPrepBwdIdeal.nD Cert.KPrepBwdIdeal.τ).loc Cert.KPrepBwdIdeal.main_arg1) = m ((c.tc : Thread Cert.KPrepBwdIdeal.nD Cert.KPrepBwdIdeal.τ).loc Cert.KPrepBwdIdeal.main_arg1)
          ∧ r.2.mem ((c.tc : Thread Cert.KPrepBwdIdeal.nD Cert.KPrepBwdIdeal.τ).loc Cert.KPrepBwdIdeal.main_arg2) = m ((c.tc : Thread Cert.KPrepBwdIdeal.nD Cert.KPrepBwdIdeal.τ).loc Cert.KPrepBwdIdeal.main_arg2))
      ∧ θ_run (Cert.KPrepBwdRefIdeal.defs (F := Ideal)) (onTc (τ := Cert.KPrepBwdRefIdeal.τ) (Cert.KPrepBwdRefIdeal.main (F := Ideal))) ⟨m', fun _ => 0, g'⟩ (fun r => ∀ c : Dev Cert.KPrepBwdRefIdeal.nD,
          r.2.mem ((c.tc : Thread Cert.KPrepBwdRefIdeal.nD Cert.KPrepBwdRefIdeal.τ).loc Cert.KPrepBwdRefIdeal.main_v163) = v0 c
          ∧ r.2.mem ((c.tc : Thread Cert.KPrepBwdRefIdeal.nD Cert.KPrepBwdRefIdeal.τ).loc Cert.KPrepBwdRefIdeal.main_v164) = v1 c
          ∧ r.2.mem ((c.tc : Thread Cert.KPrepBwdRefIdeal.nD Cert.KPrepBwdRefIdeal.τ).loc Cert.KPrepBwdRefIdeal.main_arg0) = m' ((c.tc : Thread Cert.KPrepBwdRefIdeal.nD Cert.KPrepBwdRefIdeal.τ).loc Cert.KPrepBwdRefIdeal.main_arg0)
          ∧ r.2.mem ((c.tc : Thread Cert.KPrepBwdRefIdeal.nD Cert.KPrepBwdRefIdeal.τ).loc Cert.KPrepBwdRefIdeal.main_arg1) = m' ((c.tc : Thread Cert.KPrepBwdRefIdeal.nD Cert.KPrepBwdRefIdeal.τ).loc Cert.KPrepBwdRefIdeal.main_arg1)
          ∧ r.2.mem ((c.tc : Thread Cert.KPrepBwdRefIdeal.nD Cert.KPrepBwdRefIdeal.τ).loc Cert.KPrepBwdRefIdeal.main_arg2) = m' ((c.tc : Thread Cert.KPrepBwdRefIdeal.nD Cert.KPrepBwdRefIdeal.τ).loc Cert.KPrepBwdRefIdeal.main_arg2))

def preserves_ConvBwdB_ConvBwdBIdeal : Prop :=
  True

def algebraic_ConvBwdBIdeal_ConvBwdBRefIdeal [hConvBwdBIdeal : Cert.ConvBwdBIdeal.Facts] [hConvBwdBRefIdeal : Cert.ConvBwdBRefIdeal.Facts] : Prop :=
  ∀ (m : (ℓ : Loc Cert.ConvBwdBIdeal.nD Cert.ConvBwdBIdeal.τ Cert.ConvBwdBIdeal.sig) → Buf (Elt Ideal) ℓ) (g : Dev Cert.ConvBwdBIdeal.nD → PrngReg)
    (m' : (ℓ : Loc Cert.ConvBwdBRefIdeal.nD Cert.ConvBwdBRefIdeal.τ Cert.ConvBwdBRefIdeal.sig) → Buf (Elt Ideal) ℓ) (g' : Dev Cert.ConvBwdBRefIdeal.nD → PrngReg), Pre_ConvBwdBIdeal m →
    (∀ c : Dev Cert.ConvBwdBIdeal.nD,
      m' ((c.tc : Thread Cert.ConvBwdBRefIdeal.nD Cert.ConvBwdBRefIdeal.τ).loc Cert.ConvBwdBRefIdeal.main_arg0) = m ((c.tc : Thread Cert.ConvBwdBIdeal.nD Cert.ConvBwdBIdeal.τ).loc Cert.ConvBwdBIdeal.main_arg0)
      ∧ m' ((c.tc : Thread Cert.ConvBwdBRefIdeal.nD Cert.ConvBwdBRefIdeal.τ).loc Cert.ConvBwdBRefIdeal.main_arg1) = m ((c.tc : Thread Cert.ConvBwdBIdeal.nD Cert.ConvBwdBIdeal.τ).loc Cert.ConvBwdBIdeal.main_arg1)
      ∧ m' ((c.tc : Thread Cert.ConvBwdBRefIdeal.nD Cert.ConvBwdBRefIdeal.τ).loc Cert.ConvBwdBRefIdeal.main_arg2) = m ((c.tc : Thread Cert.ConvBwdBIdeal.nD Cert.ConvBwdBIdeal.τ).loc Cert.ConvBwdBIdeal.main_arg2)) →
    ∃ (v0 : (c : Dev Cert.ConvBwdBIdeal.nD) → Buf (Elt Ideal) ((c.tc : Thread Cert.ConvBwdBIdeal.nD Cert.ConvBwdBIdeal.τ).loc Cert.ConvBwdBIdeal.main_v2_0)) (v1 : (c : Dev Cert.ConvBwdBIdeal.nD) → Buf (Elt Ideal) ((c.tc : Thread Cert.ConvBwdBIdeal.nD Cert.ConvBwdBIdeal.τ).loc Cert.ConvBwdBIdeal.main_v2_1)),
      θ_run (Cert.ConvBwdBIdeal.defs (F := Ideal)) (onTc (τ := Cert.ConvBwdBIdeal.τ) (Cert.ConvBwdBIdeal.main (F := Ideal))) ⟨m, fun _ => 0, g⟩ (fun r => ∀ c : Dev Cert.ConvBwdBIdeal.nD,
          r.2.mem ((c.tc : Thread Cert.ConvBwdBIdeal.nD Cert.ConvBwdBIdeal.τ).loc Cert.ConvBwdBIdeal.main_v2_0) = v0 c
          ∧ r.2.mem ((c.tc : Thread Cert.ConvBwdBIdeal.nD Cert.ConvBwdBIdeal.τ).loc Cert.ConvBwdBIdeal.main_v2_1) = v1 c
          ∧ r.2.mem ((c.tc : Thread Cert.ConvBwdBIdeal.nD Cert.ConvBwdBIdeal.τ).loc Cert.ConvBwdBIdeal.main_arg0) = m ((c.tc : Thread Cert.ConvBwdBIdeal.nD Cert.ConvBwdBIdeal.τ).loc Cert.ConvBwdBIdeal.main_arg0)
          ∧ r.2.mem ((c.tc : Thread Cert.ConvBwdBIdeal.nD Cert.ConvBwdBIdeal.τ).loc Cert.ConvBwdBIdeal.main_arg1) = m ((c.tc : Thread Cert.ConvBwdBIdeal.nD Cert.ConvBwdBIdeal.τ).loc Cert.ConvBwdBIdeal.main_arg1)
          ∧ r.2.mem ((c.tc : Thread Cert.ConvBwdBIdeal.nD Cert.ConvBwdBIdeal.τ).loc Cert.ConvBwdBIdeal.main_arg2) = m ((c.tc : Thread Cert.ConvBwdBIdeal.nD Cert.ConvBwdBIdeal.τ).loc Cert.ConvBwdBIdeal.main_arg2))
      ∧ θ_run (Cert.ConvBwdBRefIdeal.defs (F := Ideal)) (onTc (τ := Cert.ConvBwdBRefIdeal.τ) (Cert.ConvBwdBRefIdeal.main (F := Ideal))) ⟨m', fun _ => 0, g'⟩ (fun r => ∀ c : Dev Cert.ConvBwdBRefIdeal.nD,
          r.2.mem ((c.tc : Thread Cert.ConvBwdBRefIdeal.nD Cert.ConvBwdBRefIdeal.τ).loc Cert.ConvBwdBRefIdeal.main_v379) = v0 c
          ∧ r.2.mem ((c.tc : Thread Cert.ConvBwdBRefIdeal.nD Cert.ConvBwdBRefIdeal.τ).loc Cert.ConvBwdBRefIdeal.main_v381) = v1 c
          ∧ r.2.mem ((c.tc : Thread Cert.ConvBwdBRefIdeal.nD Cert.ConvBwdBRefIdeal.τ).loc Cert.ConvBwdBRefIdeal.main_arg0) = m' ((c.tc : Thread Cert.ConvBwdBRefIdeal.nD Cert.ConvBwdBRefIdeal.τ).loc Cert.ConvBwdBRefIdeal.main_arg0)
          ∧ r.2.mem ((c.tc : Thread Cert.ConvBwdBRefIdeal.nD Cert.ConvBwdBRefIdeal.τ).loc Cert.ConvBwdBRefIdeal.main_arg1) = m' ((c.tc : Thread Cert.ConvBwdBRefIdeal.nD Cert.ConvBwdBRefIdeal.τ).loc Cert.ConvBwdBRefIdeal.main_arg1)
          ∧ r.2.mem ((c.tc : Thread Cert.ConvBwdBRefIdeal.nD Cert.ConvBwdBRefIdeal.τ).loc Cert.ConvBwdBRefIdeal.main_arg2) = m' ((c.tc : Thread Cert.ConvBwdBRefIdeal.nD Cert.ConvBwdBRefIdeal.τ).loc Cert.ConvBwdBRefIdeal.main_arg2))

def preserves_ConvBwdA_ConvBwdAIdeal : Prop :=
  True

def algebraic_ConvBwdAIdeal_ConvBwdARefIdeal_pre_finite_conv_bwd_a [hConvBwdAIdeal : Cert.ConvBwdAIdeal.Facts] [hConvBwdARefIdeal : Cert.ConvBwdARefIdeal.Facts] [hPre_finite_conv_bwd_a : Cert.Pre_finite_conv_bwd_a.Facts] : Prop :=
  ∀ (m : (ℓ : Loc Cert.ConvBwdAIdeal.nD Cert.ConvBwdAIdeal.τ Cert.ConvBwdAIdeal.sig) → Buf (Elt Ideal) ℓ) (g : Dev Cert.ConvBwdAIdeal.nD → PrngReg)
    (m' : (ℓ : Loc Cert.ConvBwdARefIdeal.nD Cert.ConvBwdARefIdeal.τ Cert.ConvBwdARefIdeal.sig) → Buf (Elt Ideal) ℓ) (g' : Dev Cert.ConvBwdARefIdeal.nD → PrngReg), Pre_ConvBwdAIdeal_finite_conv_bwd_a m →
    (∀ c : Dev Cert.ConvBwdAIdeal.nD,
      m' ((c.tc : Thread Cert.ConvBwdARefIdeal.nD Cert.ConvBwdARefIdeal.τ).loc Cert.ConvBwdARefIdeal.main_arg0) = m ((c.tc : Thread Cert.ConvBwdAIdeal.nD Cert.ConvBwdAIdeal.τ).loc Cert.ConvBwdAIdeal.main_arg0)
      ∧ m' ((c.tc : Thread Cert.ConvBwdARefIdeal.nD Cert.ConvBwdARefIdeal.τ).loc Cert.ConvBwdARefIdeal.main_arg1) = m ((c.tc : Thread Cert.ConvBwdAIdeal.nD Cert.ConvBwdAIdeal.τ).loc Cert.ConvBwdAIdeal.main_arg1)
      ∧ m' ((c.tc : Thread Cert.ConvBwdARefIdeal.nD Cert.ConvBwdARefIdeal.τ).loc Cert.ConvBwdARefIdeal.main_arg2) = m ((c.tc : Thread Cert.ConvBwdAIdeal.nD Cert.ConvBwdAIdeal.τ).loc Cert.ConvBwdAIdeal.main_arg2)
      ∧ m' ((c.tc : Thread Cert.ConvBwdARefIdeal.nD Cert.ConvBwdARefIdeal.τ).loc Cert.ConvBwdARefIdeal.main_arg3) = m ((c.tc : Thread Cert.ConvBwdAIdeal.nD Cert.ConvBwdAIdeal.τ).loc Cert.ConvBwdAIdeal.main_arg3)
      ∧ m' ((c.tc : Thread Cert.ConvBwdARefIdeal.nD Cert.ConvBwdARefIdeal.τ).loc Cert.ConvBwdARefIdeal.main_arg4) = m ((c.tc : Thread Cert.ConvBwdAIdeal.nD Cert.ConvBwdAIdeal.τ).loc Cert.ConvBwdAIdeal.main_arg4)
      ∧ m' ((c.tc : Thread Cert.ConvBwdARefIdeal.nD Cert.ConvBwdARefIdeal.τ).loc Cert.ConvBwdARefIdeal.main_arg5) = m ((c.tc : Thread Cert.ConvBwdAIdeal.nD Cert.ConvBwdAIdeal.τ).loc Cert.ConvBwdAIdeal.main_arg5)) →
    ∃ (v0 : (c : Dev Cert.ConvBwdAIdeal.nD) → Buf (Elt Ideal) ((c.tc : Thread Cert.ConvBwdAIdeal.nD Cert.ConvBwdAIdeal.τ).loc Cert.ConvBwdAIdeal.main_v246_0)) (v1 : (c : Dev Cert.ConvBwdAIdeal.nD) → Buf (Elt Ideal) ((c.tc : Thread Cert.ConvBwdAIdeal.nD Cert.ConvBwdAIdeal.τ).loc Cert.ConvBwdAIdeal.main_v246_1)) (v2 : (c : Dev Cert.ConvBwdAIdeal.nD) → Buf (Elt Ideal) ((c.tc : Thread Cert.ConvBwdAIdeal.nD Cert.ConvBwdAIdeal.τ).loc Cert.ConvBwdAIdeal.main_v246_2)) (v3 : (c : Dev Cert.ConvBwdAIdeal.nD) → Buf (Elt Ideal) ((c.tc : Thread Cert.ConvBwdAIdeal.nD Cert.ConvBwdAIdeal.τ).loc Cert.ConvBwdAIdeal.main_v246_3)) (v4 : (c : Dev Cert.ConvBwdAIdeal.nD) → Buf (Elt Ideal) ((c.tc : Thread Cert.ConvBwdAIdeal.nD Cert.ConvBwdAIdeal.τ).loc Cert.ConvBwdAIdeal.main_v246_4)) (v5 : (c : Dev Cert.ConvBwdAIdeal.nD) → Buf (Elt Ideal) ((c.tc : Thread Cert.ConvBwdAIdeal.nD Cert.ConvBwdAIdeal.τ).loc Cert.ConvBwdAIdeal.main_v246_5)),
      θ_run (Cert.ConvBwdAIdeal.defs (F := Ideal)) (onTc (τ := Cert.ConvBwdAIdeal.τ) (Cert.ConvBwdAIdeal.main (F := Ideal))) ⟨m, fun _ => 0, g⟩ (fun r => ∀ c : Dev Cert.ConvBwdAIdeal.nD,
          r.2.mem ((c.tc : Thread Cert.ConvBwdAIdeal.nD Cert.ConvBwdAIdeal.τ).loc Cert.ConvBwdAIdeal.main_v246_0) = v0 c
          ∧ r.2.mem ((c.tc : Thread Cert.ConvBwdAIdeal.nD Cert.ConvBwdAIdeal.τ).loc Cert.ConvBwdAIdeal.main_v246_1) = v1 c
          ∧ r.2.mem ((c.tc : Thread Cert.ConvBwdAIdeal.nD Cert.ConvBwdAIdeal.τ).loc Cert.ConvBwdAIdeal.main_v246_2) = v2 c
          ∧ r.2.mem ((c.tc : Thread Cert.ConvBwdAIdeal.nD Cert.ConvBwdAIdeal.τ).loc Cert.ConvBwdAIdeal.main_v246_3) = v3 c
          ∧ r.2.mem ((c.tc : Thread Cert.ConvBwdAIdeal.nD Cert.ConvBwdAIdeal.τ).loc Cert.ConvBwdAIdeal.main_v246_4) = v4 c
          ∧ r.2.mem ((c.tc : Thread Cert.ConvBwdAIdeal.nD Cert.ConvBwdAIdeal.τ).loc Cert.ConvBwdAIdeal.main_v246_5) = v5 c
          ∧ r.2.mem ((c.tc : Thread Cert.ConvBwdAIdeal.nD Cert.ConvBwdAIdeal.τ).loc Cert.ConvBwdAIdeal.main_arg0) = m ((c.tc : Thread Cert.ConvBwdAIdeal.nD Cert.ConvBwdAIdeal.τ).loc Cert.ConvBwdAIdeal.main_arg0)
          ∧ r.2.mem ((c.tc : Thread Cert.ConvBwdAIdeal.nD Cert.ConvBwdAIdeal.τ).loc Cert.ConvBwdAIdeal.main_arg1) = m ((c.tc : Thread Cert.ConvBwdAIdeal.nD Cert.ConvBwdAIdeal.τ).loc Cert.ConvBwdAIdeal.main_arg1)
          ∧ r.2.mem ((c.tc : Thread Cert.ConvBwdAIdeal.nD Cert.ConvBwdAIdeal.τ).loc Cert.ConvBwdAIdeal.main_arg2) = m ((c.tc : Thread Cert.ConvBwdAIdeal.nD Cert.ConvBwdAIdeal.τ).loc Cert.ConvBwdAIdeal.main_arg2)
          ∧ r.2.mem ((c.tc : Thread Cert.ConvBwdAIdeal.nD Cert.ConvBwdAIdeal.τ).loc Cert.ConvBwdAIdeal.main_arg3) = m ((c.tc : Thread Cert.ConvBwdAIdeal.nD Cert.ConvBwdAIdeal.τ).loc Cert.ConvBwdAIdeal.main_arg3)
          ∧ r.2.mem ((c.tc : Thread Cert.ConvBwdAIdeal.nD Cert.ConvBwdAIdeal.τ).loc Cert.ConvBwdAIdeal.main_arg4) = m ((c.tc : Thread Cert.ConvBwdAIdeal.nD Cert.ConvBwdAIdeal.τ).loc Cert.ConvBwdAIdeal.main_arg4)
          ∧ r.2.mem ((c.tc : Thread Cert.ConvBwdAIdeal.nD Cert.ConvBwdAIdeal.τ).loc Cert.ConvBwdAIdeal.main_arg5) = m ((c.tc : Thread Cert.ConvBwdAIdeal.nD Cert.ConvBwdAIdeal.τ).loc Cert.ConvBwdAIdeal.main_arg5))
      ∧ θ_run (Cert.ConvBwdARefIdeal.defs (F := Ideal)) (onTc (τ := Cert.ConvBwdARefIdeal.τ) (Cert.ConvBwdARefIdeal.main (F := Ideal))) ⟨m', fun _ => 0, g'⟩ (fun r => ∀ c : Dev Cert.ConvBwdARefIdeal.nD,
          r.2.mem ((c.tc : Thread Cert.ConvBwdARefIdeal.nD Cert.ConvBwdARefIdeal.τ).loc Cert.ConvBwdARefIdeal.main_v525) = v0 c
          ∧ r.2.mem ((c.tc : Thread Cert.ConvBwdARefIdeal.nD Cert.ConvBwdARefIdeal.τ).loc Cert.ConvBwdARefIdeal.main_v527) = v1 c
          ∧ r.2.mem ((c.tc : Thread Cert.ConvBwdARefIdeal.nD Cert.ConvBwdARefIdeal.τ).loc Cert.ConvBwdARefIdeal.main_v524) = v2 c
          ∧ r.2.mem ((c.tc : Thread Cert.ConvBwdARefIdeal.nD Cert.ConvBwdARefIdeal.τ).loc Cert.ConvBwdARefIdeal.main_v528) = v3 c
          ∧ r.2.mem ((c.tc : Thread Cert.ConvBwdARefIdeal.nD Cert.ConvBwdARefIdeal.τ).loc Cert.ConvBwdARefIdeal.main_v529) = v4 c
          ∧ r.2.mem ((c.tc : Thread Cert.ConvBwdARefIdeal.nD Cert.ConvBwdARefIdeal.τ).loc Cert.ConvBwdARefIdeal.main_v530) = v5 c
          ∧ r.2.mem ((c.tc : Thread Cert.ConvBwdARefIdeal.nD Cert.ConvBwdARefIdeal.τ).loc Cert.ConvBwdARefIdeal.main_arg0) = m' ((c.tc : Thread Cert.ConvBwdARefIdeal.nD Cert.ConvBwdARefIdeal.τ).loc Cert.ConvBwdARefIdeal.main_arg0)
          ∧ r.2.mem ((c.tc : Thread Cert.ConvBwdARefIdeal.nD Cert.ConvBwdARefIdeal.τ).loc Cert.ConvBwdARefIdeal.main_arg1) = m' ((c.tc : Thread Cert.ConvBwdARefIdeal.nD Cert.ConvBwdARefIdeal.τ).loc Cert.ConvBwdARefIdeal.main_arg1)
          ∧ r.2.mem ((c.tc : Thread Cert.ConvBwdARefIdeal.nD Cert.ConvBwdARefIdeal.τ).loc Cert.ConvBwdARefIdeal.main_arg2) = m' ((c.tc : Thread Cert.ConvBwdARefIdeal.nD Cert.ConvBwdARefIdeal.τ).loc Cert.ConvBwdARefIdeal.main_arg2)
          ∧ r.2.mem ((c.tc : Thread Cert.ConvBwdARefIdeal.nD Cert.ConvBwdARefIdeal.τ).loc Cert.ConvBwdARefIdeal.main_arg3) = m' ((c.tc : Thread Cert.ConvBwdARefIdeal.nD Cert.ConvBwdARefIdeal.τ).loc Cert.ConvBwdARefIdeal.main_arg3)
          ∧ r.2.mem ((c.tc : Thread Cert.ConvBwdARefIdeal.nD Cert.ConvBwdARefIdeal.τ).loc Cert.ConvBwdARefIdeal.main_arg4) = m' ((c.tc : Thread Cert.ConvBwdARefIdeal.nD Cert.ConvBwdARefIdeal.τ).loc Cert.ConvBwdARefIdeal.main_arg4)
          ∧ r.2.mem ((c.tc : Thread Cert.ConvBwdARefIdeal.nD Cert.ConvBwdARefIdeal.τ).loc Cert.ConvBwdARefIdeal.main_arg5) = m' ((c.tc : Thread Cert.ConvBwdARefIdeal.nD Cert.ConvBwdARefIdeal.τ).loc Cert.ConvBwdARefIdeal.main_arg5))

def preserves_SguBwd_SguBwdIdeal : Prop :=
  IdealRules.named_const.Statement Cert.SguBwdIdeal.κ "inv_sqrt_2" .f32 0x3F3504F3#32 (((Real.sqrt 2)⁻¹ : ℝ) : EReal)
  ∧ IdealRules.named_const.Statement Cert.SguBwdIdeal.κ "inv_sqrt_2pi" .f32 0x3ECC422A#32 (((Real.sqrt (2 * Real.pi))⁻¹ : ℝ) : EReal)

def algebraic_SguBwdIdeal_SguBwdRefIdeal_pre_finite_sgu_bwd [hSguBwdIdeal : Cert.SguBwdIdeal.Facts] [hSguBwdRefIdeal : Cert.SguBwdRefIdeal.Facts] [hPre_finite_sgu_bwd : Cert.Pre_finite_sgu_bwd.Facts] : Prop :=
  ∀ (m : (ℓ : Loc Cert.SguBwdIdeal.nD Cert.SguBwdIdeal.τ Cert.SguBwdIdeal.sig) → Buf (Elt Ideal) ℓ) (g : Dev Cert.SguBwdIdeal.nD → PrngReg)
    (m' : (ℓ : Loc Cert.SguBwdRefIdeal.nD Cert.SguBwdRefIdeal.τ Cert.SguBwdRefIdeal.sig) → Buf (Elt Ideal) ℓ) (g' : Dev Cert.SguBwdRefIdeal.nD → PrngReg), Pre_SguBwdIdeal_finite_sgu_bwd m →
    (∀ c : Dev Cert.SguBwdIdeal.nD,
      m' ((c.tc : Thread Cert.SguBwdRefIdeal.nD Cert.SguBwdRefIdeal.τ).loc Cert.SguBwdRefIdeal.main_arg0) = m ((c.tc : Thread Cert.SguBwdIdeal.nD Cert.SguBwdIdeal.τ).loc Cert.SguBwdIdeal.main_arg0)
      ∧ m' ((c.tc : Thread Cert.SguBwdRefIdeal.nD Cert.SguBwdRefIdeal.τ).loc Cert.SguBwdRefIdeal.main_arg1) = m ((c.tc : Thread Cert.SguBwdIdeal.nD Cert.SguBwdIdeal.τ).loc Cert.SguBwdIdeal.main_arg1)
      ∧ m' ((c.tc : Thread Cert.SguBwdRefIdeal.nD Cert.SguBwdRefIdeal.τ).loc Cert.SguBwdRefIdeal.main_arg2) = m ((c.tc : Thread Cert.SguBwdIdeal.nD Cert.SguBwdIdeal.τ).loc Cert.SguBwdIdeal.main_arg2)
      ∧ m' ((c.tc : Thread Cert.SguBwdRefIdeal.nD Cert.SguBwdRefIdeal.τ).loc Cert.SguBwdRefIdeal.main_arg3) = m ((c.tc : Thread Cert.SguBwdIdeal.nD Cert.SguBwdIdeal.τ).loc Cert.SguBwdIdeal.main_arg3)
      ∧ m' ((c.tc : Thread Cert.SguBwdRefIdeal.nD Cert.SguBwdRefIdeal.τ).loc Cert.SguBwdRefIdeal.main_arg4) = m ((c.tc : Thread Cert.SguBwdIdeal.nD Cert.SguBwdIdeal.τ).loc Cert.SguBwdIdeal.main_arg4)
      ∧ m' ((c.tc : Thread Cert.SguBwdRefIdeal.nD Cert.SguBwdRefIdeal.τ).loc Cert.SguBwdRefIdeal.main_arg5) = m ((c.tc : Thread Cert.SguBwdIdeal.nD Cert.SguBwdIdeal.τ).loc Cert.SguBwdIdeal.main_arg5)) →
    ∃ (v0 : (c : Dev Cert.SguBwdIdeal.nD) → Buf (Elt Ideal) ((c.tc : Thread Cert.SguBwdIdeal.nD Cert.SguBwdIdeal.τ).loc Cert.SguBwdIdeal.main_v19_0)) (v1 : (c : Dev Cert.SguBwdIdeal.nD) → Buf (Elt Ideal) ((c.tc : Thread Cert.SguBwdIdeal.nD Cert.SguBwdIdeal.τ).loc Cert.SguBwdIdeal.main_v19_1)) (v2 : (c : Dev Cert.SguBwdIdeal.nD) → Buf (Elt Ideal) ((c.tc : Thread Cert.SguBwdIdeal.nD Cert.SguBwdIdeal.τ).loc Cert.SguBwdIdeal.main_v19_2)) (v3 : (c : Dev Cert.SguBwdIdeal.nD) → Buf (Elt Ideal) ((c.tc : Thread Cert.SguBwdIdeal.nD Cert.SguBwdIdeal.τ).loc Cert.SguBwdIdeal.main_v19_3)) (v4 : (c : Dev Cert.SguBwdIdeal.nD) → Buf (Elt Ideal) ((c.tc : Thread Cert.SguBwdIdeal.nD Cert.SguBwdIdeal.τ).loc Cert.SguBwdIdeal.main_v19_4)) (v5 : (c : Dev Cert.SguBwdIdeal.nD) → Buf (Elt Ideal) ((c.tc : Thread Cert.SguBwdIdeal.nD Cert.SguBwdIdeal.τ).loc Cert.SguBwdIdeal.main_v19_5)) (v6 : (c : Dev Cert.SguBwdIdeal.nD) → Buf (Elt Ideal) ((c.tc : Thread Cert.SguBwdIdeal.nD Cert.SguBwdIdeal.τ).loc Cert.SguBwdIdeal.main_v19_6)),
      θ_run (Cert.SguBwdIdeal.defs (F := Ideal)) (onTc (τ := Cert.SguBwdIdeal.τ) (Cert.SguBwdIdeal.main (F := Ideal))) ⟨m, fun _ => 0, g⟩ (fun r => ∀ c : Dev Cert.SguBwdIdeal.nD,
          r.2.mem ((c.tc : Thread Cert.SguBwdIdeal.nD Cert.SguBwdIdeal.τ).loc Cert.SguBwdIdeal.main_v19_0) = v0 c
          ∧ r.2.mem ((c.tc : Thread Cert.SguBwdIdeal.nD Cert.SguBwdIdeal.τ).loc Cert.SguBwdIdeal.main_v19_1) = v1 c
          ∧ r.2.mem ((c.tc : Thread Cert.SguBwdIdeal.nD Cert.SguBwdIdeal.τ).loc Cert.SguBwdIdeal.main_v19_2) = v2 c
          ∧ r.2.mem ((c.tc : Thread Cert.SguBwdIdeal.nD Cert.SguBwdIdeal.τ).loc Cert.SguBwdIdeal.main_v19_3) = v3 c
          ∧ r.2.mem ((c.tc : Thread Cert.SguBwdIdeal.nD Cert.SguBwdIdeal.τ).loc Cert.SguBwdIdeal.main_v19_4) = v4 c
          ∧ r.2.mem ((c.tc : Thread Cert.SguBwdIdeal.nD Cert.SguBwdIdeal.τ).loc Cert.SguBwdIdeal.main_v19_5) = v5 c
          ∧ r.2.mem ((c.tc : Thread Cert.SguBwdIdeal.nD Cert.SguBwdIdeal.τ).loc Cert.SguBwdIdeal.main_v19_6) = v6 c
          ∧ r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
          ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
          ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
          ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
          ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
          ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5))
      ∧ θ_run (Cert.SguBwdRefIdeal.defs (F := Ideal)) (onTc (τ := Cert.SguBwdRefIdeal.τ) (Cert.SguBwdRefIdeal.main (F := Ideal))) ⟨m', fun _ => 0, g'⟩ (fun r => ∀ c : Dev Cert.SguBwdRefIdeal.nD,
          r.2.mem ((c.tc : Thread Cert.SguBwdRefIdeal.nD Cert.SguBwdRefIdeal.τ).loc Cert.SguBwdRefIdeal.main_v148) = v0 c
          ∧ r.2.mem ((c.tc : Thread Cert.SguBwdRefIdeal.nD Cert.SguBwdRefIdeal.τ).loc Cert.SguBwdRefIdeal.main_v150) = v1 c
          ∧ r.2.mem ((c.tc : Thread Cert.SguBwdRefIdeal.nD Cert.SguBwdRefIdeal.τ).loc Cert.SguBwdRefIdeal.main_v152) = v2 c
          ∧ r.2.mem ((c.tc : Thread Cert.SguBwdRefIdeal.nD Cert.SguBwdRefIdeal.τ).loc Cert.SguBwdRefIdeal.main_v153) = v3 c
          ∧ r.2.mem ((c.tc : Thread Cert.SguBwdRefIdeal.nD Cert.SguBwdRefIdeal.τ).loc Cert.SguBwdRefIdeal.main_v154) = v4 c
          ∧ r.2.mem ((c.tc : Thread Cert.SguBwdRefIdeal.nD Cert.SguBwdRefIdeal.τ).loc Cert.SguBwdRefIdeal.main_v92) = v5 c
          ∧ r.2.mem ((c.tc : Thread Cert.SguBwdRefIdeal.nD Cert.SguBwdRefIdeal.τ).loc Cert.SguBwdRefIdeal.main_v156) = v6 c
          ∧ r.2.mem ((c.tc : Thread Cert.SguBwdRefIdeal.nD Cert.SguBwdRefIdeal.τ).loc Cert.SguBwdRefIdeal.main_arg0) = m' ((c.tc : Thread Cert.SguBwdRefIdeal.nD Cert.SguBwdRefIdeal.τ).loc Cert.SguBwdRefIdeal.main_arg0)
          ∧ r.2.mem ((c.tc : Thread Cert.SguBwdRefIdeal.nD Cert.SguBwdRefIdeal.τ).loc Cert.SguBwdRefIdeal.main_arg1) = m' ((c.tc : Thread Cert.SguBwdRefIdeal.nD Cert.SguBwdRefIdeal.τ).loc Cert.SguBwdRefIdeal.main_arg1)
          ∧ r.2.mem ((c.tc : Thread Cert.SguBwdRefIdeal.nD Cert.SguBwdRefIdeal.τ).loc Cert.SguBwdRefIdeal.main_arg2) = m' ((c.tc : Thread Cert.SguBwdRefIdeal.nD Cert.SguBwdRefIdeal.τ).loc Cert.SguBwdRefIdeal.main_arg2)
          ∧ r.2.mem ((c.tc : Thread Cert.SguBwdRefIdeal.nD Cert.SguBwdRefIdeal.τ).loc Cert.SguBwdRefIdeal.main_arg3) = m' ((c.tc : Thread Cert.SguBwdRefIdeal.nD Cert.SguBwdRefIdeal.τ).loc Cert.SguBwdRefIdeal.main_arg3)
          ∧ r.2.mem ((c.tc : Thread Cert.SguBwdRefIdeal.nD Cert.SguBwdRefIdeal.τ).loc Cert.SguBwdRefIdeal.main_arg4) = m' ((c.tc : Thread Cert.SguBwdRefIdeal.nD Cert.SguBwdRefIdeal.τ).loc Cert.SguBwdRefIdeal.main_arg4)
          ∧ r.2.mem ((c.tc : Thread Cert.SguBwdRefIdeal.nD Cert.SguBwdRefIdeal.τ).loc Cert.SguBwdRefIdeal.main_arg5) = m' ((c.tc : Thread Cert.SguBwdRefIdeal.nD Cert.SguBwdRefIdeal.τ).loc Cert.SguBwdRefIdeal.main_arg5))

def Claim : Prop :=
  ∃ (hProjBwd : Cert.ProjBwd.Facts) (hProjBwdIdeal : Cert.ProjBwdIdeal.Facts) (hProjBwdRefIdeal : Cert.ProjBwdRefIdeal.Facts) (hOutBwd : Cert.OutBwd.Facts) (hOutBwdIdeal : Cert.OutBwdIdeal.Facts) (hOutBwdRefIdeal : Cert.OutBwdRefIdeal.Facts) (hAttnBwd : Cert.AttnBwd.Facts) (hAttnBwdIdeal : Cert.AttnBwdIdeal.Facts) (hAttnBwdRefIdeal : Cert.AttnBwdRefIdeal.Facts) (hQPrepBwd : Cert.QPrepBwd.Facts) (hQPrepBwdIdeal : Cert.QPrepBwdIdeal.Facts) (hQPrepBwdRefIdeal : Cert.QPrepBwdRefIdeal.Facts) (hKPrepBwd : Cert.KPrepBwd.Facts) (hKPrepBwdIdeal : Cert.KPrepBwdIdeal.Facts) (hKPrepBwdRefIdeal : Cert.KPrepBwdRefIdeal.Facts) (hConvBwdB : Cert.ConvBwdB.Facts) (hConvBwdBIdeal : Cert.ConvBwdBIdeal.Facts) (hConvBwdBRefIdeal : Cert.ConvBwdBRefIdeal.Facts) (hConvBwdA : Cert.ConvBwdA.Facts) (hConvBwdAIdeal : Cert.ConvBwdAIdeal.Facts) (hConvBwdARefIdeal : Cert.ConvBwdARefIdeal.Facts) (hSguBwd : Cert.SguBwd.Facts) (hSguBwdIdeal : Cert.SguBwdIdeal.Facts) (hSguBwdRefIdeal : Cert.SguBwdRefIdeal.Facts) (hPre_finite_proj_bwd : Cert.Pre_finite_proj_bwd.Facts) (hPre_finite_out_bwd : Cert.Pre_finite_out_bwd.Facts) (hPre_finite_attn_bwd : Cert.Pre_finite_attn_bwd.Facts) (hPre_finite_q_prep_bwd : Cert.Pre_finite_q_prep_bwd.Facts) (hPre_finite_k_prep_bwd : Cert.Pre_finite_k_prep_bwd.Facts) (hPre_finite_conv_bwd_a : Cert.Pre_finite_conv_bwd_a.Facts) (hPre_finite_sgu_bwd : Cert.Pre_finite_sgu_bwd.Facts),
    quiescent_ProjBwd (hProjBwd := hProjBwd)
    ∧ quiescent_ProjBwdIdeal (hProjBwdIdeal := hProjBwdIdeal)
    ∧ quiescent_ProjBwdIdeal_pre_finite_proj_bwd (hProjBwdIdeal := hProjBwdIdeal) (hPre_finite_proj_bwd := hPre_finite_proj_bwd)
    ∧ quiescent_ProjBwdRefIdeal (hProjBwdRefIdeal := hProjBwdRefIdeal)
    ∧ quiescent_ProjBwdRefIdeal_pre_finite_proj_bwd (hProjBwdRefIdeal := hProjBwdRefIdeal) (hPre_finite_proj_bwd := hPre_finite_proj_bwd)
    ∧ quiescent_OutBwd (hOutBwd := hOutBwd)
    ∧ quiescent_OutBwdIdeal (hOutBwdIdeal := hOutBwdIdeal)
    ∧ quiescent_OutBwdIdeal_pre_finite_out_bwd (hOutBwdIdeal := hOutBwdIdeal) (hPre_finite_out_bwd := hPre_finite_out_bwd)
    ∧ quiescent_OutBwdRefIdeal (hOutBwdRefIdeal := hOutBwdRefIdeal)
    ∧ quiescent_OutBwdRefIdeal_pre_finite_out_bwd (hOutBwdRefIdeal := hOutBwdRefIdeal) (hPre_finite_out_bwd := hPre_finite_out_bwd)
    ∧ quiescent_AttnBwd (hAttnBwd := hAttnBwd)
    ∧ quiescent_AttnBwdIdeal (hAttnBwdIdeal := hAttnBwdIdeal)
    ∧ quiescent_AttnBwdIdeal_pre_finite_attn_bwd (hAttnBwdIdeal := hAttnBwdIdeal) (hPre_finite_attn_bwd := hPre_finite_attn_bwd)
    ∧ quiescent_AttnBwdRefIdeal (hAttnBwdRefIdeal := hAttnBwdRefIdeal)
    ∧ quiescent_AttnBwdRefIdeal_pre_finite_attn_bwd (hAttnBwdRefIdeal := hAttnBwdRefIdeal) (hPre_finite_attn_bwd := hPre_finite_attn_bwd)
    ∧ quiescent_QPrepBwd (hQPrepBwd := hQPrepBwd)
    ∧ quiescent_QPrepBwdIdeal (hQPrepBwdIdeal := hQPrepBwdIdeal)
    ∧ quiescent_QPrepBwdIdeal_pre_finite_q_prep_bwd (hQPrepBwdIdeal := hQPrepBwdIdeal) (hPre_finite_q_prep_bwd := hPre_finite_q_prep_bwd)
    ∧ quiescent_QPrepBwdRefIdeal (hQPrepBwdRefIdeal := hQPrepBwdRefIdeal)
    ∧ quiescent_QPrepBwdRefIdeal_pre_finite_q_prep_bwd (hQPrepBwdRefIdeal := hQPrepBwdRefIdeal) (hPre_finite_q_prep_bwd := hPre_finite_q_prep_bwd)
    ∧ quiescent_KPrepBwd (hKPrepBwd := hKPrepBwd)
    ∧ quiescent_KPrepBwdIdeal (hKPrepBwdIdeal := hKPrepBwdIdeal)
    ∧ quiescent_KPrepBwdIdeal_pre_finite_k_prep_bwd (hKPrepBwdIdeal := hKPrepBwdIdeal) (hPre_finite_k_prep_bwd := hPre_finite_k_prep_bwd)
    ∧ quiescent_KPrepBwdRefIdeal (hKPrepBwdRefIdeal := hKPrepBwdRefIdeal)
    ∧ quiescent_KPrepBwdRefIdeal_pre_finite_k_prep_bwd (hKPrepBwdRefIdeal := hKPrepBwdRefIdeal) (hPre_finite_k_prep_bwd := hPre_finite_k_prep_bwd)
    ∧ quiescent_ConvBwdB (hConvBwdB := hConvBwdB)
    ∧ quiescent_ConvBwdBIdeal (hConvBwdBIdeal := hConvBwdBIdeal)
    ∧ quiescent_ConvBwdBRefIdeal (hConvBwdBRefIdeal := hConvBwdBRefIdeal)
    ∧ quiescent_ConvBwdA (hConvBwdA := hConvBwdA)
    ∧ quiescent_ConvBwdAIdeal (hConvBwdAIdeal := hConvBwdAIdeal)
    ∧ quiescent_ConvBwdAIdeal_pre_finite_conv_bwd_a (hConvBwdAIdeal := hConvBwdAIdeal) (hPre_finite_conv_bwd_a := hPre_finite_conv_bwd_a)
    ∧ quiescent_ConvBwdARefIdeal (hConvBwdARefIdeal := hConvBwdARefIdeal)
    ∧ quiescent_ConvBwdARefIdeal_pre_finite_conv_bwd_a (hConvBwdARefIdeal := hConvBwdARefIdeal) (hPre_finite_conv_bwd_a := hPre_finite_conv_bwd_a)
    ∧ quiescent_SguBwd (hSguBwd := hSguBwd)
    ∧ quiescent_SguBwdIdeal (hSguBwdIdeal := hSguBwdIdeal)
    ∧ quiescent_SguBwdIdeal_pre_finite_sgu_bwd (hSguBwdIdeal := hSguBwdIdeal) (hPre_finite_sgu_bwd := hPre_finite_sgu_bwd)
    ∧ quiescent_SguBwdRefIdeal (hSguBwdRefIdeal := hSguBwdRefIdeal)
    ∧ quiescent_SguBwdRefIdeal_pre_finite_sgu_bwd (hSguBwdRefIdeal := hSguBwdRefIdeal) (hPre_finite_sgu_bwd := hPre_finite_sgu_bwd)
    ∧ preserves_ProjBwd_ProjBwdIdeal
    ∧ algebraic_ProjBwdIdeal_ProjBwdRefIdeal_pre_finite_proj_bwd (hProjBwdIdeal := hProjBwdIdeal) (hProjBwdRefIdeal := hProjBwdRefIdeal) (hPre_finite_proj_bwd := hPre_finite_proj_bwd)
    ∧ preserves_OutBwd_OutBwdIdeal
    ∧ algebraic_OutBwdIdeal_OutBwdRefIdeal_pre_finite_out_bwd (hOutBwdIdeal := hOutBwdIdeal) (hOutBwdRefIdeal := hOutBwdRefIdeal) (hPre_finite_out_bwd := hPre_finite_out_bwd)
    ∧ preserves_AttnBwd_AttnBwdIdeal
    ∧ algebraic_AttnBwdIdeal_AttnBwdRefIdeal_pre_finite_attn_bwd (hAttnBwdIdeal := hAttnBwdIdeal) (hAttnBwdRefIdeal := hAttnBwdRefIdeal) (hPre_finite_attn_bwd := hPre_finite_attn_bwd)
    ∧ preserves_QPrepBwd_QPrepBwdIdeal
    ∧ algebraic_QPrepBwdIdeal_QPrepBwdRefIdeal_pre_finite_q_prep_bwd (hQPrepBwdIdeal := hQPrepBwdIdeal) (hQPrepBwdRefIdeal := hQPrepBwdRefIdeal) (hPre_finite_q_prep_bwd := hPre_finite_q_prep_bwd)
    ∧ preserves_KPrepBwd_KPrepBwdIdeal
    ∧ algebraic_KPrepBwdIdeal_KPrepBwdRefIdeal_pre_finite_k_prep_bwd (hKPrepBwdIdeal := hKPrepBwdIdeal) (hKPrepBwdRefIdeal := hKPrepBwdRefIdeal) (hPre_finite_k_prep_bwd := hPre_finite_k_prep_bwd)
    ∧ preserves_ConvBwdB_ConvBwdBIdeal
    ∧ algebraic_ConvBwdBIdeal_ConvBwdBRefIdeal (hConvBwdBIdeal := hConvBwdBIdeal) (hConvBwdBRefIdeal := hConvBwdBRefIdeal)
    ∧ preserves_ConvBwdA_ConvBwdAIdeal
    ∧ algebraic_ConvBwdAIdeal_ConvBwdARefIdeal_pre_finite_conv_bwd_a (hConvBwdAIdeal := hConvBwdAIdeal) (hConvBwdARefIdeal := hConvBwdARefIdeal) (hPre_finite_conv_bwd_a := hPre_finite_conv_bwd_a)
    ∧ preserves_SguBwd_SguBwdIdeal
    ∧ algebraic_SguBwdIdeal_SguBwdRefIdeal_pre_finite_sgu_bwd (hSguBwdIdeal := hSguBwdIdeal) (hSguBwdRefIdeal := hSguBwdRefIdeal) (hPre_finite_sgu_bwd := hPre_finite_sgu_bwd)
-- ==== Pre_finite_attn_bwd.lean ====
abbrev S1x16384x8x64 : Shape := ⟨4, ![1, 16384, 8, 64]⟩
abbrev S1x16384x2x64 : Shape := ⟨4, ![1, 16384, 2, 64]⟩
abbrev S1x16384x512 : Shape := ⟨3, ![1, 16384, 512]⟩
abbrev S_ : Shape := ⟨0, ![]⟩

class Facts : Prop where
  bcast_S_S1x16384x8x64 : S_.BroadcastsInDim S1x16384x8x64 (![] : Fin 0 → Fin S1x16384x8x64.rank)
  reducesTo_S1x16384x8x64_S_d0_1_2_3 : S1x16384x8x64.ReducesTo [0, 1, 2, 3] S_
  h_S_ : 0 < S_.numel
  bcast_S_S1x16384x2x64 : S_.BroadcastsInDim S1x16384x2x64 (![] : Fin 0 → Fin S1x16384x2x64.rank)
  reducesTo_S1x16384x2x64_S_d0_1_2_3 : S1x16384x2x64.ReducesTo [0, 1, 2, 3] S_
  bcast_S_S1x16384x512 : S_.BroadcastsInDim S1x16384x512 (![] : Fin 0 → Fin S1x16384x512.rank)
  reducesTo_S1x16384x512_S_d0_1_2 : S1x16384x512.ReducesTo [0, 1, 2] S_

variable [Facts]

def fn_part1 {F : FTy → Type} [FloatOps F] (main_v13 : IVec S_ 1) (main_v16 : IVec S1x16384x512 1) : IVec S_ 1 :=
  let main_c_5 : IVec S_ 1 := constantI S_ 1 1#1
  let main_v17 : IVec S_ 1 := (fun x v => Host.reduce IntOp.andi x v reducesTo_S1x16384x512_S_d0_1_2 h_S_) main_v16 main_c_5
  let main_v18 : IVec S_ 1 := andi main_v13 main_v17
  main_v18

def fn {F : FTy → Type} [FloatOps F] (main_arg0 : FVec F S1x16384x8x64 .f32) (main_arg1 : FVec F S1x16384x2x64 .f32) (main_arg2 : FVec F S1x16384x2x64 .f32) (main_arg3 : FVec F S1x16384x512 .f32) : IVec S_ 1 :=
  let main_v0 : FVec F S1x16384x8x64 .f32 := Host.absf main_arg0
  let main_cst : FVec F S_ .f32 := constant S_ .f32 0x7F800000#32
  let main_v1 : FVec F S1x16384x8x64 .f32 := broadcastInDim S1x16384x8x64 ![] bcast_S_S1x16384x8x64 main_cst
  let main_v2 : IVec S1x16384x8x64 1 := cmpf .olt main_v0 main_v1
  let main_c : IVec S_ 1 := constantI S_ 1 1#1
  let main_v3 : IVec S_ 1 := (fun x v => Host.reduce IntOp.andi x v reducesTo_S1x16384x8x64_S_d0_1_2_3 h_S_) main_v2 main_c
  let main_v4 : FVec F S1x16384x2x64 .f32 := Host.absf main_arg1
  let main_cst_0 : FVec F S_ .f32 := constant S_ .f32 0x7F800000#32
  let main_v5 : FVec F S1x16384x2x64 .f32 := broadcastInDim S1x16384x2x64 ![] bcast_S_S1x16384x2x64 main_cst_0
  let main_v6 : IVec S1x16384x2x64 1 := cmpf .olt main_v4 main_v5
  let main_c_1 : IVec S_ 1 := constantI S_ 1 1#1
  let main_v7 : IVec S_ 1 := (fun x v => Host.reduce IntOp.andi x v reducesTo_S1x16384x2x64_S_d0_1_2_3 h_S_) main_v6 main_c_1
  let main_v8 : IVec S_ 1 := andi main_v3 main_v7
  let main_v9 : FVec F S1x16384x2x64 .f32 := Host.absf main_arg2
  let main_cst_2 : FVec F S_ .f32 := constant S_ .f32 0x7F800000#32
  let main_v10 : FVec F S1x16384x2x64 .f32 := broadcastInDim S1x16384x2x64 ![] bcast_S_S1x16384x2x64 main_cst_2
  let main_v11 : IVec S1x16384x2x64 1 := cmpf .olt main_v9 main_v10
  let main_c_3 : IVec S_ 1 := constantI S_ 1 1#1
  let main_v12 : IVec S_ 1 := (fun x v => Host.reduce IntOp.andi x v reducesTo_S1x16384x2x64_S_d0_1_2_3 h_S_) main_v11 main_c_3
  let main_v13 : IVec S_ 1 := andi main_v8 main_v12
  let main_v14 : FVec F S1x16384x512 .f32 := Host.absf main_arg3
  let main_cst_4 : FVec F S_ .f32 := constant S_ .f32 0x7F800000#32
  let main_v15 : FVec F S1x16384x512 .f32 := broadcastInDim S1x16384x512 ![] bcast_S_S1x16384x512 main_cst_4
  let main_v16 : IVec S1x16384x512 1 := cmpf .olt main_v14 main_v15
  fn_part1 (F := F) main_v13 main_v16
-- ==== Pre_finite_conv_bwd_a.lean ====
abbrev S1x16384x2816 : Shape := ⟨3, ![1, 16384, 2816]⟩
abbrev S31x256 : Shape := ⟨2, ![31, 256]⟩
abbrev S256 : Shape := ⟨1, ![256]⟩
abbrev S1x16384x256 : Shape := ⟨3, ![1, 16384, 256]⟩
abbrev S_ : Shape := ⟨0, ![]⟩

class Facts : Prop where
  bcast_S_S1x16384x2816 : S_.BroadcastsInDim S1x16384x2816 (![] : Fin 0 → Fin S1x16384x2816.rank)
  reducesTo_S1x16384x2816_S_d0_1_2 : S1x16384x2816.ReducesTo [0, 1, 2] S_
  h_S_ : 0 < S_.numel
  bcast_S_S31x256 : S_.BroadcastsInDim S31x256 (![] : Fin 0 → Fin S31x256.rank)
  reducesTo_S31x256_S_d0_1 : S31x256.ReducesTo [0, 1] S_
  bcast_S_S256 : S_.BroadcastsInDim S256 (![] : Fin 0 → Fin S256.rank)
  reducesTo_S256_S_d0 : S256.ReducesTo [0] S_
  bcast_S_S1x16384x256 : S_.BroadcastsInDim S1x16384x256 (![] : Fin 0 → Fin S1x16384x256.rank)
  reducesTo_S1x16384x256_S_d0_1_2 : S1x16384x256.ReducesTo [0, 1, 2] S_

variable [Facts]

def fn_part1 {F : FTy → Type} [FloatOps F] (main_arg4 : FVec F S256 .f32) (main_arg5 : FVec F S1x16384x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S1x16384x256 .f32 := Host.absf main_arg5
  let main_cst_8 : FVec F S_ .f32 := constant S_ .f32 0x7F800000#32
  let main_v25 : FVec F S1x16384x256 .f32 := broadcastInDim S1x16384x256 ![] bcast_S_S1x16384x256 main_cst_8
  let main_v26 : IVec S1x16384x256 1 := cmpf .olt main_v24 main_v25
  let main_c_9 : IVec S_ 1 := constantI S_ 1 1#1
  let main_v27 : IVec S_ 1 := (fun x v => Host.reduce IntOp.andi x v reducesTo_S1x16384x256_S_d0_1_2 h_S_) main_v26 main_c_9
  let main_v28 : IVec S_ 1 := andi main_v23 main_v27
  main_v28

def fn {F : FTy → Type} [FloatOps F] (main_arg0 : FVec F S1x16384x2816 .f32) (main_arg1 : FVec F S31x256 .f32) (main_arg2 : FVec F S256 .f32) (main_arg3 : FVec F S256 .f32) (main_arg4 : FVec F S256 .f32) (main_arg5 : FVec F S1x16384x256 .f32) : IVec S_ 1 :=
  let main_v0 : FVec F S1x16384x2816 .f32 := Host.absf main_arg0
  let main_cst : FVec F S_ .f32 := constant S_ .f32 0x7F800000#32
  let main_v1 : FVec F S1x16384x2816 .f32 := broadcastInDim S1x16384x2816 ![] bcast_S_S1x16384x2816 main_cst
  let main_v2 : IVec S1x16384x2816 1 := cmpf .olt main_v0 main_v1
  let main_c : IVec S_ 1 := constantI S_ 1 1#1
  let main_v3 : IVec S_ 1 := (fun x v => Host.reduce IntOp.andi x v reducesTo_S1x16384x2816_S_d0_1_2 h_S_) main_v2 main_c
  let main_v4 : FVec F S31x256 .f32 := Host.absf main_arg1
  let main_cst_0 : FVec F S_ .f32 := constant S_ .f32 0x7F800000#32
  let main_v5 : FVec F S31x256 .f32 := broadcastInDim S31x256 ![] bcast_S_S31x256 main_cst_0
  let main_v6 : IVec S31x256 1 := cmpf .olt main_v4 main_v5
  let main_c_1 : IVec S_ 1 := constantI S_ 1 1#1
  let main_v7 : IVec S_ 1 := (fun x v => Host.reduce IntOp.andi x v reducesTo_S31x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Pre_finite_k_prep_bwd.lean ====
abbrev S1x16384x2816 : Shape := ⟨3, ![1, 16384, 2816]⟩
abbrev S64 : Shape := ⟨1, ![64]⟩
abbrev S1x16384x2x64 : Shape := ⟨4, ![1, 16384, 2, 64]⟩
abbrev S_ : Shape := ⟨0, ![]⟩

class Facts : Prop where
  bcast_S_S1x16384x2816 : S_.BroadcastsInDim S1x16384x2816 (![] : Fin 0 → Fin S1x16384x2816.rank)
  reducesTo_S1x16384x2816_S_d0_1_2 : S1x16384x2816.ReducesTo [0, 1, 2] S_
  h_S_ : 0 < S_.numel
  bcast_S_S64 : S_.BroadcastsInDim S64 (![] : Fin 0 → Fin S64.rank)
  reducesTo_S64_S_d0 : S64.ReducesTo [0] S_
  bcast_S_S1x16384x2x64 : S_.BroadcastsInDim S1x16384x2x64 (![] : Fin 0 → Fin S1x16384x2x64.rank)
  reducesTo_S1x16384x2x64_S_d0_1_2_3 : S1x16384x2x64.ReducesTo [0, 1, 2, 3] S_

variable [Facts]

def fn {F : FTy → Type} [FloatOps F] (main_arg0 : FVec F S1x16384x2816 .f32) (main_arg1 : FVec F S64 .f32) (main_arg2 : FVec F S1x16384x2x64 .f32) : IVec S_ 1 :=
  let main_v0 : FVec F S1x16384x2816 .f32 := Host.absf main_arg0
  let main_cst : FVec F S_ .f32 := constant S_ .f32 0x7F800000#32
  let main_v1 : FVec F S1x16384x2816 .f32 := broadcastInDim S1x16384x2816 ![] bcast_S_S1x16384x2816 main_cst
  let main_v2 : IVec S1x16384x2816 1 := cmpf .olt main_v0 main_v1
  let main_c : IVec S_ 1 := constantI S_ 1 1#1
  let main_v3 : IVec S_ 1 := (fun x v => Host.reduce IntOp.andi x v reducesTo_S1x16384x2816_S_d0_1_2 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S1x16384x2x64 .f32 := Host.absf main_arg2
  let main_cst_2 : FVec F S_ .f32 := constant S_ .f32 0x7F800000#32
  let main_v10 : FVec F S1x16384x2x64 .f32 := broadcastInDim S1x16384x2x64 ![] bcast_S_S1x16384x2x64 main_cst_2
  let main_v11 : IVec S1x16384x2x64 1 := cmpf .olt main_v9 main_v10
  let main_c_3 : IVec S_ 1 := constantI S_ 1 1#1
  let main_v12 : IVec S_ 1 := (fun x v => Host.reduce IntOp.andi x v reducesTo_S1x16384x2x64_S_d0_1_2_3 h_S_) main_v11 main_c_3
  let main_v13 : IVec S_ 1 := andi main_v8 main_v12
  main_v13
-- ==== Pre_finite_out_bwd.lean ====
abbrev S1x16384x512 : Shape := ⟨3, ![1, 16384, 512]⟩
abbrev S1x16384x2816 : Shape := ⟨3, ![1, 16384, 2816]⟩
abbrev S1x16384x256 : Shape := ⟨3, ![1, 16384, 256]⟩
abbrev S1024x1024 : Shape := ⟨2, ![1024, 1024]⟩
abbrev S1024 : Shape := ⟨1, ![1024]⟩
abbrev S1x16384x1024 : Shape := ⟨3, ![1, 16384, 1024]⟩
abbrev S_ : Shape := ⟨0, ![]⟩

class Facts : Prop where
  bcast_S_S1x16384x512 : S_.BroadcastsInDim S1x16384x512 (![] : Fin 0 → Fin S1x16384x512.rank)
  reducesTo_S1x16384x512_S_d0_1_2 : S1x16384x512.ReducesTo [0, 1, 2] S_
  h_S_ : 0 < S_.numel
  bcast_S_S1x16384x2816 : S_.BroadcastsInDim S1x16384x2816 (![] : Fin 0 → Fin S1x16384x2816.rank)
  reducesTo_S1x16384x2816_S_d0_1_2 : S1x16384x2816.ReducesTo [0, 1, 2] S_
  bcast_S_S1x16384x256 : S_.BroadcastsInDim S1x16384x256 (![] : Fin 0 → Fin S1x16384x256.rank)
  reducesTo_S1x16384x256_S_d0_1_2 : S1x16384x256.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1x16384x1024 : S_.BroadcastsInDim S1x16384x1024 (![] : Fin 0 → Fin S1x16384x1024.rank)
  reducesTo_S1x16384x1024_S_d0_1_2 : S1x16384x1024.ReducesTo [0, 1, 2] S_

variable [Facts]

def fn_part1 {F : FTy → Type} [FloatOps F] (main_arg4 : FVec F S1024x1024 .f32) (main_arg5 : FVec F S1024 .f32) (main_arg6 : FVec F S1x16384x1024 .f32) (main_v13 : IVec S_ 1) (main_v16 : IVec S1x16384x256 1) : IVec S_ 1 :=
  let main_c_5 : IVec S_ 1 := constantI S_ 1 1#1
  let main_v17 : IVec S_ 1 := (fun x v => Host.reduce IntOp.andi x v reducesTo_S1x16384x256_S_d0_1_2 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1x16384x1024 .f32 := Host.absf main_arg6
  let main_cst_10 : FVec F S_ .f32 := constant S_ .f32 0x7F800000#32
  let main_v30 : FVec F S1x16384x1024 .f32 := broadcastInDim S1x16384x1024 ![] bcast_S_S1x16384x1024 main_cst_10
  let main_v31 : IVec S1x16384x1024 1 := cmpf .olt main_v29 main_v30
  let main_c_11 : IVec S_ 1 := constantI S_ 1 1#1
  let main_v32 : IVec S_ 1 := (fun x v => Host.reduce IntOp.andi x v reducesTo_S1x16384x1024_S_d0_1_2 h_S_) main_v31 main_c_11
  let main_v33 : IVec S_ 1 := andi main_v28 main_v32
  main_v33

def fn {F : FTy → Type} [FloatOps F] (main_arg0 : FVec F S1x16384x512 .f32) (main_arg1 : FVec F S1x16384x2816 .f32) (main_arg2 : FVec F S1x16384x256 .f32) (main_arg3 : FVec F S1x16384x256 .f32) (main_arg4 : FVec F S1024x1024 .f32) (main_arg5 : FVec F S1024 .f32) (main_arg6 : FVec F S1x16384x1024 .f32) : IVec S_ 1 :=
  let main_v0 : FVec F S1x16384x512 .f32 := Host.absf main_arg0
  let main_cst : FVec F S_ .f32 := constant S_ .f32 0x7F800000#32
  let main_v1 : FVec F S1x16384x512 .f32 := broadcastInDim S1x16384x512 ![] bcast_S_S1x16384x512 main_cst
  let main_v2 : IVec S1x16384x512 1 := cmpf .olt main_v0 main_v1
  let main_c : IVec S_ 1 := constantI S_ 1 1#1
  let main_v3 : IVec S_ 1 := (fun x v => Host.reduce IntOp.andi x v reducesTo_S1x16384x512_S_d0_1_2 h_S_) main_v2 main_c
  let main_v4 : FVec F S1x16384x2816 .f32 := Host.absf main_arg1
  let main_cst_0 : FVec F S_ .f32 := constant S_ .f32 0x7F800000#32
  let main_v5 : FVec F S1x16384x2816 .f32 := broadcastInDim S1x16384x2816 ![] bcast_S_S1x16384x2816 main_cst_0
  let main_v6 : IVec S1x16384x2816 1 := cmpf .olt main_v4 main_v5
  let main_c_1 : IVec S_ 1 := constantI S_ 1 1#1
  let main_v7 : IVec S_ 1 := (fun x v => Host.reduce IntOp.andi x v reducesTo_S1x16384x2816_S_d0_1_2 h_S_) main_v6 main_c_1
  let main_v8 : IVec S_ 1 := andi main_v3 main_v7
  let main_v9 : FVec F S1x16384x256 .f32 := Host.absf main_arg2
  let main_cst_2 : FVec F S_ .f32 := constant S_ .f32 0x7F800000#32
  let main_v10 : FVec F S1x16384x256 .f32 := broadcastInDim S1x16384x256 ![] bcast_S_S1x16384x256 main_cst_2
  let main_v11 : IVec S1x16384x256 1 := cmpf .olt main_v9 main_v10
  let main_c_3 : IVec S_ 1 := constantI S_ 1 1#1
  let main_v12 : IVec S_ 1 := (fun x v => Host.reduce IntOp.andi x v reducesTo_S1x16384x256_S_d0_1_2 h_S_) main_v11 main_c_3
  let main_v13 : IVec S_ 1 := andi main_v8 main_v12
  let main_v14 : FVec F S1x16384x256 .f32 := Host.absf main_arg3
  let main_cst_4 : FVec F S_ .f32 := constant S_ .f32 0x7F800000#32
  let main_v15 : FVec F S1x16384x256 .f32 := broadcastInDim S1x16384x256 ![] bcast_S_S1x16384x256 main_cst_4
  let main_v16 : IVec S1x16384x256 1 := cmpf .olt main_v14 main_v15
  fn_part1 (F := F) main_arg4 main_arg5 main_arg6 main_v13 main_v16
-- ==== Pre_finite_proj_bwd.lean ====
abbrev S1x16384x1024 : Shape := ⟨3, ![1, 16384, 1024]⟩
abbrev S1024 : Shape := ⟨1, ![1024]⟩
abbrev S1024x2816 : Shape := ⟨2, ![1024, 2816]⟩
abbrev S1x16384x2816 : Shape := ⟨3, ![1, 16384, 2816]⟩
abbrev S_ : Shape := ⟨0, ![]⟩

class Facts : Prop where
  bcast_S_S1x16384x1024 : S_.BroadcastsInDim S1x16384x1024 (![] : Fin 0 → Fin S1x16384x1024.rank)
  reducesTo_S1x16384x1024_S_d0_1_2 : S1x16384x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S1x16384x2816 : S_.BroadcastsInDim S1x16384x2816 (![] : Fin 0 → Fin S1x16384x2816.rank)
  reducesTo_S1x16384x2816_S_d0_1_2 : S1x16384x2816.ReducesTo [0, 1, 2] S_

variable [Facts]

def fn_part1 {F : FTy → Type} [FloatOps F] (main_v13 : IVec S_ 1) (main_v16 : IVec S1x16384x2816 1) : IVec S_ 1 :=
  let main_c_5 : IVec S_ 1 := constantI S_ 1 1#1
  let main_v17 : IVec S_ 1 := (fun x v => Host.reduce IntOp.andi x v reducesTo_S1x16384x2816_S_d0_1_2 h_S_) main_v16 main_c_5
  let main_v18 : IVec S_ 1 := andi main_v13 main_v17
  main_v18

def fn {F : FTy → Type} [FloatOps F] (main_arg0 : FVec F S1x16384x1024 .f32) (main_arg1 : FVec F S1024 .f32) (main_arg2 : FVec F S1024x2816 .f32) (main_arg3 : FVec F S1x16384x1024 .f32) (main_arg4 : FVec F S1x16384x2816 .f32) : IVec S_ 1 :=
  let main_v0 : FVec F S1x16384x1024 .f32 := Host.absf main_arg0
  let main_cst : FVec F S_ .f32 := constant S_ .f32 0x7F800000#32
  let main_v1 : FVec F S1x16384x1024 .f32 := broadcastInDim S1x16384x1024 ![] bcast_S_S1x16384x1024 main_cst
  let main_v2 : IVec S1x16384x1024 1 := cmpf .olt main_v0 main_v1
  let main_c : IVec S_ 1 := constantI S_ 1 1#1
  let main_v3 : IVec S_ 1 := (fun x v => Host.reduce IntOp.andi x v reducesTo_S1x16384x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1x16384x2816 .f32 := Host.absf main_arg4
  let main_cst_4 : FVec F S_ .f32 := constant S_ .f32 0x7F800000#32
  let main_v15 : FVec F S1x16384x2816 .f32 := broadcastInDim S1x16384x2816 ![] bcast_S_S1x16384x2816 main_cst_4
  let main_v16 : IVec S1x16384x2816 1 := cmpf .olt main_v14 main_v15
  fn_part1 (F := F) main_v13 main_v16
-- ==== Pre_finite_q_prep_bwd.lean ====
abbrev S1x16384x2816 : Shape := ⟨3, ![1, 16384, 2816]⟩
abbrev S64 : Shape := ⟨1, ![64]⟩
abbrev S1x16384x8x64 : Shape := ⟨4, ![1, 16384, 8, 64]⟩
abbrev S_ : Shape := ⟨0, ![]⟩

class Facts : Prop where
  bcast_S_S1x16384x2816 : S_.BroadcastsInDim S1x16384x2816 (![] : Fin 0 → Fin S1x16384x2816.rank)
  reducesTo_S1x16384x2816_S_d0_1_2 : S1x16384x2816.ReducesTo [0, 1, 2] S_
  h_S_ : 0 < S_.numel
  bcast_S_S64 : S_.BroadcastsInDim S64 (![] : Fin 0 → Fin S64.rank)
  reducesTo_S64_S_d0 : S64.ReducesTo [0] S_
  bcast_S_S1x16384x8x64 : S_.BroadcastsInDim S1x16384x8x64 (![] : Fin 0 → Fin S1x16384x8x64.rank)
  reducesTo_S1x16384x8x64_S_d0_1_2_3 : S1x16384x8x64.ReducesTo [0, 1, 2, 3] S_

variable [Facts]

def fn {F : FTy → Type} [FloatOps F] (main_arg0 : FVec F S1x16384x2816 .f32) (main_arg1 : FVec F S64 .f32) (main_arg2 : FVec F S1x16384x8x64 .f32) : IVec S_ 1 :=
  let main_v0 : FVec F S1x16384x2816 .f32 := Host.absf main_arg0
  let main_cst : FVec F S_ .f32 := constant S_ .f32 0x7F800000#32
  let main_v1 : FVec F S1x16384x2816 .f32 := broadcastInDim S1x16384x2816 ![] bcast_S_S1x16384x2816 main_cst
  let main_v2 : IVec S1x16384x2816 1 := cmpf .olt main_v0 main_v1
  let main_c : IVec S_ 1 := constantI S_ 1 1#1
  let main_v3 : IVec S_ 1 := (fun x v => Host.reduce IntOp.andi x v reducesTo_S1x16384x2816_S_d0_1_2 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S1x16384x8x64 .f32 := Host.absf main_arg2
  let main_cst_2 : FVec F S_ .f32 := constant S_ .f32 0x7F800000#32
  let main_v10 : FVec F S1x16384x8x64 .f32 := broadcastInDim S1x16384x8x64 ![] bcast_S_S1x16384x8x64 main_cst_2
  let main_v11 : IVec S1x16384x8x64 1 := cmpf .olt main_v9 main_v10
  let main_c_3 : IVec S_ 1 := constantI S_ 1 1#1
  let main_v12 : IVec S_ 1 := (fun x v => Host.reduce IntOp.andi x v reducesTo_S1x16384x8x64_S_d0_1_2_3 h_S_) main_v11 main_c_3
  let main_v13 : IVec S_ 1 := andi main_v8 main_v12
  main_v13
-- ==== Pre_finite_sgu_bwd.lean ====
abbrev S1x16384x2816 : Shape := ⟨3, ![1, 16384, 2816]⟩
abbrev S256 : Shape := ⟨1, ![256]⟩
abbrev S4x128x128 : Shape := ⟨3, ![4, 128, 128]⟩
abbrev S4x128 : Shape := ⟨2, ![4, 128]⟩
abbrev S1x16384x256 : Shape := ⟨3, ![1, 16384, 256]⟩
abbrev S_ : Shape := ⟨0, ![]⟩

class Facts : Prop where
  bcast_S_S1x16384x2816 : S_.BroadcastsInDim S1x16384x2816 (![] : Fin 0 → Fin S1x16384x2816.rank)
  reducesTo_S1x16384x2816_S_d0_1_2 : S1x16384x2816.ReducesTo [0, 1, 2] S_
  h_S_ : 0 < S_.numel
  bcast_S_S256 : S_.BroadcastsInDim S256 (![] : Fin 0 → Fin S256.rank)
  reducesTo_S256_S_d0 : S256.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S1x16384x256 : S_.BroadcastsInDim S1x16384x256 (![] : Fin 0 → Fin S1x16384x256.rank)
  reducesTo_S1x16384x256_S_d0_1_2 : S1x16384x256.ReducesTo [0, 1, 2] S_

variable [Facts]

def fn_part1 {F : FTy → Type} [FloatOps F] (main_arg4 : FVec F S4x128 .f32) (main_arg5 : FVec F S1x16384x256 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg4
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S1x16384x256 .f32 := Host.absf main_arg5
  let main_cst_8 : FVec F S_ .f32 := constant S_ .f32 0x7F800000#32
  let main_v25 : FVec F S1x16384x256 .f32 := broadcastInDim S1x16384x256 ![] bcast_S_S1x16384x256 main_cst_8
  let main_v26 : IVec S1x16384x256 1 := cmpf .olt main_v24 main_v25
  let main_c_9 : IVec S_ 1 := constantI S_ 1 1#1
  let main_v27 : IVec S_ 1 := (fun x v => Host.reduce IntOp.andi x v reducesTo_S1x16384x256_S_d0_1_2 h_S_) main_v26 main_c_9
  let main_v28 : IVec S_ 1 := andi main_v23 main_v27
  main_v28

def fn {F : FTy → Type} [FloatOps F] (main_arg0 : FVec F S1x16384x2816 .f32) (main_arg1 : FVec F S256 .f32) (main_arg2 : FVec F S256 .f32) (main_arg3 : FVec F S4x128x128 .f32) (main_arg4 : FVec F S4x128 .f32) (main_arg5 : FVec F S1x16384x256 .f32) : IVec S_ 1 :=
  let main_v0 : FVec F S1x16384x2816 .f32 := Host.absf main_arg0
  let main_cst : FVec F S_ .f32 := constant S_ .f32 0x7F800000#32
  let main_v1 : FVec F S1x16384x2816 .f32 := broadcastInDim S1x16384x2816 ![] bcast_S_S1x16384x2816 main_cst
  let main_v2 : IVec S1x16384x2816 1 := cmpf .olt main_v0 main_v1
  let main_c : IVec S_ 1 := constantI S_ 1 1#1
  let main_v3 : IVec S_ 1 := (fun x v => Host.reduce IntOp.andi x v reducesTo_S1x16384x2816_S_d0_1_2 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S4x128x128 .f32 := Host.absf main_arg3
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg4 main_arg5 main_v13 main_v16
-- ==== ProjBwd.lean ====
abbrev S1x16384x1024 : Shape := ⟨3, ![1, 16384, 1024]⟩
abbrev S1024 : Shape := ⟨1, ![1024]⟩
abbrev S1024x2816 : Shape := ⟨2, ![1024, 2816]⟩
abbrev S1x16384x2816 : Shape := ⟨3, ![1, 16384, 2816]⟩
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 11
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1024x2816, .f32⟩
  | .hbm, ⟨3, _⟩ => ⟨S1x16384x1024, .f32⟩
  | .hbm, ⟨4, _⟩ => ⟨S1x16384x2816, .f32⟩
  | .hbm, ⟨5, _⟩ => ⟨S16384x2816, .f32⟩
  | .hbm, ⟨6, _⟩ => ⟨S16384x2816, .bf16⟩
  | .hbm, ⟨7, _⟩ => ⟨S1024x2816, .bf16⟩
  | .hbm, ⟨8, _⟩ => ⟨S2816x1024, .bf16⟩
  | .hbm, ⟨9, _⟩ => ⟨S16384x1024, .f32⟩
  | .hbm, ⟨10, _⟩ => ⟨S1x1024, .f32⟩
  | .hbm, ⟨11, _⟩ => ⟨S16384x1024, .f32⟩
  | .hbm, ⟨12, _⟩ => ⟨S16384x1024, .f32⟩
  | .hbm, ⟨13, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ProjBwdRefIdeal.lean ====
abbrev S1x16384x1024 : Shape := ⟨3, ![1, 16384, 1024]⟩
abbrev S1024 : Shape := ⟨1, ![1024]⟩
abbrev S1024x2816 : Shape := ⟨2, ![1024, 2816]⟩
abbrev S1x16384x2816 : Shape := ⟨3, ![1, 16384, 2816]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x1024 : Shape := ⟨2, ![1, 1024]⟩
abbrev S16384 : Shape := ⟨1, ![16384]⟩
abbrev S16384x1024 : Shape := ⟨2, ![16384, 1024]⟩

abbrev nBuf : Space → Nat
  | .hbm => 56
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1024x2816, .f32⟩
  | .hbm, ⟨3, _⟩ => ⟨S1x16384x1024, .f32⟩
  | .hbm, ⟨4, _⟩ => ⟨S1x16384x2816, .f32⟩
  | .hbm, ⟨5, _⟩ => ⟨S1x16384x1024, .f32⟩
  | .hbm, ⟨6, _⟩ => ⟨S_, .f32⟩
  | .hbm, ⟨7, _⟩ => ⟨S1x16384, .f32⟩
  | .hbm, ⟨8, _⟩ => ⟨S1x16384x1, .f32⟩
  | .hbm, ⟨9, _⟩ => ⟨S_, .f32⟩
  | .hbm, ⟨10, _⟩ => ⟨S1x16384x1, .f32⟩
  | .hbm, ⟨11, _⟩ => ⟨S1x16384x1, .f32⟩
  | .hbm, ⟨12, _⟩ => ⟨S_, .f32⟩
  | .hbm, ⟨13, _⟩ => ⟨S1x16384x1, .f32⟩
  | .hbm, ⟨14, _⟩ => ⟨S1x16384x1, .f32⟩
  | .hbm, ⟨15, _⟩ => ⟨S1x16384x1, .f32⟩
  | .hbm, ⟨16, _⟩ => ⟨S1x16384x1, .f32⟩
  | .hbm, ⟨17, _⟩ => ⟨S_, .f32⟩
  | .hbm, ⟨18, _⟩ => ⟨S1x16384x1, .f32⟩
  | .hbm, ⟨19, _⟩ => ⟨S1x16384x1, .f32⟩
  | .hbm, ⟨20, _⟩ => ⟨S1x16384x1024, .f32⟩
  | .hbm, ⟨21, _⟩ => ⟨S1x16384x1024, .f32⟩
  | .hbm, ⟨22, _⟩ => ⟨S1x1x1024, .f32⟩
  | .hbm, ⟨23, _⟩ => ⟨S1x16384x1024, .f32⟩
  | .hbm, ⟨24, _⟩ => ⟨S1x16384x1024, .f32⟩
  | .hbm, ⟨25, _⟩ => ⟨S1x16384x2816, .f32⟩
  | .hbm, ⟨26, _⟩ => ⟨S1x16384x1024, .f32⟩
  | .hbm, ⟨27, _⟩ => ⟨S1x16384x1024, .f32⟩
  | .hbm, ⟨28, _⟩ => ⟨S_, .f32⟩
  | .hbm, ⟨29, _⟩ => ⟨S1x1024, .f32⟩
  | .hbm, ⟨30, _⟩ => ⟨S1x1x1024, .f32⟩
  | .hbm, ⟨31, _⟩ => ⟨S1x16384x1024, .f32⟩
  | .hbm, ⟨32, _⟩ => ⟨S1x16384x1024, .f32⟩
  | .hbm, ⟨33, _⟩ => ⟨S_, .f32⟩
  | .hbm, ⟨34, _⟩ => ⟨S1024, .f32⟩
  | .hbm, ⟨35, _⟩ => ⟨S1x16384x1024, .f32⟩
  | .hbm, ⟨36, _⟩ => ⟨S_, .f32⟩
  | .hbm, ⟨37, _⟩ => ⟨S1x16384, .f32⟩
  | .hbm, ⟨38, _⟩ => ⟨S1x16384x1, .f32⟩
  | .hbm, ⟨39, _⟩ => ⟨S1x16384x1024, .f32⟩
  | .hbm, ⟨40, _⟩ => ⟨S1x16384x1024, .f32⟩
  | .hbm, ⟨41, _⟩ => ⟨S1x16384x1024, .f32⟩
  | .hbm, ⟨42, _⟩ => ⟨S1x16384x1, .f32⟩
  | .hbm, ⟨43, _⟩ => ⟨S_, .f32⟩
  | .hbm, ⟨44, _⟩ => ⟨S1x16384x1, .f32⟩
  | .hbm, ⟨45, _⟩ => ⟨S1x16384x1, .f32⟩
  | .hbm, ⟨46, _⟩ => ⟨S_, .f32⟩
  | .hbm, ⟨47, _⟩ => ⟨S16384, .f32⟩
  | .hbm, ⟨48, _⟩ => ⟨S1x16384, .f32⟩
  | .hbm, ⟨49, _⟩ => ⟨S1x16384x1024, .f32⟩
  | .hbm, ⟨50, _⟩ => ⟨S1x16384x1024, .f32⟩
  | .hbm, ⟨51, _⟩ => ⟨S1x16384x1024, .f32⟩
  | .hbm, ⟨52, _⟩ => ⟨S1x16384x1024, .f32⟩
  | .hbm, ⟨53, _⟩ => ⟨S1x16384x1024, .f32⟩
  | .hbm, ⟨54, _⟩ => ⟨S16384x1024, .f32⟩
  | .hbm, ⟨55, _⟩ => ⟨S1x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== OutBwd.lean ====
abbrev S1x16384x512 : Shape := ⟨3, ![1, 16384, 512]⟩
abbrev S1x16384x2816 : Shape := ⟨3, ![1, 16384, 2816]⟩
abbrev S1x16384x256 : Shape := ⟨3, ![1, 16384, 256]⟩
abbrev S1024x1024 : Shape := ⟨2, ![1024, 1024]⟩
abbrev S1024 : Shape := ⟨1, ![1024]⟩
abbrev S1x16384x1024 : Shape := ⟨3, ![1, 16384, 1024]⟩
abbrev S1x16384x128 : Shape := ⟨3, ![1, 16384, 128]⟩
abbrev S_ : Shape := ⟨0, ![]⟩
abbrev S16384x1024 : Shape := ⟨2, ![16384, 1024]⟩
abbrev S1x1024 : Shape := ⟨2, ![1, 1024]⟩
abbrev S16384x512 : Shape := ⟨2, ![16384, 512]⟩
abbrev S512x16384 : Shape := ⟨2, ![512, 16384]⟩
abbrev S16384x2816 : Shape := ⟨2, ![16384, 2816]⟩
abbrev S16384x256 : Shape := ⟨2, ![16384, 256]⟩
abbrev S512x1024 : Shape := ⟨2, ![512, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 42
  | .vmem => 23
  | .smem => 0
  | _ => 0

abbrev bufTy : (tb : Table) → Fin (tcTables nBuf tb) → BufTy
  | .hbm, ⟨0, _⟩ => ⟨S1x16384x512, .f32⟩
  | .hbm, ⟨1, _⟩ => ⟨S1x16384x2816, .f32⟩
  | .hbm, ⟨2, _⟩ => ⟨S1x16384x256, .f32⟩
  | .hbm, ⟨3, _⟩ => ⟨S1x16384x256, .f32⟩
  | .hbm, ⟨4, _⟩ => ⟨S1024x1024, .f32⟩
  | .hbm, ⟨5, _⟩ => ⟨S1024, .f32⟩
  | .hbm, ⟨6, _⟩ => ⟨S1x16384x1024, .f32⟩
  | .hbm, ⟨7, _⟩ => ⟨S1x16384x512, .f32⟩
  | .hbm, ⟨8, _⟩ => ⟨S1x16384x128, .f32⟩
  | .hbm, ⟨9, _⟩ => ⟨S1x16384x128, .f32⟩
  | .hbm, ⟨10, _⟩ => ⟨S1x16384x512, .f32⟩
  | .hbm, ⟨11, _⟩ => ⟨S1x16384x512, .f32⟩
  | .hbm, ⟨12, _⟩ => ⟨S1x16384x256, .f32⟩
  | .hbm, ⟨13, _⟩ => ⟨S1x16384x256, .f32⟩
  | .hbm, ⟨14, _⟩ => ⟨S1x16384x256, .f32⟩
  | .hbm, ⟨15, _⟩ => ⟨S1x16384x256, .f32⟩
  | .hbm, ⟨16, _⟩ => ⟨S1x16384x512, .f32⟩
  | .hbm, ⟨17, _⟩ => ⟨S1x16384x512, .f32⟩
  | .hbm, ⟨18, _⟩ => ⟨S_, .f32⟩
  | .hbm, ⟨19, _⟩ => ⟨S1x16384x512, .f32⟩
  | .hbm, ⟨20, _⟩ => ⟨S1x16384x512, .f32⟩
  | .hbm, ⟨21, _⟩ => ⟨S_, .f32⟩
  | .hbm, ⟨22, _⟩ => ⟨S1x16384x512, .f32⟩
  | .hbm, ⟨23, _⟩ => ⟨S1x16384x512, .f32⟩
  | .hbm, ⟨24, _⟩ => ⟨S1x16384x512, .f32⟩
  | .hbm, ⟨25, _⟩ => ⟨S1x16384x512, .f32⟩
  | .hbm, ⟨26, _⟩ => ⟨S1x16384x1024, .f32⟩
  | .hbm, ⟨27, _⟩ => ⟨S1x16384x1024, .f32⟩
  | .hbm, ⟨28, _⟩ => ⟨S16384x1024, .f32⟩
  | .hbm, ⟨29, _⟩ => ⟨S16384x1024, .f32⟩
  | .hbm, ⟨30, _⟩ => ⟨S1x1024, .f32⟩
  | .hbm, ⟨31, _⟩ => ⟨S1024x1024, .bf16⟩
  | .hbm, ⟨32, _⟩ => ⟨S1024x1024, .bf16⟩
  | .hbm, ⟨33, _⟩ => ⟨S16384x512, .f32⟩
  | .hbm, ⟨34, _⟩ => ⟨S512x16384, .f32⟩
  | .hbm, ⟨35, _⟩ => ⟨S16384x2816, .f32⟩
  | .hbm, ⟨36, _⟩ => ⟨S16384x1024, .bf16⟩
  | .hbm, ⟨37, _⟩ => ⟨S512x16384, .f32⟩
  | .hbm, ⟨38, _⟩ => ⟨S16384x512, .bf16⟩
  | .hbm, ⟨39, _⟩ => ⟨S16384x256, .f32⟩
  | .hbm, ⟨40, _⟩ => ⟨S16384x256, .f32⟩
  | .hbm, ⟨41, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S512x512, .f32⟩
  | .local _ .vmem, ⟨7, _⟩ => ⟨S512x512, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x1024, .bf16⟩
  | .local _ .vmem, ⟨13, _⟩ => ⟨S512x1024, .bf16⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S1x1024, .f32⟩
  | _, _ => ⟨S1x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21_0 : Ref sig .tc := ⟨.hbm, 36, rfl⟩
abbrev main_v21_1 : Ref sig .tc := ⟨.hbm, 37, rfl⟩
abbrev main_v21_2 : Ref sig .tc := ⟨.hbm, 38, rfl⟩
abbrev main_v21_3 : Ref sig .tc := ⟨.hbm, 39, rfl⟩
abbrev main_v21_4 : Ref sig .tc := ⟨.hbm, 40, rfl⟩
abbrev main_v21_5 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== OutBwdRefIdeal.lean ====
abbrev S1x16384x512 : Shape := ⟨3, ![1, 16384, 512]⟩
abbrev S1x16384x2816 : Shape := ⟨3, ![1, 16384, 2816]⟩
abbrev S1x16384x256 : Shape := ⟨3, ![1, 16384, 256]⟩
abbrev S1024x1024 : Shape := ⟨2, ![1024, 1024]⟩
abbrev S1024 : Shape := ⟨1, ![1024]⟩
abbrev S1x16384x1024 : Shape := ⟨3, ![1, 16384, 1024]⟩
abbrev S1x16384x128 : Shape := ⟨3, ![1, 16384, 128]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x1024 : Shape := ⟨2, ![1, 1024]⟩
abbrev S16384 : Shape := ⟨1, ![16384]⟩
abbrev S16384x1024 : Shape := ⟨2, ![16384, 1024]⟩
abbrev S16384x512 : Shape := ⟨2, ![16384, 512]⟩
abbrev S512x16384 : Shape := ⟨2, ![512, 16384]⟩
abbrev S16384x256 : Shape := ⟨2, ![16384, 256]⟩

abbrev nBuf : Space → Nat
  | .hbm => 97
  | .vmem => 0
  | .smem => 0
  | _ => 0

abbrev bufTy : (tb : Table) → Fin (tcTables nBuf tb) → BufTy
  | .hbm, ⟨0, _⟩ => ⟨S1x16384x512, .f32⟩
  | .hbm, ⟨1, _⟩ => ⟨S1x16384x2816, .f32⟩
  | .hbm, ⟨2, _⟩ => ⟨S1x16384x256, .f32⟩
  | .hbm, ⟨3, _⟩ => ⟨S1x16384x256, .f32⟩
  | .hbm, ⟨4, _⟩ => ⟨S1024x1024, .f32⟩
  | .hbm, ⟨5, _⟩ => ⟨S1024, .f32⟩
  | .hbm, ⟨6, _⟩ => ⟨S1x16384x1024, .f32⟩
  | .hbm, ⟨7, _⟩ => ⟨S1x16384x512, .f32⟩
  | .hbm, ⟨8, _⟩ => ⟨S1x16384x128, .f32⟩
  | .hbm, ⟨9, _⟩ => ⟨S1x16384x128, .f32⟩
  | .hbm, ⟨10, _⟩ => ⟨S1x16384x512, .f32⟩
  | .hbm, ⟨11, _⟩ => ⟨S1x16384x512, .f32⟩
  | .hbm, ⟨12, _⟩ => ⟨S1x16384x256, .f32⟩
  | .hbm, ⟨13, _⟩ => ⟨S1x16384x256, .f32⟩
  | .hbm, ⟨14, _⟩ => ⟨S1x16384x256, .f32⟩
  | .hbm, ⟨15, _⟩ => ⟨S1x16384x256, .f32⟩
  | .hbm, ⟨16, _⟩ => ⟨S1x16384x512, .f32⟩
  | .hbm, ⟨17, _⟩ => ⟨S1x16384x512, .f32⟩
  | .hbm, ⟨18, _⟩ => ⟨S_, .f32⟩
  | .hbm, ⟨19, _⟩ => ⟨S1x16384x512, .f32⟩
  | .hbm, ⟨20, _⟩ => ⟨S1x16384x512, .f32⟩
  | .hbm, ⟨21, _⟩ => ⟨S_, .f32⟩
  | .hbm, ⟨22, _⟩ => ⟨S1x16384x512, .f32⟩
  | .hbm, ⟨23, _⟩ => ⟨S1x16384x512, .f32⟩
  | .hbm, ⟨24, _⟩ => ⟨S_, .f32⟩
  | .hbm, ⟨25, _⟩ => ⟨S1x16384x512, .f32⟩
  | .hbm, ⟨26, _⟩ => ⟨S1x16384x512, .f32⟩
  | .hbm, ⟨27, _⟩ => ⟨S1x16384x512, .f32⟩
  | .hbm, ⟨28, _⟩ => ⟨S1x16384x512, .f32⟩
  | .hbm, ⟨29, _⟩ => ⟨S1x16384x512, .f32⟩
  | .hbm, ⟨30, _⟩ => ⟨S1x16384x1024, .f32⟩
  | .hbm, ⟨31, _⟩ => ⟨S1x16384x1024, .f32⟩
  | .hbm, ⟨32, _⟩ => ⟨S1x16384x1024, .f32⟩
  | .hbm, ⟨33, _⟩ => ⟨S_, .f32⟩
  | .hbm, ⟨34, _⟩ => ⟨S1x16384, .f32⟩
  | .hbm, ⟨35, _⟩ => ⟨S1x16384x1, .f32⟩
  | .hbm, ⟨36, _⟩ => ⟨S_, .f32⟩
  | .hbm, ⟨37, _⟩ => ⟨S1x16384x1, .f32⟩
  | .hbm, ⟨38, _⟩ => ⟨S1x16384x1, .f32⟩
  | .hbm, ⟨39, _⟩ => ⟨S_, .f32⟩
  | .hbm, ⟨40, _⟩ => ⟨S1x16384x1, .f32⟩
  | .hbm, ⟨41, _⟩ => ⟨S1x16384x1, .f32⟩
  | .hbm, ⟨42, _⟩ => ⟨S1x16384x1, .f32⟩
  | .hbm, ⟨43, _⟩ => ⟨S1x16384x1, .f32⟩
  | .hbm, ⟨44, _⟩ => ⟨S_, .f32⟩
  | .hbm, ⟨45, _⟩ => ⟨S1x16384x1, .f32⟩
  | .hbm, ⟨46, _⟩ => ⟨S1x16384x1, .f32⟩
  | .hbm, ⟨47, _⟩ => ⟨S1x16384x1024, .f32⟩
  | .hbm, ⟨48, _⟩ => ⟨S1x16384x1024, .f32⟩
  | .hbm, ⟨49, _⟩ => ⟨S1x1x1024, .f32⟩
  | .hbm, ⟨50, _⟩ => ⟨S1x16384x1024, .f32⟩
  | .hbm, ⟨51, _⟩ => ⟨S1x16384x1024, .f32⟩
  | .hbm, ⟨52, _⟩ => ⟨S1x16384x1024, .f32⟩
  | .hbm, ⟨53, _⟩ => ⟨S_, .f32⟩
  | .hbm, ⟨54, _⟩ => ⟨S1x1024, .f32⟩
  | .hbm, ⟨55, _⟩ => ⟨S1x1x1024, .f32⟩
  | .hbm, ⟨56, _⟩ => ⟨S1x16384x1024, .f32⟩
  | .hbm, ⟨57, _⟩ => ⟨S1x16384x1024, .f32⟩
  | .hbm, ⟨58, _⟩ => ⟨S_, .f32⟩
  | .hbm, ⟨59, _⟩ => ⟨S1024, .f32⟩
  | .hbm, ⟨60, _⟩ => ⟨S1x16384x1024, .f32⟩
  | .hbm, ⟨61, _⟩ => ⟨S_, .f32⟩
  | .hbm, ⟨62, _⟩ => ⟨S1x16384, .f32⟩
  | .hbm, ⟨63, _⟩ => ⟨S1x16384x1, .f32⟩
  | .hbm, ⟨64, _⟩ => ⟨S1x16384x1024, .f32⟩
  | .hbm, ⟨65, _⟩ => ⟨S1x16384x1024, .f32⟩
  | .hbm, ⟨66, _⟩ => ⟨S1x16384x1, .f32⟩
  | .hbm, ⟨67, _⟩ => ⟨S_, .f32⟩
  | .hbm, ⟨68, _⟩ => ⟨S1x16384x1, .f32⟩
  | .hbm, ⟨69, _⟩ => ⟨S1x16384x1, .f32⟩
  | .hbm, ⟨70, _⟩ => ⟨S_, .f32⟩
  | .hbm, ⟨71, _⟩ => ⟨S16384, .f32⟩
  | .hbm, ⟨72, _⟩ => ⟨S1x16384, .f32⟩
  | .hbm, ⟨73, _⟩ => ⟨S1x16384x1024, .f32⟩
  | .hbm, ⟨74, _⟩ => ⟨S1x16384x1024, .f32⟩
  | .hbm, ⟨75, _⟩ => ⟨S1x16384x1024, .f32⟩
  | .hbm, ⟨76, _⟩ => ⟨S1x16384x1024, .f32⟩
  | .hbm, ⟨77, _⟩ => ⟨S1x16384x1024, .f32⟩
  | .hbm, ⟨78, _⟩ => ⟨S1x16384x1024, .f32⟩
  | .hbm, ⟨79, _⟩ => ⟨S1x16384x512, .f32⟩
  | .hbm, ⟨80, _⟩ => ⟨S1x16384x256, .f32⟩
  | .hbm, ⟨81, _⟩ => ⟨S1x16384x256, .f32⟩
  | .hbm, ⟨82, _⟩ => ⟨S1x16384x512, .f32⟩
  | .hbm, ⟨83, _⟩ => ⟨S1x16384x512, .f32⟩
  | .hbm, ⟨84, _⟩ => ⟨S1x16384x512, .f32⟩
  | .hbm, ⟨85, _⟩ => ⟨S1x16384x512, .f32⟩
  | .hbm, ⟨86, _⟩ => ⟨S1x16384x512, .f32⟩
  | .hbm, ⟨87, _⟩ => ⟨S1x16384x512, .f32⟩
  | .hbm, ⟨88, _⟩ => ⟨S16384x1024, .f32⟩
  | .hbm, ⟨89, _⟩ => ⟨S16384x1024, .bf16⟩
  | .hbm, ⟨90, _⟩ => ⟨S16384x512, .f32⟩
  | .hbm, ⟨91, _⟩ => ⟨S512x16384, .f32⟩
  | .hbm, ⟨92, _⟩ => ⟨S16384x512, .f32⟩
  | .hbm, ⟨93, _⟩ => ⟨S16384x512, .bf16⟩
  | .hbm, ⟨94, _⟩ => ⟨S16384x256, .f32⟩
  | .hbm, ⟨95, _⟩ => ⟨S16384x256, .f32⟩
  | .hbm, ⟨96, _⟩ => ⟨S1x1024, .f32⟩
  | _, _ => ⟨S1x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_v9_2 : Ref sig .tc := ⟨.hbm, 23, rfl⟩
abbrev main_call0_cst_1 : Ref sig .tc := ⟨.hbm, 24, rfl⟩
abbrev main_call0_v6 : Ref sig .tc := ⟨.hbm, 25, rfl⟩
abbrev main_call0_v7 : Ref sig .tc := ⟨.hbm, 26, rfl⟩
abbrev main_v9_1 : Ref sig .tc := ⟨.hbm, 27, rfl⟩
abbrev main_v9_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_v15 : Ref sig .tc := ⟨.hbm, 35, rfl⟩
abbrev main_cst_0 : Ref sig .tc := ⟨.hbm, 36, rfl⟩
abbrev main_v16 : Ref sig .tc := ⟨.hbm, 37, rfl⟩
abbrev main_v17 : Ref sig .tc := ⟨.hbm, 38, rfl⟩
abbrev main_cst_1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_cst_5 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_6 : Ref sig .tc := ⟨.hbm, 67, rfl⟩
abbrev main_v41 : Ref sig .tc := ⟨.hbm, 68, rfl⟩
abbrev main_v42 : Ref sig .tc := ⟨.hbm, 69, rfl⟩
abbrev main_cst_7 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩

abbrev nD : Nat := 1
abbrev τ : Topo := Topo.v7x

variable {F : FTy → Type} [FloatOps F]
-- ==== AttnBwd.lean ====
abbrev S1x16384x8x64 : Shape := ⟨4, ![1, 16384, 8, 64]⟩
abbrev S1x16384x2x64 : Shape := ⟨4, ![1, 16384, 2, 64]⟩
abbrev S1x16384x512 : Shape := ⟨3, ![1, 16384, 512]⟩
abbrev S16384x8x64 : Shape := ⟨3, ![16384, 8, 64]⟩
abbrev S_ : Shape := ⟨0, ![]⟩
abbrev S8x16384x64 : Shape := ⟨3, ![8, 16384, 64]⟩
abbrev S8x64x16384 : Shape := ⟨3, ![8, 64, 16384]⟩
abbrev S16384x2x64 : Shape := ⟨3, ![16384, 2, 64]⟩
abbrev S2x16384x64 : Shape := ⟨3, ![2, 16384, 64]⟩
abbrev S2x64x16384 : Shape := ⟨3, ![2, 64, 16384]⟩
abbrev S2x4x16384x64 : Shape := ⟨4, ![2, 4, 16384, 64]⟩
abbrev S8x16384x16384 : Shape := ⟨3, ![8, 16384, 16384]⟩
abbrev S8x16384 : Shape := ⟨2, ![8, 16384]⟩
abbrev S8x16384x1 : Shape := ⟨3, ![8, 16384, 1]⟩
abbrev S2x4x64x16384 : Shape := ⟨4, ![2, 4, 64, 16384]⟩
abbrev S8x1x16384 : Shape := ⟨3, ![8, 1, 16384]⟩
abbrev S2x32x512x64 : Shape := ⟨4, ![2, 32, 512, 64]⟩
abbrev S2x64x32x512 : Shape := ⟨4, ![2, 64, 32, 512]⟩
abbrev S2x32x64x512 : Shape := ⟨4, ![2, 32, 64, 512]⟩
abbrev S2x512x64 : Shape := ⟨3, ![2, 512, 64]⟩
abbrev S2x64x512 : Shape := ⟨3, ![2, 64, 512]⟩
abbrev S2x1x512 : Shape := ⟨3, ![2, 1, 512]⟩
abbrev S1x32x512x64 : Shape := ⟨4, ![1, 32, 512, 64]⟩
abbrev S1x32x64x512 : Shape := ⟨4, ![1, 32, 64, 512]⟩
abbrev S2x2x512x512 : Shape := ⟨4, ![2, 2, 512, 512]⟩
abbrev S32x64x512 : Shape := ⟨3, ![32, 64, 512]⟩
abbrev S1x512x64 : Shape := ⟨3, ![1, 512, 64]⟩
abbrev S512x64 : Shape := ⟨2, ![512, 64]⟩
abbrev S1x64x512 : Shape := ⟨3, ![1, 64, 512]⟩
abbrev S64x512 : Shape := ⟨2, ![64, 512]⟩
abbrev S512 : Shape := ⟨1, ![512]⟩
abbrev S512x1 : Shape := ⟨2, ![512, 1]⟩
abbrev S1x1x512 : Shape := ⟨3, ![1, 1, 512]⟩
abbrev S1x512 : Shape := ⟨2, ![1, 512]⟩
abbrev S128x512 : Shape := ⟨2, ![128, 512]⟩
abbrev S512x128 : Shape := ⟨2, ![512, 128]⟩
abbrev S1x1x64x512 : Shape := ⟨4, ![1, 1, 64, 512]⟩
abbrev S512x512 : Shape := ⟨2, ![512, 512]⟩
abbrev S1x1x512x512 : Shape := ⟨4, ![1, 1, 512, 512]⟩
abbrev S1x1x512x64 : Shape := ⟨4, ![1, 1, 512, 64]⟩

abbrev nBuf : Space → Nat
  | .hbm => 67
  | .vmem => 24
  | .smem => 0
  | _ => 0

abbrev bufTy : (tb : Table) → Fin (tcTables nBuf tb) → BufTy
  | .hbm, ⟨0, _⟩ => ⟨S1x16384x8x64, .f32⟩
  | .hbm, ⟨1, _⟩ => ⟨S1x16384x2x64, .f32⟩
  | .hbm, ⟨2, _⟩ => ⟨S1x16384x2x64, .f32⟩
  | .hbm, ⟨3, _⟩ => ⟨S1x16384x512, .f32⟩
  | .hbm, ⟨4, _⟩ => ⟨S16384x8x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16384x8x64, .f32⟩
  | .hbm, ⟨11, _⟩ => ⟨S16384x8x64, .f32⟩
  | .hbm, ⟨12, _⟩ => ⟨S8x16384x64, .f32⟩
  | .hbm, ⟨13, _⟩ => ⟨S8x16384x64, .bf16⟩
  | .hbm, ⟨14, _⟩ => ⟨S8x64x16384, .bf16⟩
  | .hbm, ⟨15, _⟩ => ⟨S16384x2x64, .f32⟩
  | .hbm, ⟨16, _⟩ => ⟨S2x16384x64, .f32⟩
  | .hbm, ⟨17, _⟩ => ⟨S2x16384x64, .bf16⟩
  | .hbm, ⟨18, _⟩ => ⟨S2x64x16384, .bf16⟩
  | .hbm, ⟨19, _⟩ => ⟨S16384x2x64, .f32⟩
  | .hbm, ⟨20, _⟩ => ⟨S2x64x16384, .f32⟩
  | .hbm, ⟨21, _⟩ => ⟨S2x64x16384, .bf16⟩
  | .hbm, ⟨22, _⟩ => ⟨S16384x8x64, .f32⟩
  | .hbm, ⟨23, _⟩ => ⟨S8x16384x64, .f32⟩
  | .hbm, ⟨24, _⟩ => ⟨S16384x2x64, .f32⟩
  | .hbm, ⟨25, _⟩ => ⟨S2x16384x64, .f32⟩
  | .hbm, ⟨26, _⟩ => ⟨S2x4x16384x64, .f32⟩
  | .hbm, ⟨27, _⟩ => ⟨S8x16384x64, .f32⟩
  | .hbm, ⟨28, _⟩ => ⟨S8x16384x16384, .f32⟩
  | .hbm, ⟨29, _⟩ => ⟨S_, .f32⟩
  | .hbm, ⟨30, _⟩ => ⟨S8x16384x16384, .f32⟩
  | .hbm, ⟨31, _⟩ => ⟨S8x16384x16384, .f32⟩
  | .hbm, ⟨32, _⟩ => ⟨S_, .f32⟩
  | .hbm, ⟨33, _⟩ => ⟨S8x16384, .f32⟩
  | .hbm, ⟨34, _⟩ => ⟨S8x16384x1, .f32⟩
  | .hbm, ⟨35, _⟩ => ⟨S8x16384x16384, .f32⟩
  | .hbm, ⟨36, _⟩ => ⟨S8x16384x16384, .f32⟩
  | .hbm, ⟨37, _⟩ => ⟨S8x16384x16384, .f32⟩
  | .hbm, ⟨38, _⟩ => ⟨S_, .f32⟩
  | .hbm, ⟨39, _⟩ => ⟨S8x16384, .f32⟩
  | .hbm, ⟨40, _⟩ => ⟨S8x16384x1, .f32⟩
  | .hbm, ⟨41, _⟩ => ⟨S8x16384x16384, .f32⟩
  | .hbm, ⟨42, _⟩ => ⟨S8x16384x16384, .f32⟩
  | .hbm, ⟨43, _⟩ => ⟨S16384x2x64, .f32⟩
  | .hbm, ⟨44, _⟩ => ⟨S2x64x16384, .f32⟩
  | .hbm, ⟨45, _⟩ => ⟨S2x4x64x16384, .f32⟩
  | .hbm, ⟨46, _⟩ => ⟨S8x64x16384, .f32⟩
  | .hbm, ⟨47, _⟩ => ⟨S8x16384x64, .f32⟩
  | .hbm, ⟨48, _⟩ => ⟨S8x64x16384, .f32⟩
  | .hbm, ⟨49, _⟩ => ⟨S8x16384x1, .f32⟩
  | .hbm, ⟨50, _⟩ => ⟨S8x16384x1, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S8x16384x1, .f32⟩
  | .hbm, ⟨55, _⟩ => ⟨S8x16384x1, .f32⟩
  | .hbm, ⟨56, _⟩ => ⟨S8x1x16384, .f32⟩
  | .hbm, ⟨57, _⟩ => ⟨S16384x8x64, .f32⟩
  | .hbm, ⟨58, _⟩ => ⟨S8x64x16384, .f32⟩
  | .hbm, ⟨59, _⟩ => ⟨S2x32x512x64, .bf16⟩
  | .hbm, ⟨60, _⟩ => ⟨S2x64x32x512, .bf16⟩
  | .hbm, ⟨61, _⟩ => ⟨S2x32x64x512, .bf16⟩
  | .hbm, ⟨62, _⟩ => ⟨S2x64x32x512, .bf16⟩
  | .hbm, ⟨63, _⟩ => ⟨S2x32x64x512, .bf16⟩
  | .hbm, ⟨64, _⟩ => ⟨S8x16384x64, .f32⟩
  | .hbm, ⟨65, _⟩ => ⟨S2x32x64x512, .f32⟩
  | .hbm, ⟨66, _⟩ => ⟨S2x32x64x512, .f32⟩
  | .local _ .vmem, ⟨0, _⟩ => ⟨S2x512x64, .bf16⟩
  | .local _ .vmem, ⟨1, _⟩ => ⟨S2x512x64, .bf16⟩
  | .local _ .vmem, ⟨2, _⟩ => ⟨S2x64x512, .bf16⟩
  | .local _ .vmem, ⟨3, _⟩ => ⟨S2x64x512, .bf16⟩
  | .local _ .vmem, ⟨4, _⟩ => ⟨S2x64x512, .f32⟩
  | .local _ .vmem, ⟨5, _⟩ => ⟨S2x64x512, .f32⟩
  | .local _ .vmem, ⟨6, _⟩ => ⟨S2x64x512, .f32⟩
  | .local _ .vmem, ⟨7, _⟩ => ⟨S2x64x512, .f32⟩
  | .local _ .vmem, ⟨8, _⟩ => ⟨S2x1x512, .f32⟩
  | .local _ .vmem, ⟨9, _⟩ => ⟨S2x1x512, .f32⟩
  | .local _ .vmem, ⟨10, _⟩ => ⟨S1x32x512x64, .bf16⟩
  | .local _ .vmem, ⟨11, _⟩ => ⟨S1x32x512x64, .bf16⟩
  | .local _ .vmem, ⟨12, _⟩ => ⟨S1x32x64x512, .bf16⟩
  | .local _ .vmem, ⟨13, _⟩ => ⟨S1x32x64x512, .bf16⟩
  | .local _ .vmem, ⟨14, _⟩ => ⟨S1x32x64x512, .bf16⟩
  | .local _ .vmem, ⟨15, _⟩ => ⟨S1x32x64x512, .bf16⟩
  | .local _ .vmem, ⟨16, _⟩ => ⟨S2x512x64, .f32⟩
  | .local _ .vmem, ⟨17, _⟩ => ⟨S2x512x64, .f32⟩
  | .local _ .vmem, ⟨18, _⟩ => ⟨S1x32x64x512, .f32⟩
  | .local _ .vmem, ⟨19, _⟩ => ⟨S1x32x64x512, .f32⟩
  | .local _ .vmem, ⟨20, _⟩ => ⟨S1x32x64x512, .f32⟩
  | .local _ .vmem, ⟨21, _⟩ => ⟨S1x32x64x512, .f32⟩
  | .local _ .vmem, ⟨22, _⟩ => ⟨S2x2x512x512, .f32⟩
  | .local _ .vmem, ⟨23, _⟩ => ⟨S2x2x512x512, .bf16⟩
  | _, _ => ⟨S1x16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54_0 : Ref sig .tc := ⟨.hbm, 64, rfl⟩
abbrev main_v54_1 : Ref sig .tc := ⟨.hbm, 65, rfl⟩
abbrev main_v54_2 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 2, 32], ![false, false, false]⟩

@[reducible] def k0_t1_loop : Scf.Loop 32 :=
  let c0_i32_71 : BitVec 32 := 0#32
  let c8_i32 : BitVec 32 := 8#32
  let v81 : BitVec 32 := Scalar.addi c0_i32_71 c8_i32
  let c1_i32 : BitVec 32 := 1#32
  ⟨c0_i32_71, v81, c1_i32⟩
def k0_off1 (k0_t1 : Fin k0_t1_loop.trips) (c0_i32_79 : BitVec 32) : Fin 4 → Nat :=
  let c0_81 : Index := 0#32
  let c4_i32 : BitVec 32 := 4#32
  let c0_i32_71 : BitVec 32 := 0#32
  let c1_i32 : BitVec 32 := 1#32
  let arg16 : BitVec 32 := Scf.iv c0_i32_71 c1_i32 k0_t1
  let v89 : BitVec 32 := Scalar.muli c4_i32 arg16
  let v90 : BitVec 32 := Scalar.addi v89 c0_i32_79
  let c1_i32_80 : BitVec 32 := 1#32
  let v91 : BitVec 32 := Scalar.addi v90 c1_i32_80
  let v92 : Index := Scalar.indexCast v91
  let c0_82 : Index := 0#32
  let c0_83 : Index := 0#32
  ![0, v92.toNat, 0, 0]
def k0_off2 (k0_t1 : Fin k0_t1_loop.trips) (c0_i32_108 : BitVec 32) : Fin 4 → Nat :=
  let c0_109 : Index := 0#32
  let c4_i32_107 : BitVec 32 := 4#32
  let c0_i32_71 : BitVec 32 := 0#32
  let c1_i32 : BitVec 32 := 1#32
  let arg16 : BitVec 32 := Scf.iv c0_i32_71 c1_i32 k0_t1
  let v116 : BitVec 32 := Scalar.muli c4_i32_107 arg16
  let v117 : BitVec 32 := Scalar.addi v116 c0_i32_108
  let v118 : Index := Scalar.indexCast v117
  let c0_110 : Index := 0#32
  let c0_111 : Index := 0#32
  ![0, v118.toNat, 0, 0]
def k0_off3 (k0_t1 : Fin k0_t1_loop.trips) (c0_i32_108 : BitVec 32) : Fin 4 → Nat :=
  let c0_136 : Index := 0#32
  let c4_i32_107 : BitVec 32 := 4#32
  let c0_i32_71 : BitVec 32 := 0#32
  let c1_i32 : BitVec 32 := 1#32
  let arg16 : BitVec 32 := Scf.iv c0_i32_71 c1_i32 k0_t1
  let v116 : BitVec 32 := Scalar.muli c4_i32_107 arg16
  let v117 : BitVec 32 := Scalar.addi v116 c0_i32_108
  let v161 : Index := Scalar.indexCast v117
  let c0_137 : Index := 0#32
  let c0_138 : Index := 0#32
  ![0, v161.toNat, 0, 0]
def k0_off4 (k0_t1 : Fin k0_t1_loop.trips) : Fin 4 → Nat :=
  let c0_289 : Index := 0#32
  let c4_i32_287 : BitVec 32 := 4#32
  let c0_i32_71 : BitVec 32 := 0#32
  let c1_i32 : BitVec 32 := 1#32
  let arg16 : BitVec 32 := Scf.iv c0_i32_71 c1_i32 k0_t1
  let v353 : BitVec 32 := Scalar.muli c4_i32_287 arg16
  let c3_i32 : BitVec 32 := 3#32
  let v354 : BitVec 32 := Scalar.addi v353 c3_i32
  let c1_i32_288 : BitVec 32 := 1#32
  let v355 : BitVec 32 := Scalar.addi v354 c1_i32_288
  let c31_i32 : BitVec 32 := 31#32
  let v356 : BitVec 32 := Scalar.minsi v355 c31_i32
  let v357 : Index := Scalar.indexCast v356
  let c0_290 : Index := 0#32
  let c0_291 : Index := 0#32
  ![0, v357.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat, arg2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, arg2.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x32x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x32x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x32x64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S2x512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x32x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S1x32x64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]
-- ==== AttnBwdIdeal.lean ====
variable {F : FTy → Type} [FloatOps F] [Named F]
def κ : String → Option EReal := fun
  | "ln_2" => some ((Real.log 2 : ℝ) : EReal)
  | _ => none
-- ==== AttnBwdRefIdeal.lean ====
abbrev S1x16384x8x64 : Shape := ⟨4, ![1, 16384, 8, 64]⟩
abbrev S1x16384x2x64 : Shape := ⟨4, ![1, 16384, 2, 64]⟩
abbrev S1x16384x512 : Shape := ⟨3, ![1, 16384, 512]⟩
abbrev S1x16384x2x4x64 : Shape := ⟨5, ![1, 16384, 2, 4, 64]⟩
abbrev S1x2x4x16384x64 : Shape := ⟨5, ![1, 2, 4, 16384, 64]⟩
abbrev S1x2x16384x64 : Shape := ⟨4, ![1, 2, 16384, 64]⟩
abbrev S1x2x4x16384x16384 : Shape := ⟨5, ![1, 2, 4, 16384, 16384]⟩
abbrev S_ : Shape := ⟨0, ![]⟩
abbrev S1x2x4x16384 : Shape := ⟨4, ![1, 2, 4, 16384]⟩
abbrev S1x2x4x16384x1 : Shape := ⟨5, ![1, 2, 4, 16384, 1]⟩
abbrev S1x2x64x16384 : Shape := ⟨4, ![1, 2, 64, 16384]⟩
abbrev S2x4x16384 : Shape := ⟨3, ![2, 4, 16384]⟩
abbrev S16384x8x64 : Shape := ⟨3, ![16384, 8, 64]⟩
abbrev S8x16384x64 : Shape := ⟨3, ![8, 16384, 64]⟩
abbrev S16384x2x64 : Shape := ⟨3, ![16384, 2, 64]⟩
abbrev S2x64x16384 : Shape := ⟨3, ![2, 64, 16384]⟩
abbrev S2x64x32x512 : Shape := ⟨4, ![2, 64, 32, 512]⟩
abbrev S2x32x64x512 : Shape := ⟨4, ![2, 32, 64, 512]⟩

abbrev nBuf : Space → Nat
  | .hbm => 99
  | .vmem => 0
  | .smem => 0
  | _ => 0

abbrev bufTy : (tb : Table) → Fin (tcTables nBuf tb) → BufTy
  | .hbm, ⟨0, _⟩ => ⟨S1x16384x8x64, .f32⟩
  | .hbm, ⟨1, _⟩ => ⟨S1x16384x2x64, .f32⟩
  | .hbm, ⟨2, _⟩ => ⟨S1x16384x2x64, .f32⟩
  | .hbm, ⟨3, _⟩ => ⟨S1x16384x512, .f32⟩
  | .hbm, ⟨4, _⟩ => ⟨S1x16384x2x4x64, .f32⟩
  | .hbm, ⟨5, _⟩ => ⟨S1x2x4x16384x64, .f32⟩
  | .hbm, ⟨6, _⟩ => ⟨S1x2x16384x64, .f32⟩
  | .hbm, ⟨7, _⟩ => ⟨S1x2x16384x64, .f32⟩
  | .hbm, ⟨8, _⟩ => ⟨S1x2x4x16384x16384, .f32⟩
  | .hbm, ⟨9, _⟩ => ⟨S_, .f32⟩
  | .hbm, ⟨10, _⟩ => ⟨S1x2x4x16384x16384, .f32⟩
  | .hbm, ⟨11, _⟩ => ⟨S1x2x4x16384x16384, .f32⟩
  | .hbm, ⟨12, _⟩ => ⟨S_, .f32⟩
  | .hbm, ⟨13, _⟩ => ⟨S1x2x4x16384, .f32⟩
  | .hbm, ⟨14, _⟩ => ⟨S1x2x4x16384x1, .f32⟩
  | .hbm, ⟨15, _⟩ => ⟨S1x2x4x16384x16384, .f32⟩
  | .hbm, ⟨16, _⟩ => ⟨S1x2x4x16384x16384, .i1⟩
  | .hbm, ⟨17, _⟩ => ⟨S1x2x4x16384x16384, .f32⟩
  | .hbm, ⟨18, _⟩ => ⟨S_, .f32⟩
  | .hbm, ⟨19, _⟩ => ⟨S1x2x4x16384, .f32⟩
  | .hbm, ⟨20, _⟩ => ⟨S_, .f32⟩
  | .hbm, ⟨21, _⟩ => ⟨S1x2x4x16384, .f32⟩
  | .hbm, ⟨22, _⟩ => ⟨S1x2x4x16384, .f32⟩
  | .hbm, ⟨23, _⟩ => ⟨S_, .f32⟩
  | .hbm, ⟨24, _⟩ => ⟨S1x2x4x16384, .f32⟩
  | .hbm, ⟨25, _⟩ => ⟨S1x2x4x16384, .i1⟩
  | .hbm, ⟨26, _⟩ => ⟨S_, .f32⟩
  | .hbm, ⟨27, _⟩ => ⟨S1x2x4x16384, .f32⟩
  | .hbm, ⟨28, _⟩ => ⟨S1x2x4x16384, .i1⟩
  | .hbm, ⟨29, _⟩ => ⟨S_, .f32⟩
  | .hbm, ⟨30, _⟩ => ⟨S1x2x4x16384, .f32⟩
  | .hbm, ⟨31, _⟩ => ⟨S_, .f32⟩
  | .hbm, ⟨32, _⟩ => ⟨S1x2x4x16384, .f32⟩
  | .hbm, ⟨33, _⟩ => ⟨S_, .f32⟩
  | .hbm, ⟨34, _⟩ => ⟨S1x2x4x16384, .f32⟩
  | .hbm, ⟨35, _⟩ => ⟨S1x2x4x16384, .f32⟩
  | .hbm, ⟨36, _⟩ => ⟨S1x2x4x16384, .f32⟩
  | .hbm, ⟨37, _⟩ => ⟨S1x2x4x16384x1, .f32⟩
  | .hbm, ⟨38, _⟩ => ⟨S1x2x4x16384x16384, .f32⟩
  | .hbm, ⟨39, _⟩ => ⟨S1x2x4x16384x16384, .f32⟩
  | .hbm, ⟨40, _⟩ => ⟨S1x2x4x16384x16384, .f32⟩
  | .hbm, ⟨41, _⟩ => ⟨S_, .f32⟩
  | .hbm, ⟨42, _⟩ => ⟨S1x2x4x16384, .f32⟩
  | .hbm, ⟨43, _⟩ => ⟨S1x2x4x16384x1, .f32⟩
  | .hbm, ⟨44, _⟩ => ⟨S1x2x4x16384x16384, .f32⟩
  | .hbm, ⟨45, _⟩ => ⟨S1x2x4x16384x16384, .f32⟩
  | .hbm, ⟨46, _⟩ => ⟨S1x2x4x16384x1, .f32⟩
  | .hbm, ⟨47, _⟩ => ⟨S_, .f32⟩
  | .hbm, ⟨48, _⟩ => ⟨S1x2x4x16384x1, .f32⟩
  | .hbm, ⟨49, _⟩ => ⟨S1x2x4x16384x1, .f32⟩
  | .hbm, ⟨50, _⟩ => ⟨S1x2x4x16384x64, .f32⟩
  | .hbm, ⟨51, _⟩ => ⟨S1x16384x2x4x64, .f32⟩
  | .hbm, ⟨52, _⟩ => ⟨S1x16384x512, .f32⟩
  | .hbm, ⟨53, _⟩ => ⟨S1x16384x2x4x64, .f32⟩
  | .hbm, ⟨54, _⟩ => ⟨S1x2x4x16384x64, .f32⟩
  | .hbm, ⟨55, _⟩ => ⟨S1x2x64x16384, .f32⟩
  | .hbm, ⟨56, _⟩ => ⟨S1x2x16384x64, .f32⟩
  | .hbm, ⟨57, _⟩ => ⟨S1x2x4x16384x16384, .f32⟩
  | .hbm, ⟨58, _⟩ => ⟨S1x2x4x16384x16384, .f32⟩
  | .hbm, ⟨59, _⟩ => ⟨S1x2x4x16384x16384, .f32⟩
  | .hbm, ⟨60, _⟩ => ⟨S1x2x4x16384x16384, .f32⟩
  | .hbm, ⟨61, _⟩ => ⟨S_, .f32⟩
  | .hbm, ⟨62, _⟩ => ⟨S1x2x4x16384, .f32⟩
  | .hbm, ⟨63, _⟩ => ⟨S1x2x4x16384x1, .f32⟩
  | .hbm, ⟨64, _⟩ => ⟨S1x2x4x16384x1, .f32⟩
  | .hbm, ⟨65, _⟩ => ⟨S1x2x4x16384x16384, .f32⟩
  | .hbm, ⟨66, _⟩ => ⟨S1x2x4x16384x16384, .f32⟩
  | .hbm, ⟨67, _⟩ => ⟨S_, .f32⟩
  | .hbm, ⟨68, _⟩ => ⟨S2x4x16384, .f32⟩
  | .hbm, ⟨69, _⟩ => ⟨S1x2x4x16384, .f32⟩
  | .hbm, ⟨70, _⟩ => ⟨S1x2x4x16384x16384, .f32⟩
  | .hbm, ⟨71, _⟩ => ⟨S1x2x4x16384x16384, .f32⟩
  | .hbm, ⟨72, _⟩ => ⟨S1x2x4x16384x16384, .f32⟩
  | .hbm, ⟨73, _⟩ => ⟨S_, .f32⟩
  | .hbm, ⟨74, _⟩ => ⟨S1x2x4x16384x16384, .f32⟩
  | .hbm, ⟨75, _⟩ => ⟨S1x2x4x16384x16384, .f32⟩
  | .hbm, ⟨76, _⟩ => ⟨S1x2x16384x64, .f32⟩
  | .hbm, ⟨77, _⟩ => ⟨S1x2x4x16384x64, .f32⟩
  | .hbm, ⟨78, _⟩ => ⟨S1x16384x2x64, .f32⟩
  | .hbm, ⟨79, _⟩ => ⟨S1x16384x2x64, .f32⟩
  | .hbm, ⟨80, _⟩ => ⟨S1x16384x2x4x64, .f32⟩
  | .hbm, ⟨81, _⟩ => ⟨S1x16384x8x64, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S1x16384x8x64, .f32⟩
  | .hbm, ⟨88, _⟩ => ⟨S1x16384x8x64, .f32⟩
  | .hbm, ⟨89, _⟩ => ⟨S16384x8x64, .f32⟩
  | .hbm, ⟨90, _⟩ => ⟨S8x16384x64, .f32⟩
  | .hbm, ⟨91, _⟩ => ⟨S16384x2x64, .f32⟩
  | .hbm, ⟨92, _⟩ => ⟨S2x64x16384, .f32⟩
  | .hbm, ⟨93, _⟩ => ⟨S2x64x32x512, .f32⟩
  | .hbm, ⟨94, _⟩ => ⟨S2x32x64x512, .f32⟩
  | .hbm, ⟨95, _⟩ => ⟨S16384x2x64, .f32⟩
  | .hbm, ⟨96, _⟩ => ⟨S2x64x16384, .f32⟩
  | .hbm, ⟨97, _⟩ => ⟨S2x64x32x512, .f32⟩
  | .hbm, ⟨98, _⟩ => ⟨S2x32x64x512, .f32⟩
  | _, _ => ⟨S1x16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_12 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_13 : Ref sig .tc := ⟨.hbm, 82, rfl⟩
abbrev main_v64 : Ref sig .tc := ⟨.hbm, 83, rfl⟩
abbrev main_cst_14 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩

abbrev nD : Nat := 1
abbrev τ : Topo := Topo.v7x

variable {F : FTy → Type} [FloatOps F]
-- ==== QPrepBwd.lean ====
abbrev S1x16384x2816 : Shape := ⟨3, ![1, 16384, 2816]⟩
abbrev S64 : Shape := ⟨1, ![64]⟩
abbrev S1x16384x8x64 : Shape := ⟨4, ![1, 16384, 8, 64]⟩
abbrev S16384 : Shape := ⟨1, ![16384]⟩
abbrev S_ : Shape := ⟨0, ![]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x64 : Shape := ⟨2, ![16384, 64]⟩
abbrev S64x16384 : Shape := ⟨2, ![64, 16384]⟩
abbrev S16384x2816 : Shape := ⟨2, ![16384, 2816]⟩
abbrev S16384x768 : Shape := ⟨2, ![16384, 768]⟩
abbrev S768x16384 : Shape := ⟨2, ![768, 16384]⟩
abbrev S12x64x16384 : Shape := ⟨3, ![12, 64, 16384]⟩
abbrev S16384x8x64 : Shape := ⟨3, ![16384, 8, 64]⟩
abbrev S8x16384x64 : Shape := ⟨3, ![8, 16384, 64]⟩
abbrev S64x1 : Shape := ⟨2, ![64, 1]⟩
abbrev S8x64x16384 : Shape := ⟨3, ![8, 64, 16384]⟩
abbrev S8x64x1 : Shape := ⟨3, ![8, 64, 1]⟩
abbrev S1x64x2048 : Shape := ⟨3, ![1, 64, 2048]⟩
abbrev S1x2048x64 : Shape := ⟨3, ![1, 2048, 64]⟩
abbrev S64x2048 : Shape := ⟨2, ![64, 2048]⟩
abbrev S2048 : Shape := ⟨1, ![2048]⟩
abbrev S1x2048 : Shape := ⟨2, ![1, 2048]⟩
abbrev S2048x64 : Shape := ⟨2, ![2048, 64]⟩
abbrev S16x2048 : Shape := ⟨2, ![16, 2048]⟩
abbrev S1x64x1 : Shape := ⟨3, ![1, 64, 1]⟩

abbrev nBuf : Space → Nat
  | .hbm => 87
  | .vmem => 12
  | .smem => 0
  | _ => 0

abbrev bufTy : (tb : Table) → Fin (tcTables nBuf tb) → BufTy
  | .hbm, ⟨0, _⟩ => ⟨S1x16384x2816, .f32⟩
  | .hbm, ⟨1, _⟩ => ⟨S64, .f32⟩
  | .hbm, ⟨2, _⟩ => ⟨S1x16384x8x64, .f32⟩
  | .hbm, ⟨3, _⟩ => ⟨S16384, .i32⟩
  | .hbm, ⟨4, _⟩ => ⟨S_, .i32⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S16384, .i32⟩
  | .hbm, ⟨13, _⟩ => ⟨S16384, .i32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S16384, .i1⟩
  | .hbm, ⟨18, _⟩ => ⟨S_, .i32⟩
  | .hbm, ⟨19, _⟩ => ⟨S16384, .i32⟩
  | .hbm, ⟨20, _⟩ => ⟨S16384, .i32⟩
  | .hbm, ⟨21, _⟩ => ⟨S16384, .i32⟩
  | .hbm, ⟨22, _⟩ => ⟨S16384, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i1⟩
  | .hbm, ⟨37, _⟩ => ⟨S_, .i32⟩
  | .hbm, ⟨38, _⟩ => ⟨S_, .i1⟩
  | .hbm, ⟨39, _⟩ => ⟨S16384, .i1⟩
  | .hbm, ⟨40, _⟩ => ⟨S16384, .i1⟩
  | .hbm, ⟨41, _⟩ => ⟨S16384, .i1⟩
  | .hbm, ⟨42, _⟩ => ⟨S16384, .i32⟩
  | .hbm, ⟨43, _⟩ => ⟨S16384, .i32⟩
  | .hbm, ⟨44, _⟩ => ⟨S16384, .i32⟩
  | .hbm, ⟨45, _⟩ => ⟨S16384, .f32⟩
  | .hbm, ⟨46, _⟩ => ⟨S16, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S16384x1, .f32⟩
  | .hbm, ⟨55, _⟩ => ⟨S1x16, .f32⟩
  | .hbm, ⟨56, _⟩ => ⟨S16384x16, .f32⟩
  | .hbm, ⟨57, _⟩ => ⟨S16384x16, .f32⟩
  | .hbm, ⟨58, _⟩ => ⟨S16384x16, .f32⟩
  | .hbm, ⟨59, _⟩ => ⟨S16384x1, .f32⟩
  | .hbm, ⟨60, _⟩ => ⟨S1x16, .f32⟩
  | .hbm, ⟨61, _⟩ => ⟨S16384x16, .f32⟩
  | .hbm, ⟨62, _⟩ => ⟨S16384x16, .f32⟩
  | .hbm, ⟨63, _⟩ => ⟨S16384x16, .f32⟩
  | .hbm, ⟨64, _⟩ => ⟨S16384x16, .f32⟩
  | .hbm, ⟨65, _⟩ => ⟨S16384x16, .f32⟩
  | .hbm, ⟨66, _⟩ => ⟨S16384x16, .f32⟩
  | .hbm, ⟨67, _⟩ => ⟨S16384x16, .f32⟩
  | .hbm, ⟨68, _⟩ => ⟨S16384x64, .f32⟩
  | .hbm, ⟨69, _⟩ => ⟨S16384x16, .f32⟩
  | .hbm, ⟨70, _⟩ => ⟨S16384x16, .f32⟩
  | .hbm, ⟨71, _⟩ => ⟨S16384x16, .f32⟩
  | .hbm, ⟨72, _⟩ => ⟨S16384x16, .f32⟩
  | .hbm, ⟨73, _⟩ => ⟨S16384x16, .f32⟩
  | .hbm, ⟨74, _⟩ => ⟨S16384x16, .f32⟩
  | .hbm, ⟨75, _⟩ => ⟨S16384x64, .f32⟩
  | .hbm, ⟨76, _⟩ => ⟨S64x16384, .f32⟩
  | .hbm, ⟨77, _⟩ => ⟨S64x16384, .f32⟩
  | .hbm, ⟨78, _⟩ => ⟨S16384x2816, .f32⟩
  | .hbm, ⟨79, _⟩ => ⟨S16384x768, .f32⟩
  | .hbm, ⟨80, _⟩ => ⟨S768x16384, .f32⟩
  | .hbm, ⟨81, _⟩ => ⟨S12x64x16384, .f32⟩
  | .hbm, ⟨82, _⟩ => ⟨S16384x8x64, .f32⟩
  | .hbm, ⟨83, _⟩ => ⟨S8x16384x64, .f32⟩
  | .hbm, ⟨84, _⟩ => ⟨S64x1, .f32⟩
  | .hbm, ⟨85, _⟩ => ⟨S8x64x16384, .f32⟩
  | .hbm, ⟨86, _⟩ => ⟨S8x64x1, .f32⟩
  | .local _ .vmem, ⟨0, _⟩ => ⟨S1x64x2048, .f32⟩
  | .local _ .vmem, ⟨1, _⟩ => ⟨S1x64x2048, .f32⟩
  | .local _ .vmem, ⟨2, _⟩ => ⟨S1x2048x64, .f32⟩
  | .local _ .vmem, ⟨3, _⟩ => ⟨S1x2048x64, .f32⟩
  | .local _ .vmem, ⟨4, _⟩ => ⟨S64x1, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S1x64x2048, .f32⟩
  | .local _ .vmem, ⟨10, _⟩ => ⟨S1x64x2048, .f32⟩
  | .local _ .vmem, ⟨11, _⟩ => ⟨S8x64x1, .f32⟩
  | _, _ => ⟨S1x16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_cst : Ref sig .tc := ⟨.hbm, 48, rfl⟩
abbrev main_v7 : Ref sig .tc := ⟨.hbm, 49, rfl⟩
abbrev main_v8 : Ref sig .tc := ⟨.hbm, 50, rfl⟩
abbrev main_cst_1 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42_0 : Ref sig .tc := ⟨.hbm, 85, rfl⟩
abbrev main_v42_1 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 8], ![false, false]⟩

def k0_off1 (i : grid0.Coords) : Fin 3 → Nat :=
  let arg1 : BitVec 32 := BitVec.ofNat 32 (i 1).val
  let v51 : Index := Scalar.indexCast arg1
  let c0_21 : Index := 0#32
  let c0_22 : Index := 0#32
  ![v51.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== QPrepBwdRefIdeal.lean ====
abbrev S1x16384x2816 : Shape := ⟨3, ![1, 16384, 2816]⟩
abbrev S64 : Shape := ⟨1, ![64]⟩
abbrev S1x16384x8x64 : Shape := ⟨4, ![1, 16384, 8, 64]⟩
abbrev S256 : Shape := ⟨1, ![256]⟩
abbrev S256x64 : Shape := ⟨2, ![256, 64]⟩
abbrev S16384 : Shape := ⟨1, ![16384]⟩
abbrev S1x64 : Shape := ⟨2, ![1, 64]⟩
abbrev S1x16384x512 : Shape := ⟨3, ![1, 16384, 512]⟩
abbrev S1x16384x128 : Shape := ⟨3, ![1, 16384, 128]⟩
abbrev S1x16384x256 : Shape := ⟨3, ![1, 16384, 256]⟩
abbrev S8x64 : Shape := ⟨2, ![8, 64]⟩
abbrev S_ : Shape := ⟨0, ![]⟩
abbrev S1x16384x8 : Shape := ⟨3, ![1, 16384, 8]⟩
abbrev S1x16384x8x1 : Shape := ⟨4, ![1, 16384, 8, 1]⟩
abbrev S1x1x8x64 : Shape := ⟨4, ![1, 1, 8, 64]⟩
abbrev S1x16384x8x32 : Shape := ⟨4, ![1, 16384, 8, 32]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x1x16 : Shape := ⟨3, ![16384, 1, 16]⟩
abbrev S1x16384x8x16 : Shape := ⟨4, ![1, 16384, 8, 16]⟩
abbrev S1x16384x1x16 : Shape := ⟨4, ![1, 16384, 1, 16]⟩
abbrev S1x8x64 : Shape := ⟨3, ![1, 8, 64]⟩
abbrev S16384x8 : Shape := ⟨2, ![16384, 8]⟩
abbrev S16384x8x64 : Shape := ⟨3, ![16384, 8, 64]⟩
abbrev S8x64x16384 : Shape := ⟨3, ![8, 64, 16384]⟩
abbrev S8x64x1 : Shape := ⟨3, ![8, 64, 1]⟩

abbrev nBuf : Space → Nat
  | .hbm => 193
  | .vmem => 0
  | .smem => 0
  | _ => 0

abbrev hbmTy0_0 (i : Nat) : BufTy := match i % 128 with
  | 0 => ⟨S1x16384x2816, .f32⟩
  | 1 => ⟨S64, .f32⟩
  | 2 => ⟨S1x16384x8x64, .f32⟩
  | 3 => ⟨S256, .i32⟩
  | 4 => ⟨S256x64, .i32⟩
  | 5 => ⟨S16384, .i32⟩
  | 6 => ⟨S16384, .f32⟩
  | 7 => ⟨S64, .i32⟩
  | 8 => ⟨S1x64, .i32⟩
  | 9 => ⟨S256x64, .i32⟩
  | 10 => ⟨S16384, .i32⟩
  | 11 => ⟨S16384, .f32⟩
  | 12 => ⟨S1x16384x512, .f32⟩
  | 13 => ⟨S1x16384x128, .f32⟩
  | 14 => ⟨S1x16384x128, .f32⟩
  | 15 => ⟨S1x16384x512, .f32⟩
  | 16 => ⟨S1x16384x512, .f32⟩
  | 17 => ⟨S1x16384x256, .f32⟩
  | 18 => ⟨S1x16384x256, .f32⟩
  | 19 => ⟨S1x16384x256, .f32⟩
  | 20 => ⟨S1x16384x256, .f32⟩
  | 21 => ⟨S8x64, .f32⟩
  | 22 => ⟨S1x16384x8x64, .f32⟩
  | 23 => ⟨S1x16384x8x64, .f32⟩
  | 24 => ⟨S_, .f32⟩
  | 25 => ⟨S1x16384x8, .f32⟩
  | 26 => ⟨S1x16384x8x1, .f32⟩
  | 27 => ⟨S_, .f32⟩
  | 28 => ⟨S1x16384x8x1, .f32⟩
  | 29 => ⟨S1x16384x8x1, .f32⟩
  | 30 => ⟨S_, .f32⟩
  | 31 => ⟨S1x16384x8x1, .f32⟩
  | 32 => ⟨S1x16384x8x1, .f32⟩
  | 33 => ⟨S1x16384x8x1, .f32⟩
  | 34 => ⟨S1x16384x8x1, .f32⟩
  | 35 => ⟨S_, .f32⟩
  | 36 => ⟨S1x16384x8x1, .f32⟩
  | 37 => ⟨S1x16384x8x1, .f32⟩
  | 38 => ⟨S1x16384x8x64, .f32⟩
  | 39 => ⟨S1x16384x8x64, .f32⟩
  | 40 => ⟨S1x1x8x64, .f32⟩
  | 41 => ⟨S1x16384x8x64, .f32⟩
  | 42 => ⟨S1x16384x8x64, .f32⟩
  | 43 => ⟨S1x16384x8x32, .f32⟩
  | 44 => ⟨S16, .f32⟩
  | 45 => ⟨S16, .f32⟩
  | 46 => ⟨S_, .f32⟩
  | 47 => ⟨S16, .f32⟩
  | 48 => ⟨S16, .f32⟩
  | 49 => ⟨S_, .f32⟩
  | 50 => ⟨S16, .f32⟩
  | 51 => ⟨S16, .f32⟩
  | 52 => ⟨S16384x1, .f32⟩
  | 53 => ⟨S1x16, .f32⟩
  | 54 => ⟨S16384x16, .f32⟩
  | 55 => ⟨S16384x16, .f32⟩
  | 56 => ⟨S16384x16, .f32⟩
  | 57 => ⟨S16384x16, .f32⟩
  | 58 => ⟨S16384x1x16, .f32⟩
  | 59 => ⟨S16384x16, .f32⟩
  | 60 => ⟨S16384x1x16, .f32⟩
  | 61 => ⟨S1x16384x8x16, .f32⟩
  | 62 => ⟨S1x16384x8x16, .f32⟩
  | 63 => ⟨S1x16384x1x16, .f32⟩
  | 64 => ⟨S1x16384x8x16, .f32⟩
  | 65 => ⟨S1x16384x8x16, .f32⟩
  | 66 => ⟨S1x16384x1x16, .f32⟩
  | 67 => ⟨S1x16384x8x16, .f32⟩
  | 68 => ⟨S1x16384x8x16, .f32⟩
  | 69 => ⟨S1x16384x8x16, .f32⟩
  | 70 => ⟨S1x16384x1x16, .f32⟩
  | 71 => ⟨S1x16384x8x16, .f32⟩
  | 72 => ⟨S1x16384x8x16, .f32⟩
  | 73 => ⟨S1x16384x1x16, .f32⟩
  | 74 => ⟨S1x16384x8x16, .f32⟩
  | 75 => ⟨S1x16384x8x16, .f32⟩
  | 76 => ⟨S1x16384x8x16, .f32⟩
  | 77 => ⟨S1x16384x8x32, .f32⟩
  | 78 => ⟨S1x16384x8x32, .f32⟩
  | 79 => ⟨S16, .f32⟩
  | 80 => ⟨S16, .f32⟩
  | 81 => ⟨S_, .f32⟩
  | 82 => ⟨S16, .f32⟩
  | 83 => ⟨S16, .f32⟩
  | 84 => ⟨S_, .f32⟩
  | 85 => ⟨S16, .f32⟩
  | 86 => ⟨S16, .f32⟩
  | 87 => ⟨S16384x1, .f32⟩
  | 88 => ⟨S1x16, .f32⟩
  | 89 => ⟨S16384x16, .f32⟩
  | 90 => ⟨S16384x16, .f32⟩
  | 91 => ⟨S16384x16, .f32⟩
  | 92 => ⟨S16384x16, .f32⟩
  | 93 => ⟨S16384x1x16, .f32⟩
  | 94 => ⟨S16384x16, .f32⟩
  | 95 => ⟨S16384x1x16, .f32⟩
  | 96 => ⟨S1x16384x8x16, .f32⟩
  | 97 => ⟨S1x16384x8x16, .f32⟩
  | 98 => ⟨S1x16384x1x16, .f32⟩
  | 99 => ⟨S1x16384x8x16, .f32⟩
  | 100 => ⟨S1x16384x8x16, .f32⟩
  | 101 => ⟨S1x16384x1x16, .f32⟩
  | 102 => ⟨S1x16384x8x16, .f32⟩
  | 103 => ⟨S1x16384x8x16, .f32⟩
  | 104 => ⟨S1x16384x8x16, .f32⟩
  | 105 => ⟨S1x16384x1x16, .f32⟩
  | 106 => ⟨S1x16384x8x16, .f32⟩
  | 107 => ⟨S1x16384x8x16, .f32⟩
  | 108 => ⟨S1x16384x1x16, .f32⟩
  | 109 => ⟨S1x16384x8x16, .f32⟩
  | 110 => ⟨S1x16384x8x16, .f32⟩
  | 111 => ⟨S1x16384x8x16, .f32⟩
  | 112 => ⟨S1x16384x8x32, .f32⟩
  | 113 => ⟨S1x16384x8x64, .f32⟩
  | 114 => ⟨S_, .f32⟩
  | 115 => ⟨S1x16384x8x64, .f32⟩
  | 116 => ⟨S1x16384x8x64, .f32⟩
  | 117 => ⟨S_, .f32⟩
  | 118 => ⟨S1x16384x8x64, .f32⟩
  | 119 => ⟨S1x16384x8x64, .f32⟩
  | 120 => ⟨S1x16384x8x32, .f32⟩
  | 121 => ⟨S1x16384x8x32, .f32⟩
  | 122 => ⟨S1x16384x8x16, .f32⟩
  | 123 => ⟨S1x16384x8x16, .f32⟩
  | 124 => ⟨S1x16384x8x16, .f32⟩
  | 125 => ⟨S1x16384x8x16, .f32⟩
  | 126 => ⟨S1x16384x8x16, .f32⟩
  | 127 => ⟨S1x16384x8x16, .f32⟩
  | _ => ⟨S1x16384x2816, .f32⟩

abbrev hbmTy0_1 (i : Nat) : BufTy := match i % 128 with
  | 0 => ⟨S1x16384x8x16, .f32⟩
  | 1 => ⟨S1x16384x8x16, .f32⟩
  | 2 => ⟨S1x16384x8x16, .f32⟩
  | 3 => ⟨S1x16384x8x16, .f32⟩
  | 4 => ⟨S1x16384x8x16, .f32⟩
  | 5 => ⟨S1x16384x8x16, .f32⟩
  | 6 => ⟨S1x16384x8x16, .f32⟩
  | 7 => ⟨S_, .f32⟩
  | 8 => ⟨S1x16384x8x32, .f32⟩
  | 9 => ⟨S_, .f32⟩
  | 10 => ⟨S1x16384x8x32, .f32⟩
  | 11 => ⟨S1x16384x8x32, .f32⟩
  | 12 => ⟨S_, .f32⟩
  | 13 => ⟨S1x16384x8x64, .f32⟩
  | 14 => ⟨S1x16384x8x16, .f32⟩
  | 15 => ⟨S1x16384x8x16, .f32⟩
  | 16 => ⟨S1x16384x8x16, .f32⟩
  | 17 => ⟨S1x16384x8x16, .f32⟩
  | 18 => ⟨S1x16384x8x16, .f32⟩
  | 19 => ⟨S1x16384x8x16, .f32⟩
  | 20 => ⟨S1x16384x8x16, .f32⟩
  | 21 => ⟨S1x16384x8x16, .f32⟩
  | 22 => ⟨S1x16384x8x16, .f32⟩
  | 23 => ⟨S1x16384x8x16, .f32⟩
  | 24 => ⟨S1x16384x8x16, .f32⟩
  | 25 => ⟨S1x16384x8x16, .f32⟩
  | 26 => ⟨S1x16384x8x16, .f32⟩
  | 27 => ⟨S_, .f32⟩
  | 28 => ⟨S1x16384x8x32, .f32⟩
  | 29 => ⟨S_, .f32⟩
  | 30 => ⟨S1x16384x8x32, .f32⟩
  | 31 => ⟨S1x16384x8x32, .f32⟩
  | 32 => ⟨S_, .f32⟩
  | 33 => ⟨S1x16384x8x64, .f32⟩
  | 34 => ⟨S1x16384x8x64, .f32⟩
  | 35 => ⟨S1x16384x8x64, .f32⟩
  | 36 => ⟨S_, .f32⟩
  | 37 => ⟨S1x8x64, .f32⟩
  | 38 => ⟨S1x1x8x64, .f32⟩
  | 39 => ⟨S1x16384x8x64, .f32⟩
  | 40 => ⟨S1x16384x8x64, .f32⟩
  | 41 => ⟨S_, .f32⟩
  | 42 => ⟨S8x64, .f32⟩
  | 43 => ⟨S1x16384x8x64, .f32⟩
  | 44 => ⟨S_, .f32⟩
  | 45 => ⟨S1x16384x8, .f32⟩
  | 46 => ⟨S1x16384x8x1, .f32⟩
  | 47 => ⟨S1x16384x8x64, .f32⟩
  | 48 => ⟨S1x16384x8x64, .f32⟩
  | 49 => ⟨S1x16384x8x1, .f32⟩
  | 50 => ⟨S_, .f32⟩
  | 51 => ⟨S1x16384x8x1, .f32⟩
  | 52 => ⟨S1x16384x8x1, .f32⟩
  | 53 => ⟨S_, .f32⟩
  | 54 => ⟨S16384x8, .f32⟩
  | 55 => ⟨S1x16384x8, .f32⟩
  | 56 => ⟨S1x16384x8x64, .f32⟩
  | 57 => ⟨S1x16384x8x64, .f32⟩
  | 58 => ⟨S1x16384x8x64, .f32⟩
  | 59 => ⟨S1x16384x8x64, .f32⟩
  | 60 => ⟨S1x16384x8x64, .f32⟩
  | 61 => ⟨S1x16384x512, .f32⟩
  | 62 => ⟨S16384x8x64, .f32⟩
  | 63 => ⟨S8x64x16384, .f32⟩
  | 64 => ⟨S8x64x1, .f32⟩
  | _ => ⟨S1x16384x2816, .f32⟩

abbrev hbmTy (i : Nat) : BufTy := match i / 128 with
  | 0 => hbmTy0_0 i
  | 1 => hbmTy0_1 i
  | _ => ⟨S1x16384x2816, .f32⟩

abbrev bufTy : (tb : Table) → Fin (tcTables nBuf tb) → BufTy
  | .hbm, ⟨i, _⟩ => hbmTy i
  | _, _ => ⟨S1x16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_cst_5 : Ref sig .tc := ⟨.hbm, 81, rfl⟩
abbrev main_v72 : Ref sig .tc := ⟨.hbm, 82, rfl⟩
abbrev main_v73 : Ref sig .tc := ⟨.hbm, 83, rfl⟩
abbrev main_cst_6 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_cst_7 : Ref sig .tc := ⟨.hbm, 114, rfl⟩
abbrev main_v103 : Ref sig .tc := ⟨.hbm, 115, rfl⟩
abbrev main_v104 : Ref sig .tc := ⟨.hbm, 116, rfl⟩
abbrev main_cst_8 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_cst_9 : Ref sig .tc := ⟨.hbm, 135, rfl⟩
abbrev main_v122 : Ref sig .tc := ⟨.hbm, 136, rfl⟩
abbrev main_cst_10 : Ref sig .tc := ⟨.hbm, 137, rfl⟩
abbrev main_v123 : Ref sig .tc := ⟨.hbm, 138, rfl⟩
abbrev main_v124 : Ref sig .tc := ⟨.hbm, 139, rfl⟩
abbrev main_cst_11 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_cst_12 : Ref sig .tc := ⟨.hbm, 155, rfl⟩
abbrev main_v139 : Ref sig .tc := ⟨.hbm, 156, rfl⟩
abbrev main_cst_13 : Ref sig .tc := ⟨.hbm, 157, rfl⟩
abbrev main_v140 : Ref sig .tc := ⟨.hbm, 158, rfl⟩
abbrev main_v141 : Ref sig .tc := ⟨.hbm, 159, rfl⟩
abbrev main_cst_14 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_cst_15 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_cst_16 : Ref sig .tc := ⟨.hbm, 169, rfl⟩
abbrev main_v149 : Ref sig .tc := ⟨.hbm, 170, rfl⟩
abbrev main_v150 : Ref sig .tc := ⟨.hbm, 171, rfl⟩
abbrev main_cst_17 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_cst_18 : Ref sig .tc := ⟨.hbm, 178, rfl⟩
abbrev main_v156 : Ref sig .tc := ⟨.hbm, 179, rfl⟩
abbrev main_v157 : Ref sig .tc := ⟨.hbm, 180, rfl⟩
abbrev main_cst_19 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩

abbrev nD : Nat := 1
abbrev τ : Topo := Topo.v7x

variable {F : FTy → Type} [FloatOps F]
-- ==== KPrepBwd.lean ====
abbrev S1x16384x2816 : Shape := ⟨3, ![1, 16384, 2816]⟩
abbrev S64 : Shape := ⟨1, ![64]⟩
abbrev S1x16384x2x64 : Shape := ⟨4, ![1, 16384, 2, 64]⟩
abbrev S16384 : Shape := ⟨1, ![16384]⟩
abbrev S_ : Shape := ⟨0, ![]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x64 : Shape := ⟨2, ![16384, 64]⟩
abbrev S64x16384 : Shape := ⟨2, ![64, 16384]⟩
abbrev S16384x2816 : Shape := ⟨2, ![16384, 2816]⟩
abbrev S16384x768 : Shape := ⟨2, ![16384, 768]⟩
abbrev S768x16384 : Shape := ⟨2, ![768, 16384]⟩
abbrev S12x64x16384 : Shape := ⟨3, ![12, 64, 16384]⟩
abbrev S16384x2x64 : Shape := ⟨3, ![16384, 2, 64]⟩
abbrev S2x64x16384 : Shape := ⟨3, ![2, 64, 16384]⟩
abbrev S64x1 : Shape := ⟨2, ![64, 1]⟩
abbrev S2x64x1 : Shape := ⟨3, ![2, 64, 1]⟩
abbrev S1x64x2048 : Shape := ⟨3, ![1, 64, 2048]⟩
abbrev S64x2048 : Shape := ⟨2, ![64, 2048]⟩
abbrev S2048 : Shape := ⟨1, ![2048]⟩
abbrev S1x2048 : Shape := ⟨2, ![1, 2048]⟩
abbrev S16x2048 : Shape := ⟨2, ![16, 2048]⟩
abbrev S1x64x1 : Shape := ⟨3, ![1, 64, 1]⟩

abbrev nBuf : Space → Nat
  | .hbm => 87
  | .vmem => 12
  | .smem => 0
  | _ => 0

abbrev bufTy : (tb : Table) → Fin (tcTables nBuf tb) → BufTy
  | .hbm, ⟨0, _⟩ => ⟨S1x16384x2816, .f32⟩
  | .hbm, ⟨1, _⟩ => ⟨S64, .f32⟩
  | .hbm, ⟨2, _⟩ => ⟨S1x16384x2x64, .f32⟩
  | .hbm, ⟨3, _⟩ => ⟨S16384, .i32⟩
  | .hbm, ⟨4, _⟩ => ⟨S_, .i32⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S16384, .i32⟩
  | .hbm, ⟨13, _⟩ => ⟨S16384, .i32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S16384, .i1⟩
  | .hbm, ⟨18, _⟩ => ⟨S_, .i32⟩
  | .hbm, ⟨19, _⟩ => ⟨S16384, .i32⟩
  | .hbm, ⟨20, _⟩ => ⟨S16384, .i32⟩
  | .hbm, ⟨21, _⟩ => ⟨S16384, .i32⟩
  | .hbm, ⟨22, _⟩ => ⟨S16384, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i1⟩
  | .hbm, ⟨37, _⟩ => ⟨S_, .i32⟩
  | .hbm, ⟨38, _⟩ => ⟨S_, .i1⟩
  | .hbm, ⟨39, _⟩ => ⟨S16384, .i1⟩
  | .hbm, ⟨40, _⟩ => ⟨S16384, .i1⟩
  | .hbm, ⟨41, _⟩ => ⟨S16384, .i1⟩
  | .hbm, ⟨42, _⟩ => ⟨S16384, .i32⟩
  | .hbm, ⟨43, _⟩ => ⟨S16384, .i32⟩
  | .hbm, ⟨44, _⟩ => ⟨S16384, .i32⟩
  | .hbm, ⟨45, _⟩ => ⟨S16384, .f32⟩
  | .hbm, ⟨46, _⟩ => ⟨S16, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S16384x1, .f32⟩
  | .hbm, ⟨55, _⟩ => ⟨S1x16, .f32⟩
  | .hbm, ⟨56, _⟩ => ⟨S16384x16, .f32⟩
  | .hbm, ⟨57, _⟩ => ⟨S16384x16, .f32⟩
  | .hbm, ⟨58, _⟩ => ⟨S16384x16, .f32⟩
  | .hbm, ⟨59, _⟩ => ⟨S16384x1, .f32⟩
  | .hbm, ⟨60, _⟩ => ⟨S1x16, .f32⟩
  | .hbm, ⟨61, _⟩ => ⟨S16384x16, .f32⟩
  | .hbm, ⟨62, _⟩ => ⟨S16384x16, .f32⟩
  | .hbm, ⟨63, _⟩ => ⟨S16384x16, .f32⟩
  | .hbm, ⟨64, _⟩ => ⟨S16384x16, .f32⟩
  | .hbm, ⟨65, _⟩ => ⟨S16384x16, .f32⟩
  | .hbm, ⟨66, _⟩ => ⟨S16384x16, .f32⟩
  | .hbm, ⟨67, _⟩ => ⟨S16384x16, .f32⟩
  | .hbm, ⟨68, _⟩ => ⟨S16384x64, .f32⟩
  | .hbm, ⟨69, _⟩ => ⟨S16384x16, .f32⟩
  | .hbm, ⟨70, _⟩ => ⟨S16384x16, .f32⟩
  | .hbm, ⟨71, _⟩ => ⟨S16384x16, .f32⟩
  | .hbm, ⟨72, _⟩ => ⟨S16384x16, .f32⟩
  | .hbm, ⟨73, _⟩ => ⟨S16384x16, .f32⟩
  | .hbm, ⟨74, _⟩ => ⟨S16384x16, .f32⟩
  | .hbm, ⟨75, _⟩ => ⟨S16384x64, .f32⟩
  | .hbm, ⟨76, _⟩ => ⟨S64x16384, .f32⟩
  | .hbm, ⟨77, _⟩ => ⟨S64x16384, .f32⟩
  | .hbm, ⟨78, _⟩ => ⟨S16384x2816, .f32⟩
  | .hbm, ⟨79, _⟩ => ⟨S16384x768, .f32⟩
  | .hbm, ⟨80, _⟩ => ⟨S768x16384, .f32⟩
  | .hbm, ⟨81, _⟩ => ⟨S12x64x16384, .f32⟩
  | .hbm, ⟨82, _⟩ => ⟨S16384x2x64, .f32⟩
  | .hbm, ⟨83, _⟩ => ⟨S2x64x16384, .f32⟩
  | .hbm, ⟨84, _⟩ => ⟨S64x1, .f32⟩
  | .hbm, ⟨85, _⟩ => ⟨S2x64x16384, .f32⟩
  | .hbm, ⟨86, _⟩ => ⟨S2x64x1, .f32⟩
  | .local _ .vmem, ⟨0, _⟩ => ⟨S1x64x2048, .f32⟩
  | .local _ .vmem, ⟨1, _⟩ => ⟨S1x64x2048, .f32⟩
  | .local _ .vmem, ⟨2, _⟩ => ⟨S1x64x2048, .f32⟩
  | .local _ .vmem, ⟨3, _⟩ => ⟨S1x64x2048, .f32⟩
  | .local _ .vmem, ⟨4, _⟩ => ⟨S64x1, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S1x64x2048, .f32⟩
  | .local _ .vmem, ⟨10, _⟩ => ⟨S1x64x2048, .f32⟩
  | .local _ .vmem, ⟨11, _⟩ => ⟨S2x64x1, .f32⟩
  | _, _ => ⟨S1x16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_cst : Ref sig .tc := ⟨.hbm, 48, rfl⟩
abbrev main_v7 : Ref sig .tc := ⟨.hbm, 49, rfl⟩
abbrev main_v8 : Ref sig .tc := ⟨.hbm, 50, rfl⟩
abbrev main_cst_1 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42_0 : Ref sig .tc := ⟨.hbm, 85, rfl⟩
abbrev main_v42_1 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 2], ![false, false]⟩

def k0_off1 (i : grid0.Coords) : Fin 3 → Nat :=
  let arg1 : BitVec 32 := BitVec.ofNat 32 (i 1).val
  let v50 : Index := Scalar.indexCast arg1
  let c0_21 : Index := 0#32
  let c0_22 : Index := 0#32
  ![v50.toNat, 0, 0]
def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![v0.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S2x64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== KPrepBwdRefIdeal.lean ====
abbrev S1x16384x2816 : Shape := ⟨3, ![1, 16384, 2816]⟩
abbrev S64 : Shape := ⟨1, ![64]⟩
abbrev S1x16384x2x64 : Shape := ⟨4, ![1, 16384, 2, 64]⟩
abbrev S256 : Shape := ⟨1, ![256]⟩
abbrev S256x64 : Shape := ⟨2, ![256, 64]⟩
abbrev S16384 : Shape := ⟨1, ![16384]⟩
abbrev S1x64 : Shape := ⟨2, ![1, 64]⟩
abbrev S1x16384x512 : Shape := ⟨3, ![1, 16384, 512]⟩
abbrev S1x16384x128 : Shape := ⟨3, ![1, 16384, 128]⟩
abbrev S1x16384x256 : Shape := ⟨3, ![1, 16384, 256]⟩
abbrev S2x64 : Shape := ⟨2, ![2, 64]⟩
abbrev S_ : Shape := ⟨0, ![]⟩
abbrev S1x16384x2 : Shape := ⟨3, ![1, 16384, 2]⟩
abbrev S1x16384x2x1 : Shape := ⟨4, ![1, 16384, 2, 1]⟩
abbrev S1x1x2x64 : Shape := ⟨4, ![1, 1, 2, 64]⟩
abbrev S1x16384x2x32 : Shape := ⟨4, ![1, 16384, 2, 32]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x1x16 : Shape := ⟨3, ![16384, 1, 16]⟩
abbrev S1x16384x2x16 : Shape := ⟨4, ![1, 16384, 2, 16]⟩
abbrev S1x16384x1x16 : Shape := ⟨4, ![1, 16384, 1, 16]⟩
abbrev S1x2x64 : Shape := ⟨3, ![1, 2, 64]⟩
abbrev S16384x2 : Shape := ⟨2, ![16384, 2]⟩
abbrev S16384x2x64 : Shape := ⟨3, ![16384, 2, 64]⟩
abbrev S2x64x16384 : Shape := ⟨3, ![2, 64, 16384]⟩
abbrev S2x64x1 : Shape := ⟨3, ![2, 64, 1]⟩

abbrev nBuf : Space → Nat
  | .hbm => 187
  | .vmem => 0
  | .smem => 0
  | _ => 0

abbrev hbmTy0_0 (i : Nat) : BufTy := match i % 128 with
  | 0 => ⟨S1x16384x2816, .f32⟩
  | 1 => ⟨S64, .f32⟩
  | 2 => ⟨S1x16384x2x64, .f32⟩
  | 3 => ⟨S256, .i32⟩
  | 4 => ⟨S256x64, .i32⟩
  | 5 => ⟨S16384, .i32⟩
  | 6 => ⟨S16384, .f32⟩
  | 7 => ⟨S64, .i32⟩
  | 8 => ⟨S1x64, .i32⟩
  | 9 => ⟨S256x64, .i32⟩
  | 10 => ⟨S16384, .i32⟩
  | 11 => ⟨S16384, .f32⟩
  | 12 => ⟨S1x16384x512, .f32⟩
  | 13 => ⟨S1x16384x128, .f32⟩
  | 14 => ⟨S1x16384x128, .f32⟩
  | 15 => ⟨S1x16384x512, .f32⟩
  | 16 => ⟨S1x16384x512, .f32⟩
  | 17 => ⟨S1x16384x256, .f32⟩
  | 18 => ⟨S1x16384x256, .f32⟩
  | 19 => ⟨S1x16384x256, .f32⟩
  | 20 => ⟨S1x16384x256, .f32⟩
  | 21 => ⟨S2x64, .f32⟩
  | 22 => ⟨S1x16384x2x64, .f32⟩
  | 23 => ⟨S1x16384x2x64, .f32⟩
  | 24 => ⟨S_, .f32⟩
  | 25 => ⟨S1x16384x2, .f32⟩
  | 26 => ⟨S1x16384x2x1, .f32⟩
  | 27 => ⟨S_, .f32⟩
  | 28 => ⟨S1x16384x2x1, .f32⟩
  | 29 => ⟨S1x16384x2x1, .f32⟩
  | 30 => ⟨S_, .f32⟩
  | 31 => ⟨S1x16384x2x1, .f32⟩
  | 32 => ⟨S1x16384x2x1, .f32⟩
  | 33 => ⟨S1x16384x2x1, .f32⟩
  | 34 => ⟨S1x16384x2x1, .f32⟩
  | 35 => ⟨S_, .f32⟩
  | 36 => ⟨S1x16384x2x1, .f32⟩
  | 37 => ⟨S1x16384x2x1, .f32⟩
  | 38 => ⟨S1x16384x2x64, .f32⟩
  | 39 => ⟨S1x16384x2x64, .f32⟩
  | 40 => ⟨S1x1x2x64, .f32⟩
  | 41 => ⟨S1x16384x2x64, .f32⟩
  | 42 => ⟨S1x16384x2x64, .f32⟩
  | 43 => ⟨S1x16384x2x32, .f32⟩
  | 44 => ⟨S16, .f32⟩
  | 45 => ⟨S16, .f32⟩
  | 46 => ⟨S_, .f32⟩
  | 47 => ⟨S16, .f32⟩
  | 48 => ⟨S16, .f32⟩
  | 49 => ⟨S_, .f32⟩
  | 50 => ⟨S16, .f32⟩
  | 51 => ⟨S16, .f32⟩
  | 52 => ⟨S16384x1, .f32⟩
  | 53 => ⟨S1x16, .f32⟩
  | 54 => ⟨S16384x16, .f32⟩
  | 55 => ⟨S16384x16, .f32⟩
  | 56 => ⟨S16384x16, .f32⟩
  | 57 => ⟨S16384x16, .f32⟩
  | 58 => ⟨S16384x1x16, .f32⟩
  | 59 => ⟨S16384x16, .f32⟩
  | 60 => ⟨S16384x1x16, .f32⟩
  | 61 => ⟨S1x16384x2x16, .f32⟩
  | 62 => ⟨S1x16384x2x16, .f32⟩
  | 63 => ⟨S1x16384x1x16, .f32⟩
  | 64 => ⟨S1x16384x2x16, .f32⟩
  | 65 => ⟨S1x16384x2x16, .f32⟩
  | 66 => ⟨S1x16384x1x16, .f32⟩
  | 67 => ⟨S1x16384x2x16, .f32⟩
  | 68 => ⟨S1x16384x2x16, .f32⟩
  | 69 => ⟨S1x16384x2x16, .f32⟩
  | 70 => ⟨S1x16384x1x16, .f32⟩
  | 71 => ⟨S1x16384x2x16, .f32⟩
  | 72 => ⟨S1x16384x2x16, .f32⟩
  | 73 => ⟨S1x16384x1x16, .f32⟩
  | 74 => ⟨S1x16384x2x16, .f32⟩
  | 75 => ⟨S1x16384x2x16, .f32⟩
  | 76 => ⟨S1x16384x2x16, .f32⟩
  | 77 => ⟨S1x16384x2x32, .f32⟩
  | 78 => ⟨S1x16384x2x32, .f32⟩
  | 79 => ⟨S16, .f32⟩
  | 80 => ⟨S16, .f32⟩
  | 81 => ⟨S_, .f32⟩
  | 82 => ⟨S16, .f32⟩
  | 83 => ⟨S16, .f32⟩
  | 84 => ⟨S_, .f32⟩
  | 85 => ⟨S16, .f32⟩
  | 86 => ⟨S16, .f32⟩
  | 87 => ⟨S16384x1, .f32⟩
  | 88 => ⟨S1x16, .f32⟩
  | 89 => ⟨S16384x16, .f32⟩
  | 90 => ⟨S16384x16, .f32⟩
  | 91 => ⟨S16384x16, .f32⟩
  | 92 => ⟨S16384x16, .f32⟩
  | 93 => ⟨S16384x1x16, .f32⟩
  | 94 => ⟨S16384x16, .f32⟩
  | 95 => ⟨S16384x1x16, .f32⟩
  | 96 => ⟨S1x16384x2x16, .f32⟩
  | 97 => ⟨S1x16384x2x16, .f32⟩
  | 98 => ⟨S1x16384x1x16, .f32⟩
  | 99 => ⟨S1x16384x2x16, .f32⟩
  | 100 => ⟨S1x16384x2x16, .f32⟩
  | 101 => ⟨S1x16384x1x16, .f32⟩
  | 102 => ⟨S1x16384x2x16, .f32⟩
  | 103 => ⟨S1x16384x2x16, .f32⟩
  | 104 => ⟨S1x16384x2x16, .f32⟩
  | 105 => ⟨S1x16384x1x16, .f32⟩
  | 106 => ⟨S1x16384x2x16, .f32⟩
  | 107 => ⟨S1x16384x2x16, .f32⟩
  | 108 => ⟨S1x16384x1x16, .f32⟩
  | 109 => ⟨S1x16384x2x16, .f32⟩
  | 110 => ⟨S1x16384x2x16, .f32⟩
  | 111 => ⟨S1x16384x2x16, .f32⟩
  | 112 => ⟨S1x16384x2x32, .f32⟩
  | 113 => ⟨S1x16384x2x64, .f32⟩
  | 114 => ⟨S1x16384x2x32, .f32⟩
  | 115 => ⟨S1x16384x2x32, .f32⟩
  | 116 => ⟨S1x16384x2x16, .f32⟩
  | 117 => ⟨S1x16384x2x16, .f32⟩
  | 118 => ⟨S1x16384x2x16, .f32⟩
  | 119 => ⟨S1x16384x2x16, .f32⟩
  | 120 => ⟨S1x16384x2x16, .f32⟩
  | 121 => ⟨S1x16384x2x16, .f32⟩
  | 122 => ⟨S1x16384x2x16, .f32⟩
  | 123 => ⟨S1x16384x2x16, .f32⟩
  | 124 => ⟨S1x16384x2x16, .f32⟩
  | 125 => ⟨S1x16384x2x16, .f32⟩
  | 126 => ⟨S1x16384x2x16, .f32⟩
  | 127 => ⟨S1x16384x2x16, .f32⟩
  | _ => ⟨S1x16384x2816, .f32⟩

abbrev hbmTy0_1 (i : Nat) : BufTy := match i % 128 with
  | 0 => ⟨S1x16384x2x16, .f32⟩
  | 1 => ⟨S_, .f32⟩
  | 2 => ⟨S1x16384x2x32, .f32⟩
  | 3 => ⟨S_, .f32⟩
  | 4 => ⟨S1x16384x2x32, .f32⟩
  | 5 => ⟨S1x16384x2x32, .f32⟩
  | 6 => ⟨S_, .f32⟩
  | 7 => ⟨S1x16384x2x64, .f32⟩
  | 8 => ⟨S1x16384x2x16, .f32⟩
  | 9 => ⟨S1x16384x2x16, .f32⟩
  | 10 => ⟨S1x16384x2x16, .f32⟩
  | 11 => ⟨S1x16384x2x16, .f32⟩
  | 12 => ⟨S1x16384x2x16, .f32⟩
  | 13 => ⟨S1x16384x2x16, .f32⟩
  | 14 => ⟨S1x16384x2x16, .f32⟩
  | 15 => ⟨S1x16384x2x16, .f32⟩
  | 16 => ⟨S1x16384x2x16, .f32⟩
  | 17 => ⟨S1x16384x2x16, .f32⟩
  | 18 => ⟨S1x16384x2x16, .f32⟩
  | 19 => ⟨S1x16384x2x16, .f32⟩
  | 20 => ⟨S1x16384x2x16, .f32⟩
  | 21 => ⟨S_, .f32⟩
  | 22 => ⟨S1x16384x2x32, .f32⟩
  | 23 => ⟨S_, .f32⟩
  | 24 => ⟨S1x16384x2x32, .f32⟩
  | 25 => ⟨S1x16384x2x32, .f32⟩
  | 26 => ⟨S_, .f32⟩
  | 27 => ⟨S1x16384x2x64, .f32⟩
  | 28 => ⟨S1x16384x2x64, .f32⟩
  | 29 => ⟨S1x16384x2x64, .f32⟩
  | 30 => ⟨S_, .f32⟩
  | 31 => ⟨S1x2x64, .f32⟩
  | 32 => ⟨S1x1x2x64, .f32⟩
  | 33 => ⟨S1x16384x2x64, .f32⟩
  | 34 => ⟨S1x16384x2x64, .f32⟩
  | 35 => ⟨S_, .f32⟩
  | 36 => ⟨S2x64, .f32⟩
  | 37 => ⟨S1x16384x2x64, .f32⟩
  | 38 => ⟨S_, .f32⟩
  | 39 => ⟨S1x16384x2, .f32⟩
  | 40 => ⟨S1x16384x2x1, .f32⟩
  | 41 => ⟨S1x16384x2x64, .f32⟩
  | 42 => ⟨S1x16384x2x64, .f32⟩
  | 43 => ⟨S1x16384x2x1, .f32⟩
  | 44 => ⟨S_, .f32⟩
  | 45 => ⟨S1x16384x2x1, .f32⟩
  | 46 => ⟨S1x16384x2x1, .f32⟩
  | 47 => ⟨S_, .f32⟩
  | 48 => ⟨S16384x2, .f32⟩
  | 49 => ⟨S1x16384x2, .f32⟩
  | 50 => ⟨S1x16384x2x64, .f32⟩
  | 51 => ⟨S1x16384x2x64, .f32⟩
  | 52 => ⟨S1x16384x2x64, .f32⟩
  | 53 => ⟨S1x16384x2x64, .f32⟩
  | 54 => ⟨S1x16384x2x64, .f32⟩
  | 55 => ⟨S1x16384x128, .f32⟩
  | 56 => ⟨S16384x2x64, .f32⟩
  | 57 => ⟨S2x64x16384, .f32⟩
  | 58 => ⟨S2x64x1, .f32⟩
  | _ => ⟨S1x16384x2816, .f32⟩

abbrev hbmTy (i : Nat) : BufTy := match i / 128 with
  | 0 => hbmTy0_0 i
  | 1 => hbmTy0_1 i
  | _ => ⟨S1x16384x2816, .f32⟩

abbrev bufTy : (tb : Table) → Fin (tcTables nBuf tb) → BufTy
  | .hbm, ⟨i, _⟩ => hbmTy i
  | _, _ => ⟨S1x16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_cst_5 : Ref sig .tc := ⟨.hbm, 81, rfl⟩
abbrev main_v72 : Ref sig .tc := ⟨.hbm, 82, rfl⟩
abbrev main_v73 : Ref sig .tc := ⟨.hbm, 83, rfl⟩
abbrev main_cst_6 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_cst_7 : Ref sig .tc := ⟨.hbm, 129, rfl⟩
abbrev main_v118 : Ref sig .tc := ⟨.hbm, 130, rfl⟩
abbrev main_cst_8 : Ref sig .tc := ⟨.hbm, 131, rfl⟩
abbrev main_v119 : Ref sig .tc := ⟨.hbm, 132, rfl⟩
abbrev main_v120 : Ref sig .tc := ⟨.hbm, 133, rfl⟩
abbrev main_cst_9 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_cst_10 : Ref sig .tc := ⟨.hbm, 149, rfl⟩
abbrev main_v135 : Ref sig .tc := ⟨.hbm, 150, rfl⟩
abbrev main_cst_11 : Ref sig .tc := ⟨.hbm, 151, rfl⟩
abbrev main_v136 : Ref sig .tc := ⟨.hbm, 152, rfl⟩
abbrev main_v137 : Ref sig .tc := ⟨.hbm, 153, rfl⟩
abbrev main_cst_12 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_cst_13 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_cst_14 : Ref sig .tc := ⟨.hbm, 163, rfl⟩
abbrev main_v145 : Ref sig .tc := ⟨.hbm, 164, rfl⟩
abbrev main_v146 : Ref sig .tc := ⟨.hbm, 165, rfl⟩
abbrev main_cst_15 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_cst_16 : Ref sig .tc := ⟨.hbm, 172, rfl⟩
abbrev main_v152 : Ref sig .tc := ⟨.hbm, 173, rfl⟩
abbrev main_v153 : Ref sig .tc := ⟨.hbm, 174, rfl⟩
abbrev main_cst_17 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩

abbrev nD : Nat := 1
abbrev τ : Topo := Topo.v7x

variable {F : FTy → Type} [FloatOps F]
-- ==== ConvBwdB.lean ====
abbrev S1x16384x2816 : Shape := ⟨3, ![1, 16384, 2816]⟩
abbrev S31x256 : Shape := ⟨2, ![31, 256]⟩
abbrev S1x16384x256 : Shape := ⟨3, ![1, 16384, 256]⟩
abbrev S16384x2816 : Shape := ⟨2, ![16384, 2816]⟩
abbrev S16384x256 : Shape := ⟨2, ![16384, 256]⟩
abbrev S512x256 : Shape := ⟨2, ![512, 256]⟩
abbrev S16x256 : Shape := ⟨2, ![16, 256]⟩
abbrev S544x256 : Shape := ⟨2, ![544, 256]⟩
abbrev S8x536x256 : Shape := ⟨3, ![8, 536, 256]⟩
abbrev S536x256 : Shape := ⟨2, ![536, 256]⟩
abbrev S1x536x256 : Shape := ⟨3, ![1, 536, 256]⟩
abbrev S1x256 : Shape := ⟨2, ![1, 256]⟩
abbrev S1x512x256 : Shape := ⟨3, ![1, 512, 256]⟩

abbrev nBuf : Space → Nat
  | .hbm => 7
  | .vmem => 17
  | .smem => 0
  | _ => 0

abbrev bufTy : (tb : Table) → Fin (tcTables nBuf tb) → BufTy
  | .hbm, ⟨0, _⟩ => ⟨S1x16384x2816, .f32⟩
  | .hbm, ⟨1, _⟩ => ⟨S31x256, .f32⟩
  | .hbm, ⟨2, _⟩ => ⟨S1x16384x256, .f32⟩
  | .hbm, ⟨3, _⟩ => ⟨S16384x2816, .f32⟩
  | .hbm, ⟨4, _⟩ => ⟨S16384x256, .f32⟩
  | .hbm, ⟨5, _⟩ => ⟨S16384x256, .bf16⟩
  | .hbm, ⟨6, _⟩ => ⟨S16384x256, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S16x256, .f32⟩
  | .local _ .vmem, ⟨7, _⟩ => ⟨S16x256, .f32⟩
  | .local _ .vmem, ⟨8, _⟩ => ⟨S16x256, .f32⟩
  | .local _ .vmem, ⟨9, _⟩ => ⟨S16x256, .f32⟩
  | .local _ .vmem, ⟨10, _⟩ => ⟨S31x256, .f32⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S544x256, .f32⟩
  | .local _ .vmem, ⟨16, _⟩ => ⟨S8x536x256, .f32⟩
  | _, _ => ⟨S1x16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S31x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConvBwdBRefIdeal.lean ====
abbrev S1x16384x2816 : Shape := ⟨3, ![1, 16384, 2816]⟩
abbrev S31x256 : Shape := ⟨2, ![31, 256]⟩
abbrev S1x16384x256 : Shape := ⟨3, ![1, 16384, 256]⟩
abbrev S1x16384x512 : Shape := ⟨3, ![1, 16384, 512]⟩
abbrev S1x16384x128 : Shape := ⟨3, ![1, 16384, 128]⟩
abbrev S_ : Shape := ⟨0, ![]⟩
abbrev S256 : Shape := ⟨1, ![256]⟩
abbrev S1x15x256 : Shape := ⟨3, ![1, 15, 256]⟩
abbrev S1x16414x256 : Shape := ⟨3, ![1, 16414, 256]⟩
abbrev S1x256 : Shape := ⟨2, ![1, 256]⟩
abbrev S1x1x256 : Shape := ⟨3, ![1, 1, 256]⟩
abbrev S16384x256 : Shape := ⟨2, ![16384, 256]⟩

abbrev nBuf : Space → Nat
  | .hbm => 424
  | .vmem => 0
  | .smem => 0
  | _ => 0

abbrev hbmTy0_0 (i : Nat) : BufTy := match i % 128 with
  | 0 => ⟨S1x16384x2816, .f32⟩
  | 1 => ⟨S31x256, .f32⟩
  | 2 => ⟨S1x16384x256, .f32⟩
  | 3 => ⟨S1x16384x512, .f32⟩
  | 4 => ⟨S1x16384x128, .f32⟩
  | 5 => ⟨S1x16384x128, .f32⟩
  | 6 => ⟨S1x16384x512, .f32⟩
  | 7 => ⟨S1x16384x512, .f32⟩
  | 8 => ⟨S1x16384x256, .f32⟩
  | 9 => ⟨S1x16384x256, .f32⟩
  | 10 => ⟨S1x16384x256, .f32⟩
  | 11 => ⟨S1x16384x256, .f32⟩
  | 12 => ⟨S1x16384x256, .f32⟩
  | 13 => ⟨S1x16384x256, .f32⟩
  | 14 => ⟨S1x16384x256, .f32⟩
  | 15 => ⟨S1x16384x256, .f32⟩
  | 16 => ⟨S_, .f32⟩
  | 17 => ⟨S1x16384x256, .f32⟩
  | 18 => ⟨S1x16384x256, .f32⟩
  | 19 => ⟨S_, .f32⟩
  | 20 => ⟨S1x16384x256, .f32⟩
  | 21 => ⟨S1x16384x256, .f32⟩
  | 22 => ⟨S_, .f32⟩
  | 23 => ⟨S1x16384x256, .f32⟩
  | 24 => ⟨S1x16384x256, .f32⟩
  | 25 => ⟨S1x16384x256, .f32⟩
  | 26 => ⟨S1x16384x256, .f32⟩
  | 27 => ⟨S_, .f32⟩
  | 28 => ⟨S256, .f32⟩
  | 29 => ⟨S_, .f32⟩
  | 30 => ⟨S1x15x256, .f32⟩
  | 31 => ⟨S1x16414x256, .f32⟩
  | 32 => ⟨S_, .f32⟩
  | 33 => ⟨S1x15x256, .f32⟩
  | 34 => ⟨S_, .f32⟩
  | 35 => ⟨S1x15x256, .f32⟩
  | 36 => ⟨S1x16384x256, .f32⟩
  | 37 => ⟨S1x256, .f32⟩
  | 38 => ⟨S256, .f32⟩
  | 39 => ⟨S1x1x256, .f32⟩
  | 40 => ⟨S1x16384x256, .f32⟩
  | 41 => ⟨S1x16384x256, .f32⟩
  | 42 => ⟨S_, .f32⟩
  | 43 => ⟨S1x16384x256, .f32⟩
  | 44 => ⟨S1x16384x256, .f32⟩
  | 45 => ⟨S1x16384x256, .f32⟩
  | 46 => ⟨S1x256, .f32⟩
  | 47 => ⟨S256, .f32⟩
  | 48 => ⟨S1x1x256, .f32⟩
  | 49 => ⟨S1x16384x256, .f32⟩
  | 50 => ⟨S1x16384x256, .f32⟩
  | 51 => ⟨S1x16384x256, .f32⟩
  | 52 => ⟨S1x16384x256, .f32⟩
  | 53 => ⟨S1x256, .f32⟩
  | 54 => ⟨S256, .f32⟩
  | 55 => ⟨S1x1x256, .f32⟩
  | 56 => ⟨S1x16384x256, .f32⟩
  | 57 => ⟨S1x16384x256, .f32⟩
  | 58 => ⟨S1x16384x256, .f32⟩
  | 59 => ⟨S1x16384x256, .f32⟩
  | 60 => ⟨S1x256, .f32⟩
  | 61 => ⟨S256, .f32⟩
  | 62 => ⟨S1x1x256, .f32⟩
  | 63 => ⟨S1x16384x256, .f32⟩
  | 64 => ⟨S1x16384x256, .f32⟩
  | 65 => ⟨S1x16384x256, .f32⟩
  | 66 => ⟨S1x16384x256, .f32⟩
  | 67 => ⟨S1x256, .f32⟩
  | 68 => ⟨S256, .f32⟩
  | 69 => ⟨S1x1x256, .f32⟩
  | 70 => ⟨S1x16384x256, .f32⟩
  | 71 => ⟨S1x16384x256, .f32⟩
  | 72 => ⟨S1x16384x256, .f32⟩
  | 73 => ⟨S1x16384x256, .f32⟩
  | 74 => ⟨S1x256, .f32⟩
  | 75 => ⟨S256, .f32⟩
  | 76 => ⟨S1x1x256, .f32⟩
  | 77 => ⟨S1x16384x256, .f32⟩
  | 78 => ⟨S1x16384x256, .f32⟩
  | 79 => ⟨S1x16384x256, .f32⟩
  | 80 => ⟨S1x16384x256, .f32⟩
  | 81 => ⟨S1x256, .f32⟩
  | 82 => ⟨S256, .f32⟩
  | 83 => ⟨S1x1x256, .f32⟩
  | 84 => ⟨S1x16384x256, .f32⟩
  | 85 => ⟨S1x16384x256, .f32⟩
  | 86 => ⟨S1x16384x256, .f32⟩
  | 87 => ⟨S1x16384x256, .f32⟩
  | 88 => ⟨S1x256, .f32⟩
  | 89 => ⟨S256, .f32⟩
  | 90 => ⟨S1x1x256, .f32⟩
  | 91 => ⟨S1x16384x256, .f32⟩
  | 92 => ⟨S1x16384x256, .f32⟩
  | 93 => ⟨S1x16384x256, .f32⟩
  | 94 => ⟨S1x16384x256, .f32⟩
  | 95 => ⟨S1x256, .f32⟩
  | 96 => ⟨S256, .f32⟩
  | 97 => ⟨S1x1x256, .f32⟩
  | 98 => ⟨S1x16384x256, .f32⟩
  | 99 => ⟨S1x16384x256, .f32⟩
  | 100 => ⟨S1x16384x256, .f32⟩
  | 101 => ⟨S1x16384x256, .f32⟩
  | 102 => ⟨S1x256, .f32⟩
  | 103 => ⟨S256, .f32⟩
  | 104 => ⟨S1x1x256, .f32⟩
  | 105 => ⟨S1x16384x256, .f32⟩
  | 106 => ⟨S1x16384x256, .f32⟩
  | 107 => ⟨S1x16384x256, .f32⟩
  | 108 => ⟨S1x16384x256, .f32⟩
  | 109 => ⟨S1x256, .f32⟩
  | 110 => ⟨S256, .f32⟩
  | 111 => ⟨S1x1x256, .f32⟩
  | 112 => ⟨S1x16384x256, .f32⟩
  | 113 => ⟨S1x16384x256, .f32⟩
  | 114 => ⟨S1x16384x256, .f32⟩
  | 115 => ⟨S1x16384x256, .f32⟩
  | 116 => ⟨S1x256, .f32⟩
  | 117 => ⟨S256, .f32⟩
  | 118 => ⟨S1x1x256, .f32⟩
  | 119 => ⟨S1x16384x256, .f32⟩
  | 120 => ⟨S1x16384x256, .f32⟩
  | 121 => ⟨S1x16384x256, .f32⟩
  | 122 => ⟨S1x16384x256, .f32⟩
  | 123 => ⟨S1x256, .f32⟩
  | 124 => ⟨S256, .f32⟩
  | 125 => ⟨S1x1x256, .f32⟩
  | 126 => ⟨S1x16384x256, .f32⟩
  | 127 => ⟨S1x16384x256, .f32⟩
  | _ => ⟨S1x16384x2816, .f32⟩

abbrev hbmTy0_1 (i : Nat) : BufTy := match i % 128 with
  | 0 => ⟨S1x16384x256, .f32⟩
  | 1 => ⟨S1x16384x256, .f32⟩
  | 2 => ⟨S1x256, .f32⟩
  | 3 => ⟨S256, .f32⟩
  | 4 => ⟨S1x1x256, .f32⟩
  | 5 => ⟨S1x16384x256, .f32⟩
  | 6 => ⟨S1x16384x256, .f32⟩
  | 7 => ⟨S1x16384x256, .f32⟩
  | 8 => ⟨S1x16384x256, .f32⟩
  | 9 => ⟨S1x256, .f32⟩
  | 10 => ⟨S256, .f32⟩
  | 11 => ⟨S1x1x256, .f32⟩
  | 12 => ⟨S1x16384x256, .f32⟩
  | 13 => ⟨S1x16384x256, .f32⟩
  | 14 => ⟨S1x16384x256, .f32⟩
  | 15 => ⟨S1x16384x256, .f32⟩
  | 16 => ⟨S1x256, .f32⟩
  | 17 => ⟨S256, .f32⟩
  | 18 => ⟨S1x1x256, .f32⟩
  | 19 => ⟨S1x16384x256, .f32⟩
  | 20 => ⟨S1x16384x256, .f32⟩
  | 21 => ⟨S1x16384x256, .f32⟩
  | 22 => ⟨S1x16384x256, .f32⟩
  | 23 => ⟨S1x256, .f32⟩
  | 24 => ⟨S256, .f32⟩
  | 25 => ⟨S1x1x256, .f32⟩
  | 26 => ⟨S1x16384x256, .f32⟩
  | 27 => ⟨S1x16384x256, .f32⟩
  | 28 => ⟨S1x16384x256, .f32⟩
  | 29 => ⟨S1x16384x256, .f32⟩
  | 30 => ⟨S1x256, .f32⟩
  | 31 => ⟨S256, .f32⟩
  | 32 => ⟨S1x1x256, .f32⟩
  | 33 => ⟨S1x16384x256, .f32⟩
  | 34 => ⟨S1x16384x256, .f32⟩
  | 35 => ⟨S1x16384x256, .f32⟩
  | 36 => ⟨S1x16384x256, .f32⟩
  | 37 => ⟨S1x256, .f32⟩
  | 38 => ⟨S256, .f32⟩
  | 39 => ⟨S1x1x256, .f32⟩
  | 40 => ⟨S1x16384x256, .f32⟩
  | 41 => ⟨S1x16384x256, .f32⟩
  | 42 => ⟨S1x16384x256, .f32⟩
  | 43 => ⟨S1x16384x256, .f32⟩
  | 44 => ⟨S1x256, .f32⟩
  | 45 => ⟨S256, .f32⟩
  | 46 => ⟨S1x1x256, .f32⟩
  | 47 => ⟨S1x16384x256, .f32⟩
  | 48 => ⟨S1x16384x256, .f32⟩
  | 49 => ⟨S1x16384x256, .f32⟩
  | 50 => ⟨S1x16384x256, .f32⟩
  | 51 => ⟨S1x256, .f32⟩
  | 52 => ⟨S256, .f32⟩
  | 53 => ⟨S1x1x256, .f32⟩
  | 54 => ⟨S1x16384x256, .f32⟩
  | 55 => ⟨S1x16384x256, .f32⟩
  | 56 => ⟨S1x16384x256, .f32⟩
  | 57 => ⟨S1x16384x256, .f32⟩
  | 58 => ⟨S1x256, .f32⟩
  | 59 => ⟨S256, .f32⟩
  | 60 => ⟨S1x1x256, .f32⟩
  | 61 => ⟨S1x16384x256, .f32⟩
  | 62 => ⟨S1x16384x256, .f32⟩
  | 63 => ⟨S1x16384x256, .f32⟩
  | 64 => ⟨S1x16384x256, .f32⟩
  | 65 => ⟨S1x256, .f32⟩
  | 66 => ⟨S256, .f32⟩
  | 67 => ⟨S1x1x256, .f32⟩
  | 68 => ⟨S1x16384x256, .f32⟩
  | 69 => ⟨S1x16384x256, .f32⟩
  | 70 => ⟨S1x16384x256, .f32⟩
  | 71 => ⟨S1x16384x256, .f32⟩
  | 72 => ⟨S1x256, .f32⟩
  | 73 => ⟨S256, .f32⟩
  | 74 => ⟨S1x1x256, .f32⟩
  | 75 => ⟨S1x16384x256, .f32⟩
  | 76 => ⟨S1x16384x256, .f32⟩
  | 77 => ⟨S1x16384x256, .f32⟩
  | 78 => ⟨S1x16384x256, .f32⟩
  | 79 => ⟨S1x256, .f32⟩
  | 80 => ⟨S256, .f32⟩
  | 81 => ⟨S1x1x256, .f32⟩
  | 82 => ⟨S1x16384x256, .f32⟩
  | 83 => ⟨S1x16384x256, .f32⟩
  | 84 => ⟨S1x16384x256, .f32⟩
  | 85 => ⟨S1x16384x256, .f32⟩
  | 86 => ⟨S1x256, .f32⟩
  | 87 => ⟨S256, .f32⟩
  | 88 => ⟨S1x1x256, .f32⟩
  | 89 => ⟨S1x16384x256, .f32⟩
  | 90 => ⟨S1x16384x256, .f32⟩
  | 91 => ⟨S1x16384x256, .f32⟩
  | 92 => ⟨S1x16384x256, .f32⟩
  | 93 => ⟨S1x256, .f32⟩
  | 94 => ⟨S256, .f32⟩
  | 95 => ⟨S1x1x256, .f32⟩
  | 96 => ⟨S1x16384x256, .f32⟩
  | 97 => ⟨S1x16384x256, .f32⟩
  | 98 => ⟨S1x16384x256, .f32⟩
  | 99 => ⟨S1x16384x256, .f32⟩
  | 100 => ⟨S1x256, .f32⟩
  | 101 => ⟨S256, .f32⟩
  | 102 => ⟨S1x1x256, .f32⟩
  | 103 => ⟨S1x16384x256, .f32⟩
  | 104 => ⟨S1x16384x256, .f32⟩
  | 105 => ⟨S1x16384x256, .f32⟩
  | 106 => ⟨S1x16384x256, .f32⟩
  | 107 => ⟨S1x256, .f32⟩
  | 108 => ⟨S256, .f32⟩
  | 109 => ⟨S1x1x256, .f32⟩
  | 110 => ⟨S1x16384x256, .f32⟩
  | 111 => ⟨S1x16384x256, .f32⟩
  | 112 => ⟨S1x16384x256, .f32⟩
  | 113 => ⟨S1x16384x256, .f32⟩
  | 114 => ⟨S1x256, .f32⟩
  | 115 => ⟨S256, .f32⟩
  | 116 => ⟨S1x1x256, .f32⟩
  | 117 => ⟨S1x16384x256, .f32⟩
  | 118 => ⟨S1x16384x256, .f32⟩
  | 119 => ⟨S1x16384x256, .f32⟩
  | 120 => ⟨S1x16384x256, .f32⟩
  | 121 => ⟨S1x256, .f32⟩
  | 122 => ⟨S256, .f32⟩
  | 123 => ⟨S1x1x256, .f32⟩
  | 124 => ⟨S1x16384x256, .f32⟩
  | 125 => ⟨S1x16384x256, .f32⟩
  | 126 => ⟨S1x16384x256, .f32⟩
  | 127 => ⟨S1x1x256, .f32⟩
  | _ => ⟨S1x16384x2816, .f32⟩

abbrev hbmTy0_2 (i : Nat) : BufTy := match i % 128 with
  | 0 => ⟨S1x16384x256, .f32⟩
  | 1 => ⟨S1x16384x256, .f32⟩
  | 2 => ⟨S1x16384x256, .f32⟩
  | 3 => ⟨S1x16384x256, .f32⟩
  | 4 => ⟨S1x16384x256, .f32⟩
  | 5 => ⟨S1x16384x256, .f32⟩
  | 6 => ⟨S_, .f32⟩
  | 7 => ⟨S1x16414x256, .f32⟩
  | 8 => ⟨S1x16384x256, .f32⟩
  | 9 => ⟨S1x16384x256, .f32⟩
  | 10 => ⟨S_, .f32⟩
  | 11 => ⟨S1x16414x256, .f32⟩
  | 12 => ⟨S1x16414x256, .f32⟩
  | 13 => ⟨S1x16384x256, .f32⟩
  | 14 => ⟨S1x16384x256, .f32⟩
  | 15 => ⟨S_, .f32⟩
  | 16 => ⟨S1x16414x256, .f32⟩
  | 17 => ⟨S1x16414x256, .f32⟩
  | 18 => ⟨S1x16384x256, .f32⟩
  | 19 => ⟨S1x16384x256, .f32⟩
  | 20 => ⟨S_, .f32⟩
  | 21 => ⟨S1x16414x256, .f32⟩
  | 22 => ⟨S1x16414x256, .f32⟩
  | 23 => ⟨S1x16384x256, .f32⟩
  | 24 => ⟨S1x16384x256, .f32⟩
  | 25 => ⟨S_, .f32⟩
  | 26 => ⟨S1x16414x256, .f32⟩
  | 27 => ⟨S1x16414x256, .f32⟩
  | 28 => ⟨S1x16384x256, .f32⟩
  | 29 => ⟨S1x16384x256, .f32⟩
  | 30 => ⟨S_, .f32⟩
  | 31 => ⟨S1x16414x256, .f32⟩
  | 32 => ⟨S1x16414x256, .f32⟩
  | 33 => ⟨S1x16384x256, .f32⟩
  | 34 => ⟨S1x16384x256, .f32⟩
  | 35 => ⟨S_, .f32⟩
  | 36 => ⟨S1x16414x256, .f32⟩
  | 37 => ⟨S1x16414x256, .f32⟩
  | 38 => ⟨S1x16384x256, .f32⟩
  | 39 => ⟨S1x16384x256, .f32⟩
  | 40 => ⟨S_, .f32⟩
  | 41 => ⟨S1x16414x256, .f32⟩
  | 42 => ⟨S1x16414x256, .f32⟩
  | 43 => ⟨S1x16384x256, .f32⟩
  | 44 => ⟨S1x16384x256, .f32⟩
  | 45 => ⟨S_, .f32⟩
  | 46 => ⟨S1x16414x256, .f32⟩
  | 47 => ⟨S1x16414x256, .f32⟩
  | 48 => ⟨S1x16384x256, .f32⟩
  | 49 => ⟨S1x16384x256, .f32⟩
  | 50 => ⟨S_, .f32⟩
  | 51 => ⟨S1x16414x256, .f32⟩
  | 52 => ⟨S1x16414x256, .f32⟩
  | 53 => ⟨S1x16384x256, .f32⟩
  | 54 => ⟨S1x16384x256, .f32⟩
  | 55 => ⟨S_, .f32⟩
  | 56 => ⟨S1x16414x256, .f32⟩
  | 57 => ⟨S1x16414x256, .f32⟩
  | 58 => ⟨S1x16384x256, .f32⟩
  | 59 => ⟨S1x16384x256, .f32⟩
  | 60 => ⟨S_, .f32⟩
  | 61 => ⟨S1x16414x256, .f32⟩
  | 62 => ⟨S1x16414x256, .f32⟩
  | 63 => ⟨S1x16384x256, .f32⟩
  | 64 => ⟨S1x16384x256, .f32⟩
  | 65 => ⟨S_, .f32⟩
  | 66 => ⟨S1x16414x256, .f32⟩
  | 67 => ⟨S1x16414x256, .f32⟩
  | 68 => ⟨S1x16384x256, .f32⟩
  | 69 => ⟨S1x16384x256, .f32⟩
  | 70 => ⟨S_, .f32⟩
  | 71 => ⟨S1x16414x256, .f32⟩
  | 72 => ⟨S1x16414x256, .f32⟩
  | 73 => ⟨S1x16384x256, .f32⟩
  | 74 => ⟨S1x16384x256, .f32⟩
  | 75 => ⟨S_, .f32⟩
  | 76 => ⟨S1x16414x256, .f32⟩
  | 77 => ⟨S1x16414x256, .f32⟩
  | 78 => ⟨S1x16384x256, .f32⟩
  | 79 => ⟨S1x16384x256, .f32⟩
  | 80 => ⟨S_, .f32⟩
  | 81 => ⟨S1x16414x256, .f32⟩
  | 82 => ⟨S1x16414x256, .f32⟩
  | 83 => ⟨S1x16384x256, .f32⟩
  | 84 => ⟨S1x16384x256, .f32⟩
  | 85 => ⟨S_, .f32⟩
  | 86 => ⟨S1x16414x256, .f32⟩
  | 87 => ⟨S1x16414x256, .f32⟩
  | 88 => ⟨S1x16384x256, .f32⟩
  | 89 => ⟨S1x16384x256, .f32⟩
  | 90 => ⟨S_, .f32⟩
  | 91 => ⟨S1x16414x256, .f32⟩
  | 92 => ⟨S1x16414x256, .f32⟩
  | 93 => ⟨S1x16384x256, .f32⟩
  | 94 => ⟨S1x16384x256, .f32⟩
  | 95 => ⟨S_, .f32⟩
  | 96 => ⟨S1x16414x256, .f32⟩
  | 97 => ⟨S1x16414x256, .f32⟩
  | 98 => ⟨S1x16384x256, .f32⟩
  | 99 => ⟨S1x16384x256, .f32⟩
  | 100 => ⟨S_, .f32⟩
  | 101 => ⟨S1x16414x256, .f32⟩
  | 102 => ⟨S1x16414x256, .f32⟩
  | 103 => ⟨S1x16384x256, .f32⟩
  | 104 => ⟨S1x16384x256, .f32⟩
  | 105 => ⟨S_, .f32⟩
  | 106 => ⟨S1x16414x256, .f32⟩
  | 107 => ⟨S1x16414x256, .f32⟩
  | 108 => ⟨S1x16384x256, .f32⟩
  | 109 => ⟨S1x16384x256, .f32⟩
  | 110 => ⟨S_, .f32⟩
  | 111 => ⟨S1x16414x256, .f32⟩
  | 112 => ⟨S1x16414x256, .f32⟩
  | 113 => ⟨S1x16384x256, .f32⟩
  | 114 => ⟨S1x16384x256, .f32⟩
  | 115 => ⟨S_, .f32⟩
  | 116 => ⟨S1x16414x256, .f32⟩
  | 117 => ⟨S1x16414x256, .f32⟩
  | 118 => ⟨S1x16384x256, .f32⟩
  | 119 => ⟨S1x16384x256, .f32⟩
  | 120 => ⟨S_, .f32⟩
  | 121 => ⟨S1x16414x256, .f32⟩
  | 122 => ⟨S1x16414x256, .f32⟩
  | 123 => ⟨S1x16384x256, .f32⟩
  | 124 => ⟨S1x16384x256, .f32⟩
  | 125 => ⟨S_, .f32⟩
  | 126 => ⟨S1x16414x256, .f32⟩
  | 127 => ⟨S1x16414x256, .f32⟩
  | _ => ⟨S1x16384x2816, .f32⟩

abbrev hbmTy0_3 (i : Nat) : BufTy := match i % 128 with
  | 0 => ⟨S1x16384x256, .f32⟩
  | 1 => ⟨S1x16384x256, .f32⟩
  | 2 => ⟨S_, .f32⟩
  | 3 => ⟨S1x16414x256, .f32⟩
  | 4 => ⟨S1x16414x256, .f32⟩
  | 5 => ⟨S1x16384x256, .f32⟩
  | 6 => ⟨S1x16384x256, .f32⟩
  | 7 => ⟨S_, .f32⟩
  | 8 => ⟨S1x16414x256, .f32⟩
  | 9 => ⟨S1x16414x256, .f32⟩
  | 10 => ⟨S1x16384x256, .f32⟩
  | 11 => ⟨S1x16384x256, .f32⟩
  | 12 => ⟨S_, .f32⟩
  | 13 => ⟨S1x16414x256, .f32⟩
  | 14 => ⟨S1x16414x256, .f32⟩
  | 15 => ⟨S1x16384x256, .f32⟩
  | 16 => ⟨S1x16384x256, .f32⟩
  | 17 => ⟨S_, .f32⟩
  | 18 => ⟨S1x16414x256, .f32⟩
  | 19 => ⟨S1x16414x256, .f32⟩
  | 20 => ⟨S1x16384x256, .f32⟩
  | 21 => ⟨S1x16384x256, .f32⟩
  | 22 => ⟨S_, .f32⟩
  | 23 => ⟨S1x16414x256, .f32⟩
  | 24 => ⟨S1x16414x256, .f32⟩
  | 25 => ⟨S1x16384x256, .f32⟩
  | 26 => ⟨S1x16384x256, .f32⟩
  | 27 => ⟨S_, .f32⟩
  | 28 => ⟨S1x16414x256, .f32⟩
  | 29 => ⟨S1x16414x256, .f32⟩
  | 30 => ⟨S1x15x256, .f32⟩
  | 31 => ⟨S1x16384x256, .f32⟩
  | 32 => ⟨S1x15x256, .f32⟩
  | 33 => ⟨S1x16384x256, .f32⟩
  | 34 => ⟨S1x16384x256, .f32⟩
  | 35 => ⟨S1x16384x256, .f32⟩
  | 36 => ⟨S16384x256, .f32⟩
  | 37 => ⟨S16384x256, .bf16⟩
  | 38 => ⟨S16384x256, .f32⟩
  | 39 => ⟨S16384x256, .bf16⟩
  | _ => ⟨S1x16384x2816, .f32⟩

abbrev hbmTy (i : Nat) : BufTy := match i / 128 with
  | 0 => hbmTy0_0 i
  | 1 => hbmTy0_1 i
  | 2 => hbmTy0_2 i
  | 3 => hbmTy0_3 i
  | _ => ⟨S1x16384x2816, .f32⟩

abbrev bufTy : (tb : Table) → Fin (tcTables nBuf tb) → BufTy
  | .hbm, ⟨i, _⟩ => hbmTy i
  | _, _ => ⟨S1x16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_v240 : Ref sig .tc := ⟨.hbm, 251, rfl⟩
abbrev main_v241 : Ref sig .tc := ⟨.hbm, 252, rfl⟩
abbrev main_v242 : Ref sig .tc := ⟨.hbm, 253, rfl⟩
abbrev main_v243 : Ref sig .tc := ⟨.hbm, 254, rfl⟩
abbrev main_v244 : Ref sig .tc := ⟨.hbm, 255, rfl⟩
abbrev main_v245 : Ref sig .tc := ⟨.hbm, 256, rfl⟩
abbrev main_v246 : Ref sig .tc := ⟨.hbm, 257, rfl⟩
abbrev main_v247 : Ref sig .tc := ⟨.hbm, 258, rfl⟩
abbrev main_v248 : Ref sig .tc := ⟨.hbm, 259, rfl⟩
abbrev main_v249 : Ref sig .tc := ⟨.hbm, 260, rfl⟩
abbrev main_v250 : Ref sig .tc := ⟨.hbm, 261, rfl⟩
abbrev main_cst_7 : Ref sig .tc := ⟨.hbm, 262, rfl⟩
abbrev main_v251 : Ref sig .tc := ⟨.hbm, 263, rfl⟩
abbrev main_v252 : Ref sig .tc := ⟨.hbm, 264, rfl⟩
abbrev main_v253 : Ref sig .tc := ⟨.hbm, 265, rfl⟩
abbrev main_cst_8 : Ref sig .tc := ⟨.hbm, 266, rfl⟩
abbrev main_v254 : Ref sig .tc := ⟨.hbm, 267, rfl⟩
abbrev main_v255 : Ref sig .tc := ⟨.hbm, 268, rfl⟩
abbrev main_v256 : Ref sig .tc := ⟨.hbm, 269, rfl⟩
abbrev main_v257 : Ref sig .tc := ⟨.hbm, 270, rfl⟩
abbrev main_cst_9 : Ref sig .tc := ⟨.hbm, 271, rfl⟩
abbrev main_v258 : Ref sig .tc := ⟨.hbm, 272, rfl⟩
abbrev main_v259 : Ref sig .tc := ⟨.hbm, 273, rfl⟩
abbrev main_v260 : Ref sig .tc := ⟨.hbm, 274, rfl⟩
abbrev main_v261 : Ref sig .tc := ⟨.hbm, 275, rfl⟩
abbrev main_cst_10 : Ref sig .tc := ⟨.hbm, 276, rfl⟩
abbrev main_v262 : Ref sig .tc := ⟨.hbm, 277, rfl⟩
abbrev main_v263 : Ref sig .tc := ⟨.hbm, 278, rfl⟩
abbrev main_v264 : Ref sig .tc := ⟨.hbm, 279, rfl⟩
abbrev main_v265 : Ref sig .tc := ⟨.hbm, 280, rfl⟩
abbrev main_cst_11 : Ref sig .tc := ⟨.hbm, 281, rfl⟩
abbrev main_v266 : Ref sig .tc := ⟨.hbm, 282, rfl⟩
abbrev main_v267 : Ref sig .tc := ⟨.hbm, 283, rfl⟩
abbrev main_v268 : Ref sig .tc := ⟨.hbm, 284, rfl⟩
abbrev main_v269 : Ref sig .tc := ⟨.hbm, 285, rfl⟩
abbrev main_cst_12 : Ref sig .tc := ⟨.hbm, 286, rfl⟩
abbrev main_v270 : Ref sig .tc := ⟨.hbm, 287, rfl⟩
abbrev main_v271 : Ref sig .tc := ⟨.hbm, 288, rfl⟩
abbrev main_v272 : Ref sig .tc := ⟨.hbm, 289, rfl⟩
abbrev main_v273 : Ref sig .tc := ⟨.hbm, 290, rfl⟩
abbrev main_cst_13 : Ref sig .tc := ⟨.hbm, 291, rfl⟩
abbrev main_v274 : Ref sig .tc := ⟨.hbm, 292, rfl⟩
abbrev main_v275 : Ref sig .tc := ⟨.hbm, 293, rfl⟩
abbrev main_v276 : Ref sig .tc := ⟨.hbm, 294, rfl⟩
abbrev main_v277 : Ref sig .tc := ⟨.hbm, 295, rfl⟩
abbrev main_cst_14 : Ref sig .tc := ⟨.hbm, 296, rfl⟩
abbrev main_v278 : Ref sig .tc := ⟨.hbm, 297, rfl⟩
abbrev main_v279 : Ref sig .tc := ⟨.hbm, 298, rfl⟩
abbrev main_v280 : Ref sig .tc := ⟨.hbm, 299, rfl⟩
abbrev main_v281 : Ref sig .tc := ⟨.hbm, 300, rfl⟩
abbrev main_cst_15 : Ref sig .tc := ⟨.hbm, 301, rfl⟩
abbrev main_v282 : Ref sig .tc := ⟨.hbm, 302, rfl⟩
abbrev main_v283 : Ref sig .tc := ⟨.hbm, 303, rfl⟩
abbrev main_v284 : Ref sig .tc := ⟨.hbm, 304, rfl⟩
abbrev main_v285 : Ref sig .tc := ⟨.hbm, 305, rfl⟩
abbrev main_cst_16 : Ref sig .tc := ⟨.hbm, 306, rfl⟩
abbrev main_v286 : Ref sig .tc := ⟨.hbm, 307, rfl⟩
abbrev main_v287 : Ref sig .tc := ⟨.hbm, 308, rfl⟩
abbrev main_v288 : Ref sig .tc := ⟨.hbm, 309, rfl⟩
abbrev main_v289 : Ref sig .tc := ⟨.hbm, 310, rfl⟩
abbrev main_cst_17 : Ref sig .tc := ⟨.hbm, 311, rfl⟩
abbrev main_v290 : Ref sig .tc := ⟨.hbm, 312, rfl⟩
abbrev main_v291 : Ref sig .tc := ⟨.hbm, 313, rfl⟩
abbrev main_v292 : Ref sig .tc := ⟨.hbm, 314, rfl⟩
abbrev main_v293 : Ref sig .tc := ⟨.hbm, 315, rfl⟩
abbrev main_cst_18 : Ref sig .tc := ⟨.hbm, 316, rfl⟩
abbrev main_v294 : Ref sig .tc := ⟨.hbm, 317, rfl⟩
abbrev main_v295 : Ref sig .tc := ⟨.hbm, 318, rfl⟩
abbrev main_v296 : Ref sig .tc := ⟨.hbm, 319, rfl⟩
abbrev main_v297 : Ref sig .tc := ⟨.hbm, 320, rfl⟩
abbrev main_cst_19 : Ref sig .tc := ⟨.hbm, 321, rfl⟩
abbrev main_v298 : Ref sig .tc := ⟨.hbm, 322, rfl⟩
abbrev main_v299 : Ref sig .tc := ⟨.hbm, 323, rfl⟩
abbrev main_v300 : Ref sig .tc := ⟨.hbm, 324, rfl⟩
abbrev main_v301 : Ref sig .tc := ⟨.hbm, 325, rfl⟩
abbrev main_cst_20 : Ref sig .tc := ⟨.hbm, 326, rfl⟩
abbrev main_v302 : Ref sig .tc := ⟨.hbm, 327, rfl⟩
abbrev main_v303 : Ref sig .tc := ⟨.hbm, 328, rfl⟩
abbrev main_v304 : Ref sig .tc := ⟨.hbm, 329, rfl⟩
abbrev main_v305 : Ref sig .tc := ⟨.hbm, 330, rfl⟩
abbrev main_cst_21 : Ref sig .tc := ⟨.hbm, 331, rfl⟩
abbrev main_v306 : Ref sig .tc := ⟨.hbm, 332, rfl⟩
abbrev main_v307 : Ref sig .tc := ⟨.hbm, 333, rfl⟩
abbrev main_v308 : Ref sig .tc := ⟨.hbm, 334, rfl⟩
abbrev main_v309 : Ref sig .tc := ⟨.hbm, 335, rfl⟩
abbrev main_cst_22 : Ref sig .tc := ⟨.hbm, 336, rfl⟩
abbrev main_v310 : Ref sig .tc := ⟨.hbm, 337, rfl⟩
abbrev main_v311 : Ref sig .tc := ⟨.hbm, 338, rfl⟩
abbrev main_v312 : Ref sig .tc := ⟨.hbm, 339, rfl⟩
abbrev main_v313 : Ref sig .tc := ⟨.hbm, 340, rfl⟩
abbrev main_cst_23 : Ref sig .tc := ⟨.hbm, 341, rfl⟩
abbrev main_v314 : Ref sig .tc := ⟨.hbm, 342, rfl⟩
abbrev main_v315 : Ref sig .tc := ⟨.hbm, 343, rfl⟩
abbrev main_v316 : Ref sig .tc := ⟨.hbm, 344, rfl⟩
abbrev main_v317 : Ref sig .tc := ⟨.hbm, 345, rfl⟩
abbrev main_cst_24 : Ref sig .tc := ⟨.hbm, 346, rfl⟩
abbrev main_v318 : Ref sig .tc := ⟨.hbm, 347, rfl⟩
abbrev main_v319 : Ref sig .tc := ⟨.hbm, 348, rfl⟩
abbrev main_v320 : Ref sig .tc := ⟨.hbm, 349, rfl⟩
abbrev main_v321 : Ref sig .tc := ⟨.hbm, 350, rfl⟩
abbrev main_cst_25 : Ref sig .tc := ⟨.hbm, 351, rfl⟩
abbrev main_v322 : Ref sig .tc := ⟨.hbm, 352, rfl⟩
abbrev main_v323 : Ref sig .tc := ⟨.hbm, 353, rfl⟩
abbrev main_v324 : Ref sig .tc := ⟨.hbm, 354, rfl⟩
abbrev main_v325 : Ref sig .tc := ⟨.hbm, 355, rfl⟩
abbrev main_cst_26 : Ref sig .tc := ⟨.hbm, 356, rfl⟩
abbrev main_v326 : Ref sig .tc := ⟨.hbm, 357, rfl⟩
abbrev main_v327 : Ref sig .tc := ⟨.hbm, 358, rfl⟩
abbrev main_v328 : Ref sig .tc := ⟨.hbm, 359, rfl⟩
abbrev main_v329 : Ref sig .tc := ⟨.hbm, 360, rfl⟩
abbrev main_cst_27 : Ref sig .tc := ⟨.hbm, 361, rfl⟩
abbrev main_v330 : Ref sig .tc := ⟨.hbm, 362, rfl⟩
abbrev main_v331 : Ref sig .tc := ⟨.hbm, 363, rfl⟩
abbrev main_v332 : Ref sig .tc := ⟨.hbm, 364, rfl⟩
abbrev main_v333 : Ref sig .tc := ⟨.hbm, 365, rfl⟩
abbrev main_cst_28 : Ref sig .tc := ⟨.hbm, 366, rfl⟩
abbrev main_v334 : Ref sig .tc := ⟨.hbm, 367, rfl⟩
abbrev main_v335 : Ref sig .tc := ⟨.hbm, 368, rfl⟩
abbrev main_v336 : Ref sig .tc := ⟨.hbm, 369, rfl⟩
abbrev main_v337 : Ref sig .tc := ⟨.hbm, 370, rfl⟩
abbrev main_cst_29 : Ref sig .tc := ⟨.hbm, 371, rfl⟩
abbrev main_v338 : Ref sig .tc := ⟨.hbm, 372, rfl⟩
abbrev main_v339 : Ref sig .tc := ⟨.hbm, 373, rfl⟩
abbrev main_v340 : Ref sig .tc := ⟨.hbm, 374, rfl⟩
abbrev main_v341 : Ref sig .tc := ⟨.hbm, 375, rfl⟩
abbrev main_cst_30 : Ref sig .tc := ⟨.hbm, 376, rfl⟩
abbrev main_v342 : Ref sig .tc := ⟨.hbm, 377, rfl⟩
abbrev main_v343 : Ref sig .tc := ⟨.hbm, 378, rfl⟩
abbrev main_v344 : Ref sig .tc := ⟨.hbm, 379, rfl⟩
abbrev main_v345 : Ref sig .tc := ⟨.hbm, 380, rfl⟩
abbrev main_cst_31 : Ref sig .tc := ⟨.hbm, 381, rfl⟩
abbrev main_v346 : Ref sig .tc := ⟨.hbm, 382, rfl⟩
abbrev main_v347 : Ref sig .tc := ⟨.hbm, 383, rfl⟩
abbrev main_v348 : Ref sig .tc := ⟨.hbm, 384, rfl⟩
abbrev main_v349 : Ref sig .tc := ⟨.hbm, 385, rfl⟩
abbrev main_cst_32 : Ref sig .tc := ⟨.hbm, 386, rfl⟩
abbrev main_v350 : Ref sig .tc := ⟨.hbm, 387, rfl⟩
abbrev main_v351 : Ref sig .tc := ⟨.hbm, 388, rfl⟩
abbrev main_v352 : Ref sig .tc := ⟨.hbm, 389, rfl⟩
abbrev main_v353 : Ref sig .tc := ⟨.hbm, 390, rfl⟩
abbrev main_cst_33 : Ref sig .tc := ⟨.hbm, 391, rfl⟩
abbrev main_v354 : Ref sig .tc := ⟨.hbm, 392, rfl⟩
abbrev main_v355 : Ref sig .tc := ⟨.hbm, 393, rfl⟩
abbrev main_v356 : Ref sig .tc := ⟨.hbm, 394, rfl⟩
abbrev main_v357 : Ref sig .tc := ⟨.hbm, 395, rfl⟩
abbrev main_cst_34 : Ref sig .tc := ⟨.hbm, 396, rfl⟩
abbrev main_v358 : Ref sig .tc := ⟨.hbm, 397, rfl⟩
abbrev main_v359 : Ref sig .tc := ⟨.hbm, 398, rfl⟩
abbrev main_v360 : Ref sig .tc := ⟨.hbm, 399, rfl⟩
abbrev main_v361 : Ref sig .tc := ⟨.hbm, 400, rfl⟩
abbrev main_cst_35 : Ref sig .tc := ⟨.hbm, 401, rfl⟩
abbrev main_v362 : Ref sig .tc := ⟨.hbm, 402, rfl⟩
abbrev main_v363 : Ref sig .tc := ⟨.hbm, 403, rfl⟩
abbrev main_v364 : Ref sig .tc := ⟨.hbm, 404, rfl⟩
abbrev main_v365 : Ref sig .tc := ⟨.hbm, 405, rfl⟩
abbrev main_cst_36 : Ref sig .tc := ⟨.hbm, 406, rfl⟩
abbrev main_v366 : Ref sig .tc := ⟨.hbm, 407, rfl⟩
abbrev main_v367 : Ref sig .tc := ⟨.hbm, 408, rfl⟩
abbrev main_v368 : Ref sig .tc := ⟨.hbm, 409, rfl⟩
abbrev main_v369 : Ref sig .tc := ⟨.hbm, 410, rfl⟩
abbrev main_cst_37 : Ref sig .tc := ⟨.hbm, 411, rfl⟩
abbrev main_v370 : Ref sig .tc := ⟨.hbm, 412, rfl⟩
abbrev main_v371 : Ref sig .tc := ⟨.hbm, 413, rfl⟩
abbrev main_v372 : Ref sig .tc := ⟨.hbm, 414, rfl⟩
abbrev main_v373 : Ref sig .tc := ⟨.hbm, 415, rfl⟩
abbrev main_v374 : Ref sig .tc := ⟨.hbm, 416, rfl⟩
abbrev main_v375 : Ref sig .tc := ⟨.hbm, 417, rfl⟩
abbrev main_v376 : Ref sig .tc := ⟨.hbm, 418, rfl⟩
abbrev main_v377 : Ref sig .tc := ⟨.hbm, 419, rfl⟩
abbrev main_v378 : Ref sig .tc := ⟨.hbm, 420, rfl⟩
abbrev main_v379 : Ref sig .tc := ⟨.hbm, 421, rfl⟩
abbrev main_v380 : Ref sig .tc := ⟨.hbm, 422, rfl⟩
abbrev main_v381 : Ref sig .tc := ⟨.hbm, 423, rfl⟩

abbrev nD : Nat := 1
abbrev τ : Topo := Topo.v7x

variable {F : FTy → Type} [FloatOps F]
-- ==== ConvBwdA.lean ====
abbrev S1x16384x2816 : Shape := ⟨3, ![1, 16384, 2816]⟩
abbrev S31x256 : Shape := ⟨2, ![31, 256]⟩
abbrev S256 : Shape := ⟨1, ![256]⟩
abbrev S1x16384x256 : Shape := ⟨3, ![1, 16384, 256]⟩
abbrev S1x16384x512 : Shape := ⟨3, ![1, 16384, 512]⟩
abbrev S1x16384x128 : Shape := ⟨3, ![1, 16384, 128]⟩
abbrev S_ : Shape := ⟨0, ![]⟩
abbrev S1x15x256 : Shape := ⟨3, ![1, 15, 256]⟩
abbrev S1x16414x256 : Shape := ⟨3, ![1, 16414, 256]⟩
abbrev S1x256 : Shape := ⟨2, ![1, 256]⟩
abbrev S1x1x256 : Shape := ⟨3, ![1, 1, 256]⟩
abbrev S16384x2816 : Shape := ⟨2, ![16384, 2816]⟩
abbrev S16384x256 : Shape := ⟨2, ![16384, 256]⟩
abbrev S512x256 : Shape := ⟨2, ![512, 256]⟩
abbrev S16x256 : Shape := ⟨2, ![16, 256]⟩
abbrev S544x256 : Shape := ⟨2, ![544, 256]⟩
abbrev S8x536x256 : Shape := ⟨3, ![8, 536, 256]⟩
abbrev S536x256 : Shape := ⟨2, ![536, 256]⟩
abbrev S1x536x256 : Shape := ⟨3, ![1, 536, 256]⟩
abbrev S512 : Shape := ⟨1, ![512]⟩
abbrev S512x1 : Shape := ⟨2, ![512, 1]⟩
abbrev S1x512x256 : Shape := ⟨3, ![1, 512, 256]⟩

abbrev nBuf : Space → Nat
  | .hbm => 262
  | .vmem => 30
  | .smem => 0
  | _ => 0

abbrev hbmTy0_0 (i : Nat) : BufTy := match i % 128 with
  | 0 => ⟨S1x16384x2816, .f32⟩
  | 1 => ⟨S31x256, .f32⟩
  | 2 => ⟨S256, .f32⟩
  | 3 => ⟨S256, .f32⟩
  | 4 => ⟨S256, .f32⟩
  | 5 => ⟨S1x16384x256, .f32⟩
  | 6 => ⟨S1x16384x512, .f32⟩
  | 7 => ⟨S1x16384x128, .f32⟩
  | 8 => ⟨S1x16384x128, .f32⟩
  | 9 => ⟨S1x16384x512, .f32⟩
  | 10 => ⟨S1x16384x512, .f32⟩
  | 11 => ⟨S1x16384x256, .f32⟩
  | 12 => ⟨S1x16384x256, .f32⟩
  | 13 => ⟨S1x16384x256, .f32⟩
  | 14 => ⟨S1x16384x256, .f32⟩
  | 15 => ⟨S1x16384x256, .f32⟩
  | 16 => ⟨S1x16384x256, .f32⟩
  | 17 => ⟨S1x16384x256, .f32⟩
  | 18 => ⟨S1x16384x256, .f32⟩
  | 19 => ⟨S_, .f32⟩
  | 20 => ⟨S1x16384x256, .f32⟩
  | 21 => ⟨S1x16384x256, .f32⟩
  | 22 => ⟨S_, .f32⟩
  | 23 => ⟨S1x16384x256, .f32⟩
  | 24 => ⟨S1x16384x256, .f32⟩
  | 25 => ⟨S1x16384x256, .f32⟩
  | 26 => ⟨S_, .f32⟩
  | 27 => ⟨S1x15x256, .f32⟩
  | 28 => ⟨S1x16414x256, .f32⟩
  | 29 => ⟨S1x16384x256, .f32⟩
  | 30 => ⟨S1x256, .f32⟩
  | 31 => ⟨S256, .f32⟩
  | 32 => ⟨S1x1x256, .f32⟩
  | 33 => ⟨S1x16384x256, .f32⟩
  | 34 => ⟨S1x16384x256, .f32⟩
  | 35 => ⟨S_, .f32⟩
  | 36 => ⟨S1x16384x256, .f32⟩
  | 37 => ⟨S1x16384x256, .f32⟩
  | 38 => ⟨S1x16384x256, .f32⟩
  | 39 => ⟨S1x256, .f32⟩
  | 40 => ⟨S256, .f32⟩
  | 41 => ⟨S1x1x256, .f32⟩
  | 42 => ⟨S1x16384x256, .f32⟩
  | 43 => ⟨S1x16384x256, .f32⟩
  | 44 => ⟨S1x16384x256, .f32⟩
  | 45 => ⟨S1x16384x256, .f32⟩
  | 46 => ⟨S1x256, .f32⟩
  | 47 => ⟨S256, .f32⟩
  | 48 => ⟨S1x1x256, .f32⟩
  | 49 => ⟨S1x16384x256, .f32⟩
  | 50 => ⟨S1x16384x256, .f32⟩
  | 51 => ⟨S1x16384x256, .f32⟩
  | 52 => ⟨S1x16384x256, .f32⟩
  | 53 => ⟨S1x256, .f32⟩
  | 54 => ⟨S256, .f32⟩
  | 55 => ⟨S1x1x256, .f32⟩
  | 56 => ⟨S1x16384x256, .f32⟩
  | 57 => ⟨S1x16384x256, .f32⟩
  | 58 => ⟨S1x16384x256, .f32⟩
  | 59 => ⟨S1x16384x256, .f32⟩
  | 60 => ⟨S1x256, .f32⟩
  | 61 => ⟨S256, .f32⟩
  | 62 => ⟨S1x1x256, .f32⟩
  | 63 => ⟨S1x16384x256, .f32⟩
  | 64 => ⟨S1x16384x256, .f32⟩
  | 65 => ⟨S1x16384x256, .f32⟩
  | 66 => ⟨S1x16384x256, .f32⟩
  | 67 => ⟨S1x256, .f32⟩
  | 68 => ⟨S256, .f32⟩
  | 69 => ⟨S1x1x256, .f32⟩
  | 70 => ⟨S1x16384x256, .f32⟩
  | 71 => ⟨S1x16384x256, .f32⟩
  | 72 => ⟨S1x16384x256, .f32⟩
  | 73 => ⟨S1x16384x256, .f32⟩
  | 74 => ⟨S1x256, .f32⟩
  | 75 => ⟨S256, .f32⟩
  | 76 => ⟨S1x1x256, .f32⟩
  | 77 => ⟨S1x16384x256, .f32⟩
  | 78 => ⟨S1x16384x256, .f32⟩
  | 79 => ⟨S1x16384x256, .f32⟩
  | 80 => ⟨S1x16384x256, .f32⟩
  | 81 => ⟨S1x256, .f32⟩
  | 82 => ⟨S256, .f32⟩
  | 83 => ⟨S1x1x256, .f32⟩
  | 84 => ⟨S1x16384x256, .f32⟩
  | 85 => ⟨S1x16384x256, .f32⟩
  | 86 => ⟨S1x16384x256, .f32⟩
  | 87 => ⟨S1x16384x256, .f32⟩
  | 88 => ⟨S1x256, .f32⟩
  | 89 => ⟨S256, .f32⟩
  | 90 => ⟨S1x1x256, .f32⟩
  | 91 => ⟨S1x16384x256, .f32⟩
  | 92 => ⟨S1x16384x256, .f32⟩
  | 93 => ⟨S1x16384x256, .f32⟩
  | 94 => ⟨S1x16384x256, .f32⟩
  | 95 => ⟨S1x256, .f32⟩
  | 96 => ⟨S256, .f32⟩
  | 97 => ⟨S1x1x256, .f32⟩
  | 98 => ⟨S1x16384x256, .f32⟩
  | 99 => ⟨S1x16384x256, .f32⟩
  | 100 => ⟨S1x16384x256, .f32⟩
  | 101 => ⟨S1x16384x256, .f32⟩
  | 102 => ⟨S1x256, .f32⟩
  | 103 => ⟨S256, .f32⟩
  | 104 => ⟨S1x1x256, .f32⟩
  | 105 => ⟨S1x16384x256, .f32⟩
  | 106 => ⟨S1x16384x256, .f32⟩
  | 107 => ⟨S1x16384x256, .f32⟩
  | 108 => ⟨S1x16384x256, .f32⟩
  | 109 => ⟨S1x256, .f32⟩
  | 110 => ⟨S256, .f32⟩
  | 111 => ⟨S1x1x256, .f32⟩
  | 112 => ⟨S1x16384x256, .f32⟩
  | 113 => ⟨S1x16384x256, .f32⟩
  | 114 => ⟨S1x16384x256, .f32⟩
  | 115 => ⟨S1x16384x256, .f32⟩
  | 116 => ⟨S1x256, .f32⟩
  | 117 => ⟨S256, .f32⟩
  | 118 => ⟨S1x1x256, .f32⟩
  | 119 => ⟨S1x16384x256, .f32⟩
  | 120 => ⟨S1x16384x256, .f32⟩
  | 121 => ⟨S1x16384x256, .f32⟩
  | 122 => ⟨S1x16384x256, .f32⟩
  | 123 => ⟨S1x256, .f32⟩
  | 124 => ⟨S256, .f32⟩
  | 125 => ⟨S1x1x256, .f32⟩
  | 126 => ⟨S1x16384x256, .f32⟩
  | 127 => ⟨S1x16384x256, .f32⟩
  | _ => ⟨S1x16384x2816, .f32⟩

abbrev hbmTy0_1 (i : Nat) : BufTy := match i % 128 with
  | 0 => ⟨S1x16384x256, .f32⟩
  | 1 => ⟨S1x16384x256, .f32⟩
  | 2 => ⟨S1x256, .f32⟩
  | 3 => ⟨S256, .f32⟩
  | 4 => ⟨S1x1x256, .f32⟩
  | 5 => ⟨S1x16384x256, .f32⟩
  | 6 => ⟨S1x16384x256, .f32⟩
  | 7 => ⟨S1x16384x256, .f32⟩
  | 8 => ⟨S1x16384x256, .f32⟩
  | 9 => ⟨S1x256, .f32⟩
  | 10 => ⟨S256, .f32⟩
  | 11 => ⟨S1x1x256, .f32⟩
  | 12 => ⟨S1x16384x256, .f32⟩
  | 13 => ⟨S1x16384x256, .f32⟩
  | 14 => ⟨S1x16384x256, .f32⟩
  | 15 => ⟨S1x16384x256, .f32⟩
  | 16 => ⟨S1x256, .f32⟩
  | 17 => ⟨S256, .f32⟩
  | 18 => ⟨S1x1x256, .f32⟩
  | 19 => ⟨S1x16384x256, .f32⟩
  | 20 => ⟨S1x16384x256, .f32⟩
  | 21 => ⟨S1x16384x256, .f32⟩
  | 22 => ⟨S1x16384x256, .f32⟩
  | 23 => ⟨S1x256, .f32⟩
  | 24 => ⟨S256, .f32⟩
  | 25 => ⟨S1x1x256, .f32⟩
  | 26 => ⟨S1x16384x256, .f32⟩
  | 27 => ⟨S1x16384x256, .f32⟩
  | 28 => ⟨S1x16384x256, .f32⟩
  | 29 => ⟨S1x16384x256, .f32⟩
  | 30 => ⟨S1x256, .f32⟩
  | 31 => ⟨S256, .f32⟩
  | 32 => ⟨S1x1x256, .f32⟩
  | 33 => ⟨S1x16384x256, .f32⟩
  | 34 => ⟨S1x16384x256, .f32⟩
  | 35 => ⟨S1x16384x256, .f32⟩
  | 36 => ⟨S1x16384x256, .f32⟩
  | 37 => ⟨S1x256, .f32⟩
  | 38 => ⟨S256, .f32⟩
  | 39 => ⟨S1x1x256, .f32⟩
  | 40 => ⟨S1x16384x256, .f32⟩
  | 41 => ⟨S1x16384x256, .f32⟩
  | 42 => ⟨S1x16384x256, .f32⟩
  | 43 => ⟨S1x16384x256, .f32⟩
  | 44 => ⟨S1x256, .f32⟩
  | 45 => ⟨S256, .f32⟩
  | 46 => ⟨S1x1x256, .f32⟩
  | 47 => ⟨S1x16384x256, .f32⟩
  | 48 => ⟨S1x16384x256, .f32⟩
  | 49 => ⟨S1x16384x256, .f32⟩
  | 50 => ⟨S1x16384x256, .f32⟩
  | 51 => ⟨S1x256, .f32⟩
  | 52 => ⟨S256, .f32⟩
  | 53 => ⟨S1x1x256, .f32⟩
  | 54 => ⟨S1x16384x256, .f32⟩
  | 55 => ⟨S1x16384x256, .f32⟩
  | 56 => ⟨S1x16384x256, .f32⟩
  | 57 => ⟨S1x16384x256, .f32⟩
  | 58 => ⟨S1x256, .f32⟩
  | 59 => ⟨S256, .f32⟩
  | 60 => ⟨S1x1x256, .f32⟩
  | 61 => ⟨S1x16384x256, .f32⟩
  | 62 => ⟨S1x16384x256, .f32⟩
  | 63 => ⟨S1x16384x256, .f32⟩
  | 64 => ⟨S1x16384x256, .f32⟩
  | 65 => ⟨S1x256, .f32⟩
  | 66 => ⟨S256, .f32⟩
  | 67 => ⟨S1x1x256, .f32⟩
  | 68 => ⟨S1x16384x256, .f32⟩
  | 69 => ⟨S1x16384x256, .f32⟩
  | 70 => ⟨S1x16384x256, .f32⟩
  | 71 => ⟨S1x16384x256, .f32⟩
  | 72 => ⟨S1x256, .f32⟩
  | 73 => ⟨S256, .f32⟩
  | 74 => ⟨S1x1x256, .f32⟩
  | 75 => ⟨S1x16384x256, .f32⟩
  | 76 => ⟨S1x16384x256, .f32⟩
  | 77 => ⟨S1x16384x256, .f32⟩
  | 78 => ⟨S1x16384x256, .f32⟩
  | 79 => ⟨S1x256, .f32⟩
  | 80 => ⟨S256, .f32⟩
  | 81 => ⟨S1x1x256, .f32⟩
  | 82 => ⟨S1x16384x256, .f32⟩
  | 83 => ⟨S1x16384x256, .f32⟩
  | 84 => ⟨S1x16384x256, .f32⟩
  | 85 => ⟨S1x16384x256, .f32⟩
  | 86 => ⟨S1x256, .f32⟩
  | 87 => ⟨S256, .f32⟩
  | 88 => ⟨S1x1x256, .f32⟩
  | 89 => ⟨S1x16384x256, .f32⟩
  | 90 => ⟨S1x16384x256, .f32⟩
  | 91 => ⟨S1x16384x256, .f32⟩
  | 92 => ⟨S1x16384x256, .f32⟩
  | 93 => ⟨S1x256, .f32⟩
  | 94 => ⟨S256, .f32⟩
  | 95 => ⟨S1x1x256, .f32⟩
  | 96 => ⟨S1x16384x256, .f32⟩
  | 97 => ⟨S1x16384x256, .f32⟩
  | 98 => ⟨S1x16384x256, .f32⟩
  | 99 => ⟨S1x16384x256, .f32⟩
  | 100 => ⟨S1x256, .f32⟩
  | 101 => ⟨S256, .f32⟩
  | 102 => ⟨S1x1x256, .f32⟩
  | 103 => ⟨S1x16384x256, .f32⟩
  | 104 => ⟨S1x16384x256, .f32⟩
  | 105 => ⟨S1x16384x256, .f32⟩
  | 106 => ⟨S1x16384x256, .f32⟩
  | 107 => ⟨S1x256, .f32⟩
  | 108 => ⟨S256, .f32⟩
  | 109 => ⟨S1x1x256, .f32⟩
  | 110 => ⟨S1x16384x256, .f32⟩
  | 111 => ⟨S1x16384x256, .f32⟩
  | 112 => ⟨S1x16384x256, .f32⟩
  | 113 => ⟨S1x16384x256, .f32⟩
  | 114 => ⟨S1x256, .f32⟩
  | 115 => ⟨S256, .f32⟩
  | 116 => ⟨S1x1x256, .f32⟩
  | 117 => ⟨S1x16384x256, .f32⟩
  | 118 => ⟨S1x16384x256, .f32⟩
  | 119 => ⟨S1x16384x256, .f32⟩
  | 120 => ⟨S1x1x256, .f32⟩
  | 121 => ⟨S1x16384x256, .f32⟩
  | 122 => ⟨S1x16384x256, .f32⟩
  | 123 => ⟨S16384x2816, .f32⟩
  | 124 => ⟨S16384x256, .f32⟩
  | 125 => ⟨S16384x256, .f32⟩
  | 126 => ⟨S1x256, .f32⟩
  | 127 => ⟨S1x256, .f32⟩
  | _ => ⟨S1x16384x2816, .f32⟩

abbrev hbmTy0_2 (i : Nat) : BufTy := match i % 128 with
  | 0 => ⟨S16384x256, .f32⟩
  | 1 => ⟨S16384x256, .bf16⟩
  | 2 => ⟨S31x256, .f32⟩
  | 3 => ⟨S1x256, .f32⟩
  | 4 => ⟨S1x256, .f32⟩
  | 5 => ⟨S1x256, .f32⟩
  | _ => ⟨S1x16384x2816, .f32⟩

abbrev hbmTy (i : Nat) : BufTy := match i / 128 with
  | 0 => hbmTy0_0 i
  | 1 => hbmTy0_1 i
  | 2 => hbmTy0_2 i
  | _ => ⟨S1x16384x2816, .f32⟩

abbrev bufTy : (tb : Table) → Fin (tcTables nBuf tb) → BufTy
  | .hbm, ⟨i, _⟩ => hbmTy i
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | .local _ .vmem, ⟨7, _⟩ => ⟨S16x256, .f32⟩
  | .local _ .vmem, ⟨8, _⟩ => ⟨S16x256, .f32⟩
  | .local _ .vmem, ⟨9, _⟩ => ⟨S16x256, .f32⟩
  | .local _ .vmem, ⟨10, _⟩ => ⟨S16x256, .f32⟩
  | .local _ .vmem, ⟨11, _⟩ => ⟨S16x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S1x256, .f32⟩
  | .local _ .vmem, ⟨19, _⟩ => ⟨S1x256, .f32⟩
  | .local _ .vmem, ⟨20, _⟩ => ⟨S512x256, .f32⟩
  | .local _ .vmem, ⟨21, _⟩ => ⟨S512x256, .f32⟩
  | .local _ .vmem, ⟨22, _⟩ => ⟨S512x256, .bf16⟩
  | .local _ .vmem, ⟨23, _⟩ => ⟨S512x256, .bf16⟩
  | .local _ .vmem, ⟨24, _⟩ => ⟨S31x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S544x256, .f32⟩
  | .local _ .vmem, ⟨29, _⟩ => ⟨S8x536x256, .f32⟩
  | _, _ => ⟨S1x16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_v238 : Ref sig .tc := ⟨.hbm, 248, rfl⟩
abbrev main_v239 : Ref sig .tc := ⟨.hbm, 249, rfl⟩
abbrev main_v240 : Ref sig .tc := ⟨.hbm, 250, rfl⟩
abbrev main_v241 : Ref sig .tc := ⟨.hbm, 251, rfl⟩
abbrev main_v242 : Ref sig .tc := ⟨.hbm, 252, rfl⟩
abbrev main_v243 : Ref sig .tc := ⟨.hbm, 253, rfl⟩
abbrev main_v244 : Ref sig .tc := ⟨.hbm, 254, rfl⟩
abbrev main_v245 : Ref sig .tc := ⟨.hbm, 255, rfl⟩
abbrev main_v246_0 : Ref sig .tc := ⟨.hbm, 256, rfl⟩
abbrev main_v246_1 : Ref sig .tc := ⟨.hbm, 257, rfl⟩
abbrev main_v246_2 : Ref sig .tc := ⟨.hbm, 258, rfl⟩
abbrev main_v246_3 : Ref sig .tc := ⟨.hbm, 259, rfl⟩
abbrev main_v246_4 : Ref sig .tc := ⟨.hbm, 260, rfl⟩
abbrev main_v246_5 : Ref sig .tc := ⟨.hbm, 261, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25
abbrev cc0_sem15_0 : DmaSem sig := 26
abbrev cc0_sem16_0 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![v2.toNat, c6_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c5_i32 : BitVec 32 := 5#32
  let c0_i32 : BitVec 32 := 0#32
  ![v2.toNat, c5_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c6_i32 : BitVec 32 := 6#32
  let c0_i32 : BitVec 32 := 0#32
  ![v2.toNat, c6_i32.toNat]

def cc0_transform_6 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S31x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ConvBwdARefIdeal.lean ====
abbrev S1x16384x2816 : Shape := ⟨3, ![1, 16384, 2816]⟩
abbrev S31x256 : Shape := ⟨2, ![31, 256]⟩
abbrev S256 : Shape := ⟨1, ![256]⟩
abbrev S1x16384x256 : Shape := ⟨3, ![1, 16384, 256]⟩
abbrev S1x16384x512 : Shape := ⟨3, ![1, 16384, 512]⟩
abbrev S1x16384x128 : Shape := ⟨3, ![1, 16384, 128]⟩
abbrev S_ : Shape := ⟨0, ![]⟩
abbrev S1x15x256 : Shape := ⟨3, ![1, 15, 256]⟩
abbrev S1x16414x256 : Shape := ⟨3, ![1, 16414, 256]⟩
abbrev S1x256 : Shape := ⟨2, ![1, 256]⟩
abbrev S1x1x256 : Shape := ⟨3, ![1, 1, 256]⟩
abbrev S1x16384 : Shape := ⟨2, ![1, 16384]⟩
abbrev S1x16384x1 : Shape := ⟨3, ![1, 16384, 1]⟩
abbrev S16384 : Shape := ⟨1, ![16384]⟩
abbrev S16384x256 : Shape := ⟨2, ![16384, 256]⟩

abbrev nBuf : Space → Nat
  | .hbm => 682
  | .vmem => 0
  | .smem => 0
  | _ => 0

abbrev hbmTy0_0 (i : Nat) : BufTy := match i % 128 with
  | 0 => ⟨S1x16384x2816, .f32⟩
  | 1 => ⟨S31x256, .f32⟩
  | 2 => ⟨S256, .f32⟩
  | 3 => ⟨S256, .f32⟩
  | 4 => ⟨S256, .f32⟩
  | 5 => ⟨S1x16384x256, .f32⟩
  | 6 => ⟨S1x16384x512, .f32⟩
  | 7 => ⟨S1x16384x128, .f32⟩
  | 8 => ⟨S1x16384x128, .f32⟩
  | 9 => ⟨S1x16384x512, .f32⟩
  | 10 => ⟨S1x16384x512, .f32⟩
  | 11 => ⟨S1x16384x256, .f32⟩
  | 12 => ⟨S1x16384x256, .f32⟩
  | 13 => ⟨S1x16384x256, .f32⟩
  | 14 => ⟨S1x16384x256, .f32⟩
  | 15 => ⟨S1x16384x256, .f32⟩
  | 16 => ⟨S1x16384x256, .f32⟩
  | 17 => ⟨S1x16384x256, .f32⟩
  | 18 => ⟨S1x16384x256, .f32⟩
  | 19 => ⟨S_, .f32⟩
  | 20 => ⟨S1x16384x256, .f32⟩
  | 21 => ⟨S1x16384x256, .f32⟩
  | 22 => ⟨S_, .f32⟩
  | 23 => ⟨S1x16384x256, .f32⟩
  | 24 => ⟨S1x16384x256, .f32⟩
  | 25 => ⟨S1x16384x256, .f32⟩
  | 26 => ⟨S_, .f32⟩
  | 27 => ⟨S1x15x256, .f32⟩
  | 28 => ⟨S1x16414x256, .f32⟩
  | 29 => ⟨S1x16384x256, .f32⟩
  | 30 => ⟨S1x256, .f32⟩
  | 31 => ⟨S256, .f32⟩
  | 32 => ⟨S1x1x256, .f32⟩
  | 33 => ⟨S1x16384x256, .f32⟩
  | 34 => ⟨S1x16384x256, .f32⟩
  | 35 => ⟨S_, .f32⟩
  | 36 => ⟨S1x16384x256, .f32⟩
  | 37 => ⟨S1x16384x256, .f32⟩
  | 38 => ⟨S1x16384x256, .f32⟩
  | 39 => ⟨S1x256, .f32⟩
  | 40 => ⟨S256, .f32⟩
  | 41 => ⟨S1x1x256, .f32⟩
  | 42 => ⟨S1x16384x256, .f32⟩
  | 43 => ⟨S1x16384x256, .f32⟩
  | 44 => ⟨S1x16384x256, .f32⟩
  | 45 => ⟨S1x16384x256, .f32⟩
  | 46 => ⟨S1x256, .f32⟩
  | 47 => ⟨S256, .f32⟩
  | 48 => ⟨S1x1x256, .f32⟩
  | 49 => ⟨S1x16384x256, .f32⟩
  | 50 => ⟨S1x16384x256, .f32⟩
  | 51 => ⟨S1x16384x256, .f32⟩
  | 52 => ⟨S1x16384x256, .f32⟩
  | 53 => ⟨S1x256, .f32⟩
  | 54 => ⟨S256, .f32⟩
  | 55 => ⟨S1x1x256, .f32⟩
  | 56 => ⟨S1x16384x256, .f32⟩
  | 57 => ⟨S1x16384x256, .f32⟩
  | 58 => ⟨S1x16384x256, .f32⟩
  | 59 => ⟨S1x16384x256, .f32⟩
  | 60 => ⟨S1x256, .f32⟩
  | 61 => ⟨S256, .f32⟩
  | 62 => ⟨S1x1x256, .f32⟩
  | 63 => ⟨S1x16384x256, .f32⟩
  | 64 => ⟨S1x16384x256, .f32⟩
  | 65 => ⟨S1x16384x256, .f32⟩
  | 66 => ⟨S1x16384x256, .f32⟩
  | 67 => ⟨S1x256, .f32⟩
  | 68 => ⟨S256, .f32⟩
  | 69 => ⟨S1x1x256, .f32⟩
  | 70 => ⟨S1x16384x256, .f32⟩
  | 71 => ⟨S1x16384x256, .f32⟩
  | 72 => ⟨S1x16384x256, .f32⟩
  | 73 => ⟨S1x16384x256, .f32⟩
  | 74 => ⟨S1x256, .f32⟩
  | 75 => ⟨S256, .f32⟩
  | 76 => ⟨S1x1x256, .f32⟩
  | 77 => ⟨S1x16384x256, .f32⟩
  | 78 => ⟨S1x16384x256, .f32⟩
  | 79 => ⟨S1x16384x256, .f32⟩
  | 80 => ⟨S1x16384x256, .f32⟩
  | 81 => ⟨S1x256, .f32⟩
  | 82 => ⟨S256, .f32⟩
  | 83 => ⟨S1x1x256, .f32⟩
  | 84 => ⟨S1x16384x256, .f32⟩
  | 85 => ⟨S1x16384x256, .f32⟩
  | 86 => ⟨S1x16384x256, .f32⟩
  | 87 => ⟨S1x16384x256, .f32⟩
  | 88 => ⟨S1x256, .f32⟩
  | 89 => ⟨S256, .f32⟩
  | 90 => ⟨S1x1x256, .f32⟩
  | 91 => ⟨S1x16384x256, .f32⟩
  | 92 => ⟨S1x16384x256, .f32⟩
  | 93 => ⟨S1x16384x256, .f32⟩
  | 94 => ⟨S1x16384x256, .f32⟩
  | 95 => ⟨S1x256, .f32⟩
  | 96 => ⟨S256, .f32⟩
  | 97 => ⟨S1x1x256, .f32⟩
  | 98 => ⟨S1x16384x256, .f32⟩
  | 99 => ⟨S1x16384x256, .f32⟩
  | 100 => ⟨S1x16384x256, .f32⟩
  | 101 => ⟨S1x16384x256, .f32⟩
  | 102 => ⟨S1x256, .f32⟩
  | 103 => ⟨S256, .f32⟩
  | 104 => ⟨S1x1x256, .f32⟩
  | 105 => ⟨S1x16384x256, .f32⟩
  | 106 => ⟨S1x16384x256, .f32⟩
  | 107 => ⟨S1x16384x256, .f32⟩
  | 108 => ⟨S1x16384x256, .f32⟩
  | 109 => ⟨S1x256, .f32⟩
  | 110 => ⟨S256, .f32⟩
  | 111 => ⟨S1x1x256, .f32⟩
  | 112 => ⟨S1x16384x256, .f32⟩
  | 113 => ⟨S1x16384x256, .f32⟩
  | 114 => ⟨S1x16384x256, .f32⟩
  | 115 => ⟨S1x16384x256, .f32⟩
  | 116 => ⟨S1x256, .f32⟩
  | 117 => ⟨S256, .f32⟩
  | 118 => ⟨S1x1x256, .f32⟩
  | 119 => ⟨S1x16384x256, .f32⟩
  | 120 => ⟨S1x16384x256, .f32⟩
  | 121 => ⟨S1x16384x256, .f32⟩
  | 122 => ⟨S1x16384x256, .f32⟩
  | 123 => ⟨S1x256, .f32⟩
  | 124 => ⟨S256, .f32⟩
  | 125 => ⟨S1x1x256, .f32⟩
  | 126 => ⟨S1x16384x256, .f32⟩
  | 127 => ⟨S1x16384x256, .f32⟩
  | _ => ⟨S1x16384x2816, .f32⟩

abbrev hbmTy0_1 (i : Nat) : BufTy := match i % 128 with
  | 0 => ⟨S1x16384x256, .f32⟩
  | 1 => ⟨S1x16384x256, .f32⟩
  | 2 => ⟨S1x256, .f32⟩
  | 3 => ⟨S256, .f32⟩
  | 4 => ⟨S1x1x256, .f32⟩
  | 5 => ⟨S1x16384x256, .f32⟩
  | 6 => ⟨S1x16384x256, .f32⟩
  | 7 => ⟨S1x16384x256, .f32⟩
  | 8 => ⟨S1x16384x256, .f32⟩
  | 9 => ⟨S1x256, .f32⟩
  | 10 => ⟨S256, .f32⟩
  | 11 => ⟨S1x1x256, .f32⟩
  | 12 => ⟨S1x16384x256, .f32⟩
  | 13 => ⟨S1x16384x256, .f32⟩
  | 14 => ⟨S1x16384x256, .f32⟩
  | 15 => ⟨S1x16384x256, .f32⟩
  | 16 => ⟨S1x256, .f32⟩
  | 17 => ⟨S256, .f32⟩
  | 18 => ⟨S1x1x256, .f32⟩
  | 19 => ⟨S1x16384x256, .f32⟩
  | 20 => ⟨S1x16384x256, .f32⟩
  | 21 => ⟨S1x16384x256, .f32⟩
  | 22 => ⟨S1x16384x256, .f32⟩
  | 23 => ⟨S1x256, .f32⟩
  | 24 => ⟨S256, .f32⟩
  | 25 => ⟨S1x1x256, .f32⟩
  | 26 => ⟨S1x16384x256, .f32⟩
  | 27 => ⟨S1x16384x256, .f32⟩
  | 28 => ⟨S1x16384x256, .f32⟩
  | 29 => ⟨S1x16384x256, .f32⟩
  | 30 => ⟨S1x256, .f32⟩
  | 31 => ⟨S256, .f32⟩
  | 32 => ⟨S1x1x256, .f32⟩
  | 33 => ⟨S1x16384x256, .f32⟩
  | 34 => ⟨S1x16384x256, .f32⟩
  | 35 => ⟨S1x16384x256, .f32⟩
  | 36 => ⟨S1x16384x256, .f32⟩
  | 37 => ⟨S1x256, .f32⟩
  | 38 => ⟨S256, .f32⟩
  | 39 => ⟨S1x1x256, .f32⟩
  | 40 => ⟨S1x16384x256, .f32⟩
  | 41 => ⟨S1x16384x256, .f32⟩
  | 42 => ⟨S1x16384x256, .f32⟩
  | 43 => ⟨S1x16384x256, .f32⟩
  | 44 => ⟨S1x256, .f32⟩
  | 45 => ⟨S256, .f32⟩
  | 46 => ⟨S1x1x256, .f32⟩
  | 47 => ⟨S1x16384x256, .f32⟩
  | 48 => ⟨S1x16384x256, .f32⟩
  | 49 => ⟨S1x16384x256, .f32⟩
  | 50 => ⟨S1x16384x256, .f32⟩
  | 51 => ⟨S1x256, .f32⟩
  | 52 => ⟨S256, .f32⟩
  | 53 => ⟨S1x1x256, .f32⟩
  | 54 => ⟨S1x16384x256, .f32⟩
  | 55 => ⟨S1x16384x256, .f32⟩
  | 56 => ⟨S1x16384x256, .f32⟩
  | 57 => ⟨S1x16384x256, .f32⟩
  | 58 => ⟨S1x256, .f32⟩
  | 59 => ⟨S256, .f32⟩
  | 60 => ⟨S1x1x256, .f32⟩
  | 61 => ⟨S1x16384x256, .f32⟩
  | 62 => ⟨S1x16384x256, .f32⟩
  | 63 => ⟨S1x16384x256, .f32⟩
  | 64 => ⟨S1x16384x256, .f32⟩
  | 65 => ⟨S1x256, .f32⟩
  | 66 => ⟨S256, .f32⟩
  | 67 => ⟨S1x1x256, .f32⟩
  | 68 => ⟨S1x16384x256, .f32⟩
  | 69 => ⟨S1x16384x256, .f32⟩
  | 70 => ⟨S1x16384x256, .f32⟩
  | 71 => ⟨S1x16384x256, .f32⟩
  | 72 => ⟨S1x256, .f32⟩
  | 73 => ⟨S256, .f32⟩
  | 74 => ⟨S1x1x256, .f32⟩
  | 75 => ⟨S1x16384x256, .f32⟩
  | 76 => ⟨S1x16384x256, .f32⟩
  | 77 => ⟨S1x16384x256, .f32⟩
  | 78 => ⟨S1x16384x256, .f32⟩
  | 79 => ⟨S1x256, .f32⟩
  | 80 => ⟨S256, .f32⟩
  | 81 => ⟨S1x1x256, .f32⟩
  | 82 => ⟨S1x16384x256, .f32⟩
  | 83 => ⟨S1x16384x256, .f32⟩
  | 84 => ⟨S1x16384x256, .f32⟩
  | 85 => ⟨S1x16384x256, .f32⟩
  | 86 => ⟨S1x256, .f32⟩
  | 87 => ⟨S256, .f32⟩
  | 88 => ⟨S1x1x256, .f32⟩
  | 89 => ⟨S1x16384x256, .f32⟩
  | 90 => ⟨S1x16384x256, .f32⟩
  | 91 => ⟨S1x16384x256, .f32⟩
  | 92 => ⟨S1x16384x256, .f32⟩
  | 93 => ⟨S1x256, .f32⟩
  | 94 => ⟨S256, .f32⟩
  | 95 => ⟨S1x1x256, .f32⟩
  | 96 => ⟨S1x16384x256, .f32⟩
  | 97 => ⟨S1x16384x256, .f32⟩
  | 98 => ⟨S1x16384x256, .f32⟩
  | 99 => ⟨S1x16384x256, .f32⟩
  | 100 => ⟨S1x256, .f32⟩
  | 101 => ⟨S256, .f32⟩
  | 102 => ⟨S1x1x256, .f32⟩
  | 103 => ⟨S1x16384x256, .f32⟩
  | 104 => ⟨S1x16384x256, .f32⟩
  | 105 => ⟨S1x16384x256, .f32⟩
  | 106 => ⟨S1x16384x256, .f32⟩
  | 107 => ⟨S1x256, .f32⟩
  | 108 => ⟨S256, .f32⟩
  | 109 => ⟨S1x1x256, .f32⟩
  | 110 => ⟨S1x16384x256, .f32⟩
  | 111 => ⟨S1x16384x256, .f32⟩
  | 112 => ⟨S1x16384x256, .f32⟩
  | 113 => ⟨S1x16384x256, .f32⟩
  | 114 => ⟨S1x256, .f32⟩
  | 115 => ⟨S256, .f32⟩
  | 116 => ⟨S1x1x256, .f32⟩
  | 117 => ⟨S1x16384x256, .f32⟩
  | 118 => ⟨S1x16384x256, .f32⟩
  | 119 => ⟨S1x16384x256, .f32⟩
  | 120 => ⟨S1x1x256, .f32⟩
  | 121 => ⟨S1x16384x256, .f32⟩
  | 122 => ⟨S1x16384x256, .f32⟩
  | 123 => ⟨S_, .f32⟩
  | 124 => ⟨S1x16384, .f32⟩
  | 125 => ⟨S1x16384x1, .f32⟩
  | 126 => ⟨S_, .f32⟩
  | 127 => ⟨S1x16384x1, .f32⟩
  | _ => ⟨S1x16384x2816, .f32⟩

abbrev hbmTy0_2 (i : Nat) : BufTy := match i % 128 with
  | 0 => ⟨S1x16384x1, .f32⟩
  | 1 => ⟨S1x16384x256, .f32⟩
  | 2 => ⟨S1x16384x256, .f32⟩
  | 3 => ⟨S1x16384x256, .f32⟩
  | 4 => ⟨S_, .f32⟩
  | 5 => ⟨S1x16384, .f32⟩
  | 6 => ⟨S1x16384x1, .f32⟩
  | 7 => ⟨S_, .f32⟩
  | 8 => ⟨S1x16384x1, .f32⟩
  | 9 => ⟨S1x16384x1, .f32⟩
  | 10 => ⟨S_, .f32⟩
  | 11 => ⟨S1x16384x1, .f32⟩
  | 12 => ⟨S1x16384x1, .f32⟩
  | 13 => ⟨S1x16384x1, .f32⟩
  | 14 => ⟨S1x16384x1, .f32⟩
  | 15 => ⟨S_, .f32⟩
  | 16 => ⟨S1x16384x1, .f32⟩
  | 17 => ⟨S1x16384x1, .f32⟩
  | 18 => ⟨S1x16384x256, .f32⟩
  | 19 => ⟨S1x16384x256, .f32⟩
  | 20 => ⟨S1x1x256, .f32⟩
  | 21 => ⟨S1x16384x256, .f32⟩
  | 22 => ⟨S1x16384x256, .f32⟩
  | 23 => ⟨S1x1x256, .f32⟩
  | 24 => ⟨S1x16384x256, .f32⟩
  | 25 => ⟨S1x16384x256, .f32⟩
  | 26 => ⟨S1x16384x256, .f32⟩
  | 27 => ⟨S1x16384x256, .f32⟩
  | 28 => ⟨S_, .f32⟩
  | 29 => ⟨S1x16384x256, .f32⟩
  | 30 => ⟨S1x16384x256, .f32⟩
  | 31 => ⟨S_, .f32⟩
  | 32 => ⟨S1x16384x256, .f32⟩
  | 33 => ⟨S1x16384x256, .f32⟩
  | 34 => ⟨S_, .f32⟩
  | 35 => ⟨S1x16384x256, .f32⟩
  | 36 => ⟨S1x16384x256, .f32⟩
  | 37 => ⟨S1x16384x256, .f32⟩
  | 38 => ⟨S1x16384x256, .f32⟩
  | 39 => ⟨S1x16384x256, .f32⟩
  | 40 => ⟨S1x16384x256, .f32⟩
  | 41 => ⟨S_, .f32⟩
  | 42 => ⟨S1x16384x256, .f32⟩
  | 43 => ⟨S1x16384x256, .f32⟩
  | 44 => ⟨S_, .f32⟩
  | 45 => ⟨S1x16384x256, .f32⟩
  | 46 => ⟨S1x16384x256, .f32⟩
  | 47 => ⟨S_, .f32⟩
  | 48 => ⟨S1x16384x256, .f32⟩
  | 49 => ⟨S1x16384x256, .f32⟩
  | 50 => ⟨S1x16384x256, .f32⟩
  | 51 => ⟨S1x16384x256, .f32⟩
  | 52 => ⟨S1x16384x256, .f32⟩
  | 53 => ⟨S1x16384x256, .f32⟩
  | 54 => ⟨S1x16384x256, .f32⟩
  | 55 => ⟨S1x16384x256, .f32⟩
  | 56 => ⟨S1x16384x256, .f32⟩
  | 57 => ⟨S1x16384x256, .f32⟩
  | 58 => ⟨S1x16384x256, .f32⟩
  | 59 => ⟨S1x16384x256, .f32⟩
  | 60 => ⟨S1x16384x256, .f32⟩
  | 61 => ⟨S1x16384x256, .f32⟩
  | 62 => ⟨S1x16384x256, .f32⟩
  | 63 => ⟨S_, .f32⟩
  | 64 => ⟨S1x256, .f32⟩
  | 65 => ⟨S1x1x256, .f32⟩
  | 66 => ⟨S_, .f32⟩
  | 67 => ⟨S256, .f32⟩
  | 68 => ⟨S1x16384x256, .f32⟩
  | 69 => ⟨S_, .f32⟩
  | 70 => ⟨S1x256, .f32⟩
  | 71 => ⟨S1x1x256, .f32⟩
  | 72 => ⟨S1x16384x256, .f32⟩
  | 73 => ⟨S1x16384x256, .f32⟩
  | 74 => ⟨S_, .f32⟩
  | 75 => ⟨S256, .f32⟩
  | 76 => ⟨S1x16384x256, .f32⟩
  | 77 => ⟨S_, .f32⟩
  | 78 => ⟨S1x16384, .f32⟩
  | 79 => ⟨S1x16384x1, .f32⟩
  | 80 => ⟨S1x16384x256, .f32⟩
  | 81 => ⟨S1x16384x256, .f32⟩
  | 82 => ⟨S1x16384x1, .f32⟩
  | 83 => ⟨S_, .f32⟩
  | 84 => ⟨S1x16384x1, .f32⟩
  | 85 => ⟨S1x16384x1, .f32⟩
  | 86 => ⟨S_, .f32⟩
  | 87 => ⟨S16384, .f32⟩
  | 88 => ⟨S1x16384, .f32⟩
  | 89 => ⟨S1x16384x256, .f32⟩
  | 90 => ⟨S1x16384x256, .f32⟩
  | 91 => ⟨S1x16384x256, .f32⟩
  | 92 => ⟨S1x16384x256, .f32⟩
  | 93 => ⟨S1x16384x256, .f32⟩
  | 94 => ⟨S1x16384x256, .f32⟩
  | 95 => ⟨S_, .f32⟩
  | 96 => ⟨S1x16384, .f32⟩
  | 97 => ⟨S1x16384x1, .f32⟩
  | 98 => ⟨S_, .f32⟩
  | 99 => ⟨S1x16384x1, .f32⟩
  | 100 => ⟨S1x16384x1, .f32⟩
  | 101 => ⟨S_, .f32⟩
  | 102 => ⟨S16384, .f32⟩
  | 103 => ⟨S1x16384, .f32⟩
  | 104 => ⟨S1x16384x256, .f32⟩
  | 105 => ⟨S1x16384x256, .f32⟩
  | 106 => ⟨S_, .f32⟩
  | 107 => ⟨S1x256, .f32⟩
  | 108 => ⟨S1x1x256, .f32⟩
  | 109 => ⟨S_, .f32⟩
  | 110 => ⟨S256, .f32⟩
  | 111 => ⟨S1x16384x256, .f32⟩
  | 112 => ⟨S_, .f32⟩
  | 113 => ⟨S1x256, .f32⟩
  | 114 => ⟨S1x1x256, .f32⟩
  | 115 => ⟨S_, .f32⟩
  | 116 => ⟨S256, .f32⟩
  | 117 => ⟨S1x256, .f32⟩
  | 118 => ⟨S_, .f32⟩
  | 119 => ⟨S31x256, .f32⟩
  | 120 => ⟨S1x16384x256, .f32⟩
  | 121 => ⟨S_, .f32⟩
  | 122 => ⟨S1x256, .f32⟩
  | 123 => ⟨S1x1x256, .f32⟩
  | 124 => ⟨S_, .f32⟩
  | 125 => ⟨S256, .f32⟩
  | 126 => ⟨S1x256, .f32⟩
  | 127 => ⟨S_, .f32⟩
  | _ => ⟨S1x16384x2816, .f32⟩

abbrev hbmTy0_3 (i : Nat) : BufTy := match i % 128 with
  | 0 => ⟨S31x256, .f32⟩
  | 1 => ⟨S31x256, .f32⟩
  | 2 => ⟨S1x16384x256, .f32⟩
  | 3 => ⟨S_, .f32⟩
  | 4 => ⟨S1x256, .f32⟩
  | 5 => ⟨S1x1x256, .f32⟩
  | 6 => ⟨S_, .f32⟩
  | 7 => ⟨S256, .f32⟩
  | 8 => ⟨S1x256, .f32⟩
  | 9 => ⟨S_, .f32⟩
  | 10 => ⟨S31x256, .f32⟩
  | 11 => ⟨S31x256, .f32⟩
  | 12 => ⟨S1x16384x256, .f32⟩
  | 13 => ⟨S_, .f32⟩
  | 14 => ⟨S1x256, .f32⟩
  | 15 => ⟨S1x1x256, .f32⟩
  | 16 => ⟨S_, .f32⟩
  | 17 => ⟨S256, .f32⟩
  | 18 => ⟨S1x256, .f32⟩
  | 19 => ⟨S_, .f32⟩
  | 20 => ⟨S31x256, .f32⟩
  | 21 => ⟨S31x256, .f32⟩
  | 22 => ⟨S1x16384x256, .f32⟩
  | 23 => ⟨S_, .f32⟩
  | 24 => ⟨S1x256, .f32⟩
  | 25 => ⟨S1x1x256, .f32⟩
  | 26 => ⟨S_, .f32⟩
  | 27 => ⟨S256, .f32⟩
  | 28 => ⟨S1x256, .f32⟩
  | 29 => ⟨S_, .f32⟩
  | 30 => ⟨S31x256, .f32⟩
  | 31 => ⟨S31x256, .f32⟩
  | 32 => ⟨S1x16384x256, .f32⟩
  | 33 => ⟨S_, .f32⟩
  | 34 => ⟨S1x256, .f32⟩
  | 35 => ⟨S1x1x256, .f32⟩
  | 36 => ⟨S_, .f32⟩
  | 37 => ⟨S256, .f32⟩
  | 38 => ⟨S1x256, .f32⟩
  | 39 => ⟨S_, .f32⟩
  | 40 => ⟨S31x256, .f32⟩
  | 41 => ⟨S31x256, .f32⟩
  | 42 => ⟨S1x16384x256, .f32⟩
  | 43 => ⟨S_, .f32⟩
  | 44 => ⟨S1x256, .f32⟩
  | 45 => ⟨S1x1x256, .f32⟩
  | 46 => ⟨S_, .f32⟩
  | 47 => ⟨S256, .f32⟩
  | 48 => ⟨S1x256, .f32⟩
  | 49 => ⟨S_, .f32⟩
  | 50 => ⟨S31x256, .f32⟩
  | 51 => ⟨S31x256, .f32⟩
  | 52 => ⟨S1x16384x256, .f32⟩
  | 53 => ⟨S_, .f32⟩
  | 54 => ⟨S1x256, .f32⟩
  | 55 => ⟨S1x1x256, .f32⟩
  | 56 => ⟨S_, .f32⟩
  | 57 => ⟨S256, .f32⟩
  | 58 => ⟨S1x256, .f32⟩
  | 59 => ⟨S_, .f32⟩
  | 60 => ⟨S31x256, .f32⟩
  | 61 => ⟨S31x256, .f32⟩
  | 62 => ⟨S1x16384x256, .f32⟩
  | 63 => ⟨S_, .f32⟩
  | 64 => ⟨S1x256, .f32⟩
  | 65 => ⟨S1x1x256, .f32⟩
  | 66 => ⟨S_, .f32⟩
  | 67 => ⟨S256, .f32⟩
  | 68 => ⟨S1x256, .f32⟩
  | 69 => ⟨S_, .f32⟩
  | 70 => ⟨S31x256, .f32⟩
  | 71 => ⟨S31x256, .f32⟩
  | 72 => ⟨S1x16384x256, .f32⟩
  | 73 => ⟨S_, .f32⟩
  | 74 => ⟨S1x256, .f32⟩
  | 75 => ⟨S1x1x256, .f32⟩
  | 76 => ⟨S_, .f32⟩
  | 77 => ⟨S256, .f32⟩
  | 78 => ⟨S1x256, .f32⟩
  | 79 => ⟨S_, .f32⟩
  | 80 => ⟨S31x256, .f32⟩
  | 81 => ⟨S31x256, .f32⟩
  | 82 => ⟨S1x16384x256, .f32⟩
  | 83 => ⟨S_, .f32⟩
  | 84 => ⟨S1x256, .f32⟩
  | 85 => ⟨S1x1x256, .f32⟩
  | 86 => ⟨S_, .f32⟩
  | 87 => ⟨S256, .f32⟩
  | 88 => ⟨S1x256, .f32⟩
  | 89 => ⟨S_, .f32⟩
  | 90 => ⟨S31x256, .f32⟩
  | 91 => ⟨S31x256, .f32⟩
  | 92 => ⟨S1x16384x256, .f32⟩
  | 93 => ⟨S_, .f32⟩
  | 94 => ⟨S1x256, .f32⟩
  | 95 => ⟨S1x1x256, .f32⟩
  | 96 => ⟨S_, .f32⟩
  | 97 => ⟨S256, .f32⟩
  | 98 => ⟨S1x256, .f32⟩
  | 99 => ⟨S_, .f32⟩
  | 100 => ⟨S31x256, .f32⟩
  | 101 => ⟨S31x256, .f32⟩
  | 102 => ⟨S1x16384x256, .f32⟩
  | 103 => ⟨S_, .f32⟩
  | 104 => ⟨S1x256, .f32⟩
  | 105 => ⟨S1x1x256, .f32⟩
  | 106 => ⟨S_, .f32⟩
  | 107 => ⟨S256, .f32⟩
  | 108 => ⟨S1x256, .f32⟩
  | 109 => ⟨S_, .f32⟩
  | 110 => ⟨S31x256, .f32⟩
  | 111 => ⟨S31x256, .f32⟩
  | 112 => ⟨S1x16384x256, .f32⟩
  | 113 => ⟨S_, .f32⟩
  | 114 => ⟨S1x256, .f32⟩
  | 115 => ⟨S1x1x256, .f32⟩
  | 116 => ⟨S_, .f32⟩
  | 117 => ⟨S256, .f32⟩
  | 118 => ⟨S1x256, .f32⟩
  | 119 => ⟨S_, .f32⟩
  | 120 => ⟨S31x256, .f32⟩
  | 121 => ⟨S31x256, .f32⟩
  | 122 => ⟨S1x16384x256, .f32⟩
  | 123 => ⟨S_, .f32⟩
  | 124 => ⟨S1x256, .f32⟩
  | 125 => ⟨S1x1x256, .f32⟩
  | 126 => ⟨S_, .f32⟩
  | 127 => ⟨S256, .f32⟩
  | _ => ⟨S1x16384x2816, .f32⟩

abbrev hbmTy0_4 (i : Nat) : BufTy := match i % 128 with
  | 0 => ⟨S1x256, .f32⟩
  | 1 => ⟨S_, .f32⟩
  | 2 => ⟨S31x256, .f32⟩
  | 3 => ⟨S31x256, .f32⟩
  | 4 => ⟨S1x16384x256, .f32⟩
  | 5 => ⟨S_, .f32⟩
  | 6 => ⟨S1x256, .f32⟩
  | 7 => ⟨S1x1x256, .f32⟩
  | 8 => ⟨S_, .f32⟩
  | 9 => ⟨S256, .f32⟩
  | 10 => ⟨S1x256, .f32⟩
  | 11 => ⟨S_, .f32⟩
  | 12 => ⟨S31x256, .f32⟩
  | 13 => ⟨S31x256, .f32⟩
  | 14 => ⟨S1x16384x256, .f32⟩
  | 15 => ⟨S_, .f32⟩
  | 16 => ⟨S1x256, .f32⟩
  | 17 => ⟨S1x1x256, .f32⟩
  | 18 => ⟨S_, .f32⟩
  | 19 => ⟨S256, .f32⟩
  | 20 => ⟨S1x256, .f32⟩
  | 21 => ⟨S_, .f32⟩
  | 22 => ⟨S31x256, .f32⟩
  | 23 => ⟨S31x256, .f32⟩
  | 24 => ⟨S1x16384x256, .f32⟩
  | 25 => ⟨S_, .f32⟩
  | 26 => ⟨S1x256, .f32⟩
  | 27 => ⟨S1x1x256, .f32⟩
  | 28 => ⟨S_, .f32⟩
  | 29 => ⟨S256, .f32⟩
  | 30 => ⟨S1x256, .f32⟩
  | 31 => ⟨S_, .f32⟩
  | 32 => ⟨S31x256, .f32⟩
  | 33 => ⟨S31x256, .f32⟩
  | 34 => ⟨S1x16384x256, .f32⟩
  | 35 => ⟨S_, .f32⟩
  | 36 => ⟨S1x256, .f32⟩
  | 37 => ⟨S1x1x256, .f32⟩
  | 38 => ⟨S_, .f32⟩
  | 39 => ⟨S256, .f32⟩
  | 40 => ⟨S1x256, .f32⟩
  | 41 => ⟨S_, .f32⟩
  | 42 => ⟨S31x256, .f32⟩
  | 43 => ⟨S31x256, .f32⟩
  | 44 => ⟨S1x16384x256, .f32⟩
  | 45 => ⟨S_, .f32⟩
  | 46 => ⟨S1x256, .f32⟩
  | 47 => ⟨S1x1x256, .f32⟩
  | 48 => ⟨S_, .f32⟩
  | 49 => ⟨S256, .f32⟩
  | 50 => ⟨S1x256, .f32⟩
  | 51 => ⟨S_, .f32⟩
  | 52 => ⟨S31x256, .f32⟩
  | 53 => ⟨S31x256, .f32⟩
  | 54 => ⟨S1x16384x256, .f32⟩
  | 55 => ⟨S_, .f32⟩
  | 56 => ⟨S1x256, .f32⟩
  | 57 => ⟨S1x1x256, .f32⟩
  | 58 => ⟨S_, .f32⟩
  | 59 => ⟨S256, .f32⟩
  | 60 => ⟨S1x256, .f32⟩
  | 61 => ⟨S_, .f32⟩
  | 62 => ⟨S31x256, .f32⟩
  | 63 => ⟨S31x256, .f32⟩
  | 64 => ⟨S1x16384x256, .f32⟩
  | 65 => ⟨S_, .f32⟩
  | 66 => ⟨S1x256, .f32⟩
  | 67 => ⟨S1x1x256, .f32⟩
  | 68 => ⟨S_, .f32⟩
  | 69 => ⟨S256, .f32⟩
  | 70 => ⟨S1x256, .f32⟩
  | 71 => ⟨S_, .f32⟩
  | 72 => ⟨S31x256, .f32⟩
  | 73 => ⟨S31x256, .f32⟩
  | 74 => ⟨S1x16384x256, .f32⟩
  | 75 => ⟨S_, .f32⟩
  | 76 => ⟨S1x256, .f32⟩
  | 77 => ⟨S1x1x256, .f32⟩
  | 78 => ⟨S_, .f32⟩
  | 79 => ⟨S256, .f32⟩
  | 80 => ⟨S1x256, .f32⟩
  | 81 => ⟨S_, .f32⟩
  | 82 => ⟨S31x256, .f32⟩
  | 83 => ⟨S31x256, .f32⟩
  | 84 => ⟨S1x16384x256, .f32⟩
  | 85 => ⟨S_, .f32⟩
  | 86 => ⟨S1x256, .f32⟩
  | 87 => ⟨S1x1x256, .f32⟩
  | 88 => ⟨S_, .f32⟩
  | 89 => ⟨S256, .f32⟩
  | 90 => ⟨S1x256, .f32⟩
  | 91 => ⟨S_, .f32⟩
  | 92 => ⟨S31x256, .f32⟩
  | 93 => ⟨S31x256, .f32⟩
  | 94 => ⟨S1x16384x256, .f32⟩
  | 95 => ⟨S_, .f32⟩
  | 96 => ⟨S1x256, .f32⟩
  | 97 => ⟨S1x1x256, .f32⟩
  | 98 => ⟨S_, .f32⟩
  | 99 => ⟨S256, .f32⟩
  | 100 => ⟨S1x256, .f32⟩
  | 101 => ⟨S_, .f32⟩
  | 102 => ⟨S31x256, .f32⟩
  | 103 => ⟨S31x256, .f32⟩
  | 104 => ⟨S1x16384x256, .f32⟩
  | 105 => ⟨S_, .f32⟩
  | 106 => ⟨S1x256, .f32⟩
  | 107 => ⟨S1x1x256, .f32⟩
  | 108 => ⟨S_, .f32⟩
  | 109 => ⟨S256, .f32⟩
  | 110 => ⟨S1x256, .f32⟩
  | 111 => ⟨S_, .f32⟩
  | 112 => ⟨S31x256, .f32⟩
  | 113 => ⟨S31x256, .f32⟩
  | 114 => ⟨S1x16384x256, .f32⟩
  | 115 => ⟨S_, .f32⟩
  | 116 => ⟨S1x256, .f32⟩
  | 117 => ⟨S1x1x256, .f32⟩
  | 118 => ⟨S_, .f32⟩
  | 119 => ⟨S256, .f32⟩
  | 120 => ⟨S1x256, .f32⟩
  | 121 => ⟨S_, .f32⟩
  | 122 => ⟨S31x256, .f32⟩
  | 123 => ⟨S31x256, .f32⟩
  | 124 => ⟨S1x16384x256, .f32⟩
  | 125 => ⟨S_, .f32⟩
  | 126 => ⟨S1x256, .f32⟩
  | 127 => ⟨S1x1x256, .f32⟩
  | _ => ⟨S1x16384x2816, .f32⟩

abbrev hbmTy0_5 (i : Nat) : BufTy := match i % 128 with
  | 0 => ⟨S_, .f32⟩
  | 1 => ⟨S256, .f32⟩
  | 2 => ⟨S1x256, .f32⟩
  | 3 => ⟨S_, .f32⟩
  | 4 => ⟨S31x256, .f32⟩
  | 5 => ⟨S31x256, .f32⟩
  | 6 => ⟨S1x16384x256, .f32⟩
  | 7 => ⟨S_, .f32⟩
  | 8 => ⟨S1x256, .f32⟩
  | 9 => ⟨S1x1x256, .f32⟩
  | 10 => ⟨S_, .f32⟩
  | 11 => ⟨S256, .f32⟩
  | 12 => ⟨S1x256, .f32⟩
  | 13 => ⟨S_, .f32⟩
  | 14 => ⟨S31x256, .f32⟩
  | 15 => ⟨S31x256, .f32⟩
  | 16 => ⟨S1x16384x256, .f32⟩
  | 17 => ⟨S_, .f32⟩
  | 18 => ⟨S1x256, .f32⟩
  | 19 => ⟨S1x1x256, .f32⟩
  | 20 => ⟨S_, .f32⟩
  | 21 => ⟨S256, .f32⟩
  | 22 => ⟨S1x256, .f32⟩
  | 23 => ⟨S_, .f32⟩
  | 24 => ⟨S31x256, .f32⟩
  | 25 => ⟨S31x256, .f32⟩
  | 26 => ⟨S1x16384x256, .f32⟩
  | 27 => ⟨S_, .f32⟩
  | 28 => ⟨S1x256, .f32⟩
  | 29 => ⟨S1x1x256, .f32⟩
  | 30 => ⟨S_, .f32⟩
  | 31 => ⟨S256, .f32⟩
  | 32 => ⟨S1x256, .f32⟩
  | 33 => ⟨S_, .f32⟩
  | 34 => ⟨S31x256, .f32⟩
  | 35 => ⟨S31x256, .f32⟩
  | 36 => ⟨S16384x256, .f32⟩
  | 37 => ⟨S16384x256, .f32⟩
  | 38 => ⟨S16384x256, .bf16⟩
  | 39 => ⟨S1x256, .f32⟩
  | 40 => ⟨S1x256, .f32⟩
  | 41 => ⟨S1x256, .f32⟩
  | _ => ⟨S1x16384x2816, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1x16384x2816, .f32⟩

abbrev bufTy : (tb : Table) → Fin (tcTables nBuf tb) → BufTy
  | .hbm, ⟨i, _⟩ => hbmTy i
  | _, _ => ⟨S1x16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_v238 : Ref sig .tc := ⟨.hbm, 248, rfl⟩
abbrev main_v239 : Ref sig .tc := ⟨.hbm, 249, rfl⟩
abbrev main_v240 : Ref sig .tc := ⟨.hbm, 250, rfl⟩
abbrev main_cst_3 : Ref sig .tc := ⟨.hbm, 251, rfl⟩
abbrev main_v241 : Ref sig .tc := ⟨.hbm, 252, rfl⟩
abbrev main_v242 : Ref sig .tc := ⟨.hbm, 253, rfl⟩
abbrev main_cst_4 : Ref sig .tc := ⟨.hbm, 254, rfl⟩
abbrev main_v243 : Ref sig .tc := ⟨.hbm, 255, rfl⟩
abbrev main_v244 : Ref sig .tc := ⟨.hbm, 256, rfl⟩
abbrev main_v245 : Ref sig .tc := ⟨.hbm, 257, rfl⟩
abbrev main_v246 : Ref sig .tc := ⟨.hbm, 258, rfl⟩
abbrev main_v247 : Ref sig .tc := ⟨.hbm, 259, rfl⟩
abbrev main_cst_5 : Ref sig .tc := ⟨.hbm, 260, rfl⟩
abbrev main_v248 : Ref sig .tc := ⟨.hbm, 261, rfl⟩
abbrev main_v249 : Ref sig .tc := ⟨.hbm, 262, rfl⟩
abbrev main_cst_6 : Ref sig .tc := ⟨.hbm, 263, rfl⟩
abbrev main_v250 : Ref sig .tc := ⟨.hbm, 264, rfl⟩
abbrev main_v251 : Ref sig .tc := ⟨.hbm, 265, rfl⟩
abbrev main_cst_7 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_cst_8 : Ref sig .tc := ⟨.hbm, 271, rfl⟩
abbrev main_v256 : Ref sig .tc := ⟨.hbm, 272, rfl⟩
abbrev main_v257 : Ref sig .tc := ⟨.hbm, 273, rfl⟩
abbrev main_v258 : Ref sig .tc := ⟨.hbm, 274, rfl⟩
abbrev main_v259 : Ref sig .tc := ⟨.hbm, 275, rfl⟩
abbrev main_v260 : Ref sig .tc := ⟨.hbm, 276, rfl⟩
abbrev main_v261 : Ref sig .tc := ⟨.hbm, 277, rfl⟩
abbrev main_v262 : Ref sig .tc := ⟨.hbm, 278, rfl⟩
abbrev main_v263 : Ref sig .tc := ⟨.hbm, 279, rfl⟩
abbrev main_v264 : Ref sig .tc := ⟨.hbm, 280, rfl⟩
abbrev main_v265 : Ref sig .tc := ⟨.hbm, 281, rfl⟩
abbrev main_call0_v0 : Ref sig .tc := ⟨.hbm, 282, rfl⟩
abbrev main_call0_v1 : Ref sig .tc := ⟨.hbm, 283, rfl⟩
abbrev main_call0_cst : Ref sig .tc := ⟨.hbm, 284, rfl⟩
abbrev main_call0_v2 : Ref sig .tc := ⟨.hbm, 285, rfl⟩
abbrev main_call0_v3 : Ref sig .tc := ⟨.hbm, 286, rfl⟩
abbrev main_call0_cst_0 : Ref sig .tc := ⟨.hbm, 287, rfl⟩
abbrev main_call0_v4 : Ref sig .tc := ⟨.hbm, 288, rfl⟩
abbrev main_v266_2 : Ref sig .tc := ⟨.hbm, 289, rfl⟩
abbrev main_call0_cst_1 : Ref sig .tc := ⟨.hbm, 290, rfl⟩
abbrev main_call0_v6 : Ref sig .tc := ⟨.hbm, 291, rfl⟩
abbrev main_call0_v7 : Ref sig .tc := ⟨.hbm, 292, rfl⟩
abbrev main_v266_1 : Ref sig .tc := ⟨.hbm, 293, rfl⟩
abbrev main_v266_0 : Ref sig .tc := ⟨.hbm, 294, rfl⟩
abbrev main_call1_v0 : Ref sig .tc := ⟨.hbm, 295, rfl⟩
abbrev main_call1_v1 : Ref sig .tc := ⟨.hbm, 296, rfl⟩
abbrev main_call1_cst : Ref sig .tc := ⟨.hbm, 297, rfl⟩
abbrev main_call1_v2 : Ref sig .tc := ⟨.hbm, 298, rfl⟩
abbrev main_call1_v3 : Ref sig .tc := ⟨.hbm, 299, rfl⟩
abbrev main_call1_cst_0 : Ref sig .tc := ⟨.hbm, 300, rfl⟩
abbrev main_call1_v4 : Ref sig .tc := ⟨.hbm, 301, rfl⟩
abbrev main_v267_2 : Ref sig .tc := ⟨.hbm, 302, rfl⟩
abbrev main_call1_cst_1 : Ref sig .tc := ⟨.hbm, 303, rfl⟩
abbrev main_call1_v6 : Ref sig .tc := ⟨.hbm, 304, rfl⟩
abbrev main_call1_v7 : Ref sig .tc := ⟨.hbm, 305, rfl⟩
abbrev main_v267_1 : Ref sig .tc := ⟨.hbm, 306, rfl⟩
abbrev main_v267_0 : Ref sig .tc := ⟨.hbm, 307, rfl⟩
abbrev main_v268 : Ref sig .tc := ⟨.hbm, 308, rfl⟩
abbrev main_v269 : Ref sig .tc := ⟨.hbm, 309, rfl⟩
abbrev main_v270 : Ref sig .tc := ⟨.hbm, 310, rfl⟩
abbrev main_call2_v0 : Ref sig .tc := ⟨.hbm, 311, rfl⟩
abbrev main_call2_v1 : Ref sig .tc := ⟨.hbm, 312, rfl⟩
abbrev main_call2_v2 : Ref sig .tc := ⟨.hbm, 313, rfl⟩
abbrev main_v271 : Ref sig .tc := ⟨.hbm, 314, rfl⟩
abbrev main_call3_v0 : Ref sig .tc := ⟨.hbm, 315, rfl⟩
abbrev main_call3_v1 : Ref sig .tc := ⟨.hbm, 316, rfl⟩
abbrev main_call3_v2 : Ref sig .tc := ⟨.hbm, 317, rfl⟩
abbrev main_v272 : Ref sig .tc := ⟨.hbm, 318, rfl⟩
abbrev main_cst_9 : Ref sig .tc := ⟨.hbm, 319, rfl⟩
abbrev main_v273 : Ref sig .tc := ⟨.hbm, 320, rfl⟩
abbrev main_v274 : Ref sig .tc := ⟨.hbm, 321, rfl⟩
abbrev main_cst_10 : Ref sig .tc := ⟨.hbm, 322, rfl⟩
abbrev main_v275 : Ref sig .tc := ⟨.hbm, 323, rfl⟩
abbrev main_v276 : Ref sig .tc := ⟨.hbm, 324, rfl⟩
abbrev main_cst_11 : Ref sig .tc := ⟨.hbm, 325, rfl⟩
abbrev main_v277 : Ref sig .tc := ⟨.hbm, 326, rfl⟩
abbrev main_v278 : Ref sig .tc := ⟨.hbm, 327, rfl⟩
abbrev main_v279 : Ref sig .tc := ⟨.hbm, 328, rfl⟩
abbrev main_v280 : Ref sig .tc := ⟨.hbm, 329, rfl⟩
abbrev main_cst_12 : Ref sig .tc := ⟨.hbm, 330, rfl⟩
abbrev main_v281 : Ref sig .tc := ⟨.hbm, 331, rfl⟩
abbrev main_v282 : Ref sig .tc := ⟨.hbm, 332, rfl⟩
abbrev main_cst_13 : Ref sig .tc := ⟨.hbm, 333, rfl⟩
abbrev main_v283 : Ref sig .tc := ⟨.hbm, 334, rfl⟩
abbrev main_v284 : Ref sig .tc := ⟨.hbm, 335, rfl⟩
abbrev main_v285 : Ref sig .tc := ⟨.hbm, 336, rfl⟩
abbrev main_v286 : Ref sig .tc := ⟨.hbm, 337, rfl⟩
abbrev main_v287 : Ref sig .tc := ⟨.hbm, 338, rfl⟩
abbrev main_cst_14 : Ref sig .tc := ⟨.hbm, 339, rfl⟩
abbrev main_v288 : Ref sig .tc := ⟨.hbm, 340, rfl⟩
abbrev main_v289 : Ref sig .tc := ⟨.hbm, 341, rfl⟩
abbrev main_cst_15 : Ref sig .tc := ⟨.hbm, 342, rfl⟩
abbrev main_v290 : Ref sig .tc := ⟨.hbm, 343, rfl⟩
abbrev main_v291 : Ref sig .tc := ⟨.hbm, 344, rfl⟩
abbrev main_v292 : Ref sig .tc := ⟨.hbm, 345, rfl⟩
abbrev main_v293 : Ref sig .tc := ⟨.hbm, 346, rfl⟩
abbrev main_v294 : Ref sig .tc := ⟨.hbm, 347, rfl⟩
abbrev main_v295 : Ref sig .tc := ⟨.hbm, 348, rfl⟩
abbrev main_v296 : Ref sig .tc := ⟨.hbm, 349, rfl⟩
abbrev main_v297 : Ref sig .tc := ⟨.hbm, 350, rfl⟩
abbrev main_cst_16 : Ref sig .tc := ⟨.hbm, 351, rfl⟩
abbrev main_v298 : Ref sig .tc := ⟨.hbm, 352, rfl⟩
abbrev main_v299 : Ref sig .tc := ⟨.hbm, 353, rfl⟩
abbrev main_cst_17 : Ref sig .tc := ⟨.hbm, 354, rfl⟩
abbrev main_v300 : Ref sig .tc := ⟨.hbm, 355, rfl⟩
abbrev main_v301 : Ref sig .tc := ⟨.hbm, 356, rfl⟩
abbrev main_cst_18 : Ref sig .tc := ⟨.hbm, 357, rfl⟩
abbrev main_v302 : Ref sig .tc := ⟨.hbm, 358, rfl⟩
abbrev main_v303 : Ref sig .tc := ⟨.hbm, 359, rfl⟩
abbrev main_v304 : Ref sig .tc := ⟨.hbm, 360, rfl⟩
abbrev main_v305 : Ref sig .tc := ⟨.hbm, 361, rfl⟩
abbrev main_cst_19 : Ref sig .tc := ⟨.hbm, 362, rfl⟩
abbrev main_v306 : Ref sig .tc := ⟨.hbm, 363, rfl⟩
abbrev main_v307 : Ref sig .tc := ⟨.hbm, 364, rfl⟩
abbrev main_cst_20 : Ref sig .tc := ⟨.hbm, 365, rfl⟩
abbrev main_v308 : Ref sig .tc := ⟨.hbm, 366, rfl⟩
abbrev main_v309 : Ref sig .tc := ⟨.hbm, 367, rfl⟩
abbrev main_cst_21 : Ref sig .tc := ⟨.hbm, 368, rfl⟩
abbrev main_v310 : Ref sig .tc := ⟨.hbm, 369, rfl⟩
abbrev main_v311 : Ref sig .tc := ⟨.hbm, 370, rfl⟩
abbrev main_cst_22 : Ref sig .tc := ⟨.hbm, 371, rfl⟩
abbrev main_v312 : Ref sig .tc := ⟨.hbm, 372, rfl⟩
abbrev main_v313 : Ref sig .tc := ⟨.hbm, 373, rfl⟩
abbrev main_cst_23 : Ref sig .tc := ⟨.hbm, 374, rfl⟩
abbrev main_v314 : Ref sig .tc := ⟨.hbm, 375, rfl⟩
abbrev main_v315 : Ref sig .tc := ⟨.hbm, 376, rfl⟩
abbrev main_cst_24 : Ref sig .tc := ⟨.hbm, 377, rfl⟩
abbrev main_v316 : Ref sig .tc := ⟨.hbm, 378, rfl⟩
abbrev main_v317 : Ref sig .tc := ⟨.hbm, 379, rfl⟩
abbrev main_cst_25 : Ref sig .tc := ⟨.hbm, 380, rfl⟩
abbrev main_v318 : Ref sig .tc := ⟨.hbm, 381, rfl⟩
abbrev main_v319 : Ref sig .tc := ⟨.hbm, 382, rfl⟩
abbrev main_cst_26 : Ref sig .tc := ⟨.hbm, 383, rfl⟩
abbrev main_v320 : Ref sig .tc := ⟨.hbm, 384, rfl⟩
abbrev main_v321 : Ref sig .tc := ⟨.hbm, 385, rfl⟩
abbrev main_v322 : Ref sig .tc := ⟨.hbm, 386, rfl⟩
abbrev main_cst_27 : Ref sig .tc := ⟨.hbm, 387, rfl⟩
abbrev main_v323 : Ref sig .tc := ⟨.hbm, 388, rfl⟩
abbrev main_v324 : Ref sig .tc := ⟨.hbm, 389, rfl⟩
abbrev main_cst_28 : Ref sig .tc := ⟨.hbm, 390, rfl⟩
abbrev main_v325 : Ref sig .tc := ⟨.hbm, 391, rfl⟩
abbrev main_v326 : Ref sig .tc := ⟨.hbm, 392, rfl⟩
abbrev main_cst_29 : Ref sig .tc := ⟨.hbm, 393, rfl⟩
abbrev main_v327 : Ref sig .tc := ⟨.hbm, 394, rfl⟩
abbrev main_v328 : Ref sig .tc := ⟨.hbm, 395, rfl⟩
abbrev main_v329 : Ref sig .tc := ⟨.hbm, 396, rfl⟩
abbrev main_cst_30 : Ref sig .tc := ⟨.hbm, 397, rfl⟩
abbrev main_v330 : Ref sig .tc := ⟨.hbm, 398, rfl⟩
abbrev main_v331 : Ref sig .tc := ⟨.hbm, 399, rfl⟩
abbrev main_cst_31 : Ref sig .tc := ⟨.hbm, 400, rfl⟩
abbrev main_v332 : Ref sig .tc := ⟨.hbm, 401, rfl⟩
abbrev main_v333 : Ref sig .tc := ⟨.hbm, 402, rfl⟩
abbrev main_cst_32 : Ref sig .tc := ⟨.hbm, 403, rfl⟩
abbrev main_v334 : Ref sig .tc := ⟨.hbm, 404, rfl⟩
abbrev main_v335 : Ref sig .tc := ⟨.hbm, 405, rfl⟩
abbrev main_v336 : Ref sig .tc := ⟨.hbm, 406, rfl⟩
abbrev main_cst_33 : Ref sig .tc := ⟨.hbm, 407, rfl⟩
abbrev main_v337 : Ref sig .tc := ⟨.hbm, 408, rfl⟩
abbrev main_v338 : Ref sig .tc := ⟨.hbm, 409, rfl⟩
abbrev main_cst_34 : Ref sig .tc := ⟨.hbm, 410, rfl⟩
abbrev main_v339 : Ref sig .tc := ⟨.hbm, 411, rfl⟩
abbrev main_v340 : Ref sig .tc := ⟨.hbm, 412, rfl⟩
abbrev main_cst_35 : Ref sig .tc := ⟨.hbm, 413, rfl⟩
abbrev main_v341 : Ref sig .tc := ⟨.hbm, 414, rfl⟩
abbrev main_v342 : Ref sig .tc := ⟨.hbm, 415, rfl⟩
abbrev main_v343 : Ref sig .tc := ⟨.hbm, 416, rfl⟩
abbrev main_cst_36 : Ref sig .tc := ⟨.hbm, 417, rfl⟩
abbrev main_v344 : Ref sig .tc := ⟨.hbm, 418, rfl⟩
abbrev main_v345 : Ref sig .tc := ⟨.hbm, 419, rfl⟩
abbrev main_cst_37 : Ref sig .tc := ⟨.hbm, 420, rfl⟩
abbrev main_v346 : Ref sig .tc := ⟨.hbm, 421, rfl⟩
abbrev main_v347 : Ref sig .tc := ⟨.hbm, 422, rfl⟩
abbrev main_cst_38 : Ref sig .tc := ⟨.hbm, 423, rfl⟩
abbrev main_v348 : Ref sig .tc := ⟨.hbm, 424, rfl⟩
abbrev main_v349 : Ref sig .tc := ⟨.hbm, 425, rfl⟩
abbrev main_v350 : Ref sig .tc := ⟨.hbm, 426, rfl⟩
abbrev main_cst_39 : Ref sig .tc := ⟨.hbm, 427, rfl⟩
abbrev main_v351 : Ref sig .tc := ⟨.hbm, 428, rfl⟩
abbrev main_v352 : Ref sig .tc := ⟨.hbm, 429, rfl⟩
abbrev main_cst_40 : Ref sig .tc := ⟨.hbm, 430, rfl⟩
abbrev main_v353 : Ref sig .tc := ⟨.hbm, 431, rfl⟩
abbrev main_v354 : Ref sig .tc := ⟨.hbm, 432, rfl⟩
abbrev main_cst_41 : Ref sig .tc := ⟨.hbm, 433, rfl⟩
abbrev main_v355 : Ref sig .tc := ⟨.hbm, 434, rfl⟩
abbrev main_v356 : Ref sig .tc := ⟨.hbm, 435, rfl⟩
abbrev main_v357 : Ref sig .tc := ⟨.hbm, 436, rfl⟩
abbrev main_cst_42 : Ref sig .tc := ⟨.hbm, 437, rfl⟩
abbrev main_v358 : Ref sig .tc := ⟨.hbm, 438, rfl⟩
abbrev main_v359 : Ref sig .tc := ⟨.hbm, 439, rfl⟩
abbrev main_cst_43 : Ref sig .tc := ⟨.hbm, 440, rfl⟩
abbrev main_v360 : Ref sig .tc := ⟨.hbm, 441, rfl⟩
abbrev main_v361 : Ref sig .tc := ⟨.hbm, 442, rfl⟩
abbrev main_cst_44 : Ref sig .tc := ⟨.hbm, 443, rfl⟩
abbrev main_v362 : Ref sig .tc := ⟨.hbm, 444, rfl⟩
abbrev main_v363 : Ref sig .tc := ⟨.hbm, 445, rfl⟩
abbrev main_v364 : Ref sig .tc := ⟨.hbm, 446, rfl⟩
abbrev main_cst_45 : Ref sig .tc := ⟨.hbm, 447, rfl⟩
abbrev main_v365 : Ref sig .tc := ⟨.hbm, 448, rfl⟩
abbrev main_v366 : Ref sig .tc := ⟨.hbm, 449, rfl⟩
abbrev main_cst_46 : Ref sig .tc := ⟨.hbm, 450, rfl⟩
abbrev main_v367 : Ref sig .tc := ⟨.hbm, 451, rfl⟩
abbrev main_v368 : Ref sig .tc := ⟨.hbm, 452, rfl⟩
abbrev main_cst_47 : Ref sig .tc := ⟨.hbm, 453, rfl⟩
abbrev main_v369 : Ref sig .tc := ⟨.hbm, 454, rfl⟩
abbrev main_v370 : Ref sig .tc := ⟨.hbm, 455, rfl⟩
abbrev main_v371 : Ref sig .tc := ⟨.hbm, 456, rfl⟩
abbrev main_cst_48 : Ref sig .tc := ⟨.hbm, 457, rfl⟩
abbrev main_v372 : Ref sig .tc := ⟨.hbm, 458, rfl⟩
abbrev main_v373 : Ref sig .tc := ⟨.hbm, 459, rfl⟩
abbrev main_cst_49 : Ref sig .tc := ⟨.hbm, 460, rfl⟩
abbrev main_v374 : Ref sig .tc := ⟨.hbm, 461, rfl⟩
abbrev main_v375 : Ref sig .tc := ⟨.hbm, 462, rfl⟩
abbrev main_cst_50 : Ref sig .tc := ⟨.hbm, 463, rfl⟩
abbrev main_v376 : Ref sig .tc := ⟨.hbm, 464, rfl⟩
abbrev main_v377 : Ref sig .tc := ⟨.hbm, 465, rfl⟩
abbrev main_v378 : Ref sig .tc := ⟨.hbm, 466, rfl⟩
abbrev main_cst_51 : Ref sig .tc := ⟨.hbm, 467, rfl⟩
abbrev main_v379 : Ref sig .tc := ⟨.hbm, 468, rfl⟩
abbrev main_v380 : Ref sig .tc := ⟨.hbm, 469, rfl⟩
abbrev main_cst_52 : Ref sig .tc := ⟨.hbm, 470, rfl⟩
abbrev main_v381 : Ref sig .tc := ⟨.hbm, 471, rfl⟩
abbrev main_v382 : Ref sig .tc := ⟨.hbm, 472, rfl⟩
abbrev main_cst_53 : Ref sig .tc := ⟨.hbm, 473, rfl⟩
abbrev main_v383 : Ref sig .tc := ⟨.hbm, 474, rfl⟩
abbrev main_v384 : Ref sig .tc := ⟨.hbm, 475, rfl⟩
abbrev main_v385 : Ref sig .tc := ⟨.hbm, 476, rfl⟩
abbrev main_cst_54 : Ref sig .tc := ⟨.hbm, 477, rfl⟩
abbrev main_v386 : Ref sig .tc := ⟨.hbm, 478, rfl⟩
abbrev main_v387 : Ref sig .tc := ⟨.hbm, 479, rfl⟩
abbrev main_cst_55 : Ref sig .tc := ⟨.hbm, 480, rfl⟩
abbrev main_v388 : Ref sig .tc := ⟨.hbm, 481, rfl⟩
abbrev main_v389 : Ref sig .tc := ⟨.hbm, 482, rfl⟩
abbrev main_cst_56 : Ref sig .tc := ⟨.hbm, 483, rfl⟩
abbrev main_v390 : Ref sig .tc := ⟨.hbm, 484, rfl⟩
abbrev main_v391 : Ref sig .tc := ⟨.hbm, 485, rfl⟩
abbrev main_v392 : Ref sig .tc := ⟨.hbm, 486, rfl⟩
abbrev main_cst_57 : Ref sig .tc := ⟨.hbm, 487, rfl⟩
abbrev main_v393 : Ref sig .tc := ⟨.hbm, 488, rfl⟩
abbrev main_v394 : Ref sig .tc := ⟨.hbm, 489, rfl⟩
abbrev main_cst_58 : Ref sig .tc := ⟨.hbm, 490, rfl⟩
abbrev main_v395 : Ref sig .tc := ⟨.hbm, 491, rfl⟩
abbrev main_v396 : Ref sig .tc := ⟨.hbm, 492, rfl⟩
abbrev main_cst_59 : Ref sig .tc := ⟨.hbm, 493, rfl⟩
abbrev main_v397 : Ref sig .tc := ⟨.hbm, 494, rfl⟩
abbrev main_v398 : Ref sig .tc := ⟨.hbm, 495, rfl⟩
abbrev main_v399 : Ref sig .tc := ⟨.hbm, 496, rfl⟩
abbrev main_cst_60 : Ref sig .tc := ⟨.hbm, 497, rfl⟩
abbrev main_v400 : Ref sig .tc := ⟨.hbm, 498, rfl⟩
abbrev main_v401 : Ref sig .tc := ⟨.hbm, 499, rfl⟩
abbrev main_cst_61 : Ref sig .tc := ⟨.hbm, 500, rfl⟩
abbrev main_v402 : Ref sig .tc := ⟨.hbm, 501, rfl⟩
abbrev main_v403 : Ref sig .tc := ⟨.hbm, 502, rfl⟩
abbrev main_cst_62 : Ref sig .tc := ⟨.hbm, 503, rfl⟩
abbrev main_v404 : Ref sig .tc := ⟨.hbm, 504, rfl⟩
abbrev main_v405 : Ref sig .tc := ⟨.hbm, 505, rfl⟩
abbrev main_v406 : Ref sig .tc := ⟨.hbm, 506, rfl⟩
abbrev main_cst_63 : Ref sig .tc := ⟨.hbm, 507, rfl⟩
abbrev main_v407 : Ref sig .tc := ⟨.hbm, 508, rfl⟩
abbrev main_v408 : Ref sig .tc := ⟨.hbm, 509, rfl⟩
abbrev main_cst_64 : Ref sig .tc := ⟨.hbm, 510, rfl⟩
abbrev main_v409 : Ref sig .tc := ⟨.hbm, 511, rfl⟩
abbrev main_v410 : Ref sig .tc := ⟨.hbm, 512, rfl⟩
abbrev main_cst_65 : Ref sig .tc := ⟨.hbm, 513, rfl⟩
abbrev main_v411 : Ref sig .tc := ⟨.hbm, 514, rfl⟩
abbrev main_v412 : Ref sig .tc := ⟨.hbm, 515, rfl⟩
abbrev main_v413 : Ref sig .tc := ⟨.hbm, 516, rfl⟩
abbrev main_cst_66 : Ref sig .tc := ⟨.hbm, 517, rfl⟩
abbrev main_v414 : Ref sig .tc := ⟨.hbm, 518, rfl⟩
abbrev main_v415 : Ref sig .tc := ⟨.hbm, 519, rfl⟩
abbrev main_cst_67 : Ref sig .tc := ⟨.hbm, 520, rfl⟩
abbrev main_v416 : Ref sig .tc := ⟨.hbm, 521, rfl⟩
abbrev main_v417 : Ref sig .tc := ⟨.hbm, 522, rfl⟩
abbrev main_cst_68 : Ref sig .tc := ⟨.hbm, 523, rfl⟩
abbrev main_v418 : Ref sig .tc := ⟨.hbm, 524, rfl⟩
abbrev main_v419 : Ref sig .tc := ⟨.hbm, 525, rfl⟩
abbrev main_v420 : Ref sig .tc := ⟨.hbm, 526, rfl⟩
abbrev main_cst_69 : Ref sig .tc := ⟨.hbm, 527, rfl⟩
abbrev main_v421 : Ref sig .tc := ⟨.hbm, 528, rfl⟩
abbrev main_v422 : Ref sig .tc := ⟨.hbm, 529, rfl⟩
abbrev main_cst_70 : Ref sig .tc := ⟨.hbm, 530, rfl⟩
abbrev main_v423 : Ref sig .tc := ⟨.hbm, 531, rfl⟩
abbrev main_v424 : Ref sig .tc := ⟨.hbm, 532, rfl⟩
abbrev main_cst_71 : Ref sig .tc := ⟨.hbm, 533, rfl⟩
abbrev main_v425 : Ref sig .tc := ⟨.hbm, 534, rfl⟩
abbrev main_v426 : Ref sig .tc := ⟨.hbm, 535, rfl⟩
abbrev main_v427 : Ref sig .tc := ⟨.hbm, 536, rfl⟩
abbrev main_cst_72 : Ref sig .tc := ⟨.hbm, 537, rfl⟩
abbrev main_v428 : Ref sig .tc := ⟨.hbm, 538, rfl⟩
abbrev main_v429 : Ref sig .tc := ⟨.hbm, 539, rfl⟩
abbrev main_cst_73 : Ref sig .tc := ⟨.hbm, 540, rfl⟩
abbrev main_v430 : Ref sig .tc := ⟨.hbm, 541, rfl⟩
abbrev main_v431 : Ref sig .tc := ⟨.hbm, 542, rfl⟩
abbrev main_cst_74 : Ref sig .tc := ⟨.hbm, 543, rfl⟩
abbrev main_v432 : Ref sig .tc := ⟨.hbm, 544, rfl⟩
abbrev main_v433 : Ref sig .tc := ⟨.hbm, 545, rfl⟩
abbrev main_v434 : Ref sig .tc := ⟨.hbm, 546, rfl⟩
abbrev main_cst_75 : Ref sig .tc := ⟨.hbm, 547, rfl⟩
abbrev main_v435 : Ref sig .tc := ⟨.hbm, 548, rfl⟩
abbrev main_v436 : Ref sig .tc := ⟨.hbm, 549, rfl⟩
abbrev main_cst_76 : Ref sig .tc := ⟨.hbm, 550, rfl⟩
abbrev main_v437 : Ref sig .tc := ⟨.hbm, 551, rfl⟩
abbrev main_v438 : Ref sig .tc := ⟨.hbm, 552, rfl⟩
abbrev main_cst_77 : Ref sig .tc := ⟨.hbm, 553, rfl⟩
abbrev main_v439 : Ref sig .tc := ⟨.hbm, 554, rfl⟩
abbrev main_v440 : Ref sig .tc := ⟨.hbm, 555, rfl⟩
abbrev main_v441 : Ref sig .tc := ⟨.hbm, 556, rfl⟩
abbrev main_cst_78 : Ref sig .tc := ⟨.hbm, 557, rfl⟩
abbrev main_v442 : Ref sig .tc := ⟨.hbm, 558, rfl⟩
abbrev main_v443 : Ref sig .tc := ⟨.hbm, 559, rfl⟩
abbrev main_cst_79 : Ref sig .tc := ⟨.hbm, 560, rfl⟩
abbrev main_v444 : Ref sig .tc := ⟨.hbm, 561, rfl⟩
abbrev main_v445 : Ref sig .tc := ⟨.hbm, 562, rfl⟩
abbrev main_cst_80 : Ref sig .tc := ⟨.hbm, 563, rfl⟩
abbrev main_v446 : Ref sig .tc := ⟨.hbm, 564, rfl⟩
abbrev main_v447 : Ref sig .tc := ⟨.hbm, 565, rfl⟩
abbrev main_v448 : Ref sig .tc := ⟨.hbm, 566, rfl⟩
abbrev main_cst_81 : Ref sig .tc := ⟨.hbm, 567, rfl⟩
abbrev main_v449 : Ref sig .tc := ⟨.hbm, 568, rfl⟩
abbrev main_v450 : Ref sig .tc := ⟨.hbm, 569, rfl⟩
abbrev main_cst_82 : Ref sig .tc := ⟨.hbm, 570, rfl⟩
abbrev main_v451 : Ref sig .tc := ⟨.hbm, 571, rfl⟩
abbrev main_v452 : Ref sig .tc := ⟨.hbm, 572, rfl⟩
abbrev main_cst_83 : Ref sig .tc := ⟨.hbm, 573, rfl⟩
abbrev main_v453 : Ref sig .tc := ⟨.hbm, 574, rfl⟩
abbrev main_v454 : Ref sig .tc := ⟨.hbm, 575, rfl⟩
abbrev main_v455 : Ref sig .tc := ⟨.hbm, 576, rfl⟩
abbrev main_cst_84 : Ref sig .tc := ⟨.hbm, 577, rfl⟩
abbrev main_v456 : Ref sig .tc := ⟨.hbm, 578, rfl⟩
abbrev main_v457 : Ref sig .tc := ⟨.hbm, 579, rfl⟩
abbrev main_cst_85 : Ref sig .tc := ⟨.hbm, 580, rfl⟩
abbrev main_v458 : Ref sig .tc := ⟨.hbm, 581, rfl⟩
abbrev main_v459 : Ref sig .tc := ⟨.hbm, 582, rfl⟩
abbrev main_cst_86 : Ref sig .tc := ⟨.hbm, 583, rfl⟩
abbrev main_v460 : Ref sig .tc := ⟨.hbm, 584, rfl⟩
abbrev main_v461 : Ref sig .tc := ⟨.hbm, 585, rfl⟩
abbrev main_v462 : Ref sig .tc := ⟨.hbm, 586, rfl⟩
abbrev main_cst_87 : Ref sig .tc := ⟨.hbm, 587, rfl⟩
abbrev main_v463 : Ref sig .tc := ⟨.hbm, 588, rfl⟩
abbrev main_v464 : Ref sig .tc := ⟨.hbm, 589, rfl⟩
abbrev main_cst_88 : Ref sig .tc := ⟨.hbm, 590, rfl⟩
abbrev main_v465 : Ref sig .tc := ⟨.hbm, 591, rfl⟩
abbrev main_v466 : Ref sig .tc := ⟨.hbm, 592, rfl⟩
abbrev main_cst_89 : Ref sig .tc := ⟨.hbm, 593, rfl⟩
abbrev main_v467 : Ref sig .tc := ⟨.hbm, 594, rfl⟩
abbrev main_v468 : Ref sig .tc := ⟨.hbm, 595, rfl⟩
abbrev main_v469 : Ref sig .tc := ⟨.hbm, 596, rfl⟩
abbrev main_cst_90 : Ref sig .tc := ⟨.hbm, 597, rfl⟩
abbrev main_v470 : Ref sig .tc := ⟨.hbm, 598, rfl⟩
abbrev main_v471 : Ref sig .tc := ⟨.hbm, 599, rfl⟩
abbrev main_cst_91 : Ref sig .tc := ⟨.hbm, 600, rfl⟩
abbrev main_v472 : Ref sig .tc := ⟨.hbm, 601, rfl⟩
abbrev main_v473 : Ref sig .tc := ⟨.hbm, 602, rfl⟩
abbrev main_cst_92 : Ref sig .tc := ⟨.hbm, 603, rfl⟩
abbrev main_v474 : Ref sig .tc := ⟨.hbm, 604, rfl⟩
abbrev main_v475 : Ref sig .tc := ⟨.hbm, 605, rfl⟩
abbrev main_v476 : Ref sig .tc := ⟨.hbm, 606, rfl⟩
abbrev main_cst_93 : Ref sig .tc := ⟨.hbm, 607, rfl⟩
abbrev main_v477 : Ref sig .tc := ⟨.hbm, 608, rfl⟩
abbrev main_v478 : Ref sig .tc := ⟨.hbm, 609, rfl⟩
abbrev main_cst_94 : Ref sig .tc := ⟨.hbm, 610, rfl⟩
abbrev main_v479 : Ref sig .tc := ⟨.hbm, 611, rfl⟩
abbrev main_v480 : Ref sig .tc := ⟨.hbm, 612, rfl⟩
abbrev main_cst_95 : Ref sig .tc := ⟨.hbm, 613, rfl⟩
abbrev main_v481 : Ref sig .tc := ⟨.hbm, 614, rfl⟩
abbrev main_v482 : Ref sig .tc := ⟨.hbm, 615, rfl⟩
abbrev main_v483 : Ref sig .tc := ⟨.hbm, 616, rfl⟩
abbrev main_cst_96 : Ref sig .tc := ⟨.hbm, 617, rfl⟩
abbrev main_v484 : Ref sig .tc := ⟨.hbm, 618, rfl⟩
abbrev main_v485 : Ref sig .tc := ⟨.hbm, 619, rfl⟩
abbrev main_cst_97 : Ref sig .tc := ⟨.hbm, 620, rfl⟩
abbrev main_v486 : Ref sig .tc := ⟨.hbm, 621, rfl⟩
abbrev main_v487 : Ref sig .tc := ⟨.hbm, 622, rfl⟩
abbrev main_cst_98 : Ref sig .tc := ⟨.hbm, 623, rfl⟩
abbrev main_v488 : Ref sig .tc := ⟨.hbm, 624, rfl⟩
abbrev main_v489 : Ref sig .tc := ⟨.hbm, 625, rfl⟩
abbrev main_v490 : Ref sig .tc := ⟨.hbm, 626, rfl⟩
abbrev main_cst_99 : Ref sig .tc := ⟨.hbm, 627, rfl⟩
abbrev main_v491 : Ref sig .tc := ⟨.hbm, 628, rfl⟩
abbrev main_v492 : Ref sig .tc := ⟨.hbm, 629, rfl⟩
abbrev main_cst_100 : Ref sig .tc := ⟨.hbm, 630, rfl⟩
abbrev main_v493 : Ref sig .tc := ⟨.hbm, 631, rfl⟩
abbrev main_v494 : Ref sig .tc := ⟨.hbm, 632, rfl⟩
abbrev main_cst_101 : Ref sig .tc := ⟨.hbm, 633, rfl⟩
abbrev main_v495 : Ref sig .tc := ⟨.hbm, 634, rfl⟩
abbrev main_v496 : Ref sig .tc := ⟨.hbm, 635, rfl⟩
abbrev main_v497 : Ref sig .tc := ⟨.hbm, 636, rfl⟩
abbrev main_cst_102 : Ref sig .tc := ⟨.hbm, 637, rfl⟩
abbrev main_v498 : Ref sig .tc := ⟨.hbm, 638, rfl⟩
abbrev main_v499 : Ref sig .tc := ⟨.hbm, 639, rfl⟩
abbrev main_cst_103 : Ref sig .tc := ⟨.hbm, 640, rfl⟩
abbrev main_v500 : Ref sig .tc := ⟨.hbm, 641, rfl⟩
abbrev main_v501 : Ref sig .tc := ⟨.hbm, 642, rfl⟩
abbrev main_cst_104 : Ref sig .tc := ⟨.hbm, 643, rfl⟩
abbrev main_v502 : Ref sig .tc := ⟨.hbm, 644, rfl⟩
abbrev main_v503 : Ref sig .tc := ⟨.hbm, 645, rfl⟩
abbrev main_v504 : Ref sig .tc := ⟨.hbm, 646, rfl⟩
abbrev main_cst_105 : Ref sig .tc := ⟨.hbm, 647, rfl⟩
abbrev main_v505 : Ref sig .tc := ⟨.hbm, 648, rfl⟩
abbrev main_v506 : Ref sig .tc := ⟨.hbm, 649, rfl⟩
abbrev main_cst_106 : Ref sig .tc := ⟨.hbm, 650, rfl⟩
abbrev main_v507 : Ref sig .tc := ⟨.hbm, 651, rfl⟩
abbrev main_v508 : Ref sig .tc := ⟨.hbm, 652, rfl⟩
abbrev main_cst_107 : Ref sig .tc := ⟨.hbm, 653, rfl⟩
abbrev main_v509 : Ref sig .tc := ⟨.hbm, 654, rfl⟩
abbrev main_v510 : Ref sig .tc := ⟨.hbm, 655, rfl⟩
abbrev main_v511 : Ref sig .tc := ⟨.hbm, 656, rfl⟩
abbrev main_cst_108 : Ref sig .tc := ⟨.hbm, 657, rfl⟩
abbrev main_v512 : Ref sig .tc := ⟨.hbm, 658, rfl⟩
abbrev main_v513 : Ref sig .tc := ⟨.hbm, 659, rfl⟩
abbrev main_cst_109 : Ref sig .tc := ⟨.hbm, 660, rfl⟩
abbrev main_v514 : Ref sig .tc := ⟨.hbm, 661, rfl⟩
abbrev main_v515 : Ref sig .tc := ⟨.hbm, 662, rfl⟩
abbrev main_cst_110 : Ref sig .tc := ⟨.hbm, 663, rfl⟩
abbrev main_v516 : Ref sig .tc := ⟨.hbm, 664, rfl⟩
abbrev main_v517 : Ref sig .tc := ⟨.hbm, 665, rfl⟩
abbrev main_v518 : Ref sig .tc := ⟨.hbm, 666, rfl⟩
abbrev main_cst_111 : Ref sig .tc := ⟨.hbm, 667, rfl⟩
abbrev main_v519 : Ref sig .tc := ⟨.hbm, 668, rfl⟩
abbrev main_v520 : Ref sig .tc := ⟨.hbm, 669, rfl⟩
abbrev main_cst_112 : Ref sig .tc := ⟨.hbm, 670, rfl⟩
abbrev main_v521 : Ref sig .tc := ⟨.hbm, 671, rfl⟩
abbrev main_v522 : Ref sig .tc := ⟨.hbm, 672, rfl⟩
abbrev main_cst_113 : Ref sig .tc := ⟨.hbm, 673, rfl⟩
abbrev main_v523 : Ref sig .tc := ⟨.hbm, 674, rfl⟩
abbrev main_v524 : Ref sig .tc := ⟨.hbm, 675, rfl⟩
abbrev main_v525 : Ref sig .tc := ⟨.hbm, 676, rfl⟩
abbrev main_v526 : Ref sig .tc := ⟨.hbm, 677, rfl⟩
abbrev main_v527 : Ref sig .tc := ⟨.hbm, 678, rfl⟩
abbrev main_v528 : Ref sig .tc := ⟨.hbm, 679, rfl⟩
abbrev main_v529 : Ref sig .tc := ⟨.hbm, 680, rfl⟩
abbrev main_v530 : Ref sig .tc := ⟨.hbm, 681, rfl⟩

abbrev nD : Nat := 1
abbrev τ : Topo := Topo.v7x

variable {F : FTy → Type} [FloatOps F]
-- ==== SguBwd.lean ====
abbrev S1x16384x2816 : Shape := ⟨3, ![1, 16384, 2816]⟩
abbrev S256 : Shape := ⟨1, ![256]⟩
abbrev S4x128x128 : Shape := ⟨3, ![4, 128, 128]⟩
abbrev S4x128 : Shape := ⟨2, ![4, 128]⟩
abbrev S1x16384x256 : Shape := ⟨3, ![1, 16384, 256]⟩
abbrev S256x1 : Shape := ⟨2, ![256, 1]⟩
abbrev S_ : Shape := ⟨0, ![]⟩
abbrev S128 : Shape := ⟨1, ![128]⟩
abbrev S1x128 : Shape := ⟨2, ![1, 128]⟩
abbrev S256x128 : Shape := ⟨2, ![256, 128]⟩
abbrev S16384x2816 : Shape := ⟨2, ![16384, 2816]⟩
abbrev S16384x256 : Shape := ⟨2, ![16384, 256]⟩
abbrev S1x256 : Shape := ⟨2, ![1, 256]⟩
abbrev S128x4 : Shape := ⟨2, ![128, 4]⟩
abbrev S128x4x64 : Shape := ⟨3, ![128, 4, 64]⟩
abbrev S128x256 : Shape := ⟨2, ![128, 256]⟩
abbrev S128x128 : Shape := ⟨2, ![128, 128]⟩
abbrev S512x256 : Shape := ⟨2, ![512, 256]⟩
abbrev S128x1 : Shape := ⟨2, ![128, 1]⟩
abbrev S1x128x128 : Shape := ⟨3, ![1, 128, 128]⟩

abbrev nBuf : Space → Nat
  | .hbm => 49
  | .vmem => 25
  | .smem => 0
  | _ => 0

abbrev bufTy : (tb : Table) → Fin (tcTables nBuf tb) → BufTy
  | .hbm, ⟨0, _⟩ => ⟨S1x16384x2816, .f32⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S1x16384x256, .f32⟩
  | .hbm, ⟨6, _⟩ => ⟨S256, .i32⟩
  | .hbm, ⟨7, _⟩ => ⟨S256x1, .i32⟩
  | .hbm, ⟨8, _⟩ => ⟨S_, .i32⟩
  | .hbm, ⟨9, _⟩ => ⟨S_, .i32⟩
  | .hbm, ⟨10, _⟩ => ⟨S256x1, .i32⟩
  | .hbm, ⟨11, _⟩ => ⟨S256x1, .i32⟩
  | .hbm, ⟨12, _⟩ => ⟨S256x1, .i32⟩
  | .hbm, ⟨13, _⟩ => ⟨S_, .i32⟩
  | .hbm, ⟨14, _⟩ => ⟨S256x1, .i32⟩
  | .hbm, ⟨15, _⟩ => ⟨S256x1, .i1⟩
  | .hbm, ⟨16, _⟩ => ⟨S256x1, .i32⟩
  | .hbm, ⟨17, _⟩ => ⟨S256x1, .i32⟩
  | .hbm, ⟨18, _⟩ => ⟨S_, .i32⟩
  | .hbm, ⟨19, _⟩ => ⟨S256x1, .i32⟩
  | .hbm, ⟨20, _⟩ => ⟨S256x1, .i1⟩
  | .hbm, ⟨21, _⟩ => ⟨S256x1, .i1⟩
  | .hbm, ⟨22, _⟩ => ⟨S_, .i32⟩
  | .hbm, ⟨23, _⟩ => ⟨S256x1, .i32⟩
  | .hbm, ⟨24, _⟩ => ⟨S256x1, .i32⟩
  | .hbm, ⟨25, _⟩ => ⟨S256x1, .i32⟩
  | .hbm, ⟨26, _⟩ => ⟨S128, .i32⟩
  | .hbm, ⟨27, _⟩ => ⟨S1x128, .i32⟩
  | .hbm, ⟨28, _⟩ => ⟨S256x128, .i32⟩
  | .hbm, ⟨29, _⟩ => ⟨S256x128, .i32⟩
  | .hbm, ⟨30, _⟩ => ⟨S256x128, .i1⟩
  | .hbm, ⟨31, _⟩ => ⟨S256x128, .bf16⟩
  | .hbm, ⟨32, _⟩ => ⟨S16384x2816, .f32⟩
  | .hbm, ⟨33, _⟩ => ⟨S16384x256, .f32⟩
  | .hbm, ⟨34, _⟩ => ⟨S1x256, .f32⟩
  | .hbm, ⟨35, _⟩ => ⟨S1x256, .f32⟩
  | .hbm, ⟨36, _⟩ => ⟨S4x128x128, .bf16⟩
  | .hbm, ⟨37, _⟩ => ⟨S4x128x128, .f32⟩
  | .hbm, ⟨38, _⟩ => ⟨S4x128x128, .bf16⟩
  | .hbm, ⟨39, _⟩ => ⟨S128x4, .f32⟩
  | .hbm, ⟨40, _⟩ => ⟨S128x4x64, .f32⟩
  | .hbm, ⟨41, _⟩ => ⟨S128x256, .f32⟩
  | .hbm, ⟨42, _⟩ => ⟨S16384x256, .bf16⟩
  | .hbm, ⟨43, _⟩ => ⟨S16384x256, .bf16⟩
  | .hbm, ⟨44, _⟩ => ⟨S16384x256, .bf16⟩
  | .hbm, ⟨45, _⟩ => ⟨S1x256, .f32⟩
  | .hbm, ⟨46, _⟩ => ⟨S1x256, .f32⟩
  | .hbm, ⟨47, _⟩ => ⟨S4x128x128, .f32⟩
  | .hbm, ⟨48, _⟩ => ⟨S128x128, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S1x256, .f32⟩
  | .local _ .vmem, ⟨9, _⟩ => ⟨S1x256, .f32⟩
  | .local _ .vmem, ⟨10, _⟩ => ⟨S4x128x128, .bf16⟩
  | .local _ .vmem, ⟨11, _⟩ => ⟨S4x128x128, .bf16⟩
  | .local _ .vmem, ⟨12, _⟩ => ⟨S128x256, .f32⟩
  | .local _ .vmem, ⟨13, _⟩ => ⟨S256x128, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S1x256, .f32⟩
  | .local _ .vmem, ⟨21, _⟩ => ⟨S1x256, .f32⟩
  | .local _ .vmem, ⟨22, _⟩ => ⟨S4x128x128, .f32⟩
  | .local _ .vmem, ⟨23, _⟩ => ⟨S128x128, .f32⟩
  | .local _ .vmem, ⟨24, _⟩ => ⟨S128x256, .f32⟩
  | _, _ => ⟨S1x16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19_0 : Ref sig .tc := ⟨.hbm, 42, rfl⟩
abbrev main_v19_1 : Ref sig .tc := ⟨.hbm, 43, rfl⟩
abbrev main_v19_2 : Ref sig .tc := ⟨.hbm, 44, rfl⟩
abbrev main_v19_3 : Ref sig .tc := ⟨.hbm, 45, rfl⟩
abbrev main_v19_4 : Ref sig .tc := ⟨.hbm, 46, rfl⟩
abbrev main_v19_5 : Ref sig .tc := ⟨.hbm, 47, rfl⟩
abbrev main_v19_6 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22
abbrev cc0_sem16_0 : DmaSem sig := 23

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v924 : BitVec 1 := Scalar.cmpi .eq arg0 c31_i32
  let v925 : BitVec 32 := Scalar.extui v924
  let c0_i32_536 : BitVec 32 := 0#32
  let v926 : BitVec 1 := Scalar.cmpi .ne v925 c0_i32_536
  v926

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== SguBwdIdeal.lean ====
variable {F : FTy → Type} [FloatOps F] [Named F]
def κ : String → Option EReal := fun
  | "inv_sqrt_2" => some (((Real.sqrt 2)⁻¹ : ℝ) : EReal)
  | "inv_sqrt_2pi" => some (((Real.sqrt (2 * Real.pi))⁻¹ : ℝ) : EReal)
  | _ => none
-- ==== SguBwdRefIdeal.lean ====
abbrev S1x16384x2816 : Shape := ⟨3, ![1, 16384, 2816]⟩
abbrev S256 : Shape := ⟨1, ![256]⟩
abbrev S4x128x128 : Shape := ⟨3, ![4, 128, 128]⟩
abbrev S4x128 : Shape := ⟨2, ![4, 128]⟩
abbrev S1x16384x256 : Shape := ⟨3, ![1, 16384, 256]⟩
abbrev S1x16384x512 : Shape := ⟨3, ![1, 16384, 512]⟩
abbrev S1x16384x128 : Shape := ⟨3, ![1, 16384, 128]⟩
abbrev S_ : Shape := ⟨0, ![]⟩
abbrev S1x16384 : Shape := ⟨2, ![1, 16384]⟩
abbrev S1x16384x1 : Shape := ⟨3, ![1, 16384, 1]⟩
abbrev S1x1x256 : Shape := ⟨3, ![1, 1, 256]⟩
abbrev S1x128x128x4x64 : Shape := ⟨5, ![1, 128, 128, 4, 64]⟩
abbrev S4x1x128x64x128 : Shape := ⟨5, ![4, 1, 128, 64, 128]⟩
abbrev S128x4 : Shape := ⟨2, ![128, 4]⟩
abbrev S1x1x128x4x1 : Shape := ⟨5, ![1, 1, 128, 4, 1]⟩
abbrev S1x128x4 : Shape := ⟨3, ![1, 128, 4]⟩
abbrev S1x256 : Shape := ⟨2, ![1, 256]⟩
abbrev S16384 : Shape := ⟨1, ![16384]⟩
abbrev S16384x256 : Shape := ⟨2, ![16384, 256]⟩
abbrev S128x128 : Shape := ⟨2, ![128, 128]⟩

abbrev nBuf : Space → Nat
  | .hbm => 208
  | .vmem => 0
  | .smem => 0
  | _ => 0

abbrev hbmTy0_0 (i : Nat) : BufTy := match i % 128 with
  | 0 => ⟨S1x16384x2816, .f32⟩
  | 1 => ⟨S256, .f32⟩
  | 2 => ⟨S256, .f32⟩
  | 3 => ⟨S4x128x128, .f32⟩
  | 4 => ⟨S4x128, .f32⟩
  | 5 => ⟨S1x16384x256, .f32⟩
  | 6 => ⟨S1x16384x512, .f32⟩
  | 7 => ⟨S1x16384x128, .f32⟩
  | 8 => ⟨S1x16384x128, .f32⟩
  | 9 => ⟨S1x16384x512, .f32⟩
  | 10 => ⟨S1x16384x512, .f32⟩
  | 11 => ⟨S1x16384x256, .f32⟩
  | 12 => ⟨S1x16384x256, .f32⟩
  | 13 => ⟨S1x16384x256, .f32⟩
  | 14 => ⟨S1x16384x256, .f32⟩
  | 15 => ⟨S_, .f32⟩
  | 16 => ⟨S1x16384x256, .f32⟩
  | 17 => ⟨S1x16384x256, .f32⟩
  | 18 => ⟨S1x16384x256, .f32⟩
  | 19 => ⟨S_, .f32⟩
  | 20 => ⟨S_, .f32⟩
  | 21 => ⟨S_, .f32⟩
  | 22 => ⟨S1x16384x256, .f32⟩
  | 23 => ⟨S1x16384x256, .f32⟩
  | 24 => ⟨S1x16384x256, .f32⟩
  | 25 => ⟨S_, .f32⟩
  | 26 => ⟨S_, .f32⟩
  | 27 => ⟨S_, .f32⟩
  | 28 => ⟨S_, .f32⟩
  | 29 => ⟨S_, .f32⟩
  | 30 => ⟨S1x16384x256, .f32⟩
  | 31 => ⟨S1x16384x256, .f32⟩
  | 32 => ⟨S1x16384x256, .f32⟩
  | 33 => ⟨S_, .f32⟩
  | 34 => ⟨S1x16384x256, .f32⟩
  | 35 => ⟨S1x16384x256, .f32⟩
  | 36 => ⟨S1x16384x256, .f32⟩
  | 37 => ⟨S_, .f32⟩
  | 38 => ⟨S1x16384x256, .f32⟩
  | 39 => ⟨S1x16384x256, .f32⟩
  | 40 => ⟨S1x16384x256, .f32⟩
  | 41 => ⟨S_, .f32⟩
  | 42 => ⟨S_, .f32⟩
  | 43 => ⟨S_, .f32⟩
  | 44 => ⟨S1x16384x256, .f32⟩
  | 45 => ⟨S1x16384x256, .f32⟩
  | 46 => ⟨S1x16384x256, .f32⟩
  | 47 => ⟨S_, .f32⟩
  | 48 => ⟨S_, .f32⟩
  | 49 => ⟨S_, .f32⟩
  | 50 => ⟨S_, .f32⟩
  | 51 => ⟨S_, .f32⟩
  | 52 => ⟨S1x16384x256, .f32⟩
  | 53 => ⟨S1x16384x256, .f32⟩
  | 54 => ⟨S1x16384x256, .f32⟩
  | 55 => ⟨S_, .f32⟩
  | 56 => ⟨S1x16384x256, .f32⟩
  | 57 => ⟨S1x16384x256, .f32⟩
  | 58 => ⟨S1x16384x256, .f32⟩
  | 59 => ⟨S_, .f32⟩
  | 60 => ⟨S1x16384, .f32⟩
  | 61 => ⟨S1x16384x1, .f32⟩
  | 62 => ⟨S_, .f32⟩
  | 63 => ⟨S1x16384x1, .f32⟩
  | 64 => ⟨S1x16384x1, .f32⟩
  | 65 => ⟨S1x16384x256, .f32⟩
  | 66 => ⟨S1x16384x256, .f32⟩
  | 67 => ⟨S1x16384x256, .f32⟩
  | 68 => ⟨S_, .f32⟩
  | 69 => ⟨S1x16384, .f32⟩
  | 70 => ⟨S1x16384x1, .f32⟩
  | 71 => ⟨S_, .f32⟩
  | 72 => ⟨S1x16384x1, .f32⟩
  | 73 => ⟨S1x16384x1, .f32⟩
  | 74 => ⟨S_, .f32⟩
  | 75 => ⟨S1x16384x1, .f32⟩
  | 76 => ⟨S1x16384x1, .f32⟩
  | 77 => ⟨S1x16384x1, .f32⟩
  | 78 => ⟨S1x16384x1, .f32⟩
  | 79 => ⟨S_, .f32⟩
  | 80 => ⟨S1x16384x1, .f32⟩
  | 81 => ⟨S1x16384x1, .f32⟩
  | 82 => ⟨S1x16384x256, .f32⟩
  | 83 => ⟨S1x16384x256, .f32⟩
  | 84 => ⟨S1x1x256, .f32⟩
  | 85 => ⟨S1x16384x256, .f32⟩
  | 86 => ⟨S1x16384x256, .f32⟩
  | 87 => ⟨S1x1x256, .f32⟩
  | 88 => ⟨S1x16384x256, .f32⟩
  | 89 => ⟨S1x16384x256, .f32⟩
  | 90 => ⟨S1x128x128x4x64, .f32⟩
  | 91 => ⟨S4x1x128x64x128, .f32⟩
  | 92 => ⟨S1x128x128x4x64, .f32⟩
  | 93 => ⟨S128x4, .f32⟩
  | 94 => ⟨S1x1x128x4x1, .f32⟩
  | 95 => ⟨S1x128x128x4x64, .f32⟩
  | 96 => ⟨S1x128x128x4x64, .f32⟩
  | 97 => ⟨S1x16384x256, .f32⟩
  | 98 => ⟨S1x16384x256, .f32⟩
  | 99 => ⟨S1x16384x256, .f32⟩
  | 100 => ⟨S1x16384x256, .f32⟩
  | 101 => ⟨S_, .f32⟩
  | 102 => ⟨S1x16384x256, .f32⟩
  | 103 => ⟨S1x16384x256, .f32⟩
  | 104 => ⟨S_, .f32⟩
  | 105 => ⟨S1x16384x256, .f32⟩
  | 106 => ⟨S1x16384x256, .f32⟩
  | 107 => ⟨S_, .f32⟩
  | 108 => ⟨S1x16384x256, .f32⟩
  | 109 => ⟨S1x16384x256, .f32⟩
  | 110 => ⟨S1x16384x256, .f32⟩
  | 111 => ⟨S1x16384x256, .f32⟩
  | 112 => ⟨S1x16384x256, .f32⟩
  | 113 => ⟨S1x16384x256, .f32⟩
  | 114 => ⟨S1x16384x256, .f32⟩
  | 115 => ⟨S1x16384x256, .f32⟩
  | 116 => ⟨S1x16384x256, .f32⟩
  | 117 => ⟨S1x16384x256, .f32⟩
  | 118 => ⟨S1x16384x256, .f32⟩
  | 119 => ⟨S1x16384x256, .f32⟩
  | 120 => ⟨S1x16384x256, .f32⟩
  | 121 => ⟨S1x128x128x4x64, .f32⟩
  | 122 => ⟨S_, .f32⟩
  | 123 => ⟨S1x128x4, .f32⟩
  | 124 => ⟨S1x1x128x4x1, .f32⟩
  | 125 => ⟨S_, .f32⟩
  | 126 => ⟨S128x4, .f32⟩
  | 127 => ⟨S4x128, .f32⟩
  | _ => ⟨S1x16384x2816, .f32⟩

abbrev hbmTy0_1 (i : Nat) : BufTy := match i % 128 with
  | 0 => ⟨S4x1x128x64x128, .f32⟩
  | 1 => ⟨S4x128x128, .f32⟩
  | 2 => ⟨S4x1x128x64x128, .f32⟩
  | 3 => ⟨S1x128x128x4x64, .f32⟩
  | 4 => ⟨S1x16384x256, .f32⟩
  | 5 => ⟨S_, .f32⟩
  | 6 => ⟨S1x256, .f32⟩
  | 7 => ⟨S1x1x256, .f32⟩
  | 8 => ⟨S_, .f32⟩
  | 9 => ⟨S256, .f32⟩
  | 10 => ⟨S1x16384x256, .f32⟩
  | 11 => ⟨S_, .f32⟩
  | 12 => ⟨S1x256, .f32⟩
  | 13 => ⟨S1x1x256, .f32⟩
  | 14 => ⟨S1x16384x256, .f32⟩
  | 15 => ⟨S1x16384x256, .f32⟩
  | 16 => ⟨S_, .f32⟩
  | 17 => ⟨S256, .f32⟩
  | 18 => ⟨S1x16384x256, .f32⟩
  | 19 => ⟨S_, .f32⟩
  | 20 => ⟨S1x16384, .f32⟩
  | 21 => ⟨S1x16384x1, .f32⟩
  | 22 => ⟨S1x16384x256, .f32⟩
  | 23 => ⟨S1x16384x256, .f32⟩
  | 24 => ⟨S1x16384x1, .f32⟩
  | 25 => ⟨S_, .f32⟩
  | 26 => ⟨S1x16384x1, .f32⟩
  | 27 => ⟨S1x16384x1, .f32⟩
  | 28 => ⟨S_, .f32⟩
  | 29 => ⟨S16384, .f32⟩
  | 30 => ⟨S1x16384, .f32⟩
  | 31 => ⟨S1x16384x256, .f32⟩
  | 32 => ⟨S1x16384x256, .f32⟩
  | 33 => ⟨S1x16384x256, .f32⟩
  | 34 => ⟨S1x16384x256, .f32⟩
  | 35 => ⟨S1x16384x256, .f32⟩
  | 36 => ⟨S1x16384x256, .f32⟩
  | 37 => ⟨S_, .f32⟩
  | 38 => ⟨S1x16384, .f32⟩
  | 39 => ⟨S1x16384x1, .f32⟩
  | 40 => ⟨S_, .f32⟩
  | 41 => ⟨S1x16384x1, .f32⟩
  | 42 => ⟨S1x16384x1, .f32⟩
  | 43 => ⟨S_, .f32⟩
  | 44 => ⟨S16384, .f32⟩
  | 45 => ⟨S1x16384, .f32⟩
  | 46 => ⟨S1x16384x256, .f32⟩
  | 47 => ⟨S1x16384x256, .f32⟩
  | 48 => ⟨S1x16384x256, .f32⟩
  | 49 => ⟨S1x16384x256, .f32⟩
  | 50 => ⟨S1x16384x256, .f32⟩
  | 51 => ⟨S1x16384x256, .f32⟩
  | 52 => ⟨S1x16384x256, .f32⟩
  | 53 => ⟨S1x16384x256, .f32⟩
  | 54 => ⟨S_, .f32⟩
  | 55 => ⟨S1x16384x256, .f32⟩
  | 56 => ⟨S1x16384x256, .f32⟩
  | 57 => ⟨S1x16384x256, .f32⟩
  | 58 => ⟨S1x16384x256, .f32⟩
  | 59 => ⟨S1x16384x256, .f32⟩
  | 60 => ⟨S1x16384x256, .f32⟩
  | 61 => ⟨S1x16384x256, .f32⟩
  | 62 => ⟨S1x16384x256, .f32⟩
  | 63 => ⟨S1x16384x256, .f32⟩
  | 64 => ⟨S_, .f32⟩
  | 65 => ⟨S1x16384x256, .f32⟩
  | 66 => ⟨S1x16384x256, .f32⟩
  | 67 => ⟨S1x16384x256, .f32⟩
  | 68 => ⟨S16384x256, .f32⟩
  | 69 => ⟨S16384x256, .bf16⟩
  | 70 => ⟨S16384x256, .f32⟩
  | 71 => ⟨S16384x256, .bf16⟩
  | 72 => ⟨S16384x256, .f32⟩
  | 73 => ⟨S16384x256, .bf16⟩
  | 74 => ⟨S1x256, .f32⟩
  | 75 => ⟨S1x256, .f32⟩
  | 76 => ⟨S128x4, .f32⟩
  | 77 => ⟨S_, .i32⟩
  | 78 => ⟨S_, .f32⟩
  | 79 => ⟨S128x128, .f32⟩
  | _ => ⟨S1x16384x2816, .f32⟩

abbrev hbmTy (i : Nat) : BufTy := match i / 128 with
  | 0 => hbmTy0_0 i
  | 1 => hbmTy0_1 i
  | _ => ⟨S1x16384x2816, .f32⟩

abbrev bufTy : (tb : Table) → Fin (tcTables nBuf tb) → BufTy
  | .hbm, ⟨i, _⟩ => hbmTy i
  | _, _ => ⟨S1x16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_cst_11 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_call0_v0 : Ref sig .tc := ⟨.hbm, 99, rfl⟩
abbrev main_call0_v1 : Ref sig .tc := ⟨.hbm, 100, rfl⟩
abbrev main_call0_cst : Ref sig .tc := ⟨.hbm, 101, rfl⟩
abbrev main_call0_v2 : Ref sig .tc := ⟨.hbm, 102, rfl⟩
abbrev main_call0_v3 : Ref sig .tc := ⟨.hbm, 103, rfl⟩
abbrev main_call0_cst_0 : Ref sig .tc := ⟨.hbm, 104, rfl⟩
abbrev main_call0_v4 : Ref sig .tc := ⟨.hbm, 105, rfl⟩
abbrev main_v79_2 : Ref sig .tc := ⟨.hbm, 106, rfl⟩
abbrev main_call0_cst_1 : Ref sig .tc := ⟨.hbm, 107, rfl⟩
abbrev main_call0_v6 : Ref sig .tc := ⟨.hbm, 108, rfl⟩
abbrev main_call0_v7 : Ref sig .tc := ⟨.hbm, 109, rfl⟩
abbrev main_v79_1 : Ref sig .tc := ⟨.hbm, 110, rfl⟩
abbrev main_v79_0 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_call1_v0 : Ref sig .tc := ⟨.hbm, 115, rfl⟩
abbrev main_call1_v1 : Ref sig .tc := ⟨.hbm, 116, rfl⟩
abbrev main_call1_v2 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_13 : Ref sig .tc := ⟨.hbm, 122, rfl⟩
abbrev main_v87 : Ref sig .tc := ⟨.hbm, 123, rfl⟩
abbrev main_v88 : Ref sig .tc := ⟨.hbm, 124, rfl⟩
abbrev main_cst_14 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_15 : Ref sig .tc := ⟨.hbm, 133, rfl⟩
abbrev main_v96 : Ref sig .tc := ⟨.hbm, 134, rfl⟩
abbrev main_v97 : Ref sig .tc := ⟨.hbm, 135, rfl⟩
abbrev main_cst_16 : Ref sig .tc := ⟨.hbm, 136, rfl⟩
abbrev main_v98 : Ref sig .tc := ⟨.hbm, 137, rfl⟩
abbrev main_v99 : Ref sig .tc := ⟨.hbm, 138, rfl⟩
abbrev main_cst_17 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_18 : Ref sig .tc := ⟨.hbm, 144, rfl⟩
abbrev main_v104 : Ref sig .tc := ⟨.hbm, 145, rfl⟩
abbrev main_v105 : Ref sig .tc := ⟨.hbm, 146, rfl⟩
abbrev main_cst_19 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_cst_20 : Ref sig .tc := ⟨.hbm, 153, rfl⟩
abbrev main_v111 : Ref sig .tc := ⟨.hbm, 154, rfl⟩
abbrev main_v112 : Ref sig .tc := ⟨.hbm, 155, rfl⟩
abbrev main_cst_21 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_cst_22 : Ref sig .tc := ⟨.hbm, 165, rfl⟩
abbrev main_v121 : Ref sig .tc := ⟨.hbm, 166, rfl⟩
abbrev main_v122 : Ref sig .tc := ⟨.hbm, 167, rfl⟩
abbrev main_cst_23 : Ref sig .tc := ⟨.hbm, 168, rfl⟩
abbrev main_v123 : Ref sig .tc := ⟨.hbm, 169, rfl⟩
abbrev main_v124 : Ref sig .tc := ⟨.hbm, 170, rfl⟩
abbrev main_cst_24 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_cst_25 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_cst_26 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_c : Ref sig .tc := ⟨.hbm, 205, rfl⟩
abbrev main_call2_v0 : Ref sig .tc := ⟨.hbm, 206, rfl⟩
abbrev main_v156 : Ref sig .tc := ⟨.hbm, 207, rfl⟩

abbrev nD : Nat := 1
abbrev τ : Topo := Topo.v7x

variable {F : FTy → Type} [FloatOps F]
-- ==== Proof.Reals.lean ====
/- Extended reals that are real: what the finite-argument preconditions give, and the operations of the idealized
   programs on them. Every gradient here is an identity of real numbers; these lemmas carry both programs' terms there. -/
module

public import Idealize.ShloMosaic.Lib.Pointwise
public import Idealize.ShloMosaic.Lib.IdealHost
public import Idealize.ShloMosaic.PureOps.Reduce

@[expose] public section

noncomputable section

open Idealize.ShloMosaic

namespace Cert.Reals

/-! ## Real entries -/

/-- A finite sum of reals, taken among the extended reals, is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The quotient of two reals, the divisor not zero. -/
theorem div_coe_coe {y : ℝ} (h : y ≠ 0) (x : ℝ) : Ideal.div (x : EReal) (y : EReal) = ((x / y : ℝ) : EReal) := by
  rw [Ideal.div_coe h, ← EReal.coe_mul, mul_one_div]

/-- The reciprocal square root of a positive real. -/
theorem rsqrt_pos {v : ℝ} (h : 0 < v) : Ideal.rsqrt (v : EReal) = (((Real.sqrt v)⁻¹ : ℝ) : EReal) := by
  rw [Ideal.rsqrt_coe, if_neg (not_lt.2 h.le), if_neg h.ne']

/-! ## Host sums over axes of size one -/

/-- A host sum whose only source index is `i`: that entry. -/
theorem hostReduceAdd_one {s t : Shape} {axes : List (Fin s.rank)} (h : s.ReducesTo axes t) (v : s.Idx → EReal) (e : EReal)
    (j : t.Idx) (i : s.Idx) (hi : ∀ k, h.drop k = j ↔ k = i) : Ideal.hostReduceAdd h v e j = e + v i := by
  unfold Ideal.hostReduceAdd
  simp only [hi, Finset.filter_eq', Finset.mem_univ, if_true, Finset.sum_singleton]

theorem sum_unit_02 {n : ℕ} (h : (⟨3, ![1, n, 1]⟩ : Shape).ReducesTo [0, 2] ⟨1, ![n]⟩)
    (v : (⟨3, ![1, n, 1]⟩ : Shape).Idx → EReal) (e : EReal) (a : Fin n) :
    Ideal.hostReduceAdd h v e (ix1 a) = e + v (ix3 0 a 0) :=
  hostReduceAdd_one h v e _ _ fun k => by
    have h0 : (k 0).val < 1 := (k 0).isLt
    have h2 : (k 2).val < 1 := (k 2).isLt
    constructor
    · intro e
      have e1 : (k 1).val = a.val := congrArg Fin.val (congrFun e 0)
      funext x
      fin_cases x <;> apply Fin.ext
      · exact Nat.lt_one_iff.1 h0
      · exact e1
      · exact Nat.lt_one_iff.1 h2
    · rintro rfl
      funext x; fin_cases x; rfl

theorem sum_unit_01 {n : ℕ} (h : (⟨3, ![1, 1, n]⟩ : Shape).ReducesTo [0, 1] ⟨1, ![n]⟩)
    (v : (⟨3, ![1, 1, n]⟩ : Shape).Idx → EReal) (e : EReal) (a : Fin n) :
    Ideal.hostReduceAdd h v e (ix1 a) = e + v (ix3 0 0 a) :=
  hostReduceAdd_one h v e _ _ fun k => by
    have h0 : (k 0).val < 1 := (k 0).isLt
    have h1 : (k 1).val < 1 := (k 1).isLt
    constructor
    · intro e
      have e1 : (k 2).val = a.val := congrArg Fin.val (congrFun e 0)
      funext x
      fin_cases x <;> apply Fin.ext
      · exact Nat.lt_one_iff.1 h0
      · exact Nat.lt_one_iff.1 h1
      · exact e1
    · rintro rfl
      funext x; fin_cases x; rfl

/-! ## The literals of the programs -/

/-- The norms' epsilon, as the rational its word is. -/
def eps : ℝ := 8796093 / 2 ^ 43

theorem eps_pos : 0 < eps := by unfold eps; positivity

theorem word_eps : Ideal.ofBits .f32 0x358637BD#32 = (eps : EReal) := by
  simp [Ideal.ofBits, Ideal.ieee, eps, -EReal.coe_mul]; norm_num

theorem word_1024 : Ideal.ofBits .f32 0x44800000#32 = ((1024 : ℝ) : EReal) := by
  simp [Ideal.ofBits, Ideal.ieee, -EReal.coe_mul]; norm_num

theorem word_neg_half : Ideal.ofBits .f32 0xBF000000#32 = ((-(1 / 2) : ℝ) : EReal) := by
  simp [Ideal.ofBits, Ideal.ieee, -EReal.coe_mul]; norm_num

theorem word_inf : Ideal.ofBits .f32 0x7F800000#32 = ⊤ := by
  simp [Ideal.ofBits, Ideal.ieee]

/-! ## The precondition -/

/-- A number whose magnitude is below ⊤ is a real. -/
theorem real_of_abs_lt (x : EReal) (h : max x (-x) < ⊤) : x = (x.toReal : EReal) := by
  refine (EReal.coe_toReal (fun e => ?_) (fun e => ?_)).symm <;> simp [e] at h

/-- A conjunction folded over a list from true is true only where every member is. -/
theorem and_fold_true {α : Type} (f : α → BitVec 1) (l : List α) :
    ∀ a : BitVec 1, l.foldl (fun r n => IntOp.andi r (f n)) a = 1#1 → a = 1#1 ∧ ∀ n ∈ l, f n = 1#1 := by
  induction l with
  | nil => exact fun a h => ⟨h, by simp⟩
  | cons x l ih =>
    intro a h
    obtain ⟨h1, h2⟩ := ih _ h
    have h3 := (by decide : ∀ a b : BitVec 1, IntOp.andi a b = 1#1 → a = 1#1 ∧ b = 1#1) _ _ h1
    exact ⟨h3.1, by simpa using ⟨h3.2, h2⟩⟩

theorem and_true_iff (a b : BitVec 1) : IntOp.andi a b = 1#1 ↔ a = 1#1 ∧ b = 1#1 := by revert a b; decide

/-- `jnp.all(jnp.abs(X) < jnp.inf)` over a whole array: every entry is the real it reads as. -/
theorem real_of_all {s z : Shape} {axes : List (Fin s.rank)} (X : FVec Ideal s .f32) (B : FVec Ideal s .f32)
    (hB : ∀ i, B i = ⊤) (one : IVec z 1) (h : s.ReducesTo axes z) (hz : 0 < z.numel) (hs : ∀ i j : z.Idx, i = j)
    (j : z.Idx) (H : Host.reduce IntOp.andi (cmpf .olt (Host.absf X) B) one h hz j = 1#1) :
    X = fun i => ((X i).toReal : EReal) := by
  funext i
  refine real_of_abs_lt _ ?_
  unfold Host.reduce at H
  have := (and_fold_true _ _ _ H).2 (s.rowMajor i) (by simp [hs _ j])
  simp only [Equiv.symm_apply_apply] at this
  have e : cmpf .olt (Host.absf X) B i = Ideal.cmp .olt (max (X i) (-X i)) (B i) := rfl
  rw [e, hB] at this
  by_contra hn
  have h' : BitVec.ofBool (decide (max (X i) (-X i) < ⊤)) = 1#1 := this
  rw [decide_eq_false hn] at h'
  exact absurd h' (by decide)

/-! ## The gradient of a root-mean-square norm -/

variable {n : ℕ}

/-- The norm's reciprocal root, over a row `x` of `n` reals. -/
def rms (N : ℝ) (x : Fin n → ℝ) : ℝ := (Real.sqrt ((∑ k, x k * x k) / N + eps))⁻¹

/-- The gradient of `x ↦ x * rms x` at entry `j`, the cotangent `d` already multiplied by the gain. -/
def rmsBwd (N : ℝ) (x d : Fin n → ℝ) (j : Fin n) : ℝ :=
  d j * rms N x - x j * rms N x ^ 3 * (∑ k, x k * d k) / N

variable {N : ℝ} (hN : 0 < N) (x d : Fin n → ℝ)

include hN in
theorem sq_pos : 0 < (∑ k, x k * x k) / N + eps :=
  add_pos_of_nonneg_of_pos (div_nonneg (Finset.sum_nonneg fun k _ => mul_self_nonneg _) hN.le) eps_pos

include hN in
/-- The reciprocal root as both programs compute it. -/
theorem rms_eq : Ideal.rsqrt (Ideal.div (∑ k, (x k : EReal) * (x k : EReal)) (N : EReal) + (eps : EReal)) = (rms N x : EReal) := by
  simp only [← EReal.coe_mul, coe_sum]
  rw [div_coe_coe hN.ne', ← EReal.coe_add, rsqrt_pos (sq_pos hN x)]; rfl

include hN in
/-- The reciprocal root over its mean square is its cube. -/
theorem rms_cube : rms N x / ((∑ k, x k * x k) / N + eps) = rms N x ^ 3 := by
  have h := sq_pos hN x
  unfold rms
  set v := (∑ k, x k * x k) / N + eps
  have hs : Real.sqrt v ≠ 0 := (Real.sqrt_pos.2 h).ne'
  have : v = Real.sqrt v ^ 2 := (Real.sq_sqrt h.le).symm
  conv_lhs => rw [this, Real.sqrt_sq (Real.sqrt_nonneg v)]
  field_simp

/-- The kernels' form: `r * (d - n * mean (d * n))` with `n = x * r`. -/
theorem rmsBwd_kernel (j : Fin n) :
    rms N x * (d j - x j * rms N x * ((∑ k, d k * (x k * rms N x)) / N)) = rmsBwd N x d j := by
  unfold rmsBwd
  have : ∑ k, d k * (x k * rms N x) = rms N x * ∑ k, x k * d k := by
    rw [Finset.mul_sum]; exact Finset.sum_congr rfl fun k _ => by ring
  rw [this]; ring

include hN in
/-- The vector-Jacobian product's form: the direct term and twice the term through the mean square. -/
theorem rmsBwd_vjp (j : Fin n) :
    d j * rms N x + x j * ((∑ k, x k * d k) * (-(1 / 2) * (rms N x / ((∑ k, x k * x k) / N + eps))) / N)
      + (∑ k, x k * d k) * (-(1 / 2) * (rms N x / ((∑ k, x k * x k) / N + eps))) / N * x j = rmsBwd N x d j := by
  rw [rms_cube hN]; unfold rmsBwd; ring

/-! ## The sigmoid -/

/-- The logistic function. -/
def sg (x : ℝ) : ℝ := 1 / (1 + Real.exp (-x))

/-- The logistic function as a host program spells it. -/
theorem sg_host (x : ℝ) : Ideal.div 1 (1 + Ideal.exp (-(x : EReal))) = (sg x : EReal) := by
  have h : 1 + Real.exp (-x) ≠ 0 := by positivity
  rw [← EReal.coe_neg, Ideal.exp_coe, ← EReal.coe_one, ← EReal.coe_add, div_coe_coe h, sg]

/-- The logistic function as a kernel body spells it. -/
theorem sg_kernel (x : ℝ) : Ideal.div 1 (1 + Ideal.exp (0 - (x : EReal))) = (sg x : EReal) := by
  rw [zero_sub, sg_host]

end Cert.Reals

end
-- ==== Proof.ProjBwd.lean ====
/- The backward of the input projection and its norm: what the kernel's two result arrays hold is the vector-Jacobian
   product's two gradients. -/
module

public import proofs.«01_k».proof.Proof.Reals
public import proofs.«01_k».proof.Proof.Gen.ProjBwdIdeal.Value
public import proofs.«01_k».proof.Proof.Gen.ProjBwdRefIdeal.Run
public import proofs.«01_k».proof.Proof.Gen.Pre_finite_proj_bwd
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjBwdClaims

open Cert.Reals

/-- The cotangent of the normed rows: the cotangent of the product times the transposed weight. -/
def dh (W : (⟨2, ![1024, 2816]⟩ : Shape).Idx → ℝ) (dp : (⟨3, ![1, 16384, 2816]⟩ : Shape).Idx → ℝ) (a : Fin 16384) (k : Fin 1024) : ℝ :=
  ∑ e : Fin 2816, dp (ix3 0 a e) * W (ix2 k e)

section Kernel
open Cert.ProjBwdIdeal Cert.ProjBwdIdeal.Gen

/-- What the body stores to `dx`, over rows of reals. -/
theorem pay7_at (v0 : FVec Ideal S512x2816 .bf16) (v2 : FVec Ideal S2816x1024 .bf16) (v5 : FVec Ideal S512x1024 .f32)
    (v17 : FVec Ideal S1x1024 .f32) (v21 : FVec Ideal S512x1024 .f32) (a : Fin 512) (b : Fin 1024) (x d g : Fin 1024 → ℝ)
    (hx : ∀ k, v5 (ix2 a k) = (x k : EReal)) (hd : ∀ k, ∑ e, v0 (ix2 a e) * v2 (ix2 e k) = (d k : EReal))
    (hg : ∀ k, v17 (ix2 0 k) = (g k : EReal)) :
    k0_pay7 (F := Ideal) v0 v2 v5 v17 v21 (ix2 a b) = v21 (ix2 a b) + (rmsBwd 1024 x (fun k => d k * g k) b : EReal) := by
  pointwise [k0_pay7, k0_pay6, k0_pay5, k0_pay4, k0_pay3]
  simp only [hx, hd, hg, word_1024, word_eps]
  rw [rms_eq (by norm_num)]
  simp only [← EReal.coe_mul, coe_sum]
  rw [div_coe_coe (by norm_num), ← EReal.coe_mul, ← EReal.coe_sub, ← EReal.coe_mul]
  exact congrArg (fun r : ℝ => v21 (ix2 a b) + (r : EReal)) (rmsBwd_kernel x (fun k => d k * g k) b)

/-- What the body adds to the gain's gradient: the column sums of a tile. -/
theorem pay2_at (v0 : FVec Ideal S512x2816 .bf16) (v2 : FVec Ideal S2816x1024 .bf16) (v5 : FVec Ideal S512x1024 .f32)
    (v17 : FVec Ideal S1x1024 .f32) (b : Fin 1024) :
    k0_pay2 (F := Ideal) (k0_pay3 v0 v2) (k0_pay6 v5) v17 (ix2 0 b) = v17 (ix2 0 b) + ∑ a : Fin 512, (∑ e, v0 (ix2 a e) * v2 (ix2 e b)) *
      (v5 (ix2 a b) * Ideal.rsqrt (Ideal.div (∑ k, v5 (ix2 a k) * v5 (ix2 a k)) (Ideal.ofBits FTy.f32 0x44800000#32) + Ideal.ofBits FTy.f32 0x358637BD#32)) := by
  pointwise [k0_pay2, k0_pay6, k0_pay5, k0_pay4, k0_pay3]

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] ∧ t.val < 32 :=
  (by decide +kernel : ∀ t : Fin grid0.N, _)

variable (m : (ℓ : Loc nD τ sig) → Buf (Elt Ideal) ℓ) (c : Dev nD)
  (x : (⟨3, ![1, 16384, 1024]⟩ : Shape).Idx → ℝ) (g : (⟨1, ![1024]⟩ : Shape).Idx → ℝ)
  (W : (⟨2, ![1024, 2816]⟩ : Shape).Idx → ℝ) (dp : (⟨3, ![1, 16384, 2816]⟩ : Shape).Idx → ℝ)
  (hx : m ((c.tc : Thread nD τ).loc main_arg0) = fun i => (x i : EReal))
  (hg : m ((c.tc : Thread nD τ).loc main_arg1) = fun i => (g i : EReal))
  (hW : m ((c.tc : Thread nD τ).loc main_arg2) = fun i => (W i : EReal))
  (hp : m ((c.tc : Thread nD τ).loc main_arg4) = fun i => (dp i : EReal))

/-- The row of the array a tile's row is. -/
abbrev rowOf (t : Fin cfg0.N) (a : Fin 512) : Fin 16384 := ⟨t.val * 512 + a.val, by have := (idx t).2.2.2.2.2.2.2; omega⟩

theorem blk0 (t : Fin cfg0.N) (a : Fin 512) (e : Fin 2816) :
    (show EReal from iblk m c 0 t (ix2 a e)) = m ((c.tc : Thread nD τ).loc main_arg4) (ix3 0 (rowOf t a) e) := by
  blk_point [iblk, V, idx t]
theorem blk1 (t : Fin cfg0.N) (e : Fin 2816) (k : Fin 1024) :
    (show EReal from iblk m c 1 t (ix2 e k)) = m ((c.tc : Thread nD τ).loc main_arg2) (ix2 k e) := by
  blk_point [iblk, V, idx t]
theorem blk2 (t : Fin cfg0.N) (a : Fin 512) (k : Fin 1024) :
    (show EReal from iblk m c 2 t (ix2 a k)) = m ((c.tc : Thread nD τ).loc main_arg0) (ix3 0 (rowOf t a) k) := by
  blk_point [iblk, V, idx t]
theorem blk3 (t : Fin cfg0.N) (k : Fin 1024) :
    (show EReal from iblk m c 3 t (ix2 0 k)) = m ((c.tc : Thread nD τ).loc main_arg1) (ix1 k) := by
  blk_point [iblk, V, idx t]
theorem blk4 (t : Fin cfg0.N) (a : Fin 512) (k : Fin 1024) :
    (show EReal from iblk m c 4 t (ix2 a k)) = m ((c.tc : Thread nD τ).loc main_arg3) (ix3 0 (rowOf t a) k) := by
  blk_point [iblk, V, idx t]

/-- `dx` over reals: the residual's cotangent plus the norm's gradient. -/
def dxOf (dxo : FVec Ideal S1x16384x1024 .f32) : FVec Ideal S16384x1024 .f32 := fun i =>
  dxo (ix3 0 (i 0) (i 1)) + (rmsBwd 1024 (fun k => x (ix3 0 (i 0) k)) (fun k => dh W dp (i 0) k * g (ix1 k)) (i 1) : EReal)

include hx hg hW hp in
theorem point5 (t : Fin cfg0.N) (a : Fin 512) (b : Fin 1024) :
    k0_pay7 (F := Ideal) (iblk m c 0 t) (iblk m c 1 t) (iblk m c 2 t) (iblk m c 3 t) (iblk m c 4 t) (ix2 a b)
      = dxOf x g W dp (m ((c.tc : Thread nD τ).loc main_arg3)) (ix2 (rowOf t a) b) := by
  refine (pay7_at _ _ _ _ _ a b (fun k => x (ix3 0 (rowOf t a) k)) (fun k => dh W dp (rowOf t a) k) (fun k => g (ix1 k))
    (fun k => (blk2 m c t a k).trans (congrFun hx _)) (fun k => ?_) (fun k => (blk3 m c t k).trans (congrFun hg _))).trans
    (congrArg (· + _) (blk4 m c t a b))
  rw [dh, ← coe_sum]
  refine Finset.sum_congr rfl fun e _ => ?_
  rw [EReal.coe_mul]
  exact Ideal.mul_congr ((blk0 m c t a e).trans (congrFun hp _)) ((blk1 m c t e k).trans (congrFun hW _))

include hx hg hW hp in
/-- The kernel's `dx`. -/
theorem final5 : (dats m 0 c).arrAt 5 cfg0.N = dxOf x g W dp (m ((c.tc : Thread nD τ).loc main_arg3)) := by
  refine (dats m 0 c).arrAt_eq_of_covers 5 _ (by decide +kernel) fun t hf y => ?_
  obtain ⟨a, b, rfl⟩ : ∃ (a : Fin 512) (b : Fin 1024), y = ix2 a b := ⟨y 0, y 1, eq_ix2 y⟩
  have e : ((cfg0.win 5).blk t).view.emb (ix2 a b) = ix2 (rowOf t a) b := by blk_ext [idx t]
  rw [e]
  blk_simp
  rw [after0_5]
  by_cases h : t.val % 32 = 0
  · rw [outsAt0_A m c t h]
    frame_out
    exact point5 m c x g W dp hx hg hW hp t a b
  · rw [outsAt0_B m c t h]
    frame_out
    exact point5 m c x g W dp hx hg hW hp t a b

/-- One row's part of the gain's gradient: the cotangent times the normed row. -/
def dgRow (X : FVec Ideal S1x16384x1024 .f32) (W : FVec Ideal S1024x2816 .f32) (dp : FVec Ideal S1x16384x2816 .f32) (a : Fin 16384) (b : Fin 1024) : EReal :=
  (∑ e, dp (ix3 0 a e) * W (ix2 b e)) * (X (ix3 0 a b) *
    Ideal.rsqrt (Ideal.div (∑ k, X (ix3 0 a k) * X (ix3 0 a k)) (Ideal.ofBits FTy.f32 0x44800000#32) + Ideal.ofBits FTy.f32 0x358637BD#32))

/-- The gain's gradient: the sum of the rows' parts. -/
def dgOf (X : FVec Ideal S1x16384x1024 .f32) (W : FVec Ideal S1024x2816 .f32) (dp : FVec Ideal S1x16384x2816 .f32) : FVec Ideal S1x1024 .f32 :=
  fun i => ∑ a : Fin 16384, dgRow X W dp a (i 1)

/-- A tile adds its rows' parts to what the gain's gradient was. -/
theorem point6 (t : Fin cfg0.N) (v : FVec Ideal S1x1024 .f32) (j : S1x1024.Idx) :
    k0_pay2 (F := Ideal) (k0_pay3 (iblk m c 0 t) (iblk m c 1 t)) (k0_pay6 (iblk m c 2 t)) v j
      = v j + ∑ a : Fin 512, dgRow (m ((c.tc : Thread nD τ).loc main_arg0)) (m ((c.tc : Thread nD τ).loc main_arg2)) (m ((c.tc : Thread nD τ).loc main_arg4)) (rowOf t a) (j 1) := by
  obtain ⟨b, rfl⟩ : ∃ (b : Fin 1024), j = ix2 0 b := ⟨j 1, by idx_ext⟩
  refine (pay2_at _ _ _ _ b).trans (congrArg (v (ix2 0 b) + ·) (Finset.sum_congr rfl fun a _ => ?_))
  unfold dgRow
  refine Ideal.mul_congr (Finset.sum_congr rfl fun e _ => Ideal.mul_congr (blk0 m c t a e) (blk1 m c t e b)) (Ideal.mul_congr (blk2 m c t a b) ?_)
  exact congrArg (fun z : EReal => Ideal.rsqrt (Ideal.div z _ + _)) (Finset.sum_congr rfl fun k _ => Ideal.mul_congr (blk2 m c t a k) (blk2 m c t a k))

/-- The kernel's gradient of the gain. -/
theorem final6 : (dats m 0 c).arrAt 6 cfg0.N = dgOf (m ((c.tc : Thread nD τ).loc main_arg0)) (m ((c.tc : Thread nD τ).loc main_arg2)) (m ((c.tc : Thread nD τ).loc main_arg4)) := by
  refine (dats m 0 c).arrAt_eq_of_covers 6 _ (by decide +kernel) fun t hf y => ?_
  obtain ⟨b, rfl⟩ : ∃ (b : Fin 1024), y = ix2 0 b := ⟨y 1, by idx_ext⟩
  have e : ((cfg0.win 6).blk t).view.emb (ix2 0 b) = ix2 0 b := by blk_ext [idx t]
  rw [e]
  blk_simp
  rw [after0_6, Pipeline.eq_sum_fin_of_reset_step_apply_of_flush (fun n h => (outsAt0 m c n h).2) 32 (fun _ => (0 : EReal))
    (fun t j => ∑ a : Fin 512, dgRow (m ((c.tc : Thread nD τ).loc main_arg0)) (m ((c.tc : Thread nD τ).loc main_arg2)) (m ((c.tc : Thread nD τ).loc main_arg4)) (rowOf t a) (j 1))
    (fun t h j => by
      rw [outsAt0_A m c t h]; frame_out
      refine (point6 m c t _ j).trans (congrArg (· + _) ?_)
      pointwise [k0_pay1])
    (fun t h j => by
      rw [outsAt0_B m c t h]; frame_out
      exact point6 m c t _ j)
    t ((flush0_6 t).mp hf) (ix2 0 b), zero_add]
  have ht := (idx t).2.2.2.2.2.2.2
  refine Fin.sum_mul_add_congr (f := fun a => dgRow _ _ _ a b) fun s k hl => congrArg (fun a => dgRow _ _ _ a b) (Fin.ext ?_)
  show (32 * (t.val / 32) + s.val) * 512 + k.val = s.val * 512 + k.val
  omega
end Kernel

section Reference
open Cert.ProjBwdRefIdeal Cert.ProjBwdRefIdeal.Gen

/-- The reference's mean square plus epsilon. -/
def refV (X : FVec Ideal S1x16384x1024 .f32) : FVec Ideal S1x16384x1 .f32 :=
  addf (Host.divf (broadcastInDim S1x16384x1 ![0, 1] bcast_S1x16384_S1x16384x1_0_1 (Host.reduceAdd (mulf X X) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32))

def refDH (W : FVec Ideal S1024x2816 .f32) (dp : FVec Ideal S1x16384x2816 .f32) : FVec Ideal S1x16384x1024 .f32 :=
  Host.dotGeneral dot_S1x16384x2816_S1024x2816_S1x16384x1024_2_1_01_0_n_n none dp W

def refDN (W : FVec Ideal S1024x2816 .f32) (dp : FVec Ideal S1x16384x2816 .f32) (g : FVec Ideal S1024 .f32) : FVec Ideal S1x16384x1024 .f32 :=
  mulf (refDH W dp) (broadcastInDim S1x16384x1024 ![0, 1, 2] bcast_S1x1x1024_S1x16384x1024_0_1_2 (broadcastInDim S1x1x1024 ![2] bcast_S1024_S1x1x1024_2 g))

/-- The cotangent of the mean square, over a row, divided by the width. -/
def refC (X D : FVec Ideal S1x16384x1024 .f32) : FVec Ideal S1x16384x1 .f32 :=
  Host.divf (mulf (shapeCast _ (Host.reduceAdd (mulf X D) (constant S_ .f32 0x00000000#32) reducesTo_S1x16384x1024_S1x16384_d2 h_S_) shapeCasts_S1x16384_S1x16384x1) (mulf (broadcastInDim S1x16384x1 ![] bcast_S_S1x16384x1 (constant S_ .f32 0xBF000000#32)) (Host.divf (Host.rsqrt (refV X)) (refV X)))) (broadcastInDim S1x16384x1 ![] bcast_S_S1x16384x1 (constant S_ .f32 0x44800000#32))

def refCB (X D : FVec Ideal S1x16384x1024 .f32) : FVec Ideal S1x16384x1024 .f32 :=
  broadcastInDim S1x16384x1024 ![0, 1] bcast_S1x16384_S1x16384x1024_0_1 (broadcastInDim S1x16384 ![1] bcast_S16384_S1x16384_1 (Host.reduceAdd (refC X D) (constant S_ .f32 0x00000000#32) reducesTo_S1x16384x1_S16384_d0_2 h_S_))

def refDX (X D dxo : FVec Ideal S1x16384x1024 .f32) : FVec Ideal S16384x1024 .f32 :=
  shapeCast _ (addf (addf (addf dxo (mulf D (broadcastInDim S1x16384x1024 ![0, 1, 2] bcast_S1x16384x1_S1x16384x1024_0_1_2 (Host.rsqrt (refV X))))) (mulf X (refCB X D))) (mulf (refCB X D) X)) shapeCasts_S1x16384x1024_S16384x1024

/-- The reference's gradient of the gain. -/
def refDG (X : FVec Ideal S1x16384x1024 .f32) (H : FVec Ideal S1x16384x1024 .f32) : FVec Ideal S1x1024 .f32 :=
  shapeCast _ (Host.reduceAdd (shapeCast _ (Host.reduceAdd (mulf (mulf X (broadcastInDim S1x16384x1024 ![0, 1, 2] bcast_S1x16384x1_S1x16384x1024_0_1_2 (Host.rsqrt (refV X)))) H) (constant S_ .f32 0x00000000#32) reducesTo_S1x16384x1024_S1x1024_d1 h_S_) shapeCasts_S1x1024_S1x1x1024) (constant S_ .f32 0x00000000#32) reducesTo_S1x1x1024_S1024_d0_1 h_S_) shapeCasts_S1024_S1x1024

theorem refV_at (X : FVec Ideal S1x16384x1024 .f32) (a : Fin 16384) : refV X (ix3 0 a 0)
    = Ideal.div (∑ k, X (ix3 0 a k) * X (ix3 0 a k)) (Ideal.ofBits FTy.f32 0x44800000#32) + Ideal.ofBits FTy.f32 0x358637BD#32 := by
  pointwise [refV]

theorem refC_at (X D : FVec Ideal S1x16384x1024 .f32) (a : Fin 16384) : refC X D (ix3 0 a 0)
    = Ideal.div ((∑ k, X (ix3 0 a k) * D (ix3 0 a k)) * (Ideal.ofBits FTy.f32 0xBF000000#32 * Ideal.div (Ideal.rsqrt (refV X (ix3 0 a 0))) (refV X (ix3 0 a 0)))) (Ideal.ofBits FTy.f32 0x44800000#32) := by
  pointwise [refC]

theorem refDN_at (W : FVec Ideal S1024x2816 .f32) (dp : FVec Ideal S1x16384x2816 .f32) (g : FVec Ideal S1024 .f32) (a : Fin 16384) (b : Fin 1024) :
    refDN W dp g (ix3 0 a b) = (∑ e, dp (ix3 0 a e) * W (ix2 b e)) * g (ix1 b) := by
  pointwise [refDN, refDH]

theorem refCB_at (X D : FVec Ideal S1x16384x1024 .f32) (a : Fin 16384) (b : Fin 1024) : refCB X D (ix3 0 a b) = refC X D (ix3 0 a 0) := by
  pointwise [refCB, sum_unit_02]

theorem refDX_at (X D dxo : FVec Ideal S1x16384x1024 .f32) (a : Fin 16384) (b : Fin 1024) : refDX X D dxo (ix2 a b)
    = dxo (ix3 0 a b) + D (ix3 0 a b) * Ideal.rsqrt (refV X (ix3 0 a 0)) + X (ix3 0 a b) * refCB X D (ix3 0 a b)
      + refCB X D (ix3 0 a b) * X (ix3 0 a b) := by
  pointwise [refDX]

theorem refDG_at (X H : FVec Ideal S1x16384x1024 .f32) (b : Fin 1024) : refDG X H (ix2 0 b)
    = ∑ a : Fin 16384, X (ix3 0 a b) * Ideal.rsqrt (refV X (ix3 0 a 0)) * H (ix3 0 a b) := by
  pointwise [refDG, sum_unit_01]

/-- The reference's `dx` on real arrays. -/
theorem refDX_eq (dxo : FVec Ideal S1x16384x1024 .f32) (x : (⟨3, ![1, 16384, 1024]⟩ : Shape).Idx → ℝ) (g : (⟨1, ![1024]⟩ : Shape).Idx → ℝ)
    (W : (⟨2, ![1024, 2816]⟩ : Shape).Idx → ℝ) (dp : (⟨3, ![1, 16384, 2816]⟩ : Shape).Idx → ℝ) :
    refDX (fun i => (x i : EReal)) (refDN (fun i => (W i : EReal)) (fun i => (dp i : EReal)) (fun i => (g i : EReal))) dxo
      = dxOf x g W dp dxo := by
  funext i
  obtain ⟨a, b, rfl⟩ : ∃ (a : Fin 16384) (b : Fin 1024), i = ix2 a b := ⟨i 0, i 1, eq_ix2 i⟩
  have hD : ∀ k, refDN (fun i => (W i : EReal)) (fun i => (dp i : EReal)) (fun i => (g i : EReal)) (ix3 0 a k) = ((dh W dp a k * g (ix1 k) : ℝ) : EReal) := fun k => by
    rw [refDN_at, dh, EReal.coe_mul, ← coe_sum]; simp only [EReal.coe_mul]
  rw [refDX_at, refCB_at, refC_at]
  simp only [refV_at, hD, word_1024, word_eps, word_neg_half]
  rw [rms_eq (by norm_num)]
  simp only [← EReal.coe_mul, coe_sum]
  have hv := sq_pos (N := 1024) (by norm_num) fun k => x (ix3 0 a k)
  rw [div_coe_coe (by norm_num) (∑ k, x (ix3 0 a k) * x (ix3 0 a k)), ← EReal.coe_add, div_coe_coe hv.ne']
  simp only [← EReal.coe_mul]
  rw [div_coe_coe (by norm_num)]
  simp only [← EReal.coe_mul, add_assoc, ← EReal.coe_add]
  refine congrArg (fun r : ℝ => dxo (ix3 0 a b) + (r : EReal)) ?_
  rw [← add_assoc]
  exact rmsBwd_vjp (by norm_num) (fun k => x (ix3 0 a k)) (fun k => dh W dp a k * g (ix1 k)) b

/-- The reference's gradient of the gain. -/
theorem refDG_eq (X : FVec Ideal S1x16384x1024 .f32) (W : FVec Ideal S1024x2816 .f32) (dp : FVec Ideal S1x16384x2816 .f32) :
    refDG X (refDH W dp) = dgOf X W dp := by
  funext i
  obtain ⟨b, rfl⟩ : ∃ (b : Fin 1024), i = ix2 0 b := ⟨i 1, by idx_ext⟩
  rw [refDG_at]
  refine Finset.sum_congr rfl fun a _ => ?_
  rw [mul_comm, refV_at, show refDH W dp (ix3 0 a b) = ∑ e, dp (ix3 0 a e) * W (ix2 b e) by pointwise [refDH]]
  rfl
end Reference

/-! ## The claim -/

theorem real_args (a0 : FVec Ideal Cert.Pre_finite_proj_bwd.S1x16384x1024 .f32) (a1 : FVec Ideal Cert.Pre_finite_proj_bwd.S1024 .f32)
    (a2 : FVec Ideal Cert.Pre_finite_proj_bwd.S1024x2816 .f32) (a3 : FVec Ideal Cert.Pre_finite_proj_bwd.S1x16384x1024 .f32)
    (a4 : FVec Ideal Cert.Pre_finite_proj_bwd.S1x16384x2816 .f32) (h : Cert.Pre_finite_proj_bwd.fn (F := Ideal) a0 a1 a2 a3 a4 = fun _ => 1#1) :
    a0 = (fun i => ((a0 i).toReal : EReal)) ∧ a1 = (fun i => ((a1 i).toReal : EReal)) ∧ a2 = (fun i => ((a2 i).toReal : EReal))
      ∧ a4 = (fun i => ((a4 i).toReal : EReal)) := by
  have h := congrFun h ix0
  unfold Cert.Pre_finite_proj_bwd.fn Cert.Pre_finite_proj_bwd.fn_part1 at h
  simp only [andi_apply, and_true_iff] at h
  obtain ⟨⟨⟨h0, h1⟩, h2⟩, h4⟩ := h
  exact ⟨real_of_all a0 _ (fun _ => word_inf) _ _ _ (by decide) _ h0, real_of_all a1 _ (fun _ => word_inf) _ _ _ (by decide) _ h1,
    real_of_all a2 _ (fun _ => word_inf) _ _ _ (by decide) _ h2, real_of_all a4 _ (fun _ => word_inf) _ _ _ (by decide) _ h4⟩

/-- `dx`: the reference's term over the kernel's arguments is the kernel's array. -/
theorem dx_eq (m : (ℓ : Loc Cert.ProjBwdIdeal.nD Cert.ProjBwdIdeal.τ Cert.ProjBwdIdeal.sig) → Buf (Elt Ideal) ℓ) (hpre : Cert.Pre_ProjBwdIdeal_finite_proj_bwd m)
    (c : Dev Cert.ProjBwdIdeal.nD) :
    refDX (m ((c.tc : Thread Cert.ProjBwdIdeal.nD Cert.ProjBwdIdeal.τ).loc Cert.ProjBwdIdeal.main_arg0))
      (refDN (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg4)) (m ((c.tc : Thread Cert.ProjBwdIdeal.nD Cert.ProjBwdIdeal.τ).loc Cert.ProjBwdIdeal.main_arg1)))
      (m ((c.tc : Thread Cert.ProjBwdIdeal.nD Cert.ProjBwdIdeal.τ).loc Cert.ProjBwdIdeal.main_arg3))
      = (Cert.ProjBwdIdeal.Gen.dats m 0 c).arrAt 5 Cert.ProjBwdIdeal.cfg0.N := by
  obtain ⟨h0, h1, h2, h4⟩ := real_args _ _ _ _ _ (hpre c)
  rw [final5 m c _ _ _ _ h0 h1 h2 h4, ← refDX_eq]
  exact congr (congrArg₂ refDX h0 (congr (congrArg₂ refDN h2 h4) h1)) rfl

/-- The kernel's two results are the vector-Jacobian product's. -/
theorem algebraic : Cert.algebraic_ProjBwdIdeal_ProjBwdRefIdeal_pre_finite_proj_bwd := by
  pair_intro
  · run_from Cert.ProjBwdIdeal.Value.run_blocks m g
  · run_from Cert.ProjBwdRefIdeal.Value.run m' g'
    · refine Eq.trans ?_ (dx_eq m hpre c)
      obtain ⟨h0, h1, h2, h3, h4⟩ := hagree c
      rw [← h0, ← h1, ← h2, ← h3, ← h4]
      rfl
    · exact (refDG_eq _ _ _).trans (final6 m c).symm

/-- The reference's frame: it is host operations alone, none of which writes an argument, and it declares no semaphore. -/
theorem frame_ref : Cert.quiescent_ProjBwdRefIdeal := fun m ρ _ =>
  (θ_run Cert.ProjBwdRefIdeal.defs _ _).mono
    (fun r h => ⟨fun c => (h c).2.2, sem_eq_zero_of_no_sems (by decide) r.2⟩)
    (Cert.ProjBwdRefIdeal.Value.run (F := Ideal) m ρ)

end Cert.ProjBwdClaims

end
-- ==== Proof.OutBwd.lean ====
/- The backward of the output projection and its norm: what the kernel's six result arrays hold is the vector-Jacobian
   product of the gate, the product with `w_out` and the norm. -/
module

public import proofs.«01_k».proof.Proof.ProjBwd
public import proofs.«01_k».proof.Proof.Gen.OutBwdIdeal.Value
public import proofs.«01_k».proof.Proof.Gen.OutBwdRefIdeal.Run
public import proofs.«01_k».proof.Proof.Gen.Pre_finite_out_bwd
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutBwdClaims

open Cert.Reals

/-! ## The gradients over reals -/

/-- The cotangent of the projected rows, through the norm. -/
def dm (M D : (⟨3, ![1, 16384, 1024]⟩ : Shape).Idx → ℝ) (G : (⟨1, ![1024]⟩ : Shape).Idx → ℝ) (a : Fin 16384) (k : Fin 1024) : ℝ :=
  rmsBwd 1024 (fun k => M (ix3 0 a k)) (fun k => D (ix3 0 a k) * G (ix1 k)) k

/-- The cotangent of the rows that enter the product: `dm` times the transposed weight. -/
def dcat (M D : (⟨3, ![1, 16384, 1024]⟩ : Shape).Idx → ℝ) (G : (⟨1, ![1024]⟩ : Shape).Idx → ℝ) (W : (⟨2, ![1024, 1024]⟩ : Shape).Idx → ℝ)
    (a : Fin 16384) (b : Fin 1024) : ℝ :=
  ∑ k : Fin 1024, dm M D G a k * W (ix2 b k)

section Kernel
open Cert.OutBwdIdeal Cert.OutBwdIdeal.Gen

theorem pay9_at (v0 v12 : FVec Ideal S512x1024 .f32) (v14 : FVec Ideal S1x1024 .f32) (a : Fin 512) (b : Fin 1024) (x d g : Fin 1024 → ℝ)
    (hx : ∀ k, v0 (ix2 a k) = (x k : EReal)) (hd : ∀ k, v12 (ix2 a k) = (d k : EReal)) (hg : ∀ k, v14 (ix2 0 k) = (g k : EReal)) :
    k0_pay9 (F := Ideal) v0 v12 v14 (ix2 a b) = (rmsBwd 1024 x (fun k => d k * g k) b : EReal) := by
  pointwise [k0_pay9, k0_pay8, k0_pay7, k0_pay6, k0_pay5]
  simp only [hx, hd, hg, word_1024, word_eps]
  rw [rms_eq (by norm_num)]
  simp only [← EReal.coe_mul, coe_sum]
  rw [div_coe_coe (by norm_num), ← EReal.coe_mul, ← EReal.coe_sub, ← EReal.coe_mul]
  exact congrArg (fun r : ℝ => (r : EReal)) (rmsBwd_kernel x (fun k => d k * g k) b)

theorem pay19_at (v28 : FVec Ideal S512x1024 .bf16) (v40 : FVec Ideal S1024x1024 .bf16) (v43 v59 : FVec Ideal S512x256 .f32) (a : Fin 512) (e : Fin 512)
    (d : ℝ) (q : Fin 512 → ℝ) (hd : ∑ x, v28 (ix2 a x) * v40 (ix2 x ⟨e.val, by omega⟩) = (d : EReal))
    (h43 : ∀ e : Fin 256, v43 (ix2 a e) = (q ⟨e.val, by omega⟩ : EReal)) (h59 : ∀ e : Fin 256, v59 (ix2 a e) = (q ⟨256 + e.val, by omega⟩ : EReal)) :
    k0_pay1 (F := Ideal) (k0_pay19 v28 v40 v43 v59) (ix2 e a) = ((d * (q e * sg (q e)) : ℝ) : EReal) := by
  pointwise [k0_pay1, k0_pay19, k0_pay18, k0_pay12, k0_pay13, k0_pay14, k0_pay15, k0_pay16]
  rw [hd]
  simp only [h43, h59, sg_kernel]
  split_ifs with h
  · simp only [← EReal.coe_mul]
  · have e1 : (⟨256 + (e.val - 256), by omega⟩ : Fin 512) = e := Fin.ext (by show 256 + (e.val - 256) = e.val; omega)
    simp only [← EReal.coe_mul, e1]
  · rename_i hh; exact absurd rfl hh

theorem pay2_at (v28 : FVec Ideal S512x1024 .bf16) (v40 : FVec Ideal S1024x1024 .bf16) (v43 v59 : FVec Ideal S512x256 .f32) (v81 : FVec Ideal S512x512 .f32)
    (a : Fin 512) (e : Fin 512) (d att : ℝ) (q : Fin 512 → ℝ) (hd : ∑ x, v28 (ix2 a x) * v40 (ix2 x ⟨e.val, by omega⟩) = (d : EReal))
    (ha : v81 (ix2 e a) = (att : EReal))
    (h43 : ∀ e : Fin 256, v43 (ix2 a e) = (q ⟨e.val, by omega⟩ : EReal)) (h59 : ∀ e : Fin 256, v59 (ix2 a e) = (q ⟨256 + e.val, by omega⟩ : EReal)) :
    k0_pay2 (F := Ideal) (k0_pay17 v43 v59) (k0_pay18 v28 v40) v81 (ix2 a e) = ((d * att * (sg (q e) * (1 + q e * (1 - sg (q e)))) : ℝ) : EReal) := by
  pointwise [k0_pay2, k0_pay17, k0_pay18, k0_pay12, k0_pay13, k0_pay14, k0_pay15, k0_pay16]
  rw [hd, ha]
  simp only [h43, h59, sg_kernel]
  split_ifs with h
  · simp only [← EReal.coe_mul, ← EReal.coe_one, ← EReal.coe_sub, ← EReal.coe_add]
  · have e1 : (⟨256 + (e.val - 256), by omega⟩ : Fin 512) = e := Fin.ext (by show 256 + (e.val - 256) = e.val; omega)
    simp only [← EReal.coe_mul, ← EReal.coe_one, ← EReal.coe_sub, ← EReal.coe_add, e1]
  · rename_i hh; exact absurd rfl hh

theorem pay3_at (v28 : FVec Ideal S512x1024 .bf16) (v40 : FVec Ideal S1024x1024 .bf16) (a : Fin 512) (e : Fin 256) :
    k0_pay3 (F := Ideal) (k0_pay12 v28 v40) (ix2 a e) = ∑ x, v28 (ix2 a x) * v40 (ix2 x ⟨512 + e.val, by omega⟩) := by
  pointwise [k0_pay3, k0_pay12]

theorem pay4_at (v28 : FVec Ideal S512x1024 .bf16) (v40 : FVec Ideal S1024x1024 .bf16) (a : Fin 512) (e : Fin 256) :
    k0_pay4 (F := Ideal) (k0_pay12 v28 v40) (ix2 a e) = ∑ x, v28 (ix2 a x) * v40 (ix2 x ⟨768 + e.val, by omega⟩) := by
  pointwise [k0_pay4, k0_pay12]

theorem pay11_at (v0 v12 : FVec Ideal S512x1024 .f32) (v33 : FVec Ideal S1x1024 .f32) (b : Fin 1024) :
    k0_pay11 (F := Ideal) v0 v12 v33 (ix2 0 b) = v33 (ix2 0 b) + ∑ a : Fin 512, v12 (ix2 a b) *
      (v0 (ix2 a b) * Ideal.rsqrt (Ideal.div (∑ k, v0 (ix2 a k) * v0 (ix2 a k)) (Ideal.ofBits FTy.f32 0x44800000#32) + Ideal.ofBits FTy.f32 0x358637BD#32)) := by
  pointwise [k0_pay11, k0_pay8, k0_pay7, k0_pay6, k0_pay5]

theorem idx : ∀ t : Fin cfg0.N, win0_0.index t = ![t.val, 0] ∧ win0_1.index t = ![t.val, 0] ∧ win0_2.index t = ![0, 0]
    ∧ win0_3.index t = ![0, 0] ∧ win0_4.index t = ![0, t.val] ∧ win0_5.index t = ![t.val, 3] ∧ win0_6.index t = ![t.val, 4] ∧ win0_7.index t = ![t.val, 0] ∧ win0_8.index t = ![0, t.val]
    ∧ win0_9.index t = ![t.val, 0] ∧ win0_10.index t = ![t.val, 0] ∧ win0_11.index t = ![t.val, 0] ∧ win0_12.index t = ![0, 0] ∧ t.val < 32 :=
  (by decide +kernel : ∀ t : Fin grid0.N, _)

/-! ### The host's terms before the region -/

/-- `x * sigmoid x`, as the host spells it. -/
def silu (x : FVec Ideal S1x16384x512 .f32) : FVec Ideal S1x16384x512 .f32 :=
  mulf x (Host.divf (broadcastInDim S1x16384x512 ![] bcast_S_S1x16384x512 (constant S_ .f32 0x3F800000#32)) (addf (broadcastInDim S1x16384x512 ![] bcast_S_S1x16384x512 (constant S_ .f32 0x3F800000#32)) (Host.exp (Host.negf x))))

/-- The rows that enter the product with `w_out`. -/
def cat (A : FVec Ideal S1x16384x512 .f32) (P : FVec Ideal S1x16384x2816 .f32) (C S : FVec Ideal S1x16384x256 .f32) : FVec Ideal S1x16384x1024 .f32 :=
  concatenate S1x16384x1024 2 [⟨S1x16384x512, mulf A (silu (extractStridedSlice S1x16384x512 ![0, 0, 768] P slices_S1x16384x2816_S1x16384x512_0_0_768))⟩, ⟨S1x16384x256, C⟩, ⟨S1x16384x256, S⟩]
    concatenates_S1x16384x512_S1x16384x256_S1x16384x256_S1x16384x1024_d2

/-- The projected rows. -/
def mixT (A : FVec Ideal S1x16384x512 .f32) (P : FVec Ideal S1x16384x2816 .f32) (C S : FVec Ideal S1x16384x256 .f32) (W : FVec Ideal S1024x1024 .f32) : FVec Ideal S1x16384x1024 .f32 :=
  Host.dotGeneral dot_S1x16384x1024_S1024x1024_S1x16384x1024_2_0_01_1_n_n none (cat A P C S) W

theorem mixT_real (A : FVec Ideal S1x16384x512 .f32) (P : FVec Ideal S1x16384x2816 .f32) (C S : FVec Ideal S1x16384x256 .f32) (W : FVec Ideal S1024x1024 .f32)
    (hA : A = fun i => ((A i).toReal : EReal)) (hP : P = fun i => ((P i).toReal : EReal)) (hC : C = fun i => ((C i).toReal : EReal))
    (hS : S = fun i => ((S i).toReal : EReal)) (hW : W = fun i => ((W i).toReal : EReal)) :
    ∃ M : S1x16384x1024.Idx → ℝ, mixT A P C S W = fun i => (M i : EReal) := by
  have hc : ∀ (a : Fin 16384) (k : Fin 1024), ∃ r : ℝ, cat A P C S (ix3 0 a k) = (r : EReal) := fun a k => by
    have e : cat A P C S (ix3 0 a k) = if h : k.val < 512 then (A (ix3 0 a ⟨k.val, h⟩) * (P (ix3 0 a ⟨768 + k.val, by omega⟩) * Ideal.div 1 (1 + Ideal.exp (- P (ix3 0 a ⟨768 + k.val, by omega⟩)))))
        else if h : k.val - 512 < 256 then C (ix3 0 a ⟨k.val - 512, by omega⟩) else S (ix3 0 a ⟨k.val - 512 - 256, by omega⟩) := by
      pointwise [cat, silu]
    rw [e, hA, hP, hC, hS]
    simp only [sg_host]
    split_ifs
    · exact ⟨_, by simp only [← EReal.coe_mul]; rfl⟩
    · exact ⟨_, rfl⟩
    · exact ⟨_, rfl⟩
  have : ∀ i, ∃ r : ℝ, mixT A P C S W i = (r : EReal) := fun i => by
    obtain ⟨a, b, rfl⟩ : ∃ (a : Fin 16384) (b : Fin 1024), i = ix3 0 a b := ⟨i 1, i 2, by idx_ext⟩
    choose r hr using hc a
    have e : mixT A P C S W (ix3 0 a b) = ∑ k, cat A P C S (ix3 0 a k) * W (ix2 k b) := by pointwise [mixT]
    rw [e, hW]
    simp only [hr, ← EReal.coe_mul, coe_sum]
    exact ⟨_, rfl⟩
  choose M hM using this
  exact ⟨M, funext hM⟩

variable (m : (ℓ : Loc nD τ sig) → Buf (Elt Ideal) ℓ) (c : Dev nD)

/-- The projected rows of a memory. -/
abbrev mixM : FVec Ideal S1x16384x1024 .f32 :=
  mixT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

theorem V13 : V m c main_v13 = shapeCast S16384x1024 (m ((c.tc : Thread nD τ).loc main_arg6)) shapeCasts_S1x16384x1024_S16384x1024 := by
  unfold V
  simp only [hostOps0, hostOps0_1, hostOps0_2, List.flatten_cons, List.flatten_nil, List.append_nil, List.cons_append, List.nil_append]
  after_results
  rfl
theorem V14 : V m c main_v14 = shapeCast S16384x1024 (mixM m c) shapeCasts_S1x16384x1024_S16384x1024 := by
  unfold V
  simp only [hostOps0, hostOps0_1, hostOps0_2, List.flatten_cons, List.flatten_nil, List.append_nil, List.cons_append, List.nil_append]
  after_results
  rfl
theorem V15 : V m c main_v15 = shapeCast S1x1024 (m ((c.tc : Thread nD τ).loc main_arg5)) shapeCasts_S1024_S1x1024 := by
  unfold V
  simp only [hostOps0, hostOps0_1, hostOps0_2, List.flatten_cons, List.flatten_nil, List.append_nil, List.cons_append, List.nil_append]
  after_results
  rfl
theorem V17 : V m c main_v17 = transpose S1024x1024 [1, 0] (truncf .bf16 (show FVec Ideal S1024x1024 .f32 from (m ((c.tc : Thread nD τ).loc main_arg4))) bitsLt_bf16_f32) transposes_S1024x1024_S1024x1024_1_0 := by
  unfold V
  simp only [hostOps0, hostOps0_1, hostOps0_2, List.flatten_cons, List.flatten_nil, List.append_nil, List.cons_append, List.nil_append]
  after_results
theorem V19 : V m c main_v19 = transpose S512x16384 [1, 0] (shapeCast S16384x512 (m ((c.tc : Thread nD τ).loc main_arg0)) shapeCasts_S1x16384x512_S16384x512) transposes_S16384x512_S512x16384_1_0 := by
  unfold V
  simp only [hostOps0, hostOps0_1, hostOps0_2, List.flatten_cons, List.flatten_nil, List.append_nil, List.cons_append, List.nil_append]
  after_results
  rfl
theorem V20 : V m c main_v20 = shapeCast S16384x2816 (m ((c.tc : Thread nD τ).loc main_arg1)) shapeCasts_S1x16384x2816_S16384x2816 := by
  unfold V
  simp only [hostOps0, hostOps0_1, hostOps0_2, List.flatten_cons, List.flatten_nil, List.append_nil, List.cons_append, List.nil_append]
  after_results
  rfl

theorem rows1024 (x : FVec Ideal S1x16384x1024 .f32) (i : Fin 16384) (j : Fin 1024) :
    shapeCast S16384x1024 x shapeCasts_S1x16384x1024_S16384x1024 (ix2 i j) = x (ix3 0 i j) := by pointwise
theorem rows2816 (x : FVec Ideal S1x16384x2816 .f32) (i : Fin 16384) (j : Fin 2816) :
    shapeCast S16384x2816 x shapeCasts_S1x16384x2816_S16384x2816 (ix2 i j) = x (ix3 0 i j) := by pointwise
theorem rowsT512 (x : FVec Ideal S1x16384x512 .f32) (i : Fin 16384) (j : Fin 512) :
    transpose S512x16384 [1, 0] (shapeCast S16384x512 x shapeCasts_S1x16384x512_S16384x512) transposes_S16384x512_S512x16384_1_0 (ix2 j i) = x (ix3 0 i j) := by pointwise
theorem vec1024 (x : FVec Ideal S1024 .f32) (j : Fin 1024) :
    shapeCast S1x1024 x shapeCasts_S1024_S1x1024 (ix2 0 j) = x (ix1 j) := by pointwise
theorem wT (x : FVec Ideal S1024x1024 .f32) (i j : Fin 1024) :
    transpose S1024x1024 [1, 0] (truncf .bf16 x bitsLt_bf16_f32) transposes_S1024x1024_S1024x1024_1_0 (ix2 i j) = x (ix2 j i) := by pointwise

/-- The row of the array a tile's row is. -/
abbrev rowOf (t : Fin cfg0.N) (a : Fin 512) : Fin 16384 := ⟨t.val * 512 + a.val, by have := (idx t).2.2.2.2.2.2.2.2.2.2.2.2.2; omega⟩

theorem blk0 (t : Fin cfg0.N) (a : Fin 512) (k : Fin 1024) :
    (show EReal from iblk m c 0 t (ix2 a k)) = m ((c.tc : Thread nD τ).loc main_arg6) (ix3 0 (rowOf t a) k) := by
  unfold iblk
  show (V m c main_v13) (((cfg0.win 0).blk t).view.emb (ix2 a k)) = _
  have e : ((cfg0.win 0).blk t).view.emb (ix2 a k) = ix2 (rowOf t a) k := by blk_ext [idx t]
  rw [V13, e]
  exact rows1024 _ _ _
theorem blk1 (t : Fin cfg0.N) (a : Fin 512) (k : Fin 1024) :
    (show EReal from iblk m c 1 t (ix2 a k)) = mixM m c (ix3 0 (rowOf t a) k) := by
  unfold iblk
  show (V m c main_v14) (((cfg0.win 1).blk t).view.emb (ix2 a k)) = _
  have e : ((cfg0.win 1).blk t).view.emb (ix2 a k) = ix2 (rowOf t a) k := by blk_ext [idx t]
  rw [V14, e]
  exact rows1024 _ _ _
theorem blk2 (t : Fin cfg0.N) (k : Fin 1024) :
    (show EReal from iblk m c 2 t (ix2 0 k)) = m ((c.tc : Thread nD τ).loc main_arg5) (ix1 k) := by
  unfold iblk
  show (V m c main_v15) (((cfg0.win 2).blk t).view.emb (ix2 0 k)) = _
  have e : ((cfg0.win 2).blk t).view.emb (ix2 0 k) = ix2 0 k := by blk_ext [idx t]
  rw [V15, e]
  exact vec1024 _ _
theorem blk3 (t : Fin cfg0.N) (e k : Fin 1024) :
    (show EReal from iblk m c 3 t (ix2 e k)) = m ((c.tc : Thread nD τ).loc main_arg4) (ix2 k e) := by
  unfold iblk
  show (V m c main_v17) (((cfg0.win 3).blk t).view.emb (ix2 e k)) = _
  have e : ((cfg0.win 3).blk t).view.emb (ix2 e k) = ix2 e k := by blk_ext [idx t]
  rw [V17, e]
  exact wT _ _ _
theorem blk4 (t : Fin cfg0.N) (e a : Fin 512) :
    (show EReal from iblk m c 4 t (ix2 e a)) = m ((c.tc : Thread nD τ).loc main_arg0) (ix3 0 (rowOf t a) e) := by
  unfold iblk
  show (V m c main_v19) (((cfg0.win 4).blk t).view.emb (ix2 e a)) = _
  have e : ((cfg0.win 4).blk t).view.emb (ix2 e a) = ix2 e (rowOf t a) := by blk_ext [idx t]
  rw [V19, e]
  exact rowsT512 _ _ _
theorem blk5 (t : Fin cfg0.N) (a : Fin 512) (e : Fin 256) :
    (show EReal from iblk m c 5 t (ix2 a e)) = m ((c.tc : Thread nD τ).loc main_arg1) (ix3 0 (rowOf t a) ⟨768 + e.val, by omega⟩) := by
  unfold iblk
  show (V m c main_v20) (((cfg0.win 5).blk t).view.emb (ix2 a e)) = _
  have e : ((cfg0.win 5).blk t).view.emb (ix2 a e) = ix2 (rowOf t a) (⟨768 + e.val, by omega⟩ : Fin 2816) := by blk_ext [idx t]
  rw [V20, e]
  exact rows2816 _ _ _
theorem blk6 (t : Fin cfg0.N) (a : Fin 512) (e : Fin 256) :
    (show EReal from iblk m c 6 t (ix2 a e)) = m ((c.tc : Thread nD τ).loc main_arg1) (ix3 0 (rowOf t a) ⟨1024 + e.val, by omega⟩) := by
  unfold iblk
  show (V m c main_v20) (((cfg0.win 6).blk t).view.emb (ix2 a e)) = _
  have e : ((cfg0.win 6).blk t).view.emb (ix2 a e) = ix2 (rowOf t a) (⟨1024 + e.val, by omega⟩ : Fin 2816) := by blk_ext [idx t]
  rw [V20, e]
  exact rows2816 _ _ _

variable (A : S1x16384x512.Idx → ℝ) (P : S1x16384x2816.Idx → ℝ) (W : S1024x1024.Idx → ℝ) (G : S1024.Idx → ℝ) (M D : S1x16384x1024.Idx → ℝ)
  (hM : mixM m c = fun i => (M i : EReal)) (hA : m ((c.tc : Thread nD τ).loc main_arg0) = fun i => (A i : EReal))
  (hP : m ((c.tc : Thread nD τ).loc main_arg1) = fun i => (P i : EReal)) (hW : m ((c.tc : Thread nD τ).loc main_arg4) = fun i => (W i : EReal))
  (hG : m ((c.tc : Thread nD τ).loc main_arg5) = fun i => (G i : EReal)) (hD : m ((c.tc : Thread nD τ).loc main_arg6) = fun i => (D i : EReal))

include hM hG hD in
theorem point7 (t : Fin cfg0.N) (a : Fin 512) (b : Fin 1024) :
    k0_pay9 (F := Ideal) (iblk m c 1 t) (iblk m c 0 t) (iblk m c 2 t) (ix2 a b) = (dm M D G (rowOf t a) b : EReal) :=
  pay9_at _ _ _ a b (fun k => M (ix3 0 (rowOf t a) k)) (fun k => D (ix3 0 (rowOf t a) k)) (fun k => G (ix1 k))
    (fun k => (blk1 m c t a k).trans (congrFun hM _)) (fun k => (blk0 m c t a k).trans (congrFun hD _)) (fun k => (blk2 m c t k).trans (congrFun hG _))

include hM hG hD hW in
theorem pointC (t : Fin cfg0.N) (a : Fin 512) (b : Fin 1024) :
    ∑ x, k0_pay9 (F := Ideal) (iblk m c 1 t) (iblk m c 0 t) (iblk m c 2 t) (ix2 a x) * (show FVec Ideal S1024x1024 .bf16 from iblk m c 3 t) (ix2 x b)
      = (dcat M D G W (rowOf t a) b : EReal) := by
  rw [dcat, ← coe_sum]
  refine Finset.sum_congr rfl fun x _ => ?_
  rw [EReal.coe_mul]
  exact Ideal.mul_congr (point7 m c G M D hM hG hD t a x) ((blk3 m c t x b).trans (congrFun hW _))

/-- The gate's rows: columns 768 to 1279 of the projection. -/
def gateR (a : Fin 16384) (e : Fin 512) : ℝ := P (ix3 0 a ⟨768 + e.val, by omega⟩)

include hP in
theorem gate5 (t : Fin cfg0.N) (a : Fin 512) (e : Fin 256) : (show FVec Ideal S512x256 .f32 from iblk m c 5 t) (ix2 a e) = (gateR P (rowOf t a) ⟨e.val, by omega⟩ : EReal) :=
  (blk5 m c t a e).trans (congrFun hP _)
include hP in
theorem gate6 (t : Fin cfg0.N) (a : Fin 512) (e : Fin 256) : (show FVec Ideal S512x256 .f32 from iblk m c 6 t) (ix2 a e) = (gateR P (rowOf t a) ⟨256 + e.val, by omega⟩ : EReal) := by
  refine (blk6 m c t a e).trans ((congrFun hP _).trans ?_)
  have e1 : (⟨1024 + e.val, by omega⟩ : Fin 2816) = ⟨768 + (256 + e.val), by omega⟩ := Fin.ext (by show 1024 + e.val = 768 + (256 + e.val); omega)
  rw [gateR, e1]

/-- The cotangent of the projected rows, as an array. -/
def o7 : FVec Ideal S16384x1024 .bf16 := fun i => (dm M D G (i 0) (i 1) : EReal)
/-- The gradient of the attention's output, transposed. -/
def o8 : FVec Ideal S512x16384 .f32 := fun i => ((dcat M D G W (i 1) ⟨(i 0).val, lt_of_lt_of_le (i 0).isLt (by decide : (512:ℕ) ≤ 1024)⟩ * (gateR P (i 1) (i 0) * sg (gateR P (i 1) (i 0))) : ℝ) : EReal)
/-- The gradient of the attention's gate. -/
def o9 : FVec Ideal S16384x512 .bf16 := fun i => ((dcat M D G W (i 0) ⟨(i 1).val, lt_of_lt_of_le (i 1).isLt (by decide : (512:ℕ) ≤ 1024)⟩ * A (ix3 0 (i 0) (i 1)) *
  (sg (gateR P (i 0) (i 1)) * (1 + gateR P (i 0) (i 1) * (1 - sg (gateR P (i 0) (i 1))))) : ℝ) : EReal)
/-- The gradients of the convolution's and of the gating unit's output. -/
def o10 : FVec Ideal S16384x256 .f32 := fun i => (dcat M D G W (i 0) ⟨512 + (i 1).val, Nat.add_lt_add_left (lt_of_lt_of_le (i 1).isLt (by decide : (256:ℕ) ≤ 512)) 512⟩ : EReal)
def o11 : FVec Ideal S16384x256 .f32 := fun i => (dcat M D G W (i 0) ⟨768 + (i 1).val, Nat.add_lt_add_left (show (i 1).val < 256 from (i 1).isLt) 768⟩ : EReal)

include hM hG hD in
theorem final7 : (dats m 0 c).arrAt 7 cfg0.N = o7 G M D := by
  refine (dats m 0 c).arrAt_eq_of_covers 7 _ (by decide +kernel) fun t hf y => ?_
  obtain ⟨a, b, rfl⟩ : ∃ (a : Fin 512) (b : Fin 1024), y = ix2 a b := ⟨y 0, y 1, eq_ix2 y⟩
  have e : ((cfg0.win 7).blk t).view.emb (ix2 a b) = ix2 (rowOf t a) b := by blk_ext [idx t]
  rw [e]
  blk_simp
  rw [after0_7]
  by_cases h : t.val % 32 = 0
  · rw [outsAt0_A m c t h]
    frame_out
    exact point7 m c G M D hM hG hD t a b
  · rw [outsAt0_B m c t h]
    frame_out
    exact point7 m c G M D hM hG hD t a b

include hM hP hW hG hD in
theorem final8 : (dats m 0 c).arrAt 8 cfg0.N = o8 P W G M D := by
  refine (dats m 0 c).arrAt_eq_of_covers 8 _ (by decide +kernel) fun t hf y => ?_
  obtain ⟨a, b, rfl⟩ : ∃ (a : Fin 512) (b : Fin 512), y = ix2 a b := ⟨y 0, y 1, eq_ix2 y⟩
  have e : ((cfg0.win 8).blk t).view.emb (ix2 a b) = ix2 a (rowOf t b) := by blk_ext [idx t]
  rw [e]
  blk_simp
  rw [after0_8]
  by_cases h : t.val % 32 = 0
  · rw [outsAt0_A m c t h]
    frame_out
    exact pay19_at _ _ _ _ b a _ (gateR P (rowOf t b)) (pointC m c W G M D hM hW hG hD t b _) (gate5 m c P hP t b) (gate6 m c P hP t b)
  · rw [outsAt0_B m c t h]
    frame_out
    exact pay19_at _ _ _ _ b a _ (gateR P (rowOf t b)) (pointC m c W G M D hM hW hG hD t b _) (gate5 m c P hP t b) (gate6 m c P hP t b)

include hM hA hP hW hG hD in
theorem final9 : (dats m 0 c).arrAt 9 cfg0.N = o9 A P W G M D := by
  refine (dats m 0 c).arrAt_eq_of_covers 9 _ (by decide +kernel) fun t hf y => ?_
  obtain ⟨a, b, rfl⟩ : ∃ (a : Fin 512) (b : Fin 512), y = ix2 a b := ⟨y 0, y 1, eq_ix2 y⟩
  have e : ((cfg0.win 9).blk t).view.emb (ix2 a b) = ix2 (rowOf t a) b := by blk_ext [idx t]
  rw [e]
  blk_simp
  rw [after0_9]
  by_cases h : t.val % 32 = 0
  · rw [outsAt0_A m c t h]
    frame_out
    exact pay2_at _ _ _ _ _ a b _ _ (gateR P (rowOf t a)) (pointC m c W G M D hM hW hG hD t a _) ((blk4 m c t b a).trans (congrFun hA _)) (gate5 m c P hP t a) (gate6 m c P hP t a)
  · rw [outsAt0_B m c t h]
    frame_out
    exact pay2_at _ _ _ _ _ a b _ _ (gateR P (rowOf t a)) (pointC m c W G M D hM hW hG hD t a _) ((blk4 m c t b a).trans (congrFun hA _)) (gate5 m c P hP t a) (gate6 m c P hP t a)

include hM hW hG hD in
theorem final10 : (dats m 0 c).arrAt 10 cfg0.N = o10 W G M D := by
  refine (dats m 0 c).arrAt_eq_of_covers 10 _ (by decide +kernel) fun t hf y => ?_
  obtain ⟨a, b, rfl⟩ : ∃ (a : Fin 512) (b : Fin 256), y = ix2 a b := ⟨y 0, y 1, eq_ix2 y⟩
  have e : ((cfg0.win 10).blk t).view.emb (ix2 a b) = ix2 (rowOf t a) b := by blk_ext [idx t]
  rw [e]
  blk_simp
  rw [after0_10]
  by_cases h : t.val % 32 = 0
  · rw [outsAt0_A m c t h]
    frame_out
    exact (pay3_at _ _ a b).trans (pointC m c W G M D hM hW hG hD t a _)
  · rw [outsAt0_B m c t h]
    frame_out
    exact (pay3_at _ _ a b).trans (pointC m c W G M D hM hW hG hD t a _)

include hM hW hG hD in
theorem final11 : (dats m 0 c).arrAt 11 cfg0.N = o11 W G M D := by
  refine (dats m 0 c).arrAt_eq_of_covers 11 _ (by decide +kernel) fun t hf y => ?_
  obtain ⟨a, b, rfl⟩ : ∃ (a : Fin 512) (b : Fin 256), y = ix2 a b := ⟨y 0, y 1, eq_ix2 y⟩
  have e : ((cfg0.win 11).blk t).view.emb (ix2 a b) = ix2 (rowOf t a) b := by blk_ext [idx t]
  rw [e]
  blk_simp
  rw [after0_11]
  by_cases h : t.val % 32 = 0
  · rw [outsAt0_A m c t h]
    frame_out
    exact (pay4_at _ _ a b).trans (pointC m c W G M D hM hW hG hD t a _)
  · rw [outsAt0_B m c t h]
    frame_out
    exact (pay4_at _ _ a b).trans (pointC m c W G M D hM hW hG hD t a _)

/-- One row's part of the gain's gradient: the cotangent times the normed row. -/
def dgRow (X D : FVec Ideal S1x16384x1024 .f32) (a : Fin 16384) (b : Fin 1024) : EReal :=
  D (ix3 0 a b) * (X (ix3 0 a b) *
    Ideal.rsqrt (Ideal.div (∑ k, X (ix3 0 a k) * X (ix3 0 a k)) (Ideal.ofBits FTy.f32 0x44800000#32) + Ideal.ofBits FTy.f32 0x358637BD#32))

/-- The gain's gradient: the sum of the rows' parts. -/
def o12 (X D : FVec Ideal S1x16384x1024 .f32) : FVec Ideal S1x1024 .f32 := fun i => ∑ a : Fin 16384, dgRow X D a (i 1)

theorem point12 (t : Fin cfg0.N) (v : FVec Ideal S1x1024 .f32) (j : S1x1024.Idx) :
    k0_pay11 (F := Ideal) (iblk m c 1 t) (iblk m c 0 t) v j
      = v j + ∑ a : Fin 512, dgRow (mixM m c) (m ((c.tc : Thread nD τ).loc main_arg6)) (rowOf t a) (j 1) := by
  obtain ⟨b, rfl⟩ : ∃ (b : Fin 1024), j = ix2 0 b := ⟨j 1, by idx_ext⟩
  refine (pay11_at _ _ _ b).trans (congrArg (v (ix2 0 b) + ·) (Finset.sum_congr rfl fun a _ => ?_))
  unfold dgRow
  refine Ideal.mul_congr (blk0 m c t a b) (Ideal.mul_congr (blk1 m c t a b) ?_)
  exact congrArg (fun z : EReal => Ideal.rsqrt (Ideal.div z _ + _)) (Finset.sum_congr rfl fun k _ => Ideal.mul_congr (blk1 m c t a k) (blk1 m c t a k))

/-- The kernel's gradient of the gain. -/
theorem final12 : (dats m 0 c).arrAt 12 cfg0.N = o12 (mixM m c) (m ((c.tc : Thread nD τ).loc main_arg6)) := by
  refine (dats m 0 c).arrAt_eq_of_covers 12 _ (by decide +kernel) fun t hf y => ?_
  obtain ⟨b, rfl⟩ : ∃ (b : Fin 1024), y = ix2 0 b := ⟨y 1, by idx_ext⟩
  have e : ((cfg0.win 12).blk t).view.emb (ix2 0 b) = ix2 0 b := by blk_ext [idx t]
  rw [e]
  blk_simp
  rw [after0_12, Pipeline.eq_sum_fin_of_reset_step_apply_of_flush (fun n h => (outsAt0 m c n h).2.2.2.2.2) 32 (fun _ => (0 : EReal))
    (fun t j => ∑ a : Fin 512, dgRow (mixM m c) (m ((c.tc : Thread nD τ).loc main_arg6)) (rowOf t a) (j 1))
    (fun t h j => by
      rw [outsAt0_A m c t h]; frame_out
      refine (point12 m c t _ j).trans (congrArg (· + _) ?_)
      pointwise [k0_pay10])
    (fun t h j => by
      rw [outsAt0_B m c t h]; frame_out
      exact point12 m c t _ j)
    t ((flush0_12 t).mp hf) (ix2 0 b), zero_add]
  have ht := (idx t).2.2.2.2.2.2.2.2.2.2.2.2.2
  refine Fin.sum_mul_add_congr (f := fun a => dgRow _ _ a b) fun s k hl => congrArg (fun a => dgRow _ _ a b) (Fin.ext ?_)
  show (32 * (t.val / 32) + s.val) * 512 + k.val = s.val * 512 + k.val
  omega
end Kernel

section Reference
open Cert.OutBwdRefIdeal Cert.OutBwdRefIdeal.Gen
open Cert.ProjBwdClaims (refV refC refCB refDG refV_at refC_at refCB_at refDG_at)

/-- The gate's columns and their sigmoid. -/
def refX (P : FVec Ideal S1x16384x2816 .f32) : FVec Ideal S1x16384x512 .f32 := extractStridedSlice S1x16384x512 ![0, 0, 768] P slices_S1x16384x2816_S1x16384x512_0_0_768
def refSg (x : FVec Ideal S1x16384x512 .f32) : FVec Ideal S1x16384x512 .f32 :=
  Host.divf (broadcastInDim S1x16384x512 ![] bcast_S_S1x16384x512 (constant S_ .f32 0x3F800000#32)) (addf (broadcastInDim S1x16384x512 ![] bcast_S_S1x16384x512 (constant S_ .f32 0x3F800000#32)) (Host.exp (Host.negf x)))

def refDN (D : FVec Ideal S1x16384x1024 .f32) (G : FVec Ideal S1024 .f32) : FVec Ideal S1x16384x1024 .f32 :=
  mulf D (broadcastInDim S1x16384x1024 ![0, 1, 2] bcast_S1x1x1024_S1x16384x1024_0_1_2 (broadcastInDim S1x1x1024 ![2] bcast_S1024_S1x1x1024_2 G))

def refDM (M D : FVec Ideal S1x16384x1024 .f32) : FVec Ideal S1x16384x1024 .f32 :=
  addf (addf (mulf D (broadcastInDim S1x16384x1024 ![0, 1, 2] bcast_S1x16384x1_S1x16384x1024_0_1_2 (Host.rsqrt (refV M)))) (mulf M (refCB M D))) (mulf (refCB M D) M)

def refDC (dm : FVec Ideal S1x16384x1024 .f32) (W : FVec Ideal S1024x1024 .f32) : FVec Ideal S1x16384x1024 .f32 :=
  Host.dotGeneral dot_S1x16384x1024_S1024x1024_S1x16384x1024_2_1_01_0_n_n none dm W

def refDA (dc : FVec Ideal S1x16384x1024 .f32) : FVec Ideal S1x16384x512 .f32 := extractStridedSlice S1x16384x512 ![0, 0, 0] dc slices_S1x16384x1024_S1x16384x512_0_0_0

def r0 (dm : FVec Ideal S1x16384x1024 .f32) : FVec Ideal S16384x1024 .bf16 := truncf .bf16 (shapeCast S16384x1024 dm shapeCasts_S1x16384x1024_S16384x1024) bitsLt_bf16_f32
def r1 (dc : FVec Ideal S1x16384x1024 .f32) (x : FVec Ideal S1x16384x512 .f32) : FVec Ideal S512x16384 .f32 :=
  transpose S512x16384 [1, 0] (shapeCast S16384x512 (mulf (refDA dc) (mulf x (refSg x))) shapeCasts_S1x16384x512_S16384x512) transposes_S16384x512_S512x16384_1_0
def r2 (A : FVec Ideal S1x16384x512 .f32) (dc : FVec Ideal S1x16384x1024 .f32) (x : FVec Ideal S1x16384x512 .f32) : FVec Ideal S16384x512 .bf16 :=
  truncf .bf16 (shapeCast S16384x512 (addf (mulf (mulf A (refDA dc)) (refSg x)) (mulf (mulf x (mulf A (refDA dc))) (mulf (refSg x) (subf (broadcastInDim S1x16384x512 ![] bcast_S_S1x16384x512 (constant S_ .f32 0x3F800000#32)) (refSg x))))) shapeCasts_S1x16384x512_S16384x512) bitsLt_bf16_f32
def r3 (dc : FVec Ideal S1x16384x1024 .f32) : FVec Ideal S16384x256 .f32 := shapeCast S16384x256 (extractStridedSlice S1x16384x256 ![0, 0, 512] dc slices_S1x16384x1024_S1x16384x256_0_0_512) shapeCasts_S1x16384x256_S16384x256
def r4 (dc : FVec Ideal S1x16384x1024 .f32) : FVec Ideal S16384x256 .f32 := shapeCast S16384x256 (extractStridedSlice S1x16384x256 ![0, 0, 768] dc slices_S1x16384x1024_S1x16384x256_0_0_768) shapeCasts_S1x16384x256_S16384x256

theorem r0_at (dm : FVec Ideal S1x16384x1024 .f32) (a : Fin 16384) (b : Fin 1024) : r0 dm (ix2 a b) = dm (ix3 0 a b) := by pointwise [r0]
theorem r1_at (dc : FVec Ideal S1x16384x1024 .f32) (x : FVec Ideal S1x16384x512 .f32) (a : Fin 16384) (e : Fin 512) :
    r1 dc x (ix2 e a) = dc (ix3 0 a ⟨e.val, by omega⟩) * (x (ix3 0 a e) * Ideal.div 1 (1 + Ideal.exp (-x (ix3 0 a e)))) := by pointwise [r1, refDA, refSg]
theorem r2_at (A : FVec Ideal S1x16384x512 .f32) (dc : FVec Ideal S1x16384x1024 .f32) (x : FVec Ideal S1x16384x512 .f32) (a : Fin 16384) (e : Fin 512) :
    r2 A dc x (ix2 a e) = A (ix3 0 a e) * dc (ix3 0 a ⟨e.val, by omega⟩) * Ideal.div 1 (1 + Ideal.exp (-x (ix3 0 a e)))
      + x (ix3 0 a e) * (A (ix3 0 a e) * dc (ix3 0 a ⟨e.val, by omega⟩)) * (Ideal.div 1 (1 + Ideal.exp (-x (ix3 0 a e))) * (1 - Ideal.div 1 (1 + Ideal.exp (-x (ix3 0 a e))))) := by
  pointwise [r2, refDA, refSg]
theorem r3_at (dc : FVec Ideal S1x16384x1024 .f32) (a : Fin 16384) (e : Fin 256) : r3 dc (ix2 a e) = dc (ix3 0 a ⟨512 + e.val, by omega⟩) := by pointwise [r3]
theorem r4_at (dc : FVec Ideal S1x16384x1024 .f32) (a : Fin 16384) (e : Fin 256) : r4 dc (ix2 a e) = dc (ix3 0 a ⟨768 + e.val, by omega⟩) := by pointwise [r4]
theorem refX_at (P : FVec Ideal S1x16384x2816 .f32) (a : Fin 16384) (e : Fin 512) : refX P (ix3 0 a e) = P (ix3 0 a ⟨768 + e.val, by omega⟩) := by pointwise [refX]
theorem refDN_at (D : FVec Ideal S1x16384x1024 .f32) (G : FVec Ideal S1024 .f32) (a : Fin 16384) (k : Fin 1024) : refDN D G (ix3 0 a k) = D (ix3 0 a k) * G (ix1 k) := by pointwise [refDN]
theorem refDM_at (M D : FVec Ideal S1x16384x1024 .f32) (a : Fin 16384) (b : Fin 1024) : refDM M D (ix3 0 a b)
    = D (ix3 0 a b) * Ideal.rsqrt (refV M (ix3 0 a 0)) + M (ix3 0 a b) * refCB M D (ix3 0 a b) + refCB M D (ix3 0 a b) * M (ix3 0 a b) := by
  pointwise [refDM]
theorem refDC_at (dm : FVec Ideal S1x16384x1024 .f32) (W : FVec Ideal S1024x1024 .f32) (a : Fin 16384) (b : Fin 1024) : refDC dm W (ix3 0 a b) = ∑ k, dm (ix3 0 a k) * W (ix2 b k) := by
  pointwise [refDC]

variable (A : S1x16384x512.Idx → ℝ) (P : S1x16384x2816.Idx → ℝ) (W : S1024x1024.Idx → ℝ) (G : S1024.Idx → ℝ) (M D : S1x16384x1024.Idx → ℝ)

/-- The reference's cotangent of the projected rows, on real arrays. -/
theorem refDM_eq (a : Fin 16384) (b : Fin 1024) :
    refDM (fun i => (M i : EReal)) (refDN (fun i => (D i : EReal)) (fun i => (G i : EReal))) (ix3 0 a b) = (dm M D G a b : EReal) := by
  have hD : ∀ k, refDN (fun i => (D i : EReal)) (fun i => (G i : EReal)) (ix3 0 a k) = ((D (ix3 0 a k) * G (ix1 k) : ℝ) : EReal) := fun k => by
    rw [refDN_at, EReal.coe_mul]
  rw [refDM_at, refCB_at, refC_at]
  simp only [refV_at, hD, word_1024, word_eps, word_neg_half]
  rw [rms_eq (by norm_num)]
  simp only [← EReal.coe_mul, coe_sum]
  have hv := sq_pos (N := 1024) (by norm_num) fun k => M (ix3 0 a k)
  rw [div_coe_coe (by norm_num) (∑ k, M (ix3 0 a k) * M (ix3 0 a k)), ← EReal.coe_add, div_coe_coe hv.ne']
  simp only [← EReal.coe_mul]
  rw [div_coe_coe (by norm_num)]
  simp only [← EReal.coe_mul, ← EReal.coe_add]
  exact congrArg (fun r : ℝ => (r : EReal)) (rmsBwd_vjp (by norm_num) (fun k => M (ix3 0 a k)) (fun k => D (ix3 0 a k) * G (ix1 k)) b)

/-- The reference's terms on real arrays. -/
abbrev dmT : FVec Ideal S1x16384x1024 .f32 := refDM (fun i => (M i : EReal)) (refDN (fun i => (D i : EReal)) (fun i => (G i : EReal)))
abbrev dcT : FVec Ideal S1x16384x1024 .f32 := refDC (dmT G M D) (fun i => (W i : EReal))

theorem refDC_eq (a : Fin 16384) (b : Fin 1024) :
    dcT W G M D (ix3 0 a b) = (dcat M D G W a b : EReal) := by
  rw [dcT, refDC_at, dcat, ← coe_sum]
  exact Finset.sum_congr rfl fun k _ => by rw [EReal.coe_mul]; exact congrArg (· * _) (refDM_eq G M D a k)

theorem r0_eq : r0 (dmT G M D) = o7 G M D := by
  funext i
  obtain ⟨a, b, rfl⟩ : ∃ (a : Fin 16384) (b : Fin 1024), i = ix2 a b := ⟨i 0, i 1, eq_ix2 i⟩
  exact (r0_at _ a b).trans (refDM_eq G M D a b)
theorem r1_eq : r1 (dcT W G M D) (refX (fun i => (P i : EReal))) = o8 P W G M D := by
  funext i
  obtain ⟨e, a, rfl⟩ : ∃ (e : Fin 512) (a : Fin 16384), i = ix2 e a := ⟨i 0, i 1, eq_ix2 i⟩
  rw [r1_at, refX_at, refDC_eq, sg_host, ← EReal.coe_mul, ← EReal.coe_mul]
  rfl
theorem r2_eq : r2 (fun i => (A i : EReal)) (dcT W G M D) (refX (fun i => (P i : EReal))) = o9 A P W G M D := by
  funext i
  obtain ⟨a, e, rfl⟩ : ∃ (a : Fin 16384) (e : Fin 512), i = ix2 a e := ⟨i 0, i 1, eq_ix2 i⟩
  rw [r2_at, refX_at, refDC_eq, sg_host]
  simp only [← EReal.coe_mul, ← EReal.coe_one, ← EReal.coe_sub, ← EReal.coe_add]
  refine congrArg (fun r : ℝ => (r : EReal)) ?_
  show _ = dcat M D G W a ⟨e.val, _⟩ * A (ix3 0 a e) * (sg (P (ix3 0 a ⟨768 + e.val, _⟩)) * (1 + P (ix3 0 a ⟨768 + e.val, _⟩) * (1 - sg (P (ix3 0 a ⟨768 + e.val, _⟩)))))
  ring
theorem r3_eq : r3 (dcT W G M D) = o10 W G M D := by
  funext i
  obtain ⟨a, e, rfl⟩ : ∃ (a : Fin 16384) (e : Fin 256), i = ix2 a e := ⟨i 0, i 1, eq_ix2 i⟩
  exact (r3_at _ a e).trans (refDC_eq W G M D a _)
theorem r4_eq : r4 (dcT W G M D) = o11 W G M D := by
  funext i
  obtain ⟨a, e, rfl⟩ : ∃ (a : Fin 16384) (e : Fin 256), i = ix2 a e := ⟨i 0, i 1, eq_ix2 i⟩
  exact (r4_at _ a e).trans (refDC_eq W G M D a _)
theorem r5_eq (X D : FVec Ideal S1x16384x1024 .f32) : refDG X D = o12 X D := by
  funext i
  obtain ⟨b, rfl⟩ : ∃ (b : Fin 1024), i = ix2 0 b := ⟨i 1, by idx_ext⟩
  rw [refDG_at]
  refine Finset.sum_congr rfl fun a _ => ?_
  rw [mul_comm, refV_at]
  rfl
end Reference

/-! ## The claim -/

theorem real_args (a0 : FVec Ideal Cert.Pre_finite_out_bwd.S1x16384x512 .f32) (a1 : FVec Ideal Cert.Pre_finite_out_bwd.S1x16384x2816 .f32)
    (a2 a3 : FVec Ideal Cert.Pre_finite_out_bwd.S1x16384x256 .f32) (a4 : FVec Ideal Cert.Pre_finite_out_bwd.S1024x1024 .f32)
    (a5 : FVec Ideal Cert.Pre_finite_out_bwd.S1024 .f32) (a6 : FVec Ideal Cert.Pre_finite_out_bwd.S1x16384x1024 .f32)
    (h : Cert.Pre_finite_out_bwd.fn (F := Ideal) a0 a1 a2 a3 a4 a5 a6 = fun _ => 1#1) :
    a0 = (fun i => ((a0 i).toReal : EReal)) ∧ a1 = (fun i => ((a1 i).toReal : EReal)) ∧ a2 = (fun i => ((a2 i).toReal : EReal))
      ∧ a3 = (fun i => ((a3 i).toReal : EReal)) ∧ a4 = (fun i => ((a4 i).toReal : EReal)) ∧ a5 = (fun i => ((a5 i).toReal : EReal))
      ∧ a6 = (fun i => ((a6 i).toReal : EReal)) := by
  have h := congrFun h ix0
  unfold Cert.Pre_finite_out_bwd.fn Cert.Pre_finite_out_bwd.fn_part1 at h
  simp only [andi_apply, and_true_iff] at h
  obtain ⟨⟨⟨⟨⟨⟨h0, h1⟩, h2⟩, h3⟩, h4⟩, h5⟩, h6⟩ := h
  exact ⟨real_of_all a0 _ (fun _ => word_inf) _ _ _ (by decide) _ h0, real_of_all a1 _ (fun _ => word_inf) _ _ _ (by decide) _ h1,
    real_of_all a2 _ (fun _ => word_inf) _ _ _ (by decide) _ h2, real_of_all a3 _ (fun _ => word_inf) _ _ _ (by decide) _ h3,
    real_of_all a4 _ (fun _ => word_inf) _ _ _ (by decide) _ h4, real_of_all a5 _ (fun _ => word_inf) _ _ _ (by decide) _ h5,
    real_of_all a6 _ (fun _ => word_inf) _ _ _ (by decide) _ h6⟩

section Join
open Cert.OutBwdIdeal Cert.OutBwdIdeal.Gen
variable (m : (ℓ : Loc nD τ sig) → Buf (Elt Ideal) ℓ) (c : Dev nD)

abbrev dmM : FVec Ideal S1x16384x1024 .f32 := refDM (mixM m c) (refDN (m ((c.tc : Thread nD τ).loc main_arg6)) (m ((c.tc : Thread nD τ).loc main_arg5)))
abbrev dcM : FVec Ideal S1x16384x1024 .f32 := refDC (dmM m c) (m ((c.tc : Thread nD τ).loc main_arg4))

/-- Every result: the reference's term over the kernel's arguments is the kernel's array. -/
theorem all_eq (hpre : Cert.Pre_OutBwdIdeal_finite_out_bwd m) :
    r0 (dmM m c) = (dats m 0 c).arrAt 7 cfg0.N
    ∧ r1 (dcM m c) (refX (m ((c.tc : Thread nD τ).loc main_arg1))) = (dats m 0 c).arrAt 8 cfg0.N
    ∧ r2 (m ((c.tc : Thread nD τ).loc main_arg0)) (dcM m c) (refX (m ((c.tc : Thread nD τ).loc main_arg1))) = (dats m 0 c).arrAt 9 cfg0.N
    ∧ r3 (dcM m c) = (dats m 0 c).arrAt 10 cfg0.N ∧ r4 (dcM m c) = (dats m 0 c).arrAt 11 cfg0.N := by
  obtain ⟨h0, h1, h2, h3, h4, h5, h6⟩ := real_args _ _ _ _ _ _ _ (hpre c)
  obtain ⟨M, hM⟩ := mixT_real _ _ _ _ _ h0 h1 h2 h3 h4
  have hdm : dmM m c = dmT (fun i => _) M (fun i => _) := congrArg₂ refDM hM (congrArg₂ refDN h6 h5)
  have hdc : dcM m c = dcT (fun i => _) (fun i => _) M (fun i => _) := congrArg₂ refDC hdm h4
  have hx := congrArg refX h1
  refine ⟨?_, ?_, ?_, ?_, ?_⟩
  · exact (congrArg r0 hdm).trans ((r0_eq _ _ _).trans (final7 m c _ M _ hM h5 h6).symm)
  · exact (congrArg₂ r1 hdc hx).trans ((r1_eq _ _ _ _ _).trans (final8 m c _ _ _ M _ hM h1 h4 h5 h6).symm)
  · exact (congr (congrArg₂ r2 h0 hdc) hx).trans ((r2_eq _ _ _ _ _ _).trans (final9 m c _ _ _ _ M _ hM h0 h1 h4 h5 h6).symm)
  · exact (congrArg r3 hdc).trans ((r3_eq _ _ _ _).trans (final10 m c _ _ M _ hM h4 h5 h6).symm)
  · exact (congrArg r4 hdc).trans ((r4_eq _ _ _ _).trans (final11 m c _ _ M _ hM h4 h5 h6).symm)
end Join

set_option maxHeartbeats 4000000 in
/-- The kernel's six results are the vector-Jacobian product's. -/
theorem algebraic : Cert.algebraic_OutBwdIdeal_OutBwdRefIdeal_pre_finite_out_bwd := by
  pair_intro
  · run_from Cert.OutBwdIdeal.Value.run_blocks m g
  · run_from Cert.OutBwdRefIdeal.Value.run m' g'
    all_goals
      obtain ⟨h0, h1, h2, h3, h4, h5, h6⟩ := hagree c
      obtain ⟨k0, k1, k2, k3, k4⟩ := all_eq m c hpre
    · refine Eq.trans ?_ k0
      unfold dmM mixM
      rw [← h0, ← h1, ← h2, ← h3, ← h4, ← h5, ← h6]
      rfl
    · refine Eq.trans ?_ k1
      unfold dcM dmM mixM
      rw [← h0, ← h1, ← h2, ← h3, ← h4, ← h5, ← h6]
      rfl
    · refine Eq.trans ?_ k2
      unfold dcM dmM mixM
      rw [← h0, ← h1, ← h2, ← h3, ← h4, ← h5, ← h6]
      rfl
    · refine Eq.trans ?_ k3
      unfold dcM dmM mixM
      rw [← h0, ← h1, ← h2, ← h3, ← h4, ← h5, ← h6]
      rfl
    · refine Eq.trans ?_ k4
      unfold dcM dmM mixM
      rw [← h0, ← h1, ← h2, ← h3, ← h4, ← h5, ← h6]
      rfl
    · refine Eq.trans ?_ (final12 m c).symm
      refine Eq.trans ?_ (r5_eq _ _)
      unfold mixM
      rw [← h0, ← h1, ← h2, ← h3, ← h4, ← h6]
      rfl

/-- The reference's frame: it is host operations alone, none of which writes an argument, and it declares no semaphore. -/
theorem frame_ref : Cert.quiescent_OutBwdRefIdeal := fun m ρ _ =>
  (θ_run Cert.OutBwdRefIdeal.defs _ _).mono
    (fun r h => ⟨fun c => (h c).2.2.2.2.2.2, sem_eq_zero_of_no_sems (by decide) r.2⟩)
    (Cert.OutBwdRefIdeal.Value.run (F := Ideal) m ρ)

end Cert.OutBwdClaims

end
-- ==== Proof.AttnFrame.lean ====
/- The frame of the attention backward over the machine's words: the launch ends, its arguments unchanged. Nothing is said of what
   the result blocks hold; that is read off the same body, with its constant named, in the value's modules. -/
module

public import proofs.«01_k».proof.Proof.Gen.AttnBwd.Loops
public import proofs.«01_k».proof.Proof.Gen.AttnBwd.Frame
public import Idealize.ShloMosaic.Lib.Claim

@[expose] public section

set_option maxRecDepth 16384

noncomputable section

namespace Cert.AttnBwdFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnBwd Cert.AttnBwd.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The branch's condition: the point is its head group's first. -/
abbrev cond0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1

set_option maxHeartbeats 4000000 in
/-- The body at any point leaves its inputs as they are, whichever way its branch goes. -/
theorem run_body (c : Dev nD) (i : grid0.Coords) (arg3 : Memref sig .tc .vmem S2x512x64 .bf16) (harg3 : arg3.IsWhole) (arg4 : Memref sig .tc .vmem S2x64x512 .bf16) (harg4 : arg4.IsWhole) (arg5 : Memref sig .tc .vmem S2x64x512 .f32) (harg5 : arg5.IsWhole) (arg6 : Memref sig .tc .vmem S2x64x512 .f32) (harg6 : arg6.IsWhole) (arg7 : Memref sig .tc .vmem S2x1x512 .f32) (harg7 : arg7.IsWhole) (arg8 : Memref sig .tc .vmem S1x32x512x64 .bf16) (harg8 : arg8.IsWhole) (arg9 : Memref sig .tc .vmem S1x32x64x512 .bf16) (harg9 : arg9.IsWhole) (arg10 : Memref sig .tc .vmem S1x32x64x512 .bf16) (harg10 : arg10.IsWhole) (arg11 : Memref sig .tc .vmem S2x512x64 .f32) (harg11 : arg11.IsWhole) (arg12 : Memref sig .tc .vmem S1x32x64x512 .f32) (harg12 : arg12.IsWhole) (arg13 : Memref sig .tc .vmem S1x32x64x512 .f32) (harg13 : arg13.IsWhole) (arg14 : Memref sig .tc .vmem S2x2x512x512 .f32) (harg14 : arg14.IsWhole) (arg15 : Memref sig .tc .vmem S2x2x512x512 .bf16) (harg15 : arg15.IsWhole) (x0 : Vec F S2x512x64 .bf16) (x1 : Vec F S2x64x512 .bf16) (x2 : Vec F S2x64x512 .f32) (x3 : Vec F S2x64x512 .f32) (x4 : Vec F S2x1x512 .f32) (x5 : Vec F S1x32x512x64 .bf16) (x6 : Vec F S1x32x64x512 .bf16) (x7 : Vec F S1x32x64x512 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
    ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15) K := by
  simp only [cc0_attn_bwd_eq_skeleton]; unfold cc0_attn_bwd_skel
  simp only [k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg9.eq_unread hf6
  obtain rfl := harg10.eq_unread hf7
  by_cases hc : cond0 i
  · sl_exec (disch := sl_exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; iexists _; isplitr
      swap; · iexact H8
      ipureintro; rfl
    isplitl [H9]
    · iexists _; iexists _; isplitr
      swap; · iexact H9
      ipureintro; rfl
    isplitl [H10]
    · iexists _; iexists _; isplitr
      swap; · iexact H10
      ipureintro; rfl
    isplitl [H11]
    · iexists _; iexists _; isplitr
      swap; · iexact H11
      ipureintro; rfl
    iexists _; iexists _; isplitr
    swap; · iexact H12
    ipureintro; rfl
  · sl_exec (disch := sl_exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; iexists _; isplitr
      swap; · iexact H8
      ipureintro; rfl
    isplitl [H9]
    · iexists _; iexists _; isplitr
      swap; · iexact H9
      ipureintro; rfl
    isplitl [H10]
    · iexists _; iexists _; isplitr
      swap; · iexact H10
      ipureintro; rfl
    isplitl [H11]
    · iexists _; iexists _; isplitr
      swap; · iexact H11
      ipureintro; rfl
    iexists _; iexists _; isplitr
    swap; · iexact H12
    ipureintro; rfl

abbrev ms0 (t : Fin cfg0.N) : Memref sig .tc .vmem S2x512x64 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2x64x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2x64x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2x64x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2x1x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x32x512x64 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x32x64x512 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x32x64x512 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S2x512x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x32x64x512 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x32x64x512 .f32 := win0_10.stage (cfg0.slots t 10)
abbrev hs10 (t : Fin cfg0.N) : (ms10 t).IsWhole := hstage0_10 ((cfg0.slots t 10).cast nbuf0_10)
abbrev scM0 : Memref sig .tc .vmem S2x2x512x512 .f32 := Memref.whole cc0_scratch0
abbrev scM1 : Memref sig .tc .vmem S2x2x512x512 .bf16 := Memref.whole cc0_scratch1

/-- Between points the launch keeps the two scratches and the random generator's register, at some contents. -/
theorem Phi_eq (c : Dev nD) :
    (Pipeline.ΦA spec0 c : sProp 𝕄) = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The three result windows: nothing is said of them. -/
def forgets : Fin 11 → Bool := fun w => decide (8 ≤ w.val)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Pipeline.Dat.unnamed (cfg := cfg0) 8 t
    | ⟨9, _⟩ => Pipeline.Dat.unnamed (cfg := cfg0) 9 t
    | ⟨10, _⟩ => Pipeline.Dat.unnamed (cfg := cfg0) 10 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare d)
    ∗ (∃ d, owns (c : Thread nD τ) (ms9 t) fullShare d)
    ∗ (∃ d, owns (c : Thread nD τ) (ms10 t) fullShare d))

/-- and what it gives back. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ (∃ d, owns (c : Thread nD τ) (ms8 t) fullShare d)
    ∗ (∃ d, owns (c : Thread nD τ) (ms9 t) fullShare d)
    ∗ (∃ d, owns (c : Thread nD τ) (ms10 t) fullShare d))

set_option maxHeartbeats 1600000 in
/-- The body at any point keeps the launch's data. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7]
  rw [show (dats m 0 c).Φ t.castSucc = Pipeline.ΦA spec0 c from rfl, Phi_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10⟩
  iapply (run_body c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro ⟨H0, H1, H2, H3, H4, H5, H6, H7, H8, H9, H10, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch ends, every buffer that no window writes as the region found it, every semaphore at zero. -/
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame of the kernel as printed: its arguments end as they began. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.AttnBwdFrame

end
-- ==== Proof.AttnTrip.lean ====
/- One trip of the attention backward's loop over the key blocks, in words: four blocks of scores, each read out of the slot
   the block before left it in, added into the three gradients. -/
module

public import proofs.«01_k».proof.Proof.Gen.AttnBwdIdeal.Loops
public import Idealize.ShloMosaic.Lib.WritesUnit
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.ShloMosaic.Tactic Idealize.SL.Sem

namespace Cert.AttnBwdClaims

open Cert.AttnBwdIdeal Cert.AttnBwdIdeal.Gen

variable {F : FTy → Type} [FloatOps F] [Named F]

/-- Block `j` of an array of 32 blocks of 64 rows; past the last block, the last. -/
def col {α : Type} (x : S1x32x64x512.Idx → α) (j : ℕ) : S64x512.Idx → α :=
  fun y => x (ix4 0 ⟨min j 31, by omega⟩ (y 0) (y 1))

/-- Block `j` of an array of 32 blocks of 512 rows; past the last block, the last. -/
def row {α : Type} (x : S1x32x512x64.Idx → α) (j : ℕ) : S512x64.Idx → α :=
  fun y => x (ix4 0 ⟨min j 31, by omega⟩ (y 0) (y 1))

theorem load_col {e : EltTy} (v : View sig .tc .vmem S1x32x64x512 e) (off : Fin 4 → ℕ) (inb) (f : v.ty.Contents (Elt F)) (h) (j : ℕ)
    (ho : off = ![0, min j 31, 0, 0]) :
    shapeCast S64x512 (v.readAt (Elt F) (Rect.unit (s := S1x32x64x512) off S1x1x64x512.size inb).toLoadRect f) h = col (v.read (Elt F) f) j := by
  subst ho
  funext y
  obtain ⟨a, b, rfl⟩ : ∃ (a : Fin 64) (b : Fin 512), y = ix2 a b := ⟨y 0, y 1, eq_ix2 y⟩
  rw [shapeCast_apply _ h (ix2 a b) (ix4 0 0 a b) (show (S1x1x64x512.rowMajor (ix4 0 0 a b)).val = (S64x512.rowMajor (ix2 a b)).val by
    rw [rowMajor_val4 (ix4 0 0 a b) _ _ _ rfl rfl rfl, rowMajor_val2 (ix2 a b) _ rfl]; simp [ix4, ix2])]
  refine congrArg (v.read (Elt F) f) (funext fun x => Fin.ext ?_)
  fin_cases x <;> simp [LoadRect.idx, Rect.toLoadRect, Rect.unit, ix4] <;> rfl

theorem load_row {e : EltTy} (v : View sig .tc .vmem S1x32x512x64 e) (off : Fin 4 → ℕ) (inb) (f : v.ty.Contents (Elt F)) (h) (j : ℕ)
    (ho : off = ![0, min j 31, 0, 0]) :
    shapeCast S512x64 (v.readAt (Elt F) (Rect.unit (s := S1x32x512x64) off S1x1x512x64.size inb).toLoadRect f) h = row (v.read (Elt F) f) j := by
  subst ho
  funext y
  obtain ⟨a, b, rfl⟩ : ∃ (a : Fin 512) (b : Fin 64), y = ix2 a b := ⟨y 0, y 1, eq_ix2 y⟩
  rw [shapeCast_apply _ h (ix2 a b) (ix4 0 0 a b) (show (S1x1x512x64.rowMajor (ix4 0 0 a b)).val = (S512x64.rowMajor (ix2 a b)).val by
    rw [rowMajor_val4 (ix4 0 0 a b) _ _ _ rfl rfl rfl, rowMajor_val2 (ix2 a b) _ rfl]; simp [ix4, ix2])]
  refine congrArg (v.read (Elt F) f) (funext fun x => Fin.ext ?_)
  fin_cases x <;> simp [LoadRect.idx, Rect.toLoadRect, Rect.unit, ix4] <;> rfl

theorem off1_at : ∀ k : Fin k0_t1_loop.trips, k0_off1 k 0#32 = ![0, min (4 * k.val + 1) 31, 0, 0] ∧ k0_off1 k 1#32 = ![0, min (4 * k.val + 2) 31, 0, 0]
    ∧ k0_off1 k 2#32 = ![0, min (4 * k.val + 3) 31, 0, 0] ∧ k0_off4 k = ![0, min (4 * k.val + 4) 31, 0, 0] := by decide +kernel

theorem off2_at : ∀ k : Fin k0_t1_loop.trips, k0_off2 k 0#32 = ![0, min (4 * k.val) 31, 0, 0] ∧ k0_off2 k 1#32 = ![0, min (4 * k.val + 1) 31, 0, 0]
    ∧ k0_off2 k 2#32 = ![0, min (4 * k.val + 2) 31, 0, 0] ∧ k0_off2 k 3#32 = ![0, min (4 * k.val + 3) 31, 0, 0] := by decide +kernel

theorem off3_at : ∀ k : Fin k0_t1_loop.trips, k0_off3 k 0#32 = ![0, min (4 * k.val) 31, 0, 0] ∧ k0_off3 k 1#32 = ![0, min (4 * k.val + 1) 31, 0, 0]
    ∧ k0_off3 k 2#32 = ![0, min (4 * k.val + 2) 31, 0, 0] ∧ k0_off3 k 3#32 = ![0, min (4 * k.val + 3) 31, 0, 0] := by decide +kernel

/-! ## One block of scores -/

/-- What the body keeps of a block's scores in its first scratch. -/
def slotS (q : FVec F S512x64 .bf16) (kt : FVec F S64x512 .bf16) : FVec F S1x1x512x512 .f32 :=
  shapeCast S1x1x512x512 (matmul dot_S512x64_S64x512_S512x512_1_0_0_1_n_n none q kt (constant S512x512 .f32 0x00000000#32)) shapeCasts_S512x512_S1x1x512x512

/-- What the body keeps of a block's score cotangents in its second scratch. -/
def slotP (d : FVec F S512x64 .bf16) (vt : FVec F S64x512 .bf16) : FVec F S1x1x512x512 .bf16 :=
  shapeCast S1x1x512x512 (truncf .bf16 (matmul dot_S512x64_S64x512_S512x512_1_0_0_1_n_n none d vt (constant S512x512 .f32 0x00000000#32)) bitsLt_bf16_f32) shapeCasts_S512x512_S1x1x512x512

/-- The probabilities of a block: two to the scores less the saved logarithm. -/
def prob (l : FVec F S512x1 .f32) (s : FVec F S1x1x512x512 .f32) : FVec F S512x512 .f32 :=
  exp2 (subf (shapeCast S512x512 s shapeCasts_S1x1x512x512_S512x512) (broadcastTo S512x512 l broadcasts_S512x1_S512x512))

/-- The score gradient of a block. -/
def dscore (e l : FVec F S512x1 .f32) (s : FVec F S1x1x512x512 .f32) (g : FVec F S1x1x512x512 .bf16) : FVec F S512x512 .bf16 :=
  truncf .bf16 (mulf (prob l s) (subf (extf .f32 (shapeCast S512x512 g shapeCasts_S1x1x512x512_S512x512) bitsLt_bf16_f32) (broadcastTo S512x512 e broadcasts_S512x1_S512x512))) bitsLt_bf16_f32

/-- A sum of two heads' products, from zero. -/
def pairB (a0 a1 : FVec F S64x512 .bf16) (b0 b1 : FVec F S512x512 .bf16) : FVec F S64x512 .f32 :=
  addf (addf (broadcast S64x512 (Scalar.ofBits .f32 0x00000000#32))
    (matmul dot_S64x512_S512x512_S64x512_1_0_0_1_n_n none a0 b0 (constant S64x512 .f32 0x00000000#32)))
    (matmul dot_S64x512_S512x512_S64x512_1_0_0_1_n_n none a1 b1 (constant S64x512 .f32 0x00000000#32))

/-- What one grid point's body computes from: both heads' queries, transposed queries, transposed cotangents, cotangents, the row
    sums and logarithms, and the keys and values of the head group. -/
structure Pt (F : FTy → Type) where
  (q0 q1 : FVec F S512x64 .bf16)
  (r0 r1 t0 t1 : FVec F S64x512 .bf16)
  (d0 d1 : FVec F S512x64 .bf16)
  (e0 e1 l0 l1 : FVec F S512x1 .f32)
  (kr : FVec F S1x32x512x64 .bf16)
  (kt vt : FVec F S1x32x64x512 .bf16)

namespace Pt

def s0 (p : Pt F) (j : ℕ) := slotS p.q0 (col p.kt j)
def s1 (p : Pt F) (j : ℕ) := slotS p.q1 (col p.kt j)
def g0 (p : Pt F) (j : ℕ) := slotP p.d0 (col p.vt j)
def g1 (p : Pt F) (j : ℕ) := slotP p.d1 (col p.vt j)
def ds0 (p : Pt F) (j : ℕ) := dscore p.e0 p.l0 (p.s0 j) (p.g0 j)
def ds1 (p : Pt F) (j : ℕ) := dscore p.e1 p.l1 (p.s1 j) (p.g1 j)

/-- Block `j`'s addition to the value gradient. -/
def dv (p : Pt F) (j : ℕ) : FVec F S64x512 .f32 :=
  pairB p.t0 p.t1 (truncf .bf16 (prob p.l0 (p.s0 j)) bitsLt_bf16_f32) (truncf .bf16 (prob p.l1 (p.s1 j)) bitsLt_bf16_f32)

/-- Block `j`'s addition to the key gradient. -/
def dk (p : Pt F) (j : ℕ) : FVec F S64x512 .f32 := pairB p.r0 p.r1 (p.ds0 j) (p.ds1 j)

/-- The query gradient of a head over the first `n` blocks, from `z`. -/
def dq (z : FVec F S512x64 .f32) (ds : ℕ → FVec F S512x512 .bf16) (kr : FVec F S1x32x512x64 .bf16) : ℕ → FVec F S512x64 .f32
  | 0 => z
  | n + 1 => addf (dq z ds kr n) (matmul dot_S512x512_S512x64_S512x64_1_0_0_1_n_n none (ds n) (row kr n) (constant S512x64 .f32 0x00000000#32))

def dq0 (p : Pt F) : ℕ → FVec F S512x64 .f32 := dq (k0_pay103 (F := F)) p.ds0 p.kr
def dq1 (p : Pt F) : ℕ → FVec F S512x64 .f32 := dq (k0_pay104 (F := F)) p.ds1 p.kr

/-- The gradient array of 32 blocks after the first `n` have had `g` added. -/
def upd (g : ℕ → FVec F S64x512 .f32) (n : ℕ) (x : FVec F S1x32x64x512 .f32) : FVec F S1x32x64x512 .f32 :=
  fun y => if (y 1).val < n then addf (col x (y 1).val) (g (y 1).val) (ix2 (y 2) (y 3)) else x y

end Pt

/-- A slot of either scratch. -/
abbrev slot (a b : ℕ) (inb : ∀ q, (![a, b, 0, 0] : Fin 4 → ℕ) q + S1x1x512x512.size q ≤ S2x2x512x512.size q) : LoadRect S2x2x512x512 := (Rect.unit (s := S2x2x512x512) ![a, b, 0, 0] S1x1x512x512.size inb).toLoadRect

/-! ## Reading back -/

theorem col_upd (g : ℕ → FVec F S64x512 .f32) (n j : ℕ) (x : FVec F S1x32x64x512 .f32) (hj : n ≤ j) (h31 : j ≤ 31) : col (Pt.upd g n x) j = col x j := by
  funext y
  unfold col Pt.upd
  rw [if_neg]
  show ¬ min j 31 < n
  omega

/-- A matrix put back in its block of the stack keeps its elements. -/
theorem cast_back (w : FVec F S64x512 .f32) (a : Fin 64) (b : Fin 512) :
    shapeCast S1x1x64x512 w shapeCasts_S64x512_S1x1x64x512 (ix4 0 0 a b) = w (ix2 a b) :=
  shapeCast_apply _ _ _ _ (show (S64x512.rowMajor (ix2 a b)).val = (S1x1x64x512.rowMajor (ix4 0 0 a b)).val by
    rw [rowMajor_val4 (ix4 0 0 a b) _ _ _ rfl rfl rfl, rowMajor_val2 (ix2 a b) _ rfl]; simp [ix4, ix2])

/-- Four stores of one block each, each adding to what it finds, add four more blocks. -/
theorem read_four (v : View sig .tc .vmem S1x32x64x512 .f32) (f : v.ty.Contents (Elt F)) (k : Fin k0_t1_loop.trips) (g : ℕ → FVec F S64x512 .f32)
    (X : FVec F S1x32x64x512 .f32) (hX : v.read (Elt F) f = Pt.upd g (4 * k.val) X) :
    v.read (Elt F) (v.writes (Elt F) f
      [⟨Rect.unit (k0_off3 k 3#32) S1x1x64x512.size (k0_off3_inb k 3), shapeCast S1x1x64x512 (addf (shapeCast S64x512 (v.readAt (Elt F) (Rect.unit (s := S1x32x64x512) (k0_off3 k 3#32) S1x1x64x512.size (k0_off3_inb k 3)).toLoadRect f) shapeCasts_S1x1x64x512_S64x512) (g (4 * k.val + 3))) shapeCasts_S64x512_S1x1x64x512⟩,
        ⟨Rect.unit (k0_off3 k 2#32) S1x1x64x512.size (k0_off3_inb k 2), shapeCast S1x1x64x512 (addf (shapeCast S64x512 (v.readAt (Elt F) (Rect.unit (s := S1x32x64x512) (k0_off3 k 2#32) S1x1x64x512.size (k0_off3_inb k 2)).toLoadRect f) shapeCasts_S1x1x64x512_S64x512) (g (4 * k.val + 2))) shapeCasts_S64x512_S1x1x64x512⟩,
        ⟨Rect.unit (k0_off3 k 1#32) S1x1x64x512.size (k0_off3_inb k 1), shapeCast S1x1x64x512 (addf (shapeCast S64x512 (v.readAt (Elt F) (Rect.unit (s := S1x32x64x512) (k0_off3 k 1#32) S1x1x64x512.size (k0_off3_inb k 1)).toLoadRect f) shapeCasts_S1x1x64x512_S64x512) (g (4 * k.val + 1))) shapeCasts_S64x512_S1x1x64x512⟩,
        ⟨Rect.unit (k0_off3 k 0#32) S1x1x64x512.size (k0_off3_inb k 0), shapeCast S1x1x64x512 (addf (shapeCast S64x512 (v.readAt (Elt F) (Rect.unit (s := S1x32x64x512) (k0_off3 k 0#32) S1x1x64x512.size (k0_off3_inb k 0)).toLoadRect f) shapeCasts_S1x1x64x512_S64x512) (g (4 * k.val))) shapeCasts_S64x512_S1x1x64x512⟩])
      = Pt.upd g (4 * k.val + 4) X := by
  have hk : k.val < 8 := Nat.lt_of_lt_of_le k.isLt k0_t1_abs.2.1
  obtain ⟨o0, o1, o2, o3⟩ := off3_at k
  have c0 := (load_col v _ (k0_off3_inb k 0) f shapeCasts_S1x1x64x512_S64x512 _ o0).trans (by rw [hX, col_upd _ _ _ _ (by omega) (by omega)])
  have c1 := (load_col v _ (k0_off3_inb k 1) f shapeCasts_S1x1x64x512_S64x512 _ o1).trans (by rw [hX, col_upd _ _ _ _ (by omega) (by omega)])
  have c2 := (load_col v _ (k0_off3_inb k 2) f shapeCasts_S1x1x64x512_S64x512 _ o2).trans (by rw [hX, col_upd _ _ _ _ (by omega) (by omega)])
  have c3 := (load_col v _ (k0_off3_inb k 3) f shapeCasts_S1x1x64x512_S64x512 _ o3).trans (by rw [hX, col_upd _ _ _ _ (by omega) (by omega)])
  erw [c0, c1, c2, c3]
  funext y
  have step : ∀ (r : ℕ) (o : Fin 4 → ℕ) (io) (L : List (View.Piece (Elt F) S1x32x64x512 .f32)) (hr : r < 32) (ho : o = ![0, min r 31, 0, 0]),
      v.read (Elt F) (v.writes (Elt F) f (⟨Rect.unit (s := S1x32x64x512) o S1x1x64x512.size io, shapeCast S1x1x64x512 (addf (col X r) (g r)) shapeCasts_S64x512_S1x1x64x512⟩ :: L)) y
        = if (y 1).val = r then addf (col X (y 1).val) (g (y 1).val) (ix2 (y 2) (y 3)) else v.read (Elt F) (v.writes (Elt F) f L) y := by
    intro r o io L hr ho
    subst ho
    have y0 : (y 0).val < 1 := (y 0).isLt
    split_ifs with hy
    · rw [hy]
      refine (View.read_writes_cons_unit_of_mem v f io _ L y (ix4 0 0 (y 2) (y 3)) rfl fun a => ?_).trans ?_
      · fin_cases a
        · show (y 0).val = 0 + 0; omega
        · show (y 1).val = min r 31 + 0; omega
        · show (y 2).val = 0 + (y 2).val; omega
        · show (y 3).val = 0 + (y 3).val; omega
      · exact cast_back _ (y 2) (y 3)
    · refine View.read_writes_cons_unit_of_not_mem v f io _ L y rfl 1 ?_
      show (y 1).val < min r 31 ∨ min r 31 + 1 ≤ (y 1).val
      omega
  refine (step _ _ _ _ (by omega) o3).trans ?_
  rw [step _ _ _ _ (by omega) o2, step _ _ _ _ (by omega) o1, step _ _ _ _ (by omega) o0]
  show _ = if (y 1).val < 4 * k.val + 4 then addf (col X (y 1).val) (g (y 1).val) (ix2 (y 2) (y 3)) else X y
  have hX' : v.read (Elt F) (v.writes (Elt F) f []) y = if (y 1).val < 4 * k.val then addf (col X (y 1).val) (g (y 1).val) (ix2 (y 2) (y 3)) else X y :=
    congrFun hX y
  rw [hX']
  split_ifs <;> first | rfl | (exfalso; omega)

theorem read_first {e : EltTy} (v : View sig .tc .vmem S2x2x512x512 e) (f : v.ty.Contents (Elt F)) (i1 j1) (w : S1x1x512x512.Idx → Elt F e) (L) :
    v.readAt (Elt F) (slot 0 1 j1) (v.writes (Elt F) f (⟨Rect.unit (s := S2x2x512x512) ![0, 1, 0, 0] S1x1x512x512.size i1, w⟩ :: L)) = w := by
  funext x
  exact View.read_writes_cons_unit_of_mem v f i1 w L _ x rfl fun a => by
    show _ + 1 * (x a).val = _
    rw [Nat.one_mul]; rfl

theorem read_second {e : EltTy} (v : View sig .tc .vmem S2x2x512x512 e) (f : v.ty.Contents (Elt F)) (i0 i1 j0) (w w' : S1x1x512x512.Idx → Elt F e) (L) :
    v.readAt (Elt F) (slot 0 0 j0) (v.writes (Elt F) f (⟨Rect.unit (s := S2x2x512x512) ![0, 1, 0, 0] S1x1x512x512.size i1, w'⟩
      :: ⟨Rect.unit (s := S2x2x512x512) ![0, 0, 0, 0] S1x1x512x512.size i0, w⟩ :: L)) = w := by
  funext x
  refine (View.read_writes_cons_unit_of_not_mem v f i1 w' _ _ rfl 1 (Or.inl ?_)).trans
    (View.read_writes_cons_unit_of_mem v f i0 w L _ x rfl fun a => by
      show _ + 1 * (x a).val = _
      rw [Nat.one_mul]; rfl)
  show 0 + 1 * (x 1).val < 1
  have : (x 1).val < 1 := (x 1).isLt
  omega

section Trip

variable (𝒱 : Variants) (c : Dev nD) (bd : Option 𝒱.V) (i : grid0.Coords) (arg3 : Memref sig .tc .vmem S2x512x64 .bf16) (harg3 : arg3.IsWhole) (arg4 : Memref sig .tc .vmem S2x64x512 .bf16) (harg4 : arg4.IsWhole) (arg5 : Memref sig .tc .vmem S2x64x512 .f32) (harg5 : arg5.IsWhole) (arg6 : Memref sig .tc .vmem S2x64x512 .f32) (harg6 : arg6.IsWhole) (arg7 : Memref sig .tc .vmem S2x1x512 .f32) (harg7 : arg7.IsWhole) (arg8 : Memref sig .tc .vmem S1x32x512x64 .bf16) (harg8 : arg8.IsWhole) (arg9 : Memref sig .tc .vmem S1x32x64x512 .bf16) (harg9 : arg9.IsWhole) (arg10 : Memref sig .tc .vmem S1x32x64x512 .bf16) (harg10 : arg10.IsWhole) (arg11 : Memref sig .tc .vmem S2x512x64 .f32) (harg11 : arg11.IsWhole) (arg12 : Memref sig .tc .vmem S1x32x64x512 .f32) (harg12 : arg12.IsWhole) (arg13 : Memref sig .tc .vmem S1x32x64x512 .f32) (harg13 : arg13.IsWhole) (arg14 : Memref sig .tc .vmem S2x2x512x512 .f32) (harg14 : arg14.IsWhole) (arg15 : Memref sig .tc .vmem S2x2x512x512 .bf16) (harg15 : arg15.IsWhole)
  (p : Pt F) (v58 : FVec F S64x512 .bf16) (v60 : FVec F S64x512 .bf16) (v61 : FVec F S512x512 .f32)
  (X_arg8 : BufTy.Contents (Elt F) arg8.view.ty) (X_arg9 : BufTy.Contents (Elt F) arg9.view.ty) (X_arg10 : BufTy.Contents (Elt F) arg10.view.ty)
  (f12 : BufTy.Contents (Elt F) arg12.view.ty) (f13 : BufTy.Contents (Elt F) arg13.view.ty) (f14 : BufTy.Contents (Elt F) arg14.view.ty) (f15 : BufTy.Contents (Elt F) arg15.view.ty)
  (k : Fin k0_t1_loop.trips)
  (h8 : arg8.view.read (Elt F) X_arg8 = p.kr) (h9 : arg9.view.read (Elt F) X_arg9 = p.kt) (h10 : arg10.view.read (Elt F) X_arg10 = p.vt)
  (i0 i1) (hs0 : arg14.view.readAt (Elt F) (slot 0 0 i0) f14 = p.s0 (4 * k.val)) (hs1 : arg14.view.readAt (Elt F) (slot 0 1 i1) f14 = p.s1 (4 * k.val))
  (hg0 : arg15.view.readAt (Elt F) (slot 0 0 i0) f15 = p.g0 (4 * k.val)) (hg1 : arg15.view.readAt (Elt F) (slot 0 1 i1) f15 = p.g1 (4 * k.val))

include h9 in
/-- The first scratch's slots, read back within the trip. -/
theorem reads14 : trip_k0_t1.sl.v211 arg9 arg14 p.q0 p.q1 X_arg9 k = p.s0 (4 * k.val + 1) ∧ trip_k0_t1.sl.v230 arg9 arg14 p.q0 p.q1 X_arg9 k = p.s1 (4 * k.val + 1)
    ∧ trip_k0_t1.sl.v299 arg9 arg14 p.q0 p.q1 X_arg9 k = p.s0 (4 * k.val + 2) ∧ trip_k0_t1.sl.v318 arg9 arg14 p.q0 p.q1 X_arg9 k = p.s1 (4 * k.val + 2)
    ∧ trip_k0_t1.sl.v388 arg9 arg14 p.q0 p.q1 X_arg9 k = p.s0 (4 * k.val + 3) ∧ trip_k0_t1.sl.v407 arg9 arg14 p.q0 p.q1 X_arg9 k = p.s1 (4 * k.val + 3) := by
  have e1 : trip_k0_t1.sl.v94 arg9 X_arg9 k = col p.kt (4 * k.val + 1) := (load_col arg9.view _ _ X_arg9 _ _ (off1_at k).1).trans (by rw [h9])
  have e2 : trip_k0_t1.sl.v182 arg9 X_arg9 k = col p.kt (4 * k.val + 2) := (load_col arg9.view _ _ X_arg9 _ _ (off1_at k).2.1).trans (by rw [h9])
  have e3 : trip_k0_t1.sl.v270 arg9 X_arg9 k = col p.kt (4 * k.val + 3) := (load_col arg9.view _ _ X_arg9 _ _ (off1_at k).2.2.1).trans (by rw [h9])
  unfold trip_k0_t1.sl.v211 trip_k0_t1.sl.v230 trip_k0_t1.sl.v299 trip_k0_t1.sl.v318 trip_k0_t1.sl.v388 trip_k0_t1.sl.v407
    trip_k0_t1.sl.HW_arg14_8 trip_k0_t1.sl.HW_arg14_7 trip_k0_t1.sl.HW_arg14_6 trip_k0_t1.sl.HW_arg14_5 trip_k0_t1.sl.HW_arg14_4
  simp (disch := decide +kernel) only [View.readCov_skip, View.readCov_cons_toLoadRect]
  unfold trip_k0_t1.sl.v101 trip_k0_t1.sl.v110 trip_k0_t1.sl.v189 trip_k0_t1.sl.v198 trip_k0_t1.sl.v277 trip_k0_t1.sl.v286
    trip_k0_t1.sl.v98 trip_k0_t1.sl.v107 trip_k0_t1.sl.v186 trip_k0_t1.sl.v195 trip_k0_t1.sl.v274 trip_k0_t1.sl.v283
  rw [e1, e2, e3]
  exact ⟨rfl, rfl, rfl, rfl, rfl, rfl⟩

include h10 in
/-- The second scratch's slots, read back within the trip. -/
theorem reads15 : trip_k0_t1.sl.v216 arg10 arg15 p.d0 p.d1 X_arg10 k = p.g0 (4 * k.val + 1) ∧ trip_k0_t1.sl.v235 arg10 arg15 p.d0 p.d1 X_arg10 k = p.g1 (4 * k.val + 1)
    ∧ trip_k0_t1.sl.v304 arg10 arg15 p.d0 p.d1 X_arg10 k = p.g0 (4 * k.val + 2) ∧ trip_k0_t1.sl.v323 arg10 arg15 p.d0 p.d1 X_arg10 k = p.g1 (4 * k.val + 2)
    ∧ trip_k0_t1.sl.v393 arg10 arg15 p.d0 p.d1 X_arg10 k = p.g0 (4 * k.val + 3) ∧ trip_k0_t1.sl.v412 arg10 arg15 p.d0 p.d1 X_arg10 k = p.g1 (4 * k.val + 3) := by
  have e1 : trip_k0_t1.sl.v97 arg10 X_arg10 k = col p.vt (4 * k.val + 1) := (load_col arg10.view _ _ X_arg10 _ _ (off1_at k).1).trans (by rw [h10])
  have e2 : trip_k0_t1.sl.v185 arg10 X_arg10 k = col p.vt (4 * k.val + 2) := (load_col arg10.view _ _ X_arg10 _ _ (off1_at k).2.1).trans (by rw [h10])
  have e3 : trip_k0_t1.sl.v273 arg10 X_arg10 k = col p.vt (4 * k.val + 3) := (load_col arg10.view _ _ X_arg10 _ _ (off1_at k).2.2.1).trans (by rw [h10])
  unfold trip_k0_t1.sl.v216 trip_k0_t1.sl.v235 trip_k0_t1.sl.v304 trip_k0_t1.sl.v323 trip_k0_t1.sl.v393 trip_k0_t1.sl.v412
    trip_k0_t1.sl.HW_arg15_8 trip_k0_t1.sl.HW_arg15_7 trip_k0_t1.sl.HW_arg15_6 trip_k0_t1.sl.HW_arg15_5 trip_k0_t1.sl.HW_arg15_4
  simp (disch := decide +kernel) only [View.readCov_skip, View.readCov_cons_toLoadRect]
  unfold trip_k0_t1.sl.v106 trip_k0_t1.sl.v115 trip_k0_t1.sl.v194 trip_k0_t1.sl.v203 trip_k0_t1.sl.v282 trip_k0_t1.sl.v291
    trip_k0_t1.sl.v103 trip_k0_t1.sl.v112 trip_k0_t1.sl.v191 trip_k0_t1.sl.v200 trip_k0_t1.sl.v279 trip_k0_t1.sl.v288
    trip_k0_t1.sl.v102 trip_k0_t1.sl.v111 trip_k0_t1.sl.v190 trip_k0_t1.sl.v199 trip_k0_t1.sl.v278 trip_k0_t1.sl.v287
  rw [e1, e2, e3]
  exact ⟨rfl, rfl, rfl, rfl, rfl, rfl⟩

include h8 in
/-- The key rows the trip loads. -/
theorem reads8 : trip_k0_t1.sl.v120 arg8 X_arg8 k = row p.kr (4 * k.val) ∧ trip_k0_t1.sl.v208 arg8 X_arg8 k = row p.kr (4 * k.val + 1)
    ∧ trip_k0_t1.sl.v296 arg8 X_arg8 k = row p.kr (4 * k.val + 2) ∧ trip_k0_t1.sl.v385 arg8 X_arg8 k = row p.kr (4 * k.val + 3) :=
  ⟨(load_row arg8.view _ _ X_arg8 _ _ (off2_at k).1).trans (by rw [h8]), (load_row arg8.view _ _ X_arg8 _ _ (off2_at k).2.1).trans (by rw [h8]),
    (load_row arg8.view _ _ X_arg8 _ _ (off2_at k).2.2.1).trans (by rw [h8]), (load_row arg8.view _ _ X_arg8 _ _ (off2_at k).2.2.2).trans (by rw [h8])⟩

include h8 h9 h10 hs0 hs1 hg0 hg1

/-- The score gradients of the trip's four blocks. -/
theorem ds_at : (trip_k0_t1.sl.v134 arg14 arg15 p.e0 p.l0 f14 f15 = p.ds0 (4 * k.val)
      ∧ trip_k0_t1.sl.v222 arg9 arg10 arg14 arg15 p.q0 p.q1 p.d0 p.d1 p.e0 p.l0 X_arg9 X_arg10 k = p.ds0 (4 * k.val + 1)
      ∧ trip_k0_t1.sl.v310 arg9 arg10 arg14 arg15 p.q0 p.q1 p.d0 p.d1 p.e0 p.l0 X_arg9 X_arg10 k = p.ds0 (4 * k.val + 2)
      ∧ trip_k0_t1.sl.v399 arg9 arg10 arg14 arg15 p.q0 p.q1 p.d0 p.d1 p.e0 p.l0 X_arg9 X_arg10 k = p.ds0 (4 * k.val + 3))
    ∧ (trip_k0_t1.sl.v153 arg14 arg15 p.e1 p.l1 f14 f15 = p.ds1 (4 * k.val)
      ∧ trip_k0_t1.sl.v241 arg9 arg10 arg14 arg15 p.q0 p.q1 p.d0 p.d1 p.e1 p.l1 X_arg9 X_arg10 k = p.ds1 (4 * k.val + 1)
      ∧ trip_k0_t1.sl.v329 arg9 arg10 arg14 arg15 p.q0 p.q1 p.d0 p.d1 p.e1 p.l1 X_arg9 X_arg10 k = p.ds1 (4 * k.val + 2)
      ∧ trip_k0_t1.sl.v418 arg9 arg10 arg14 arg15 p.q0 p.q1 p.d0 p.d1 p.e1 p.l1 X_arg9 X_arg10 k = p.ds1 (4 * k.val + 3)) := by
  obtain ⟨a1, b1, a2, b2, a3, b3⟩ := reads14 arg9 arg14 p X_arg9 k h9
  obtain ⟨c1, d1, c2, d2, c3, d3⟩ := reads15 arg10 arg15 p X_arg10 k h10
  exact ⟨⟨congrArg₂ (dscore p.e0 p.l0) hs0 hg0, congrArg₂ (dscore p.e0 p.l0) a1 c1, congrArg₂ (dscore p.e0 p.l0) a2 c2, congrArg₂ (dscore p.e0 p.l0) a3 c3⟩,
    congrArg₂ (dscore p.e1 p.l1) hs1 hg1, congrArg₂ (dscore p.e1 p.l1) b1 d1, congrArg₂ (dscore p.e1 p.l1) b2 d2, congrArg₂ (dscore p.e1 p.l1) b3 d3⟩

/-- What a trip carries on: both heads' query gradients, four blocks further. -/
theorem trip_result :
    tripR_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 p.q0 p.q1 p.r0 p.r1 p.t0 p.t1 p.d0 p.d1 p.e0 p.e1 p.l0 p.l1 v58 v60 v61 X_arg8 X_arg9 X_arg10 k (p.dq0 (4 * k.val), p.dq1 (4 * k.val)) f12 f13 f14 f15
      = (p.dq0 (4 * k.val + 4), p.dq1 (4 * k.val + 4)) := by
  obtain ⟨r0, r1, r2, r3⟩ := reads8 arg8 p X_arg8 k h8
  obtain ⟨⟨w0, w1, w2, w3⟩, x0, x1, x2, x3⟩ := ds_at arg8 arg9 arg10 arg14 arg15 p X_arg8 X_arg9 X_arg10 f14 f15 k h8 h9 h10 i0 i1 hs0 hs1 hg0 hg1
  unfold tripR_k0_t1 trip_k0_t1
  refine Prod.ext ?_ ?_
  · show trip_k0_t1.sl.v406 arg8 arg9 arg10 arg14 arg15 p.q0 p.q1 p.d0 p.d1 p.e0 p.l0 X_arg8 X_arg9 X_arg10 k (p.dq0 (4 * k.val), p.dq1 (4 * k.val)) f14 f15 = _
    unfold trip_k0_t1.sl.v406 trip_k0_t1.sl.v317 trip_k0_t1.sl.v229 trip_k0_t1.sl.v141 trip_k0_t1.sl.v405 trip_k0_t1.sl.v316 trip_k0_t1.sl.v228 trip_k0_t1.sl.v140
    rw [r0, r1, r2, r3, w0, w1, w2, w3]; rfl
  · show trip_k0_t1.sl.v425 arg8 arg9 arg10 arg14 arg15 p.q0 p.q1 p.d0 p.d1 p.e1 p.l1 X_arg8 X_arg9 X_arg10 k (p.dq0 (4 * k.val), p.dq1 (4 * k.val)) f14 f15 = _
    unfold trip_k0_t1.sl.v425 trip_k0_t1.sl.v336 trip_k0_t1.sl.v248 trip_k0_t1.sl.v160 trip_k0_t1.sl.v424 trip_k0_t1.sl.v335 trip_k0_t1.sl.v247 trip_k0_t1.sl.v159
    rw [r0, r1, r2, r3, x0, x1, x2, x3]; rfl

/-- What a trip leaves in the key gradient: four more blocks added. -/
theorem trip_keys (X : FVec F S1x32x64x512 .f32) (hX : arg12.view.read (Elt F) f12 = Pt.upd p.dk (4 * k.val) X) :
    arg12.view.read (Elt F) (arg12.view.writes (Elt F) f12 (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 p.q0 p.q1 p.r0 p.r1 p.t0 p.t1 p.d0 p.d1 p.e0 p.e1 p.l0 p.l1 v58 v60 v61 X_arg8 X_arg9 X_arg10 k (p.dq0 (4 * k.val), p.dq1 (4 * k.val)) f12 f13 f14 f15).1)
      = Pt.upd p.dk (4 * k.val + 4) X := by
  obtain ⟨⟨w0, w1, w2, w3⟩, x0, x1, x2, x3⟩ := ds_at arg8 arg9 arg10 arg14 arg15 p X_arg8 X_arg9 X_arg10 f14 f15 k h8 h9 h10 i0 i1 hs0 hs1 hg0 hg1
  have u0 : trip_k0_t1.sl.v158 arg14 arg15 p.r0 p.r1 p.e0 p.e1 p.l0 p.l1 f14 f15 = p.dk (4 * k.val) := congrArg₂ (pairB p.r0 p.r1) w0 x0
  have u1 : trip_k0_t1.sl.v246 arg9 arg10 arg14 arg15 p.q0 p.q1 p.r0 p.r1 p.d0 p.d1 p.e0 p.e1 p.l0 p.l1 X_arg9 X_arg10 k = p.dk (4 * k.val + 1) := congrArg₂ (pairB p.r0 p.r1) w1 x1
  have u2 : trip_k0_t1.sl.v334 arg9 arg10 arg14 arg15 p.q0 p.q1 p.r0 p.r1 p.d0 p.d1 p.e0 p.e1 p.l0 p.l1 X_arg9 X_arg10 k = p.dk (4 * k.val + 2) := congrArg₂ (pairB p.r0 p.r1) w2 x2
  have u3 : trip_k0_t1.sl.v423 arg9 arg10 arg14 arg15 p.q0 p.q1 p.r0 p.r1 p.d0 p.d1 p.e0 p.e1 p.l0 p.l1 X_arg9 X_arg10 k = p.dk (4 * k.val + 3) := congrArg₂ (pairB p.r0 p.r1) w3 x3
  refine Eq.trans ?_ (read_four arg12.view f12 k p.dk X hX)
  unfold tripL_k0_t1 trip_k0_t1 k0_pay105 trip_k0_t1.sl.v352 trip_k0_t1.sl.v264 trip_k0_t1.sl.v176 trip_k0_t1.sl.v348 trip_k0_t1.sl.v260 trip_k0_t1.sl.v172
  simp only
  rw [u0, u1, u2, u3]; rfl

/-- What a trip leaves in the value gradient: four more blocks added. -/
theorem trip_values (X : FVec F S1x32x64x512 .f32) (hX : arg13.view.read (Elt F) f13 = Pt.upd p.dv (4 * k.val) X) :
    arg13.view.read (Elt F) (arg13.view.writes (Elt F) f13 (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 p.q0 p.q1 p.r0 p.r1 p.t0 p.t1 p.d0 p.d1 p.e0 p.e1 p.l0 p.l1 v58 v60 v61 X_arg8 X_arg9 X_arg10 k (p.dq0 (4 * k.val), p.dq1 (4 * k.val)) f12 f13 f14 f15).2.1)
      = Pt.upd p.dv (4 * k.val + 4) X := by
  obtain ⟨a1, b1, a2, b2, a3, b3⟩ := reads14 arg9 arg14 p X_arg9 k h9
  have u0 : trip_k0_t1.sl.v156 arg14 p.t0 p.t1 p.l0 p.l1 f14 = p.dv (4 * k.val) :=
    congrArg₂ (fun a b => pairB p.t0 p.t1 (truncf .bf16 (prob p.l0 a) bitsLt_bf16_f32) (truncf .bf16 (prob p.l1 b) bitsLt_bf16_f32)) hs0 hs1
  have u1 : trip_k0_t1.sl.v244 arg9 arg14 p.q0 p.q1 p.t0 p.t1 p.l0 p.l1 X_arg9 k = p.dv (4 * k.val + 1) :=
    congrArg₂ (fun a b => pairB p.t0 p.t1 (truncf .bf16 (prob p.l0 a) bitsLt_bf16_f32) (truncf .bf16 (prob p.l1 b) bitsLt_bf16_f32)) a1 b1
  have u2 : trip_k0_t1.sl.v332 arg9 arg14 p.q0 p.q1 p.t0 p.t1 p.l0 p.l1 X_arg9 k = p.dv (4 * k.val + 2) :=
    congrArg₂ (fun a b => pairB p.t0 p.t1 (truncf .bf16 (prob p.l0 a) bitsLt_bf16_f32) (truncf .bf16 (prob p.l1 b) bitsLt_bf16_f32)) a2 b2
  have u3 : trip_k0_t1.sl.v421 arg9 arg14 p.q0 p.q1 p.t0 p.t1 p.l0 p.l1 X_arg9 k = p.dv (4 * k.val + 3) :=
    congrArg₂ (fun a b => pairB p.t0 p.t1 (truncf .bf16 (prob p.l0 a) bitsLt_bf16_f32) (truncf .bf16 (prob p.l1 b) bitsLt_bf16_f32)) a3 b3
  refine Eq.trans ?_ (read_four arg13.view f13 k p.dv X hX)
  unfold tripL_k0_t1 trip_k0_t1 trip_k0_t1.sl.v433 trip_k0_t1.sl.v344 trip_k0_t1.sl.v256 trip_k0_t1.sl.v168 trip_k0_t1.sl.v429 trip_k0_t1.sl.v340 trip_k0_t1.sl.v252 trip_k0_t1.sl.v164
  simp only
  rw [u0, u1, u2, u3]; rfl

omit h8 hs0 hs1 hg0 hg1 in
/-- What a trip leaves in the scratches' first slots: the scores of the block the next trip begins with. -/
theorem trip_slots (j0 j1) (A : List (View.Piece (Elt F) S2x2x512x512 .f32)) (B : List (View.Piece (Elt F) S2x2x512x512 .bf16))
    (hA : A = trip_k0_t1.sl.HW_arg14_8 arg9 p.q0 p.q1 X_arg9 k) (hB : B = trip_k0_t1.sl.HW_arg15_8 arg10 p.d0 p.d1 X_arg10 k) :
    (arg14.view.readAt (Elt F) (slot 0 0 j0) (arg14.view.writes (Elt F) f14 A) = p.s0 (4 * k.val + 4)
      ∧ arg14.view.readAt (Elt F) (slot 0 1 j1) (arg14.view.writes (Elt F) f14 A) = p.s1 (4 * k.val + 4))
    ∧ arg15.view.readAt (Elt F) (slot 0 0 j0) (arg15.view.writes (Elt F) f15 B) = p.g0 (4 * k.val + 4)
      ∧ arg15.view.readAt (Elt F) (slot 0 1 j1) (arg15.view.writes (Elt F) f15 B) = p.g1 (4 * k.val + 4) := by
  have e4 : trip_k0_t1.sl.v359 arg9 X_arg9 k = col p.kt (4 * k.val + 4) := (load_col arg9.view _ _ X_arg9 _ _ (off1_at k).2.2.2).trans (by rw [h9])
  have g4 : trip_k0_t1.sl.v362 arg10 X_arg10 k = col p.vt (4 * k.val + 4) := (load_col arg10.view _ _ X_arg10 _ _ (off1_at k).2.2.2).trans (by rw [h10])
  subst hA hB
  unfold trip_k0_t1.sl.HW_arg14_8 trip_k0_t1.sl.HW_arg14_7 trip_k0_t1.sl.HW_arg15_8 trip_k0_t1.sl.HW_arg15_7
  have s0 : trip_k0_t1.sl.v366 arg9 p.q0 X_arg9 k = p.s0 (4 * k.val + 4) := congrArg (slotS p.q0) e4
  have s1 : trip_k0_t1.sl.v375 arg9 p.q1 X_arg9 k = p.s1 (4 * k.val + 4) := congrArg (slotS p.q1) e4
  have t0 : trip_k0_t1.sl.v371 arg10 p.d0 X_arg10 k = p.g0 (4 * k.val + 4) := congrArg (slotP p.d0) g4
  have t1 : trip_k0_t1.sl.v380 arg10 p.d1 X_arg10 k = p.g1 (4 * k.val + 4) := congrArg (slotP p.d1) g4
  rw [s0, s1, t0, t1]
  exact ⟨⟨read_second arg14.view f14 _ _ _ _ _ _, read_first arg14.view f14 _ _ _ _⟩, read_second arg15.view f15 _ _ _ _ _ _, read_first arg15.view f15 _ _ _ _⟩

end Trip

section State

variable (𝒱 : Variants) (c : Dev nD) (bd : Option 𝒱.V) (i : grid0.Coords) (arg3 : Memref sig .tc .vmem S2x512x64 .bf16) (harg3 : arg3.IsWhole) (arg4 : Memref sig .tc .vmem S2x64x512 .bf16) (harg4 : arg4.IsWhole) (arg5 : Memref sig .tc .vmem S2x64x512 .f32) (harg5 : arg5.IsWhole) (arg6 : Memref sig .tc .vmem S2x64x512 .f32) (harg6 : arg6.IsWhole) (arg7 : Memref sig .tc .vmem S2x1x512 .f32) (harg7 : arg7.IsWhole) (arg8 : Memref sig .tc .vmem S1x32x512x64 .bf16) (harg8 : arg8.IsWhole) (arg9 : Memref sig .tc .vmem S1x32x64x512 .bf16) (harg9 : arg9.IsWhole) (arg10 : Memref sig .tc .vmem S1x32x64x512 .bf16) (harg10 : arg10.IsWhole) (arg11 : Memref sig .tc .vmem S2x512x64 .f32) (harg11 : arg11.IsWhole) (arg12 : Memref sig .tc .vmem S1x32x64x512 .f32) (harg12 : arg12.IsWhole) (arg13 : Memref sig .tc .vmem S1x32x64x512 .f32) (harg13 : arg13.IsWhole) (arg14 : Memref sig .tc .vmem S2x2x512x512 .f32) (harg14 : arg14.IsWhole) (arg15 : Memref sig .tc .vmem S2x2x512x512 .bf16) (harg15 : arg15.IsWhole)
  (p : Pt F) (v58 : FVec F S64x512 .bf16) (v60 : FVec F S64x512 .bf16) (v61 : FVec F S512x512 .f32)
  (X_arg8 : BufTy.Contents (Elt F) arg8.view.ty) (X_arg9 : BufTy.Contents (Elt F) arg9.view.ty) (X_arg10 : BufTy.Contents (Elt F) arg10.view.ty)
  (f12 : BufTy.Contents (Elt F) arg12.view.ty) (f13 : BufTy.Contents (Elt F) arg13.view.ty) (f14 : BufTy.Contents (Elt F) arg14.view.ty) (f15 : BufTy.Contents (Elt F) arg15.view.ty)

/-- What a trip writes into the scratches, as its own lists. -/
theorem trip_lists (k : Fin k0_t1_loop.trips) (acc : FVec F S512x64 .f32 × FVec F S512x64 .f32) :
    (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 p.q0 p.q1 p.r0 p.r1 p.t0 p.t1 p.d0 p.d1 p.e0 p.e1 p.l0 p.l1 v58 v60 v61 X_arg8 X_arg9 X_arg10 k acc f12 f13 f14 f15).2.2.1
        = trip_k0_t1.sl.HW_arg14_8 arg9 p.q0 p.q1 X_arg9 k
      ∧ (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 p.q0 p.q1 p.r0 p.r1 p.t0 p.t1 p.d0 p.d1 p.e0 p.e1 p.l0 p.l1 v58 v60 v61 X_arg8 X_arg9 X_arg10 k acc f12 f13 f14 f15).2.2.2
        = trip_k0_t1.sl.HW_arg15_8 arg10 p.d0 p.d1 X_arg10 k := by
  unfold tripL_k0_t1 trip_k0_t1
  exact ⟨rfl, rfl⟩

/-- The loop's state before trip `n`: the query gradients of the first `4 n` blocks carried, the two gradient arrays with those blocks
    added, and the scores of block `4 n` in the scratches. -/
theorem state_at (h8 : arg8.view.read (Elt F) X_arg8 = p.kr) (h9 : arg9.view.read (Elt F) X_arg9 = p.kt) (h10 : arg10.view.read (Elt F) X_arg10 = p.vt)
    (i0 i1) (hs0 : arg14.view.readAt (Elt F) (slot 0 0 i0) f14 = p.s0 0) (hs1 : arg14.view.readAt (Elt F) (slot 0 1 i1) f14 = p.s1 0)
    (hg0 : arg15.view.readAt (Elt F) (slot 0 0 i0) f15 = p.g0 0) (hg1 : arg15.view.readAt (Elt F) (slot 0 1 i1) f15 = p.g1 0)
    (n : ℕ) (hn : n ≤ 8) :
    let s := st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 p.q0 p.q1 p.r0 p.r1 p.t0 p.t1 p.d0 p.d1 p.e0 p.e1 p.l0 p.l1 v58 v60 v61 X_arg8 X_arg9 X_arg10 f12 f13 f14 f15 (k0_pay103, k0_pay104) n
    s.1 = (p.dq0 (4 * n), p.dq1 (4 * n))
      ∧ arg12.view.read (Elt F) (arg12.view.writes (Elt F) f12 s.2.1) = Pt.upd p.dk (4 * n) (arg12.view.read (Elt F) f12)
      ∧ arg13.view.read (Elt F) (arg13.view.writes (Elt F) f13 s.2.2.1) = Pt.upd p.dv (4 * n) (arg13.view.read (Elt F) f13)
      ∧ (arg14.view.readAt (Elt F) (slot 0 0 i0) (arg14.view.writes (Elt F) f14 s.2.2.2.1) = p.s0 (4 * n)
        ∧ arg14.view.readAt (Elt F) (slot 0 1 i1) (arg14.view.writes (Elt F) f14 s.2.2.2.1) = p.s1 (4 * n))
      ∧ arg15.view.readAt (Elt F) (slot 0 0 i0) (arg15.view.writes (Elt F) f15 s.2.2.2.2) = p.g0 (4 * n)
        ∧ arg15.view.readAt (Elt F) (slot 0 1 i1) (arg15.view.writes (Elt F) f15 s.2.2.2.2) = p.g1 (4 * n) := by
  induction n with
  | zero =>
    refine ⟨rfl, ?_, ?_, ⟨hs0, hs1⟩, hg0, hg1⟩
    · funext y; show _ = if (y 1).val < 0 then _ else _
      rw [if_neg (Nat.not_lt_zero _)]; rfl
    · funext y; show _ = if (y 1).val < 0 then _ else _
      rw [if_neg (Nat.not_lt_zero _)]; rfl
  | succ n ih =>
    have hk : n < k0_t1_loop.trips := lt_of_lt_of_eq (by omega : n < 8) (by decide +kernel)
    have hsucc := st_k0_t1_succ (F := F) 𝒱 c bd i arg3 harg3 arg4 harg4 arg5 harg5 arg6 harg6 arg7 harg7 arg8 harg8 arg9 harg9 arg10 harg10 arg11 harg11 arg12 harg12 arg13 harg13 arg14 harg14 arg15 harg15 p.q0 p.q1 p.r0 p.r1 p.t0 p.t1 p.d0 p.d1 p.e0 p.e1 p.l0 p.l1 v58 v60 v61 X_arg8 X_arg9 X_arg10 f12 f13 f14 f15 (k0_pay103, k0_pay104) ⟨n, hk⟩
    have ih' := ih (by omega)
    intro s
    have hs : s = _ := hsucc
    clear_value s
    subst hs
    clear hsucc ih
    revert ih'
    rw [show 4 * (n + 1) = 4 * n + 4 from rfl]
    dsimp only
    generalize st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 p.q0 p.q1 p.r0 p.r1 p.t0 p.t1 p.d0 p.d1 p.e0 p.e1 p.l0 p.l1 v58 v60 v61 X_arg8 X_arg9 X_arg10 f12 f13 f14 f15 (k0_pay103, k0_pay104) n = s
    obtain ⟨acc, L12, L13, L14, L15⟩ := s
    rintro ⟨e, e12, e13, ⟨u0, u1⟩, w0, w1⟩
    dsimp only at e e12 e13 u0 u1 w0 w1
    subst e
    have T := trip_slots arg9 arg10 arg14 arg15 p X_arg9 X_arg10 (arg14.view.writes (Elt F) f14 L14) (arg15.view.writes (Elt F) f15 L15) ⟨n, hk⟩ h9 h10 i0 i1 _ _ rfl rfl
    refine ⟨trip_result 𝒱 c bd i arg3 harg3 arg4 harg4 arg5 harg5 arg6 harg6 arg7 harg7 arg8 harg8 arg9 harg9 arg10 harg10 arg11 harg11 arg12 harg12 arg13 harg13 arg14 harg14 arg15 harg15 p v58 v60 v61 X_arg8 X_arg9 X_arg10 (arg12.view.writes (Elt F) f12 L12) (arg13.view.writes (Elt F) f13 L13) (arg14.view.writes (Elt F) f14 L14) (arg15.view.writes (Elt F) f15 L15) ⟨n, hk⟩ h8 h9 h10 i0 i1 u0 u1 w0 w1, ?_, ?_, ?_⟩
    · exact (congrArg (arg12.view.read (Elt F)) (View.writes_append _ _ _ _)).trans (trip_keys 𝒱 c bd i arg3 harg3 arg4 harg4 arg5 harg5 arg6 harg6 arg7 harg7 arg8 harg8 arg9 harg9 arg10 harg10 arg11 harg11 arg12 harg12 arg13 harg13 arg14 harg14 arg15 harg15 p v58 v60 v61 X_arg8 X_arg9 X_arg10 (arg12.view.writes (Elt F) f12 L12) (arg13.view.writes (Elt F) f13 L13) (arg14.view.writes (Elt F) f14 L14) (arg15.view.writes (Elt F) f15 L15) ⟨n, hk⟩ h8 h9 h10 i0 i1 u0 u1 w0 w1 _ e12)
    · exact (congrArg (arg13.view.read (Elt F)) (View.writes_append _ _ _ _)).trans (trip_values 𝒱 c bd i arg3 harg3 arg4 harg4 arg5 harg5 arg6 harg6 arg7 harg7 arg8 harg8 arg9 harg9 arg10 harg10 arg11 harg11 arg12 harg12 arg13 harg13 arg14 harg14 arg15 harg15 p v58 v60 v61 X_arg8 X_arg9 X_arg10 (arg12.view.writes (Elt F) f12 L12) (arg13.view.writes (Elt F) f13 L13) (arg14.view.writes (Elt F) f14 L14) (arg15.view.writes (Elt F) f15 L15) ⟨n, hk⟩ h8 h9 h10 i0 i1 u0 u1 w0 w1 _ e13)
    · have Q := trip_lists 𝒱 c bd i arg3 harg3 arg4 harg4 arg5 harg5 arg6 harg6 arg7 harg7 arg8 harg8 arg9 harg9 arg10 harg10 arg11 harg11 arg12 harg12 arg13 harg13 arg14 harg14 arg15 harg15 p v58 v60 v61 X_arg8 X_arg9 X_arg10 (arg12.view.writes (Elt F) f12 L12) (arg13.view.writes (Elt F) f13 L13) (arg14.view.writes (Elt F) f14 L14) (arg15.view.writes (Elt F) f15 L15) ⟨n, hk⟩ (p.dq0 (4 * n), p.dq1 (4 * n))
      have Q1 := (congrArg (arg14.view.writes (Elt F) f14) (congrArg (· ++ L14) Q.1)).trans (View.writes_append _ _ _ _)
      have Q2 := (congrArg (arg15.view.writes (Elt F) f15) (congrArg (· ++ L15) Q.2)).trans (View.writes_append _ _ _ _)
      exact ⟨⟨(congrArg (arg14.view.readAt (Elt F) (slot 0 0 i0)) Q1).trans T.1.1, (congrArg (arg14.view.readAt (Elt F) (slot 0 1 i1)) Q1).trans T.1.2⟩,
        (congrArg (arg15.view.readAt (Elt F) (slot 0 0 i0)) Q2).trans T.2.1, (congrArg (arg15.view.readAt (Elt F) (slot 0 1 i1)) Q2).trans T.2.2⟩

end State

end Cert.AttnBwdClaims

end
-- ==== Proof.AttnBody.lean ====
/- The attention backward's body at a grid point, and the launch: what each of its three result blocks holds after the point. -/
module

public import proofs.«01_k».proof.Proof.AttnTrip
public import proofs.«01_k».proof.Proof.Gen.AttnBwdIdeal.Frame

@[expose] public section

set_option maxRecDepth 16384

noncomputable section

namespace Cert.AttnBwdClaims

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnBwdIdeal Cert.AttnBwdIdeal.Gen

variable {F : FTy → Type} [FloatOps F] [Named F]

local notation "𝕄" => MT nD τ sig Unit (Elt F) ℕ (UR sig nD τ) ℕ

/-- Head `0` or `1` of a block of two heads. -/
abbrev qHead0 : Rect S2x512x64 := (Rect.unit (s := S2x512x64) ![0, 0, 0] S1x512x64.size inb_S2x512x64_S1x512x64_0_0_0)
abbrev qHead1 : Rect S2x512x64 := (Rect.unit (s := S2x512x64) ![1, 0, 0] S1x512x64.size inb_S2x512x64_S1x512x64_1_0_0)
abbrev tHead0 : Rect S2x64x512 := (Rect.unit (s := S2x64x512) ![0, 0, 0] S1x64x512.size inb_S2x64x512_S1x64x512_0_0_0)
abbrev tHead1 : Rect S2x64x512 := (Rect.unit (s := S2x64x512) ![1, 0, 0] S1x64x512.size inb_S2x64x512_S1x64x512_1_0_0)
abbrev lHead0 : Rect S2x1x512 := (Rect.unit (s := S2x1x512) ![0, 0, 0] S1x1x512.size inb_S2x1x512_S1x1x512_0_0_0)
abbrev lHead1 : Rect S2x1x512 := (Rect.unit (s := S2x1x512) ![1, 0, 0] S1x1x512.size inb_S2x1x512_S1x1x512_1_0_0)

/-- What a point's body computes from, read off its eight input blocks. -/
def pt (x0 : Vec F S2x512x64 .bf16) (x1 : Vec F S2x64x512 .bf16) (x2 : Vec F S2x64x512 .f32) (x3 : Vec F S2x64x512 .f32) (x4 : Vec F S2x1x512 .f32) (x5 : Vec F S1x32x512x64 .bf16) (x6 : Vec F S1x32x64x512 .bf16) (x7 : Vec F S1x32x64x512 .bf16) : Pt F where
  q0 := k0_pay81 (View.ld x0 qHead0)
  q1 := k0_pay82 (View.ld x0 qHead1)
  r0 := k0_pay83 (View.ld x1 tHead0)
  r1 := k0_pay84 (View.ld x1 tHead1)
  t0 := k0_pay85 (View.ld x2 tHead0)
  t1 := k0_pay86 (View.ld x2 tHead1)
  d0 := k0_pay90 (k0_pay87 (View.ld x2 tHead0))
  d1 := k0_pay91 (k0_pay88 (View.ld x2 tHead1)) (Named.named κ "ln_2" 0x3F317218#32)
  e0 := k0_pay92 (k0_pay87 (View.ld x2 tHead0)) (View.ld x3 tHead0)
  e1 := k0_pay93 (k0_pay88 (View.ld x2 tHead1)) (Named.named κ "ln_2" 0x3F317218#32) (View.ld x3 tHead1)
  l0 := k0_pay94 (View.ld x4 lHead0)
  l1 := k0_pay95 (View.ld x4 lHead1)
  kr := x5
  kt := x6
  vt := x7

/-- The query gradient a point leaves: both heads', all 32 blocks added. -/
def outQ (p : Pt F) : Vec F S2x512x64 .f32 :=
  fun y => if (y 0).val = 0 then p.dq0 32 (ix2 (y 1) (y 2)) else p.dq1 32 (ix2 (y 1) (y 2))

/-- The branch's condition: the point is its head group's first. -/
abbrev cond0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1

/-- The two heads' blocks of the query gradient, put back one after the other, cover the block. -/
theorem read_q (v : View sig .tc .vmem S2x512x64 .f32) (f : v.ty.Contents (Elt F)) (s : FVec F S512x64 .f32 × FVec F S512x64 .f32) (i0 i1) :
    v.read (Elt F) (v.writes (Elt F) f [⟨Rect.unit (s := S2x512x64) ![1, 0, 0] S1x512x64.size i1, k0_pay1 s.2⟩, ⟨Rect.unit (s := S2x512x64) ![0, 0, 0] S1x512x64.size i0, k0_pay106 s.1⟩])
      = fun y => if (y 0).val = 0 then s.1 (ix2 (y 1) (y 2)) else s.2 (ix2 (y 1) (y 2)) := by
  funext y
  obtain ⟨h, a, b, rfl⟩ : ∃ (h : Fin 2) (a : Fin 512) (b : Fin 64), y = ix3 h a b := ⟨y 0, y 1, y 2, eq_ix3 y⟩
  have back : ∀ w : FVec F S512x64 .f32, shapeCast S1x512x64 w shapeCasts_S512x64_S1x512x64 (ix3 0 a b) = w (ix2 a b) := fun w =>
    shapeCast_apply _ _ _ _ (show (S512x64.rowMajor (ix2 a b)).val = (S1x512x64.rowMajor (ix3 0 a b)).val by
      rw [rowMajor_val3 (ix3 0 a b) _ _ rfl rfl, rowMajor_val2 (ix2 a b) _ rfl]; simp [ix3, ix2])
  by_cases hh : h.val = 0
  · rw [if_pos (show ((ix3 h a b : S2x512x64.Idx) 0).val = 0 from hh)]
    refine (View.read_writes_cons_unit_of_not_mem v f i1 _ _ _ rfl 0 (Or.inl (show h.val < 1 by omega))).trans
      ((View.read_writes_cons_unit_of_mem v f i0 _ _ _ (ix3 0 a b) rfl fun x => ?_).trans (back _))
    fin_cases x
    · show h.val = 0 + 0; omega
    · show a.val = 0 + a.val; omega
    · show b.val = 0 + b.val; omega
  · rw [if_neg (show ¬ ((ix3 h a b : S2x512x64.Idx) 0).val = 0 from hh)]
    refine (View.read_writes_cons_unit_of_mem v f i1 _ _ _ (ix3 0 a b) rfl fun x => ?_).trans (back _)
    fin_cases x
    · show h.val = 1 + 0; have := h.isLt; omega
    · show a.val = 0 + a.val; omega
    · show b.val = 0 + b.val; omega

/-- A whole block stored is the block read. -/
theorem read_whole_store (v : View sig .tc .vmem S1x32x64x512 .f32) (f : v.ty.Contents (Elt F)) (w : FVec F S1x32x64x512 .f32) (inb) :
    v.read (Elt F) (v.writes (Elt F) f [⟨Rect.unit (s := S1x32x64x512) ![0, 0, 0, 0] S1x32x64x512.size inb, w⟩]) = w := by
  funext y
  refine View.read_writes_cons_unit_of_mem v f inb _ _ _ y rfl fun x => ?_
  fin_cases x <;> exact (Nat.zero_add _).symm

/-- The first block's scores, as the body puts them in the scratches before the loop. -/
theorem first_slots (arg9 : Memref sig .tc .vmem S1x32x64x512 .bf16) (arg10 : Memref sig .tc .vmem S1x32x64x512 .bf16)
    (arg14 : Memref sig .tc .vmem S2x2x512x512 .f32) (arg15 : Memref sig .tc .vmem S2x2x512x512 .bf16) (p : Pt F)
    (X9 : BufTy.Contents (Elt F) arg9.view.ty) (X10 : BufTy.Contents (Elt F) arg10.view.ty) (f14 : BufTy.Contents (Elt F) arg14.view.ty) (f15 : BufTy.Contents (Elt F) arg15.view.ty)
    (h9 : arg9.view.read (Elt F) X9 = p.kt) (h10 : arg10.view.read (Elt F) X10 = p.vt) (c9 c10 i0 i1 j0 j1) :
    let w9 := arg9.view.readAt (Elt F) (Rect.unit (s := S1x32x64x512) ![0, 0, 0, 0] S1x1x64x512.size c9).toLoadRect X9
    let w10 := arg10.view.readAt (Elt F) (Rect.unit (s := S1x32x64x512) ![0, 0, 0, 0] S1x1x64x512.size c10).toLoadRect X10
    let G14 := arg14.view.writes (Elt F) f14 [⟨Rect.unit (s := S2x2x512x512) ![0, 1, 0, 0] S1x1x512x512.size i1, k0_pay101 p.q1 (k0_pay96 w9)⟩,
      ⟨Rect.unit (s := S2x2x512x512) ![0, 0, 0, 0] S1x1x512x512.size i0, k0_pay99 (k0_pay98 p.q0 w9)⟩]
    let G15 := arg15.view.writes (Elt F) f15 [⟨Rect.unit (s := S2x2x512x512) ![0, 1, 0, 0] S1x1x512x512.size i1, k0_pay102 p.d1 (k0_pay97 w10)⟩,
      ⟨Rect.unit (s := S2x2x512x512) ![0, 0, 0, 0] S1x1x512x512.size i0, k0_pay100 p.d0 (k0_pay97 w10)⟩]
    (arg14.view.readAt (Elt F) (slot 0 0 j0) G14 = p.s0 0 ∧ arg14.view.readAt (Elt F) (slot 0 1 j1) G14 = p.s1 0)
      ∧ arg15.view.readAt (Elt F) (slot 0 0 j0) G15 = p.g0 0 ∧ arg15.view.readAt (Elt F) (slot 0 1 j1) G15 = p.g1 0 := by
  intro w9 w10 G14 G15
  have e9 : k0_pay96 w9 = col p.kt 0 := (load_col arg9.view _ _ X9 _ 0 (by decide)).trans (by rw [h9])
  have e10 : k0_pay97 w10 = col p.vt 0 := (load_col arg10.view _ _ X10 _ 0 (by decide)).trans (by rw [h10])
  exact ⟨⟨(read_second arg14.view f14 _ _ _ _ _ _).trans (congrArg (slotS p.q0) e9), (read_first arg14.view f14 _ _ _ _).trans (congrArg (slotS p.q1) e9)⟩,
    (read_second arg15.view f15 _ _ _ _ _ _).trans (congrArg (slotP p.d0) e10), (read_first arg15.view f15 _ _ _ _).trans (congrArg (slotP p.d1) e10)⟩

theorem trips_eq : Scf.trips k0_t1_loop.lb k0_t1_loop.ub k0_t1_loop.st = 8 := by decide +kernel

set_option maxHeartbeats 4000000 in
/-- The body at a head group's first point: it clears the two accumulated gradients, then adds its blocks. -/
theorem run_A (c : Dev nD) (i : grid0.Coords) (arg3 : Memref sig .tc .vmem S2x512x64 .bf16) (harg3 : arg3.IsWhole) (arg4 : Memref sig .tc .vmem S2x64x512 .bf16) (harg4 : arg4.IsWhole) (arg5 : Memref sig .tc .vmem S2x64x512 .f32) (harg5 : arg5.IsWhole) (arg6 : Memref sig .tc .vmem S2x64x512 .f32) (harg6 : arg6.IsWhole) (arg7 : Memref sig .tc .vmem S2x1x512 .f32) (harg7 : arg7.IsWhole) (arg8 : Memref sig .tc .vmem S1x32x512x64 .bf16) (harg8 : arg8.IsWhole) (arg9 : Memref sig .tc .vmem S1x32x64x512 .bf16) (harg9 : arg9.IsWhole) (arg10 : Memref sig .tc .vmem S1x32x64x512 .bf16) (harg10 : arg10.IsWhole) (arg11 : Memref sig .tc .vmem S2x512x64 .f32) (harg11 : arg11.IsWhole) (arg12 : Memref sig .tc .vmem S1x32x64x512 .f32) (harg12 : arg12.IsWhole) (arg13 : Memref sig .tc .vmem S1x32x64x512 .f32) (harg13 : arg13.IsWhole) (arg14 : Memref sig .tc .vmem S2x2x512x512 .f32) (harg14 : arg14.IsWhole) (arg15 : Memref sig .tc .vmem S2x2x512x512 .bf16) (harg15 : arg15.IsWhole) (hc : cond0 i) (x0 : Vec F S2x512x64 .bf16) (x1 : Vec F S2x64x512 .bf16) (x2 : Vec F S2x64x512 .f32) (x3 : Vec F S2x64x512 .f32) (x4 : Vec F S2x1x512 .f32) (x5 : Vec F S1x32x512x64 .bf16) (x6 : Vec F S1x32x64x512 .bf16) (x7 : Vec F S1x32x64x512 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (outQ (pt x0 x1 x2 x3 x4 x5 x6 x7)) ∗ owns (c : Thread nD τ) arg12 fullShare (Pt.upd (Pt.dk (pt x0 x1 x2 x3 x4 x5 x6 x7)) 32 (k0_pay79 (F := F))) ∗ owns (c : Thread nD τ) arg13 fullShare (Pt.upd (Pt.dv (pt x0 x1 x2 x3 x4 x5 x6 x7)) 32 (k0_pay80 (F := F))) ∗ (∃ d, owns (c : Thread nD τ) arg14 fullShare d) ∗ (∃ d, owns (c : Thread nD τ) arg15 fullShare d)) -∗ K ⟨⟩))
    ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15) K := by
  simp only [cc0_attn_bwd_eq_skeleton]; unfold cc0_attn_bwd_skel
  simp only [k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg9.eq_unread hf6
  obtain rfl := harg10.eq_unread hf7
  sl_exec (disch := sl_exact hc)
  have n0 : run_A.sl.r c arg3 harg3 x0 = (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7))).q0 := rfl
  have n1 : run_A.sl.r_1 c arg3 harg3 x0 = (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7))).q1 := rfl
  have n2 : run_A.sl.r_2 c arg4 harg4 x1 = (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7))).r0 := rfl
  have n3 : run_A.sl.r_3 c arg4 harg4 x1 = (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7))).r1 := rfl
  have n4 : run_A.sl.r_4 c arg5 harg5 x2 = (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7))).t0 := rfl
  have n5 : run_A.sl.r_5 c arg5 harg5 x2 = (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7))).t1 := rfl
  have n6 : run_A.sl.r_8 c arg5 harg5 x2 = (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7))).d0 := rfl
  have n7 : run_A.sl.r_9 c arg5 harg5 x2 = (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7))).d1 := rfl
  have n8 : run_A.sl.r_10 c arg5 harg5 arg6 harg6 x2 x3 = (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7))).e0 := rfl
  have n9 : run_A.sl.r_11 c arg5 harg5 arg6 harg6 x2 x3 = (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7))).e1 := rfl
  have n10 : run_A.sl.r_12 c arg7 harg7 x4 = (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7))).l0 := by
    refine Eq.trans (b := k0_pay94 (arg7.view.readAt (Elt F) lHead0.toLoadRect (harg7.unread x4))) ?_ ?_
    · unfold run_A.sl.r_12; rfl
    · rw [View.readAt_eq_ld]; dsimp only [pt]
  have n11 : run_A.sl.r_13 c arg7 harg7 x4 = (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7))).l1 := by
    refine Eq.trans (b := k0_pay95 (arg7.view.readAt (Elt F) lHead1.toLoadRect (harg7.unread x4))) ?_ ?_
    · unfold run_A.sl.r_13; rfl
    · rw [View.readAt_eq_ld]; dsimp only [pt]
  have n12 : run_A.sl.r_14 c arg9 harg9 x6 = k0_pay96 (arg9.view.readAt (Elt F) (Rect.unit (s := S1x32x64x512) ![0, 0, 0, 0] S1x1x64x512.size inb_S1x32x64x512_S1x1x64x512_0_0_0_0).toLoadRect (harg9.unread x6)) := rfl
  have n13 : run_A.sl.r_15 c arg10 harg10 x7 = k0_pay97 (arg10.view.readAt (Elt F) (Rect.unit (s := S1x32x64x512) ![0, 0, 0, 0] S1x1x64x512.size inb_S1x32x64x512_S1x1x64x512_0_0_0_0).toLoadRect (harg10.unread x7)) := rfl
  have n14 : run_A.sl.r_16 c arg3 harg3 arg9 harg9 x0 x6 = k0_pay98 (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7))).q0 (arg9.view.readAt (Elt F) (Rect.unit (s := S1x32x64x512) ![0, 0, 0, 0] S1x1x64x512.size inb_S1x32x64x512_S1x1x64x512_0_0_0_0).toLoadRect (harg9.unread x6)) := rfl
  have n15 : run_A.sl.H9_1 (F := F) = [⟨Rect.unit (s := S1x32x64x512) ![0, 0, 0, 0] S1x32x64x512.size inb_S1x32x64x512_S1x32x64x512_0_0_0_0, k0_pay79 (F := F)⟩] := rfl
  have n16 : run_A.sl.H10_1 (F := F) = [⟨Rect.unit (s := S1x32x64x512) ![0, 0, 0, 0] S1x32x64x512.size inb_S1x32x64x512_S1x32x64x512_0_0_0_0, k0_pay80 (F := F)⟩] := rfl
  have hp : pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7)) = pt x0 x1 x2 x3 x4 x5 x6 x7 := by
    rw [harg3.read_unread, harg4.read_unread, harg5.read_unread, harg6.read_unread, harg7.read_unread, harg8.read_unread, harg9.read_unread, harg10.read_unread]
  have FS := first_slots arg9 arg10 arg14 arg15 (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7))) (harg9.unread x6) (harg10.unread x7) f11 f12 rfl rfl inb_S1x32x64x512_S1x1x64x512_0_0_0_0 inb_S1x32x64x512_S1x1x64x512_0_0_0_0
    inb_S2x2x512x512_S1x1x512x512_0_0_0_0 inb_S2x2x512x512_S1x1x512x512_0_1_0_0 inb_S2x2x512x512_S1x1x512x512_0_0_0_0 inb_S2x2x512x512_S1x1x512x512_0_1_0_0
  have S := state_at Variants.none c none i arg3 harg3 arg4 harg4 arg5 harg5 arg6 harg6 arg7 harg7 arg8 harg8 arg9 harg9 arg10 harg10 arg11 harg11 arg12 harg12 arg13 harg13 arg14 harg14 arg15 harg15 (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7)))
    (k0_pay96 (arg9.view.readAt (Elt F) (Rect.unit (s := S1x32x64x512) ![0, 0, 0, 0] S1x1x64x512.size inb_S1x32x64x512_S1x1x64x512_0_0_0_0).toLoadRect (harg9.unread x6)))
    (k0_pay97 (arg10.view.readAt (Elt F) (Rect.unit (s := S1x32x64x512) ![0, 0, 0, 0] S1x1x64x512.size inb_S1x32x64x512_S1x1x64x512_0_0_0_0).toLoadRect (harg10.unread x7)))
    (k0_pay98 (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7))).q0 (arg9.view.readAt (Elt F) (Rect.unit (s := S1x32x64x512) ![0, 0, 0, 0] S1x1x64x512.size inb_S1x32x64x512_S1x1x64x512_0_0_0_0).toLoadRect (harg9.unread x6)))
    (harg8.unread x5) (harg9.unread x6) (harg10.unread x7) (arg12.view.writes (Elt F) arg12.view.junk [⟨Rect.unit (s := S1x32x64x512) ![0, 0, 0, 0] S1x32x64x512.size inb_S1x32x64x512_S1x32x64x512_0_0_0_0, k0_pay79 (F := F)⟩]) (arg13.view.writes (Elt F) arg13.view.junk [⟨Rect.unit (s := S1x32x64x512) ![0, 0, 0, 0] S1x32x64x512.size inb_S1x32x64x512_S1x32x64x512_0_0_0_0, k0_pay80 (F := F)⟩]) _ _ rfl rfl rfl _ _ FS.1.1 FS.1.2 FS.2.1 FS.2.2
    (Scf.trips k0_t1_loop.lb k0_t1_loop.ub k0_t1_loop.st) (le_of_eq trips_eq)
  obtain ⟨S1, S12, S13, -⟩ := S
  have e4 : 4 * Scf.trips k0_t1_loop.lb k0_t1_loop.ub k0_t1_loop.st = 32 := by rw [trips_eq]
  replace S1 := S1.trans ((congrArg (fun n => (Pt.dq0 (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7))) n, Pt.dq1 (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7))) n)) e4).trans (congrArg (fun p => (Pt.dq0 p 32, Pt.dq1 p 32)) hp))
  replace S12 := S12.trans ((congrArg (fun n => Pt.upd (Pt.dk (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7)))) n _) e4).trans (congrArg₂ (fun p x => Pt.upd (Pt.dk p) 32 x) hp (read_whole_store arg12.view _ _ _)))
  replace S13 := S13.trans ((congrArg (fun n => Pt.upd (Pt.dv (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7)))) n _) e4).trans (congrArg₂ (fun p x => Pt.upd (Pt.dv p) 32 x) hp (read_whole_store arg13.view _ _ _)))
  unfold run_A.sl.r_17
  simp only [n0, n1, n2, n3, n4, n5, n6, n7, n8, n9, n10, n11, n12, n13, n14, n15, n16]
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr
    swap; · iexact H8
    ipureintro
    exact (read_q arg11.view f8 _ _ _).trans (congrArg (fun (s : FVec F S512x64 .f32 × FVec F S512x64 .f32) => fun (y : S2x512x64.Idx) => if (y 0).val = 0 then s.1 (ix2 (y 1) (y 2)) else s.2 (ix2 (y 1) (y 2))) S1)
  isplitl [H9]
  · iexists _; isplitr
    swap; · iexact H9
    ipureintro; exact (congrArg (arg12.view.read (Elt F)) (View.writes_append _ _ _ _)).trans S12
  isplitl [H10]
  · iexists _; isplitr
    swap; · iexact H10
    ipureintro; exact (congrArg (arg13.view.read (Elt F)) (View.writes_append _ _ _ _)).trans S13
  isplitl [H11]
  · iexists _; iexists _; isplitr
    swap; · iexact H11
    ipureintro; rfl
  iexists _; iexists _; isplitr
  swap; · iexact H12
  ipureintro; rfl

set_option maxHeartbeats 4000000 in
/-- The body at any other point: it adds its blocks to the gradients accumulated so far. -/
theorem run_B (c : Dev nD) (i : grid0.Coords) (arg3 : Memref sig .tc .vmem S2x512x64 .bf16) (harg3 : arg3.IsWhole) (arg4 : Memref sig .tc .vmem S2x64x512 .bf16) (harg4 : arg4.IsWhole) (arg5 : Memref sig .tc .vmem S2x64x512 .f32) (harg5 : arg5.IsWhole) (arg6 : Memref sig .tc .vmem S2x64x512 .f32) (harg6 : arg6.IsWhole) (arg7 : Memref sig .tc .vmem S2x1x512 .f32) (harg7 : arg7.IsWhole) (arg8 : Memref sig .tc .vmem S1x32x512x64 .bf16) (harg8 : arg8.IsWhole) (arg9 : Memref sig .tc .vmem S1x32x64x512 .bf16) (harg9 : arg9.IsWhole) (arg10 : Memref sig .tc .vmem S1x32x64x512 .bf16) (harg10 : arg10.IsWhole) (arg11 : Memref sig .tc .vmem S2x512x64 .f32) (harg11 : arg11.IsWhole) (arg12 : Memref sig .tc .vmem S1x32x64x512 .f32) (harg12 : arg12.IsWhole) (arg13 : Memref sig .tc .vmem S1x32x64x512 .f32) (harg13 : arg13.IsWhole) (arg14 : Memref sig .tc .vmem S2x2x512x512 .f32) (harg14 : arg14.IsWhole) (arg15 : Memref sig .tc .vmem S2x2x512x512 .bf16) (harg15 : arg15.IsWhole) (hc : ¬ cond0 i) (x0 : Vec F S2x512x64 .bf16) (x1 : Vec F S2x64x512 .bf16) (x2 : Vec F S2x64x512 .f32) (x3 : Vec F S2x64x512 .f32) (x4 : Vec F S2x1x512 .f32) (x5 : Vec F S1x32x512x64 .bf16) (x6 : Vec F S1x32x64x512 .bf16) (x7 : Vec F S1x32x64x512 .bf16) (x9 x10 : Vec F S1x32x64x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare x9 ∗ owns (c : Thread nD τ) arg13 fullShare x10 ∗ (∃ d, owns (c : Thread nD τ) arg14 fullShare d) ∗ (∃ d, owns (c : Thread nD τ) arg15 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (outQ (pt x0 x1 x2 x3 x4 x5 x6 x7)) ∗ owns (c : Thread nD τ) arg12 fullShare (Pt.upd (Pt.dk (pt x0 x1 x2 x3 x4 x5 x6 x7)) 32 x9) ∗ owns (c : Thread nD τ) arg13 fullShare (Pt.upd (Pt.dv (pt x0 x1 x2 x3 x4 x5 x6 x7)) 32 x10) ∗ (∃ d, owns (c : Thread nD τ) arg14 fullShare d) ∗ (∃ d, owns (c : Thread nD τ) arg15 fullShare d)) -∗ K ⟨⟩))
    ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15) K := by
  simp only [cc0_attn_bwd_eq_skeleton]; unfold cc0_attn_bwd_skel
  simp only [k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%d11, %f11, -, H11⟩, ⟨%d12, %f12, -, H12⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg9.eq_unread hf6
  obtain rfl := harg10.eq_unread hf7
  obtain rfl := harg12.eq_unread hf9
  obtain rfl := harg13.eq_unread hf10
  sl_exec (disch := sl_exact hc)
  have n0 : run_B.sl.r c arg3 harg3 x0 = (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7))).q0 := rfl
  have n1 : run_B.sl.r_1 c arg3 harg3 x0 = (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7))).q1 := rfl
  have n2 : run_B.sl.r_2 c arg4 harg4 x1 = (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7))).r0 := rfl
  have n3 : run_B.sl.r_3 c arg4 harg4 x1 = (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7))).r1 := rfl
  have n4 : run_B.sl.r_4 c arg5 harg5 x2 = (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7))).t0 := rfl
  have n5 : run_B.sl.r_5 c arg5 harg5 x2 = (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7))).t1 := rfl
  have n6 : run_B.sl.r_8 c arg5 harg5 x2 = (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7))).d0 := rfl
  have n7 : run_B.sl.r_9 c arg5 harg5 x2 = (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7))).d1 := rfl
  have n8 : run_B.sl.r_10 c arg5 harg5 arg6 harg6 x2 x3 = (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7))).e0 := rfl
  have n9 : run_B.sl.r_11 c arg5 harg5 arg6 harg6 x2 x3 = (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7))).e1 := rfl
  have n10 : run_B.sl.r_12 c arg7 harg7 x4 = (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7))).l0 := by
    refine Eq.trans (b := k0_pay94 (arg7.view.readAt (Elt F) lHead0.toLoadRect (harg7.unread x4))) ?_ ?_
    · unfold run_B.sl.r_12; rfl
    · rw [View.readAt_eq_ld]; dsimp only [pt]
  have n11 : run_B.sl.r_13 c arg7 harg7 x4 = (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7))).l1 := by
    refine Eq.trans (b := k0_pay95 (arg7.view.readAt (Elt F) lHead1.toLoadRect (harg7.unread x4))) ?_ ?_
    · unfold run_B.sl.r_13; rfl
    · rw [View.readAt_eq_ld]; dsimp only [pt]
  have n12 : run_B.sl.r_14 c arg9 harg9 x6 = k0_pay96 (arg9.view.readAt (Elt F) (Rect.unit (s := S1x32x64x512) ![0, 0, 0, 0] S1x1x64x512.size inb_S1x32x64x512_S1x1x64x512_0_0_0_0).toLoadRect (harg9.unread x6)) := rfl
  have n13 : run_B.sl.r_15 c arg10 harg10 x7 = k0_pay97 (arg10.view.readAt (Elt F) (Rect.unit (s := S1x32x64x512) ![0, 0, 0, 0] S1x1x64x512.size inb_S1x32x64x512_S1x1x64x512_0_0_0_0).toLoadRect (harg10.unread x7)) := rfl
  have n14 : run_B.sl.r_16 c arg3 harg3 arg9 harg9 x0 x6 = k0_pay98 (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7))).q0 (arg9.view.readAt (Elt F) (Rect.unit (s := S1x32x64x512) ![0, 0, 0, 0] S1x1x64x512.size inb_S1x32x64x512_S1x1x64x512_0_0_0_0).toLoadRect (harg9.unread x6)) := rfl
  have hp : pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7)) = pt x0 x1 x2 x3 x4 x5 x6 x7 := by
    rw [harg3.read_unread, harg4.read_unread, harg5.read_unread, harg6.read_unread, harg7.read_unread, harg8.read_unread, harg9.read_unread, harg10.read_unread]
  have FS := first_slots arg9 arg10 arg14 arg15 (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7))) (harg9.unread x6) (harg10.unread x7) f11 f12 rfl rfl inb_S1x32x64x512_S1x1x64x512_0_0_0_0 inb_S1x32x64x512_S1x1x64x512_0_0_0_0
    inb_S2x2x512x512_S1x1x512x512_0_0_0_0 inb_S2x2x512x512_S1x1x512x512_0_1_0_0 inb_S2x2x512x512_S1x1x512x512_0_0_0_0 inb_S2x2x512x512_S1x1x512x512_0_1_0_0
  have S := state_at Variants.none c none i arg3 harg3 arg4 harg4 arg5 harg5 arg6 harg6 arg7 harg7 arg8 harg8 arg9 harg9 arg10 harg10 arg11 harg11 arg12 harg12 arg13 harg13 arg14 harg14 arg15 harg15 (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7)))
    (k0_pay96 (arg9.view.readAt (Elt F) (Rect.unit (s := S1x32x64x512) ![0, 0, 0, 0] S1x1x64x512.size inb_S1x32x64x512_S1x1x64x512_0_0_0_0).toLoadRect (harg9.unread x6)))
    (k0_pay97 (arg10.view.readAt (Elt F) (Rect.unit (s := S1x32x64x512) ![0, 0, 0, 0] S1x1x64x512.size inb_S1x32x64x512_S1x1x64x512_0_0_0_0).toLoadRect (harg10.unread x7)))
    (k0_pay98 (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7))).q0 (arg9.view.readAt (Elt F) (Rect.unit (s := S1x32x64x512) ![0, 0, 0, 0] S1x1x64x512.size inb_S1x32x64x512_S1x1x64x512_0_0_0_0).toLoadRect (harg9.unread x6)))
    (harg8.unread x5) (harg9.unread x6) (harg10.unread x7) (harg12.unread x9) (harg13.unread x10) _ _ rfl rfl rfl _ _ FS.1.1 FS.1.2 FS.2.1 FS.2.2
    (Scf.trips k0_t1_loop.lb k0_t1_loop.ub k0_t1_loop.st) (le_of_eq trips_eq)
  obtain ⟨S1, S12, S13, -⟩ := S
  have e4 : 4 * Scf.trips k0_t1_loop.lb k0_t1_loop.ub k0_t1_loop.st = 32 := by rw [trips_eq]
  replace S1 := S1.trans ((congrArg (fun n => (Pt.dq0 (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7))) n, Pt.dq1 (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7))) n)) e4).trans (congrArg (fun p => (Pt.dq0 p 32, Pt.dq1 p 32)) hp))
  replace S12 := S12.trans ((congrArg (fun n => Pt.upd (Pt.dk (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7)))) n _) e4).trans (congrArg₂ (fun p x => Pt.upd (Pt.dk p) 32 x) hp (harg12.read_unread x9)))
  replace S13 := S13.trans ((congrArg (fun n => Pt.upd (Pt.dv (pt (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7)))) n _) e4).trans (congrArg₂ (fun p x => Pt.upd (Pt.dv p) 32 x) hp (harg13.read_unread x10)))
  unfold run_B.sl.r_17
  simp only [n0, n1, n2, n3, n4, n5, n6, n7, n8, n9, n10, n11, n12, n13, n14]
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr
    swap; · iexact H8
    ipureintro
    exact (read_q arg11.view f8 _ _ _).trans (congrArg (fun (s : FVec F S512x64 .f32 × FVec F S512x64 .f32) => fun (y : S2x512x64.Idx) => if (y 0).val = 0 then s.1 (ix2 (y 1) (y 2)) else s.2 (ix2 (y 1) (y 2))) S1)
  isplitl [H9]
  · iexists _; isplitr
    swap; · iexact H9
    ipureintro; exact S12
  isplitl [H10]
  · iexists _; isplitr
    swap; · iexact H10
    ipureintro; exact S13
  isplitl [H11]
  · iexists _; iexists _; isplitr
    swap; · iexact H11
    ipureintro; rfl
  iexists _; iexists _; isplitr
  swap; · iexact H12
  ipureintro; rfl

end Cert.AttnBwdClaims

end
-- ==== Proof.AttnRun.lean ====
/- The attention backward's launch: what every point leaves in its result blocks, and the arrays' ends. -/
module

public import proofs.«01_k».proof.Proof.AttnBody

@[expose] public section

set_option maxRecDepth 16384

noncomputable section

namespace Cert.AttnBwdClaims

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnBwdIdeal Cert.AttnBwdIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem cond_iff (t : Fin cfg0.N) : cond0 (grid0.coords t) ↔ t.val % 64 = 0 :=
  (by decide +kernel : ∀ t : Fin grid0.N, cond0 (grid0.coords t) ↔ t.val % 64 = 0) t

abbrev ms0 (t : Fin cfg0.N) : Memref sig .tc .vmem S2x512x64 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2x64x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2x64x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2x64x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2x1x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x32x512x64 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x32x64x512 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x32x64x512 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S2x512x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x32x64x512 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x32x64x512 .f32 := win0_10.stage (cfg0.slots t 10)
abbrev hs10 (t : Fin cfg0.N) : (ms10 t).IsWhole := hstage0_10 ((cfg0.slots t 10).cast nbuf0_10)
abbrev scM0 : Memref sig .tc .vmem S2x2x512x512 .f32 := Memref.whole cc0_scratch0
abbrev scM1 : Memref sig .tc .vmem S2x2x512x512 .bf16 := Memref.whole cc0_scratch1

/-- Between points the launch keeps the two scratches and the random generator's register, at some contents. -/
theorem Phi_eq (c : Dev nD) :
    (Pipeline.ΦA spec0 c : sProp 𝕄) = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- What point `t` computes from. -/
abbrev ptAt (c : Dev nD) (t : Fin cfg0.N) : Pt F := pt (iblk m c 0 t) (iblk m c 1 t) (iblk m c 2 t) (iblk m c 3 t) (iblk m c 4 t) (iblk m c 5 t) (iblk m c 6 t) (iblk m c 7 t)

/-- The two accumulated gradients after point `n`: a head group's first point starts them from zero. -/
def accAt (c : Dev nD) : (n : ℕ) → n < cfg0.N → FVec F S1x32x64x512 .f32 × FVec F S1x32x64x512 .f32
  | 0, hn => (Pt.upd (Pt.dk (ptAt m c ⟨0, hn⟩)) 32 (k0_pay79 (F := F)), Pt.upd (Pt.dv (ptAt m c ⟨0, hn⟩)) 32 (k0_pay80 (F := F)))
  | n + 1, hn =>
    if (n + 1) % 64 = 0 then (Pt.upd (Pt.dk (ptAt m c ⟨n + 1, hn⟩)) 32 (k0_pay79 (F := F)), Pt.upd (Pt.dv (ptAt m c ⟨n + 1, hn⟩)) 32 (k0_pay80 (F := F)))
    else (Pt.upd (Pt.dk (ptAt m c ⟨n + 1, hn⟩)) 32 (accAt c n (Nat.lt_of_succ_lt hn)).1, Pt.upd (Pt.dv (ptAt m c ⟨n + 1, hn⟩)) 32 (accAt c n (Nat.lt_of_succ_lt hn)).2)

theorem accAt_A (c : Dev nD) (t : Fin cfg0.N) (h : t.val % 64 = 0) :
    accAt m c t.val t.isLt = (Pt.upd (Pt.dk (ptAt m c t)) 32 (k0_pay79 (F := F)), Pt.upd (Pt.dv (ptAt m c t)) 32 (k0_pay80 (F := F))) := by
  obtain ⟨n, hn⟩ := t
  cases n with
  | zero => exact rfl
  | succ n => exact (if_pos h).trans rfl

theorem accAt_B (c : Dev nD) (t : Fin cfg0.N) (h : ¬ t.val % 64 = 0) :
    accAt m c t.val t.isLt = (Pt.upd (Pt.dk (ptAt m c t)) 32 (accAt m c (t.val - 1) (Nat.lt_of_le_of_lt (Nat.sub_le _ _) t.isLt)).1,
      Pt.upd (Pt.dv (ptAt m c t)) 32 (accAt m c (t.val - 1) (Nat.lt_of_le_of_lt (Nat.sub_le _ _) t.isLt)).2) := by
  obtain ⟨n, hn⟩ := t
  cases n with
  | zero => exact absurd (Nat.zero_mod _) h
  | succ n => exact (if_neg h).trans rfl

/-- The launch's proof data: each input's block as fetched, the query gradient's block of the point, the two accumulators. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outQ (ptAt m c t)
    | ⟨9, _⟩ => (accAt m c t.val t.isLt).1
    | ⟨10, _⟩ => (accAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = outQ (ptAt m c t) := by dsimp only [dats]
theorem after9 (c : Dev nD) (t : Fin cfg0.N) : (dats m 0 c).after 9 t = (accAt m c t.val t.isLt).1 := by dsimp only [dats]
theorem after10 (c : Dev nD) (t : Fin cfg0.N) : (dats m 0 c).after 10 t = (accAt m c t.val t.isLt).2 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
/-- Away from a head group's first point the accumulator's block is still what the point before left. -/
theorem before9_kept (c : Dev nD) (t : Fin cfg0.N) (h : ¬ t.val % 64 = 0) (d) :
    (dats m 0 c).before 9 t d = (accAt m c (t.val - 1) (Nat.lt_of_le_of_lt (Nat.sub_le _ _) t.isLt)).1 := by
  have hN : t.val < 128 := lt_of_lt_of_eq t.isLt (show cfg0.N = 128 from N_0)
  rw [Dat.before_out_kept _ 9 rfl t (by omega) (Bool.eq_false_iff.mpr fun h => by have := (flush0_9 _).mp h; dsimp only at this; omega)
    (fun _ => rfl) (fun _ _ => rfl)]
  dsimp only [dats]

/-- Away from a head group's first point the accumulator's block is still what the point before left. -/
theorem before10_kept (c : Dev nD) (t : Fin cfg0.N) (h : ¬ t.val % 64 = 0) (d) :
    (dats m 0 c).before 10 t d = (accAt m c (t.val - 1) (Nat.lt_of_le_of_lt (Nat.sub_le _ _) t.isLt)).2 := by
  have hN : t.val < 128 := lt_of_lt_of_eq t.isLt (show cfg0.N = 128 from N_0)
  rw [Dat.before_out_kept _ 10 rfl t (by omega) (Bool.eq_false_iff.mpr fun h => by have := (flush0_10 _).mp h; dsimp only at this; omega)
    (fun _ => rfl) (fun _ _ => rfl)]
  dsimp only [dats]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- and what it gives back. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t))

set_option maxHeartbeats 1600000 in
/-- The body at any point keeps the launch's data. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  rw [show (dats m 0 c).Φ t.castSucc = Pipeline.ΦA spec0 c from rfl, Phi_eq]
  by_cases h0 : t.val % 64 = 0
  · rw [accAt_A m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM0 (Memref.isWhole_whole _) scM1 (Memref.isWhole_whole _) ((cond_iff t).mpr h0) (iblk m c 0 t) (iblk m c 1 t) (iblk m c 2 t) (iblk m c 3 t) (iblk m c 4 t) (iblk m c 5 t) (iblk m c 6 t) (iblk m c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    isplitl [HS1]; · iexact HS1
    iintro ⟨H0, H1, H2, H3, H4, H5, H6, H7, H8, H9, H10, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [accAt_B m c t h0]
    simp only [before9_kept m c t h0, before10_kept m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM0 (Memref.isWhole_whole _) scM1 (Memref.isWhole_whole _) (fun h => h0 ((cond_iff t).mp h)) (iblk m c 0 t) (iblk m c 1 t) (iblk m c 2 t) (iblk m c 3 t) (iblk m c 4 t) (iblk m c 5 t) (iblk m c 6 t) (iblk m c 7 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [HS0]; · iexact HS0
    isplitl [HS1]; · iexact HS1
    iintro ⟨H0, H1, H2, H3, H4, H5, H6, H7, H8, H9, H10, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: it ends with every array as the data say, every other buffer as the region found it, every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame of the kernel with its named constant: its arguments end as they began. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.AttnBwdClaims

end
-- ==== Proof.AttnMath.lean ====
/- Softmax attention and its gradients over the real numbers, and the few extended-real facts that bring a program's rows to them. -/
module

public import proofs.«01_k».proof.Proof.Reals
public import Idealize.ShloMosaic.Lib.Pointwise

@[expose] public section

set_option maxRecDepth 16384

noncomputable section

open Idealize.ShloMosaic Idealize.ShloMosaic.TcCoe Idealize.SL.Sem

namespace Cert.AttnBwdClaims

open Cert.Reals

/-! ## One row over the reals -/

/-- A row's softmax. -/
def softmax {n : ℕ} (s : Fin n → ℝ) (j : Fin n) : ℝ := Real.exp (s j) / ∑ j', Real.exp (s j')

/-- A row's softmax gradient, of the cotangents `p`. -/
def softBwd {n : ℕ} (s p : Fin n → ℝ) (j : Fin n) : ℝ := softmax s j * (p j - ∑ j', softmax s j' * p j')

theorem sum_exp_pos {n : ℕ} [NeZero n] (s : Fin n → ℝ) : 0 < ∑ j, Real.exp (s j) :=
  Finset.sum_pos (fun _ _ => Real.exp_pos _) ⟨0, Finset.mem_univ _⟩

/-- The softmax is unchanged when one number is taken off the whole row. -/
theorem softmax_shift {n : ℕ} (s : Fin n → ℝ) (M : ℝ) (j : Fin n) : Real.exp (s j - M) / ∑ j', Real.exp (s j' - M) = softmax s j := by
  unfold softmax
  simp only [Real.exp_sub, div_eq_mul_inv _ (Real.exp M), ← Finset.sum_mul]
  exact mul_div_mul_right _ _ (inv_ne_zero (Real.exp_pos M).ne')

/-- The vector-Jacobian product's own order of operations gives the softmax gradient. -/
theorem softBwd_vjp {n : ℕ} [NeZero n] (s p : Fin n → ℝ) (M : ℝ) (j : Fin n) :
    (p j / (∑ j', Real.exp (s j' - M)) + -(∑ j', p j' * (1 / ((∑ j', Real.exp (s j' - M)) * (∑ j', Real.exp (s j' - M)))) * Real.exp (s j' - M))) * Real.exp (s j - M)
      = softBwd s p j := by
  have h := (sum_exp_pos fun j => s j - M).ne'
  unfold softBwd
  simp only [← softmax_shift s M]
  set L := ∑ j', Real.exp (s j' - M)
  have e : ∑ j', Real.exp (s j' - M) / L * p j' = (∑ j', p j' * (1 / (L * L)) * Real.exp (s j' - M)) * L := by
    rw [Finset.sum_mul]; refine Finset.sum_congr rfl fun i _ => ?_; field_simp
  rw [e]; field_simp; ring

/-- The maximum a host reduction takes of a real array, started from minus infinity, is real wherever something is reduced. -/
theorem hostMax_real {s t u : Shape} {axes : List (Fin s.rank)} (x : FVec Ideal s .f32) (init : FVec Ideal u .f32) (h : s.ReducesTo axes t) (hu : 0 < u.numel)
    (j : t.Idx) (i : s.Idx) (hi : h.drop i = j) (hx : ∀ k, ∃ r : ℝ, x k = (r : EReal)) (h0 : init (Shape.Idx.first hu) = (⊥ : EReal)) :
    ∃ r : ℝ, (Host.reduce (FloatOps.maximumf (F := Ideal) (φ := .f32)) x init h hu j : EReal) = (r : EReal) := by
  have key : ∀ (l : List (Fin s.numel)) (r0 : EReal), (r0 = ⊥ ∨ ∃ r : ℝ, r0 = (r : EReal)) → (l ≠ [] ∨ r0 ≠ ⊥) →
      ∃ r : ℝ, l.foldl (fun r n => max r (x (s.rowMajor.symm n) : EReal)) r0 = (r : EReal) := by
    intro l
    induction l with
    | nil =>
      intro r0 h1 h2
      rcases h1 with rfl | h1
      · simp at h2
      · exact h1
    | cons n l ih =>
      intro r0 h1 _
      obtain ⟨y, hy⟩ := hx (s.rowMajor.symm n)
      have e : ∃ r : ℝ, max r0 (x (s.rowMajor.symm n) : EReal) = (r : EReal) := by
        rw [hy]
        rcases h1 with rfl | ⟨r, rfl⟩
        · exact ⟨y, bot_sup_eq _⟩
        · exact ⟨max r y, (EReal.coe_strictMono.monotone.map_max).symm⟩
      obtain ⟨r, hr⟩ := e
      simp only [List.foldl_cons, hr]
      exact ih _ (.inr ⟨r, rfl⟩) (.inr (EReal.coe_ne_bot r))
  unfold Host.reduce
  rw [h0]
  refine key _ _ (.inl rfl) (.inl fun hnil => ?_)
  have hm : s.rowMajor i ∈ (List.finRange s.numel).filter fun n => h.drop (s.rowMajor.symm n) = j := by
    simp [hi]
  rw [hnil] at hm
  simp at hm

theorem maxV_apply {s : Shape} (a b : FVec Ideal s .f32) (z : s.Idx) : (maximumf a b z : EReal) = max (a z : EReal) (b z) := rfl
theorem divV_apply {s : Shape} (a b : FVec Ideal s .f32) (z : s.Idx) : (Host.divf a b z : EReal) = Ideal.div (a z) (b z) := rfl

theorem word_eighth : Ideal.ofBits .f32 0x3E000000#32 = ((1 / 8 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num
theorem word_bot : Ideal.ofBits .f32 0xFF800000#32 = ⊥ := by
  simp [Ideal.ofBits, Ideal.ieee]

/-- The factor of the queries: an eighth over the logarithm of two. -/
theorem scale_word : Ideal.div (Ideal.ofBits .f32 0x3E000000#32) (Ideal.log (Ideal.ofBits .f32 0x40000000#32)) = ((1 / 8 / Real.log 2 : ℝ) : EReal) := by
  rw [word_eighth, word_two, Ideal.log_coe, if_neg (by norm_num), div_coe_coe (Real.log_pos (by norm_num)).ne']

/-! ## The attention over the reals -/

variable (Q : (⟨4, ![1, 16384, 8, 64]⟩ : Shape).Idx → ℝ) (K W : (⟨4, ![1, 16384, 2, 64]⟩ : Shape).Idx → ℝ) (D : (⟨3, ![1, 16384, 512]⟩ : Shape).Idx → ℝ)

/-- Head `u` of group `g`. -/
abbrev hd (g : Fin 2) (u : Fin 4) : Fin 8 := ⟨g.val * 4 + u.val, by omega⟩
/-- Entry `x` of head `u` of group `g` among the 512 columns of the cotangent. -/
abbrev hx (g : Fin 2) (u : Fin 4) (x : Fin 64) : Fin 512 := ⟨(g.val * 4 + u.val) * 64 + x.val, by omega⟩

/-- The scores. -/
def sc (g : Fin 2) (u : Fin 4) (i j : Fin 16384) : ℝ := (∑ x, Q (ix4 0 i (hd g u) x) * K (ix4 0 j g x)) * (1 / 8)
/-- The probabilities' cotangent. -/
def dp (g : Fin 2) (u : Fin 4) (i j : Fin 16384) : ℝ := ∑ x, D (ix3 0 i (hx g u x)) * W (ix4 0 j g x)
/-- The scores' cotangent. -/
def dsc (g : Fin 2) (u : Fin 4) (i j : Fin 16384) : ℝ := softBwd (sc Q K g u i) (dp W D g u i) j
/-- The gradients of the queries (less the factor both programs take off), the keys and the values. -/
def dQ (g : Fin 2) (u : Fin 4) (i : Fin 16384) (x : Fin 64) : ℝ := Real.log 2 * ∑ j, dsc Q K W D g u i j * K (ix4 0 j g x)
def dK (g : Fin 2) (j : Fin 16384) (x : Fin 64) : ℝ := (∑ u, ∑ i, dsc Q K W D g u i j * Q (ix4 0 i (hd g u) x)) * (1 / 8)
def dV (g : Fin 2) (j : Fin 16384) (x : Fin 64) : ℝ := ∑ u, ∑ i, softmax (sc Q K g u i) j * D (ix3 0 i (hx g u x))

end Cert.AttnBwdClaims

end
-- ==== Proof.AttnHead.lean ====
/- One head's block over the reals: from what the kernel is handed for a block of rows, its probabilities are the softmax's, its
   score gradients the softmax gradient times the logarithm of two, and its sums the rows' shares of the three gradients. -/
module

public import proofs.«01_k».proof.Proof.AttnBody
public import proofs.«01_k».proof.Proof.AttnMath
public import Idealize.ShloMosaic.Lib.Pointwise

@[expose] public section

set_option maxRecDepth 16384

noncomputable section

namespace Cert.AttnBwdClaims

open Idealize.ShloMosaic Idealize.ShloMosaic.TcCoe Idealize.SL.Sem
open Cert.AttnBwdIdeal Cert.AttnBwdIdeal.Gen
open Cert.Reals

/-! ## The payloads' entries -/

theorem pay81_at (v : FVec Ideal S1x512x64 .bf16) (a : Fin 512) (x : Fin 64) : k0_pay81 (F := Ideal) v (ix2 a x) = v (ix3 0 a x) := by pointwise [k0_pay81]
theorem pay82_at (v : FVec Ideal S1x512x64 .bf16) (a : Fin 512) (x : Fin 64) : k0_pay82 (F := Ideal) v (ix2 a x) = v (ix3 0 a x) := by pointwise [k0_pay82]
theorem pay83_at (v : FVec Ideal S1x64x512 .bf16) (x : Fin 64) (a : Fin 512) : k0_pay83 (F := Ideal) v (ix2 x a) = v (ix3 0 x a) := by pointwise [k0_pay83]
theorem pay84_at (v : FVec Ideal S1x64x512 .bf16) (x : Fin 64) (a : Fin 512) : k0_pay84 (F := Ideal) v (ix2 x a) = v (ix3 0 x a) := by pointwise [k0_pay84]
theorem pay85_at (v : FVec Ideal S1x64x512 .f32) (x : Fin 64) (a : Fin 512) : k0_pay85 (F := Ideal) v (ix2 x a) = v (ix3 0 x a) := by pointwise [k0_pay85]
theorem pay86_at (v : FVec Ideal S1x64x512 .f32) (x : Fin 64) (a : Fin 512) : k0_pay86 (F := Ideal) v (ix2 x a) = v (ix3 0 x a) := by pointwise [k0_pay86]

theorem ln2_eq : (Named.named (F := Ideal) κ "ln_2" (φ := .f32) 0x3F317218#32 : EReal) = ((Real.log 2 : ℝ) : EReal) :=
  IdealRules.named_const.ideal_named_scalar _ _ _ _ rfl

theorem pay90_at (v : FVec Ideal S1x64x512 .f32) (a : Fin 512) (x : Fin 64) :
    k0_pay90 (F := Ideal) (k0_pay87 v) (ix2 a x) = v (ix3 0 x a) * ((Real.log 2 : ℝ) : EReal) := by
  rw [← ln2_eq]; pointwise [k0_pay90, k0_pay87]
theorem pay91_at (v : FVec Ideal S1x64x512 .f32) (n : EReal) (a : Fin 512) (x : Fin 64) :
    k0_pay91 (F := Ideal) (k0_pay88 v) n (ix2 a x) = v (ix3 0 x a) * n := by
  pointwise [k0_pay91, k0_pay89, k0_pay88]
theorem pay92_at (v o : FVec Ideal S1x64x512 .f32) (a : Fin 512) :
    k0_pay92 (F := Ideal) (k0_pay87 v) o (ix2 a 0) = ∑ x, v (ix3 0 x a) * ((Real.log 2 : ℝ) : EReal) * o (ix3 0 x a) := by
  rw [← ln2_eq]; pointwise [k0_pay92, k0_pay87]
theorem pay93_at (v o : FVec Ideal S1x64x512 .f32) (n : EReal) (a : Fin 512) :
    k0_pay93 (F := Ideal) (k0_pay88 v) n o (ix2 a 0) = ∑ x, v (ix3 0 x a) * n * o (ix3 0 x a) := by
  pointwise [k0_pay93, k0_pay89, k0_pay88]

theorem fold_max_const (n : ℕ) [NeZero n] (z : EReal) : (Finset.univ.fold max (Ideal.ofBits .f32 0xFF800000#32) fun _ : Fin n => z) = z := by
  rw [word_bot, Finset.fold_const]
  · rw [if_neg (Finset.univ_nonempty.ne_empty)]; exact bot_sup_eq _
  · simp
theorem pay94_at (v : FVec Ideal S1x1x512 .f32) (a : Fin 512) : k0_pay94 (F := Ideal) v (ix2 a 0) = v (ix3 0 0 a) := by
  refine Eq.trans ?_ (fold_max_const 128 (v (ix3 0 0 a)))
  pointwise [k0_pay94]
theorem pay95_at (v : FVec Ideal S1x1x512 .f32) (a : Fin 512) : k0_pay95 (F := Ideal) v (ix2 a 0) = v (ix3 0 0 a) := by
  refine Eq.trans ?_ (fold_max_const 128 (v (ix3 0 0 a)))
  pointwise [k0_pay95]

theorem prob_at (l : FVec Ideal S512x1 .f32) (q : FVec Ideal S512x64 .bf16) (k : FVec Ideal S64x512 .bf16) (a b : Fin 512) :
    prob l (slotS q k) (ix2 a b) = Ideal.exp2 ((∑ x, q (ix2 a x) * k (ix2 x b)) - l (ix2 a 0)) := by pointwise [prob, slotS]; rfl
theorem dscore_at (e l : FVec Ideal S512x1 .f32) (s : FVec Ideal S1x1x512x512 .f32) (d : FVec Ideal S512x64 .bf16) (v : FVec Ideal S64x512 .bf16) (a b : Fin 512) :
    dscore e l s (slotP d v) (ix2 a b) = prob l s (ix2 a b) * ((∑ x, d (ix2 a x) * v (ix2 x b)) - e (ix2 a 0)) := by pointwise [dscore, slotP]
theorem pairB_at (a0 a1 : FVec Ideal S64x512 .bf16) (b0 b1 : FVec Ideal S512x512 .bf16) (x : Fin 64) (b : Fin 512) :
    pairB a0 a1 b0 b1 (ix2 x b) = (∑ a, a0 (ix2 x a) * b0 (ix2 a b)) + ∑ a, a1 (ix2 x a) * b1 (ix2 a b) := by
  refine Eq.trans ?_ (congrArg (· + _) (zero_add _))
  pointwise [pairB]
theorem mm_at (d : FVec Ideal S512x512 .bf16) (k : FVec Ideal S512x64 .bf16) (a : Fin 512) (x : Fin 64) :
    matmul dot_S512x512_S512x64_S512x64_1_0_0_1_n_n none d k (constant S512x64 .f32 0x00000000#32) (ix2 a x) = ∑ b, d (ix2 a b) * k (ix2 b x) := by pointwise
theorem pay103_at (a : Fin 512) (x : Fin 64) : k0_pay103 (F := Ideal) (ix2 a x) = (0 : EReal) := by pointwise [k0_pay103]
theorem pay104_at (a : Fin 512) (x : Fin 64) : k0_pay104 (F := Ideal) (ix2 a x) = (0 : EReal) := by pointwise [k0_pay104]
theorem pay79_at (y : S1x32x64x512.Idx) : k0_pay79 (F := Ideal) y = (0 : EReal) := by pointwise [k0_pay79]
theorem pay80_at (y : S1x32x64x512.Idx) : k0_pay80 (F := Ideal) y = (0 : EReal) := by pointwise [k0_pay80]

/-! ## One head -/

variable (Q : (⟨4, ![1, 16384, 8, 64]⟩ : Shape).Idx → ℝ) (K W : (⟨4, ![1, 16384, 2, 64]⟩ : Shape).Idx → ℝ) (D : (⟨3, ![1, 16384, 512]⟩ : Shape).Idx → ℝ)

/-- Row `b` of block `j`. -/
abbrev rw512 (j : Fin 32) (b : Fin 512) : Fin 16384 := ⟨j.val * 512 + b.val, by omega⟩

/-- What a head's blocks hold, for the rows `r`. -/
structure HeadOk (g : Fin 2) (u : Fin 4) (r : Fin 512 → Fin 16384) (q d : FVec Ideal S512x64 .bf16) (e l : FVec Ideal S512x1 .f32) (rt tt : FVec Ideal S64x512 .bf16) : Prop where
  hq : ∀ a x, (q (ix2 a x) : EReal) = ((Q (ix4 0 (r a) (hd g u) x) * (1 / 8 / Real.log 2) : ℝ) : EReal)
  hrt : ∀ x a, (rt (ix2 x a) : EReal) = ((Q (ix4 0 (r a) (hd g u) x) * (1 / 8 / Real.log 2) : ℝ) : EReal)
  hdd : ∀ a x, (d (ix2 a x) : EReal) = ((D (ix3 0 (r a) (hx g u x)) * Real.log 2 : ℝ) : EReal)
  htt : ∀ x a, (tt (ix2 x a) : EReal) = ((D (ix3 0 (r a) (hx g u x)) : ℝ) : EReal)
  he : ∀ a, (e (ix2 a 0) : EReal) = ((Real.log 2 * ∑ j, softmax (sc Q K g u (r a)) j * dp W D g u (r a) j : ℝ) : EReal)
  hl : ∀ a, ∃ T : ℝ, (l (ix2 a 0) : EReal) = (T : EReal) ∧ ∀ j, Real.rpow 2 (sc Q K g u (r a) j / Real.log 2 - T) = softmax (sc Q K g u (r a)) j

/-- What a head group's key and value blocks hold. -/
structure KeysOk (g : Fin 2) (kr : FVec Ideal S1x32x512x64 .bf16) (kt vt : FVec Ideal S1x32x64x512 .bf16) : Prop where
  hkr : ∀ j b x, (kr (ix4 0 j b x) : EReal) = ((K (ix4 0 (rw512 j b) g x) : ℝ) : EReal)
  hkt : ∀ j x b, (kt (ix4 0 j x b) : EReal) = ((K (ix4 0 (rw512 j b) g x) : ℝ) : EReal)
  hvt : ∀ j x b, (vt (ix4 0 j x b) : EReal) = ((W (ix4 0 (rw512 j b) g x) : ℝ) : EReal)

theorem col_at {α : Type} (v : S1x32x64x512.Idx → α) (j : Fin 32) (x : Fin 64) (b : Fin 512) : col v j.val (ix2 x b) = v (ix4 0 j x b) := by
  unfold col
  exact congrArg (fun z => v (ix4 0 z x b)) (Fin.ext (Nat.min_eq_left (by omega)))
theorem row_at {α : Type} (v : S1x32x512x64.Idx → α) (j : Fin 32) (b : Fin 512) (x : Fin 64) : row v j.val (ix2 b x) = v (ix4 0 j b x) := by
  unfold row
  exact congrArg (fun z => v (ix4 0 z b x)) (Fin.ext (Nat.min_eq_left (by omega)))

variable {Q K W D} {g : Fin 2} {u : Fin 4} {r : Fin 512 → Fin 16384} {q d : FVec Ideal S512x64 .bf16} {e l : FVec Ideal S512x1 .f32} {rt tt : FVec Ideal S64x512 .bf16}
  {kr : FVec Ideal S1x32x512x64 .bf16} {kt vt : FVec Ideal S1x32x64x512 .bf16}

theorem log2_ne : Real.log 2 ≠ 0 := (Real.log_pos (by norm_num)).ne'

/-- The recomputed probabilities are the softmax's. -/
theorem prob_ok (h : HeadOk Q K W D g u r q d e l rt tt) (hk : KeysOk K W g kr kt vt) (j : Fin 32) (a b : Fin 512) :
    (prob l (slotS q (col kt j.val)) (ix2 a b) : EReal) = ((softmax (sc Q K g u (r a)) (rw512 j b) : ℝ) : EReal) := by
  obtain ⟨T, hT, hs⟩ := h.hl a
  rw [prob_at, hT]
  simp only [h.hq, col_at, hk.hkt, ← EReal.coe_mul, coe_sum]
  rw [← EReal.coe_sub, Ideal.exp2_coe, ← hs]
  refine congrArg (fun z : ℝ => ((Real.rpow 2 (z - T) : ℝ) : EReal)) ?_
  unfold sc
  rw [eq_div_iff log2_ne, Finset.sum_mul, Finset.sum_mul]
  refine Finset.sum_congr rfl fun x _ => ?_
  field_simp [log2_ne]

/-- The score gradients are the softmax gradient's, times the logarithm of two. -/
theorem ds_ok (h : HeadOk Q K W D g u r q d e l rt tt) (hk : KeysOk K W g kr kt vt) (j : Fin 32) (a b : Fin 512) :
    (dscore e l (slotS q (col kt j.val)) (slotP d (col vt j.val)) (ix2 a b) : EReal) = ((Real.log 2 * dsc Q K W D g u (r a) (rw512 j b) : ℝ) : EReal) := by
  rw [dscore_at, prob_ok h hk, h.he]
  simp only [h.hdd, col_at, hk.hvt, ← EReal.coe_mul, coe_sum]
  rw [← EReal.coe_sub, ← EReal.coe_mul]
  refine congrArg (fun z : ℝ => (z : EReal)) ?_
  unfold dsc softBwd
  have e : ∑ x, D (ix3 0 (r a) (hx g u x)) * Real.log 2 * W (ix4 0 (rw512 j b) g x) = Real.log 2 * dp W D g u (r a) (rw512 j b) := by
    unfold dp; rw [Finset.mul_sum]; exact Finset.sum_congr rfl fun x _ => by ring
  rw [e]; ring

/-- A head's share of the key gradient from the rows `r`. -/
theorem dk_ok (h : HeadOk Q K W D g u r q d e l rt tt) (hk : KeysOk K W g kr kt vt) (j : Fin 32) (x : Fin 64) (b : Fin 512) :
    (∑ a, (rt (ix2 x a) : EReal) * dscore e l (slotS q (col kt j.val)) (slotP d (col vt j.val)) (ix2 a b))
      = ((∑ a, dsc Q K W D g u (r a) (rw512 j b) * Q (ix4 0 (r a) (hd g u) x) * (1 / 8) : ℝ) : EReal) := by
  simp only [ds_ok h hk, h.hrt, ← EReal.coe_mul, coe_sum]
  refine congrArg (fun z : ℝ => (z : EReal)) (Finset.sum_congr rfl fun a _ => ?_)
  field_simp [log2_ne]

/-- A head's share of the value gradient from the rows `r`. -/
theorem dv_ok (h : HeadOk Q K W D g u r q d e l rt tt) (hk : KeysOk K W g kr kt vt) (j : Fin 32) (x : Fin 64) (b : Fin 512) :
    (∑ a, (tt (ix2 x a) : EReal) * prob l (slotS q (col kt j.val)) (ix2 a b))
      = ((∑ a, softmax (sc Q K g u (r a)) (rw512 j b) * D (ix3 0 (r a) (hx g u x)) : ℝ) : EReal) := by
  simp only [prob_ok h hk, h.htt, ← EReal.coe_mul, coe_sum]
  exact congrArg (fun z : ℝ => (z : EReal)) (Finset.sum_congr rfl fun a _ => mul_comm _ _)

/-- The query gradient after the first `n` blocks of keys. -/
theorem dq_upto (h : HeadOk Q K W D g u r q d e l rt tt) (hk : KeysOk K W g kr kt vt) (z : FVec Ideal S512x64 .f32) (hz : ∀ a x, (z (ix2 a x) : EReal) = 0)
    (a : Fin 512) (x : Fin 64) : ∀ n ≤ 32, (Pt.dq z (fun j => dscore e l (slotS q (col kt j)) (slotP d (col vt j))) kr n (ix2 a x) : EReal)
      = ((∑ j ∈ Finset.range n, ∑ b : Fin 512, Real.log 2 * dsc Q K W D g u (r a) (rw512 ⟨min j 31, by omega⟩ b) * K (ix4 0 (rw512 ⟨min j 31, by omega⟩ b) g x) : ℝ) : EReal)
  | 0, _ => by rw [Finset.sum_range_zero]; exact hz a x
  | n + 1, hn => by
    have ih := dq_upto h hk z hz a x n (by omega)
    show (Pt.dq z _ kr n (ix2 a x) : EReal) + matmul dot_S512x512_S512x64_S512x64_1_0_0_1_n_n none _ _ (constant S512x64 .f32 0x00000000#32) (ix2 a x) = _
    rw [ih, mm_at, Finset.sum_range_succ, EReal.coe_add]
    refine congrArg (_ + ·) ?_
    have e : min n 31 = n := Nat.min_eq_left (by omega)
    have d1 := fun b => ds_ok h hk ⟨n, by omega⟩ a b
    have r1 := fun b => row_at kr ⟨n, by omega⟩ b x
    dsimp only at d1 r1
    simp only [d1, r1, hk.hkr, ← EReal.coe_mul, coe_sum, e]

/-- A head's query gradient. -/
theorem dq_ok (h : HeadOk Q K W D g u r q d e l rt tt) (hk : KeysOk K W g kr kt vt) (z : FVec Ideal S512x64 .f32) (hz : ∀ a x, (z (ix2 a x) : EReal) = 0)
    (a : Fin 512) (x : Fin 64) : (Pt.dq z (fun j => dscore e l (slotS q (col kt j)) (slotP d (col vt j))) kr 32 (ix2 a x) : EReal)
      = ((dQ Q K W D g u (r a) x : ℝ) : EReal) := by
  rw [dq_upto h hk z hz a x 32 le_rfl, Finset.sum_range]
  refine congrArg (fun z : ℝ => (z : EReal)) ?_
  unfold dQ
  rw [Finset.mul_sum]
  refine Fin.sum_mul_add_congr (f := fun j => Real.log 2 * (dsc Q K W D g u (r a) j * K (ix4 0 j g x))) fun s k hl => ?_
  have e : (⟨min s.val 31, by omega⟩ : Fin 32) = s := Fin.ext (Nat.min_eq_left (by omega))
  rw [e, mul_assoc]

/-! ### The two heads of a point -/

variable (p : Pt Ideal) (v : Fin 2 → Fin 4)

theorem dk_pair (h0 : HeadOk Q K W D g (v 0) r p.q0 p.d0 p.e0 p.l0 p.r0 p.t0) (h1 : HeadOk Q K W D g (v 1) r p.q1 p.d1 p.e1 p.l1 p.r1 p.t1)
    (hk : KeysOk K W g p.kr p.kt p.vt) (j : Fin 32) (x : Fin 64) (b : Fin 512) :
    (Pt.dk p j.val (ix2 x b) : EReal) = ((∑ h : Fin 2, ∑ a : Fin 512, dsc Q K W D g (v h) (r a) (rw512 j b) * Q (ix4 0 (r a) (hd g (v h)) x) * (1 / 8) : ℝ) : EReal) := by
  refine (pairB_at _ _ _ _ x b).trans ?_
  rw [Fin.sum_univ_two, EReal.coe_add]
  exact congrArg₂ (fun y z : EReal => y + z) (dk_ok h0 hk j x b) (dk_ok h1 hk j x b)

theorem dv_pair (h0 : HeadOk Q K W D g (v 0) r p.q0 p.d0 p.e0 p.l0 p.r0 p.t0) (h1 : HeadOk Q K W D g (v 1) r p.q1 p.d1 p.e1 p.l1 p.r1 p.t1)
    (hk : KeysOk K W g p.kr p.kt p.vt) (j : Fin 32) (x : Fin 64) (b : Fin 512) :
    (Pt.dv p j.val (ix2 x b) : EReal) = ((∑ h : Fin 2, ∑ a : Fin 512, softmax (sc Q K g (v h) (r a)) (rw512 j b) * D (ix3 0 (r a) (hx g (v h) x)) : ℝ) : EReal) := by
  refine (pairB_at _ _ _ _ x b).trans ?_
  rw [Fin.sum_univ_two, EReal.coe_add]
  exact congrArg₂ (fun y z : EReal => y + z) (dv_ok h0 hk j x b) (dv_ok h1 hk j x b)

theorem outQ_at (h0 : HeadOk Q K W D g (v 0) r p.q0 p.d0 p.e0 p.l0 p.r0 p.t0) (h1 : HeadOk Q K W D g (v 1) r p.q1 p.d1 p.e1 p.l1 p.r1 p.t1)
    (hk : KeysOk K W g p.kr p.kt p.vt) (b : Fin 2) (a : Fin 512) (x : Fin 64) :
    (outQ p (ix3 b a x) : EReal) = ((dQ Q K W D g (v b) (r a) x : ℝ) : EReal) := by
  by_cases hb : b.val = 0
  · obtain rfl : b = 0 := Fin.ext hb
    exact (if_pos (show ((ix3 0 a x : S2x512x64.Idx) 0).val = 0 from rfl)).trans (dq_ok h0 hk _ pay103_at a x)
  · obtain rfl : b = 1 := Fin.ext (by show b.val = 1; omega)
    exact (if_neg (show ¬ ((ix3 1 a x : S2x512x64.Idx) 0).val = 0 from Nat.one_ne_zero)).trans (dq_ok h1 hk _ pay104_at a x)

/-- The row sums of the cotangent times the attention's output are those the softmax gradient subtracts. -/
theorem delta_real (g : Fin 2) (u : Fin 4) (i : Fin 16384) :
    ∑ x, D (ix3 0 i (hx g u x)) * Real.log 2 * ∑ j, softmax (sc Q K g u i) j * W (ix4 0 j g x) = Real.log 2 * ∑ j, softmax (sc Q K g u i) j * dp W D g u i j := by
  unfold dp
  simp only [Finset.mul_sum]
  rw [Finset.sum_comm]
  exact Finset.sum_congr rfl fun j _ => Finset.sum_congr rfl fun x _ => by ring

/-- All the rows and heads of a group, taken as the kernel visits them: pairs of heads, blocks of rows, both heads of the pair. -/
theorem sum_points (f : Fin 4 → Fin 16384 → ℝ) :
    ∑ s : Fin 64, ∑ b : Fin 2, ∑ a : Fin 512, f ⟨s.val / 32 * 2 + b.val, by omega⟩ ⟨s.val % 32 * 512 + a.val, by omega⟩ = ∑ u, ∑ i, f u i := by
  have e1 : ∀ u, ∑ i, f u i = ∑ t : Fin 32, ∑ a : Fin 512, f u ⟨t.val * 512 + a.val, by omega⟩ := fun u =>
    (Fin.sum_mul_add_congr (f := f u) fun s k hl => rfl).symm
  simp only [e1]
  rw [← Fin.sum_mul_add_congr (L := 64) (S := 2) (n := 32) (f := fun s : Fin 64 => ∑ b : Fin 2, ∑ a : Fin 512, f ⟨s.val / 32 * 2 + b.val, by omega⟩ ⟨s.val % 32 * 512 + a.val, by omega⟩)
    (F := fun hh t => ∑ b : Fin 2, ∑ a : Fin 512, f ⟨hh.val * 2 + b.val, by omega⟩ ⟨t.val * 512 + a.val, by omega⟩) (fun hh t hl => by
      have h1 : (hh.val * 32 + t.val) / 32 = hh.val := by omega
      have h2 : (hh.val * 32 + t.val) % 32 = t.val := by omega
      simp only [h1, h2])]
  rw [Fin.sum_univ_four, Fin.sum_univ_two]
  simp only [Fin.sum_univ_two, Finset.sum_add_distrib]
  exact (add_assoc _ _ _).symm

end Cert.AttnBwdClaims

end
-- ==== Proof.AttnHost.lean ====
/- What the attention backward's launch is handed: the host's arrays before it, entry by entry over the reals, and the blocks of
   them a grid point reads. -/
module

public import proofs.«01_k».proof.Proof.AttnRun
public import proofs.«01_k».proof.Proof.AttnHead

@[expose] public section

set_option maxRecDepth 16384

noncomputable section

namespace Cert.AttnBwdClaims

open Idealize.ShloMosaic Idealize.ShloMosaic.TcCoe Idealize.SL.Sem
open Idealize.ShloMosaic.StableHlo
open Cert.AttnBwdIdeal Cert.AttnBwdIdeal.Gen
open Cert.Reals

/-! ## The host's arrays -/

abbrev lg2 : FVec Ideal S_ .f32 := Host.log (constant S_ .f32 0x40000000#32)

def hQ (q : FVec Ideal S1x16384x8x64 .f32) : FVec Ideal S8x16384x64 .bf16 :=
  truncf .bf16 (transpose S8x16384x64 [1, 0, 2] (mulf (shapeCast S16384x8x64 q shapeCasts_S1x16384x8x64_S16384x8x64)
    (broadcastInDim S16384x8x64 ![] bcast_S_S16384x8x64 (Host.divf (constant S_ .f32 0x3E000000#32) lg2))) transposes_S16384x8x64_S8x16384x64_1_0_2) bitsLt_bf16_f32
def hQt (q : FVec Ideal S1x16384x8x64 .f32) : FVec Ideal S8x64x16384 .bf16 := transpose S8x64x16384 [0, 2, 1] (hQ q) transposes_S8x16384x64_S8x64x16384_0_2_1
def hK (k : FVec Ideal S1x16384x2x64 .f32) : FVec Ideal S2x16384x64 .bf16 :=
  truncf .bf16 (transpose S2x16384x64 [1, 0, 2] (shapeCast S16384x2x64 k shapeCasts_S1x16384x2x64_S16384x2x64) transposes_S16384x2x64_S2x16384x64_1_0_2) bitsLt_bf16_f32
def hKr (k : FVec Ideal S1x16384x2x64 .f32) : FVec Ideal S2x32x512x64 .bf16 := shapeCast S2x32x512x64 (hK k) shapeCasts_S2x16384x64_S2x32x512x64
def hKt (k : FVec Ideal S1x16384x2x64 .f32) : FVec Ideal S2x32x64x512 .bf16 :=
  transpose S2x32x64x512 [0, 2, 1, 3] (shapeCast S2x64x32x512 (transpose S2x64x16384 [0, 2, 1] (hK k) transposes_S2x16384x64_S2x64x16384_0_2_1) shapeCasts_S2x64x16384_S2x64x32x512) transposes_S2x64x32x512_S2x32x64x512_0_2_1_3
def hVt (v : FVec Ideal S1x16384x2x64 .f32) : FVec Ideal S2x32x64x512 .bf16 :=
  transpose S2x32x64x512 [0, 2, 1, 3] (shapeCast S2x64x32x512 (truncf .bf16 (transpose S2x64x16384 [1, 2, 0] (shapeCast S16384x2x64 v shapeCasts_S1x16384x2x64_S16384x2x64) transposes_S16384x2x64_S2x64x16384_1_2_0) bitsLt_bf16_f32) shapeCasts_S2x64x16384_S2x64x32x512) transposes_S2x64x32x512_S2x32x64x512_0_2_1_3
def hD (d : FVec Ideal S1x16384x512 .f32) : FVec Ideal S8x64x16384 .f32 :=
  transpose S8x64x16384 [1, 2, 0] (shapeCast S16384x8x64 d shapeCasts_S1x16384x512_S16384x8x64) transposes_S16384x8x64_S8x64x16384_1_2_0
/-- The queries by heads, and each head's group's keys and values. -/
def hQh (q : FVec Ideal S1x16384x8x64 .f32) : FVec Ideal S8x16384x64 .f32 :=
  transpose S8x16384x64 [1, 0, 2] (shapeCast S16384x8x64 q shapeCasts_S1x16384x8x64_S16384x8x64) transposes_S16384x8x64_S8x16384x64_1_0_2
def hKh (k : FVec Ideal S1x16384x2x64 .f32) : FVec Ideal S8x16384x64 .f32 :=
  shapeCast S8x16384x64 (broadcastInDim S2x4x16384x64 ![0, 2, 3] bcast_S2x16384x64_S2x4x16384x64_0_2_3
    (transpose S2x16384x64 [1, 0, 2] (shapeCast S16384x2x64 k shapeCasts_S1x16384x2x64_S16384x2x64) transposes_S16384x2x64_S2x16384x64_1_0_2)) shapeCasts_S2x4x16384x64_S8x16384x64
def hVh (v : FVec Ideal S1x16384x2x64 .f32) : FVec Ideal S8x64x16384 .f32 :=
  shapeCast S8x64x16384 (broadcastInDim S2x4x64x16384 ![0, 2, 3] bcast_S2x64x16384_S2x4x64x16384_0_2_3
    (transpose S2x64x16384 [1, 2, 0] (shapeCast S16384x2x64 v shapeCasts_S1x16384x2x64_S16384x2x64) transposes_S16384x2x64_S2x64x16384_1_2_0)) shapeCasts_S2x4x64x16384_S8x64x16384
def hS (q : FVec Ideal S1x16384x8x64 .f32) (k : FVec Ideal S1x16384x2x64 .f32) : FVec Ideal S8x16384x16384 .f32 :=
  mulf (Host.dotGeneral dot_S8x16384x64_S8x16384x64_S8x16384x16384_2_2_1_1_0_0 none (hQh q) (hKh k)) (broadcastInDim S8x16384x16384 ![] bcast_S_S8x16384x16384 (constant S_ .f32 0x3E000000#32))
def hMx (s : FVec Ideal S8x16384x16384 .f32) : FVec Ideal S8x16384 .f32 := Host.reduce FloatOps.maximumf s (constant S_ .f32 0xFF800000#32) reducesTo_S8x16384x16384_S8x16384_d2 h_S_
def hM1 (x : FVec Ideal S8x16384 .f32) : FVec Ideal S8x16384x1 .f32 := broadcastInDim S8x16384x1 ![0, 1] bcast_S8x16384_S8x16384x1_0_1 x
def hB (x : FVec Ideal S8x16384x1 .f32) : FVec Ideal S8x16384x16384 .f32 := broadcastInDim S8x16384x16384 ![0, 1, 2] bcast_S8x16384x1_S8x16384x16384_0_1_2 x
def hE' (s : FVec Ideal S8x16384x16384 .f32) (mx : FVec Ideal S8x16384 .f32) : FVec Ideal S8x16384x16384 .f32 := Host.exp (subf s (hB (hM1 mx)))
def hE (s : FVec Ideal S8x16384x16384 .f32) : FVec Ideal S8x16384x16384 .f32 := hE' s (hMx s)
def hL (e : FVec Ideal S8x16384x16384 .f32) : FVec Ideal S8x16384 .f32 := Host.reduceAdd e (constant S_ .f32 0x00000000#32) reducesTo_S8x16384x16384_S8x16384_d2 h_S_
def hP (e : FVec Ideal S8x16384x16384 .f32) : FVec Ideal S8x16384x16384 .f32 := Host.divf e (hB (hM1 (hL e)))
/-- The attention's output, transposed. -/
def hO (p : FVec Ideal S8x16384x16384 .f32) (v : FVec Ideal S8x64x16384 .f32) : FVec Ideal S8x64x16384 .f32 :=
  transpose S8x64x16384 [0, 2, 1] (Host.dotGeneral dot_S8x16384x16384_S8x64x16384_S8x16384x64_2_2_1_1_0_0 none p v) transposes_S8x16384x64_S8x64x16384_0_2_1
/-- The logarithm, to base two, of a row's sum of exponentials. -/
def hLse' (mx l : FVec Ideal S8x16384 .f32) : FVec Ideal S8x1x16384 .f32 :=
  transpose S8x1x16384 [0, 2, 1] (Host.divf (addf (hM1 mx) (Host.log (hM1 l))) (broadcastInDim S8x16384x1 ![] bcast_S_S8x16384x1 lg2)) transposes_S8x16384x1_S8x1x16384_0_2_1
def hLse (s : FVec Ideal S8x16384x16384 .f32) : FVec Ideal S8x1x16384 .f32 := hLse' (hMx s) (hL (hE s))

variable {Q : (⟨4, ![1, 16384, 8, 64]⟩ : Shape).Idx → ℝ} {K W : (⟨4, ![1, 16384, 2, 64]⟩ : Shape).Idx → ℝ} {D : (⟨3, ![1, 16384, 512]⟩ : Shape).Idx → ℝ}
  {q : FVec Ideal S1x16384x8x64 .f32} {k w : FVec Ideal S1x16384x2x64 .f32} {d : FVec Ideal S1x16384x512 .f32}

theorem hQ_at (q : FVec Ideal S1x16384x8x64 .f32) (h : Fin 8) (i : Fin 16384) (x : Fin 64) :
    hQ q (ix3 h i x) = q (ix4 0 i h x) * Ideal.div (Ideal.ofBits .f32 0x3E000000#32) (Ideal.log (Ideal.ofBits .f32 0x40000000#32)) := by pointwise [hQ]
theorem hQt_at (q : FVec Ideal S1x16384x8x64 .f32) (h : Fin 8) (i : Fin 16384) (x : Fin 64) : hQt q (ix3 h x i) = hQ q (ix3 h i x) := by pointwise [hQt]
theorem hKr_at (k : FVec Ideal S1x16384x2x64 .f32) (g : Fin 2) (j : Fin 32) (b : Fin 512) (x : Fin 64) : hKr k (ix4 g j b x) = k (ix4 0 (rw512 j b) g x) := by pointwise [hKr, hK]
theorem hKt_at (k : FVec Ideal S1x16384x2x64 .f32) (g : Fin 2) (j : Fin 32) (b : Fin 512) (x : Fin 64) : hKt k (ix4 g j x b) = k (ix4 0 (rw512 j b) g x) := by pointwise [hKt, hK]
theorem hVt_at (k : FVec Ideal S1x16384x2x64 .f32) (g : Fin 2) (j : Fin 32) (b : Fin 512) (x : Fin 64) : hVt k (ix4 g j x b) = k (ix4 0 (rw512 j b) g x) := by pointwise [hVt]
theorem hD_at (d : FVec Ideal S1x16384x512 .f32) (g : Fin 2) (u : Fin 4) (i : Fin 16384) (x : Fin 64) : hD d (ix3 (hd g u) x i) = d (ix3 0 i (hx g u x)) := by pointwise [hD]
theorem hQh_at (q : FVec Ideal S1x16384x8x64 .f32) (h : Fin 8) (i : Fin 16384) (x : Fin 64) : hQh q (ix3 h i x) = q (ix4 0 i h x) := by pointwise [hQh]
theorem grp_eq (g : Fin 2) (u : Fin 4) (h) : (⟨(g.val * 4 + u.val) / 4, h⟩ : Fin 2) = g := Fin.ext (by show (g.val * 4 + u.val) / 4 = g.val; omega)
theorem hKh_at (k : FVec Ideal S1x16384x2x64 .f32) (g : Fin 2) (u : Fin 4) (j : Fin 16384) (x : Fin 64) : hKh k (ix3 (hd g u) j x) = k (ix4 0 j g x) := by pointwise [hKh]; rw [grp_eq]
theorem hVh_at (k : FVec Ideal S1x16384x2x64 .f32) (g : Fin 2) (u : Fin 4) (j : Fin 16384) (x : Fin 64) : hVh k (ix3 (hd g u) x j) = k (ix4 0 j g x) := by pointwise [hVh]; rw [grp_eq]
theorem hS_at (q : FVec Ideal S1x16384x8x64 .f32) (k : FVec Ideal S1x16384x2x64 .f32) (h : Fin 8) (i j : Fin 16384) :
    hS q k (ix3 h i j) = (∑ x, hQh q (ix3 h i x) * hKh k (ix3 h j x)) * Ideal.ofBits .f32 0x3E000000#32 := by pointwise [hS]
theorem hE'_at (s : FVec Ideal S8x16384x16384 .f32) (mx : FVec Ideal S8x16384 .f32) (h : Fin 8) (i j : Fin 16384) :
    hE' s mx (ix3 h i j) = Ideal.exp (s (ix3 h i j) - mx (ix2 h i)) := by pointwise [hE', hB, hM1]
theorem hE_at (s : FVec Ideal S8x16384x16384 .f32) (h : Fin 8) (i j : Fin 16384) : hE s (ix3 h i j) = Ideal.exp (s (ix3 h i j) - hMx s (ix2 h i)) :=
  hE'_at _ _ _ _ _
theorem hL_at (e : FVec Ideal S8x16384x16384 .f32) (h : Fin 8) (i : Fin 16384) : hL e (ix2 h i) = ∑ j, e (ix3 h i j) := by pointwise [hL]
theorem hP_at (e : FVec Ideal S8x16384x16384 .f32) (h : Fin 8) (i j : Fin 16384) : hP e (ix3 h i j) = Ideal.div (e (ix3 h i j)) (hL e (ix2 h i)) := by
  pointwise [hP, hB, hM1]
theorem hO_at (p : FVec Ideal S8x16384x16384 .f32) (v : FVec Ideal S8x64x16384 .f32) (h : Fin 8) (i : Fin 16384) (x : Fin 64) :
    hO p v (ix3 h x i) = ∑ j, p (ix3 h i j) * v (ix3 h x j) := by pointwise [hO]
theorem hLse'_at (mx l : FVec Ideal S8x16384 .f32) (h : Fin 8) (i : Fin 16384) :
    hLse' mx l (ix3 h 0 i) = Ideal.div (mx (ix2 h i) + Ideal.log (l (ix2 h i))) (Ideal.log (Ideal.ofBits .f32 0x40000000#32)) := by pointwise [hLse', hM1]
theorem hLse_at (s : FVec Ideal S8x16384x16384 .f32) (h : Fin 8) (i : Fin 16384) :
    hLse s (ix3 h 0 i) = Ideal.div (hMx s (ix2 h i) + Ideal.log (hL (hE s) (ix2 h i))) (Ideal.log (Ideal.ofBits .f32 0x40000000#32)) := hLse'_at _ _ _ _

theorem hS_ok (hq : ∀ z, q z = (Q z : EReal)) (hk : ∀ z, k z = (K z : EReal)) (g : Fin 2) (u : Fin 4) (i j : Fin 16384) :
    hS q k (ix3 (hd g u) i j) = ((sc Q K g u i j : ℝ) : EReal) := by
  rw [hS_at, word_eighth]
  simp only [hQh_at, hKh_at, hq, hk, ← EReal.coe_mul, coe_sum]
  rfl

theorem head_cases (h : Fin 8) : ∃ g u, h = hd g u := ⟨⟨h.val / 4, by omega⟩, ⟨h.val % 4, by omega⟩, Fin.ext (by show h.val = h.val / 4 * 4 + h.val % 4; omega)⟩

theorem hS_real (hq : ∀ z, q z = (Q z : EReal)) (hk : ∀ z, k z = (K z : EReal)) (z : S8x16384x16384.Idx) : ∃ r : ℝ, hS q k z = (r : EReal) := by
  obtain ⟨h, i, j, rfl⟩ : ∃ (h : Fin 8) (i j : Fin 16384), z = ix3 h i j := ⟨z 0, z 1, z 2, eq_ix3 z⟩
  obtain ⟨g, u, rfl⟩ := head_cases h
  exact ⟨_, hS_ok hq hk _ _ _ _⟩

theorem hE_ok (hq : ∀ z, q z = (Q z : EReal)) (hk : ∀ z, k z = (K z : EReal)) (g : Fin 2) (u : Fin 4) (i : Fin 16384) :
    ∃ M : ℝ, hMx (hS q k) (ix2 (hd g u) i) = (M : EReal) ∧ ∀ j, hE (hS q k) (ix3 (hd g u) i j) = ((Real.exp (sc Q K g u i j - M) : ℝ) : EReal) := by
  obtain ⟨M, hM⟩ := hostMax_real (hS q k) (constant S_ .f32 0xFF800000#32) reducesTo_S8x16384x16384_S8x16384_d2 h_S_ (ix2 (hd g u) i) (ix3 (hd g u) i 0)
    (by funext z; fin_cases z <;> rfl) (hS_real hq hk) word_bot
  refine ⟨M, hM, fun j => ?_⟩
  rw [hE_at, show hMx (hS q k) (ix2 (hd g u) i) = (M : EReal) from hM, hS_ok hq hk, ← EReal.coe_sub, Ideal.exp_coe]

/-- The attention's output. -/
theorem hO_ok (hq : ∀ z, q z = (Q z : EReal)) (hk : ∀ z, k z = (K z : EReal)) (hw : ∀ z, w z = (W z : EReal)) (g : Fin 2) (u : Fin 4) (i : Fin 16384) (x : Fin 64) :
    hO (hP (hE (hS q k))) (hVh w) (ix3 (hd g u) x i) = ((∑ j, softmax (sc Q K g u i) j * W (ix4 0 j g x) : ℝ) : EReal) := by
  obtain ⟨M, hM, hE⟩ := hE_ok hq hk g u i
  rw [hO_at]
  simp only [hP_at, hL_at, hE, coe_sum, hVh_at, hw, div_coe_coe (sum_exp_pos fun j => sc Q K g u i j - M).ne', ← EReal.coe_mul, softmax_shift]

/-- The saved logarithm gives back the softmax. -/
theorem hLse_ok (hq : ∀ z, q z = (Q z : EReal)) (hk : ∀ z, k z = (K z : EReal)) (g : Fin 2) (u : Fin 4) (i : Fin 16384) :
    ∃ T : ℝ, hLse (hS q k) (ix3 (hd g u) 0 i) = (T : EReal) ∧ ∀ j, Real.rpow 2 (sc Q K g u i j / Real.log 2 - T) = softmax (sc Q K g u i) j := by
  obtain ⟨M, hM, hE⟩ := hE_ok hq hk g u i
  have hp := sum_exp_pos fun j => sc Q K g u i j - M
  refine ⟨(M + Real.log (∑ j, Real.exp (sc Q K g u i j - M))) / Real.log 2, ?_, fun j => ?_⟩
  · rw [hLse_at, hM, hL_at]
    simp only [hE, coe_sum]
    rw [word_two, Ideal.log_coe, if_neg (not_le.2 hp), Ideal.log_coe, if_neg (by norm_num), ← EReal.coe_add, div_coe_coe log2_ne]
  · show (2 : ℝ) ^ (_ : ℝ) = _
    rw [Real.rpow_def_of_pos (by norm_num), ← softmax_shift _ M, ← sub_div, mul_div_cancel₀ _ log2_ne, ← sub_sub, Real.exp_sub, Real.exp_log hp]

/-! ## The arrays of the launch -/

variable (m : (ℓ : Loc nD τ sig) → Buf (Elt Ideal) ℓ) (c : Dev nD)

abbrev aQ : FVec Ideal S1x16384x8x64 .f32 := m ((c.tc : Thread nD τ).loc main_arg0)
abbrev aK : FVec Ideal S1x16384x2x64 .f32 := m ((c.tc : Thread nD τ).loc main_arg1)
abbrev aV : FVec Ideal S1x16384x2x64 .f32 := m ((c.tc : Thread nD τ).loc main_arg2)
abbrev aD : FVec Ideal S1x16384x512 .f32 := m ((c.tc : Thread nD τ).loc main_arg3)

set_option maxHeartbeats 1000000

theorem V7 : V m c main_v7 = hQ (aQ m c) := by
  unfold V; simp only [hostOps0, List.flatten_cons, List.flatten_nil, List.append_nil, List.cons_append, List.nil_append]; after_results; rfl
theorem V8 : V m c main_v8 = hQt (aQ m c) := by
  unfold V; simp only [hostOps0, List.flatten_cons, List.flatten_nil, List.append_nil, List.cons_append, List.nil_append]; after_results; rfl
theorem V48 : V m c main_v48 = hD (aD m c) := by
  unfold V; simp only [hostOps0, List.flatten_cons, List.flatten_nil, List.append_nil, List.cons_append, List.nil_append]; after_results; rfl
theorem V39 : V m c main_v39 = hO (hP (hE (hS (aQ m c) (aK m c)))) (hVh (aV m c)) := by
  unfold V; simp only [hostOps0, List.flatten_cons, List.flatten_nil, List.append_nil, List.cons_append, List.nil_append]; after_results; rfl
theorem V46 : V m c main_v46 = hLse (hS (aQ m c) (aK m c)) := by
  unfold V; simp only [hostOps0, List.flatten_cons, List.flatten_nil, List.append_nil, List.cons_append, List.nil_append]; after_results; rfl
theorem V49 : V m c main_v49 = hKr (aK m c) := by
  unfold V; simp only [hostOps0, List.flatten_cons, List.flatten_nil, List.append_nil, List.cons_append, List.nil_append]; after_results; rfl
theorem V51 : V m c main_v51 = hKt (aK m c) := by
  unfold V; simp only [hostOps0, List.flatten_cons, List.flatten_nil, List.append_nil, List.cons_append, List.nil_append]; after_results; rfl
theorem V53 : V m c main_v53 = hVt (aV m c) := by
  unfold V; simp only [hostOps0, List.flatten_cons, List.flatten_nil, List.append_nil, List.cons_append, List.nil_append]; after_results; rfl

theorem idx : ∀ t : Fin cfg0.N, win0_0.index t = ![t.val / 32, t.val % 32, 0] ∧ win0_1.index t = ![t.val / 32, 0, t.val % 32]
    ∧ win0_2.index t = ![t.val / 32, 0, t.val % 32] ∧ win0_3.index t = ![t.val / 32, 0, t.val % 32] ∧ win0_4.index t = ![t.val / 32, 0, t.val % 32]
    ∧ win0_5.index t = ![t.val / 64, 0, 0, 0] ∧ win0_6.index t = ![t.val / 64, 0, 0, 0] ∧ win0_7.index t = ![t.val / 64, 0, 0, 0]
    ∧ win0_8.index t = ![t.val / 32, t.val % 32, 0] ∧ win0_9.index t = ![t.val / 64, 0, 0, 0] ∧ win0_10.index t = ![t.val / 64, 0, 0, 0] ∧ t.val < 128 :=
  (by decide +kernel : ∀ t : Fin grid0.N, _)

theorem tlt (t : Fin cfg0.N) : t.val < 128 := (idx t).2.2.2.2.2.2.2.2.2.2.2

/-- The head group, the head within it and the rows of a point. -/
abbrev grp (t : Fin cfg0.N) : Fin 2 := ⟨t.val / 64, by have := tlt t; omega⟩
abbrev hdIn (t : Fin cfg0.N) (b : Fin 2) : Fin 4 := ⟨t.val % 64 / 32 * 2 + b.val, by omega⟩
abbrev rows (t : Fin cfg0.N) (a : Fin 512) : Fin 16384 := ⟨t.val % 32 * 512 + a.val, by omega⟩

theorem blk0 (t : Fin cfg0.N) (b : Fin 2) (a : Fin 512) (x : Fin 64) :
    (show EReal from iblk m c 0 t (ix3 b a x)) = hQ (aQ m c) (ix3 (hd (grp t) (hdIn t b)) (rows t a) x) := by
  unfold iblk
  show (V m c main_v7) (((cfg0.win 0).blk t).view.emb (ix3 b a x)) = _
  have e : ((cfg0.win 0).blk t).view.emb (ix3 b a x) = ix3 (hd (grp t) (hdIn t b)) (rows t a) x := by blk_ext [idx t]
  rw [V7, e]
theorem blk1 (t : Fin cfg0.N) (b : Fin 2) (a : Fin 512) (x : Fin 64) :
    (show EReal from iblk m c 1 t (ix3 b x a)) = hQt (aQ m c) (ix3 (hd (grp t) (hdIn t b)) x (rows t a)) := by
  unfold iblk
  show (V m c main_v8) (((cfg0.win 1).blk t).view.emb (ix3 b x a)) = _
  have e : ((cfg0.win 1).blk t).view.emb (ix3 b x a) = ix3 (hd (grp t) (hdIn t b)) x (rows t a) := by blk_ext [idx t]
  rw [V8, e]
theorem blk2 (t : Fin cfg0.N) (b : Fin 2) (a : Fin 512) (x : Fin 64) :
    (show EReal from iblk m c 2 t (ix3 b x a)) = hD (aD m c) (ix3 (hd (grp t) (hdIn t b)) x (rows t a)) := by
  unfold iblk
  show (V m c main_v48) (((cfg0.win 2).blk t).view.emb (ix3 b x a)) = _
  have e : ((cfg0.win 2).blk t).view.emb (ix3 b x a) = ix3 (hd (grp t) (hdIn t b)) x (rows t a) := by blk_ext [idx t]
  rw [V48, e]
theorem blk3 (t : Fin cfg0.N) (b : Fin 2) (a : Fin 512) (x : Fin 64) :
    (show EReal from iblk m c 3 t (ix3 b x a)) = hO (hP (hE (hS (aQ m c) (aK m c)))) (hVh (aV m c)) (ix3 (hd (grp t) (hdIn t b)) x (rows t a)) := by
  unfold iblk
  show (V m c main_v39) (((cfg0.win 3).blk t).view.emb (ix3 b x a)) = _
  have e : ((cfg0.win 3).blk t).view.emb (ix3 b x a) = ix3 (hd (grp t) (hdIn t b)) x (rows t a) := by blk_ext [idx t]
  rw [V39, e]
theorem blk4 (t : Fin cfg0.N) (b : Fin 2) (a : Fin 512) :
    (show EReal from iblk m c 4 t (ix3 b 0 a)) = hLse (hS (aQ m c) (aK m c)) (ix3 (hd (grp t) (hdIn t b)) 0 (rows t a)) := by
  unfold iblk
  show (V m c main_v46) (((cfg0.win 4).blk t).view.emb (ix3 b 0 a)) = _
  have e : ((cfg0.win 4).blk t).view.emb (ix3 b 0 a) = ix3 (hd (grp t) (hdIn t b)) 0 (rows t a) := by blk_ext [idx t]
  rw [V46, e]
theorem blk5 (t : Fin cfg0.N) (j : Fin 32) (b : Fin 512) (x : Fin 64) :
    (show EReal from iblk m c 5 t (ix4 0 j b x)) = hKr (aK m c) (ix4 (grp t) j b x) := by
  unfold iblk
  show (V m c main_v49) (((cfg0.win 5).blk t).view.emb (ix4 0 j b x)) = _
  have e : ((cfg0.win 5).blk t).view.emb (ix4 0 j b x) = ix4 (grp t) j b x := by blk_ext [idx t]
  rw [V49, e]
theorem blk6 (t : Fin cfg0.N) (j : Fin 32) (b : Fin 512) (x : Fin 64) :
    (show EReal from iblk m c 6 t (ix4 0 j x b)) = hKt (aK m c) (ix4 (grp t) j x b) := by
  unfold iblk
  show (V m c main_v51) (((cfg0.win 6).blk t).view.emb (ix4 0 j x b)) = _
  have e : ((cfg0.win 6).blk t).view.emb (ix4 0 j x b) = ix4 (grp t) j x b := by blk_ext [idx t]
  rw [V51, e]
theorem blk7 (t : Fin cfg0.N) (j : Fin 32) (b : Fin 512) (x : Fin 64) :
    (show EReal from iblk m c 7 t (ix4 0 j x b)) = hVt (aV m c) (ix4 (grp t) j x b) := by
  unfold iblk
  show (V m c main_v53) (((cfg0.win 7).blk t).view.emb (ix4 0 j x b)) = _
  have e : ((cfg0.win 7).blk t).view.emb (ix4 0 j x b) = ix4 (grp t) j x b := by blk_ext [idx t]
  rw [V53, e]

end Cert.AttnBwdClaims

end
-- ==== Proof.AttnRef.lean ====
/- The attention backward's reference, read over the reals: each of its three results is the vector-Jacobian product of softmax
   attention, written by rows. -/
module

public import proofs.«01_k».proof.Proof.AttnMath
public import proofs.«01_k».proof.Proof.Gen.AttnBwdRefIdeal.Run
public import Idealize.ShloMosaic.Lib.Pointwise

@[expose] public section

set_option maxRecDepth 16384

noncomputable section

open Idealize.ShloMosaic Idealize.ShloMosaic.TcCoe Idealize.SL.Sem

namespace Cert.AttnBwdClaims

open Cert.Reals

section Reference
open Cert.AttnBwdRefIdeal Cert.AttnBwdRefIdeal.Gen

abbrev S5 : Shape := S1x2x4x16384x16384

theorem sum_unit_04 {a b c : ℕ} (h : (⟨5, ![1, a, b, c, 1]⟩ : Shape).ReducesTo [0, 4] ⟨3, ![a, b, c]⟩)
    (v : (⟨5, ![1, a, b, c, 1]⟩ : Shape).Idx → EReal) (e : EReal) (x : Fin a) (y : Fin b) (z : Fin c) :
    Ideal.hostReduceAdd h v e (ix3 x y z) = e + v (ix5 0 x y z 0) :=
  hostReduceAdd_one h v e _ _ fun k => by
    have h0 : (k 0).val < 1 := (k 0).isLt
    have h4 : (k 4).val < 1 := (k 4).isLt
    constructor
    · intro e
      have e1 : (k 1).val = x.val := congrArg Fin.val (congrFun e 0)
      have e2 : (k 2).val = y.val := congrArg Fin.val (congrFun e 1)
      have e3 : (k 3).val = z.val := congrArg Fin.val (congrFun e 2)
      funext w
      fin_cases w <;> apply Fin.ext
      · exact Nat.lt_one_iff.1 h0
      · exact e1
      · exact e2
      · exact e3
      · exact Nat.lt_one_iff.1 h4
    · rintro rfl
      funext w; fin_cases w <;> rfl

def refQ (q : FVec Ideal S1x16384x8x64 .f32) : FVec Ideal S1x2x4x16384x64 .f32 :=
  transpose S1x2x4x16384x64 [0, 2, 3, 1, 4] (shapeCast S1x16384x2x4x64 q shapeCasts_S1x16384x8x64_S1x16384x2x4x64) transposes_S1x16384x2x4x64_S1x2x4x16384x64_0_2_3_1_4
def refK (k : FVec Ideal S1x16384x2x64 .f32) : FVec Ideal S1x2x16384x64 .f32 := transpose S1x2x16384x64 [0, 2, 1, 3] k transposes_S1x16384x2x64_S1x2x16384x64_0_2_1_3
def refD (d : FVec Ideal S1x16384x512 .f32) : FVec Ideal S1x2x4x16384x64 .f32 :=
  transpose S1x2x4x16384x64 [0, 2, 3, 1, 4] (shapeCast S1x16384x2x4x64 d shapeCasts_S1x16384x512_S1x16384x2x4x64) transposes_S1x16384x2x4x64_S1x2x4x16384x64_0_2_3_1_4
def refDot (q : FVec Ideal S1x2x4x16384x64 .f32) (k : FVec Ideal S1x2x16384x64 .f32) : FVec Ideal S1x2x4x16384x16384 .f32 :=
  Host.dotGeneral dot_S1x2x4x16384x64_S1x2x16384x64_S1x2x4x16384x16384_4_3_23_2_01_01 none q k
def ref8 : FVec Ideal S1x2x4x16384x16384 .f32 := broadcastInDim S1x2x4x16384x16384 ![] bcast_S_S1x2x4x16384x16384 (constant S_ .f32 0x3E000000#32)
def refMx (s : FVec Ideal S1x2x4x16384x16384 .f32) : FVec Ideal S1x2x4x16384 .f32 :=
  maximumf (broadcastInDim S1x2x4x16384 ![] bcast_S_S1x2x4x16384 (constant S_ .f32 0xFF800000#32))
    (Host.reduce FloatOps.maximumf s (constant S_ .f32 0xFF800000#32) reducesTo_S1x2x4x16384x16384_S1x2x4x16384_d4 h_S_)
def refE (s : FVec Ideal S1x2x4x16384x16384 .f32) : FVec Ideal S1x2x4x16384x16384 .f32 :=
  Host.exp (subf s (broadcastInDim S1x2x4x16384x16384 ![0, 1, 2, 3, 4] bcast_S1x2x4x16384x1_S1x2x4x16384x16384_0_1_2_3_4 (broadcastInDim S1x2x4x16384x1 ![0, 1, 2, 3] bcast_S1x2x4x16384_S1x2x4x16384x1_0_1_2_3 (refMx s))))
def refL (e : FVec Ideal S1x2x4x16384x16384 .f32) : FVec Ideal S1x2x4x16384x1 .f32 :=
  broadcastInDim S1x2x4x16384x1 ![0, 1, 2, 3] bcast_S1x2x4x16384_S1x2x4x16384x1_0_1_2_3 (Host.reduceAdd e (constant S_ .f32 0x00000000#32) reducesTo_S1x2x4x16384x16384_S1x2x4x16384_d4 h_S_)
def refB (l : FVec Ideal S1x2x4x16384x1 .f32) : FVec Ideal S1x2x4x16384x16384 .f32 :=
  broadcastInDim S1x2x4x16384x16384 ![0, 1, 2, 3, 4] bcast_S1x2x4x16384x1_S1x2x4x16384x16384_0_1_2_3_4 l
def refI (l : FVec Ideal S1x2x4x16384x1 .f32) : FVec Ideal S1x2x4x16384x1 .f32 :=
  Host.divf (broadcastInDim S1x2x4x16384x1 ![] bcast_S_S1x2x4x16384x1 (constant S_ .f32 0x3F800000#32)) (mulf l l)
def refN (p e : FVec Ideal S1x2x4x16384x16384 .f32) (il : FVec Ideal S1x2x4x16384x1 .f32) : FVec Ideal S1x2x4x16384x1 .f32 :=
  Host.negf (shapeCast S1x2x4x16384x1 (Host.reduceAdd (mulf (mulf p (refB il)) e) (constant S_ .f32 0x00000000#32) reducesTo_S1x2x4x16384x16384_S1x2x4x16384_d4 h_S_) shapeCasts_S1x2x4x16384_S1x2x4x16384x1)
def refR (n : FVec Ideal S1x2x4x16384x1 .f32) : FVec Ideal S1x2x4x16384x16384 .f32 :=
  broadcastInDim S1x2x4x16384x16384 ![0, 1, 2, 3] bcast_S1x2x4x16384_S1x2x4x16384x16384_0_1_2_3 (broadcastInDim S1x2x4x16384 ![1, 2, 3] bcast_S2x4x16384_S1x2x4x16384_1_2_3
    (Host.reduceAdd n (constant S_ .f32 0x00000000#32) reducesTo_S1x2x4x16384x1_S2x4x16384_d0_4 h_S_))
def refDS (p e : FVec Ideal S1x2x4x16384x16384 .f32) (l : FVec Ideal S1x2x4x16384x1 .f32) : FVec Ideal S1x2x4x16384x16384 .f32 :=
  mulf (mulf (addf (Host.divf p (refB l)) (refR (refN p e (refI l)))) e) ref8
def refDV (d : FVec Ideal S1x2x4x16384x64 .f32) (p : FVec Ideal S1x2x4x16384x16384 .f32) : FVec Ideal S1x2x64x16384 .f32 :=
  Host.dotGeneral dot_S1x2x4x16384x64_S1x2x4x16384x16384_S1x2x64x16384_23_23_4_4_01_01 none d p
def refDK (ds : FVec Ideal S1x2x4x16384x16384 .f32) (q : FVec Ideal S1x2x4x16384x64 .f32) : FVec Ideal S1x2x16384x64 .f32 :=
  Host.dotGeneral dot_S1x2x4x16384x16384_S1x2x4x16384x64_S1x2x16384x64_23_23_4_4_01_01 none ds q
def refDQ (ds : FVec Ideal S1x2x4x16384x16384 .f32) (k : FVec Ideal S1x2x16384x64 .f32) : FVec Ideal S1x2x4x16384x64 .f32 :=
  Host.dotGeneral dot_S1x2x4x16384x16384_S1x2x16384x64_S1x2x4x16384x64_4_2_23_3_01_01 none ds k
def refQs : FVec Ideal S1x16384x8x64 .f32 :=
  broadcastInDim S1x16384x8x64 ![] bcast_S_S1x16384x8x64 (Host.divf (constant S_ .f32 0x3E000000#32) (Host.log (constant S_ .f32 0x40000000#32)))
def refO0 (x : FVec Ideal S1x2x4x16384x64 .f32) : FVec Ideal S8x16384x64 .f32 :=
  transpose S8x16384x64 [1, 0, 2] (shapeCast S16384x8x64 (Host.divf (shapeCast S1x16384x8x64 (transpose S1x16384x2x4x64 [0, 3, 1, 2, 4] x transposes_S1x2x4x16384x64_S1x16384x2x4x64_0_3_1_2_4) shapeCasts_S1x16384x2x4x64_S1x16384x8x64) refQs) shapeCasts_S1x16384x8x64_S16384x8x64) transposes_S16384x8x64_S8x16384x64_1_0_2
/-- The key and value gradients put in blocks of lanes. -/
def refO1 (x : FVec Ideal S1x2x16384x64 .f32) : FVec Ideal S2x32x64x512 .f32 :=
  transpose S2x32x64x512 [0, 2, 1, 3] (shapeCast S2x64x32x512 (transpose S2x64x16384 [1, 2, 0] (shapeCast S16384x2x64 (transpose S1x16384x2x64 [0, 2, 1, 3] x transposes_S1x2x16384x64_S1x16384x2x64_0_2_1_3) shapeCasts_S1x16384x2x64_S16384x2x64) transposes_S16384x2x64_S2x64x16384_1_2_0) shapeCasts_S2x64x16384_S2x64x32x512) transposes_S2x64x32x512_S2x32x64x512_0_2_1_3

theorem refQ_at (q : FVec Ideal S1x16384x8x64 .f32) (g : Fin 2) (u : Fin 4) (i : Fin 16384) (x : Fin 64) : refQ q (ix5 0 g u i x) = q (ix4 0 i (hd g u) x) := by
  pointwise [refQ]
theorem refD_at (d : FVec Ideal S1x16384x512 .f32) (g : Fin 2) (u : Fin 4) (i : Fin 16384) (x : Fin 64) : refD d (ix5 0 g u i x) = d (ix3 0 i (hx g u x)) := by
  have e : (⟨g.val * 256 + u.val * 64 + x.val, by omega⟩ : Fin 512) = hx g u x := Fin.ext (by show g.val * 256 + u.val * 64 + x.val = (g.val * 4 + u.val) * 64 + x.val; omega)
  pointwise [refD]
  rw [e]
theorem refK_at (k : FVec Ideal S1x16384x2x64 .f32) (g : Fin 2) (j : Fin 16384) (x : Fin 64) : refK k (ix4 0 g j x) = k (ix4 0 j g x) := by pointwise [refK]
theorem refDot_at (q : FVec Ideal S1x2x4x16384x64 .f32) (k : FVec Ideal S1x2x16384x64 .f32) (g : Fin 2) (u : Fin 4) (i j : Fin 16384) :
    refDot q k (ix5 0 g u i j) = ∑ x, q (ix5 0 g u i x) * k (ix4 0 g j x) := by pointwise [refDot]
theorem refE_at (s : FVec Ideal S1x2x4x16384x16384 .f32) (g : Fin 2) (u : Fin 4) (i j : Fin 16384) :
    refE s (ix5 0 g u i j) = Ideal.exp (s (ix5 0 g u i j) - refMx s (ix4 0 g u i)) := by pointwise [refE]
theorem refMx_real (s : FVec Ideal S1x2x4x16384x16384 .f32) (hs : ∀ k, ∃ r : ℝ, s k = (r : EReal)) (g : Fin 2) (u : Fin 4) (i : Fin 16384) :
    ∃ r : ℝ, refMx s (ix4 0 g u i) = (r : EReal) := by
  obtain ⟨r, hr⟩ := hostMax_real s (constant S_ .f32 0xFF800000#32) reducesTo_S1x2x4x16384x16384_S1x2x4x16384_d4 h_S_ (ix4 0 g u i) (ix5 0 g u i 0)
    (by funext z; fin_cases z <;> rfl) hs word_bot
  refine ⟨r, ?_⟩
  unfold refMx
  rw [maxV_apply, hr, show (broadcastInDim S1x2x4x16384 ![] bcast_S_S1x2x4x16384 (constant (F := Ideal) S_ .f32 0xFF800000#32) (ix4 0 g u i) : EReal) = ⊥ from word_bot]
  exact bot_sup_eq _
theorem refL_at (e : FVec Ideal S1x2x4x16384x16384 .f32) (g : Fin 2) (u : Fin 4) (i : Fin 16384) (z : Fin 1) :
    refL e (ix5 0 g u i z) = ∑ j, e (ix5 0 g u i j) := by pointwise [refL]
theorem refB_at (l : FVec Ideal S1x2x4x16384x1 .f32) (g : Fin 2) (u : Fin 4) (i j : Fin 16384) : refB l (ix5 0 g u i j) = l (ix5 0 g u i 0) := by pointwise [refB]
theorem refN_at (p e : FVec Ideal S1x2x4x16384x16384 .f32) (il : FVec Ideal S1x2x4x16384x1 .f32) (g : Fin 2) (u : Fin 4) (i : Fin 16384) :
    refN p e il (ix5 0 g u i 0) = -∑ j, p (ix5 0 g u i j) * il (ix5 0 g u i 0) * e (ix5 0 g u i j) := by pointwise [refN, refB]
theorem refR_at (n : FVec Ideal S1x2x4x16384x1 .f32) (g : Fin 2) (u : Fin 4) (i j : Fin 16384) : refR n (ix5 0 g u i j) = n (ix5 0 g u i 0) := by
  pointwise [refR]
  rw [sum_unit_04, zero_add]
theorem refDV_at (d : FVec Ideal S1x2x4x16384x64 .f32) (p : FVec Ideal S1x2x4x16384x16384 .f32) (g : Fin 2) (x : Fin 64) (j : Fin 16384) :
    refDV d p (ix4 0 g x j) = ∑ u, ∑ i, d (ix5 0 g u i x) * p (ix5 0 g u i j) := by pointwise [refDV]
theorem refDK_at (ds : FVec Ideal S1x2x4x16384x16384 .f32) (q : FVec Ideal S1x2x4x16384x64 .f32) (g : Fin 2) (x : Fin 64) (j : Fin 16384) :
    refDK ds q (ix4 0 g j x) = ∑ u, ∑ i, ds (ix5 0 g u i j) * q (ix5 0 g u i x) := by pointwise [refDK]
theorem refDQ_at (ds : FVec Ideal S1x2x4x16384x16384 .f32) (k : FVec Ideal S1x2x16384x64 .f32) (g : Fin 2) (u : Fin 4) (i : Fin 16384) (x : Fin 64) :
    refDQ ds k (ix5 0 g u i x) = ∑ j, ds (ix5 0 g u i j) * k (ix4 0 g j x) := by pointwise [refDQ]
theorem refO0_at (x : FVec Ideal S1x2x4x16384x64 .f32) (g : Fin 2) (u : Fin 4) (i : Fin 16384) (y : Fin 64) :
    refO0 x (ix3 (hd g u) i y) = Ideal.div (x (ix5 0 g u i y)) (Ideal.div (Ideal.ofBits .f32 0x3E000000#32) (Ideal.log (Ideal.ofBits .f32 0x40000000#32))) := by pointwise [refO0, refQs]
theorem refO1_at (x : FVec Ideal S1x2x16384x64 .f32) (g : Fin 2) (b : Fin 32) (y : Fin 64) (l : Fin 512) :
    refO1 x (ix4 g b y l) = x (ix4 0 g ⟨b.val * 512 + l.val, by omega⟩ y) := by pointwise [refO1]

/-! ### The three results -/

variable {Q : (⟨4, ![1, 16384, 8, 64]⟩ : Shape).Idx → ℝ} {K W : (⟨4, ![1, 16384, 2, 64]⟩ : Shape).Idx → ℝ} {D : (⟨3, ![1, 16384, 512]⟩ : Shape).Idx → ℝ}
  {q : FVec Ideal S1x16384x8x64 .f32} {k w : FVec Ideal S1x16384x2x64 .f32} {d : FVec Ideal S1x16384x512 .f32}

def refS (q : FVec Ideal S1x16384x8x64 .f32) (k : FVec Ideal S1x16384x2x64 .f32) : FVec Ideal S1x2x4x16384x16384 .f32 := mulf (refDot (refQ q) (refK k)) ref8

theorem ref8_at (g : Fin 2) (u : Fin 4) (i j : Fin 16384) : ref8 (ix5 0 g u i j) = ((1 / 8 : ℝ) : EReal) := word_eighth

theorem refS_at (hq : ∀ z, q z = (Q z : EReal)) (hk : ∀ z, k z = (K z : EReal)) (g : Fin 2) (u : Fin 4) (i j : Fin 16384) :
    refS q k (ix5 0 g u i j) = ((sc Q K g u i j : ℝ) : EReal) := by
  show (refDot (refQ q) (refK k) (ix5 0 g u i j) : EReal) * ref8 (ix5 0 g u i j) = _
  rw [refDot_at, ref8_at]
  simp only [refQ_at, refK_at, hq, hk, ← EReal.coe_mul, coe_sum]
  rfl

theorem refS_real (hq : ∀ z, q z = (Q z : EReal)) (hk : ∀ z, k z = (K z : EReal)) (z : S1x2x4x16384x16384.Idx) : ∃ r : ℝ, refS q k z = (r : EReal) := by
  have e : z = ix5 0 (z 1) (z 2) (z 3) (z 4) := (eq_ix5 z).trans (congrArg (fun w => ix5 w (z 1) (z 2) (z 3) (z 4)) (Fin.ext (Nat.lt_one_iff.1 (z 0).isLt)))
  exact ⟨_, (congrArg _ e).trans (refS_at hq hk _ _ _ _)⟩

theorem refE_real (hq : ∀ z, q z = (Q z : EReal)) (hk : ∀ z, k z = (K z : EReal)) (g : Fin 2) (u : Fin 4) (i : Fin 16384) :
    ∃ M : ℝ, ∀ j, refE (refS q k) (ix5 0 g u i j) = ((Real.exp (sc Q K g u i j - M) : ℝ) : EReal) := by
  obtain ⟨M, hM⟩ := refMx_real _ (refS_real hq hk) g u i
  refine ⟨M, fun j => ?_⟩
  rw [refE_at, hM, refS_at hq hk, ← EReal.coe_sub, Ideal.exp_coe]

/-- The probabilities. -/
def refP (e : FVec Ideal S1x2x4x16384x16384 .f32) : FVec Ideal S1x2x4x16384x16384 .f32 := Host.divf e (refB (refL e))

theorem refP_at (hq : ∀ z, q z = (Q z : EReal)) (hk : ∀ z, k z = (K z : EReal)) (g : Fin 2) (u : Fin 4) (i j : Fin 16384) :
    refP (refE (refS q k)) (ix5 0 g u i j) = ((softmax (sc Q K g u i) j : ℝ) : EReal) := by
  obtain ⟨M, hM⟩ := refE_real hq hk g u i
  unfold refP
  rw [divV_apply, refB_at, refL_at]
  simp only [hM, coe_sum]
  rw [div_coe_coe (sum_exp_pos fun j => sc Q K g u i j - M).ne', softmax_shift]

theorem refDp_at (hw : ∀ z, w z = (W z : EReal)) (hd' : ∀ z, d z = (D z : EReal)) (g : Fin 2) (u : Fin 4) (i j : Fin 16384) :
    refDot (refD d) (refK w) (ix5 0 g u i j) = ((dp W D g u i j : ℝ) : EReal) := by
  rw [refDot_at]
  simp only [refD_at, refK_at, hw, hd', ← EReal.coe_mul, coe_sum]
  rfl

theorem refDS_at (p e : FVec Ideal S1x2x4x16384x16384 .f32) (l : FVec Ideal S1x2x4x16384x1 .f32) (g : Fin 2) (u : Fin 4) (i j : Fin 16384) :
    refDS p e l (ix5 0 g u i j) = (Ideal.div (p (ix5 0 g u i j)) (l (ix5 0 g u i 0))
        + -∑ j', p (ix5 0 g u i j') * Ideal.div ((1 : ℝ) : EReal) (l (ix5 0 g u i 0) * l (ix5 0 g u i 0)) * e (ix5 0 g u i j')) * e (ix5 0 g u i j) * ((1 / 8 : ℝ) : EReal) := by
  show (Ideal.div (p (ix5 0 g u i j)) (refB l (ix5 0 g u i j)) + refR (refN p e (refI l)) (ix5 0 g u i j) : EReal) * e (ix5 0 g u i j) * ref8 (ix5 0 g u i j) = _
  rw [refB_at, refR_at, refN_at, ref8_at,
    show refI l (ix5 0 g u i 0) = Ideal.div ((1 : ℝ) : EReal) (l (ix5 0 g u i 0) * l (ix5 0 g u i 0)) from by
      show Ideal.div (Ideal.ofBits .f32 0x3F800000#32) _ = _; rw [word_one]; rfl]

/-- The scores' cotangent as the reference computes it. -/
def refG (q : FVec Ideal S1x16384x8x64 .f32) (k w : FVec Ideal S1x16384x2x64 .f32) (d : FVec Ideal S1x16384x512 .f32) : FVec Ideal S1x2x4x16384x16384 .f32 :=
  refDS (refDot (refD d) (refK w)) (refE (refS q k)) (refL (refE (refS q k)))

theorem refG_at (hq : ∀ z, q z = (Q z : EReal)) (hk : ∀ z, k z = (K z : EReal)) (hw : ∀ z, w z = (W z : EReal)) (hd' : ∀ z, d z = (D z : EReal))
    (g : Fin 2) (u : Fin 4) (i j : Fin 16384) : refG q k w d (ix5 0 g u i j) = ((dsc Q K W D g u i j * (1 / 8) : ℝ) : EReal) := by
  obtain ⟨M, hM⟩ := refE_real hq hk g u i
  have hL := (sum_exp_pos fun j => sc Q K g u i j - M).ne'
  unfold refG
  rw [refDS_at, refL_at]
  simp only [hM, refDp_at hw hd', coe_sum]
  rw [← EReal.coe_mul, div_coe_coe hL, div_coe_coe (mul_ne_zero hL hL)]
  simp only [← EReal.coe_mul, coe_sum, ← EReal.coe_neg, ← EReal.coe_add]
  rw [softBwd_vjp]
  rfl

/-- The query gradient. -/
theorem ref_dq (hq : ∀ z, q z = (Q z : EReal)) (hk : ∀ z, k z = (K z : EReal)) (hw : ∀ z, w z = (W z : EReal)) (hd' : ∀ z, d z = (D z : EReal))
    (g : Fin 2) (u : Fin 4) (i : Fin 16384) (x : Fin 64) :
    refO0 (refDQ (refG q k w d) (refK k)) (ix3 (hd g u) i x) = ((dQ Q K W D g u i x : ℝ) : EReal) := by
  have hl := (Real.log_pos (x := 2) (by norm_num)).ne'
  rw [refO0_at, refDQ_at, scale_word]
  simp only [refG_at hq hk hw hd', refK_at, hk, ← EReal.coe_mul, coe_sum]
  rw [div_coe_coe (div_ne_zero (by norm_num) hl)]
  refine congrArg (fun r : ℝ => (r : EReal)) ?_
  unfold dQ
  rw [div_eq_iff (div_ne_zero (by norm_num) hl), mul_right_comm, mul_div_cancel₀ _ hl, mul_comm, Finset.sum_mul]
  refine Finset.sum_congr rfl fun j _ => ?_
  ring

/-- The key gradient. -/
theorem ref_dk (hq : ∀ z, q z = (Q z : EReal)) (hk : ∀ z, k z = (K z : EReal)) (hw : ∀ z, w z = (W z : EReal)) (hd' : ∀ z, d z = (D z : EReal))
    (g : Fin 2) (b : Fin 32) (x : Fin 64) (l : Fin 512) :
    refO1 (refDK (refG q k w d) (refQ q)) (ix4 g b x l) = ((dK Q K W D g ⟨b.val * 512 + l.val, by omega⟩ x : ℝ) : EReal) := by
  rw [refO1_at, refDK_at]
  simp only [refG_at hq hk hw hd', refQ_at, hq, ← EReal.coe_mul, coe_sum]
  refine congrArg (fun r : ℝ => (r : EReal)) ?_
  unfold dK
  rw [Finset.sum_mul]
  refine Finset.sum_congr rfl fun u _ => ?_
  rw [Finset.sum_mul]
  refine Finset.sum_congr rfl fun i _ => ?_
  ring

/-- The value gradient. -/
theorem ref_dv (hq : ∀ z, q z = (Q z : EReal)) (hk : ∀ z, k z = (K z : EReal)) (hd' : ∀ z, d z = (D z : EReal))
    (g : Fin 2) (b : Fin 32) (x : Fin 64) (l : Fin 512) :
    refO1 (transpose S1x2x16384x64 [0, 1, 3, 2] (refDV (refD d) (refP (refE (refS q k)))) transposes_S1x2x64x16384_S1x2x16384x64_0_1_3_2) (ix4 g b x l)
      = ((dV Q K D g ⟨b.val * 512 + l.val, by omega⟩ x : ℝ) : EReal) := by
  rw [refO1_at]
  have e : ∀ y : FVec Ideal S1x2x64x16384 .f32, ∀ j : Fin 16384, transpose S1x2x16384x64 [0, 1, 3, 2] y transposes_S1x2x64x16384_S1x2x16384x64_0_1_3_2 (ix4 0 g j x)
    = y (ix4 0 g x j) := fun y j => by pointwise
  rw [e, refDV_at]
  simp only [refP_at hq hk, refD_at, hd', ← EReal.coe_mul, coe_sum]
  refine congrArg (fun r : ℝ => (r : EReal)) ?_
  unfold dV
  refine Finset.sum_congr rfl fun u _ => Finset.sum_congr rfl fun i _ => mul_comm _ _

end Reference

end Cert.AttnBwdClaims

end
-- ==== Proof.AttnVal.lean ====
/- The attention backward's three results over the reals are the reference's: the launch's blocks against softmax attention's
   gradients, and the claim. -/
module

public import proofs.«01_k».proof.Proof.AttnHost
public import proofs.«01_k».proof.Proof.AttnRef
public import proofs.«01_k».proof.Proof.Gen.Pre_finite_attn_bwd
public import proofs.«01_k».proof.Defs

@[expose] public section

set_option maxRecDepth 16384

noncomputable section

namespace Cert.AttnBwdClaims

open Idealize.ShloMosaic Idealize.ShloMosaic.TcCoe Idealize.SL.Sem
open Cert.AttnBwdIdeal Cert.AttnBwdIdeal.Gen
open Cert.Reals

/-- What a point's first five blocks hold: its query rows' scaled queries (and their transpose), cotangents, forward outputs and log-sums, for each of its two heads. -/
structure BlkOk (Q : (⟨4, ![1, 16384, 8, 64]⟩ : Shape).Idx → ℝ) (K W : (⟨4, ![1, 16384, 2, 64]⟩ : Shape).Idx → ℝ) (D : (⟨3, ![1, 16384, 512]⟩ : Shape).Idx → ℝ)
    (g : Fin 2) (v : Fin 2 → Fin 4) (r : Fin 512 → Fin 16384)
    (x0 : Vec Ideal S2x512x64 .bf16) (x1 : Vec Ideal S2x64x512 .bf16) (x2 x3 : Vec Ideal S2x64x512 .f32) (x4 : Vec Ideal S2x1x512 .f32) : Prop where
  h0 : ∀ b a x, (show EReal from x0 (ix3 b a x)) = ((Q (ix4 0 (r a) (hd g (v b)) x) * (1 / 8 / Real.log 2) : ℝ) : EReal)
  h1 : ∀ b x a, (show EReal from x1 (ix3 b x a)) = ((Q (ix4 0 (r a) (hd g (v b)) x) * (1 / 8 / Real.log 2) : ℝ) : EReal)
  h2 : ∀ b x a, (show EReal from x2 (ix3 b x a)) = ((D (ix3 0 (r a) (hx g (v b) x)) : ℝ) : EReal)
  h3 : ∀ b x a, (show EReal from x3 (ix3 b x a)) = ((∑ j, softmax (sc Q K g (v b) (r a)) j * W (ix4 0 j g x) : ℝ) : EReal)
  h4 : ∀ b a, ∃ T : ℝ, (show EReal from x4 (ix3 b 0 a)) = (T : EReal) ∧ ∀ j, Real.rpow 2 (sc Q K g (v b) (r a) j / Real.log 2 - T) = softmax (sc Q K g (v b) (r a)) j

section Heads

variable {Q : (⟨4, ![1, 16384, 8, 64]⟩ : Shape).Idx → ℝ} {K W : (⟨4, ![1, 16384, 2, 64]⟩ : Shape).Idx → ℝ} {D : (⟨3, ![1, 16384, 512]⟩ : Shape).Idx → ℝ}
  {g : Fin 2} {v : Fin 2 → Fin 4} {r : Fin 512 → Fin 16384}
  {x0 : Vec Ideal S2x512x64 .bf16} {x1 : Vec Ideal S2x64x512 .bf16} {x2 x3 : Vec Ideal S2x64x512 .f32} {x4 : Vec Ideal S2x1x512 .f32}
  (x5 : Vec Ideal S1x32x512x64 .bf16) (x6 x7 : Vec Ideal S1x32x64x512 .bf16)

theorem ld_q0 {e : EltTy} (v : Vec Ideal S2x512x64 e) (a : Fin 512) (x : Fin 64) : View.ld v qHead0 (ix3 0 a x : S1x512x64.Idx) = v (ix3 0 a x) :=
  congrArg v (funext fun z => Fin.ext (by fin_cases z <;> simp [LoadRect.idx, Rect.toLoadRect, Rect.unit, ix3] <;> rfl))
theorem ld_q1 {e : EltTy} (v : Vec Ideal S2x512x64 e) (a : Fin 512) (x : Fin 64) : View.ld v qHead1 (ix3 0 a x : S1x512x64.Idx) = v (ix3 1 a x) :=
  congrArg v (funext fun z => Fin.ext (by fin_cases z <;> simp [LoadRect.idx, Rect.toLoadRect, Rect.unit, ix3] <;> rfl))
theorem ld_t0 {e : EltTy} (v : Vec Ideal S2x64x512 e) (x : Fin 64) (a : Fin 512) : View.ld v tHead0 (ix3 0 x a : S1x64x512.Idx) = v (ix3 0 x a) :=
  congrArg v (funext fun z => Fin.ext (by fin_cases z <;> simp [LoadRect.idx, Rect.toLoadRect, Rect.unit, ix3] <;> rfl))
theorem ld_t1 {e : EltTy} (v : Vec Ideal S2x64x512 e) (x : Fin 64) (a : Fin 512) : View.ld v tHead1 (ix3 0 x a : S1x64x512.Idx) = v (ix3 1 x a) :=
  congrArg v (funext fun z => Fin.ext (by fin_cases z <;> simp [LoadRect.idx, Rect.toLoadRect, Rect.unit, ix3] <;> rfl))
theorem ld_l0 {e : EltTy} (v : Vec Ideal S2x1x512 e) (a : Fin 512) : View.ld v lHead0 (ix3 0 0 a : S1x1x512.Idx) = v (ix3 0 0 a) :=
  congrArg v (funext fun z => Fin.ext (by fin_cases z <;> simp [LoadRect.idx, Rect.toLoadRect, Rect.unit, ix3] <;> rfl))
theorem ld_l1 {e : EltTy} (v : Vec Ideal S2x1x512 e) (a : Fin 512) : View.ld v lHead1 (ix3 0 0 a : S1x1x512.Idx) = v (ix3 1 0 a) :=
  congrArg v (funext fun z => Fin.ext (by fin_cases z <;> simp [LoadRect.idx, Rect.toLoadRect, Rect.unit, ix3] <;> rfl))

theorem pt_l0 (x0 : Vec Ideal S2x512x64 .bf16) (x1 : Vec Ideal S2x64x512 .bf16) (x2 x3 : Vec Ideal S2x64x512 .f32) (x4 : Vec Ideal S2x1x512 .f32) (x5 : Vec Ideal S1x32x512x64 .bf16) (x6 x7 : Vec Ideal S1x32x64x512 .bf16) :
    (pt x0 x1 x2 x3 x4 x5 x6 x7).l0 = k0_pay94 (F := Ideal) (View.ld x4 lHead0) := by dsimp only [pt]
theorem pt_l1 (x0 : Vec Ideal S2x512x64 .bf16) (x1 : Vec Ideal S2x64x512 .bf16) (x2 x3 : Vec Ideal S2x64x512 .f32) (x4 : Vec Ideal S2x1x512 .f32) (x5 : Vec Ideal S1x32x512x64 .bf16) (x6 x7 : Vec Ideal S1x32x64x512 .bf16) :
    (pt x0 x1 x2 x3 x4 x5 x6 x7).l1 = k0_pay95 (F := Ideal) (View.ld x4 lHead1) := by dsimp only [pt]

/-- A point's first head. -/
theorem head0 (h : BlkOk Q K W D g v r x0 x1 x2 x3 x4) :
    HeadOk Q K W D g (v 0) r (pt x0 x1 x2 x3 x4 x5 x6 x7).q0 (pt x0 x1 x2 x3 x4 x5 x6 x7).d0 (pt x0 x1 x2 x3 x4 x5 x6 x7).e0 (pt x0 x1 x2 x3 x4 x5 x6 x7).l0 (pt x0 x1 x2 x3 x4 x5 x6 x7).r0 (pt x0 x1 x2 x3 x4 x5 x6 x7).t0 := by
  refine ⟨fun a x => ?_, fun x a => ?_, fun a x => ?_, fun x a => ?_, fun a => ?_, fun a => ?_⟩
  · exact (pay81_at _ a x).trans ((ld_q0 x0 a x).trans (h.h0 0 a x))
  · exact (pay83_at _ x a).trans ((ld_t0 x1 x a).trans (h.h1 0 x a))
  · refine (pay90_at (View.ld x2 tHead0) a x).trans ?_
    rw [EReal.coe_mul]
    exact congrArg₂ (fun y z : EReal => y * z) ((ld_t0 x2 x a).trans (h.h2 0 x a)) rfl
  · exact (pay85_at _ x a).trans ((ld_t0 x2 x a).trans (h.h2 0 x a))
  · refine (pay92_at (View.ld x2 tHead0) (View.ld x3 tHead0) a).trans ?_
    rw [← delta_real, ← coe_sum]
    refine Finset.sum_congr rfl fun x _ => ?_
    rw [EReal.coe_mul, EReal.coe_mul]
    exact congrArg₂ (fun y z : EReal => y * z) (congrArg₂ (fun y z : EReal => y * z) ((ld_t0 x2 x a).trans (h.h2 0 x a)) rfl)
      ((ld_t0 x3 x a).trans (h.h3 0 x a))
  · obtain ⟨T, hT, hs⟩ := h.h4 0 a
    refine ⟨T, ?_, hs⟩
    exact (congrFun (pt_l0 x0 x1 x2 x3 x4 x5 x6 x7) (ix2 a 0)).trans ((pay94_at (View.ld x4 lHead0) a).trans ((ld_l0 x4 a).trans hT))

/-- A point's second head. -/
theorem head1 (h : BlkOk Q K W D g v r x0 x1 x2 x3 x4) :
    HeadOk Q K W D g (v 1) r (pt x0 x1 x2 x3 x4 x5 x6 x7).q1 (pt x0 x1 x2 x3 x4 x5 x6 x7).d1 (pt x0 x1 x2 x3 x4 x5 x6 x7).e1 (pt x0 x1 x2 x3 x4 x5 x6 x7).l1 (pt x0 x1 x2 x3 x4 x5 x6 x7).r1 (pt x0 x1 x2 x3 x4 x5 x6 x7).t1 := by
  refine ⟨fun a x => ?_, fun x a => ?_, fun a x => ?_, fun x a => ?_, fun a => ?_, fun a => ?_⟩
  · exact (pay82_at _ a x).trans ((ld_q1 x0 a x).trans (h.h0 1 a x))
  · exact (pay84_at _ x a).trans ((ld_t1 x1 x a).trans (h.h1 1 x a))
  · refine (pay91_at (View.ld x2 tHead1) _ a x).trans ?_
    rw [EReal.coe_mul]
    exact congrArg₂ (fun y z : EReal => y * z) ((ld_t1 x2 x a).trans (h.h2 1 x a)) ln2_eq
  · exact (pay86_at _ x a).trans ((ld_t1 x2 x a).trans (h.h2 1 x a))
  · refine (pay93_at (View.ld x2 tHead1) (View.ld x3 tHead1) _ a).trans ?_
    rw [← delta_real, ← coe_sum]
    refine Finset.sum_congr rfl fun x _ => ?_
    rw [EReal.coe_mul, EReal.coe_mul]
    exact congrArg₂ (fun y z : EReal => y * z) (congrArg₂ (fun y z : EReal => y * z) ((ld_t1 x2 x a).trans (h.h2 1 x a)) ln2_eq)
      ((ld_t1 x3 x a).trans (h.h3 1 x a))
  · obtain ⟨T, hT, hs⟩ := h.h4 1 a
    refine ⟨T, ?_, hs⟩
    exact (congrFun (pt_l1 x0 x1 x2 x3 x4 x5 x6 x7) (ix2 a 0)).trans ((pay95_at (View.ld x4 lHead1) a).trans ((ld_l1 x4 a).trans hT))

end Heads

section Kernel

variable (m : (ℓ : Loc nD τ sig) → Buf (Elt Ideal) ℓ) (c : Dev nD)
variable {Q : (⟨4, ![1, 16384, 8, 64]⟩ : Shape).Idx → ℝ} {K W : (⟨4, ![1, 16384, 2, 64]⟩ : Shape).Idx → ℝ} {D : (⟨3, ![1, 16384, 512]⟩ : Shape).Idx → ℝ}
  (hq : ∀ z, aQ m c z = (Q z : EReal)) (hk : ∀ z, aK m c z = (K z : EReal)) (hw : ∀ z, aV m c z = (W z : EReal)) (hd' : ∀ z, aD m c z = (D z : EReal))

include hq in
theorem hQ_ok (g : Fin 2) (u : Fin 4) (i : Fin 16384) (x : Fin 64) :
    hQ (aQ m c) (ix3 (hd g u) i x) = ((Q (ix4 0 i (hd g u) x) * (1 / 8 / Real.log 2) : ℝ) : EReal) := by
  rw [hQ_at, scale_word, hq, ← EReal.coe_mul]

include hq hk hw hd'

/-- A point's first five blocks. -/
theorem blks (t : Fin cfg0.N) : BlkOk Q K W D (grp t) (hdIn t) (rows t) (iblk m c 0 t) (iblk m c 1 t) (iblk m c 2 t) (iblk m c 3 t) (iblk m c 4 t) := by
  refine ⟨fun b a x => ?_, fun b x a => ?_, fun b x a => ?_, fun b x a => ?_, fun b a => ?_⟩
  · exact (blk0 m c t b a x).trans (hQ_ok m c hq _ _ _ _)
  · exact (blk1 m c t b a x).trans ((hQt_at _ _ _ _).trans (hQ_ok m c hq _ _ _ _))
  · exact (blk2 m c t b a x).trans ((hD_at _ _ _ _ _).trans (hd' _))
  · exact (blk3 m c t b a x).trans (hO_ok hq hk hw _ _ _ _)
  · obtain ⟨T, hT, hs⟩ := hLse_ok hq hk (grp t) (hdIn t b) (rows t a)
    exact ⟨T, (blk4 m c t b a).trans hT, hs⟩

omit hq hd' in
/-- A point's keys and values. -/
theorem keys (t : Fin cfg0.N) : KeysOk K W (grp t) (iblk m c 5 t) (iblk m c 6 t) (iblk m c 7 t) :=
  ⟨fun j b x => (blk5 m c t j b x).trans ((hKr_at _ _ _ _ _).trans (hk _)),
    fun j x b => (blk6 m c t j b x).trans ((hKt_at _ _ _ _ _).trans (hk _)),
    fun j x b => (blk7 m c t j b x).trans ((hVt_at _ _ _ _ _).trans (hw _))⟩

/-- What a point adds to the key gradient. -/
theorem dk_term (t : Fin cfg0.N) (j : Fin 32) (x : Fin 64) (b : Fin 512) :
    (Pt.dk (ptAt m c t) j.val (ix2 x b) : EReal) = ((∑ h : Fin 2, ∑ a : Fin 512,
      dsc Q K W D (grp t) (hdIn t h) (rows t a) (rw512 j b) * Q (ix4 0 (rows t a) (hd (grp t) (hdIn t h)) x) * (1 / 8) : ℝ) : EReal) :=
  dk_pair _ (hdIn t) (head0 _ _ _ (blks m c hq hk hw hd' t)) (head1 _ _ _ (blks m c hq hk hw hd' t)) (keys m c hk hw t) j x b

/-- What a point adds to the value gradient. -/
theorem dv_term (t : Fin cfg0.N) (j : Fin 32) (x : Fin 64) (b : Fin 512) :
    (Pt.dv (ptAt m c t) j.val (ix2 x b) : EReal) = ((∑ h : Fin 2, ∑ a : Fin 512,
      softmax (sc Q K (grp t) (hdIn t h) (rows t a)) (rw512 j b) * D (ix3 0 (rows t a) (hx (grp t) (hdIn t h) x)) : ℝ) : EReal) :=
  dv_pair _ (hdIn t) (head0 _ _ _ (blks m c hq hk hw hd' t)) (head1 _ _ _ (blks m c hq hk hw hd' t)) (keys m c hk hw t) j x b

set_option maxHeartbeats 1000000 in
/-- The kernel's query gradient. -/
theorem final8 : (dats m 0 c).arrAt 8 cfg0.N = refO0 (refDQ (refG (aQ m c) (aK m c) (aV m c) (aD m c)) (refK (aK m c))) := by
  refine (dats m 0 c).arrAt_eq_of_covers 8 _ (by decide +kernel) fun t hf y => ?_
  obtain ⟨b, a, x, rfl⟩ : ∃ (b : Fin 2) (a : Fin 512) (x : Fin 64), y = ix3 b a x := ⟨y 0, y 1, y 2, eq_ix3 y⟩
  have e : ((cfg0.win 8).blk t).view.emb (ix3 b a x) = ix3 (hd (grp t) (hdIn t b)) (rows t a) x := by blk_ext [idx t]
  rw [e]
  blk_simp
  rw [after8]
  refine Eq.trans ?_ (ref_dq hq hk hw hd' (grp t) (hdIn t b) (rows t a) x).symm
  exact outQ_at _ (hdIn t) (head0 _ _ _ (blks m c hq hk hw hd' t)) (head1 _ _ _ (blks m c hq hk hw hd' t)) (keys m c hk hw t) b a x

omit hq hk hw hd' in
theorem upd_at (g : ℕ → FVec Ideal S64x512 .f32) (v : FVec Ideal S1x32x64x512 .f32) (y : S1x32x64x512.Idx) :
    (Pt.upd g 32 v y : EReal) = v y + g (y 1).val (ix2 (y 2) (y 3)) := by
  obtain ⟨z, j, x, b, rfl⟩ : ∃ (z : Fin 1) (j : Fin 32) (x : Fin 64) (b : Fin 512), y = ix4 z j x b := ⟨y 0, y 1, y 2, y 3, eq_ix4 y⟩
  obtain rfl : z = 0 := Subsingleton.elim _ _
  refine (if_pos (show j.val < 32 from j.isLt)).trans ?_
  exact congrArg (fun w : EReal => w + g j.val (ix2 x b)) (col_at v j x b)

/-- The kernel's key gradient. -/
theorem final9 : (dats m 0 c).arrAt 9 cfg0.N = refO1 (refDK (refG (aQ m c) (aK m c) (aV m c) (aD m c)) (refQ (aQ m c))) := by
  refine (dats m 0 c).arrAt_eq_of_covers 9 _ (by decide +kernel) fun t hf y => ?_
  obtain ⟨j, x, b, rfl⟩ : ∃ (j : Fin 32) (x : Fin 64) (b : Fin 512), y = ix4 0 j x b := ⟨y 1, y 2, y 3, by idx_ext⟩
  have e : ((cfg0.win 9).blk t).view.emb (ix4 0 j x b) = ix4 (grp t) j x b := by blk_ext [idx t]
  rw [e]
  blk_simp
  rw [after9]
  refine Eq.trans ?_ (ref_dk hq hk hw hd' (grp t) j x b).symm
  refine (Pipeline.eq_sum_fin_of_reset_step_apply_of_flush (fun n h => (accAt m c n h).1) 64 (fun _ => (0 : EReal))
    (fun t y => Pt.dk (ptAt m c t) (y 1).val (ix2 (y 2) (y 3)))
    (fun t h y => by
      rw [accAt_A m c t h]
      exact (upd_at _ _ y).trans (congrArg (fun w : EReal => w + _) (pay79_at y)))
    (fun t h y => by
      rw [accAt_B m c t h]
      exact upd_at _ _ y)
    t ((flush0_9 t).mp hf) (ix4 0 j x b)).trans ?_
  rw [zero_add]
  refine (Finset.sum_congr rfl fun s _ => dk_term m c hq hk hw hd' _ j x b).trans ?_
  rw [coe_sum]
  refine congrArg (fun z : ℝ => (z : EReal)) ?_
  unfold dK
  refine Eq.trans ?_ ((sum_points fun u i => dsc Q K W D (grp t) u i (rw512 j b) * Q (ix4 0 i (hd (grp t) u) x) * (1 / 8)).trans ?_)
  · refine Finset.sum_congr rfl fun s _ => Finset.sum_congr rfl fun h _ => Finset.sum_congr rfl fun a _ => ?_
    have e1 : grp ⟨64 * (t.val / 64) + s.val, by have := tlt t; show _ < 128; omega⟩ = grp t := Fin.ext (by show (64 * (t.val / 64) + s.val) / 64 = t.val / 64; omega)
    have e2 : hdIn ⟨64 * (t.val / 64) + s.val, by have := tlt t; show _ < 128; omega⟩ h = ⟨s.val / 32 * 2 + h.val, by omega⟩ :=
      Fin.ext (by show (64 * (t.val / 64) + s.val) % 64 / 32 * 2 + h.val = s.val / 32 * 2 + h.val; omega)
    have e3 : rows ⟨64 * (t.val / 64) + s.val, by have := tlt t; show _ < 128; omega⟩ a = ⟨s.val % 32 * 512 + a.val, by omega⟩ :=
      Fin.ext (by show (64 * (t.val / 64) + s.val) % 32 * 512 + a.val = s.val % 32 * 512 + a.val; omega)
    rw [e1, e2, e3]
  · simp only [Finset.sum_mul]

/-- The kernel's value gradient. -/
theorem final10 : (dats m 0 c).arrAt 10 cfg0.N = refO1 (transpose Cert.AttnBwdRefIdeal.S1x2x16384x64 [0, 1, 3, 2] (refDV (refD (aD m c)) (refP (refE (refS (aQ m c) (aK m c)))))
      Cert.AttnBwdRefIdeal.Gen.transposes_S1x2x64x16384_S1x2x16384x64_0_1_3_2) := by
  refine (dats m 0 c).arrAt_eq_of_covers 10 _ (by decide +kernel) fun t hf y => ?_
  obtain ⟨j, x, b, rfl⟩ : ∃ (j : Fin 32) (x : Fin 64) (b : Fin 512), y = ix4 0 j x b := ⟨y 1, y 2, y 3, by idx_ext⟩
  have e : ((cfg0.win 10).blk t).view.emb (ix4 0 j x b) = ix4 (grp t) j x b := by blk_ext [idx t]
  rw [e]
  blk_simp
  rw [after10]
  refine Eq.trans ?_ (ref_dv hq hk hd' (grp t) j x b).symm
  refine (Pipeline.eq_sum_fin_of_reset_step_apply_of_flush (fun n h => (accAt m c n h).2) 64 (fun _ => (0 : EReal))
    (fun t y => Pt.dv (ptAt m c t) (y 1).val (ix2 (y 2) (y 3)))
    (fun t h y => by
      rw [accAt_A m c t h]
      exact (upd_at _ _ y).trans (congrArg (fun w : EReal => w + _) (pay80_at y)))
    (fun t h y => by
      rw [accAt_B m c t h]
      exact upd_at _ _ y)
    t ((flush0_10 t).mp hf) (ix4 0 j x b)).trans ?_
  rw [zero_add]
  refine (Finset.sum_congr rfl fun s _ => dv_term m c hq hk hw hd' _ j x b).trans ?_
  rw [coe_sum]
  refine congrArg (fun z : ℝ => (z : EReal)) ?_
  unfold dV
  refine Eq.trans ?_ (sum_points fun u i => softmax (sc Q K (grp t) u i) (rw512 j b) * D (ix3 0 i (hx (grp t) u x)))
  refine Finset.sum_congr rfl fun s _ => Finset.sum_congr rfl fun h _ => Finset.sum_congr rfl fun a _ => ?_
  have e1 : grp ⟨64 * (t.val / 64) + s.val, by have := tlt t; show _ < 128; omega⟩ = grp t := Fin.ext (by show (64 * (t.val / 64) + s.val) / 64 = t.val / 64; omega)
  have e2 : hdIn ⟨64 * (t.val / 64) + s.val, by have := tlt t; show _ < 128; omega⟩ h = ⟨s.val / 32 * 2 + h.val, by omega⟩ :=
    Fin.ext (by show (64 * (t.val / 64) + s.val) % 64 / 32 * 2 + h.val = s.val / 32 * 2 + h.val; omega)
  have e3 : rows ⟨64 * (t.val / 64) + s.val, by have := tlt t; show _ < 128; omega⟩ a = ⟨s.val % 32 * 512 + a.val, by omega⟩ :=
    Fin.ext (by show (64 * (t.val / 64) + s.val) % 32 * 512 + a.val = s.val % 32 * 512 + a.val; omega)
  rw [e1, e2, e3]

end Kernel

/-! ## The claim -/

/-- The kernel's run with its three results named and its arguments unchanged. -/
theorem run_blocks (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v54_0) = (dats m 0 c).arrAt 8 cfg0.N
      ∧ r.2.mem ((c : Thread nD τ).loc main_v54_1) = (dats m 0 c).arrAt 9 cfg0.N
      ∧ r.2.mem ((c : Thread nD τ).loc main_v54_2) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 8, (h c).1 9, (h c).1 10,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

theorem real_args (a0 : FVec Ideal Cert.Pre_finite_attn_bwd.S1x16384x8x64 .f32) (a1 a2 : FVec Ideal Cert.Pre_finite_attn_bwd.S1x16384x2x64 .f32)
    (a3 : FVec Ideal Cert.Pre_finite_attn_bwd.S1x16384x512 .f32) (h : Cert.Pre_finite_attn_bwd.fn (F := Ideal) a0 a1 a2 a3 = fun _ => 1#1) :
    a0 = (fun i => ((a0 i).toReal : EReal)) ∧ a1 = (fun i => ((a1 i).toReal : EReal)) ∧ a2 = (fun i => ((a2 i).toReal : EReal)) ∧ a3 = (fun i => ((a3 i).toReal : EReal)) := by
  have h := congrFun h ix0
  unfold Cert.Pre_finite_attn_bwd.fn Cert.Pre_finite_attn_bwd.fn_part1 at h
  simp only [andi_apply, and_true_iff] at h
  obtain ⟨⟨⟨h0, h1⟩, h2⟩, h3⟩ := h
  exact ⟨real_of_all a0 _ (fun _ => word_inf) _ _ _ (by decide) _ h0, real_of_all a1 _ (fun _ => word_inf) _ _ _ (by decide) _ h1,
    real_of_all a2 _ (fun _ => word_inf) _ _ _ (by decide) _ h2, real_of_all a3 _ (fun _ => word_inf) _ _ _ (by decide) _ h3⟩

set_option maxHeartbeats 4000000 in
/-- The kernel's three results are the vector-Jacobian product's. -/
theorem algebraic : Cert.algebraic_AttnBwdIdeal_AttnBwdRefIdeal_pre_finite_attn_bwd := by
  intro m g m' g' hpre hagree
  refine ⟨fun c => (dats m 0 c).arrAt 8 cfg0.N, fun c => (dats m 0 c).arrAt 9 cfg0.N, fun c => (dats m 0 c).arrAt 10 cfg0.N, run_blocks m g, ?_⟩
  refine (θ_run _ _ _).mono (fun r h c => ?_) (Cert.AttnBwdRefIdeal.Value.run (F := Ideal) m' g')
  obtain ⟨h0, h1, h2, h3⟩ := hagree c
  obtain ⟨r0, r1, r2, r3⟩ := real_args _ _ _ _ (hpre c)
  have k8 := final8 m c (Q := fun z => (aQ m c z).toReal) (K := fun z => (aK m c z).toReal) (W := fun z => (aV m c z).toReal) (D := fun z => (aD m c z).toReal) (fun z => congrFun r0 z) (fun z => congrFun r1 z) (fun z => congrFun r2 z) (fun z => congrFun r3 z)
  have k9 := final9 m c (Q := fun z => (aQ m c z).toReal) (K := fun z => (aK m c z).toReal) (W := fun z => (aV m c z).toReal) (D := fun z => (aD m c z).toReal) (fun z => congrFun r0 z) (fun z => congrFun r1 z) (fun z => congrFun r2 z) (fun z => congrFun r3 z)
  have k10 := final10 m c (Q := fun z => (aQ m c z).toReal) (K := fun z => (aK m c z).toReal) (W := fun z => (aV m c z).toReal) (D := fun z => (aD m c z).toReal) (fun z => congrFun r0 z) (fun z => congrFun r1 z) (fun z => congrFun r2 z) (fun z => congrFun r3 z)
  unfold aQ aK aV aD at k8 k9
  unfold aQ aK aD at k10
  rw [← h0, ← h1, ← h2, ← h3] at k8 k9
  rw [← h0, ← h1, ← h3] at k10
  exact ⟨(h c).1.trans (Eq.trans rfl k8.symm), (h c).2.1.trans (Eq.trans rfl k9.symm), (h c).2.2.1.trans (Eq.trans rfl k10.symm), (h c).2.2.2⟩

/-- The reference's frame: it is host operations alone, none of which writes an argument, and it declares no semaphore. -/
theorem frame_ref : Cert.quiescent_AttnBwdRefIdeal := fun m ρ _ =>
  (θ_run Cert.AttnBwdRefIdeal.defs _ _).mono
    (fun r h => ⟨fun c => (h c).2.2.2, sem_eq_zero_of_no_sems (by decide) r.2⟩)
    (Cert.AttnBwdRefIdeal.Value.run (F := Ideal) m ρ)

end Cert.AttnBwdClaims

end
-- ==== Proof.PrepMath.lean ====
/- The rotary position's tables and its gradient, over the reals: what the two preparation calls (queries and keys) share. -/
module

public import proofs.«01_k».proof.Proof.Reals

@[expose] public section

noncomputable section

open Idealize.ShloMosaic

namespace Cert.Prep

open Cert.Reals

/-! ## Positions -/

/-- The sign of an integer's word. -/
def signWord (x : BitVec 32) : BitVec 32 := if x = 0 then 0 else if x.msb then -1 else 1

/-- The row `s / 64` as the host spells a floor division of integers. -/
def rowWord (x : BitVec 32) : BitVec 32 :=
  if IntOp.andi (IntOp.cmpi .ne (signWord x) (signWord 64#32)) (IntOp.cmpi .ne (IntOp.remsi .host x 64#32) 0#32) = 1
  then IntOp.subi (IntOp.divsi .host x 64#32) 1#32 else IntOp.divsi .host x 64#32

/-- The divisor the host's remainder takes: never zero. -/
def colDiv : BitVec 32 := if IntOp.cmpi .eq 64#32 0#32 = 1 then 1#32 else 64#32

/-- The column `s % 64` as the host spells a remainder of integers. -/
def colWord (x : BitVec 32) : BitVec 32 :=
  if IntOp.andi (IntOp.cmpi .ne (IntOp.cmpi .slt (IntOp.remsi .host x colDiv) 0#32) (IntOp.cmpi .slt colDiv 0#32))
      (IntOp.cmpi .ne (IntOp.remsi .host x colDiv) 0#32) = 1
  then IntOp.addi (IntOp.remsi .host x colDiv) colDiv else IntOp.remsi .host x colDiv

theorem words : ∀ i : Fin 256, ∀ j : Fin 64, rowWord (BitVec.ofNat 32 (i.val * 64 + j.val)) = BitVec.ofNat 32 i.val
    ∧ colWord (BitVec.ofNat 32 (i.val * 64 + j.val)) = BitVec.ofNat 32 j.val := by decide +kernel

theorem rowWord_eq {s : ℕ} (h : s < 16384) : rowWord (BitVec.ofNat 32 s) = BitVec.ofNat 32 (s / 64) := by
  have := (words ⟨s / 64, by omega⟩ ⟨s % 64, by omega⟩).1
  rwa [show s / 64 * 64 + s % 64 = s by omega] at this

theorem colWord_eq {s : ℕ} (h : s < 16384) : colWord (BitVec.ofNat 32 s) = BitVec.ofNat 32 (s % 64) := by
  have := (words ⟨s / 64, by omega⟩ ⟨s % 64, by omega⟩).2
  rwa [show s / 64 * 64 + s % 64 = s by omega] at this

/-- A small natural number's word reads as that number. -/
theorem toInt_small {n : ℕ} (h : n < 16384) : (((BitVec.ofNat 32 n).toInt : ℝ) : EReal) = ((n : ℝ) : EReal) := by
  rw [BitVec.toInt_ofNat', Int.bmod_eq_of_le (by omega) (by omega)]; simp

/-! ## Angles -/

theorem word_16 : Ideal.ofBits .f32 0x41800000#32 = ((16 : ℝ) : EReal) := by
  simp [Ideal.ofBits, Ideal.ieee, -EReal.coe_mul]; norm_num
theorem word_64 : Ideal.ofBits .f32 0x42800000#32 = ((64 : ℝ) : EReal) := by
  simp [Ideal.ofBits, Ideal.ieee, -EReal.coe_mul]; norm_num
theorem word_10000 : Ideal.ofBits .f32 0x461C4000#32 = ((10000 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num
/-- The query's scale, as the rational its word is. -/
def qScale : ℝ := 12102203 / 2 ^ 26
theorem word_qScale : Ideal.ofBits .f32 0x3E38AA3B#32 = (qScale : EReal) := by
  simp [Ideal.ofBits, Ideal.ieee, qScale, -EReal.coe_mul]; norm_num

/-- The frequency of a feature within a group of sixteen. -/
def freq (f : ℕ) : ℝ := Real.rpow 10000 (-(f : ℝ) / 16)

/-- The frequency as the host computes it. -/
theorem freq_host {f : ℕ} (h : f < 16384) :
    Ideal.pow (Ideal.ofBits .f32 0x461C4000#32) (Ideal.div (-(((BitVec.ofNat 32 f).toInt : ℝ) : EReal)) (Ideal.ofBits .f32 0x41800000#32)) = (freq f : EReal) := by
  rw [toInt_small h, word_16, word_10000, ← EReal.coe_neg, div_coe_coe (by norm_num), Ideal.pow_coe_coe]; rfl

/-- The position a feature turns by: its token's row in the first half, its column in the second. -/
def pos (j : Fin 64) (s : ℕ) : ℕ := if j.val < 32 then s / 64 else s % 64

/-- The angle of feature `j` at token `s`. -/
def ang (j : Fin 64) (s : ℕ) : ℝ := (pos j s : ℝ) * freq (j.val % 16)

/-- The feature turned with `j`. -/
def part (j : Fin 64) : Fin 64 := if h : j.val % 32 < 16 then ⟨j.val + 16, by omega⟩ else ⟨j.val - 16, by omega⟩

/-- The sine's sign in the table: minus in the first half of a turned pair. -/
def sgn (j : Fin 64) : ℝ := if j.val % 32 < 16 then -1 else 1

theorem ang_part (j : Fin 64) (s : ℕ) : ang (part j) s = ang j s := by
  unfold ang pos part
  have := j.isLt
  by_cases h : j.val % 32 < 16
  · simp only [h, dif_pos]
    rw [show (j.val + 16) % 16 = j.val % 16 by omega]
    congr 2
    split_ifs <;> omega
  · simp only [h, dif_neg, not_false_eq_true]
    rw [show (j.val - 16) % 16 = j.val % 16 by omega]
    congr 2
    split_ifs <;> omega

theorem sgn_part (j : Fin 64) : sgn (part j) = - sgn j := by
  unfold sgn part
  have := j.isLt
  by_cases h : j.val % 32 < 16
  · simp only [h, dif_pos, if_true]; rw [if_neg (by omega)]; ring
  · simp only [h, dif_neg, not_false_eq_true, if_false]; rw [if_pos (by omega)]

/-- The rotation's gradient: the turn's transpose applied to the cotangent `d` of one token's head. -/
def unturn (s : ℕ) (d : Fin 64 → ℝ) (j : Fin 64) : ℝ :=
  d j * Real.cos (ang j s) - sgn j * (d (part j) * Real.sin (ang j s))

/-- The kernel's form: the partner's product with its own table entry. -/
theorem unturn_kernel (s : ℕ) (d : Fin 64 → ℝ) (j : Fin 64) :
    d j * Real.cos (ang j s) + d (part j) * (sgn (part j) * Real.sin (ang (part j) s)) = unturn s d j := by
  rw [ang_part, sgn_part]; unfold unturn; ring

/-- The gradient of the normed head, the gain `g` and the norm undone from a cotangent `d` of the turned head. -/
def prepDx (s : ℕ) (x g d : Fin 64 → ℝ) (j : Fin 64) : ℝ := rmsBwd 64 x (fun k => unturn s d k * g k) j

/-- One token's part of the gain's gradient. -/
def prepDg (s : ℕ) (x d : Fin 64 → ℝ) (j : Fin 64) : ℝ := unturn s d j * (x j * rms 64 x)

end Cert.Prep

end
-- ==== Proof.PrepTurn.lean ====
/- The four quarters of a head as one: the case splits of the tables and of the turned features, and the real values of the two gradients. -/
module

public import proofs.«01_k».proof.Proof.PrepMath
public import Idealize.ShloMosaic.Lib.Pointwise
public import Idealize.ShloMosaic.Lib.Pipeline.ValueKit
public import Idealize.ShloMosaic.Lib.WritesUnit

@[expose] public section

noncomputable section

open Idealize.ShloMosaic

namespace Cert.Prep

open Cert.Reals

/-- Four slices laid in the partner's order are the partner's feature. -/
theorem part_cases {α : Type} (G : Fin 64 → α) (j : Fin 64) :
    (if h : j.val < 16 then G ⟨16 + j.val, by omega⟩
      else if h : j.val - 16 < 16 then G ⟨j.val - 16, by omega⟩
      else if h : j.val - 16 - 16 < 16 then G ⟨48 + (j.val - 16 - 16), by omega⟩
      else G ⟨32 + (j.val - 16 - 16 - 16), by omega⟩) = G (part j) := by
  unfold part
  split_ifs <;> first | omega | exact congrArg G (Fin.ext (by first | rfl | (simp only []; done) | (simp only []; omega)))

/-- Four tables laid side by side, the first two of the row, the last two of the column. -/
theorem ang_cases (G : ℝ → ℝ) (r c : Fin 16 → EReal) (T : EReal → EReal) (hT : ∀ a : ℝ, T a = (G a : EReal)) (j : Fin 64) (s : ℕ)
    (hr : ∀ f, r f = ((((s / 64 : ℕ) : ℝ) * freq f.val : ℝ) : EReal)) (hc : ∀ f, c f = ((((s % 64 : ℕ) : ℝ) * freq f.val : ℝ) : EReal)) :
    (if h : j.val < 16 then T (r ⟨j.val, by omega⟩)
      else if h : j.val - 16 < 16 then T (r ⟨j.val - 16, by omega⟩)
      else if h : j.val - 16 - 16 < 16 then T (c ⟨j.val - 16 - 16, by omega⟩)
      else T (c ⟨j.val - 16 - 16 - 16, by omega⟩)) = (G (ang j s) : EReal) := by
  have hj := j.isLt
  unfold ang pos
  split_ifs <;> first | omega | (simp only [hr, hc, hT]; congr 4; omega)

/-- The same with the first half of each pair negated. -/
theorem sgn_cases (G : ℝ → ℝ) (r c : Fin 16 → EReal) (T : EReal → EReal) (hT : ∀ a : ℝ, T a = (G a : EReal)) (j : Fin 64) (s : ℕ)
    (hr : ∀ f, r f = ((((s / 64 : ℕ) : ℝ) * freq f.val : ℝ) : EReal)) (hc : ∀ f, c f = ((((s % 64 : ℕ) : ℝ) * freq f.val : ℝ) : EReal)) :
    (if h : j.val < 16 then -T (r ⟨j.val, by omega⟩)
      else if h : j.val - 16 < 16 then T (r ⟨j.val - 16, by omega⟩)
      else if h : j.val - 16 - 16 < 16 then -T (c ⟨j.val - 16 - 16, by omega⟩)
      else T (c ⟨j.val - 16 - 16 - 16, by omega⟩)) = ((sgn j * G (ang j s) : ℝ) : EReal) := by
  rw [EReal.coe_mul, ← ang_cases G r c T hT j s hr hc]
  have hj := j.isLt
  unfold sgn
  split_ifs <;> first | omega | simp

/-- The kernel's gradient of the head, from the turned cotangent's values. -/
theorem dx_kernel (x g y : Fin 64 → ℝ) (j : Fin 64) (r : EReal) (hr : r = (rms 64 x : EReal)) :
    r * ((y j : EReal) * (g j : EReal) - (x j : EReal) * r * Ideal.div (∑ k, (y k : EReal) * (g k : EReal) * ((x k : EReal) * r)) ((64 : ℝ) : EReal))
      = (rmsBwd 64 x (fun k => y k * g k) j : EReal) := by
  subst hr
  simp only [← EReal.coe_mul, coe_sum]
  rw [div_coe_coe (by norm_num)]
  simp only [← EReal.coe_mul, ← EReal.coe_sub]
  exact congrArg (fun r : ℝ => (r : EReal)) (rmsBwd_kernel x (fun k => y k * g k) j)

/-- The reference's gradient of the head, through the mean square's own cotangent. -/
theorem dx_ref (x D : Fin 64 → ℝ) (j : Fin 64) (v : EReal) (hv : v = Ideal.div (∑ k, (x k : EReal) * (x k : EReal)) ((64 : ℝ) : EReal) + (eps : EReal)) :
    (D j : EReal) * Ideal.rsqrt v
      + (x j : EReal) * Ideal.div ((∑ k, (x k : EReal) * (D k : EReal)) * (((-(1 / 2) : ℝ) : EReal) * Ideal.div (Ideal.rsqrt v) v)) ((64 : ℝ) : EReal)
      + Ideal.div ((∑ k, (x k : EReal) * (D k : EReal)) * (((-(1 / 2) : ℝ) : EReal) * Ideal.div (Ideal.rsqrt v) v)) ((64 : ℝ) : EReal) * (x j : EReal)
      = (rmsBwd 64 x D j : EReal) := by
  have hr : Ideal.rsqrt v = (rms 64 x : EReal) := hv ▸ rms_eq (by norm_num) x
  have hq := sq_pos (N := 64) (by norm_num) x
  rw [hr]
  simp only [← EReal.coe_mul, coe_sum] at hv ⊢
  rw [div_coe_coe (by norm_num), ← EReal.coe_add] at hv
  rw [hv, div_coe_coe hq.ne']
  simp only [← EReal.coe_mul]
  rw [div_coe_coe (by norm_num)]
  simp only [← EReal.coe_mul, ← EReal.coe_add]
  exact congrArg (fun r : ℝ => (r : EReal)) (rmsBwd_vjp (by norm_num) x D j)

/-- A sum over the grid's points that keeps one head's is the sum over that head's tokens, tile by tile. -/
theorem sum_head {H N : ℕ} (hN : N = 8 * H) (G : Fin 16384 → EReal) (h : Fin H) (R : Fin N → Fin 2048 → Fin 16384)
    (hR : ∀ t a, (R t a).val = t.val / H * 2048 + a.val) :
    ∑ t : Fin N, (if t.val % H = h.val then ∑ a : Fin 2048, G (R t a) else 0) = ∑ s, G s := by
  subst hN
  have hH : 0 < H := h.pos
  rw [← finProdFinEquiv.sum_comp, Fintype.sum_prod_type]
  have e : ∀ i : Fin 8, (∑ k : Fin H, (if (finProdFinEquiv (i, k)).val % H = h.val then ∑ a : Fin 2048, G (R (finProdFinEquiv (i, k)) a) else 0))
      = ∑ a : Fin 2048, G (R (finProdFinEquiv (i, h)) a) := fun i => by
    rw [Finset.sum_eq_single h]
    · rw [if_pos (by simp [Nat.mod_eq_of_lt h.isLt])]
    · intro k _ hk
      rw [if_neg]
      simp only [finProdFinEquiv_apply_val, Nat.add_mul_mod_self_left, Nat.mod_eq_of_lt k.isLt]
      exact fun e => hk (Fin.ext e)
    · exact fun hn => absurd (Finset.mem_univ h) hn
  rw [Finset.sum_congr rfl fun i _ => e i]
  refine Fin.sum_mul_add_congr (f := G) fun i a _ => congrArg G (Fin.ext ?_)
  rw [hR, finProdFinEquiv_apply_val, Nat.add_mul_div_left _ _ hH, Nat.div_eq_of_lt h.isLt, Nat.zero_add]

/-! ## One head's entry of an accumulator over the heads -/

section Head
variable {H : ℕ} {off : Fin 3 → ℕ} (h : Fin H) (ho : off = ![h.val, 0, 0])
  (inb : ∀ a : Fin 3, off a + (![1, 64, 1] : Fin 3 → ℕ) a ≤ (⟨3, ![H, 64, 1]⟩ : Shape).size a)

include ho in
/-- The load of one head's entry. -/
theorem ld_head (v : Vec Ideal ⟨3, ![H, 64, 1]⟩ .f32) (j : Fin 64) :
    (show EReal from View.ld (e' := .f32) v (Rect.unit (s := ⟨3, ![H, 64, 1]⟩) off ![1, 64, 1] inb) (ix3 0 j 0)) = v (ix3 h j 0) := by
  subst ho
  refine congrArg v (funext fun x => Fin.ext ?_)
  fin_cases x
  · show h.val + 1 * 0 = h.val; omega
  · show 0 + 1 * j.val = j.val; omega
  · rfl

include ho in
/-- A store of one head's entry, read back: that entry, and what was there elsewhere. -/
theorem read_head {sig : RefSig} {κ : Kind} {sp : Space} (v : View sig κ sp ⟨3, ![H, 64, 1]⟩ .f32) (f : v.ty.Contents (Elt Ideal))
    (w : FVec Ideal ⟨3, ![1, 64, 1]⟩ .f32) (L : List (View.Piece (Elt Ideal) ⟨3, ![H, 64, 1]⟩ .f32)) (b : Fin H) (j : Fin 64) :
    (show EReal from v.read (Elt Ideal) (v.writes (Elt Ideal) f (⟨Rect.unit off ![1, 64, 1] inb, w⟩ :: L)) (ix3 b j 0))
      = if h.val = b.val then w (ix3 0 j 0) else (show EReal from v.read (Elt Ideal) (v.writes (Elt Ideal) f L) (ix3 b j 0)) := by
  by_cases e : h.val = b.val
  · rw [if_pos e]
    refine View.read_writes_cons_unit_of_mem v f inb w L _ (ix3 0 j 0) ho fun x => ?_
    fin_cases x
    · show b.val = h.val + 0; omega
    · show j.val = 0 + j.val; omega
    · rfl
  · rw [if_neg e]
    refine View.read_writes_cons_unit_of_not_mem v f inb w L _ ho 0 ?_
    show b.val < h.val ∨ h.val + 1 ≤ b.val
    omega

include ho in
/-- The same over a closed list of stores. -/
theorem canon_head (w : FVec Ideal ⟨3, ![1, 64, 1]⟩ .f32) (L : List (View.Piece (Elt Ideal) ⟨3, ![H, 64, 1]⟩ .f32)) (b : Fin H) (j : Fin 64) :
    (show EReal from View.canon (⟨Rect.unit off ![1, 64, 1] inb, w⟩ :: L) (ix3 b j 0))
      = if h.val = b.val then w (ix3 0 j 0) else (show EReal from View.canon L (ix3 b j 0)) := by
  subst ho
  by_cases e : h.val = b.val
  · rw [if_pos e]
    have hy : (Rect.unit (s := ⟨3, ![H, 64, 1]⟩) ![h.val, 0, 0] ![1, 64, 1] inb).emb (ix3 0 j 0) = ix3 b j 0 := funext fun x => Fin.ext (by
      fin_cases x
      · show h.val + 1 * 0 = b.val; omega
      · show 0 + 1 * j.val = j.val; omega
      · rfl)
    exact (congrArg _ hy.symm).trans (View.canon_cons_emb (Rect.unit (s := ⟨3, ![H, 64, 1]⟩) ![h.val, 0, 0] ![1, 64, 1] inb) w L (ix3 0 j 0))
  · rw [if_neg e]
    refine View.canon_cons_of_not_mem _ L ?_
    rw [Rect.mem_set_unit]
    intro hall
    have h0 : h.val ≤ b.val ∧ b.val < h.val + 1 := hall 0
    omega
end Head

/-! ## The reference's two halves of a turned pair -/

theorem ang_row {j : Fin 64} (h : j.val < 32) {f : ℕ} (hf : j.val % 16 = f) (s : ℕ) : ang j s = ((s / 64 : ℕ) : ℝ) * freq f := by
  unfold ang pos; rw [if_pos h, hf]
theorem ang_col {j : Fin 64} (h : ¬ j.val < 32) {f : ℕ} (hf : j.val % 16 = f) (s : ℕ) : ang j s = ((s % 64 : ℕ) : ℝ) * freq f := by
  unfold ang pos; rw [if_neg h, hf]
theorem part_low {j k : Fin 64} (h : j.val % 32 < 16) (hk : k.val = j.val + 16) : k = part j := by
  unfold part; rw [dif_pos h]; exact Fin.ext hk
theorem part_high {j k : Fin 64} (h : ¬ j.val % 32 < 16) (hk : k.val = j.val - 16) : k = part j := by
  unfold part; rw [dif_neg h]; exact Fin.ext hk

theorem turn_low (D : Fin 64 → ℝ) {j k : Fin 64} (h : j.val % 32 < 16) (hk : k.val = j.val + 16) (s : ℕ) {a dk dj : EReal} (ha : a = (ang j s : EReal))
    (hdk : dk = (D k : EReal)) (hdj : dj = (D j : EReal)) : dk * Ideal.sin a + dj * Ideal.cos a = (unturn s D j : EReal) := by
  rw [ha, hdk, hdj, Ideal.sin_coe, Ideal.cos_coe, ← EReal.coe_mul, ← EReal.coe_mul, ← EReal.coe_add, part_low h hk]
  unfold unturn sgn
  rw [if_pos h]
  exact congrArg (fun r : ℝ => (r : EReal)) (by ring)
theorem turn_high (D : Fin 64 → ℝ) {j k : Fin 64} (h : ¬ j.val % 32 < 16) (hk : k.val = j.val - 16) (s : ℕ) {a dk dj : EReal} (ha : a = (ang j s : EReal))
    (hdk : dk = (D k : EReal)) (hdj : dj = (D j : EReal)) : dj * Ideal.cos a + -dk * Ideal.sin a = (unturn s D j : EReal) := by
  rw [ha, hdk, hdj, Ideal.sin_coe, Ideal.cos_coe, ← EReal.coe_neg, ← EReal.coe_mul, ← EReal.coe_mul, ← EReal.coe_add, part_high h hk]
  unfold unturn sgn
  rw [if_neg h]
  exact congrArg (fun r : ℝ => (r : EReal)) (by ring)

/-! ## Sums over unit axes -/

theorem sum_unit_03 {n q : ℕ} (h : (⟨4, ![1, n, q, 1]⟩ : Shape).ReducesTo [0, 3] ⟨2, ![n, q]⟩)
    (v : (⟨4, ![1, n, q, 1]⟩ : Shape).Idx → EReal) (e : EReal) (a : Fin n) (b : Fin q) :
    Ideal.hostReduceAdd h v e (ix2 a b) = e + v (ix4 0 a b 0) :=
  hostReduceAdd_one h v e _ _ fun k => by
    have h0 : (k 0).val < 1 := (k 0).isLt
    have h3 : (k 3).val < 1 := (k 3).isLt
    constructor
    · intro e
      have e1 : (k 1).val = a.val := congrArg Fin.val (congrFun e 0)
      have e2 : (k 2).val = b.val := congrArg Fin.val (congrFun e 1)
      funext x
      fin_cases x <;> apply Fin.ext
      · exact Nat.lt_one_iff.1 h0
      · exact e1
      · exact e2
      · exact Nat.lt_one_iff.1 h3
    · rintro rfl
      funext x; fin_cases x <;> rfl

theorem sum_unit4_01 {n q : ℕ} (h : (⟨4, ![1, 1, n, q]⟩ : Shape).ReducesTo [0, 1] ⟨2, ![n, q]⟩)
    (v : (⟨4, ![1, 1, n, q]⟩ : Shape).Idx → EReal) (e : EReal) (a : Fin n) (b : Fin q) :
    Ideal.hostReduceAdd h v e (ix2 a b) = e + v (ix4 0 0 a b) :=
  hostReduceAdd_one h v e _ _ fun k => by
    have h0 : (k 0).val < 1 := (k 0).isLt
    have h1 : (k 1).val < 1 := (k 1).isLt
    constructor
    · intro e
      have e1 : (k 2).val = a.val := congrArg Fin.val (congrFun e 0)
      have e2 : (k 3).val = b.val := congrArg Fin.val (congrFun e 1)
      funext x
      fin_cases x <;> apply Fin.ext
      · exact Nat.lt_one_iff.1 h0
      · exact Nat.lt_one_iff.1 h1
      · exact e1
      · exact e2
    · rintro rfl
      funext x; fin_cases x <;> rfl

end Cert.Prep

end
-- ==== Proof.QPrepBwd.lean ====
/- The queries' preparation, backward: the scale, the rotary position, the gain and the norm undone on each query head. -/
module

public import proofs.«01_k».proof.Defs
public import proofs.«01_k».proof.Proof.PrepTurn
public import proofs.«01_k».proof.Proof.Gen.QPrepBwdIdeal.Value
public import proofs.«01_k».proof.Proof.Gen.QPrepBwdRefIdeal.Run
public import proofs.«01_k».proof.Proof.Gen.Pre_finite_q_prep_bwd
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.QPrepBwdClaims

open Cert.Prep Cert.Reals

section Kernel
open Cert.QPrepBwdIdeal Cert.QPrepBwdIdeal.Gen

theorem pay7_at (d : FVec Ideal S1x2048x64 .f32) (C S : FVec Ideal S64x2048 .f32) (j : Fin 64) (a : Fin 2048) :
    k0_pay7 (F := Ideal) d C S (ix2 j a) = d (ix3 0 a j) * Ideal.ofBits .f32 0x3E38AA3B#32 * C (ix2 j a)
      + d (ix3 0 a (part j)) * Ideal.ofBits .f32 0x3E38AA3B#32 * S (ix2 (part j) a) := by
  pointwise [k0_pay7]
  exact congrArg (_ + ·) (part_cases (fun k => d (ix3 0 a k) * Ideal.ofBits .f32 0x3E38AA3B#32 * S (ix2 k a)) j)
theorem pay5_at (x : FVec Ideal S1x64x2048 .f32) (a : Fin 2048) :
    k0_pay5 (F := Ideal) x (ix2 0 a) = Ideal.rsqrt (Ideal.div (∑ k, x (ix3 0 k a) * x (ix3 0 k a)) (Ideal.ofBits .f32 0x42800000#32) + Ideal.ofBits .f32 0x358637BD#32) := by
  pointwise [k0_pay5, k0_pay4]
theorem pay6_at (x : FVec Ideal S1x64x2048 .f32) (j : Fin 64) (a : Fin 2048) :
    k0_pay6 (F := Ideal) x (ix2 j a) = x (ix3 0 j a) * k0_pay5 (F := Ideal) x (ix2 0 a) := by
  pointwise [k0_pay6, k0_pay4]
theorem pay8_at (d : FVec Ideal S1x2048x64 .f32) (C S : FVec Ideal S64x2048 .f32) (g : FVec Ideal S64x1 .f32) (j : Fin 64) (a : Fin 2048) :
    k0_pay8 (F := Ideal) d C S g (ix2 j a) = k0_pay7 (F := Ideal) d C S (ix2 j a) * g (ix2 j 0) := by
  pointwise [k0_pay8]
theorem pay9_at (x : FVec Ideal S1x64x2048 .f32) (d : FVec Ideal S1x2048x64 .f32) (C S : FVec Ideal S64x2048 .f32) (g : FVec Ideal S64x1 .f32) (j : Fin 64) (a : Fin 2048) :
    k0_pay9 (F := Ideal) x d C S g (ix2 j a)
      = k0_pay6 (F := Ideal) x (ix2 j a) * Ideal.div (∑ k, k0_pay8 (F := Ideal) d C S g (ix2 k a) * k0_pay6 (F := Ideal) x (ix2 k a)) (Ideal.ofBits .f32 0x42800000#32) := by
  pointwise [k0_pay9]
theorem pay1_at (r : FVec Ideal S1x2048 .f32) (v w : FVec Ideal S64x2048 .f32) (j : Fin 64) (a : Fin 2048) :
    k0_pay1 (F := Ideal) r v w (ix3 0 j a) = r (ix2 0 a) * (v (ix2 j a) - w (ix2 j a)) := by
  pointwise [k0_pay1]
theorem pay3_at (n y : FVec Ideal S64x2048 .f32) (v : FVec Ideal S1x64x1 .f32) (j : Fin 64) :
    k0_pay3 (F := Ideal) n y v (ix3 0 j 0) = v (ix3 0 j 0) + ∑ a, y (ix2 j a) * n (ix2 j a) := by
  pointwise [k0_pay3]
theorem pay2_at (h : Fin 8) (j : Fin 64) : k0_pay2 (F := Ideal) (ix3 h j 0) = (0 : EReal) := by pointwise [k0_pay2]

theorem idx : ∀ t : Fin cfg0.N, win0_0.index t = ![t.val % 8, 0, t.val / 8] ∧ win0_1.index t = ![t.val % 8, t.val / 8, 0] ∧ win0_2.index t = ![0, 0]
    ∧ win0_3.index t = ![0, t.val / 8] ∧ win0_4.index t = ![0, t.val / 8] ∧ win0_5.index t = ![t.val % 8, 0, t.val / 8] ∧ win0_6.index t = ![0, 0, 0] ∧ t.val < 64 :=
  (by decide +kernel : ∀ t : Fin grid0.N, _)

def hAng (p : IVec S16384 32) : FVec Ideal S16384x16 .f32 :=
  mulf (broadcastInDim S16384x16 ![0, 1] bcast_S16384x1_S16384x16_0_1 (broadcastInDim S16384x1 ![0] bcast_S16384_S16384x1_0 (sitofp .f32 p)))
    (broadcastInDim S16384x16 ![0, 1] bcast_S1x16_S16384x16_0_1 (broadcastInDim S1x16 ![1] bcast_S16_S1x16_1
      (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))
def hDivI : IVec S_ 32 := select (cmpi .eq (constantI S_ 32 64#32) (constantI S_ 32 0#32)) (constantI S_ 32 1#32) (constantI S_ 32 64#32)
def hRowI : IVec S16384 32 :=
  select (andi (cmpi .ne (signi (iotaInDim S16384 32 0)) (broadcastInDim S16384 ![] bcast_S_S16384 (signi (constantI S_ 32 64#32))))
      (cmpi .ne (Host.remsi (iotaInDim S16384 32 0) (broadcastInDim S16384 ![] bcast_S_S16384 (constantI S_ 32 64#32))) (broadcastInDim S16384 ![] bcast_S_S16384 (constantI S_ 32 0#32))))
    (subi (Host.divsi (iotaInDim S16384 32 0) (broadcastInDim S16384 ![] bcast_S_S16384 (constantI S_ 32 64#32))) (broadcastInDim S16384 ![] bcast_S_S16384 (constantI S_ 32 1#32)))
    (Host.divsi (iotaInDim S16384 32 0) (broadcastInDim S16384 ![] bcast_S_S16384 (constantI S_ 32 64#32)))
def hRemI : IVec S16384 32 := Host.remsi (iotaInDim S16384 32 0) (broadcastInDim S16384 ![] bcast_S_S16384 hDivI)
def hColI : IVec S16384 32 :=
  select (andi (cmpi .ne (cmpi .slt hRemI (broadcastInDim S16384 ![] bcast_S_S16384 (constantI S_ 32 0#32)))
        (broadcastInDim S16384 ![] bcast_S_S16384 (cmpi .slt hDivI (constantI S_ 32 0#32))))
      (cmpi .ne hRemI (broadcastInDim S16384 ![] bcast_S_S16384 (constantI S_ 32 0#32))))
    (addi hRemI (broadcastInDim S16384 ![] bcast_S_S16384 hDivI)) hRemI
def hCos : FVec Ideal S64x16384 .f32 :=
  transpose S64x16384 [1, 0] (concatenate S16384x64 1 [⟨S16384x16, Host.cos (hAng hRowI)⟩, ⟨S16384x16, Host.cos (hAng hRowI)⟩, ⟨S16384x16, Host.cos (hAng hColI)⟩, ⟨S16384x16, Host.cos (hAng hColI)⟩] concatenates_S16384x16_S16384x16_S16384x16_S16384x16_S16384x64_d1) transposes_S16384x64_S64x16384_1_0
def hSin : FVec Ideal S64x16384 .f32 :=
  transpose S64x16384 [1, 0] (concatenate S16384x64 1 [⟨S16384x16, Host.negf (Host.sin (hAng hRowI))⟩, ⟨S16384x16, Host.sin (hAng hRowI)⟩, ⟨S16384x16, Host.negf (Host.sin (hAng hColI))⟩, ⟨S16384x16, Host.sin (hAng hColI)⟩] concatenates_S16384x16_S16384x16_S16384x16_S16384x16_S16384x64_d1) transposes_S16384x64_S64x16384_1_0

theorem hRowI_at (s : Fin 16384) : hRowI (ix1 s) = BitVec.ofNat 32 (s.val / 64) := Eq.trans rfl (rowWord_eq s.isLt)
theorem hColI_at (s : Fin 16384) : hColI (ix1 s) = BitVec.ofNat 32 (s.val % 64) := Eq.trans rfl (colWord_eq s.isLt)
theorem hAng_at (p : IVec S16384 32) (s : Fin 16384) (f : Fin 16) {n : ℕ} (hn : n < 16384) (h : p (ix1 s) = BitVec.ofNat 32 n) :
    hAng p (ix2 s f) = ((n * freq f.val : ℝ) : EReal) := by
  pointwise [hAng]
  rw [h, EReal.coe_mul, ← toInt_small hn, ← freq_host (f := f.val) (by omega)]
  rfl
theorem hCos_at (j : Fin 64) (s : Fin 16384) : hCos (ix2 j s) = ((Real.cos (ang j s.val) : ℝ) : EReal) := by
  have hr := fun f : Fin 16 => hAng_at hRowI s f (by omega) (hRowI_at s)
  have hc := fun f : Fin 16 => hAng_at hColI s f (by omega) (hColI_at s)
  pointwise [hCos]
  exact ang_cases Real.cos _ _ Ideal.cos (fun a => Ideal.cos_coe a) j s.val hr hc
theorem hSin_at (j : Fin 64) (s : Fin 16384) : hSin (ix2 j s) = ((sgn j * Real.sin (ang j s.val) : ℝ) : EReal) := by
  have hr := fun f : Fin 16 => hAng_at hRowI s f (by omega) (hRowI_at s)
  have hc := fun f : Fin 16 => hAng_at hColI s f (by omega) (hColI_at s)
  pointwise [hSin]
  exact sgn_cases Real.sin _ _ Ideal.sin (fun a => Ideal.sin_coe a) j s.val hr hc
variable (m : (ℓ : Loc nD τ sig) → Buf (Elt Ideal) ℓ) (c : Dev nD)
def hX (x : FVec Ideal S1x16384x2816 .f32) : FVec Ideal S12x64x16384 .f32 :=
  shapeCast _ (transpose S768x16384 [1, 0] (extractStridedSlice S16384x768 ![0, 0] (shapeCast _ x shapeCasts_S1x16384x2816_S16384x2816) slices_S16384x2816_S16384x768_0_0) transposes_S16384x768_S768x16384_1_0) shapeCasts_S768x16384_S12x64x16384
def hD (d : FVec Ideal S1x16384x8x64 .f32) : FVec Ideal S8x16384x64 .f32 :=
  transpose S8x16384x64 [1, 0, 2] (shapeCast _ d shapeCasts_S1x16384x8x64_S16384x8x64) transposes_S16384x8x64_S8x16384x64_1_0_2
theorem hX_at (x : FVec Ideal S1x16384x2816 .f32) (u : Fin 12) (k : Fin 64) (s : Fin 16384) : hX x (ix3 u k s) = x (ix3 0 s ⟨u.val * 64 + k.val, by omega⟩) := by
  pointwise [hX]
theorem hD_at (d : FVec Ideal S1x16384x8x64 .f32) (h : Fin 8) (k : Fin 64) (s : Fin 16384) : hD d (ix3 h s k) = d (ix4 0 s h k) := by
  pointwise [hD]
theorem V33 : V m c main_v33 = hCos := by
  unfold V; simp only [hostOps0, hostOps0_1, hostOps0_2, hostOps0_3, hostOps0_4, List.flatten_cons, List.flatten_nil, List.append_nil, List.cons_append, List.nil_append]
  after_results
  rfl
theorem V34 : V m c main_v34 = hSin := by
  unfold V; simp only [hostOps0, hostOps0_1, hostOps0_2, hostOps0_3, hostOps0_4, List.flatten_cons, List.flatten_nil, List.append_nil, List.cons_append, List.nil_append]
  after_results
  rfl
theorem V38 : V m c main_v38 = hX (m ((c.tc : Thread nD τ).loc main_arg0)) := by
  unfold V; simp only [hostOps0, hostOps0_1, hostOps0_2, hostOps0_3, hostOps0_4, List.flatten_cons, List.flatten_nil, List.append_nil, List.cons_append, List.nil_append]
  after_results
  rfl
theorem V40 : V m c main_v40 = hD (m ((c.tc : Thread nD τ).loc main_arg2)) := by
  unfold V; simp only [hostOps0, hostOps0_1, hostOps0_2, hostOps0_3, hostOps0_4, List.flatten_cons, List.flatten_nil, List.append_nil, List.cons_append, List.nil_append]
  after_results
  rfl

theorem V41 : V m c main_v41 = shapeCast _ (m ((c.tc : Thread nD τ).loc main_arg1)) shapeCasts_S64_S64x1 := by
  unfold V; simp only [hostOps0, hostOps0_1, hostOps0_2, hostOps0_3, hostOps0_4, List.flatten_cons, List.flatten_nil, List.append_nil, List.cons_append, List.nil_append]
  after_results
  rfl

/-- The token of a tile's lane. -/
abbrev rowOf (t : Fin cfg0.N) (a : Fin 2048) : Fin 16384 := ⟨t.val / 8 * 2048 + a.val, by have := (idx t).2.2.2.2.2.2.2; omega⟩
/-- The head of a grid point. -/
abbrev headOf (t : Fin cfg0.N) : Fin 8 := ⟨t.val % 8, by omega⟩
/-- The column of the projection a query head's feature is. -/
abbrev colOf (h : Fin 8) (k : Fin 64) : Fin 2816 := ⟨h.val * 64 + k.val, by omega⟩

theorem blk0 (t : Fin cfg0.N) (k : Fin 64) (a : Fin 2048) :
    (show EReal from iblk m c 0 t (ix3 0 k a)) = m ((c.tc : Thread nD τ).loc main_arg0) (ix3 0 (rowOf t a) (colOf (headOf t) k)) := by
  unfold iblk
  show (V m c main_v38) (((cfg0.win 0).blk t).view.emb (ix3 0 k a)) = _
  have e : ((cfg0.win 0).blk t).view.emb (ix3 0 k a) = ix3 ⟨t.val % 8, by omega⟩ k (rowOf t a) := by blk_ext [idx t]
  rw [V38, e]
  exact hX_at _ _ _ _
theorem blk1 (t : Fin cfg0.N) (k : Fin 64) (a : Fin 2048) :
    (show EReal from iblk m c 1 t (ix3 0 a k)) = m ((c.tc : Thread nD τ).loc main_arg2) (ix4 0 (rowOf t a) (headOf t) k) := by
  unfold iblk
  show (V m c main_v40) (((cfg0.win 1).blk t).view.emb (ix3 0 a k)) = _
  have e : ((cfg0.win 1).blk t).view.emb (ix3 0 a k) = ix3 (headOf t) (rowOf t a) k := by blk_ext [idx t]
  rw [V40, e]
  exact hD_at _ _ _ _
theorem blk2 (t : Fin cfg0.N) (k : Fin 64) :
    (show EReal from iblk m c 2 t (ix2 k 0)) = m ((c.tc : Thread nD τ).loc main_arg1) (ix1 k) := by
  unfold iblk
  show (V m c main_v41) (((cfg0.win 2).blk t).view.emb (ix2 k 0)) = _
  have e : ((cfg0.win 2).blk t).view.emb (ix2 k 0) = ix2 k 0 := by blk_ext [idx t]
  rw [V41, e]
  pointwise []
theorem blk3 (t : Fin cfg0.N) (k : Fin 64) (a : Fin 2048) :
    (show EReal from iblk m c 3 t (ix2 k a)) = ((Real.cos (ang k (rowOf t a).val) : ℝ) : EReal) := by
  unfold iblk
  show (V m c main_v33) (((cfg0.win 3).blk t).view.emb (ix2 k a)) = _
  have e : ((cfg0.win 3).blk t).view.emb (ix2 k a) = ix2 k (rowOf t a) := by blk_ext [idx t]
  rw [V33, e]
  exact hCos_at _ _
theorem blk4 (t : Fin cfg0.N) (k : Fin 64) (a : Fin 2048) :
    (show EReal from iblk m c 4 t (ix2 k a)) = ((sgn k * Real.sin (ang k (rowOf t a).val) : ℝ) : EReal) := by
  unfold iblk
  show (V m c main_v34) (((cfg0.win 4).blk t).view.emb (ix2 k a)) = _
  have e : ((cfg0.win 4).blk t).view.emb (ix2 k a) = ix2 k (rowOf t a) := by blk_ext [idx t]
  rw [V34, e]
  exact hSin_at _ _

variable (x : (⟨3, ![1, 16384, 2816]⟩ : Shape).Idx → ℝ) (g : (⟨1, ![64]⟩ : Shape).Idx → ℝ) (d : (⟨4, ![1, 16384, 8, 64]⟩ : Shape).Idx → ℝ)
  (hx : m ((c.tc : Thread nD τ).loc main_arg0) = fun i => (x i : EReal))
  (hg : m ((c.tc : Thread nD τ).loc main_arg1) = fun i => (g i : EReal))
  (hd : m ((c.tc : Thread nD τ).loc main_arg2) = fun i => (d i : EReal))

/-- A query head's features at a token. -/
abbrev xAt (s : Fin 16384) (h : Fin 8) (k : Fin 64) : ℝ := x (ix3 0 s (colOf h k))
/-- A query head's scaled cotangent at a token. -/
abbrev dAt (s : Fin 16384) (h : Fin 8) (k : Fin 64) : ℝ := d (ix4 0 s h k) * qScale

/-- The heads' gradient over reals. -/
def dxOf : FVec Ideal S8x64x16384 .f32 := fun i => (prepDx (i 2 : Fin 16384).val (xAt x (i 2) (i 0)) (fun k => g (ix1 k)) (dAt d (i 2) (i 0)) (i 1) : EReal)
/-- The gain's gradient for each head over reals. -/
def dgOf : FVec Ideal S8x64x1 .f32 := fun i => ∑ s : Fin 16384, (prepDg s.val (xAt x s (i 0)) (dAt d s (i 0)) (i 1) : EReal)

include hx in
theorem r_at (t : Fin cfg0.N) (a : Fin 2048) : k0_pay5 (F := Ideal) (iblk m c 0 t) (ix2 0 a) = (rms 64 (xAt x (rowOf t a) (headOf t)) : EReal) := by
  rw [pay5_at, word_64, word_eps, ← rms_eq (by norm_num)]
  exact congrArg (fun z : EReal => Ideal.rsqrt (Ideal.div z _ + _)) (Finset.sum_congr rfl fun k _ =>
    Ideal.mul_congr ((blk0 m c t k a).trans (congrFun hx _)) ((blk0 m c t k a).trans (congrFun hx _)))

include hx in
theorem n_at (t : Fin cfg0.N) (k : Fin 64) (a : Fin 2048) : k0_pay6 (F := Ideal) (iblk m c 0 t) (ix2 k a)
    = (xAt x (rowOf t a) (headOf t) k : EReal) * (rms 64 (xAt x (rowOf t a) (headOf t)) : EReal) := by
  rw [pay6_at, r_at m c x hx]
  exact Ideal.mul_congr ((blk0 m c t k a).trans (congrFun hx _)) rfl

include hd in
theorem y_at (t : Fin cfg0.N) (k : Fin 64) (a : Fin 2048) : k0_pay7 (F := Ideal) (iblk m c 1 t) (iblk m c 3 t) (iblk m c 4 t) (ix2 k a)
    = (unturn (rowOf t a).val (dAt d (rowOf t a) (headOf t)) k : EReal) := by
  rw [pay7_at, ← unturn_kernel, EReal.coe_add, EReal.coe_mul, EReal.coe_mul]
  have hs : ∀ k : Fin 64, (show EReal from iblk m c 1 t (ix3 0 a k)) * Ideal.ofBits .f32 0x3E38AA3B#32 = (dAt d (rowOf t a) (headOf t) k : EReal) := fun k => by
    rw [EReal.coe_mul, word_qScale]
    exact Ideal.mul_congr ((blk1 m c t k a).trans (congrFun hd _)) rfl
  exact congrArg₂ (· + ·) (Ideal.mul_congr (hs k) (blk3 m c t k a)) (Ideal.mul_congr (hs (part k)) (blk4 m c t (part k) a))

include hx hg hd in
theorem point5 (t : Fin cfg0.N) (j : Fin 64) (a : Fin 2048) :
    k0_pay1 (F := Ideal) (k0_pay5 (iblk m c 0 t)) (k0_pay8 (iblk m c 1 t) (iblk m c 3 t) (iblk m c 4 t) (iblk m c 2 t)) (k0_pay9 (iblk m c 0 t) (iblk m c 1 t) (iblk m c 3 t) (iblk m c 4 t) (iblk m c 2 t)) (ix3 0 j a)
      = dxOf x g d (ix3 (headOf t) j (rowOf t a)) := by
  have hg' : ∀ k : Fin 64, (show EReal from iblk m c 2 t (ix2 k 0)) = (g (ix1 k) : EReal) := fun k => (blk2 m c t k).trans (congrFun hg _)
  have hy : ∀ k : Fin 64, k0_pay8 (F := Ideal) (iblk m c 1 t) (iblk m c 3 t) (iblk m c 4 t) (iblk m c 2 t) (ix2 k a)
      = (unturn (rowOf t a).val (dAt d (rowOf t a) (headOf t)) k : EReal) * (g (ix1 k) : EReal) := fun k =>
    (pay8_at _ _ _ _ k a).trans (Ideal.mul_congr (y_at m c d hd t k a) (hg' k))
  rw [pay1_at, pay9_at]
  refine Eq.trans ?_ (dx_kernel (xAt x (rowOf t a) (headOf t)) (fun k => g (ix1 k)) (unturn (rowOf t a).val (dAt d (rowOf t a) (headOf t))) j _ rfl)
  refine Ideal.mul_congr (r_at m c x hx t a) (congrArg₂ (fun u v : EReal => u - v) (hy j)
    (Ideal.mul_congr (n_at m c x hx t j a) (congrArg₂ Ideal.div (Finset.sum_congr rfl fun k _ => Ideal.mul_congr (hy k) (n_at m c x hx t k a)) word_64)))

include hx hg hd in
/-- The kernel's gradient of the heads. -/
theorem final5 : (dats m 0 c).arrAt 5 cfg0.N = dxOf x g d := by
  refine (dats m 0 c).arrAt_eq_of_covers 5 _ (by decide +kernel) fun t hf y => ?_
  obtain ⟨j, a, rfl⟩ : ∃ (j : Fin 64) (a : Fin 2048), y = ix3 0 j a := ⟨y 1, y 2, by idx_ext⟩
  have e : ((cfg0.win 5).blk t).view.emb (ix3 0 j a) = ix3 (headOf t) j (rowOf t a) := by blk_ext [idx t]
  rw [e]
  blk_simp
  rw [after0_5]
  by_cases h : t.val % 64 = 0
  · rw [outsAt0_A m c t h]
    frame_out
    exact point5 m c x g d hx hg hd t j a
  · rw [outsAt0_B m c t h]
    frame_out
    exact point5 m c x g d hx hg hd t j a

theorem off1 : ∀ t : Fin cfg0.N, k0_off1 (grid0.coords t) = ![(headOf t).val, 0, 0] := (by decide +kernel : ∀ t : Fin grid0.N, k0_off1 (grid0.coords t) = ![t.val % 8, 0, 0])

/-- One token's part of the gain's gradient. -/
def dgRow (b : Fin 8) (j : Fin 64) (s : Fin 16384) : EReal := (prepDg s.val (xAt x s b) (dAt d s b) j : EReal)

include hx hd in
/-- What a grid point adds to its head's entry. -/
theorem part6 (t : Fin cfg0.N) (v : FVec Ideal S1x64x1 .f32) (b : Fin 8) (hb : (headOf t).val = b.val) (j : Fin 64) :
    k0_pay3 (F := Ideal) (k0_pay6 (iblk m c 0 t)) (k0_pay7 (iblk m c 1 t) (iblk m c 3 t) (iblk m c 4 t)) v (ix3 0 j 0)
      = v (ix3 0 j 0) + ∑ a : Fin 2048, dgRow x d b j (rowOf t a) := by
  obtain rfl : headOf t = b := Fin.ext hb
  refine (pay3_at _ _ _ _).trans (congrArg (v (ix3 0 j 0) + ·) (Finset.sum_congr rfl fun a _ => ?_))
  rw [y_at m c d hd, n_at m c x hx]
  unfold dgRow prepDg
  rw [← EReal.coe_mul, ← EReal.coe_mul]

include hx hd in
/-- The kernel's gradient of the gain. -/
theorem final6 : (dats m 0 c).arrAt 6 cfg0.N = dgOf x d := by
  refine (dats m 0 c).arrAt_eq_of_covers 6 _ (by decide +kernel) fun t hf y => ?_
  obtain ⟨b, j, rfl⟩ : ∃ (b : Fin 8) (j : Fin 64), y = ix3 b j 0 := ⟨y 0, y 1, by idx_ext⟩
  have e : ((cfg0.win 6).blk t).view.emb (ix3 b j 0) = ix3 b j 0 := by blk_ext [idx t]
  rw [e]
  blk_simp
  rw [after0_6, Pipeline.eq_sum_fin_of_reset_step_apply_of_flush (fun n h => (outsAt0 m c n h).2) 64 (fun _ => (0 : EReal))
    (fun t j => if t.val % 8 = (j 0).val then ∑ a : Fin 2048, dgRow x d (j 0) (j 1) (rowOf t a) else 0)
    (fun t h j => by
      obtain ⟨b, j, rfl⟩ : ∃ (b : Fin 8) (k : Fin 64), j = ix3 b k 0 := ⟨j 0, j 1, by idx_ext⟩
      rw [outsAt0_A m c t h]; frame_out
      refine (canon_head (headOf t) (off1 t) _ _ _ b j).trans ?_
      by_cases hb : (headOf t).val = b.val
      · rw [if_pos hb]
        refine (part6 m c x d hx hd t _ b hb j).trans (congrArg₂ (· + ·) ((ld_head (headOf t) (off1 t) _ _ j).trans (pay2_at _ j)) (if_pos hb).symm)
      · rw [if_neg hb]
        refine Eq.trans ?_ (congrArg₂ (· + ·) rfl (if_neg hb).symm)
        rw [View.canon_cons_unit_lit, add_zero]
        · exact pay2_at b j
        · intro a; fin_cases a <;> rfl)
    (fun t h j => by
      obtain ⟨b, j, rfl⟩ : ∃ (b : Fin 8) (k : Fin 64), j = ix3 b k 0 := ⟨j 0, j 1, by idx_ext⟩
      rw [outsAt0_B m c t h]; frame_out
      refine (read_head (headOf t) (off1 t) _ _ _ _ _ b j).trans ?_
      by_cases hb : (headOf t).val = b.val
      · rw [if_pos hb]
        refine (part6 m c x d hx hd t _ b hb j).trans (congrArg₂ (· + ·) ((ld_head (headOf t) (off1 t) _ _ j).trans ?_) (if_pos hb).symm)
        exact congrArg (fun u => (outsAt0 m c (t.val - 1) _).2 (ix3 u j 0)) (Fin.ext hb)
      · rw [if_neg hb]
        refine Eq.trans ?_ (congrArg₂ (· + ·) rfl (if_neg hb).symm)
        rw [add_zero]
        exact congrFun ((hs0_6 t).read_unread _) _)
    t ((flush0_6 t).mp hf) (ix3 b j 0), zero_add]
  have ht := (idx t).2.2.2.2.2.2.2
  refine Eq.trans (Fin.sum_fin_congr fun s => ?_) (sum_head (H := 8) (N := 64) rfl (dgRow x d b j) b
    (fun s a => ⟨s.val / 8 * 2048 + a.val, by omega⟩) (fun _ _ => rfl))
  have hs : 64 * (t.val / 64) + s.val = s.val := by omega
  show (if (64 * (t.val / 64) + s.val) % 8 = b.val then _ else (0 : EReal)) = _
  simp only [hs]
  rfl
end Kernel

section Reference
open Cert.QPrepBwdRefIdeal Cert.QPrepBwdRefIdeal.Gen

/-! ## The reference, part by part -/

/-- The tokens' rows and columns as the reference lays them. -/
def refRowF : FVec Ideal S16384 .f32 := sitofp .f32 (shapeCast S16384 (broadcastInDim S256x64 ![0] bcast_S256_S256x64_0 (iotaInDim S256 32 0)) shapeCasts_S256x64_S16384)
def refColF : FVec Ideal S16384 .f32 := sitofp .f32 (shapeCast S16384 (broadcastInDim S256x64 ![0, 1] bcast_S1x64_S256x64_0_1 (shapeCast S1x64 (iotaInDim S64 32 0) shapeCasts_S64_S1x64)) shapeCasts_S256x64_S16384)
/-- The angles of a position's tokens. -/
def refAng (p : FVec Ideal S16384 .f32) : FVec Ideal S16384x16 .f32 :=
  mulf (broadcastInDim S16384x16 ![0, 1] bcast_S16384x1_S16384x16_0_1 (broadcastInDim S16384x1 ![0] bcast_S16384_S16384x1_0 p))
    (broadcastInDim S16384x16 ![0, 1] bcast_S1x16_S16384x16_0_1 (broadcastInDim S1x16 ![1] bcast_S16_S1x16_1
      (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))
/-- A table over every head. -/
def refTab (T : FVec Ideal S16384x16 .f32) : FVec Ideal S1x16384x8x16 .f32 :=
  broadcastInDim S1x16384x8x16 ![0, 1, 2, 3] bcast_S1x16384x1x16_S1x16384x8x16_0_1_2_3 (broadcastInDim S1x16384x1x16 ![1, 2, 3] bcast_S16384x1x16_S1x16384x1x16_1_2_3 (broadcastInDim S16384x1x16 ![0, 2] bcast_S16384x16_S16384x1x16_0_2 T))
/-- The turn's transpose on one half of a head. -/
def refHalf (A : FVec Ideal S16384x16 .f32) (d : FVec Ideal S1x16384x8x32 .f32) : FVec Ideal S1x16384x8x32 .f32 :=
  addf (pad S1x16384x8x32 ![0, 0, 0, 16] ![0, 0, 0, 0] ![0, 0, 0, 0]
      (addf (mulf (extractStridedSlice S1x16384x8x16 ![0, 0, 0, 16] d slices_S1x16384x8x32_S1x16384x8x16_0_0_0_16) (refTab (Host.cos A)))
        (mulf (Host.negf (extractStridedSlice S1x16384x8x16 ![0, 0, 0, 0] d slices_S1x16384x8x32_S1x16384x8x16_0_0_0_0)) (refTab (Host.sin A))))
      (constant S_ .f32 0x00000000#32) pads_S1x16384x8x16_S1x16384x8x32_000_000_000_1600 h_S_)
    (pad S1x16384x8x32 ![0, 0, 0, 0] ![0, 0, 0, 16] ![0, 0, 0, 0]
      (addf (mulf (extractStridedSlice S1x16384x8x16 ![0, 0, 0, 16] d slices_S1x16384x8x32_S1x16384x8x16_0_0_0_16) (refTab (Host.sin A)))
        (mulf (extractStridedSlice S1x16384x8x16 ![0, 0, 0, 0] d slices_S1x16384x8x32_S1x16384x8x16_0_0_0_0) (refTab (Host.cos A))))
      (constant S_ .f32 0x00000000#32) pads_S1x16384x8x16_S1x16384x8x32_000_000_000_0160 h_S_)
/-- The turn's transpose: the column's half, then the row's. -/
def refY (d : FVec Ideal S1x16384x8x64 .f32) : FVec Ideal S1x16384x8x64 .f32 :=
  addf (pad S1x16384x8x64 ![0, 0, 0, 32] ![0, 0, 0, 0] ![0, 0, 0, 0] (refHalf (refAng refColF) (extractStridedSlice S1x16384x8x32 ![0, 0, 0, 32] d slices_S1x16384x8x64_S1x16384x8x32_0_0_0_32))
      (constant S_ .f32 0x00000000#32) pads_S1x16384x8x32_S1x16384x8x64_000_000_000_3200 h_S_)
    (pad S1x16384x8x64 ![0, 0, 0, 0] ![0, 0, 0, 32] ![0, 0, 0, 0] (refHalf (refAng refRowF) (extractStridedSlice S1x16384x8x32 ![0, 0, 0, 0] d slices_S1x16384x8x64_S1x16384x8x32_0_0_0_0))
      (constant S_ .f32 0x00000000#32) pads_S1x16384x8x32_S1x16384x8x64_000_000_000_0320 h_S_)
/-- The scaled cotangent. -/
def refS (d : FVec Ideal S1x16384x8x64 .f32) : FVec Ideal S1x16384x8x64 .f32 :=
  mulf d (broadcastInDim S1x16384x8x64 ![] bcast_S_S1x16384x8x64 (constant S_ .f32 0x3E38AA3B#32))
/-- The query heads of the projection. -/
def refX (p : FVec Ideal S1x16384x2816 .f32) : FVec Ideal S1x16384x8x64 .f32 :=
  shapeCast _ (extractStridedSlice S1x16384x512 ![0, 0, 0] p slices_S1x16384x2816_S1x16384x512_0_0_0) shapeCasts_S1x16384x512_S1x16384x8x64
/-- The mean square plus epsilon. -/
def refV (X : FVec Ideal S1x16384x8x64 .f32) : FVec Ideal S1x16384x8x1 .f32 :=
  addf (Host.divf (broadcastInDim S1x16384x8x1 ![0, 1, 2] bcast_S1x16384x8_S1x16384x8x1_0_1_2 (Host.reduceAdd (mulf X X) (constant S_ .f32 0x00000000#32) reducesTo_S1x16384x8x64_S1x16384x8_d3 h_S_)) (broadcastInDim S1x16384x8x1 ![] bcast_S_S1x16384x8x1 (constant S_ .f32 0x42800000#32))) (broadcastInDim S1x16384x8x1 ![] bcast_S_S1x16384x8x1 (constant S_ .f32 0x358637BD#32))
/-- The root's reciprocal over every feature. -/
def refR (X : FVec Ideal S1x16384x8x64 .f32) : FVec Ideal S1x16384x8x64 .f32 :=
  broadcastInDim S1x16384x8x64 ![0, 1, 2, 3] bcast_S1x16384x8x1_S1x16384x8x64_0_1_2_3 (Host.rsqrt (refV X))
/-- The normed head's cotangent: the turned cotangent times the gain. -/
def refDN (Y : FVec Ideal S1x16384x8x64 .f32) (g : FVec Ideal S64 .f32) : FVec Ideal S1x16384x8x64 .f32 :=
  mulf Y (broadcastInDim S1x16384x8x64 ![0, 1, 2, 3] bcast_S1x1x8x64_S1x16384x8x64_0_1_2_3 (broadcastInDim S1x1x8x64 ![2, 3] bcast_S8x64_S1x1x8x64_2_3 (broadcastInDim S8x64 ![1] bcast_S64_S8x64_1 g)))
/-- The mean square's cotangent over the width. -/
def refC (X D : FVec Ideal S1x16384x8x64 .f32) : FVec Ideal S1x16384x8x1 .f32 :=
  Host.divf (mulf (shapeCast _ (Host.reduceAdd (mulf X D) (constant S_ .f32 0x00000000#32) reducesTo_S1x16384x8x64_S1x16384x8_d3 h_S_) shapeCasts_S1x16384x8_S1x16384x8x1) (mulf (broadcastInDim S1x16384x8x1 ![] bcast_S_S1x16384x8x1 (constant S_ .f32 0xBF000000#32)) (Host.divf (Host.rsqrt (refV X)) (refV X)))) (broadcastInDim S1x16384x8x1 ![] bcast_S_S1x16384x8x1 (constant S_ .f32 0x42800000#32))
def refCB (X D : FVec Ideal S1x16384x8x64 .f32) : FVec Ideal S1x16384x8x64 .f32 :=
  broadcastInDim S1x16384x8x64 ![0, 1, 2] bcast_S1x16384x8_S1x16384x8x64_0_1_2 (broadcastInDim S1x16384x8 ![1, 2] bcast_S16384x8_S1x16384x8_1_2 (Host.reduceAdd (refC X D) (constant S_ .f32 0x00000000#32) reducesTo_S1x16384x8x1_S16384x8_d0_3 h_S_))
/-- The reference's gradient of the heads, features before tokens. -/
def refDX (X D : FVec Ideal S1x16384x8x64 .f32) : FVec Ideal S8x64x16384 .f32 :=
  transpose S8x64x16384 [1, 2, 0] (shapeCast _ (shapeCast _ (addf (addf (mulf D (refR X)) (mulf X (refCB X D))) (mulf (refCB X D) X)) shapeCasts_S1x16384x8x64_S1x16384x512) shapeCasts_S1x16384x512_S16384x8x64) transposes_S16384x8x64_S8x64x16384_1_2_0
/-- The reference's gradient of the gain for each head. -/
def refDG (X Y : FVec Ideal S1x16384x8x64 .f32) : FVec Ideal S8x64x1 .f32 :=
  shapeCast _ (Host.reduceAdd (shapeCast _ (Host.reduceAdd (mulf (mulf X (refR X)) Y) (constant S_ .f32 0x00000000#32) reducesTo_S1x16384x8x64_S1x8x64_d1 h_S_) shapeCasts_S1x8x64_S1x1x8x64) (constant S_ .f32 0x00000000#32) reducesTo_S1x1x8x64_S8x64_d0_1 h_S_) shapeCasts_S8x64_S8x64x1

theorem refRowF_at (s : Fin 16384) : refRowF (ix1 s) = (((s.val / 64 : ℕ) : ℝ) : EReal) := by
  rw [← toInt_small (by omega)]
  pointwise [refRowF]
  rfl
theorem refColF_at (s : Fin 16384) : refColF (ix1 s) = (((s.val % 64 : ℕ) : ℝ) : EReal) := by
  rw [← toInt_small (by omega)]
  pointwise [refColF]
  rfl
theorem refAng_at (p : FVec Ideal S16384 .f32) (s : Fin 16384) (f : Fin 16) (n : ℕ) (h : p (ix1 s) = ((n : ℝ) : EReal)) :
    refAng p (ix2 s f) = ((n * freq f.val : ℝ) : EReal) := by
  pointwise [refAng]
  rw [h, EReal.coe_mul, ← freq_host (f := f.val) (by omega)]
  rfl
theorem refTab_at (T : FVec Ideal S16384x16 .f32) (s : Fin 16384) (h : Fin 8) (f : Fin 16) : refTab T (ix4 0 s h f) = T (ix2 s f) := by
  pointwise [refTab]
theorem refHalf_at (A : FVec Ideal S16384x16 .f32) (d : FVec Ideal S1x16384x8x32 .f32) (s : Fin 16384) (h : Fin 8) (f : Fin 32) :
    refHalf A d (ix4 0 s h f) = if h' : f.val < 16
      then d (ix4 0 s h ⟨16 + f.val, by omega⟩) * Ideal.sin (A (ix2 s ⟨f.val, h'⟩)) + d (ix4 0 s h f) * Ideal.cos (A (ix2 s ⟨f.val, h'⟩))
      else d (ix4 0 s h ⟨16 + (f.val - 16), by omega⟩) * Ideal.cos (A (ix2 s ⟨f.val - 16, by omega⟩)) + -d (ix4 0 s h ⟨f.val - 16, by omega⟩) * Ideal.sin (A (ix2 s ⟨f.val - 16, by omega⟩)) := by
  pointwise [refHalf, refTab]
  by_cases h' : f.val < 16
  · rw [dif_neg (fun e => by omega), dif_pos h', dif_pos h', zero_add]
  · rw [dif_pos (by omega), dif_neg h', dif_neg h', add_zero]
theorem low_at (d : FVec Ideal S1x16384x8x64 .f32) (s : Fin 16384) (h : Fin 8) (f : Fin 32) :
    extractStridedSlice S1x16384x8x32 ![0, 0, 0, 0] d slices_S1x16384x8x64_S1x16384x8x32_0_0_0_0 (ix4 0 s h f) = d (ix4 0 s h ⟨f.val, by omega⟩) := by
  pointwise []
theorem high_at (d : FVec Ideal S1x16384x8x64 .f32) (s : Fin 16384) (h : Fin 8) (f : Fin 32) :
    extractStridedSlice S1x16384x8x32 ![0, 0, 0, 32] d slices_S1x16384x8x64_S1x16384x8x32_0_0_0_32 (ix4 0 s h f) = d (ix4 0 s h ⟨32 + f.val, by omega⟩) := by
  pointwise []
/-- The turned cotangent, at each quarter of a head. -/
theorem refY_at (d : FVec Ideal S1x16384x8x64 .f32) (s : Fin 16384) (h : Fin 8) (D : Fin 64 → ℝ) (hd : ∀ k, d (ix4 0 s h k) = (D k : EReal)) (j : Fin 64) :
    refY d (ix4 0 s h j) = (unturn s.val D j : EReal) := by
  have hr := fun f : Fin 16 => refAng_at refRowF s f _ (refRowF_at s)
  have hc := fun f : Fin 16 => refAng_at refColF s f _ (refColF_at s)
  have e : ∀ k l : Fin 64, k = l → d (ix4 0 s h k) = (D l : EReal) := fun k l e => e ▸ hd k
  pointwise [refY]
  by_cases h1 : j.val < 32
  · rw [dif_neg (fun e => by omega), dif_pos h1, zero_add, refHalf_at]
    by_cases h2 : j.val < 16
    · rw [dif_pos h2, low_at, low_at]
      exact turn_low D (k := ⟨16 + j.val, by omega⟩) (by omega) (Nat.add_comm _ _) s.val ((hr _).trans (congrArg _ (ang_row h1 (by show _ = j.val; omega) _).symm)) (hd _) (hd _)
    · rw [dif_neg h2, low_at, low_at]
      exact turn_high D (k := ⟨j.val - 16, by omega⟩) (by omega) rfl s.val ((hr _).trans (congrArg _ (ang_row h1 (by show _ = j.val - 16; omega) _).symm)) (hd _)
        (e _ _ (Fin.ext (by show 16 + (j.val - 16) = j.val; omega)))
  · rw [dif_pos (by omega), dif_neg h1, add_zero, refHalf_at]
    by_cases h2 : j.val - 32 < 16
    · rw [dif_pos h2, high_at, high_at]
      exact turn_low D (k := ⟨32 + (16 + (j.val - 32)), by omega⟩) (by omega) (by show 32 + (16 + (j.val - 32)) = j.val + 16; omega) s.val
        ((hc _).trans (congrArg _ (ang_col h1 (by show _ = j.val - 32; omega) _).symm)) (hd _) (e _ _ (Fin.ext (by show 32 + (j.val - 32) = j.val; omega)))
    · rw [dif_neg h2, high_at, high_at]
      exact turn_high D (k := ⟨32 + (j.val - 32 - 16), by omega⟩) (by omega) (by show 32 + (j.val - 32 - 16) = j.val - 16; omega) s.val
        ((hc _).trans (congrArg _ (ang_col h1 (by show _ = j.val - 32 - 16; omega) _).symm)) (hd _)
        (e _ _ (Fin.ext (by show 32 + (16 + (j.val - 32 - 16)) = j.val; omega)))
theorem refX_at (p : FVec Ideal S1x16384x2816 .f32) (s : Fin 16384) (h : Fin 8) (k : Fin 64) : refX p (ix4 0 s h k) = p (ix3 0 s (colOf h k)) := by
  pointwise [refX]
theorem refS_at (d : (⟨4, ![1, 16384, 8, 64]⟩ : Shape).Idx → ℝ) (s : Fin 16384) (h : Fin 8) (k : Fin 64) :
    refS (fun i => (d i : EReal)) (ix4 0 s h k) = (dAt d s h k : EReal) := by
  rw [EReal.coe_mul, ← word_qScale]
  pointwise [refS]
theorem refV_at (X : FVec Ideal S1x16384x8x64 .f32) (s : Fin 16384) (h : Fin 8) : refV X (ix4 0 s h 0)
    = Ideal.div (∑ k, X (ix4 0 s h k) * X (ix4 0 s h k)) (Ideal.ofBits FTy.f32 0x42800000#32) + Ideal.ofBits FTy.f32 0x358637BD#32 := by
  pointwise [refV]
theorem refC_at (X D : FVec Ideal S1x16384x8x64 .f32) (s : Fin 16384) (h : Fin 8) : refC X D (ix4 0 s h 0)
    = Ideal.div ((∑ k, X (ix4 0 s h k) * D (ix4 0 s h k)) * (Ideal.ofBits FTy.f32 0xBF000000#32 * Ideal.div (Ideal.rsqrt (refV X (ix4 0 s h 0))) (refV X (ix4 0 s h 0)))) (Ideal.ofBits FTy.f32 0x42800000#32) := by
  pointwise [refC]
theorem refDN_at (Y : FVec Ideal S1x16384x8x64 .f32) (g : FVec Ideal S64 .f32) (s : Fin 16384) (h : Fin 8) (k : Fin 64) :
    refDN Y g (ix4 0 s h k) = Y (ix4 0 s h k) * g (ix1 k) := by
  pointwise [refDN]
theorem refCB_at (X D : FVec Ideal S1x16384x8x64 .f32) (s : Fin 16384) (h : Fin 8) (k : Fin 64) : refCB X D (ix4 0 s h k) = refC X D (ix4 0 s h 0) := by
  pointwise [refCB, sum_unit_03]
theorem refDX_at (X D : FVec Ideal S1x16384x8x64 .f32) (s : Fin 16384) (h : Fin 8) (k : Fin 64) : refDX X D (ix3 h k s)
    = D (ix4 0 s h k) * Ideal.rsqrt (refV X (ix4 0 s h 0)) + X (ix4 0 s h k) * refCB X D (ix4 0 s h k) + refCB X D (ix4 0 s h k) * X (ix4 0 s h k) := by
  pointwise [refDX, refR]
theorem refDG_at (X Y : FVec Ideal S1x16384x8x64 .f32) (h : Fin 8) (k : Fin 64) : refDG X Y (ix3 h k 0)
    = ∑ s : Fin 16384, X (ix4 0 s h k) * Ideal.rsqrt (refV X (ix4 0 s h 0)) * Y (ix4 0 s h k) := by
  pointwise [refDG, refR, sum_unit4_01]

variable (x : (⟨3, ![1, 16384, 2816]⟩ : Shape).Idx → ℝ) (g : (⟨1, ![64]⟩ : Shape).Idx → ℝ) (d : (⟨4, ![1, 16384, 8, 64]⟩ : Shape).Idx → ℝ)

/-- The reference's gradient of the heads on real arrays. -/
theorem refDX_eq : refDX (refX fun i => (x i : EReal)) (refDN (refY (refS fun i => (d i : EReal))) fun i => (g i : EReal)) = dxOf x g d := by
  funext i
  obtain ⟨h, k, s, rfl⟩ : ∃ (h : Fin 8) (k : Fin 64) (s : Fin 16384), i = ix3 h k s := ⟨i 0, i 1, i 2, eq_ix3 i⟩
  have hX : ∀ k, refX (fun i => (x i : EReal)) (ix4 0 s h k) = (xAt x s h k : EReal) := fun k => refX_at _ _ _ _
  have hD : ∀ k, refDN (refY (refS fun i => (d i : EReal))) (fun i => (g i : EReal)) (ix4 0 s h k) = ((unturn s.val (dAt d s h) k * g (ix1 k) : ℝ) : EReal) := fun k => by
    rw [refDN_at, refY_at _ s h (dAt d s h) (refS_at d s h), EReal.coe_mul]
  rw [refDX_at, refCB_at, refC_at]
  simp only [hX, hD, word_64, word_neg_half]
  refine dx_ref (xAt x s h) (fun k => unturn s.val (dAt d s h) k * g (ix1 k)) k _ ?_
  rw [refV_at]
  simp only [hX, word_64, word_eps]

/-- The reference's gradient of the gain on real arrays. -/
theorem refDG_eq : refDG (refX fun i => (x i : EReal)) (refY (refS fun i => (d i : EReal))) = dgOf x d := by
  funext i
  obtain ⟨h, k, rfl⟩ : ∃ (h : Fin 8) (k : Fin 64), i = ix3 h k 0 := ⟨i 0, i 1, by idx_ext⟩
  rw [refDG_at]
  refine Finset.sum_congr rfl fun s _ => ?_
  have hX : ∀ k, refX (fun i => (x i : EReal)) (ix4 0 s h k) = (xAt x s h k : EReal) := fun k => refX_at _ _ _ _
  rw [refY_at _ s h (dAt d s h) (refS_at d s h), refV_at]
  simp only [hX, word_64, word_eps]
  rw [rms_eq (by norm_num)]
  show _ = (prepDg s.val (xAt x s h) (dAt d s h) k : EReal)
  unfold prepDg
  rw [← EReal.coe_mul, ← EReal.coe_mul, mul_comm]
end Reference

/-! ## The claim -/

theorem real_args (a0 : FVec Ideal Cert.Pre_finite_q_prep_bwd.S1x16384x2816 .f32) (a1 : FVec Ideal Cert.Pre_finite_q_prep_bwd.S64 .f32)
    (a2 : FVec Ideal Cert.Pre_finite_q_prep_bwd.S1x16384x8x64 .f32) (h : Cert.Pre_finite_q_prep_bwd.fn (F := Ideal) a0 a1 a2 = fun _ => 1#1) :
    a0 = (fun i => ((a0 i).toReal : EReal)) ∧ a1 = (fun i => ((a1 i).toReal : EReal)) ∧ a2 = (fun i => ((a2 i).toReal : EReal)) := by
  have h := congrFun h ix0
  unfold Cert.Pre_finite_q_prep_bwd.fn at h
  simp only [andi_apply, and_true_iff] at h
  obtain ⟨⟨h0, h1⟩, h2⟩ := h
  exact ⟨real_of_all a0 _ (fun _ => word_inf) _ _ _ (by decide) _ h0, real_of_all a1 _ (fun _ => word_inf) _ _ _ (by decide) _ h1,
    real_of_all a2 _ (fun _ => word_inf) _ _ _ (by decide) _ h2⟩

/-- Both results: the reference's terms over the kernel's arguments are the kernel's arrays. -/
theorem both_eq (m : (ℓ : Loc Cert.QPrepBwdIdeal.nD Cert.QPrepBwdIdeal.τ Cert.QPrepBwdIdeal.sig) → Buf (Elt Ideal) ℓ) (hpre : Cert.Pre_QPrepBwdIdeal_finite_q_prep_bwd m)
    (c : Dev Cert.QPrepBwdIdeal.nD) (a0 : FVec Ideal Cert.QPrepBwdRefIdeal.S1x16384x2816 .f32) (a1 : FVec Ideal Cert.QPrepBwdRefIdeal.S64 .f32) (a2 : FVec Ideal Cert.QPrepBwdRefIdeal.S1x16384x8x64 .f32)
    (h0 : m ((c.tc : Thread Cert.QPrepBwdIdeal.nD Cert.QPrepBwdIdeal.τ).loc Cert.QPrepBwdIdeal.main_arg0) = a0)
    (h1 : m ((c.tc : Thread Cert.QPrepBwdIdeal.nD Cert.QPrepBwdIdeal.τ).loc Cert.QPrepBwdIdeal.main_arg1) = a1)
    (h2 : m ((c.tc : Thread Cert.QPrepBwdIdeal.nD Cert.QPrepBwdIdeal.τ).loc Cert.QPrepBwdIdeal.main_arg2) = a2) :
    refDX (refX a0) (refDN (refY (refS a2)) a1) = (Cert.QPrepBwdIdeal.Gen.dats m 0 c).arrAt 5 Cert.QPrepBwdIdeal.cfg0.N
      ∧ refDG (refX a0) (refY (refS a2)) = (Cert.QPrepBwdIdeal.Gen.dats m 0 c).arrAt 6 Cert.QPrepBwdIdeal.cfg0.N := by
  obtain ⟨r0, r1, r2⟩ := real_args _ _ _ (hpre c)
  have e0 := h0.symm.trans r0
  have e1 := h1.symm.trans r1
  have e2 := h2.symm.trans r2
  refine ⟨?_, ?_⟩
  · rw [final5 m c _ _ _ r0 r1 r2, ← refDX_eq, e0, e1, e2]
  · rw [final6 m c _ _ r0 r2, ← refDG_eq, e0, e2]

set_option maxHeartbeats 4000000 in
/-- The kernel's two results are the vector-Jacobian product's. -/
theorem algebraic : Cert.algebraic_QPrepBwdIdeal_QPrepBwdRefIdeal_pre_finite_q_prep_bwd := by
  pair_intro
  · run_from Cert.QPrepBwdIdeal.Value.run_blocks m g
  · run_from Cert.QPrepBwdRefIdeal.Value.run m' g'
    · obtain ⟨h0, h1, h2⟩ := hagree c
      exact Eq.trans rfl (both_eq m hpre c _ _ _ h0.symm h1.symm h2.symm).1
    · obtain ⟨h0, h1, h2⟩ := hagree c
      exact Eq.trans rfl (both_eq m hpre c _ _ _ h0.symm h1.symm h2.symm).2

/-- The reference's frame: it is host operations alone, none of which writes an argument, and it declares no semaphore. -/
theorem frame_ref : Cert.quiescent_QPrepBwdRefIdeal := fun m ρ _ =>
  (θ_run Cert.QPrepBwdRefIdeal.defs _ _).mono
    (fun r h => ⟨fun c => (h c).2.2, sem_eq_zero_of_no_sems (by decide) r.2⟩)
    (Cert.QPrepBwdRefIdeal.Value.run (F := Ideal) m ρ)

end Cert.QPrepBwdClaims

end
-- ==== Proof.KPrepBwd.lean ====
/- The keys' preparation, backward: the rotary position, the gain and the norm undone on each key head. -/
module

public import proofs.«01_k».proof.Defs
public import proofs.«01_k».proof.Proof.PrepTurn
public import proofs.«01_k».proof.Proof.Gen.KPrepBwdIdeal.Value
public import proofs.«01_k».proof.Proof.Gen.KPrepBwdRefIdeal.Run
public import proofs.«01_k».proof.Proof.Gen.Pre_finite_k_prep_bwd
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.KPrepBwdClaims

open Cert.Prep Cert.Reals

section Kernel
open Cert.KPrepBwdIdeal Cert.KPrepBwdIdeal.Gen

theorem pay7_at (d : FVec Ideal S1x64x2048 .f32) (C S : FVec Ideal S64x2048 .f32) (j : Fin 64) (a : Fin 2048) :
    k0_pay7 (F := Ideal) d C S (ix2 j a) = d (ix3 0 j a) * C (ix2 j a)
      + d (ix3 0 (part j) a) * S (ix2 (part j) a) := by
  pointwise [k0_pay7]
  exact congrArg (_ + ·) (part_cases (fun k => d (ix3 0 k a) * S (ix2 k a)) j)
theorem pay5_at (x : FVec Ideal S1x64x2048 .f32) (a : Fin 2048) :
    k0_pay5 (F := Ideal) x (ix2 0 a) = Ideal.rsqrt (Ideal.div (∑ k, x (ix3 0 k a) * x (ix3 0 k a)) (Ideal.ofBits .f32 0x42800000#32) + Ideal.ofBits .f32 0x358637BD#32) := by
  pointwise [k0_pay5, k0_pay4]
theorem pay6_at (x : FVec Ideal S1x64x2048 .f32) (j : Fin 64) (a : Fin 2048) :
    k0_pay6 (F := Ideal) x (ix2 j a) = x (ix3 0 j a) * k0_pay5 (F := Ideal) x (ix2 0 a) := by
  pointwise [k0_pay6, k0_pay4]
theorem pay8_at (x d : FVec Ideal S1x64x2048 .f32) (C S : FVec Ideal S64x2048 .f32) (g : FVec Ideal S64x1 .f32) (j : Fin 64) (a : Fin 2048) :
    k0_pay8 (F := Ideal) x d C S g (ix2 j a) = k0_pay7 (F := Ideal) d C S (ix2 j a) * g (ix2 j 0)
      - k0_pay6 (F := Ideal) x (ix2 j a) * Ideal.div (∑ k, k0_pay7 (F := Ideal) d C S (ix2 k a) * g (ix2 k 0) * k0_pay6 (F := Ideal) x (ix2 k a)) (Ideal.ofBits .f32 0x42800000#32) := by
  pointwise [k0_pay8]
theorem pay1_at (r : FVec Ideal S1x2048 .f32) (v : FVec Ideal S64x2048 .f32) (j : Fin 64) (a : Fin 2048) :
    k0_pay1 (F := Ideal) r v (ix3 0 j a) = r (ix2 0 a) * v (ix2 j a) := by
  pointwise [k0_pay1]
theorem pay3_at (n y : FVec Ideal S64x2048 .f32) (v : FVec Ideal S1x64x1 .f32) (j : Fin 64) :
    k0_pay3 (F := Ideal) n y v (ix3 0 j 0) = v (ix3 0 j 0) + ∑ a, y (ix2 j a) * n (ix2 j a) := by
  pointwise [k0_pay3]
theorem pay2_at (h : Fin 2) (j : Fin 64) : k0_pay2 (F := Ideal) (ix3 h j 0) = (0 : EReal) := by pointwise [k0_pay2]

theorem idx : ∀ t : Fin cfg0.N, win0_0.index t = ![t.val % 2 + 8, 0, t.val / 2] ∧ win0_1.index t = ![t.val % 2, 0, t.val / 2] ∧ win0_2.index t = ![0, 0]
    ∧ win0_3.index t = ![0, t.val / 2] ∧ win0_4.index t = ![0, t.val / 2] ∧ win0_5.index t = ![t.val % 2, 0, t.val / 2] ∧ win0_6.index t = ![0, 0, 0] ∧ t.val < 16 :=
  (by decide +kernel : ∀ t : Fin grid0.N, _)

def hAng (p : IVec S16384 32) : FVec Ideal S16384x16 .f32 :=
  mulf (broadcastInDim S16384x16 ![0, 1] bcast_S16384x1_S16384x16_0_1 (broadcastInDim S16384x1 ![0] bcast_S16384_S16384x1_0 (sitofp .f32 p)))
    (broadcastInDim S16384x16 ![0, 1] bcast_S1x16_S16384x16_0_1 (broadcastInDim S1x16 ![1] bcast_S16_S1x16_1
      (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))
def hDivI : IVec S_ 32 := select (cmpi .eq (constantI S_ 32 64#32) (constantI S_ 32 0#32)) (constantI S_ 32 1#32) (constantI S_ 32 64#32)
def hRowI : IVec S16384 32 :=
  select (andi (cmpi .ne (signi (iotaInDim S16384 32 0)) (broadcastInDim S16384 ![] bcast_S_S16384 (signi (constantI S_ 32 64#32))))
      (cmpi .ne (Host.remsi (iotaInDim S16384 32 0) (broadcastInDim S16384 ![] bcast_S_S16384 (constantI S_ 32 64#32))) (broadcastInDim S16384 ![] bcast_S_S16384 (constantI S_ 32 0#32))))
    (subi (Host.divsi (iotaInDim S16384 32 0) (broadcastInDim S16384 ![] bcast_S_S16384 (constantI S_ 32 64#32))) (broadcastInDim S16384 ![] bcast_S_S16384 (constantI S_ 32 1#32)))
    (Host.divsi (iotaInDim S16384 32 0) (broadcastInDim S16384 ![] bcast_S_S16384 (constantI S_ 32 64#32)))
def hRemI : IVec S16384 32 := Host.remsi (iotaInDim S16384 32 0) (broadcastInDim S16384 ![] bcast_S_S16384 hDivI)
def hColI : IVec S16384 32 :=
  select (andi (cmpi .ne (cmpi .slt hRemI (broadcastInDim S16384 ![] bcast_S_S16384 (constantI S_ 32 0#32)))
        (broadcastInDim S16384 ![] bcast_S_S16384 (cmpi .slt hDivI (constantI S_ 32 0#32))))
      (cmpi .ne hRemI (broadcastInDim S16384 ![] bcast_S_S16384 (constantI S_ 32 0#32))))
    (addi hRemI (broadcastInDim S16384 ![] bcast_S_S16384 hDivI)) hRemI
def hCos : FVec Ideal S64x16384 .f32 :=
  transpose S64x16384 [1, 0] (concatenate S16384x64 1 [⟨S16384x16, Host.cos (hAng hRowI)⟩, ⟨S16384x16, Host.cos (hAng hRowI)⟩, ⟨S16384x16, Host.cos (hAng hColI)⟩, ⟨S16384x16, Host.cos (hAng hColI)⟩] concatenates_S16384x16_S16384x16_S16384x16_S16384x16_S16384x64_d1) transposes_S16384x64_S64x16384_1_0
def hSin : FVec Ideal S64x16384 .f32 :=
  transpose S64x16384 [1, 0] (concatenate S16384x64 1 [⟨S16384x16, Host.negf (Host.sin (hAng hRowI))⟩, ⟨S16384x16, Host.sin (hAng hRowI)⟩, ⟨S16384x16, Host.negf (Host.sin (hAng hColI))⟩, ⟨S16384x16, Host.sin (hAng hColI)⟩] concatenates_S16384x16_S16384x16_S16384x16_S16384x16_S16384x64_d1) transposes_S16384x64_S64x16384_1_0

theorem hRowI_at (s : Fin 16384) : hRowI (ix1 s) = BitVec.ofNat 32 (s.val / 64) := Eq.trans rfl (rowWord_eq s.isLt)
theorem hColI_at (s : Fin 16384) : hColI (ix1 s) = BitVec.ofNat 32 (s.val % 64) := Eq.trans rfl (colWord_eq s.isLt)
theorem hAng_at (p : IVec S16384 32) (s : Fin 16384) (f : Fin 16) {n : ℕ} (hn : n < 16384) (h : p (ix1 s) = BitVec.ofNat 32 n) :
    hAng p (ix2 s f) = ((n * freq f.val : ℝ) : EReal) := by
  pointwise [hAng]
  rw [h, EReal.coe_mul, ← toInt_small hn, ← freq_host (f := f.val) (by omega)]
  rfl
theorem hCos_at (j : Fin 64) (s : Fin 16384) : hCos (ix2 j s) = ((Real.cos (ang j s.val) : ℝ) : EReal) := by
  have hr := fun f : Fin 16 => hAng_at hRowI s f (by omega) (hRowI_at s)
  have hc := fun f : Fin 16 => hAng_at hColI s f (by omega) (hColI_at s)
  pointwise [hCos]
  exact ang_cases Real.cos _ _ Ideal.cos (fun a => Ideal.cos_coe a) j s.val hr hc
theorem hSin_at (j : Fin 64) (s : Fin 16384) : hSin (ix2 j s) = ((sgn j * Real.sin (ang j s.val) : ℝ) : EReal) := by
  have hr := fun f : Fin 16 => hAng_at hRowI s f (by omega) (hRowI_at s)
  have hc := fun f : Fin 16 => hAng_at hColI s f (by omega) (hColI_at s)
  pointwise [hSin]
  exact sgn_cases Real.sin _ _ Ideal.sin (fun a => Ideal.sin_coe a) j s.val hr hc
variable (m : (ℓ : Loc nD τ sig) → Buf (Elt Ideal) ℓ) (c : Dev nD)
def hX (x : FVec Ideal S1x16384x2816 .f32) : FVec Ideal S12x64x16384 .f32 :=
  shapeCast _ (transpose S768x16384 [1, 0] (extractStridedSlice S16384x768 ![0, 0] (shapeCast _ x shapeCasts_S1x16384x2816_S16384x2816) slices_S16384x2816_S16384x768_0_0) transposes_S16384x768_S768x16384_1_0) shapeCasts_S768x16384_S12x64x16384
def hD (d : FVec Ideal S1x16384x2x64 .f32) : FVec Ideal S2x64x16384 .f32 :=
  transpose S2x64x16384 [1, 2, 0] (shapeCast _ d shapeCasts_S1x16384x2x64_S16384x2x64) transposes_S16384x2x64_S2x64x16384_1_2_0
theorem hX_at (x : FVec Ideal S1x16384x2816 .f32) (u : Fin 12) (k : Fin 64) (s : Fin 16384) : hX x (ix3 u k s) = x (ix3 0 s ⟨u.val * 64 + k.val, by omega⟩) := by
  pointwise [hX]
theorem hD_at (d : FVec Ideal S1x16384x2x64 .f32) (h : Fin 2) (k : Fin 64) (s : Fin 16384) : hD d (ix3 h k s) = d (ix4 0 s h k) := by
  pointwise [hD]
theorem V33 : V m c main_v33 = hCos := by
  unfold V; simp only [hostOps0, hostOps0_1, hostOps0_2, hostOps0_3, hostOps0_4, List.flatten_cons, List.flatten_nil, List.append_nil, List.cons_append, List.nil_append]
  after_results
  rfl
theorem V34 : V m c main_v34 = hSin := by
  unfold V; simp only [hostOps0, hostOps0_1, hostOps0_2, hostOps0_3, hostOps0_4, List.flatten_cons, List.flatten_nil, List.append_nil, List.cons_append, List.nil_append]
  after_results
  rfl
theorem V38 : V m c main_v38 = hX (m ((c.tc : Thread nD τ).loc main_arg0)) := by
  unfold V; simp only [hostOps0, hostOps0_1, hostOps0_2, hostOps0_3, hostOps0_4, List.flatten_cons, List.flatten_nil, List.append_nil, List.cons_append, List.nil_append]
  after_results
  rfl
theorem V40 : V m c main_v40 = hD (m ((c.tc : Thread nD τ).loc main_arg2)) := by
  unfold V; simp only [hostOps0, hostOps0_1, hostOps0_2, hostOps0_3, hostOps0_4, List.flatten_cons, List.flatten_nil, List.append_nil, List.cons_append, List.nil_append]
  after_results
  rfl

theorem V41 : V m c main_v41 = shapeCast _ (m ((c.tc : Thread nD τ).loc main_arg1)) shapeCasts_S64_S64x1 := by
  unfold V; simp only [hostOps0, hostOps0_1, hostOps0_2, hostOps0_3, hostOps0_4, List.flatten_cons, List.flatten_nil, List.append_nil, List.cons_append, List.nil_append]
  after_results
  rfl

/-- The token of a tile's lane. -/
abbrev rowOf (t : Fin cfg0.N) (a : Fin 2048) : Fin 16384 := ⟨t.val / 2 * 2048 + a.val, by have := (idx t).2.2.2.2.2.2.2; omega⟩
/-- The head of a grid point. -/
abbrev headOf (t : Fin cfg0.N) : Fin 2 := ⟨t.val % 2, by omega⟩
/-- The column of the projection a key head's feature is. -/
abbrev colOf (h : Fin 2) (k : Fin 64) : Fin 2816 := ⟨(h.val + 8) * 64 + k.val, by omega⟩

theorem blk0 (t : Fin cfg0.N) (k : Fin 64) (a : Fin 2048) :
    (show EReal from iblk m c 0 t (ix3 0 k a)) = m ((c.tc : Thread nD τ).loc main_arg0) (ix3 0 (rowOf t a) (colOf (headOf t) k)) := by
  unfold iblk
  show (V m c main_v38) (((cfg0.win 0).blk t).view.emb (ix3 0 k a)) = _
  have e : ((cfg0.win 0).blk t).view.emb (ix3 0 k a) = ix3 ⟨t.val % 2 + 8, by omega⟩ k (rowOf t a) := by blk_ext [idx t]
  rw [V38, e]
  exact hX_at _ _ _ _
theorem blk1 (t : Fin cfg0.N) (k : Fin 64) (a : Fin 2048) :
    (show EReal from iblk m c 1 t (ix3 0 k a)) = m ((c.tc : Thread nD τ).loc main_arg2) (ix4 0 (rowOf t a) (headOf t) k) := by
  unfold iblk
  show (V m c main_v40) (((cfg0.win 1).blk t).view.emb (ix3 0 k a)) = _
  have e : ((cfg0.win 1).blk t).view.emb (ix3 0 k a) = ix3 (headOf t) k (rowOf t a) := by blk_ext [idx t]
  rw [V40, e]
  exact hD_at _ _ _ _
theorem blk2 (t : Fin cfg0.N) (k : Fin 64) :
    (show EReal from iblk m c 2 t (ix2 k 0)) = m ((c.tc : Thread nD τ).loc main_arg1) (ix1 k) := by
  unfold iblk
  show (V m c main_v41) (((cfg0.win 2).blk t).view.emb (ix2 k 0)) = _
  have e : ((cfg0.win 2).blk t).view.emb (ix2 k 0) = ix2 k 0 := by blk_ext [idx t]
  rw [V41, e]
  pointwise []
theorem blk3 (t : Fin cfg0.N) (k : Fin 64) (a : Fin 2048) :
    (show EReal from iblk m c 3 t (ix2 k a)) = ((Real.cos (ang k (rowOf t a).val) : ℝ) : EReal) := by
  unfold iblk
  show (V m c main_v33) (((cfg0.win 3).blk t).view.emb (ix2 k a)) = _
  have e : ((cfg0.win 3).blk t).view.emb (ix2 k a) = ix2 k (rowOf t a) := by blk_ext [idx t]
  rw [V33, e]
  exact hCos_at _ _
theorem blk4 (t : Fin cfg0.N) (k : Fin 64) (a : Fin 2048) :
    (show EReal from iblk m c 4 t (ix2 k a)) = ((sgn k * Real.sin (ang k (rowOf t a).val) : ℝ) : EReal) := by
  unfold iblk
  show (V m c main_v34) (((cfg0.win 4).blk t).view.emb (ix2 k a)) = _
  have e : ((cfg0.win 4).blk t).view.emb (ix2 k a) = ix2 k (rowOf t a) := by blk_ext [idx t]
  rw [V34, e]
  exact hSin_at _ _

variable (x : (⟨3, ![1, 16384, 2816]⟩ : Shape).Idx → ℝ) (g : (⟨1, ![64]⟩ : Shape).Idx → ℝ) (d : (⟨4, ![1, 16384, 2, 64]⟩ : Shape).Idx → ℝ)
  (hx : m ((c.tc : Thread nD τ).loc main_arg0) = fun i => (x i : EReal))
  (hg : m ((c.tc : Thread nD τ).loc main_arg1) = fun i => (g i : EReal))
  (hd : m ((c.tc : Thread nD τ).loc main_arg2) = fun i => (d i : EReal))

/-- A key head's features at a token. -/
abbrev xAt (s : Fin 16384) (h : Fin 2) (k : Fin 64) : ℝ := x (ix3 0 s (colOf h k))
/-- A key head's cotangent at a token. -/
abbrev dAt (s : Fin 16384) (h : Fin 2) (k : Fin 64) : ℝ := d (ix4 0 s h k)

/-- The heads' gradient over reals. -/
def dxOf : FVec Ideal S2x64x16384 .f32 := fun i => (prepDx (i 2 : Fin 16384).val (xAt x (i 2) (i 0)) (fun k => g (ix1 k)) (dAt d (i 2) (i 0)) (i 1) : EReal)
/-- The gain's gradient for each head over reals. -/
def dgOf : FVec Ideal S2x64x1 .f32 := fun i => ∑ s : Fin 16384, (prepDg s.val (xAt x s (i 0)) (dAt d s (i 0)) (i 1) : EReal)

include hx in
theorem r_at (t : Fin cfg0.N) (a : Fin 2048) : k0_pay5 (F := Ideal) (iblk m c 0 t) (ix2 0 a) = (rms 64 (xAt x (rowOf t a) (headOf t)) : EReal) := by
  rw [pay5_at, word_64, word_eps, ← rms_eq (by norm_num)]
  exact congrArg (fun z : EReal => Ideal.rsqrt (Ideal.div z _ + _)) (Finset.sum_congr rfl fun k _ =>
    Ideal.mul_congr ((blk0 m c t k a).trans (congrFun hx _)) ((blk0 m c t k a).trans (congrFun hx _)))

include hx in
theorem n_at (t : Fin cfg0.N) (k : Fin 64) (a : Fin 2048) : k0_pay6 (F := Ideal) (iblk m c 0 t) (ix2 k a)
    = (xAt x (rowOf t a) (headOf t) k : EReal) * (rms 64 (xAt x (rowOf t a) (headOf t)) : EReal) := by
  rw [pay6_at, r_at m c x hx]
  exact Ideal.mul_congr ((blk0 m c t k a).trans (congrFun hx _)) rfl

include hd in
theorem y_at (t : Fin cfg0.N) (k : Fin 64) (a : Fin 2048) : k0_pay7 (F := Ideal) (iblk m c 1 t) (iblk m c 3 t) (iblk m c 4 t) (ix2 k a)
    = (unturn (rowOf t a).val (dAt d (rowOf t a) (headOf t)) k : EReal) := by
  rw [pay7_at, ← unturn_kernel, EReal.coe_add, EReal.coe_mul, EReal.coe_mul]
  exact congrArg₂ (· + ·) (Ideal.mul_congr ((blk1 m c t k a).trans (congrFun hd _)) (blk3 m c t k a))
    (Ideal.mul_congr ((blk1 m c t (part k) a).trans (congrFun hd _)) (blk4 m c t (part k) a))

include hx hg hd in
theorem point5 (t : Fin cfg0.N) (j : Fin 64) (a : Fin 2048) :
    k0_pay1 (F := Ideal) (k0_pay5 (iblk m c 0 t)) (k0_pay8 (iblk m c 0 t) (iblk m c 1 t) (iblk m c 3 t) (iblk m c 4 t) (iblk m c 2 t)) (ix3 0 j a)
      = dxOf x g d (ix3 (headOf t) j (rowOf t a)) := by
  have hg' : ∀ k : Fin 64, (show EReal from iblk m c 2 t (ix2 k 0)) = (g (ix1 k) : EReal) := fun k => (blk2 m c t k).trans (congrFun hg _)
  rw [pay1_at, pay8_at]
  refine Eq.trans ?_ (dx_kernel (xAt x (rowOf t a) (headOf t)) (fun k => g (ix1 k)) (unturn (rowOf t a).val (dAt d (rowOf t a) (headOf t))) j _ rfl)
  refine Ideal.mul_congr (r_at m c x hx t a) (congrArg₂ (fun u v : EReal => u - v) (Ideal.mul_congr (y_at m c d hd t j a) (hg' j))
    (Ideal.mul_congr (n_at m c x hx t j a) (congrArg₂ Ideal.div (Finset.sum_congr rfl fun k _ => Ideal.mul_congr (Ideal.mul_congr (y_at m c d hd t k a) (hg' k)) (n_at m c x hx t k a)) word_64)))

include hx hg hd in
/-- The kernel's gradient of the heads. -/
theorem final5 : (dats m 0 c).arrAt 5 cfg0.N = dxOf x g d := by
  refine (dats m 0 c).arrAt_eq_of_covers 5 _ (by decide +kernel) fun t hf y => ?_
  obtain ⟨j, a, rfl⟩ : ∃ (j : Fin 64) (a : Fin 2048), y = ix3 0 j a := ⟨y 1, y 2, by idx_ext⟩
  have e : ((cfg0.win 5).blk t).view.emb (ix3 0 j a) = ix3 (headOf t) j (rowOf t a) := by blk_ext [idx t]
  rw [e]
  blk_simp
  rw [after0_5]
  by_cases h : t.val % 16 = 0
  · rw [outsAt0_A m c t h]
    frame_out
    exact point5 m c x g d hx hg hd t j a
  · rw [outsAt0_B m c t h]
    frame_out
    exact point5 m c x g d hx hg hd t j a

theorem off1 : ∀ t : Fin cfg0.N, k0_off1 (grid0.coords t) = ![(headOf t).val, 0, 0] := (by decide +kernel : ∀ t : Fin grid0.N, k0_off1 (grid0.coords t) = ![t.val % 2, 0, 0])

/-- One token's part of the gain's gradient. -/
def dgRow (b : Fin 2) (j : Fin 64) (s : Fin 16384) : EReal := (prepDg s.val (xAt x s b) (dAt d s b) j : EReal)

include hx hd in
/-- What a grid point adds to its head's entry. -/
theorem part6 (t : Fin cfg0.N) (v : FVec Ideal S1x64x1 .f32) (b : Fin 2) (hb : (headOf t).val = b.val) (j : Fin 64) :
    k0_pay3 (F := Ideal) (k0_pay6 (iblk m c 0 t)) (k0_pay7 (iblk m c 1 t) (iblk m c 3 t) (iblk m c 4 t)) v (ix3 0 j 0)
      = v (ix3 0 j 0) + ∑ a : Fin 2048, dgRow x d b j (rowOf t a) := by
  obtain rfl : headOf t = b := Fin.ext hb
  refine (pay3_at _ _ _ _).trans (congrArg (v (ix3 0 j 0) + ·) (Finset.sum_congr rfl fun a _ => ?_))
  rw [y_at m c d hd, n_at m c x hx]
  unfold dgRow prepDg
  rw [← EReal.coe_mul, ← EReal.coe_mul]

include hx hd in
/-- The kernel's gradient of the gain. -/
theorem final6 : (dats m 0 c).arrAt 6 cfg0.N = dgOf x d := by
  refine (dats m 0 c).arrAt_eq_of_covers 6 _ (by decide +kernel) fun t hf y => ?_
  obtain ⟨b, j, rfl⟩ : ∃ (b : Fin 2) (j : Fin 64), y = ix3 b j 0 := ⟨y 0, y 1, by idx_ext⟩
  have e : ((cfg0.win 6).blk t).view.emb (ix3 b j 0) = ix3 b j 0 := by blk_ext [idx t]
  rw [e]
  blk_simp
  rw [after0_6, Pipeline.eq_sum_fin_of_reset_step_apply_of_flush (fun n h => (outsAt0 m c n h).2) 16 (fun _ => (0 : EReal))
    (fun t j => if t.val % 2 = (j 0).val then ∑ a : Fin 2048, dgRow x d (j 0) (j 1) (rowOf t a) else 0)
    (fun t h j => by
      obtain ⟨b, j, rfl⟩ : ∃ (b : Fin 2) (k : Fin 64), j = ix3 b k 0 := ⟨j 0, j 1, by idx_ext⟩
      rw [outsAt0_A m c t h]; frame_out
      refine (canon_head (headOf t) (off1 t) _ _ _ b j).trans ?_
      by_cases hb : (headOf t).val = b.val
      · rw [if_pos hb]
        refine (part6 m c x d hx hd t _ b hb j).trans (congrArg₂ (· + ·) ((ld_head (headOf t) (off1 t) _ _ j).trans (pay2_at _ j)) (if_pos hb).symm)
      · rw [if_neg hb]
        refine Eq.trans ?_ (congrArg₂ (· + ·) rfl (if_neg hb).symm)
        rw [View.canon_cons_unit_lit, add_zero]
        · exact pay2_at b j
        · intro a; fin_cases a <;> rfl)
    (fun t h j => by
      obtain ⟨b, j, rfl⟩ : ∃ (b : Fin 2) (k : Fin 64), j = ix3 b k 0 := ⟨j 0, j 1, by idx_ext⟩
      rw [outsAt0_B m c t h]; frame_out
      refine (read_head (headOf t) (off1 t) _ _ _ _ _ b j).trans ?_
      by_cases hb : (headOf t).val = b.val
      · rw [if_pos hb]
        refine (part6 m c x d hx hd t _ b hb j).trans (congrArg₂ (· + ·) ((ld_head (headOf t) (off1 t) _ _ j).trans ?_) (if_pos hb).symm)
        exact congrArg (fun u => (outsAt0 m c (t.val - 1) _).2 (ix3 u j 0)) (Fin.ext hb)
      · rw [if_neg hb]
        refine Eq.trans ?_ (congrArg₂ (· + ·) rfl (if_neg hb).symm)
        rw [add_zero]
        exact congrFun ((hs0_6 t).read_unread _) _)
    t ((flush0_6 t).mp hf) (ix3 b j 0), zero_add]
  have ht := (idx t).2.2.2.2.2.2.2
  refine Eq.trans (Fin.sum_fin_congr fun s => ?_) (sum_head (H := 2) (N := 16) rfl (dgRow x d b j) b
    (fun s a => ⟨s.val / 2 * 2048 + a.val, by omega⟩) (fun _ _ => rfl))
  have hs : 16 * (t.val / 16) + s.val = s.val := by omega
  show (if (16 * (t.val / 16) + s.val) % 2 = b.val then _ else (0 : EReal)) = _
  simp only [hs]
  rfl
end Kernel

section Reference
open Cert.KPrepBwdRefIdeal Cert.KPrepBwdRefIdeal.Gen

/-! ## The reference, part by part -/

/-- The tokens' rows and columns as the reference lays them. -/
def refRowF : FVec Ideal S16384 .f32 := sitofp .f32 (shapeCast S16384 (broadcastInDim S256x64 ![0] bcast_S256_S256x64_0 (iotaInDim S256 32 0)) shapeCasts_S256x64_S16384)
def refColF : FVec Ideal S16384 .f32 := sitofp .f32 (shapeCast S16384 (broadcastInDim S256x64 ![0, 1] bcast_S1x64_S256x64_0_1 (shapeCast S1x64 (iotaInDim S64 32 0) shapeCasts_S64_S1x64)) shapeCasts_S256x64_S16384)
/-- The angles of a position's tokens. -/
def refAng (p : FVec Ideal S16384 .f32) : FVec Ideal S16384x16 .f32 :=
  mulf (broadcastInDim S16384x16 ![0, 1] bcast_S16384x1_S16384x16_0_1 (broadcastInDim S16384x1 ![0] bcast_S16384_S16384x1_0 p))
    (broadcastInDim S16384x16 ![0, 1] bcast_S1x16_S16384x16_0_1 (broadcastInDim S1x16 ![1] bcast_S16_S1x16_1
      (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))
/-- A table over every head. -/
def refTab (T : FVec Ideal S16384x16 .f32) : FVec Ideal S1x16384x2x16 .f32 :=
  broadcastInDim S1x16384x2x16 ![0, 1, 2, 3] bcast_S1x16384x1x16_S1x16384x2x16_0_1_2_3 (broadcastInDim S1x16384x1x16 ![1, 2, 3] bcast_S16384x1x16_S1x16384x1x16_1_2_3 (broadcastInDim S16384x1x16 ![0, 2] bcast_S16384x16_S16384x1x16_0_2 T))
/-- The turn's transpose on one half of a head. -/
def refHalf (A : FVec Ideal S16384x16 .f32) (d : FVec Ideal S1x16384x2x32 .f32) : FVec Ideal S1x16384x2x32 .f32 :=
  addf (pad S1x16384x2x32 ![0, 0, 0, 16] ![0, 0, 0, 0] ![0, 0, 0, 0]
      (addf (mulf (extractStridedSlice S1x16384x2x16 ![0, 0, 0, 16] d slices_S1x16384x2x32_S1x16384x2x16_0_0_0_16) (refTab (Host.cos A)))
        (mulf (Host.negf (extractStridedSlice S1x16384x2x16 ![0, 0, 0, 0] d slices_S1x16384x2x32_S1x16384x2x16_0_0_0_0)) (refTab (Host.sin A))))
      (constant S_ .f32 0x00000000#32) pads_S1x16384x2x16_S1x16384x2x32_000_000_000_1600 h_S_)
    (pad S1x16384x2x32 ![0, 0, 0, 0] ![0, 0, 0, 16] ![0, 0, 0, 0]
      (addf (mulf (extractStridedSlice S1x16384x2x16 ![0, 0, 0, 16] d slices_S1x16384x2x32_S1x16384x2x16_0_0_0_16) (refTab (Host.sin A)))
        (mulf (extractStridedSlice S1x16384x2x16 ![0, 0, 0, 0] d slices_S1x16384x2x32_S1x16384x2x16_0_0_0_0) (refTab (Host.cos A))))
      (constant S_ .f32 0x00000000#32) pads_S1x16384x2x16_S1x16384x2x32_000_000_000_0160 h_S_)
/-- The turn's transpose: the column's half, then the row's. -/
def refY (d : FVec Ideal S1x16384x2x64 .f32) : FVec Ideal S1x16384x2x64 .f32 :=
  addf (pad S1x16384x2x64 ![0, 0, 0, 32] ![0, 0, 0, 0] ![0, 0, 0, 0] (refHalf (refAng refColF) (extractStridedSlice S1x16384x2x32 ![0, 0, 0, 32] d slices_S1x16384x2x64_S1x16384x2x32_0_0_0_32))
      (constant S_ .f32 0x00000000#32) pads_S1x16384x2x32_S1x16384x2x64_000_000_000_3200 h_S_)
    (pad S1x16384x2x64 ![0, 0, 0, 0] ![0, 0, 0, 32] ![0, 0, 0, 0] (refHalf (refAng refRowF) (extractStridedSlice S1x16384x2x32 ![0, 0, 0, 0] d slices_S1x16384x2x64_S1x16384x2x32_0_0_0_0))
      (constant S_ .f32 0x00000000#32) pads_S1x16384x2x32_S1x16384x2x64_000_000_000_0320 h_S_)
/-- The key heads of the projection. -/
def refX (p : FVec Ideal S1x16384x2816 .f32) : FVec Ideal S1x16384x2x64 .f32 :=
  shapeCast _ (extractStridedSlice S1x16384x128 ![0, 0, 512] p slices_S1x16384x2816_S1x16384x128_0_0_512) shapeCasts_S1x16384x128_S1x16384x2x64
/-- The mean square plus epsilon. -/
def refV (X : FVec Ideal S1x16384x2x64 .f32) : FVec Ideal S1x16384x2x1 .f32 :=
  addf (Host.divf (broadcastInDim S1x16384x2x1 ![0, 1, 2] bcast_S1x16384x2_S1x16384x2x1_0_1_2 (Host.reduceAdd (mulf X X) (constant S_ .f32 0x00000000#32) reducesTo_S1x16384x2x64_S1x16384x2_d3 h_S_)) (broadcastInDim S1x16384x2x1 ![] bcast_S_S1x16384x2x1 (constant S_ .f32 0x42800000#32))) (broadcastInDim S1x16384x2x1 ![] bcast_S_S1x16384x2x1 (constant S_ .f32 0x358637BD#32))
/-- The root's reciprocal over every feature. -/
def refR (X : FVec Ideal S1x16384x2x64 .f32) : FVec Ideal S1x16384x2x64 .f32 :=
  broadcastInDim S1x16384x2x64 ![0, 1, 2, 3] bcast_S1x16384x2x1_S1x16384x2x64_0_1_2_3 (Host.rsqrt (refV X))
/-- The normed head's cotangent: the turned cotangent times the gain. -/
def refDN (Y : FVec Ideal S1x16384x2x64 .f32) (g : FVec Ideal S64 .f32) : FVec Ideal S1x16384x2x64 .f32 :=
  mulf Y (broadcastInDim S1x16384x2x64 ![0, 1, 2, 3] bcast_S1x1x2x64_S1x16384x2x64_0_1_2_3 (broadcastInDim S1x1x2x64 ![2, 3] bcast_S2x64_S1x1x2x64_2_3 (broadcastInDim S2x64 ![1] bcast_S64_S2x64_1 g)))
/-- The mean square's cotangent over the width. -/
def refC (X D : FVec Ideal S1x16384x2x64 .f32) : FVec Ideal S1x16384x2x1 .f32 :=
  Host.divf (mulf (shapeCast _ (Host.reduceAdd (mulf X D) (constant S_ .f32 0x00000000#32) reducesTo_S1x16384x2x64_S1x16384x2_d3 h_S_) shapeCasts_S1x16384x2_S1x16384x2x1) (mulf (broadcastInDim S1x16384x2x1 ![] bcast_S_S1x16384x2x1 (constant S_ .f32 0xBF000000#32)) (Host.divf (Host.rsqrt (refV X)) (refV X)))) (broadcastInDim S1x16384x2x1 ![] bcast_S_S1x16384x2x1 (constant S_ .f32 0x42800000#32))
def refCB (X D : FVec Ideal S1x16384x2x64 .f32) : FVec Ideal S1x16384x2x64 .f32 :=
  broadcastInDim S1x16384x2x64 ![0, 1, 2] bcast_S1x16384x2_S1x16384x2x64_0_1_2 (broadcastInDim S1x16384x2 ![1, 2] bcast_S16384x2_S1x16384x2_1_2 (Host.reduceAdd (refC X D) (constant S_ .f32 0x00000000#32) reducesTo_S1x16384x2x1_S16384x2_d0_3 h_S_))
/-- The reference's gradient of the heads, features before tokens. -/
def refDX (X D : FVec Ideal S1x16384x2x64 .f32) : FVec Ideal S2x64x16384 .f32 :=
  transpose S2x64x16384 [1, 2, 0] (shapeCast _ (shapeCast _ (addf (addf (mulf D (refR X)) (mulf X (refCB X D))) (mulf (refCB X D) X)) shapeCasts_S1x16384x2x64_S1x16384x128) shapeCasts_S1x16384x128_S16384x2x64) transposes_S16384x2x64_S2x64x16384_1_2_0
/-- The reference's gradient of the gain for each head. -/
def refDG (X Y : FVec Ideal S1x16384x2x64 .f32) : FVec Ideal S2x64x1 .f32 :=
  shapeCast _ (Host.reduceAdd (shapeCast _ (Host.reduceAdd (mulf (mulf X (refR X)) Y) (constant S_ .f32 0x00000000#32) reducesTo_S1x16384x2x64_S1x2x64_d1 h_S_) shapeCasts_S1x2x64_S1x1x2x64) (constant S_ .f32 0x00000000#32) reducesTo_S1x1x2x64_S2x64_d0_1 h_S_) shapeCasts_S2x64_S2x64x1

theorem refRowF_at (s : Fin 16384) : refRowF (ix1 s) = (((s.val / 64 : ℕ) : ℝ) : EReal) := by
  rw [← toInt_small (by omega)]
  pointwise [refRowF]
  rfl
theorem refColF_at (s : Fin 16384) : refColF (ix1 s) = (((s.val % 64 : ℕ) : ℝ) : EReal) := by
  rw [← toInt_small (by omega)]
  pointwise [refColF]
  rfl
theorem refAng_at (p : FVec Ideal S16384 .f32) (s : Fin 16384) (f : Fin 16) (n : ℕ) (h : p (ix1 s) = ((n : ℝ) : EReal)) :
    refAng p (ix2 s f) = ((n * freq f.val : ℝ) : EReal) := by
  pointwise [refAng]
  rw [h, EReal.coe_mul, ← freq_host (f := f.val) (by omega)]
  rfl
theorem refTab_at (T : FVec Ideal S16384x16 .f32) (s : Fin 16384) (h : Fin 2) (f : Fin 16) : refTab T (ix4 0 s h f) = T (ix2 s f) := by
  pointwise [refTab]
theorem refHalf_at (A : FVec Ideal S16384x16 .f32) (d : FVec Ideal S1x16384x2x32 .f32) (s : Fin 16384) (h : Fin 2) (f : Fin 32) :
    refHalf A d (ix4 0 s h f) = if h' : f.val < 16
      then d (ix4 0 s h ⟨16 + f.val, by omega⟩) * Ideal.sin (A (ix2 s ⟨f.val, h'⟩)) + d (ix4 0 s h f) * Ideal.cos (A (ix2 s ⟨f.val, h'⟩))
      else d (ix4 0 s h ⟨16 + (f.val - 16), by omega⟩) * Ideal.cos (A (ix2 s ⟨f.val - 16, by omega⟩)) + -d (ix4 0 s h ⟨f.val - 16, by omega⟩) * Ideal.sin (A (ix2 s ⟨f.val - 16, by omega⟩)) := by
  pointwise [refHalf, refTab]
  by_cases h' : f.val < 16
  · rw [dif_neg (fun e => by omega), dif_pos h', dif_pos h', zero_add]
  · rw [dif_pos (by omega), dif_neg h', dif_neg h', add_zero]
theorem low_at (d : FVec Ideal S1x16384x2x64 .f32) (s : Fin 16384) (h : Fin 2) (f : Fin 32) :
    extractStridedSlice S1x16384x2x32 ![0, 0, 0, 0] d slices_S1x16384x2x64_S1x16384x2x32_0_0_0_0 (ix4 0 s h f) = d (ix4 0 s h ⟨f.val, by omega⟩) := by
  pointwise []
theorem high_at (d : FVec Ideal S1x16384x2x64 .f32) (s : Fin 16384) (h : Fin 2) (f : Fin 32) :
    extractStridedSlice S1x16384x2x32 ![0, 0, 0, 32] d slices_S1x16384x2x64_S1x16384x2x32_0_0_0_32 (ix4 0 s h f) = d (ix4 0 s h ⟨32 + f.val, by omega⟩) := by
  pointwise []
/-- The turned cotangent, at each quarter of a head. -/
theorem refY_at (d : FVec Ideal S1x16384x2x64 .f32) (s : Fin 16384) (h : Fin 2) (D : Fin 64 → ℝ) (hd : ∀ k, d (ix4 0 s h k) = (D k : EReal)) (j : Fin 64) :
    refY d (ix4 0 s h j) = (unturn s.val D j : EReal) := by
  have hr := fun f : Fin 16 => refAng_at refRowF s f _ (refRowF_at s)
  have hc := fun f : Fin 16 => refAng_at refColF s f _ (refColF_at s)
  have e : ∀ k l : Fin 64, k = l → d (ix4 0 s h k) = (D l : EReal) := fun k l e => e ▸ hd k
  pointwise [refY]
  by_cases h1 : j.val < 32
  · rw [dif_neg (fun e => by omega), dif_pos h1, zero_add, refHalf_at]
    by_cases h2 : j.val < 16
    · rw [dif_pos h2, low_at, low_at]
      exact turn_low D (k := ⟨16 + j.val, by omega⟩) (by omega) (Nat.add_comm _ _) s.val ((hr _).trans (congrArg _ (ang_row h1 (by show _ = j.val; omega) _).symm)) (hd _) (hd _)
    · rw [dif_neg h2, low_at, low_at]
      exact turn_high D (k := ⟨j.val - 16, by omega⟩) (by omega) rfl s.val ((hr _).trans (congrArg _ (ang_row h1 (by show _ = j.val - 16; omega) _).symm)) (hd _)
        (e _ _ (Fin.ext (by show 16 + (j.val - 16) = j.val; omega)))
  · rw [dif_pos (by omega), dif_neg h1, add_zero, refHalf_at]
    by_cases h2 : j.val - 32 < 16
    · rw [dif_pos h2, high_at, high_at]
      exact turn_low D (k := ⟨32 + (16 + (j.val - 32)), by omega⟩) (by omega) (by show 32 + (16 + (j.val - 32)) = j.val + 16; omega) s.val
        ((hc _).trans (congrArg _ (ang_col h1 (by show _ = j.val - 32; omega) _).symm)) (hd _) (e _ _ (Fin.ext (by show 32 + (j.val - 32) = j.val; omega)))
    · rw [dif_neg h2, high_at, high_at]
      exact turn_high D (k := ⟨32 + (j.val - 32 - 16), by omega⟩) (by omega) (by show 32 + (j.val - 32 - 16) = j.val - 16; omega) s.val
        ((hc _).trans (congrArg _ (ang_col h1 (by show _ = j.val - 32 - 16; omega) _).symm)) (hd _)
        (e _ _ (Fin.ext (by show 32 + (16 + (j.val - 32 - 16)) = j.val; omega)))
theorem refX_at (p : FVec Ideal S1x16384x2816 .f32) (s : Fin 16384) (h : Fin 2) (k : Fin 64) : refX p (ix4 0 s h k) = p (ix3 0 s (colOf h k)) := by
  pointwise [refX]
  exact congrArg (fun u => p (ix3 0 s u)) (Fin.ext (by show 512 + (h.val * 64 + k.val) = (h.val + 8) * 64 + k.val; omega))
theorem refV_at (X : FVec Ideal S1x16384x2x64 .f32) (s : Fin 16384) (h : Fin 2) : refV X (ix4 0 s h 0)
    = Ideal.div (∑ k, X (ix4 0 s h k) * X (ix4 0 s h k)) (Ideal.ofBits FTy.f32 0x42800000#32) + Ideal.ofBits FTy.f32 0x358637BD#32 := by
  pointwise [refV]
theorem refC_at (X D : FVec Ideal S1x16384x2x64 .f32) (s : Fin 16384) (h : Fin 2) : refC X D (ix4 0 s h 0)
    = Ideal.div ((∑ k, X (ix4 0 s h k) * D (ix4 0 s h k)) * (Ideal.ofBits FTy.f32 0xBF000000#32 * Ideal.div (Ideal.rsqrt (refV X (ix4 0 s h 0))) (refV X (ix4 0 s h 0)))) (Ideal.ofBits FTy.f32 0x42800000#32) := by
  pointwise [refC]
theorem refDN_at (Y : FVec Ideal S1x16384x2x64 .f32) (g : FVec Ideal S64 .f32) (s : Fin 16384) (h : Fin 2) (k : Fin 64) :
    refDN Y g (ix4 0 s h k) = Y (ix4 0 s h k) * g (ix1 k) := by
  pointwise [refDN]
theorem refCB_at (X D : FVec Ideal S1x16384x2x64 .f32) (s : Fin 16384) (h : Fin 2) (k : Fin 64) : refCB X D (ix4 0 s h k) = refC X D (ix4 0 s h 0) := by
  pointwise [refCB, sum_unit_03]
theorem refDX_at (X D : FVec Ideal S1x16384x2x64 .f32) (s : Fin 16384) (h : Fin 2) (k : Fin 64) : refDX X D (ix3 h k s)
    = D (ix4 0 s h k) * Ideal.rsqrt (refV X (ix4 0 s h 0)) + X (ix4 0 s h k) * refCB X D (ix4 0 s h k) + refCB X D (ix4 0 s h k) * X (ix4 0 s h k) := by
  pointwise [refDX, refR]
theorem refDG_at (X Y : FVec Ideal S1x16384x2x64 .f32) (h : Fin 2) (k : Fin 64) : refDG X Y (ix3 h k 0)
    = ∑ s : Fin 16384, X (ix4 0 s h k) * Ideal.rsqrt (refV X (ix4 0 s h 0)) * Y (ix4 0 s h k) := by
  pointwise [refDG, refR, sum_unit4_01]

variable (x : (⟨3, ![1, 16384, 2816]⟩ : Shape).Idx → ℝ) (g : (⟨1, ![64]⟩ : Shape).Idx → ℝ) (d : (⟨4, ![1, 16384, 2, 64]⟩ : Shape).Idx → ℝ)

/-- The reference's gradient of the heads on real arrays. -/
theorem refDX_eq : refDX (refX fun i => (x i : EReal)) (refDN (refY fun i => (d i : EReal)) fun i => (g i : EReal)) = dxOf x g d := by
  funext i
  obtain ⟨h, k, s, rfl⟩ : ∃ (h : Fin 2) (k : Fin 64) (s : Fin 16384), i = ix3 h k s := ⟨i 0, i 1, i 2, eq_ix3 i⟩
  have hX : ∀ k, refX (fun i => (x i : EReal)) (ix4 0 s h k) = (xAt x s h k : EReal) := fun k => refX_at _ _ _ _
  have hD : ∀ k, refDN (refY fun i => (d i : EReal)) (fun i => (g i : EReal)) (ix4 0 s h k) = ((unturn s.val (dAt d s h) k * g (ix1 k) : ℝ) : EReal) := fun k => by
    rw [refDN_at, refY_at _ s h (dAt d s h) (fun k => rfl), EReal.coe_mul]
  rw [refDX_at, refCB_at, refC_at]
  simp only [hX, hD, word_64, word_neg_half]
  refine dx_ref (xAt x s h) (fun k => unturn s.val (dAt d s h) k * g (ix1 k)) k _ ?_
  rw [refV_at]
  simp only [hX, word_64, word_eps]

/-- The reference's gradient of the gain on real arrays. -/
theorem refDG_eq : refDG (refX fun i => (x i : EReal)) (refY fun i => (d i : EReal)) = dgOf x d := by
  funext i
  obtain ⟨h, k, rfl⟩ : ∃ (h : Fin 2) (k : Fin 64), i = ix3 h k 0 := ⟨i 0, i 1, by idx_ext⟩
  rw [refDG_at]
  refine Finset.sum_congr rfl fun s _ => ?_
  have hX : ∀ k, refX (fun i => (x i : EReal)) (ix4 0 s h k) = (xAt x s h k : EReal) := fun k => refX_at _ _ _ _
  rw [refY_at _ s h (dAt d s h) (fun k => rfl), refV_at]
  simp only [hX, word_64, word_eps]
  rw [rms_eq (by norm_num)]
  show _ = (prepDg s.val (xAt x s h) (dAt d s h) k : EReal)
  unfold prepDg
  rw [← EReal.coe_mul, ← EReal.coe_mul, mul_comm]
end Reference

/-! ## The claim -/

theorem real_args (a0 : FVec Ideal Cert.Pre_finite_k_prep_bwd.S1x16384x2816 .f32) (a1 : FVec Ideal Cert.Pre_finite_k_prep_bwd.S64 .f32)
    (a2 : FVec Ideal Cert.Pre_finite_k_prep_bwd.S1x16384x2x64 .f32) (h : Cert.Pre_finite_k_prep_bwd.fn (F := Ideal) a0 a1 a2 = fun _ => 1#1) :
    a0 = (fun i => ((a0 i).toReal : EReal)) ∧ a1 = (fun i => ((a1 i).toReal : EReal)) ∧ a2 = (fun i => ((a2 i).toReal : EReal)) := by
  have h := congrFun h ix0
  unfold Cert.Pre_finite_k_prep_bwd.fn at h
  simp only [andi_apply, and_true_iff] at h
  obtain ⟨⟨h0, h1⟩, h2⟩ := h
  exact ⟨real_of_all a0 _ (fun _ => word_inf) _ _ _ (by decide) _ h0, real_of_all a1 _ (fun _ => word_inf) _ _ _ (by decide) _ h1,
    real_of_all a2 _ (fun _ => word_inf) _ _ _ (by decide) _ h2⟩

/-- Both results: the reference's terms over the kernel's arguments are the kernel's arrays. -/
theorem both_eq (m : (ℓ : Loc Cert.KPrepBwdIdeal.nD Cert.KPrepBwdIdeal.τ Cert.KPrepBwdIdeal.sig) → Buf (Elt Ideal) ℓ) (hpre : Cert.Pre_KPrepBwdIdeal_finite_k_prep_bwd m)
    (c : Dev Cert.KPrepBwdIdeal.nD) (a0 : FVec Ideal Cert.KPrepBwdRefIdeal.S1x16384x2816 .f32) (a1 : FVec Ideal Cert.KPrepBwdRefIdeal.S64 .f32) (a2 : FVec Ideal Cert.KPrepBwdRefIdeal.S1x16384x2x64 .f32)
    (h0 : m ((c.tc : Thread Cert.KPrepBwdIdeal.nD Cert.KPrepBwdIdeal.τ).loc Cert.KPrepBwdIdeal.main_arg0) = a0)
    (h1 : m ((c.tc : Thread Cert.KPrepBwdIdeal.nD Cert.KPrepBwdIdeal.τ).loc Cert.KPrepBwdIdeal.main_arg1) = a1)
    (h2 : m ((c.tc : Thread Cert.KPrepBwdIdeal.nD Cert.KPrepBwdIdeal.τ).loc Cert.KPrepBwdIdeal.main_arg2) = a2) :
    refDX (refX a0) (refDN (refY a2) a1) = (Cert.KPrepBwdIdeal.Gen.dats m 0 c).arrAt 5 Cert.KPrepBwdIdeal.cfg0.N
      ∧ refDG (refX a0) (refY a2) = (Cert.KPrepBwdIdeal.Gen.dats m 0 c).arrAt 6 Cert.KPrepBwdIdeal.cfg0.N := by
  obtain ⟨r0, r1, r2⟩ := real_args _ _ _ (hpre c)
  have e0 := h0.symm.trans r0
  have e1 := h1.symm.trans r1
  have e2 := h2.symm.trans r2
  refine ⟨?_, ?_⟩
  · rw [final5 m c _ _ _ r0 r1 r2, ← refDX_eq, e0, e1, e2]
  · rw [final6 m c _ _ r0 r2, ← refDG_eq, e0, e2]

set_option maxHeartbeats 4000000 in
/-- The kernel's two results are the vector-Jacobian product's. -/
theorem algebraic : Cert.algebraic_KPrepBwdIdeal_KPrepBwdRefIdeal_pre_finite_k_prep_bwd := by
  pair_intro
  · run_from Cert.KPrepBwdIdeal.Value.run_blocks m g
  · run_from Cert.KPrepBwdRefIdeal.Value.run m' g'
    · obtain ⟨h0, h1, h2⟩ := hagree c
      exact Eq.trans rfl (both_eq m hpre c _ _ _ h0.symm h1.symm h2.symm).1
    · obtain ⟨h0, h1, h2⟩ := hagree c
      exact Eq.trans rfl (both_eq m hpre c _ _ _ h0.symm h1.symm h2.symm).2

/-- The reference's frame: it is host operations alone, none of which writes an argument, and it declares no semaphore. -/
theorem frame_ref : Cert.quiescent_KPrepBwdRefIdeal := fun m ρ _ =>
  (θ_run Cert.KPrepBwdRefIdeal.defs _ _).mono
    (fun r h => ⟨fun c => (h c).2.2, sem_eq_zero_of_no_sems (by decide) r.2⟩)
    (Cert.KPrepBwdRefIdeal.Value.run (F := Ideal) m ρ)

end Cert.KPrepBwdClaims

end
-- ==== Proof.ConvTaps.lean ====
/- The halo buffer of the convolution kernels: rows gathered from three pieces, eight shifted copies of it, and what a tap
   reads from them. -/
module

public import proofs.«01_k».proof.Proof.Reals
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ConvTaps

abbrev Ext : Shape := ⟨2, ![544, 256]⟩
abbrev Sh : Shape := ⟨3, ![8, 536, 256]⟩

variable (G : ℕ → Fin 256 → EReal)

/-- The halo buffer whose row `r` is `G r`. -/
def extOf : Ext.Idx → Elt Ideal .f32 := fun y => G (y 0 : Nat) (y 1)
/-- The shifted copies: copy `b` begins at row `b`. -/
def shOf : Sh.Idx → Elt Ideal .f32 := fun y => G ((y 0 : Nat) + (y 1 : Nat)) (y 2)
/-- Rows `n …` of a halo buffer, as a copy of it holds them. -/
def rowsOf (n : ℕ) : (⟨2, ![536, 256]⟩ : Shape).Idx → Elt Ideal .f32 := fun y => G (n + (y 0 : Nat)) (y 1)
/-- What a tap at offset `n` reads. -/
def tapOf (n : ℕ) : (⟨3, ![1, 512, 256]⟩ : Shape).Idx → Elt Ideal .f32 := fun y => G (n + (y 1 : Nat)) (y 2)

/-- A row between a piece's first and last lies in the piece. -/
theorem mem_rows (r : Fin 544) (f : Fin 256) (o s : ℕ) (inb : ∀ a, (![o, 0] : Fin 2 → ℕ) a + (![s, 256] : Fin 2 → ℕ) a ≤ Ext.size a)
    (h : o ≤ r.val) (h' : r.val < o + s) : ix2 r f ∈ (Rect.unit (s := Ext) ![o, 0] ![s, 256] inb).set := by
  rw [Rect.mem_set_unit]
  intro a
  fin_cases a
  · exact ⟨h, h'⟩
  · exact ⟨Nat.zero_le _, show f.val < 0 + 256 by omega⟩

/-- The three pieces stored to the halo buffer are one array. -/
theorem canon_ext (inb0 : ∀ a, (![0, 0] : Fin 2 → ℕ) a + (![16, 256] : Fin 2 → ℕ) a ≤ Ext.size a)
    (inb1 : ∀ a, (![16, 0] : Fin 2 → ℕ) a + (![512, 256] : Fin 2 → ℕ) a ≤ Ext.size a)
    (inb2 : ∀ a, (![528, 0] : Fin 2 → ℕ) a + (![16, 256] : Fin 2 → ℕ) a ≤ Ext.size a)
    (p0 p2 : (⟨2, ![16, 256]⟩ : Shape).Idx → Elt Ideal .f32) (p1 : (⟨2, ![512, 256]⟩ : Shape).Idx → Elt Ideal .f32)
    (h0 : ∀ (a : Fin 16) (f : Fin 256), p0 (ix2 a f) = G a f) (h1 : ∀ (a : Fin 512) (f : Fin 256), p1 (ix2 a f) = G (16 + a) f)
    (h2 : ∀ (a : Fin 16) (f : Fin 256), p2 (ix2 a f) = G (528 + a) f) :
    View.canon (Val := Elt Ideal) (e := .f32) [⟨Rect.unit (s := Ext) ![528, 0] ![16, 256] inb2, p2⟩, ⟨Rect.unit (s := Ext) ![16, 0] ![512, 256] inb1, p1⟩,
      ⟨Rect.unit (s := Ext) ![0, 0] ![16, 256] inb0, p0⟩] = extOf G := by
  funext y
  obtain ⟨r, f, rfl⟩ : ∃ (r : Fin 544) (f : Fin 256), y = ix2 r f := ⟨y 0, y 1, by idx_ext⟩
  refine View.canon_eq_of_allAt _ _ _ ?_ ?_
  · by_cases hA : r.val < 16
    · exact ⟨⟨Rect.unit (s := Ext) ![0, 0] ![16, 256] inb0, p0⟩, by simp, mem_rows r f 0 16 inb0 (Nat.zero_le _) (by omega)⟩
    · by_cases hB : r.val < 528
      · exact ⟨⟨Rect.unit (s := Ext) ![16, 0] ![512, 256] inb1, p1⟩, by simp, mem_rows r f 16 512 inb1 (by omega) (by omega)⟩
      · exact ⟨⟨Rect.unit (s := Ext) ![528, 0] ![16, 256] inb2, p2⟩, by simp, mem_rows r f 528 16 inb2 (by omega) (by omega)⟩
  · refine View.allAt_cons_unit _ _ _ _ _ ?_ (View.allAt_cons_unit _ _ _ _ _ ?_ (View.allAt_cons_unit _ _ _ _ _ ?_ (View.allAt_nil _ _)))
    · intro x hx
      obtain ⟨a, b, rfl⟩ : ∃ (a : Fin 16) (b : Fin 256), x = ix2 a b := ⟨x 0, x 1, by idx_ext⟩
      have e0 : (r : Nat) = 528 + a := hx 0
      have e1 : (f : Nat) = 0 + b := hx 1
      obtain rfl : b = f := Fin.ext (by omega)
      exact (h2 a b).trans (congrArg (fun n => G n b) e0.symm)
    · intro x hx
      obtain ⟨a, b, rfl⟩ : ∃ (a : Fin 512) (b : Fin 256), x = ix2 a b := ⟨x 0, x 1, by idx_ext⟩
      have e0 : (r : Nat) = 16 + a := hx 0
      have e1 : (f : Nat) = 0 + b := hx 1
      obtain rfl : b = f := Fin.ext (by omega)
      exact (h1 a b).trans (congrArg (fun n => G n b) e0.symm)
    · intro x hx
      obtain ⟨a, b, rfl⟩ : ∃ (a : Fin 16) (b : Fin 256), x = ix2 a b := ⟨x 0, x 1, by idx_ext⟩
      have e0 : (r : Nat) = 0 + a := hx 0
      have e1 : (f : Nat) = 0 + b := hx 1
      obtain rfl : b = f := Fin.ext (by omega)
      exact (h0 a b).trans (congrArg (fun n => G n b) (show a.val = r.val by omega))

/-- A copy's rows, read off the halo buffer. -/
theorem ext_idx (n : ℕ) (inb : ∀ a, (![n, 0] : Fin 2 → ℕ) a + (![536, 256] : Fin 2 → ℕ) a ≤ Ext.size a) :
    (fun j => extOf G ((Rect.unit (s := Ext) ![n, 0] ![536, 256] inb).toLoadRect.idx j)) = rowsOf G n := by
  funext j
  obtain ⟨a, b, rfl⟩ : ∃ (a : Fin 536) (b : Fin 256), j = ix2 a b := ⟨j 0, j 1, by idx_ext⟩
  show G (n + 1 * a.val) _ = G (n + a.val) b
  rw [one_mul]
  exact congrArg (G (n + a.val)) (Fin.ext (show 0 + 1 * b.val = b.val by omega))

/-- A tap, read off a copy. -/
theorem sh_idx (b r : ℕ) (inb : ∀ a, (![b, r, 0] : Fin 3 → ℕ) a + (![1, 512, 256] : Fin 3 → ℕ) a ≤ Sh.size a) :
    (fun j => shOf G ((Rect.unit (s := Sh) ![b, r, 0] ![1, 512, 256] inb).toLoadRect.idx j)) = tapOf G (b + r) := by
  funext j
  obtain ⟨a, f, rfl⟩ : ∃ (a : Fin 512) (f : Fin 256), j = ix3 0 a f := ⟨j 1, j 2, by
    idx_ext⟩
  show G (b + 1 * 0 + (r + 1 * a.val)) _ = G (b + r + a.val) f
  rw [show b + 1 * 0 + (r + 1 * a.val) = b + r + a.val by omega]
  exact congrArg (G (b + r + a.val)) (Fin.ext (show 0 + 1 * f.val = f.val by omega))

/-- The eight copies stored one after the other are one array. -/
theorem canon_sh (inb : ∀ (b : Fin 8) (a : Fin 3), (![b.val, 0, 0] : Fin 3 → ℕ) a + (![1, 536, 256] : Fin 3 → ℕ) a ≤ Sh.size a)
    (p : Fin 8 → (⟨3, ![1, 536, 256]⟩ : Shape).Idx → Elt Ideal .f32)
    (h : ∀ (b : Fin 8) (a : Fin 536) (f : Fin 256), p b (ix3 0 a f) = G (b.val + a.val) f) :
    View.canon (Val := Elt Ideal) (e := .f32) (List.ofFn fun k : Fin 8 =>
      ⟨Rect.unit (s := Sh) ![(Fin.rev k).val, 0, 0] ![1, 536, 256] (inb (Fin.rev k)), p (Fin.rev k)⟩) = shOf G := by
  funext y
  obtain ⟨b, r, f, rfl⟩ : ∃ (b : Fin 8) (r : Fin 536) (f : Fin 256), y = ix3 b r f := ⟨y 0, y 1, y 2, by idx_ext⟩
  refine View.canon_ofFn_unit_eq_of_forall (S := Sh) (fun k => ![(Fin.rev k).val, 0, 0]) ![1, 536, 256] (fun k => inb (Fin.rev k))
    (fun k => p (Fin.rev k)) _ _ ⟨Fin.rev b, fun a => ?_⟩ fun k x hx => ?_
  · fin_cases a
    · exact show (Fin.rev (Fin.rev b)).val ≤ b.val ∧ b.val < (Fin.rev (Fin.rev b)).val + 1 by rw [Fin.rev_rev]; omega
    · exact show 0 ≤ r.val ∧ r.val < 0 + 536 by omega
    · exact show 0 ≤ f.val ∧ f.val < 0 + 256 by omega
  · obtain ⟨a, b', rfl⟩ : ∃ (a : Fin 536) (b' : Fin 256), x = ix3 0 a b' := ⟨x 1, x 2, by idx_ext⟩
    have e0 : b.val = (Fin.rev k).val + 0 := hx 0
    have e1 : r.val = 0 + a.val := hx 1
    have e2 : f.val = 0 + b'.val := hx 2
    obtain rfl : b' = f := Fin.ext (by omega)
    rw [h]
    show G _ b' = G (b.val + r.val) b'
    exact congrArg (fun n => G n b') (show (Fin.rev k).val + a.val = b.val + r.val by omega)

end Cert.ConvTaps

end
-- ==== Proof.ConvBwdB.lean ====
/- The backward of the convolution branch's gate and taps: what the kernel's two result arrays hold is the
   vector-Jacobian product's two gradients. -/
module

public import proofs.«01_k».proof.Proof.ConvTaps
public import proofs.«01_k».proof.Proof.Gen.ConvBwdBIdeal.Value
public import proofs.«01_k».proof.Proof.Gen.ConvBwdBRefIdeal.Run
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvBwdBClaims

open Cert.Reals Cert.ConvTaps

/-- The sum of the taps up to `n`, in the order the kernel adds them. -/
def taps (x : ℕ → EReal) : ℕ → EReal
  | 0 => x 0
  | n + 1 => taps x n + x (n + 1)

theorem taps_eq (x : ℕ → EReal) (n : ℕ) : taps x n = ∑ k ∈ Finset.range (n + 1), x k := by
  induction n with
  | zero => exact (Finset.sum_range_one x).symm
  | succ n ih => rw [Finset.sum_range_succ, ← ih]; rfl

theorem taps_congr {x y : ℕ → EReal} (n : ℕ) (h : ∀ k, k ≤ n → x k = y k) : taps x n = taps y n := by
  rw [taps_eq, taps_eq]
  exact Finset.sum_congr rfl fun k hk => h k (by have := Finset.mem_range.mp hk; omega)

/-- The taps added from the last to the first. -/
theorem taps_rev (x : ℕ → EReal) (n : ℕ) : taps (fun k => x (n - k)) n = taps x n := by
  rw [taps_eq, taps_eq]
  exact Finset.sum_range_reflect x (n + 1)

/-- The cotangent's row, zero off the sequence. -/
def row (dy : (⟨3, ![1, 16384, 256]⟩ : Shape).Idx → EReal) (n : ℕ) (f : Fin 256) : EReal :=
  if h : 16 ≤ n ∧ n < 16400 then dy (ix3 0 ⟨n - 16, by omega⟩ f) else 0

section Kernel
open Cert.ConvBwdBIdeal Cert.ConvBwdBIdeal.Gen

variable (m : (ℓ : Loc nD τ sig) → Buf (Elt Ideal) ℓ) (c : Dev nD)

theorem idx : ∀ t : Fin cfg0.N, win0_0.index t = ![t.val, 5] ∧ win0_1.index t = ![t.val, 6] ∧ win0_2.index t = ![t.val, 0]
    ∧ win0_3.index t = ![t.val * 32 - 1, 0] ∧ win0_4.index t = ![min (t.val * 32 + 32) 1023, 0] ∧ win0_5.index t = ![0, 0] ∧ win0_6.index t = ![t.val, 0] ∧ win0_7.index t = ![t.val, 0] ∧ ((grid0.coords t) 0).val = t.val ∧ t.val < 32 :=
  (by decide +kernel : ∀ t : Fin grid0.N, _)

theorem before_at (i : grid0.Coords) (n : ℕ) (hn : (i 0).val = n) (h : n < 32) (v : FVec Ideal S16x256 .f32) (a : Fin 16) (f : Fin 256) :
    k0_pay2 (F := Ideal) i v (ix2 a f) = if 0 < n then v (ix2 a f) else 0 := by
  pointwise [k0_pay2]
  rw [hn]
  interval_cases n <;> rfl

theorem after_at (i : grid0.Coords) (n : ℕ) (hn : (i 0).val = n) (h : n < 32) (v : FVec Ideal S16x256 .f32) (a : Fin 16) (f : Fin 256) :
    k0_pay4 (F := Ideal) i v (ix2 a f) = if n < 31 then v (ix2 a f) else 0 := by
  pointwise [k0_pay4]
  rw [hn]
  interval_cases n <;> rfl

/-- The row of the array a tile's row is. -/
abbrev rowOf (t : Fin cfg0.N) (a : Fin 512) : Fin 16384 := ⟨t.val * 512 + a.val, by have := (idx t).2.2.2.2.2.2.2.2.2; omega⟩

abbrev A0 : FVec Ideal S1x16384x2816 .f32 := m ((c.tc : Thread nD τ).loc main_arg0)
abbrev A1 : FVec Ideal S31x256 .f32 := m ((c.tc : Thread nD τ).loc main_arg1)
abbrev A2 : FVec Ideal S1x16384x256 .f32 := m ((c.tc : Thread nD τ).loc main_arg2)

theorem blk0 (t : Fin cfg0.N) (a : Fin 512) (f : Fin 256) :
    (show EReal from iblk m c 0 t (ix2 a f)) = A0 m c (ix3 0 (rowOf t a) ⟨1280 + f.val, by omega⟩) := by
  blk_point [iblk, V, idx t]
theorem blk1 (t : Fin cfg0.N) (a : Fin 512) (f : Fin 256) :
    (show EReal from iblk m c 1 t (ix2 a f)) = A0 m c (ix3 0 (rowOf t a) ⟨1536 + f.val, by omega⟩) := by
  blk_point [iblk, V, idx t]
theorem blk2 (t : Fin cfg0.N) (a : Fin 512) (f : Fin 256) :
    (show EReal from iblk m c 2 t (ix2 a f)) = A2 m c (ix3 0 (rowOf t a) f) := by
  blk_point [iblk, V, idx t]
theorem blk3 (t : Fin cfg0.N) (h : 0 < t.val) (a : Fin 16) (f : Fin 256) :
    (show EReal from iblk m c 3 t (ix2 a f)) = A2 m c (ix3 0 ⟨t.val * 512 + a.val - 16, by have := (idx t).2.2.2.2.2.2.2.2.2; omega⟩ f) := by
  have e : (t.val * 32 - 1) * 16 + a.val = t.val * 512 + a.val - 16 := by omega
  blk_point [iblk, V, idx t, e]
theorem blk4 (t : Fin cfg0.N) (h : t.val < 31) (a : Fin 16) (f : Fin 256) :
    (show EReal from iblk m c 4 t (ix2 a f)) = A2 m c (ix3 0 ⟨t.val * 512 + 512 + a.val, by omega⟩ f) := by
  have e : min (t.val * 32 + 32) 1023 * 16 + a.val = t.val * 512 + 512 + a.val := by omega
  blk_point [iblk, V, idx t, e]
theorem blk5 (t : Fin cfg0.N) (k : Fin 31) (f : Fin 256) :
    (show EReal from iblk m c 5 t (ix2 k f)) = A1 m c (ix2 k f) := by
  blk_point [iblk, V, idx t]

/-- A tile's halo buffer. -/
def halo (t : Fin cfg0.N) (r : ℕ) (f : Fin 256) : EReal := row (A2 m c) (t.val * 512 + r) f

theorem row_in (dy : (⟨3, ![1, 16384, 256]⟩ : Shape).Idx → EReal) (n : ℕ) (f : Fin 256) (s : Fin 16384) (h : n = s.val + 16) :
    row dy n f = dy (ix3 0 s f) := by
  subst h
  unfold row
  rw [dif_pos (by omega)]
  exact congrArg (fun s => dy (ix3 0 s f)) (Fin.ext (Nat.add_sub_cancel _ _))

theorem halo0 (t : Fin cfg0.N) (a : Fin 16) (f : Fin 256) : k0_pay2 (F := Ideal) (grid0.coords t) (iblk m c 3 t) (ix2 a f) = halo m c t a f := by
  rw [before_at _ t.val (idx t).2.2.2.2.2.2.2.2.1 (idx t).2.2.2.2.2.2.2.2.2]
  unfold halo
  split_ifs with h
  · rw [row_in _ _ _ ⟨t.val * 512 + a.val - 16, by have := (idx t).2.2.2.2.2.2.2.2.2; omega⟩ (show t.val * 512 + a.val = t.val * 512 + a.val - 16 + 16 by omega)]
    exact blk3 m c t h a f
  · unfold row
    rw [dif_neg (by omega)]
theorem halo1 (t : Fin cfg0.N) (a : Fin 512) (f : Fin 256) : k0_pay3 (F := Ideal) (iblk m c 2 t) (ix2 a f) = halo m c t (16 + a) f := by
  unfold halo
  rw [row_in _ _ _ (rowOf t a) (show t.val * 512 + (16 + a.val) = t.val * 512 + a.val + 16 by omega)]
  pointwise [k0_pay3]
  exact blk2 m c t a f
theorem halo2 (t : Fin cfg0.N) (a : Fin 16) (f : Fin 256) : k0_pay4 (F := Ideal) (grid0.coords t) (iblk m c 4 t) (ix2 a f) = halo m c t (528 + a) f := by
  rw [after_at _ t.val (idx t).2.2.2.2.2.2.2.2.1 (idx t).2.2.2.2.2.2.2.2.2]
  unfold halo
  split_ifs with h
  · rw [row_in _ _ _ ⟨t.val * 512 + 512 + a.val, by omega⟩ (show t.val * 512 + (528 + a.val) = t.val * 512 + 512 + a.val + 16 by omega)]
    exact blk4 m c t h a f
  · unfold row
    have := (idx t).2.2.2.2.2.2.2.2.2
    rw [dif_neg (by omega)]

/-- The eight stored copies, newest first, are one array. -/
theorem copies (G : ℕ → Fin 256 → EReal) :
    View.canon (Val := Elt Ideal) (e := .f32) [
      ⟨Rect.unit (s := S8x536x256) ![7, 0, 0] ![1, 536, 256] inb_S8x536x256_S1x536x256_7_0_0, k0_pay12 (F := Ideal) (rowsOf G 7)⟩,
      ⟨Rect.unit (s := S8x536x256) ![6, 0, 0] ![1, 536, 256] inb_S8x536x256_S1x536x256_6_0_0, k0_pay11 (F := Ideal) (rowsOf G 6)⟩,
      ⟨Rect.unit (s := S8x536x256) ![5, 0, 0] ![1, 536, 256] inb_S8x536x256_S1x536x256_5_0_0, k0_pay10 (F := Ideal) (rowsOf G 5)⟩,
      ⟨Rect.unit (s := S8x536x256) ![4, 0, 0] ![1, 536, 256] inb_S8x536x256_S1x536x256_4_0_0, k0_pay9 (F := Ideal) (rowsOf G 4)⟩,
      ⟨Rect.unit (s := S8x536x256) ![3, 0, 0] ![1, 536, 256] inb_S8x536x256_S1x536x256_3_0_0, k0_pay8 (F := Ideal) (rowsOf G 3)⟩,
      ⟨Rect.unit (s := S8x536x256) ![2, 0, 0] ![1, 536, 256] inb_S8x536x256_S1x536x256_2_0_0, k0_pay7 (F := Ideal) (rowsOf G 2)⟩,
      ⟨Rect.unit (s := S8x536x256) ![1, 0, 0] ![1, 536, 256] inb_S8x536x256_S1x536x256_1_0_0, k0_pay6 (F := Ideal) (rowsOf G 1)⟩,
      ⟨Rect.unit (s := S8x536x256) ![0, 0, 0] ![1, 536, 256] inb_S8x536x256_S1x536x256_0_0_0, k0_pay5 (F := Ideal) (rowsOf G 0)⟩] = shOf G :=
  canon_sh G (by decide) (fun b => shapeCast _ (rowsOf G b.val) shapeCasts_S536x256_S1x536x256) fun b a f => by
    pointwise [rowsOf]

/-- The gradient of the convolution's input, as the kernel adds it. -/
def dhOf (s : Fin 16384) (f : Fin 256) : EReal :=
  taps (fun k => A1 m c (ix2 (Fin.ofNat 31 k) f) * row (A2 m c) (s.val + (31 - k)) f) 30

/-- The gate's sigmoid. -/
def sgOf (x : EReal) : EReal := Ideal.div 1 (1 + Ideal.exp (0 - x))

theorem dh_eq (t : Fin cfg0.N) (a : Fin 512) (f : Fin 256) :
    taps (fun k => (show EReal from iblk m c 5 t (ix2 (Fin.ofNat 31 k) f)) * halo m c t (31 - k + a.val) f) 30 = dhOf m c (rowOf t a) f :=
  taps_congr 30 fun k hk => Ideal.mul_congr (blk5 m c t _ f) (congrArg (fun n => row (A2 m c) n f) (show t.val * 512 + (31 - k + a.val) = t.val * 512 + a.val + (31 - k) by omega))

theorem point6 (t : Fin cfg0.N) (a : Fin 512) (f : Fin 256) : (dats m 0 c).after 6 t (ix2 a f)
    = dhOf m c (rowOf t a) f * sgOf (A0 m c (ix3 0 (rowOf t a) ⟨1536 + f.val, by omega⟩)) := by
  rw [after0_6]
  unfold outsAt0
  frame_out
  simp only [View.readCov_eq_canon']
  rw [canon_ext (halo m c t) _ _ _ _ _ _ (halo0 m c t) (halo1 m c t) (halo2 m c t)]
  simp only [ext_idx]
  rw [copies]
  simp only [sh_idx, Nat.reduceAdd]
  pointwise [k0_pay20, k0_pay18, k0_pay17, k0_pay16, k0_pay15, k0_pay14, k0_pay13, k0_pay19, tapOf]
  exact Ideal.mul_congr (dh_eq m c t a f) (congrArg sgOf (blk1 m c t a f))

theorem point7 (t : Fin cfg0.N) (a : Fin 512) (f : Fin 256) : (dats m 0 c).after 7 t (ix2 a f)
    = dhOf m c (rowOf t a) f * A0 m c (ix3 0 (rowOf t a) ⟨1280 + f.val, by omega⟩) * sgOf (A0 m c (ix3 0 (rowOf t a) ⟨1536 + f.val, by omega⟩))
      * (1 - sgOf (A0 m c (ix3 0 (rowOf t a) ⟨1536 + f.val, by omega⟩))) := by
  rw [after0_7]
  unfold outsAt0
  frame_out
  simp only [View.readCov_eq_canon']
  rw [canon_ext (halo m c t) _ _ _ _ _ _ (halo0 m c t) (halo1 m c t) (halo2 m c t)]
  simp only [ext_idx]
  rw [copies]
  simp only [sh_idx, Nat.reduceAdd]
  pointwise [k0_pay1, k0_pay18, k0_pay17, k0_pay16, k0_pay15, k0_pay14, k0_pay13, k0_pay19, tapOf]
  exact Ideal.mul_congr (Ideal.mul_congr (Ideal.mul_congr (dh_eq m c t a f) (blk0 m c t a f)) (congrArg sgOf (blk1 m c t a f)))
    (congrArg (fun x => 1 - sgOf x) (blk1 m c t a f))

/-- The first result: the gradient of the gated half. -/
def daOf : FVec Ideal S16384x256 .bf16 := fun i => dhOf m c (i 0) (i 1) * sgOf (A0 m c (ix3 0 (i 0) ⟨1536 + (i 1).val, by have := (i 1).isLt; show _ < 2816; simp at this; omega⟩))
/-- The second result: the gradient of the gate's half. -/
def dbOf : FVec Ideal S16384x256 .bf16 := fun i => dhOf m c (i 0) (i 1) * A0 m c (ix3 0 (i 0) ⟨1280 + (i 1).val, by have := (i 1).isLt; simp at this; omega⟩)
  * sgOf (A0 m c (ix3 0 (i 0) ⟨1536 + (i 1).val, by have := (i 1).isLt; simp at this; omega⟩)) * (1 - sgOf (A0 m c (ix3 0 (i 0) ⟨1536 + (i 1).val, by have := (i 1).isLt; simp at this; omega⟩)))

/-- The kernel's array 6. -/
theorem final6 : (dats m 0 c).arrAt 6 cfg0.N = daOf m c := by
  refine (dats m 0 c).arrAt_eq_of_covers 6 _ (by decide +kernel) fun t hf y => ?_
  obtain ⟨a, f, rfl⟩ : ∃ (a : Fin 512) (f : Fin 256), y = ix2 a f := ⟨y 0, y 1, eq_ix2 y⟩
  have e : ((cfg0.win 6).blk t).view.emb (ix2 a f) = ix2 (rowOf t a) f := by blk_ext [idx t]
  rw [e]
  blk_simp
  exact point6 m c t a f

/-- The kernel's array 7. -/
theorem final7 : (dats m 0 c).arrAt 7 cfg0.N = dbOf m c := by
  refine (dats m 0 c).arrAt_eq_of_covers 7 _ (by decide +kernel) fun t hf y => ?_
  obtain ⟨a, f, rfl⟩ : ∃ (a : Fin 512) (f : Fin 256), y = ix2 a f := ⟨y 0, y 1, eq_ix2 y⟩
  have e : ((cfg0.win 7).blk t).view.emb (ix2 a f) = ix2 (rowOf t a) f := by blk_ext [idx t]
  rw [e]
  blk_simp
  exact point7 m c t a f

end Kernel

section Reference
open Cert.ConvBwdBRefIdeal Cert.ConvBwdBRefIdeal.Facts₀

/-- One tap of the gradient: the cotangent times the tap's weight, shifted. -/
def part (dy : FVec Ideal S1x16384x256 .f32) (w : FVec Ideal S31x256 .f32) (k : ℕ) (hs : S31x256.Slices ![k, 0] S1x256)
    (hp : S1x16384x256.Pads (![0, k, 0] : Fin 3 → Nat) ![0, 30 - k, 0] ![0, 0, 0] S1x16414x256) : FVec Ideal S1x16414x256 .f32 :=
  pad S1x16414x256 ![0, k, 0] ![0, 30 - k, 0] ![0, 0, 0] (mulf (shapeCast _ dy shapeCasts_S1x16384x256_S1x16384x256) (broadcastInDim S1x16384x256 ![0, 1, 2] bcast_S1x1x256_S1x16384x256_0_1_2 (broadcastInDim S1x1x256 ![2] bcast_S256_S1x1x256_2 (shapeCast _ (extractStridedSlice S1x256 ![k, 0] w hs) shapeCasts_S1x256_S256)))) (constant S_ .f32 0x00000000#32) hp h_S_

theorem part_at (dy : FVec Ideal S1x16384x256 .f32) (w : FVec Ideal S31x256 .f32) (k : ℕ) (hk : k < 31) (hs) (hp) (s : Fin 16414) (f : Fin 256) :
    part dy w k hs hp (ix3 0 s f) = row dy (s.val + 16 - k) f * w (ix2 ⟨k, hk⟩ f) := by
  pointwise [part]
  unfold row
  by_cases h : k ≤ s.val ∧ s.val - k < 16384
  · rw [dif_pos h, dif_pos (by omega)]
    exact congrArg (fun s => dy (ix3 0 s f) * w (ix2 ⟨k, hk⟩ f)) (Fin.ext (show s.val - k = s.val + 16 - k - 16 by omega))
  · rw [dif_neg h, dif_neg (by omega), zero_mul]
/-- The gate's sigmoid, as the reference writes it. -/
def refSg (p : FVec Ideal S1x16384x2816 .f32) : FVec Ideal S1x16384x256 .f32 :=
  Host.divf (broadcastInDim S1x16384x256 ![] bcast_S_S1x16384x256 (constant S_ .f32 0x3F800000#32)) (addf (broadcastInDim S1x16384x256 ![] bcast_S_S1x16384x256 (constant S_ .f32 0x3F800000#32)) (Host.exp (Host.negf (extractStridedSlice S1x16384x256 ![0, 0, 256] (extractStridedSlice S1x16384x512 ![0, 0, 1280] p slices_S1x16384x2816_S1x16384x512_0_0_1280) slices_S1x16384x512_S1x16384x256_0_0_256))))

theorem refSg_at (p : FVec Ideal S1x16384x2816 .f32) (s : Fin 16384) (f : Fin 256) :
    refSg p (ix3 0 s f) = sgOf (p (ix3 0 s ⟨1536 + f.val, by omega⟩)) := by
  pointwise [refSg]
  have e : (0 : EReal) - p (ix3 0 s ⟨1536 + f.val, by omega⟩) = -p (ix3 0 s ⟨1536 + f.val, by omega⟩) := by rw [sub_eq_add_neg, zero_add]
  exact congrArg (fun x => Ideal.div 1 (1 + Ideal.exp x)) ((congrArg (fun k => -p (ix3 0 s k)) (Fin.ext (show 1280 + (256 + f.val) = 1536 + f.val by omega))).trans e.symm)

/-- The gated half. -/
def refA (p : FVec Ideal S1x16384x2816 .f32) : FVec Ideal S1x16384x256 .f32 :=
  extractStridedSlice S1x16384x256 ![0, 0, 0] (extractStridedSlice S1x16384x512 ![0, 0, 1280] p slices_S1x16384x2816_S1x16384x512_0_0_1280) slices_S1x16384x512_S1x16384x256_0_0_0

theorem refA_at (p : FVec Ideal S1x16384x2816 .f32) (s : Fin 16384) (f : Fin 256) :
    refA p (ix3 0 s f) = p (ix3 0 s ⟨1280 + f.val, by omega⟩) := by
  pointwise [refA]

theorem slices_row (k : ℕ) (h : k < 31) : S31x256.Slices ![k, 0] S1x256 := by
  interval_cases k <;> decide
theorem pads_row (k : ℕ) (h : k < 31) : S1x16384x256.Pads (![0, k, 0] : Fin 3 → Nat) ![0, 30 - k, 0] ![0, 0, 0] S1x16414x256 := by
  interval_cases k <;> decide

/-- The taps added so far, from the last one. -/
def refAcc (dy : FVec Ideal S1x16384x256 .f32) (w : FVec Ideal S31x256 .f32) : ℕ → FVec Ideal S1x16414x256 .f32
  | 0 => part dy w 30 (slices_row 30 (by decide)) (pads_row 30 (by decide))
  | n + 1 => addf (refAcc dy w n) (part dy w (29 - n) (slices_row (29 - n) (by omega)) (pads_row (29 - n) (by omega)))

theorem refAcc_at (dy : FVec Ideal S1x16384x256 .f32) (w : FVec Ideal S31x256 .f32) (s : Fin 16414) (f : Fin 256) : ∀ n, n ≤ 30 →
    refAcc dy w n (ix3 0 s f) = taps (fun k => w (ix2 (Fin.ofNat 31 (30 - k)) f) * row dy (s.val + 16 - (30 - k)) f) n
  | 0, _ => by
    refine (part_at dy w 30 (by decide) _ _ s f).trans ?_
    rw [mul_comm]; rfl
  | n + 1, h => by
    refine Ideal.add_congr (refAcc_at dy w s f n (by omega)) ((part_at dy w (29 - n) (by omega) _ _ s f).trans ?_)
    rw [mul_comm]
    have e : 30 - (n + 1) = 29 - n := by omega
    show _ = w (ix2 (Fin.ofNat 31 (30 - (n + 1))) f) * row dy (s.val + 16 - (30 - (n + 1))) f
    rw [e]
    exact congrArg (fun k => w (ix2 k f) * _) (Fin.ext (Nat.mod_eq_of_lt (show 29 - n < 31 by omega)).symm)

/-- The gradient of the convolution's input. -/
def refDH (dy : FVec Ideal S1x16384x256 .f32) (w : FVec Ideal S31x256 .f32) : FVec Ideal S1x16384x256 .f32 :=
  extractStridedSlice S1x16384x256 ![0, 15, 0] (refAcc dy w 30) slices_S1x16414x256_S1x16384x256_0_15_0

theorem refDH_at (dy : FVec Ideal S1x16384x256 .f32) (w : FVec Ideal S31x256 .f32) (s : Fin 16384) (f : Fin 256) :
    refDH dy w (ix3 0 s f) = taps (fun k => w (ix2 (Fin.ofNat 31 k) f) * row dy (s.val + (31 - k)) f) 30 := by
  pointwise [refDH]
  rw [refAcc_at _ _ _ _ 30 le_rfl]
  rw [← taps_rev (fun k => w (ix2 (Fin.ofNat 31 k) f) * row dy (s.val + (31 - k)) f) 30]
  refine taps_congr 30 fun k hk => ?_
  exact congrArg (fun n => w (ix2 (Fin.ofNat 31 (30 - k)) f) * row dy n f) (show 15 + s.val + 16 - (30 - k) = s.val + (31 - (30 - k)) by omega)

def refDA (sg dh : FVec Ideal S1x16384x256 .f32) : FVec Ideal S16384x256 .bf16 :=
  truncf .bf16 (shapeCast _ (mulf dh sg) shapeCasts_S1x16384x256_S16384x256) bitsLt_bf16_f32
def refDB (sg a dh : FVec Ideal S1x16384x256 .f32) : FVec Ideal S16384x256 .bf16 :=
  truncf .bf16 (shapeCast _ (mulf (mulf a dh) (mulf sg (subf (broadcastInDim S1x16384x256 ![] bcast_S_S1x16384x256 (constant S_ .f32 0x3F800000#32)) sg))) shapeCasts_S1x16384x256_S16384x256) bitsLt_bf16_f32

theorem refDA_at (sg dh : FVec Ideal S1x16384x256 .f32) (s : Fin 16384) (f : Fin 256) :
    refDA sg dh (ix2 s f) = dh (ix3 0 s f) * sg (ix3 0 s f) := by
  pointwise [refDA]
theorem refDB_at (sg a dh : FVec Ideal S1x16384x256 .f32) (s : Fin 16384) (f : Fin 256) :
    refDB sg a dh (ix2 s f) = a (ix3 0 s f) * dh (ix3 0 s f) * (sg (ix3 0 s f) * (1 - sg (ix3 0 s f))) := by
  pointwise [refDB]
end Reference

/-! ## The claim -/

/-- Both results: the reference's terms over the kernel's arguments are the kernel's arrays. -/
theorem both_eq (m : (ℓ : Loc Cert.ConvBwdBIdeal.nD Cert.ConvBwdBIdeal.τ Cert.ConvBwdBIdeal.sig) → Buf (Elt Ideal) ℓ)
    (c : Dev Cert.ConvBwdBIdeal.nD) (a0 : FVec Ideal Cert.ConvBwdBRefIdeal.S1x16384x2816 .f32) (a1 : FVec Ideal Cert.ConvBwdBRefIdeal.S31x256 .f32) (a2 : FVec Ideal Cert.ConvBwdBRefIdeal.S1x16384x256 .f32)
    (h0 : A0 m c = a0) (h1 : A1 m c = a1) (h2 : A2 m c = a2) :
    refDA (refSg a0) (refDH a2 a1) = (Cert.ConvBwdBIdeal.Gen.dats m 0 c).arrAt 6 Cert.ConvBwdBIdeal.cfg0.N
      ∧ refDB (refSg a0) (refA a0) (refDH a2 a1) = (Cert.ConvBwdBIdeal.Gen.dats m 0 c).arrAt 7 Cert.ConvBwdBIdeal.cfg0.N := by
  subst h0 h1 h2
  rw [final6, final7]
  constructor
  · funext i
    obtain ⟨s, f, rfl⟩ : ∃ (s : Fin 16384) (f : Fin 256), i = ix2 s f := ⟨i 0, i 1, eq_ix2 i⟩
    rw [refDA_at, refDH_at, refSg_at]
    rfl
  · funext i
    obtain ⟨s, f, rfl⟩ : ∃ (s : Fin 16384) (f : Fin 256), i = ix2 s f := ⟨i 0, i 1, eq_ix2 i⟩
    rw [refDB_at, refDH_at, refSg_at, refA_at, mul_comm (A0 m c _), ← mul_assoc]
    rfl

set_option maxHeartbeats 4000000 in
/-- The kernel's two results are the vector-Jacobian product's. -/
theorem algebraic : Cert.algebraic_ConvBwdBIdeal_ConvBwdBRefIdeal := by
  pair_intro
  · run_from Cert.ConvBwdBIdeal.Value.run_blocks m g
  · run_from Cert.ConvBwdBRefIdeal.Value.run m' g'
    · obtain ⟨h0, h1, h2⟩ := hagree c
      exact Eq.trans rfl (both_eq m c _ _ _ h0.symm h1.symm h2.symm).1
    · obtain ⟨h0, h1, h2⟩ := hagree c
      exact Eq.trans rfl (both_eq m c _ _ _ h0.symm h1.symm h2.symm).2

/-- The reference's frame: it is host operations alone, none of which writes an argument, and it declares no semaphore. -/
theorem frame_ref : Cert.quiescent_ConvBwdBRefIdeal := fun m ρ _ =>
  (θ_run Cert.ConvBwdBRefIdeal.defs _ _).mono
    (fun r h => ⟨fun c => (h c).2.2, sem_eq_zero_of_no_sems (by decide) r.2⟩)
    (Cert.ConvBwdBRefIdeal.Value.run (F := Ideal) m ρ)

end Cert.ConvBwdBClaims

end
-- ==== Proof.LnMath.lean ====
/- The layer norm's gradient over rows of reals, as both programs write it. -/
module

public import proofs.«01_k».proof.Proof.Reals

@[expose] public section

noncomputable section

open Idealize.ShloMosaic Idealize.ShloMosaic.TcCoe Idealize.SL.Sem

namespace Cert.Ln

open Cert.Reals

variable (y g b G d e : Fin 256 → ℝ) (j : Fin 256)

theorem word_256 : Ideal.ofBits .f32 0x43800000#32 = ((256 : ℝ) : EReal) := by
  simp [Ideal.ofBits, Ideal.ieee, -EReal.coe_mul]; norm_num

/-- A row less its mean. -/
def cen : ℝ := y j - (∑ k, y k) / 256

theorem cen_sum : ∑ k, cen y k = 0 := by
  unfold cen
  rw [Finset.sum_sub_distrib, Finset.sum_const, Finset.card_univ, Fintype.card_fin, nsmul_eq_mul]
  push_cast
  ring

/-- The normed row. -/
def nrm : ℝ := cen y j * rms 256 (cen y)

/-- The gradient of the normed row, the cotangent `e` already multiplied by the gain. -/
def lnBwd : ℝ := rms 256 (cen y) * (e j - (∑ k, e k) / 256 - nrm y j * ((∑ k, e k * nrm y k) / 256))

/-- The scale of the mean square's cotangent, as the vector-Jacobian product has it. -/
def half : ℝ := (∑ k, cen y k * e k) * (-(1 / 2) * (rms 256 (cen y) / ((∑ k, cen y k * cen y k) / 256 + eps))) / 256

theorem lnBwd_vjp : (e j * rms 256 (cen y) + cen y j * half y e + half y e * cen y j)
    + (∑ k, -(e k * rms 256 (cen y) + cen y k * half y e + half y e * cen y k)) / 256 = lnBwd y e j := by
  have h1 : ∑ k, -(e k * rms 256 (cen y) + cen y k * half y e + half y e * cen y k)
      = -((∑ k, e k) * rms 256 (cen y)) - 2 * half y e * ∑ k, cen y k := by
    rw [Finset.sum_mul, Finset.mul_sum, ← Finset.sum_neg_distrib, ← Finset.sum_sub_distrib]
    exact Finset.sum_congr rfl fun k _ => by ring
  have h2 : ∑ k, e k * nrm y k = rms 256 (cen y) * ∑ k, cen y k * e k := by
    rw [Finset.mul_sum]; exact Finset.sum_congr rfl fun k _ => by unfold nrm; ring
  rw [h1, cen_sum]
  unfold lnBwd
  rw [h2]
  unfold half nrm
  rw [rms_cube (by norm_num)]
  ring

/-! ## The swish behind the norm and the gate beside it -/

/-- The swish's argument. -/
def zOf : ℝ := nrm y j * g j + b j
/-- The cotangent of the swish's argument. -/
def dzOf : ℝ := d j * (G j * sg (G j)) * (sg (zOf y g b j) * (1 + zOf y g b j * (1 - sg (zOf y g b j))))
/-- The cotangent of the gate's argument. -/
def dgateOf : ℝ := d j * (zOf y g b j * sg (zOf y g b j)) * (sg (G j) * (1 + G j * (1 - sg (G j))))

/-! ## A row of extended reals that is a row of reals -/

variable {Y : Fin 256 → EReal} (hY : ∀ k, Y k = (y k : EReal))

include hY in
theorem cen_eq : Y j - Ideal.div (∑ k, Y k) ((256 : ℝ) : EReal) = (cen y j : EReal) := by
  simp only [hY, coe_sum]
  rw [div_coe_coe (by norm_num), ← EReal.coe_sub]; rfl

theorem nrm_eq : (cen y j : EReal) * (rms 256 (cen y) : EReal) = (nrm y j : EReal) := by
  rw [← EReal.coe_mul]; rfl

theorem z_eq : (nrm y j : EReal) * (g j : EReal) + (b j : EReal) = (zOf y g b j : EReal) := by
  rw [← EReal.coe_mul, ← EReal.coe_add]; rfl

/-- The swish's gradient as a kernel body writes it. -/
theorem dact_eq (x : ℝ) : (sg x : EReal) * (1 + (x : EReal) * (1 - (sg x : EReal))) = ((sg x * (1 + x * (1 - sg x)) : ℝ) : EReal) := by
  rw [← EReal.coe_one, ← EReal.coe_sub, ← EReal.coe_mul, ← EReal.coe_add, ← EReal.coe_mul]

/-- The cotangent through a swish as the vector-Jacobian product writes it. -/
theorem dact_vjp (x q : ℝ) : (q : EReal) * (sg x : EReal) + (x : EReal) * (q : EReal) * ((sg x : EReal) * (1 - (sg x : EReal)))
    = ((q * (sg x * (1 + x * (1 - sg x))) : ℝ) : EReal) := by
  rw [← EReal.coe_one, ← EReal.coe_sub]
  simp only [← EReal.coe_mul, ← EReal.coe_add]
  exact congrArg Real.toEReal (by ring)

/-- The norm's gradient as a kernel body writes it. -/
theorem lnBwd_kernel : (rms 256 (cen y) : EReal) * ((e j : EReal) - Ideal.div (∑ k, (e k : EReal)) ((256 : ℝ) : EReal)
    - (nrm y j : EReal) * Ideal.div (∑ k, (e k : EReal) * (nrm y k : EReal)) ((256 : ℝ) : EReal)) = (lnBwd y e j : EReal) := by
  simp only [← EReal.coe_mul, coe_sum]
  rw [div_coe_coe (by norm_num), div_coe_coe (by norm_num)]
  simp only [← EReal.coe_mul, ← EReal.coe_sub]
  rfl

/-- A number that is a real. -/
def IsR (x : EReal) : Prop := ∃ r : ℝ, x = (r : EReal)

theorem IsR.add {x y : EReal} : IsR x → IsR y → IsR (x + y) := fun ⟨a, ha⟩ ⟨b, hb⟩ => ⟨a + b, by rw [ha, hb, EReal.coe_add]⟩
theorem IsR.mul {x y : EReal} : IsR x → IsR y → IsR (x * y) := fun ⟨a, ha⟩ ⟨b, hb⟩ => ⟨a * b, by rw [ha, hb, EReal.coe_mul]⟩
theorem IsR.zero : IsR 0 := ⟨0, EReal.coe_zero.symm⟩

/-- The logistic function of an extended real, as a kernel body spells it. -/
def sgE (x : EReal) : EReal := Ideal.div 1 (1 + Ideal.exp (0 - x))
theorem sgE_coe (x : ℝ) : sgE (x : EReal) = (sg x : EReal) := sg_kernel x
/-- As a host spells it. -/
theorem sgE_host (x : EReal) : Ideal.div 1 (1 + Ideal.exp (-x)) = sgE x := by
  unfold sgE; rw [zero_sub]

end Cert.Ln

end
-- ==== Proof.ConvBwdARef.lean ====
/- The reference of the convolution branch's first gradient call, read at an index. -/
module

public import proofs.«01_k».proof.Proof.LnMath
public import proofs.«01_k».proof.Proof.Gen.ConvBwdARefIdeal.Run
public import Idealize.ShloMosaic.Lib.Pointwise

@[expose] public section

set_option maxRecDepth 16384

noncomputable section

open Idealize.ShloMosaic Idealize.ShloMosaic.TcCoe Idealize.SL.Sem

namespace Cert.ConvBwdAClaims

open Cert.Reals Cert.Ln
open Cert.ConvBwdARefIdeal Cert.ConvBwdARefIdeal.Facts₀

abbrev T3 := FVec Ideal S1x16384x256 .f32
abbrev C3 := FVec Ideal S1x16384x1 .f32

/-- The gated half, zero off the sequence: row `n` is the sequence's row `n - 16`. -/
def hrow (p : (⟨3, ![1, 16384, 2816]⟩ : Shape).Idx → EReal) (n : ℕ) (f : Fin 256) : EReal :=
  if h : 16 ≤ n ∧ n < 16400 then p (ix3 0 ⟨n - 16, by omega⟩ ⟨1280 + f.val, by omega⟩) * sgE (p (ix3 0 ⟨n - 16, by omega⟩ ⟨1536 + f.val, by omega⟩)) else 0

theorem hrow_in (p : (⟨3, ![1, 16384, 2816]⟩ : Shape).Idx → EReal) (n : ℕ) (f : Fin 256) (s : Fin 16384) (h : n = s.val + 16) :
    hrow p n f = p (ix3 0 s ⟨1280 + f.val, by omega⟩) * sgE (p (ix3 0 s ⟨1536 + f.val, by omega⟩)) := by
  subst h
  unfold hrow
  rw [dif_pos (by omega)]
  exact congrArg (fun s => p (ix3 0 s ⟨1280 + f.val, by omega⟩) * sgE (p (ix3 0 s ⟨1536 + f.val, by omega⟩))) (Fin.ext (Nat.add_sub_cancel _ _))

/-- The logistic function of an array. -/
def refSig (x : T3) : T3 :=
  Host.divf (broadcastInDim S1x16384x256 ![] bcast_S_S1x16384x256 (constant S_ .f32 0x3F800000#32)) (addf (broadcastInDim S1x16384x256 ![] bcast_S_S1x16384x256 (constant S_ .f32 0x3F800000#32)) (Host.exp (Host.negf x)))

theorem refSig_at (x : T3) (s : Fin 16384) (f : Fin 256) : refSig x (ix3 0 s f) = sgE (x (ix3 0 s f)) := by
  pointwise [refSig]
  exact sgE_host _

def refA (p : FVec Ideal S1x16384x2816 .f32) : T3 :=
  extractStridedSlice S1x16384x256 ![0, 0, 0] (extractStridedSlice S1x16384x512 ![0, 0, 1280] p slices_S1x16384x2816_S1x16384x512_0_0_1280) slices_S1x16384x512_S1x16384x256_0_0_0
def refB (p : FVec Ideal S1x16384x2816 .f32) : T3 :=
  extractStridedSlice S1x16384x256 ![0, 0, 256] (extractStridedSlice S1x16384x512 ![0, 0, 1280] p slices_S1x16384x2816_S1x16384x512_0_0_1280) slices_S1x16384x512_S1x16384x256_0_0_256
/-- The gate. -/
def refG (p : FVec Ideal S1x16384x2816 .f32) : T3 :=
  extractStridedSlice S1x16384x256 ![0, 0, 1792] p slices_S1x16384x2816_S1x16384x256_0_0_1792

theorem refA_at (p : FVec Ideal S1x16384x2816 .f32) (s : Fin 16384) (f : Fin 256) : refA p (ix3 0 s f) = p (ix3 0 s ⟨1280 + f.val, by omega⟩) := by
  pointwise [refA]
theorem refB_at (p : FVec Ideal S1x16384x2816 .f32) (s : Fin 16384) (f : Fin 256) : refB p (ix3 0 s f) = p (ix3 0 s ⟨1536 + f.val, by omega⟩) := by
  pointwise [refB]
  exact congrArg (fun k => p (ix3 0 s k)) (Fin.ext (show 1280 + (256 + f.val) = 1536 + f.val by omega))
theorem refG_at (p : FVec Ideal S1x16384x2816 .f32) (s : Fin 16384) (f : Fin 256) : refG p (ix3 0 s f) = p (ix3 0 s ⟨1792 + f.val, by omega⟩) := by
  pointwise [refG]

def refZ15 : FVec Ideal S1x15x256 .f32 := broadcastInDim S1x15x256 ![] bcast_S_S1x15x256 (constant S_ .f32 0x00000000#32)
/-- The gated half between zeros. -/
def refHP (h : T3) : FVec Ideal S1x16414x256 .f32 :=
  concatenate S1x16414x256 1 [⟨S1x15x256, refZ15⟩, ⟨S1x16384x256, h⟩, ⟨S1x15x256, refZ15⟩] concatenates_S1x15x256_S1x16384x256_S1x15x256_S1x16414x256_d1

theorem refHP_at (p : FVec Ideal S1x16384x2816 .f32) (s : Fin 16414) (f : Fin 256) :
    refHP (mulf (refA p) (refSig (refB p))) (ix3 0 s f) = hrow p (s.val + 1) f := by
  pointwise [refHP, refZ15]
  by_cases h : s.val < 15
  · rw [dif_pos h]
    unfold hrow
    rw [dif_neg (by omega)]
  · rw [dif_neg h]
    by_cases h2 : s.val - 15 < 16384
    · rw [dif_pos h2, hrow_in p _ f ⟨s.val - 15, h2⟩ (show s.val + 1 = s.val - 15 + 16 by omega), refA_at, refSig_at, refB_at]
    · rw [dif_neg h2]
      unfold hrow
      rw [dif_neg (by omega)]

theorem slices_row (k : ℕ) (h : k < 31) : S31x256.Slices ![k, 0] S1x256 := by
  interval_cases k <;> decide
theorem slices_hp (k : ℕ) (h : k < 31) : S1x16414x256.Slices ![0, k, 0] S1x16384x256 := by
  interval_cases k <;> decide
theorem pads_row (k : ℕ) (h : k < 31) : S1x256.Pads (![k, 0] : Fin 2 → Nat) ![30 - k, 0] ![0, 0] S31x256 := by
  interval_cases k <;> decide

/-- One tap of the convolution. -/
def tapY (hp : FVec Ideal S1x16414x256 .f32) (w : FVec Ideal S31x256 .f32) (k : ℕ) (hk : k < 31) : T3 :=
  mulf (extractStridedSlice S1x16384x256 ![0, k, 0] hp (slices_hp k hk)) (broadcastInDim S1x16384x256 ![0, 1, 2] bcast_S1x1x256_S1x16384x256_0_1_2 (broadcastInDim S1x1x256 ![2] bcast_S256_S1x1x256_2 (shapeCast _ (extractStridedSlice S1x256 ![k, 0] w (slices_row k hk)) shapeCasts_S1x256_S256)))

theorem tapY_at (hp : FVec Ideal S1x16414x256 .f32) (w : FVec Ideal S31x256 .f32) (k : ℕ) (hk : k < 31) (s : Fin 16384) (f : Fin 256) :
    tapY hp w k hk (ix3 0 s f) = hp (ix3 0 ⟨k + s.val, by omega⟩ f) * w (ix2 ⟨k, hk⟩ f) := by
  pointwise [tapY]

/-- The convolution's taps up to `n`. -/
def accY (hp : FVec Ideal S1x16414x256 .f32) (w : FVec Ideal S31x256 .f32) : (n : ℕ) → n < 31 → T3
  | 0, h => addf (broadcastInDim S1x16384x256 ![] bcast_S_S1x16384x256 (constant S_ .f32 0x00000000#32)) (tapY hp w 0 h)
  | n + 1, h => addf (accY hp w n (by omega)) (tapY hp w (n + 1) h)

/-- The convolution. -/
def refY (hp : FVec Ideal S1x16414x256 .f32) (w : FVec Ideal S31x256 .f32) (b : FVec Ideal S256 .f32) : T3 :=
  addf (accY hp w 30 (by decide)) (broadcastInDim S1x16384x256 ![0, 1, 2] bcast_S1x1x256_S1x16384x256_0_1_2 (broadcastInDim S1x1x256 ![2] bcast_S256_S1x1x256_2 b))

section RealY
variable (hp : FVec Ideal S1x16414x256 .f32) (w : FVec Ideal S31x256 .f32) (b : FVec Ideal S256 .f32)
  (hhp : ∀ s f, IsR (hp (ix3 0 s f))) (hw : ∀ k f, IsR (w (ix2 k f))) (hb : ∀ f, IsR (b (ix1 f)))
include hhp hw

theorem accY_real (s : Fin 16384) (f : Fin 256) : ∀ (n : ℕ) (h : n < 31), IsR (accY hp w n h (ix3 0 s f))
  | 0, h => by
    have e : accY hp w 0 h (ix3 0 s f) = (0 : EReal) + tapY hp w 0 h (ix3 0 s f) := by
      show Ideal.ofBits .f32 0#32 + _ = _
      congr 1
      simp [Ideal.ofBits, Ideal.ieee]
    rw [e, zero_add, tapY_at]
    exact (hhp _ _).mul (hw _ _)
  | n + 1, h => by
    have e : accY hp w (n + 1) h (ix3 0 s f) = accY hp w n (by omega) (ix3 0 s f) + tapY hp w (n + 1) h (ix3 0 s f) := rfl
    rw [e, tapY_at]
    exact (accY_real s f n (by omega)).add ((hhp _ _).mul (hw _ _))

include hb in
theorem refY_real (s : Fin 16384) (f : Fin 256) : IsR (refY hp w b (ix3 0 s f)) := by
  pointwise [refY]
  exact (accY_real hp w hhp hw s f 30 (by decide)).add (hb f)
end RealY

theorem hrow_real (p : (⟨3, ![1, 16384, 2816]⟩ : Shape).Idx → EReal) (hp : ∀ i, IsR (p i)) (n : ℕ) (f : Fin 256) : IsR (hrow p n f) := by
  unfold hrow
  split_ifs
  · refine (hp _).mul ?_
    obtain ⟨r, hr⟩ := hp (ix3 0 ⟨n - 16, by omega⟩ ⟨1536 + f.val, by omega⟩)
    exact ⟨sg r, by rw [hr, sgE_coe]⟩
  · exact IsR.zero

/-! ## The layer norm -/

def refCen (Y : T3) : T3 :=
  subf Y (broadcastInDim S1x16384x256 ![0, 1, 2] bcast_S1x16384x1_S1x16384x256_0_1_2 (Host.divf (broadcastInDim S1x16384x1 ![0, 1] bcast_S1x16384_S1x16384x1_0_1 (Host.reduceAdd Y (constant S_ .f32 0x00000000#32) reducesTo_S1x16384x256_S1x16384_d2 h_S_)) (broadcastInDim S1x16384x1 ![] bcast_S_S1x16384x1 (constant S_ .f32 0x43800000#32))))
def refVar (C : T3) : C3 :=
  addf (Host.divf (broadcastInDim S1x16384x1 ![0, 1] bcast_S1x16384_S1x16384x1_0_1 (Host.reduceAdd (mulf C C) (constant S_ .f32 0x00000000#32) reducesTo_S1x16384x256_S1x16384_d2 h_S_)) (broadcastInDim S1x16384x1 ![] bcast_S_S1x16384x1 (constant S_ .f32 0x43800000#32))) (broadcastInDim S1x16384x1 ![] bcast_S_S1x16384x1 (constant S_ .f32 0x358637BD#32))
def refN (C : T3) (R : C3) : T3 := mulf C (broadcastInDim S1x16384x256 ![0, 1, 2] bcast_S1x16384x1_S1x16384x256_0_1_2 R)
def refRow (g : FVec Ideal S256 .f32) : T3 := broadcastInDim S1x16384x256 ![0, 1, 2] bcast_S1x1x256_S1x16384x256_0_1_2 (broadcastInDim S1x1x256 ![2] bcast_S256_S1x1x256_2 g)
def refOne : T3 := broadcastInDim S1x16384x256 ![] bcast_S_S1x16384x256 (constant S_ .f32 0x3F800000#32)
/-- The cotangent `q` through a swish at `z`, `s` its logistic function. -/
def refDAct (z s q : T3) : T3 := addf (mulf q s) (mulf (mulf z q) (mulf s (subf refOne s)))
/-- The mean square's share of the gradient. -/
def refC (C E : T3) (V R : C3) : T3 :=
  broadcastInDim S1x16384x256 ![0, 1] bcast_S1x16384_S1x16384x256_0_1 (broadcastInDim S1x16384 ![1] bcast_S16384_S1x16384_1 (Host.reduceAdd (Host.divf (mulf (shapeCast _ (Host.reduceAdd (mulf C E) (constant S_ .f32 0x00000000#32) reducesTo_S1x16384x256_S1x16384_d2 h_S_) shapeCasts_S1x16384_S1x16384x1) (mulf (broadcastInDim S1x16384x1 ![] bcast_S_S1x16384x1 (constant S_ .f32 0xBF000000#32)) (Host.divf R V))) (broadcastInDim S1x16384x1 ![] bcast_S_S1x16384x1 (constant S_ .f32 0x43800000#32))) (constant S_ .f32 0x00000000#32) reducesTo_S1x16384x1_S16384_d0_2 h_S_))
def refDC (C E K : T3) (R : C3) : T3 :=
  addf (addf (mulf E (broadcastInDim S1x16384x256 ![0, 1, 2] bcast_S1x16384x1_S1x16384x256_0_1_2 R)) (mulf C K)) (mulf K C)
def refDY (X : T3) : T3 :=
  addf X (broadcastInDim S1x16384x256 ![0, 1] bcast_S1x16384_S1x16384x256_0_1 (broadcastInDim S1x16384 ![1] bcast_S16384_S1x16384_1 (Host.reduceAdd (Host.divf (shapeCast _ (Host.reduceAdd (Host.negf X) (constant S_ .f32 0x00000000#32) reducesTo_S1x16384x256_S1x16384_d2 h_S_) shapeCasts_S1x16384_S1x16384x1) (broadcastInDim S1x16384x1 ![] bcast_S_S1x16384x1 (constant S_ .f32 0x43800000#32))) (constant S_ .f32 0x00000000#32) reducesTo_S1x16384x1_S16384_d0_2 h_S_)))
/-- The sum over the sequence. -/
def refSum (X : T3) : FVec Ideal S256 .f32 :=
  Host.reduceAdd (shapeCast _ (Host.reduceAdd X (constant S_ .f32 0x00000000#32) reducesTo_S1x16384x256_S1x256_d1 h_S_) shapeCasts_S1x256_S1x1x256) (constant S_ .f32 0x00000000#32) reducesTo_S1x1x256_S256_d0_1 h_S_

theorem refSum_at (X : T3) (f : Fin 256) : refSum X (ix1 f) = ∑ s : Fin 16384, X (ix3 0 s f) := by
  pointwise [refSum, sum_unit_01]

section Rows
variable (y g b G d e : Fin 256 → ℝ) (s : Fin 16384) (f : Fin 256)

theorem refCen_at (Y : T3) (hY : ∀ k, Y (ix3 0 s k) = (y k : EReal)) : refCen Y (ix3 0 s f) = (cen y f : EReal) := by
  pointwise [refCen]
  rw [word_256]
  exact cen_eq y f hY

variable {C : T3} (hC : ∀ k, C (ix3 0 s k) = (cen y k : EReal))
include hC

theorem refVar_at : refVar C (ix3 0 s 0) = (((∑ k, cen y k * cen y k) / 256 + eps : ℝ) : EReal) := by
  pointwise [refVar]
  rw [word_256, word_eps]
  simp only [hC, ← EReal.coe_mul, coe_sum]
  rw [div_coe_coe (by norm_num), ← EReal.coe_add]

theorem refRs_at : (Host.rsqrt (refVar C) : C3) (ix3 0 s 0) = (rms 256 (cen y) : EReal) := by
  refine (congrArg Ideal.rsqrt (refVar_at y s hC)).trans ?_
  rw [rsqrt_pos (sq_pos (by norm_num) _)]; rfl

theorem refN_at : refN C (Host.rsqrt (refVar C)) (ix3 0 s f) = (nrm y f : EReal) := by
  have h : refN C (Host.rsqrt (refVar C)) (ix3 0 s f) = C (ix3 0 s f) * (Host.rsqrt (refVar C) : C3) (ix3 0 s 0) := by
    generalize (Host.rsqrt (refVar C) : C3) = R
    pointwise [refN]
  rw [h, refRs_at y s hC, hC, nrm_eq]

variable {E : T3} (hE : ∀ k, E (ix3 0 s k) = (e k : EReal))
include hE

theorem refC_at : refC C E (refVar C) (Host.rsqrt (refVar C)) (ix3 0 s f) = (half y e : EReal) := by
  have h1 := refVar_at y s hC
  have h2 := refRs_at y s hC
  generalize (Host.rsqrt (refVar C) : C3) = R at h2 ⊢
  generalize refVar C = V at h1 ⊢
  pointwise [refC, sum_unit_02]
  rw [word_256, word_neg_half, h1, h2]
  simp only [hC, hE, ← EReal.coe_mul, coe_sum]
  rw [div_coe_coe (sq_pos (by norm_num) _).ne']
  simp only [← EReal.coe_mul]
  rw [div_coe_coe (by norm_num)]
  rfl

theorem refDC_at : refDC C E (refC C E (refVar C) (Host.rsqrt (refVar C))) (Host.rsqrt (refVar C)) (ix3 0 s f)
    = ((e f * rms 256 (cen y) + cen y f * half y e + half y e * cen y f : ℝ) : EReal) := by
  have h1 := refC_at y e s f hC hE
  have h2 := refRs_at y s hC
  generalize refC C E (refVar C) (Host.rsqrt (refVar C)) = K at h1 ⊢
  generalize (Host.rsqrt (refVar C) : C3) = R at h2 ⊢
  pointwise [refDC]
  rw [h1, h2, hC, hE]
  simp only [← EReal.coe_mul, ← EReal.coe_add]

/-- The layer norm's gradient. -/
theorem refDY_at : refDY (refDC C E (refC C E (refVar C) (Host.rsqrt (refVar C))) (Host.rsqrt (refVar C))) (ix3 0 s f) = (lnBwd y e f : EReal) := by
  have h1 := fun k => refDC_at y e s k hC hE
  generalize refDC C E (refC C E (refVar C) (Host.rsqrt (refVar C))) (Host.rsqrt (refVar C)) = X at h1 ⊢
  pointwise [refDY, sum_unit_02]
  rw [word_256]
  simp only [h1, ← EReal.coe_neg, coe_sum]
  rw [div_coe_coe (by norm_num), ← EReal.coe_add, lnBwd_vjp]

end Rows

section Act
variable (s : Fin 16384) (f : Fin 256)

theorem refDAct_at (z S q : T3) (x r : ℝ) (hz : z (ix3 0 s f) = (x : EReal)) (hS : S (ix3 0 s f) = (sg x : EReal)) (hq : q (ix3 0 s f) = (r : EReal)) :
    refDAct z S q (ix3 0 s f) = ((r * (sg x * (1 + x * (1 - sg x))) : ℝ) : EReal) := by
  pointwise [refDAct, refOne]
  rw [hz, hS, hq, dact_vjp]

theorem refRow_at (g : FVec Ideal S256 .f32) : refRow g (ix3 0 s f) = g (ix1 f) := by
  pointwise [refRow]
end Act

/-! ## The taps' gradient -/

/-- One tap's gradient, in its row. -/
def partW (hp : FVec Ideal S1x16414x256 .f32) (dy : T3) (k : ℕ) (hk : k < 31) : FVec Ideal S31x256 .f32 :=
  pad S31x256 ![k, 0] ![30 - k, 0] ![0, 0] (broadcastInDim S1x256 ![1] bcast_S256_S1x256_1 (refSum (mulf (extractStridedSlice S1x16384x256 ![0, k, 0] hp (slices_hp k hk)) dy))) (constant S_ .f32 0x00000000#32) (pads_row k hk) h_S_

theorem partW_at (hp : FVec Ideal S1x16414x256 .f32) (dy : T3) (k : ℕ) (hk : k < 31) (r : Fin 31) (f : Fin 256) :
    partW hp dy k hk (ix2 r f) = if r.val = k then ∑ s : Fin 16384, hp (ix3 0 ⟨k + s.val, by omega⟩ f) * dy (ix3 0 s f) else 0 := by
  have h := refSum_at (mulf (extractStridedSlice S1x16384x256 ![0, k, 0] hp (slices_hp k hk)) dy) f
  have h2 : ∀ s : Fin 16384, (mulf (extractStridedSlice S1x16384x256 ![0, k, 0] hp (slices_hp k hk)) dy) (ix3 0 s f) = hp (ix3 0 ⟨k + s.val, by omega⟩ f) * dy (ix3 0 s f) := fun s => by
    pointwise []
  unfold partW
  generalize refSum (mulf (extractStridedSlice S1x16384x256 ![0, k, 0] hp (slices_hp k hk)) dy) = X at h ⊢
  simp only [h2] at h
  pointwise []
  rw [h]
  by_cases h1 : r.val = k
  · rw [dif_pos (by omega), if_pos h1]
  · rw [dif_neg (by omega), if_neg h1]

/-- The taps' gradients from the last to the first. -/
def accW (hp : FVec Ideal S1x16414x256 .f32) (dy : T3) : (n : ℕ) → n < 31 → FVec Ideal S31x256 .f32
  | 0, _ => partW hp dy 30 (by decide)
  | n + 1, _ => addf (accW hp dy n (by omega)) (partW hp dy (29 - n) (by omega))

theorem accW_at (hp : FVec Ideal S1x16414x256 .f32) (dy : T3) (r : Fin 31) (f : Fin 256) : ∀ (n : ℕ) (h : n < 31),
    accW hp dy n h (ix2 r f) = if 30 - n ≤ r.val then ∑ s : Fin 16384, hp (ix3 0 ⟨r.val + s.val, by omega⟩ f) * dy (ix3 0 s f) else 0
  | 0, _ => by
    refine (partW_at hp dy 30 _ r f).trans ?_
    by_cases h : r.val = 30
    · rw [if_pos h, if_pos (by omega)]
      simp only [h]
    · rw [if_neg h, if_neg (by omega)]
  | n + 1, h => by
    have e : accW hp dy (n + 1) h (ix2 r f) = accW hp dy n (by omega) (ix2 r f) + partW hp dy (29 - n) (by omega) (ix2 r f) := rfl
    rw [e, accW_at hp dy r f n (by omega), partW_at]
    by_cases h1 : r.val = 29 - n
    · rw [if_neg (by omega), if_pos h1, if_pos (by omega), zero_add]
      simp only [h1]
    · rw [if_neg h1, add_zero]
      by_cases h2 : 30 - n ≤ r.val
      · rw [if_pos h2, if_pos (by omega)]
      · rw [if_neg h2, if_neg (by omega)]

end Cert.ConvBwdAClaims

end
-- ==== Proof.ConvBwdABody.lean ====
/- The first gradient call of the convolution branch: its body's values on rows of reals, and its windows. -/
module

public import proofs.«01_k».proof.Proof.ConvTaps
public import proofs.«01_k».proof.Proof.ConvBwdARef
public import proofs.«01_k».proof.Proof.Gen.ConvBwdAIdeal.Value
public import proofs.«01_k».proof.Defs
public import Idealize.ShloMosaic.Lib.Pointwise
public import Idealize.ShloMosaic.Lib.Pipeline.CanonAppend
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvBwdAClaims

open Cert.Reals Cert.ConvTaps Cert.Ln

section Kernel
open Cert.ConvBwdAIdeal Cert.ConvBwdAIdeal.Gen

/-! ## The body's values on a row of reals -/

section Body
variable (a : Fin 512) (f : Fin 256) (y g b G d : Fin 256 → ℝ)
  {Y Gv Dv : FVec Ideal S512x256 .f32} {gv bv : FVec Ideal S1x256 .f32}
  (hY : ∀ k, Y (ix2 a k) = (y k : EReal)) (hG : ∀ k, Gv (ix2 a k) = (G k : EReal)) (hD : ∀ k, Dv (ix2 a k) = (d k : EReal))
  (hg : ∀ k, gv (ix2 0 k) = (g k : EReal)) (hb : ∀ k, bv (ix2 0 k) = (b k : EReal))

include hY in
theorem pay15_at : k0_pay15 (F := Ideal) Y (ix2 a f) = (cen y f : EReal) := by
  pointwise [k0_pay15]
  rw [word_256]
  exact cen_eq y f hY

include hY in
theorem pay17_at : k0_pay17 (F := Ideal) (k0_pay16 (F := Ideal) Y) (ix2 a 0) = (rms 256 (cen y) : EReal) := by
  have h : ∀ k, k0_pay16 (F := Ideal) Y (ix2 a k) = (cen y k : EReal) * (cen y k : EReal) := fun k => by
    pointwise [k0_pay16]
    rw [pay15_at a k y hY]
  generalize k0_pay16 (F := Ideal) Y = S at h ⊢
  pointwise [k0_pay17]
  rw [word_256, word_eps]
  simp only [h]
  exact rms_eq (by norm_num) _

include hY in
theorem pay18_at : k0_pay18 (F := Ideal) (k0_pay15 (F := Ideal) Y) (k0_pay16 (F := Ideal) Y) (ix2 a f) = (nrm y f : EReal) := by
  have h1 := pay15_at a f y hY
  have h2 := pay17_at a y hY
  generalize k0_pay15 (F := Ideal) Y = C at h1 ⊢
  generalize k0_pay16 (F := Ideal) Y = S at h2 ⊢
  pointwise [k0_pay18]
  rw [h1, h2, nrm_eq]

include hY hg hb in
theorem pay22_at : k0_pay22 (F := Ideal) (k0_pay15 (F := Ideal) Y) (k0_pay16 (F := Ideal) Y) gv bv (ix2 a f)
    = ((sg (zOf y g b f) * (1 + zOf y g b f * (1 - sg (zOf y g b f))) : ℝ) : EReal) := by
  have h1 := pay15_at a f y hY
  have h2 := pay17_at a y hY
  generalize k0_pay15 (F := Ideal) Y = C at h1 ⊢
  generalize k0_pay16 (F := Ideal) Y = S at h2 ⊢
  pointwise [k0_pay22, k0_pay21, k0_pay20, k0_pay19, k0_pay18]
  rw [h1, h2, nrm_eq, hg, hb, z_eq, sg_kernel, dact_eq]

include hY hg hb in
theorem pay21_at : k0_pay21 (F := Ideal) (k0_pay15 (F := Ideal) Y) (k0_pay16 (F := Ideal) Y) gv bv (ix2 a f)
    = ((zOf y g b f * sg (zOf y g b f) : ℝ) : EReal) := by
  have h1 := pay15_at a f y hY
  have h2 := pay17_at a y hY
  generalize k0_pay15 (F := Ideal) Y = C at h1 ⊢
  generalize k0_pay16 (F := Ideal) Y = S at h2 ⊢
  pointwise [k0_pay21, k0_pay20, k0_pay19, k0_pay18]
  rw [h1, h2, nrm_eq, hg, hb, z_eq, sg_kernel, ← EReal.coe_mul]

include hG in
theorem pay25_at : k0_pay25 (F := Ideal) Gv (ix2 a f) = ((G f * sg (G f) : ℝ) : EReal) := by
  pointwise [k0_pay25, k0_pay24, k0_pay23]
  rw [hG, sg_kernel, ← EReal.coe_mul]

include hY hG hD hg hb in
theorem pay28_at : k0_pay28 (F := Ideal) (k0_pay21 (F := Ideal) (k0_pay15 (F := Ideal) Y) (k0_pay16 (F := Ideal) Y) gv bv) (k0_pay23 (F := Ideal) Gv) (k0_pay24 (F := Ideal) Gv) (k0_pay26 (F := Ideal) Gv) Dv (ix2 a f)
    = (dgateOf y g b G d f : EReal) := by
  have h := pay21_at a f y g b hY hg hb
  generalize k0_pay21 (F := Ideal) (k0_pay15 (F := Ideal) Y) (k0_pay16 (F := Ideal) Y) gv bv = Z at h ⊢
  pointwise [k0_pay28, k0_pay27, k0_pay26, k0_pay24, k0_pay23]
  rw [h, hG, hD, sg_kernel, dact_eq]
  simp only [← EReal.coe_mul]
  rfl

include hY hG hD hg hb in
theorem pay29_at : k0_pay29 (F := Ideal) (k0_pay22 (F := Ideal) (k0_pay15 (F := Ideal) Y) (k0_pay16 (F := Ideal) Y) gv bv) (k0_pay25 (F := Ideal) Gv) Dv (ix2 a f)
    = (dzOf y g b G d f : EReal) := by
  have h := pay22_at a f y g b hY hg hb
  have h' := pay25_at a f G hG
  generalize k0_pay22 (F := Ideal) (k0_pay15 (F := Ideal) Y) (k0_pay16 (F := Ideal) Y) gv bv = Z at h ⊢
  generalize k0_pay25 (F := Ideal) Gv = W at h' ⊢
  pointwise [k0_pay29, k0_pay27]
  rw [h, h', hD]
  simp only [← EReal.coe_mul]
  rfl

include hY hG hD hg hb in
theorem pay36_at : k0_pay36 (F := Ideal) (k0_pay18 (F := Ideal) (k0_pay15 (F := Ideal) Y) (k0_pay16 (F := Ideal) Y)) (k0_pay22 (F := Ideal) (k0_pay15 (F := Ideal) Y) (k0_pay16 (F := Ideal) Y) gv bv) (k0_pay25 (F := Ideal) Gv) Dv (ix2 a f)
    = (dzOf y g b G d f : EReal) * (nrm y f : EReal) := by
  refine Eq.trans ?_ (Ideal.mul_congr (pay29_at a f y g b G d hY hG hD hg hb) (pay18_at a f y hY))
  generalize k0_pay22 (F := Ideal) (k0_pay15 (F := Ideal) Y) (k0_pay16 (F := Ideal) Y) gv bv = Z
  generalize k0_pay18 (F := Ideal) (k0_pay15 (F := Ideal) Y) (k0_pay16 (F := Ideal) Y) = Z'
  pointwise [k0_pay36]

include hY hG hD hg hb in
theorem pay30_at : k0_pay30 (F := Ideal) (k0_pay17 (F := Ideal) (k0_pay16 (F := Ideal) Y)) (k0_pay18 (F := Ideal) (k0_pay15 (F := Ideal) Y) (k0_pay16 (F := Ideal) Y)) (k0_pay22 (F := Ideal) (k0_pay15 (F := Ideal) Y) (k0_pay16 (F := Ideal) Y) gv bv) (k0_pay25 (F := Ideal) Gv) Dv gv (ix2 a f)
    = (lnBwd y (fun k => dzOf y g b G d k * g k) f : EReal) := by
  have h1 := fun k => pay29_at a k y g b G d hY hG hD hg hb
  have h2 := pay17_at a y hY
  have h3 := fun k => pay18_at a k y hY
  generalize k0_pay22 (F := Ideal) (k0_pay15 (F := Ideal) Y) (k0_pay16 (F := Ideal) Y) gv bv = Z at h1 ⊢
  generalize k0_pay25 (F := Ideal) Gv = W at h1 ⊢
  generalize k0_pay18 (F := Ideal) (k0_pay15 (F := Ideal) Y) (k0_pay16 (F := Ideal) Y) = N at h3 ⊢
  generalize k0_pay17 (F := Ideal) (k0_pay16 (F := Ideal) Y) = R at h2 ⊢
  have e : ∀ k, Dv (ix2 a k) * W (ix2 a k) * Z (ix2 a k) * gv (ix2 0 k) = ((dzOf y g b G d k * g k : ℝ) : EReal) := fun k => by
    rw [EReal.coe_mul, ← h1 k, ← hg k]
    refine Ideal.mul_congr ?_ rfl
    pointwise [k0_pay29, k0_pay27]
  pointwise [k0_pay30, k0_pay29, k0_pay27]
  rw [word_256, h2]
  simp only [e, h3]
  exact lnBwd_kernel y (fun k => dzOf y g b G d k * g k) f

theorem sum_pay (D : FVec Ideal S512x256 .f32) (r : FVec Ideal S1x256 .f32) : k0_pay39 (F := Ideal) D r (ix2 0 f) = r (ix2 0 f) + ∑ a : Fin 512, D (ix2 a f) := by
  pointwise [k0_pay39]
theorem sum_pay38 (D : FVec Ideal S512x256 .f32) (r : FVec Ideal S1x256 .f32) : k0_pay38 (F := Ideal) D r (ix2 0 f) = r (ix2 0 f) + ∑ a : Fin 512, D (ix2 a f) := by
  pointwise [k0_pay38]
theorem sum_pay37 (D : FVec Ideal S512x256 .f32) (r : FVec Ideal S1x256 .f32) : k0_pay37 (F := Ideal) (k0_pay35 (F := Ideal) r) D (ix2 0 f) = r (ix2 0 f) + ∑ a : Fin 512, D (ix2 a f) := by
  pointwise [k0_pay37, k0_pay35]
theorem row_pay (D : FVec Ideal S512x256 .f32) (r : FVec Ideal S1x256 .f32) (T : FVec Ideal S1x512x256 .f32) :
    k0_pay40 (F := Ideal) D r T (ix2 0 f) = r (ix2 0 f) + ∑ a : Fin 512, D (ix2 a f) * T (ix3 0 a f) := by
  pointwise [k0_pay40]
end Body

/-! ## The rows of the taps' gradient -/

theorem inbR (k : Fin 31) : ∀ a, (![k.val, 0] : Fin 2 → ℕ) a + (![1, 256] : Fin 2 → ℕ) a ≤ S31x256.size a := by
  intro a; fin_cases a
  · exact show k.val + 1 ≤ 31 by omega
  · exact show 0 + 256 ≤ 256 by omega

/-- Thirty-one rows stored one after the other, read at an index. -/
theorem canon_rows (P : Fin 31 → (⟨2, ![1, 256]⟩ : Shape).Idx → Elt Ideal .f32) (k : Fin 31) (f : Fin 256) :
    View.canon (Val := Elt Ideal) (e := .f32) (List.ofFn fun i : Fin 31 =>
      ⟨Rect.unit (s := S31x256) ![(Fin.rev i).val, 0] ![1, 256] (inbR (Fin.rev i)), P (Fin.rev i)⟩) (ix2 k f) = P k (ix2 0 f) := by
  refine View.canon_ofFn_unit_eq_of_forall (S := S31x256) (fun i => ![(Fin.rev i).val, 0]) ![1, 256] (fun i => inbR (Fin.rev i))
    (fun i => P (Fin.rev i)) _ _ ⟨Fin.rev k, fun a => ?_⟩ fun i x hx => ?_
  · fin_cases a
    · exact show (Fin.rev (Fin.rev k)).val ≤ k.val ∧ k.val < (Fin.rev (Fin.rev k)).val + 1 by rw [Fin.rev_rev]; omega
    · exact show 0 ≤ f.val ∧ f.val < 0 + 256 by omega
  · obtain ⟨b, rfl⟩ : ∃ b : Fin 256, x = ix2 0 b := ⟨x 1, by idx_ext⟩
    have e0 : k.val = (Fin.rev i).val + 0 := hx 0
    have e1 : f.val = 0 + b.val := hx 1
    obtain rfl : b = f := Fin.ext (by omega)
    exact congrArg (fun k => P k (ix2 0 b)) (Fin.ext (show (Fin.rev i).val = k.val by omega))

/-- A row of the array before. -/
def ldR (X : S31x256.Idx → Elt Ideal .f32) (k : Fin 31) : FVec Ideal S1x256 .f32 := View.ld X (Rect.unit (s := S31x256) ![k.val, 0] ![1, 256] (inbR k))

theorem ldR_at (X : S31x256.Idx → Elt Ideal .f32) (k : Fin 31) (f : Fin 256) : ldR X k (ix2 0 f) = X (ix2 k f) := by
  show X _ = X _
  refine congrArg X ?_
  funext a
  fin_cases a
  · exact Fin.ext (show k.val + 1 * 0 = k.val by omega)
  · exact Fin.ext (show 0 + 1 * f.val = f.val by omega)

/-- The rows of the taps' gradient: each the row before plus the tap's sum. -/
theorem rows_at (D : FVec Ideal S512x256 .f32) (X : S31x256.Idx → Elt Ideal .f32) (G : ℕ → Fin 256 → EReal) (k : Fin 31) (f : Fin 256) :
    View.canon (Val := Elt Ideal) (e := .f32) (List.ofFn fun i : Fin 31 =>
      ⟨Rect.unit (s := S31x256) ![(Fin.rev i).val, 0] ![1, 256] (inbR (Fin.rev i)), k0_pay40 (F := Ideal) D (ldR X (Fin.rev i)) (tapOf G ((Fin.rev i).val + 1))⟩) (ix2 k f)
      = X (ix2 k f) + ∑ a : Fin 512, D (ix2 a f) * G (k.val + 1 + a.val) f :=
  (canon_rows (fun i => k0_pay40 (F := Ideal) D (ldR X i) (tapOf G (i.val + 1))) k f).trans
    ((row_pay f D _ _).trans (Ideal.add_congr (ldR_at X k f) rfl))

/-- The same over any earlier store: the thirty-one rows hide it. -/
theorem rows_tail (D : FVec Ideal S512x256 .f32) (X : S31x256.Idx → Elt Ideal .f32) (G : ℕ → Fin 256 → EReal) (q : View.Piece (Elt Ideal) S31x256 .f32) (k : Fin 31) (f : Fin 256) :
    View.canon (Val := Elt Ideal) (e := .f32) ((List.ofFn fun i : Fin 31 =>
      (⟨Rect.unit (s := S31x256) ![(Fin.rev i).val, 0] ![1, 256] (inbR (Fin.rev i)), k0_pay40 (F := Ideal) D (ldR X (Fin.rev i)) (tapOf G ((Fin.rev i).val + 1))⟩ : View.Piece (Elt Ideal) S31x256 .f32)) ++ [q]) (ix2 k f)
      = X (ix2 k f) + ∑ a : Fin 512, D (ix2 a f) * G (k.val + 1 + a.val) f := by
  refine (View.canon_append_of_pieces (fun y : S31x256.Idx => X y + ∑ a : Fin 512, D (ix2 a (y 1)) * G ((y 0).val + 1 + a.val) (y 1)) [q] _ (fun p hp x => ?_) (ix2 k f) ?_)
  · obtain ⟨i, rfl⟩ := List.mem_ofFn.mp hp
    obtain ⟨b, rfl⟩ : ∃ b : Fin 256, x = ix2 0 b := ⟨x 1, by idx_ext⟩
    have e : (Rect.unit (s := S31x256) ![(Fin.rev i).val, 0] ![1, 256] (inbR (Fin.rev i))).emb (ix2 0 b) = ix2 (Fin.rev i) b := by idx_ext
    rw [e]
    exact (row_pay b D _ _).trans (Ideal.add_congr (ldR_at X (Fin.rev i) b) rfl)
  · refine ⟨_, List.mem_ofFn.mpr ⟨Fin.rev k, rfl⟩, ?_⟩
    have e : (Rect.unit (s := S31x256) ![(Fin.rev (Fin.rev k)).val, 0] ![1, 256] (inbR (Fin.rev (Fin.rev k)))).emb (ix2 0 f) = ix2 k f := by
      rw [Fin.rev_rev]
      idx_ext
    rw [← e]
    exact LoadRect.idx_mem _ _

/-! ## The windows -/

theorem idx : ∀ t : Fin cfg0.N, win0_0.index t = ![t.val, 5] ∧ win0_1.index t = ![t.val, 6] ∧ win0_2.index t = ![t.val * 32 - 1, 5]
    ∧ win0_3.index t = ![t.val * 32 - 1, 6] ∧ win0_4.index t = ![min (t.val * 32 + 32) 1023, 5] ∧ win0_5.index t = ![min (t.val * 32 + 32) 1023, 6]
    ∧ win0_6.index t = ![t.val, 7] ∧ win0_7.index t = ![t.val, 0] ∧ win0_8.index t = ![t.val, 0] ∧ win0_9.index t = ![0, 0] ∧ win0_10.index t = ![0, 0]
    ∧ win0_11.index t = ![t.val, 0] ∧ win0_12.index t = ![t.val, 0] ∧ win0_13.index t = ![0, 0] ∧ win0_14.index t = ![0, 0] ∧ win0_15.index t = ![0, 0] ∧ win0_16.index t = ![0, 0] :=
  (by decide +kernel : ∀ t : Fin grid0.N, _)
theorem crd : ∀ t : Fin cfg0.N, ((grid0.coords t) 0).val = t.val ∧ t.val < 32 := (by decide +kernel : ∀ t : Fin grid0.N, _)

variable (m : (ℓ : Loc nD τ sig) → Buf (Elt Ideal) ℓ) (c : Dev nD)

/-- The row of the array a tile's row is. -/
abbrev rowOf (t : Fin cfg0.N) (a : Fin 512) : Fin 16384 := ⟨t.val * 512 + a.val, by have := (crd t).2; omega⟩

abbrev A0 : FVec Ideal S1x16384x2816 .f32 := m ((c.tc : Thread nD τ).loc main_arg0)
abbrev A1 : FVec Ideal S31x256 .f32 := m ((c.tc : Thread nD τ).loc main_arg1)
abbrev A2 : FVec Ideal S256 .f32 := m ((c.tc : Thread nD τ).loc main_arg2)
abbrev A3 : FVec Ideal S256 .f32 := m ((c.tc : Thread nD τ).loc main_arg3)
abbrev A4 : FVec Ideal S256 .f32 := m ((c.tc : Thread nD τ).loc main_arg4)
abbrev A5 : FVec Ideal S1x16384x256 .f32 := m ((c.tc : Thread nD τ).loc main_arg5)
/-- The saved convolution: reference.py's lines on the host. -/
abbrev yArr : T3 := refY (refHP (mulf (refA (A0 m c)) (refSig (refB (A0 m c))))) (A1 m c) (A2 m c)

theorem V241 : V m c main_v241 = shapeCast _ (A0 m c) shapeCasts_S1x16384x2816_S16384x2816 := by
  unfold V; simp only [hostOps0, List.flatten_cons, List.flatten_nil, List.append_nil, List.cons_append, List.nil_append]
  after_results
  rfl
theorem V242 : V m c main_v242 = shapeCast _ (yArr m c) shapeCasts_S1x16384x256_S16384x256 := by
  unfold V; simp only [hostOps0, List.flatten_cons, List.flatten_nil, List.append_nil, List.cons_append, List.nil_append]
  after_results
  rfl
theorem V243 : V m c main_v243 = shapeCast _ (A5 m c) shapeCasts_S1x16384x256_S16384x256 := by
  unfold V; simp only [hostOps0, List.flatten_cons, List.flatten_nil, List.append_nil, List.cons_append, List.nil_append]
  after_results
  rfl
theorem V244 : V m c main_v244 = shapeCast _ (A3 m c) shapeCasts_S256_S1x256 := by
  unfold V; simp only [hostOps0, List.flatten_cons, List.flatten_nil, List.append_nil, List.cons_append, List.nil_append]
  after_results
  rfl
theorem V245 : V m c main_v245 = shapeCast _ (A4 m c) shapeCasts_S256_S1x256 := by
  unfold V; simp only [hostOps0, List.flatten_cons, List.flatten_nil, List.append_nil, List.cons_append, List.nil_append]
  after_results
  rfl

theorem p2_at (x : FVec Ideal S1x16384x2816 .f32) (s : Fin 16384) (k : Fin 2816) : (shapeCast S16384x2816 x shapeCasts_S1x16384x2816_S16384x2816 : FVec Ideal S16384x2816 .f32) (ix2 s k) = x (ix3 0 s k) := by
  pointwise []
theorem y2_at (x : FVec Ideal S1x16384x256 .f32) (s : Fin 16384) (k : Fin 256) : (shapeCast S16384x256 x shapeCasts_S1x16384x256_S16384x256 : FVec Ideal S16384x256 .f32) (ix2 s k) = x (ix3 0 s k) := by
  pointwise []
theorem g2_at (x : FVec Ideal S256 .f32) (k : Fin 256) : (shapeCast S1x256 x shapeCasts_S256_S1x256 : FVec Ideal S1x256 .f32) (ix2 0 k) = x (ix1 k) := by
  pointwise []

theorem blk0 (t : Fin cfg0.N) (a : Fin 512) (f : Fin 256) :
    (show EReal from iblk m c 0 t (ix2 a f)) = A0 m c (ix3 0 (rowOf t a) ⟨1280 + f.val, by omega⟩) := by
  have e : ((cfg0.win 0).blk t).view.emb (ix2 a f) = ix2 (rowOf t a) (⟨1280 + f.val, by omega⟩ : Fin 2816) := by blk_ext [idx t]
  unfold iblk
  show (V m c main_v241) (((cfg0.win 0).blk t).view.emb (ix2 a f)) = _
  rw [V241, e]
  exact p2_at _ _ _
theorem blk1 (t : Fin cfg0.N) (a : Fin 512) (f : Fin 256) :
    (show EReal from iblk m c 1 t (ix2 a f)) = A0 m c (ix3 0 (rowOf t a) ⟨1536 + f.val, by omega⟩) := by
  have e : ((cfg0.win 1).blk t).view.emb (ix2 a f) = ix2 (rowOf t a) (⟨1536 + f.val, by omega⟩ : Fin 2816) := by blk_ext [idx t]
  unfold iblk
  show (V m c main_v241) (((cfg0.win 1).blk t).view.emb (ix2 a f)) = _
  rw [V241, e]
  exact p2_at _ _ _
theorem blk6 (t : Fin cfg0.N) (a : Fin 512) (f : Fin 256) :
    (show EReal from iblk m c 6 t (ix2 a f)) = A0 m c (ix3 0 (rowOf t a) ⟨1792 + f.val, by omega⟩) := by
  have e : ((cfg0.win 6).blk t).view.emb (ix2 a f) = ix2 (rowOf t a) (⟨1792 + f.val, by omega⟩ : Fin 2816) := by blk_ext [idx t]
  unfold iblk
  show (V m c main_v241) (((cfg0.win 6).blk t).view.emb (ix2 a f)) = _
  rw [V241, e]
  exact p2_at _ _ _
/-- The rows before a tile. -/
abbrev rowBef (t : Fin cfg0.N) (a : Fin 16) : Fin 16384 := ⟨t.val * 512 + a.val - 16, by have := (crd t).2; omega⟩
theorem blk2 (t : Fin cfg0.N) (h : 0 < t.val) (a : Fin 16) (f : Fin 256) :
    (show EReal from iblk m c 2 t (ix2 a f)) = A0 m c (ix3 0 (rowBef t a) ⟨1280 + f.val, by omega⟩) := by
  have e1 : (t.val * 32 - 1) * 16 + a.val = t.val * 512 + a.val - 16 := by omega
  have e : ((cfg0.win 2).blk t).view.emb (ix2 a f) = ix2 (rowBef t a) (⟨1280 + f.val, by omega⟩ : Fin 2816) := by blk_ext [idx t, e1]
  unfold iblk
  show (V m c main_v241) (((cfg0.win 2).blk t).view.emb (ix2 a f)) = _
  rw [V241, e]
  exact p2_at _ _ _
theorem blk3 (t : Fin cfg0.N) (h : 0 < t.val) (a : Fin 16) (f : Fin 256) :
    (show EReal from iblk m c 3 t (ix2 a f)) = A0 m c (ix3 0 (rowBef t a) ⟨1536 + f.val, by omega⟩) := by
  have e1 : (t.val * 32 - 1) * 16 + a.val = t.val * 512 + a.val - 16 := by omega
  have e : ((cfg0.win 3).blk t).view.emb (ix2 a f) = ix2 (rowBef t a) (⟨1536 + f.val, by omega⟩ : Fin 2816) := by blk_ext [idx t, e1]
  unfold iblk
  show (V m c main_v241) (((cfg0.win 3).blk t).view.emb (ix2 a f)) = _
  rw [V241, e]
  exact p2_at _ _ _
theorem blk4 (t : Fin cfg0.N) (h : t.val < 31) (a : Fin 16) (f : Fin 256) :
    (show EReal from iblk m c 4 t (ix2 a f)) = A0 m c (ix3 0 ⟨t.val * 512 + 512 + a.val, by omega⟩ ⟨1280 + f.val, by omega⟩) := by
  have e1 : min (t.val * 32 + 32) 1023 * 16 + a.val = t.val * 512 + 512 + a.val := by omega
  have e : ((cfg0.win 4).blk t).view.emb (ix2 a f) = ix2 (⟨t.val * 512 + 512 + a.val, by omega⟩ : Fin 16384) (⟨1280 + f.val, by omega⟩ : Fin 2816) := by blk_ext [idx t, e1]
  unfold iblk
  show (V m c main_v241) (((cfg0.win 4).blk t).view.emb (ix2 a f)) = _
  rw [V241, e]
  exact p2_at _ _ _
theorem blk5 (t : Fin cfg0.N) (h : t.val < 31) (a : Fin 16) (f : Fin 256) :
    (show EReal from iblk m c 5 t (ix2 a f)) = A0 m c (ix3 0 ⟨t.val * 512 + 512 + a.val, by omega⟩ ⟨1536 + f.val, by omega⟩) := by
  have e1 : min (t.val * 32 + 32) 1023 * 16 + a.val = t.val * 512 + 512 + a.val := by omega
  have e : ((cfg0.win 5).blk t).view.emb (ix2 a f) = ix2 (⟨t.val * 512 + 512 + a.val, by omega⟩ : Fin 16384) (⟨1536 + f.val, by omega⟩ : Fin 2816) := by blk_ext [idx t, e1]
  unfold iblk
  show (V m c main_v241) (((cfg0.win 5).blk t).view.emb (ix2 a f)) = _
  rw [V241, e]
  exact p2_at _ _ _
theorem blk7 (t : Fin cfg0.N) (a : Fin 512) (f : Fin 256) : (show EReal from iblk m c 7 t (ix2 a f)) = yArr m c (ix3 0 (rowOf t a) f) := by
  have e : ((cfg0.win 7).blk t).view.emb (ix2 a f) = ix2 (rowOf t a) f := by blk_ext [idx t]
  unfold iblk
  show (V m c main_v242) (((cfg0.win 7).blk t).view.emb (ix2 a f)) = _
  rw [V242, e]
  exact y2_at _ _ _
theorem blk8 (t : Fin cfg0.N) (a : Fin 512) (f : Fin 256) : (show EReal from iblk m c 8 t (ix2 a f)) = A5 m c (ix3 0 (rowOf t a) f) := by
  have e : ((cfg0.win 8).blk t).view.emb (ix2 a f) = ix2 (rowOf t a) f := by blk_ext [idx t]
  unfold iblk
  show (V m c main_v243) (((cfg0.win 8).blk t).view.emb (ix2 a f)) = _
  rw [V243, e]
  exact y2_at _ _ _
theorem blk9 (t : Fin cfg0.N) (f : Fin 256) : (show EReal from iblk m c 9 t (ix2 0 f)) = A3 m c (ix1 f) := by
  have e : ((cfg0.win 9).blk t).view.emb (ix2 0 f) = ix2 0 f := by blk_ext [idx t]
  unfold iblk
  show (V m c main_v244) (((cfg0.win 9).blk t).view.emb (ix2 0 f)) = _
  rw [V244, e]
  exact g2_at _ _
theorem blk10 (t : Fin cfg0.N) (f : Fin 256) : (show EReal from iblk m c 10 t (ix2 0 f)) = A4 m c (ix1 f) := by
  have e : ((cfg0.win 10).blk t).view.emb (ix2 0 f) = ix2 0 f := by blk_ext [idx t]
  unfold iblk
  show (V m c main_v245) (((cfg0.win 10).blk t).view.emb (ix2 0 f)) = _
  rw [V245, e]
  exact g2_at _ _

/-! ## The halo of the gated half -/

/-- A tile's halo buffer. -/
def halo (t : Fin cfg0.N) (r : ℕ) (f : Fin 256) : EReal := hrow (A0 m c) (t.val * 512 + r) f

end Kernel

end Cert.ConvBwdAClaims

end
-- ==== Proof.ConvBwdA.lean ====
/- The first gradient call of the convolution branch: what the kernel's six result arrays hold is the
   vector-Jacobian product's six gradients. -/
module

public import proofs.«01_k».proof.Proof.ConvBwdABody
public import proofs.«01_k».proof.Defs
public import proofs.«01_k».proof.Proof.Gen.Pre_finite_conv_bwd_a
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvBwdAClaims

open Cert.Reals Cert.ConvTaps Cert.Ln

section Kernel
open Cert.ConvBwdAIdeal Cert.ConvBwdAIdeal.Gen

variable (m : (ℓ : Loc nD τ sig) → Buf (Elt Ideal) ℓ) (c : Dev nD)

theorem before_at (w : BitVec 32) (n : ℕ) (hw : w = BitVec.ofNat 32 n) (h : n < 32) (v : FVec Ideal S16x256 .f32) (a : Fin 16) (f : Fin 256) :
    k0_pay4 (F := Ideal) v (Scalar.cmpi CmpIPredicate.sgt w 0#32) (ix2 a f) = if 0 < n then v (ix2 a f) else 0 := by
  subst hw
  pointwise [k0_pay4]
  interval_cases n <;> rfl
theorem after_at (w : BitVec 32) (n : ℕ) (hw : w = BitVec.ofNat 32 n) (h : n < 32) (v : FVec Ideal S16x256 .f32) (a : Fin 16) (f : Fin 256) :
    k0_pay6 (F := Ideal) w v (ix2 a f) = if n < 31 then v (ix2 a f) else 0 := by
  subst hw
  pointwise [k0_pay6]
  interval_cases n <;> rfl
theorem glu_bef (x y : FVec Ideal S16x256 .f32) (a : Fin 16) (f : Fin 256) : k0_pay1 (F := Ideal) x y (ix2 a f) = x (ix2 a f) * sgE (y (ix2 a f)) := by
  pointwise [k0_pay1]
  rfl
theorem glu_aft (x y : FVec Ideal S16x256 .f32) (a : Fin 16) (f : Fin 256) : k0_pay3 (F := Ideal) x y (ix2 a f) = x (ix2 a f) * sgE (y (ix2 a f)) := by
  pointwise [k0_pay3]
  rfl
theorem glu_own (x y : FVec Ideal S512x256 .f32) (a : Fin 512) (f : Fin 256) : k0_pay5 (F := Ideal) (k0_pay2 (F := Ideal) x y) (ix2 a f) = x (ix2 a f) * sgE (y (ix2 a f)) := by
  pointwise [k0_pay5, k0_pay2]
  rfl

theorem halo0 (t : Fin cfg0.N) (a : Fin 16) (f : Fin 256) :
    k0_pay4 (F := Ideal) (k0_pay1 (F := Ideal) (iblk m c 2 t) (iblk m c 3 t)) (Scalar.cmpi CmpIPredicate.sgt (BitVec.ofNat 32 (grid0.coords t 0).val) 0#32) (ix2 a f) = halo m c t a f := by
  rw [before_at _ t.val (congrArg _ (crd t).1) (crd t).2, glu_bef]
  unfold halo
  split_ifs with h
  · rw [hrow_in _ _ _ (rowBef t a) (show t.val * 512 + a.val = t.val * 512 + a.val - 16 + 16 by omega)]
    exact Ideal.mul_congr (blk2 m c t h a f) (congrArg sgE (blk3 m c t h a f))
  · unfold hrow
    rw [dif_neg (by omega)]
theorem halo1 (t : Fin cfg0.N) (a : Fin 512) (f : Fin 256) :
    k0_pay5 (F := Ideal) (k0_pay2 (F := Ideal) (iblk m c 0 t) (iblk m c 1 t)) (ix2 a f) = halo m c t (16 + a) f := by
  unfold halo
  rw [hrow_in _ _ _ (rowOf t a) (show t.val * 512 + (16 + a.val) = t.val * 512 + a.val + 16 by omega), glu_own]
  exact Ideal.mul_congr (blk0 m c t a f) (congrArg sgE (blk1 m c t a f))
theorem halo2 (t : Fin cfg0.N) (a : Fin 16) (f : Fin 256) :
    k0_pay6 (F := Ideal) (BitVec.ofNat 32 (grid0.coords t 0).val) (k0_pay3 (F := Ideal) (iblk m c 4 t) (iblk m c 5 t)) (ix2 a f) = halo m c t (528 + a) f := by
  rw [after_at _ t.val (congrArg _ (crd t).1) (crd t).2, glu_aft]
  unfold halo
  split_ifs with h
  · rw [hrow_in _ _ _ ⟨t.val * 512 + 512 + a.val, by omega⟩ (show t.val * 512 + (528 + a.val) = t.val * 512 + 512 + a.val + 16 by omega)]
    exact Ideal.mul_congr (blk4 m c t h a f) (congrArg sgE (blk5 m c t h a f))
  · unfold hrow
    have := (crd t).2
    rw [dif_neg (by omega)]

/-- The eight stored copies, newest first, are one array. -/
theorem copies (G : ℕ → Fin 256 → EReal) :
    View.canon (Val := Elt Ideal) (e := .f32) [
      ⟨Rect.unit (s := S8x536x256) ![7, 0, 0] ![1, 536, 256] inb_S8x536x256_S1x536x256_7_0_0, k0_pay14 (F := Ideal) (rowsOf G 7)⟩,
      ⟨Rect.unit (s := S8x536x256) ![6, 0, 0] ![1, 536, 256] inb_S8x536x256_S1x536x256_6_0_0, k0_pay13 (F := Ideal) (rowsOf G 6)⟩,
      ⟨Rect.unit (s := S8x536x256) ![5, 0, 0] ![1, 536, 256] inb_S8x536x256_S1x536x256_5_0_0, k0_pay12 (F := Ideal) (rowsOf G 5)⟩,
      ⟨Rect.unit (s := S8x536x256) ![4, 0, 0] ![1, 536, 256] inb_S8x536x256_S1x536x256_4_0_0, k0_pay11 (F := Ideal) (rowsOf G 4)⟩,
      ⟨Rect.unit (s := S8x536x256) ![3, 0, 0] ![1, 536, 256] inb_S8x536x256_S1x536x256_3_0_0, k0_pay10 (F := Ideal) (rowsOf G 3)⟩,
      ⟨Rect.unit (s := S8x536x256) ![2, 0, 0] ![1, 536, 256] inb_S8x536x256_S1x536x256_2_0_0, k0_pay9 (F := Ideal) (rowsOf G 2)⟩,
      ⟨Rect.unit (s := S8x536x256) ![1, 0, 0] ![1, 536, 256] inb_S8x536x256_S1x536x256_1_0_0, k0_pay8 (F := Ideal) (rowsOf G 1)⟩,
      ⟨Rect.unit (s := S8x536x256) ![0, 0, 0] ![1, 536, 256] inb_S8x536x256_S1x536x256_0_0_0, k0_pay7 (F := Ideal) (rowsOf G 0)⟩] = shOf G :=
  canon_sh G (by decide) (fun b => shapeCast _ (rowsOf G b.val) shapeCasts_S536x256_S1x536x256) fun b a f => by
    pointwise [rowsOf]

/-- The gradient's tile, as the body holds it. -/
abbrev dyT (t : Fin cfg0.N) : FVec Ideal S512x256 .f32 :=
  k0_pay30 (F := Ideal) (k0_pay17 (F := Ideal) (k0_pay16 (F := Ideal) (iblk m c 7 t))) (k0_pay18 (F := Ideal) (k0_pay15 (F := Ideal) (iblk m c 7 t)) (k0_pay16 (F := Ideal) (iblk m c 7 t)))
    (k0_pay22 (F := Ideal) (k0_pay15 (F := Ideal) (iblk m c 7 t)) (k0_pay16 (F := Ideal) (iblk m c 7 t)) (iblk m c 9 t) (iblk m c 10 t)) (k0_pay25 (F := Ideal) (iblk m c 6 t)) (iblk m c 8 t) (iblk m c 9 t)

/-- A tile's share of the taps' gradient, on top of what the buffer held. -/
theorem rowsB (t : Fin cfg0.N) (h : ¬ t.val % 32 = 0) (k : Fin 31) (f : Fin 256) :
    (outsAt0 m c t.val t.isLt).2.2.1 (ix2 k f) = (outsAt0 m c (t.val - 1) (by omega)).2.2.1 (ix2 k f) + ∑ a : Fin 512, dyT m c t (ix2 a f) * halo m c t (k.val + 1 + a.val) f := by
  rw [outsAt0_B m c t h]
  frame_out
  simp only [View.readCov_eq_canon']
  rw [canon_ext (halo m c t) _ _ _ _ _ _ (halo0 m c t) (halo1 m c t) (halo2 m c t)]
  simp only [ext_idx]
  rw [copies]
  simp only [sh_idx, Nat.reduceAdd]
  exact rows_at (dyT m c t) _ (halo m c t) k f

theorem zeroR (k : Fin 31) (f : Fin 256) : k0_pay31 (F := Ideal) (ix2 k f) = 0 := by
  pointwise [k0_pay31]

/-- The first tile's share, on top of zero. -/
theorem rowsA (t : Fin cfg0.N) (h : t.val % 32 = 0) (k : Fin 31) (f : Fin 256) :
    (outsAt0 m c t.val t.isLt).2.2.1 (ix2 k f) = 0 + ∑ a : Fin 512, dyT m c t (ix2 a f) * halo m c t (k.val + 1 + a.val) f := by
  rw [outsAt0_A m c t h]
  frame_out
  simp (disch := decide) only [View.readCov_skip (s := S31x256), View.readCov_fill (s := S31x256)]
  simp only [View.readCov_eq_canon']
  rw [canon_ext (halo m c t) _ _ _ _ _ _ (halo0 m c t) (halo1 m c t) (halo2 m c t)]
  simp only [ext_idx]
  rw [copies]
  simp only [sh_idx, Nat.reduceAdd]
  have hz := zeroR k f
  generalize k0_pay31 (F := Ideal) = Z at hz ⊢
  exact (rows_tail (dyT m c t) Z (halo m c t) _ k f).trans (Ideal.add_congr hz rfl)

theorem zero14 (f : Fin 256) : k0_pay32 (F := Ideal) (ix2 0 f) = 0 := by
  pointwise [k0_pay32]
theorem zero15 (f : Fin 256) : k0_pay33 (F := Ideal) (ix2 0 f) = 0 := by
  pointwise [k0_pay33]
theorem zero16 (f : Fin 256) : k0_pay34 (F := Ideal) (ix2 0 f) = 0 := by
  pointwise [k0_pay34]

/-! ## The results -/

section Real
variable (y : Fin 16384 → Fin 256 → ℝ) (p : (⟨3, ![1, 16384, 2816]⟩ : Shape).Idx → ℝ) (g b : (⟨1, ![256]⟩ : Shape).Idx → ℝ) (d : (⟨3, ![1, 16384, 256]⟩ : Shape).Idx → ℝ)

/-- A row of the gate. -/
abbrev gateR (s : Fin 16384) (k : Fin 256) : ℝ := p (ix3 0 s ⟨1792 + k.val, by omega⟩)
/-- The cotangent of the swish's argument, row by row. -/
def dzR (s : Fin 16384) (f : Fin 256) : ℝ := dzOf (y s) (fun k => g (ix1 k)) (fun k => b (ix1 k)) (gateR p s) (fun k => d (ix3 0 s k)) f
/-- The cotangent of the convolution's output. -/
def dyR (s : Fin 16384) (f : Fin 256) : ℝ := lnBwd (y s) (fun k => dzR y p g b d s k * g (ix1 k)) f
/-- The gate's gradient. -/
def dgateR (s : Fin 16384) (f : Fin 256) : ℝ := dgateOf (y s) (fun k => g (ix1 k)) (fun k => b (ix1 k)) (gateR p s) (fun k => d (ix3 0 s k)) f

variable (hy : ∀ s f, yArr m c (ix3 0 s f) = (y s f : EReal)) (hp : A0 m c = fun i => (p i : EReal)) (hg : A3 m c = fun i => (g i : EReal))
  (hb : A4 m c = fun i => (b i : EReal)) (hd : A5 m c = fun i => (d i : EReal))

include hy in
theorem r7 (t : Fin cfg0.N) (a : Fin 512) (k : Fin 256) : (iblk m c 7 t : FVec Ideal S512x256 .f32) (ix2 a k) = (y (rowOf t a) k : EReal) :=
  Eq.trans (blk7 m c t a k) (hy _ _)
include hp in
theorem r6 (t : Fin cfg0.N) (a : Fin 512) (k : Fin 256) : (iblk m c 6 t : FVec Ideal S512x256 .f32) (ix2 a k) = (gateR p (rowOf t a) k : EReal) :=
  Eq.trans (blk6 m c t a k) (congrFun hp (ix3 0 (rowOf t a) ⟨1792 + k.val, by omega⟩))
include hd in
theorem r8 (t : Fin cfg0.N) (a : Fin 512) (k : Fin 256) : (iblk m c 8 t : FVec Ideal S512x256 .f32) (ix2 a k) = (d (ix3 0 (rowOf t a) k) : EReal) :=
  Eq.trans (blk8 m c t a k) (congrFun hd (ix3 0 (rowOf t a) k))
include hg in
theorem r9 (t : Fin cfg0.N) (k : Fin 256) : (iblk m c 9 t : FVec Ideal S1x256 .f32) (ix2 0 k) = (g (ix1 k) : EReal) :=
  Eq.trans (blk9 m c t k) (congrFun hg (ix1 k))
include hb in
theorem r10 (t : Fin cfg0.N) (k : Fin 256) : (iblk m c 10 t : FVec Ideal S1x256 .f32) (ix2 0 k) = (b (ix1 k) : EReal) :=
  Eq.trans (blk10 m c t k) (congrFun hb (ix1 k))

include hy hp hg hb hd

theorem dyT_at (t : Fin cfg0.N) (a : Fin 512) (f : Fin 256) : dyT m c t (ix2 a f) = (dyR y p g b d (rowOf t a) f : EReal) :=
  pay30_at a f (y (rowOf t a)) (fun k => g (ix1 k)) (fun k => b (ix1 k)) (gateR p (rowOf t a)) (fun k => d (ix3 0 (rowOf t a) k)) (Y := iblk m c 7 t) (Gv := iblk m c 6 t) (Dv := iblk m c 8 t) (gv := iblk m c 9 t) (bv := iblk m c 10 t)
    (r7 m c y hy t a) (r6 m c p hp t a) (r8 m c d hd t a) (r9 m c g hg t) (r10 m c b hb t)

theorem point11 (t : Fin cfg0.N) (a : Fin 512) (f : Fin 256) : (dats m 0 c).after 11 t (ix2 a f) = (dyR y p g b d (rowOf t a) f : EReal) := by
  rw [after0_11]
  refine Eq.trans ?_ (dyT_at m c y p g b d hy hp hg hb hd t a f)
  by_cases h : t.val % 32 = 0
  · rw [outsAt0_A m c t h]; frame_out
  · rw [outsAt0_B m c t h]; frame_out

theorem point12 (t : Fin cfg0.N) (a : Fin 512) (f : Fin 256) : (dats m 0 c).after 12 t (ix2 a f) = (dgateR y p g b d (rowOf t a) f : EReal) := by
  rw [after0_12]
  refine Eq.trans ?_ (pay28_at a f (y (rowOf t a)) (fun k => g (ix1 k)) (fun k => b (ix1 k)) (gateR p (rowOf t a)) (fun k => d (ix3 0 (rowOf t a) k)) (Y := iblk m c 7 t) (Gv := iblk m c 6 t) (Dv := iblk m c 8 t) (gv := iblk m c 9 t) (bv := iblk m c 10 t)
    (r7 m c y hy t a) (r6 m c p hp t a) (r8 m c d hd t a) (r9 m c g hg t) (r10 m c b hb t))
  by_cases h : t.val % 32 = 0
  · rw [outsAt0_A m c t h]; frame_out
  · rw [outsAt0_B m c t h]; frame_out

/-- The first result: the gradient of the convolution's output. -/
theorem final11 : (dats m 0 c).arrAt 11 cfg0.N = (fun i => (dyR y p g b d (i 0) (i 1) : EReal) : FVec Ideal S16384x256 .f32) := by
  refine (dats m 0 c).arrAt_eq_of_covers 11 _ (by decide +kernel) fun t hf z => ?_
  obtain ⟨a, f, rfl⟩ : ∃ (a : Fin 512) (f : Fin 256), z = ix2 a f := ⟨z 0, z 1, eq_ix2 z⟩
  have e : ((cfg0.win 11).blk t).view.emb (ix2 a f) = ix2 (rowOf t a) f := by blk_ext [idx t]
  rw [e]
  blk_simp
  exact point11 m c y p g b d hy hp hg hb hd t a f

/-- The second result: the gate's gradient. -/
theorem final12 : (dats m 0 c).arrAt 12 cfg0.N = (fun i => (dgateR y p g b d (i 0) (i 1) : EReal) : FVec Ideal S16384x256 .bf16) := by
  refine (dats m 0 c).arrAt_eq_of_covers 12 _ (by decide +kernel) fun t hf z => ?_
  obtain ⟨a, f, rfl⟩ : ∃ (a : Fin 512) (f : Fin 256), z = ix2 a f := ⟨z 0, z 1, eq_ix2 z⟩
  have e : ((cfg0.win 12).blk t).view.emb (ix2 a f) = ix2 (rowOf t a) f := by blk_ext [idx t]
  rw [e]
  blk_simp
  exact point12 m c y p g b d hy hp hg hb hd t a f

/-- The third result: the taps' gradient. -/
theorem final13 : (dats m 0 c).arrAt 13 cfg0.N
    = (fun i => ∑ s : Fin 16384, (dyR y p g b d s (i 1) : EReal) * hrow (A0 m c) (s.val + ((i 0).val + 1)) (i 1) : FVec Ideal S31x256 .f32) := by
  refine (dats m 0 c).arrAt_eq_of_covers 13 _ (by decide +kernel) fun t hf z => ?_
  obtain ⟨k, f, rfl⟩ : ∃ (k : Fin 31) (f : Fin 256), z = ix2 k f := ⟨z 0, z 1, eq_ix2 z⟩
  have e : ((cfg0.win 13).blk t).view.emb (ix2 k f) = ix2 k f := by blk_ext [idx t]
  rw [e]
  blk_simp
  rw [after0_13, Pipeline.eq_sum_fin_of_reset_step_apply_of_flush (fun n h => (outsAt0 m c n h).2.2.1) 32 (fun _ => (0 : EReal))
    (fun t j => ∑ a : Fin 512, dyT m c t (ix2 a (j 1)) * halo m c t ((j 0).val + 1 + a.val) (j 1))
    (fun t h j => by
      obtain ⟨k, f, rfl⟩ : ∃ (k : Fin 31) (f : Fin 256), j = ix2 k f := ⟨j 0, j 1, eq_ix2 j⟩
      exact rowsA m c t h k f)
    (fun t h j => by
      obtain ⟨k, f, rfl⟩ : ∃ (k : Fin 31) (f : Fin 256), j = ix2 k f := ⟨j 0, j 1, eq_ix2 j⟩
      exact rowsB m c t h k f)
    t ((flush0_13 t).mp hf) (ix2 k f), zero_add]
  refine Fin.sum_mul_add_congr (f := fun s => (dyR y p g b d s f : EReal) * hrow (A0 m c) (s.val + (k.val + 1)) f) fun s a hl => ?_
  have e : rowOf ⟨32 * (t.val / 32) + s.val, by have := t.isLt; have := (crd t).2; show _ < 32; omega⟩ a = ⟨s.val * 512 + a.val, hl⟩ :=
    Fin.ext (show (32 * (t.val / 32) + s.val) * 512 + a.val = s.val * 512 + a.val by have := (crd t).2; omega)
  refine Ideal.mul_congr ((dyT_at m c y p g b d hy hp hg hb hd _ a f).trans (congrArg (fun s => (dyR y p g b d s f : EReal)) e)) ?_
  exact congrArg (fun n => hrow (A0 m c) n f) (show (32 * (t.val / 32) + s.val) * 512 + (k.val + 1 + a.val) = s.val * 512 + a.val + (k.val + 1) by have := (crd t).2; omega)

/-- The fourth result: the bias's gradient. -/
theorem final14 : (dats m 0 c).arrAt 14 cfg0.N = (fun i => ∑ s : Fin 16384, (dyR y p g b d s (i 1) : EReal) : FVec Ideal S1x256 .f32) := by
  refine (dats m 0 c).arrAt_eq_of_covers 14 _ (by decide +kernel) fun t hf z => ?_
  obtain ⟨f, rfl⟩ : ∃ f : Fin 256, z = ix2 0 f := ⟨z 1, by idx_ext⟩
  have e : ((cfg0.win 14).blk t).view.emb (ix2 0 f) = ix2 0 f := by blk_ext [idx t]
  rw [e]
  blk_simp
  rw [after0_14, Pipeline.eq_sum_fin_of_reset_step_apply_of_flush (fun n h => (outsAt0 m c n h).2.2.2.1) 32 (fun _ => (0 : EReal))
    (fun t j => ∑ a : Fin 512, (dyR y p g b d (rowOf t a) (j 1) : EReal))
    (fun t h j => by
      obtain ⟨f, rfl⟩ : ∃ f : Fin 256, j = ix2 0 f := ⟨j 1, by idx_ext⟩
      rw [outsAt0_A m c t h]; frame_out
      exact (sum_pay f _ _).trans (Ideal.add_congr (zero14 f) (Finset.sum_congr rfl fun a _ => dyT_at m c y p g b d hy hp hg hb hd t a f)))
    (fun t h j => by
      obtain ⟨f, rfl⟩ : ∃ f : Fin 256, j = ix2 0 f := ⟨j 1, by idx_ext⟩
      rw [outsAt0_B m c t h]; frame_out
      exact (sum_pay f _ _).trans (Ideal.add_congr rfl (Finset.sum_congr rfl fun a _ => dyT_at m c y p g b d hy hp hg hb hd t a f)))
    t ((flush0_14 t).mp hf) (ix2 0 f), zero_add]
  exact Fin.sum_mul_add_congr (f := fun s => (dyR y p g b d s f : EReal)) fun s a hl => congrArg (fun s => (dyR y p g b d s f : EReal)) (Fin.ext
    (show (32 * (t.val / 32) + s.val) * 512 + a.val = s.val * 512 + a.val by have := (crd t).2; omega))

/-- The fifth result: the gain's gradient. -/
theorem final15 : (dats m 0 c).arrAt 15 cfg0.N = (fun i => ∑ s : Fin 16384, (dzR y p g b d s (i 1) : EReal) * (nrm (y s) (i 1) : EReal) : FVec Ideal S1x256 .f32) := by
  refine (dats m 0 c).arrAt_eq_of_covers 15 _ (by decide +kernel) fun t hf z => ?_
  obtain ⟨f, rfl⟩ : ∃ f : Fin 256, z = ix2 0 f := ⟨z 1, by idx_ext⟩
  have e : ((cfg0.win 15).blk t).view.emb (ix2 0 f) = ix2 0 f := by blk_ext [idx t]
  rw [e]
  blk_simp
  rw [after0_15, Pipeline.eq_sum_fin_of_reset_step_apply_of_flush (fun n h => (outsAt0 m c n h).2.2.2.2.1) 32 (fun _ => (0 : EReal))
    (fun t j => ∑ a : Fin 512, (dzR y p g b d (rowOf t a) (j 1) : EReal) * (nrm (y (rowOf t a)) (j 1) : EReal))
    (fun t h j => by
      obtain ⟨f, rfl⟩ : ∃ f : Fin 256, j = ix2 0 f := ⟨j 1, by idx_ext⟩
      rw [outsAt0_A m c t h]; frame_out
      exact (sum_pay37 f _ _).trans (Ideal.add_congr (zero15 f) (Finset.sum_congr rfl fun a _ => pay36_at a f (y (rowOf t a)) (fun k => g (ix1 k)) (fun k => b (ix1 k)) (gateR p (rowOf t a)) (fun k => d (ix3 0 (rowOf t a) k)) (Y := iblk m c 7 t) (Gv := iblk m c 6 t) (Dv := iblk m c 8 t) (gv := iblk m c 9 t) (bv := iblk m c 10 t)
        (r7 m c y hy t a) (r6 m c p hp t a) (r8 m c d hd t a) (r9 m c g hg t) (r10 m c b hb t))))
    (fun t h j => by
      obtain ⟨f, rfl⟩ : ∃ f : Fin 256, j = ix2 0 f := ⟨j 1, by idx_ext⟩
      rw [outsAt0_B m c t h]; frame_out
      exact (sum_pay37 f _ _).trans (Ideal.add_congr rfl (Finset.sum_congr rfl fun a _ => pay36_at a f (y (rowOf t a)) (fun k => g (ix1 k)) (fun k => b (ix1 k)) (gateR p (rowOf t a)) (fun k => d (ix3 0 (rowOf t a) k)) (Y := iblk m c 7 t) (Gv := iblk m c 6 t) (Dv := iblk m c 8 t) (gv := iblk m c 9 t) (bv := iblk m c 10 t)
        (r7 m c y hy t a) (r6 m c p hp t a) (r8 m c d hd t a) (r9 m c g hg t) (r10 m c b hb t))))
    t ((flush0_15 t).mp hf) (ix2 0 f), zero_add]
  exact Fin.sum_mul_add_congr (f := fun s => (dzR y p g b d s f : EReal) * (nrm (y s) f : EReal)) fun s a hl => congrArg (fun s => (dzR y p g b d s f : EReal) * (nrm (y s) f : EReal)) (Fin.ext
    (show (32 * (t.val / 32) + s.val) * 512 + a.val = s.val * 512 + a.val by have := (crd t).2; omega))

/-- The sixth result: the norm's bias's gradient. -/
theorem final16 : (dats m 0 c).arrAt 16 cfg0.N = (fun i => ∑ s : Fin 16384, (dzR y p g b d s (i 1) : EReal) : FVec Ideal S1x256 .f32) := by
  refine (dats m 0 c).arrAt_eq_of_covers 16 _ (by decide +kernel) fun t hf z => ?_
  obtain ⟨f, rfl⟩ : ∃ f : Fin 256, z = ix2 0 f := ⟨z 1, by idx_ext⟩
  have e : ((cfg0.win 16).blk t).view.emb (ix2 0 f) = ix2 0 f := by blk_ext [idx t]
  rw [e]
  blk_simp
  rw [after0_16, Pipeline.eq_sum_fin_of_reset_step_apply_of_flush (fun n h => (outsAt0 m c n h).2.2.2.2.2) 32 (fun _ => (0 : EReal))
    (fun t j => ∑ a : Fin 512, (dzR y p g b d (rowOf t a) (j 1) : EReal))
    (fun t h j => by
      obtain ⟨f, rfl⟩ : ∃ f : Fin 256, j = ix2 0 f := ⟨j 1, by idx_ext⟩
      rw [outsAt0_A m c t h]; frame_out
      exact (sum_pay38 f _ _).trans (Ideal.add_congr (zero16 f) (Finset.sum_congr rfl fun a _ => pay29_at a f (y (rowOf t a)) (fun k => g (ix1 k)) (fun k => b (ix1 k)) (gateR p (rowOf t a)) (fun k => d (ix3 0 (rowOf t a) k)) (Y := iblk m c 7 t) (Gv := iblk m c 6 t) (Dv := iblk m c 8 t) (gv := iblk m c 9 t) (bv := iblk m c 10 t)
        (r7 m c y hy t a) (r6 m c p hp t a) (r8 m c d hd t a) (r9 m c g hg t) (r10 m c b hb t))))
    (fun t h j => by
      obtain ⟨f, rfl⟩ : ∃ f : Fin 256, j = ix2 0 f := ⟨j 1, by idx_ext⟩
      rw [outsAt0_B m c t h]; frame_out
      exact (sum_pay38 f _ _).trans (Ideal.add_congr rfl (Finset.sum_congr rfl fun a _ => pay29_at a f (y (rowOf t a)) (fun k => g (ix1 k)) (fun k => b (ix1 k)) (gateR p (rowOf t a)) (fun k => d (ix3 0 (rowOf t a) k)) (Y := iblk m c 7 t) (Gv := iblk m c 6 t) (Dv := iblk m c 8 t) (gv := iblk m c 9 t) (bv := iblk m c 10 t)
        (r7 m c y hy t a) (r6 m c p hp t a) (r8 m c d hd t a) (r9 m c g hg t) (r10 m c b hb t))))
    t ((flush0_16 t).mp hf) (ix2 0 f), zero_add]
  exact Fin.sum_mul_add_congr (f := fun s => (dzR y p g b d s f : EReal)) fun s a hl => congrArg (fun s => (dzR y p g b d s f : EReal)) (Fin.ext
    (show (32 * (t.val / 32) + s.val) * 512 + a.val = s.val * 512 + a.val by have := (crd t).2; omega))

end Real

end Kernel

/-! ## The claim -/

/-- The precondition makes every argument real. -/
theorem real_args (a0 : FVec Ideal Cert.Pre_finite_conv_bwd_a.S1x16384x2816 .f32) (a1 : FVec Ideal Cert.Pre_finite_conv_bwd_a.S31x256 .f32)
    (a2 a3 a4 : FVec Ideal Cert.Pre_finite_conv_bwd_a.S256 .f32) (a5 : FVec Ideal Cert.Pre_finite_conv_bwd_a.S1x16384x256 .f32) (h : Cert.Pre_finite_conv_bwd_a.fn (F := Ideal) a0 a1 a2 a3 a4 a5 = fun _ => 1#1) :
    a0 = (fun i => ((a0 i).toReal : EReal)) ∧ a1 = (fun i => ((a1 i).toReal : EReal)) ∧ a2 = (fun i => ((a2 i).toReal : EReal))
      ∧ a3 = (fun i => ((a3 i).toReal : EReal)) ∧ a4 = (fun i => ((a4 i).toReal : EReal)) ∧ a5 = (fun i => ((a5 i).toReal : EReal)) := by
  have h := congrFun h ix0
  unfold Cert.Pre_finite_conv_bwd_a.fn Cert.Pre_finite_conv_bwd_a.fn_part1 at h
  simp only [andi_apply, and_true_iff] at h
  obtain ⟨⟨⟨⟨⟨h0, h1⟩, h2⟩, h3⟩, h4⟩, h5⟩ := h
  exact ⟨real_of_all a0 _ (fun _ => word_inf) _ _ _ (by decide) _ h0, real_of_all a1 _ (fun _ => word_inf) _ _ _ (by decide) _ h1,
    real_of_all a2 _ (fun _ => word_inf) _ _ _ (by decide) _ h2, real_of_all a3 _ (fun _ => word_inf) _ _ _ (by decide) _ h3,
    real_of_all a4 _ (fun _ => word_inf) _ _ _ (by decide) _ h4, real_of_all a5 _ (fun _ => word_inf) _ _ _ (by decide) _ h5⟩

section Reference
open Cert.ConvBwdARefIdeal Cert.ConvBwdARefIdeal.Facts₀

/-- The swish's argument. -/
def refZ (Y : T3) (g b : FVec Ideal S256 .f32) : T3 := addf (mulf (refN (refCen Y) (Host.rsqrt (refVar (refCen Y)))) (refRow g)) (refRow b)
/-- The cotangent of the swish's argument. -/
def refDZ (Y : T3) (p : FVec Ideal S1x16384x2816 .f32) (g b : FVec Ideal S256 .f32) (d : T3) : T3 :=
  refDAct (refZ Y g b) (refSig (refZ Y g b)) (mulf d (mulf (refG p) (refSig (refG p))))
/-- The gate's gradient. -/
def refDG (Y : T3) (p : FVec Ideal S1x16384x2816 .f32) (g b : FVec Ideal S256 .f32) (d : T3) : T3 :=
  refDAct (refG p) (refSig (refG p)) (mulf (mulf (refZ Y g b) (refSig (refZ Y g b))) d)
/-- The gradient of the convolution's output. -/
def refDYs (Y E : T3) : T3 :=
  refDY (refDC (refCen Y) E (refC (refCen Y) E (refVar (refCen Y)) (Host.rsqrt (refVar (refCen Y)))) (Host.rsqrt (refVar (refCen Y))))

variable (y : Fin 16384 → Fin 256 → ℝ) (p : (⟨3, ![1, 16384, 2816]⟩ : Shape).Idx → ℝ) (g b : (⟨1, ![256]⟩ : Shape).Idx → ℝ) (d : (⟨3, ![1, 16384, 256]⟩ : Shape).Idx → ℝ)
  {Y D : T3} {P : FVec Ideal S1x16384x2816 .f32} {Gn Bs : FVec Ideal S256 .f32}
  (hy : ∀ s f, Y (ix3 0 s f) = (y s f : EReal)) (hp : P = fun i => (p i : EReal)) (hg : Gn = fun i => (g i : EReal))
  (hb : Bs = fun i => (b i : EReal)) (hd : D = fun i => (d i : EReal)) (s : Fin 16384) (f : Fin 256)

include hy in
theorem refCenY (k : Fin 256) : refCen Y (ix3 0 s k) = (cen (y s) k : EReal) := refCen_at (y s) s k Y (hy s)

include hy in
theorem refNY : refN (refCen Y) (Host.rsqrt (refVar (refCen Y))) (ix3 0 s f) = (nrm (y s) f : EReal) := refN_at (y s) s f (refCenY y hy s)

theorem mul_at (A B : T3) : (mulf A B : T3) (ix3 0 s f) = A (ix3 0 s f) * B (ix3 0 s f) := by
  pointwise []
theorem add_at (A B : T3) : (addf A B : T3) (ix3 0 s f) = A (ix3 0 s f) + B (ix3 0 s f) := by
  pointwise []

include hy hg hb in
theorem refZ_at : refZ Y Gn Bs (ix3 0 s f) = (zOf (y s) (fun k => g (ix1 k)) (fun k => b (ix1 k)) f : EReal) := by
  unfold refZ
  rw [add_at, mul_at, refNY y hy, refRow_at, refRow_at, hg, hb]
  exact z_eq (y s) (fun k => g (ix1 k)) (fun k => b (ix1 k)) f

include hp in
theorem refG_at' : refG P (ix3 0 s f) = (gateR p s f : EReal) := by
  rw [refG_at, hp]

include hy hp hg hb hd in
theorem refDZ_at : refDZ Y P Gn Bs D (ix3 0 s f) = (dzR y p g b d s f : EReal) := by
  have hz := refZ_at y g b hy hg hb s f
  have hG := refG_at' p hp s f
  refine (refDAct_at s f _ _ _ (zOf (y s) (fun k => g (ix1 k)) (fun k => b (ix1 k)) f) (d (ix3 0 s f) * (gateR p s f * sg (gateR p s f))) hz ?_ ?_)
  · rw [refSig_at, hz, sgE_coe]
  · rw [mul_at, mul_at, refSig_at, hG, sgE_coe, hd, EReal.coe_mul, EReal.coe_mul]

include hy hp hg hb hd in
theorem refDG_at : refDG Y P Gn Bs D (ix3 0 s f) = (dgateR y p g b d s f : EReal) := by
  have hz := refZ_at y g b hy hg hb s f
  have hG := refG_at' p hp s f
  refine (refDAct_at s f _ _ _ (gateR p s f) (zOf (y s) (fun k => g (ix1 k)) (fun k => b (ix1 k)) f * sg (zOf (y s) (fun k => g (ix1 k)) (fun k => b (ix1 k)) f) * d (ix3 0 s f)) hG ?_ ?_).trans ?_
  · rw [refSig_at, hG, sgE_coe]
  · rw [mul_at, mul_at, refSig_at, hz, sgE_coe, hd, EReal.coe_mul, EReal.coe_mul]
  · refine congrArg Real.toEReal ?_
    unfold dgateR dgateOf
    ring

include hy hp hg hb hd in
theorem refDYs_at : refDYs Y (mulf (refDZ Y P Gn Bs D) (refRow Gn)) (ix3 0 s f) = (dyR y p g b d s f : EReal) := by
  refine refDY_at (y s) (fun k => dzR y p g b d s k * g (ix1 k)) s f (refCenY y hy s) fun k => ?_
  rw [mul_at, refDZ_at y p g b d hy hp hg hb hd, refRow_at, hg, EReal.coe_mul]

def out1 (X : T3) : FVec Ideal S16384x256 .f32 := shapeCast _ X shapeCasts_S1x16384x256_S16384x256
def out2 (X : T3) : FVec Ideal S16384x256 .bf16 := truncf .bf16 (shapeCast _ X shapeCasts_S1x16384x256_S16384x256) bitsLt_bf16_f32
def outR (X : T3) : FVec Ideal S1x256 .f32 := shapeCast _ (refSum X) shapeCasts_S256_S1x256

theorem out1_at (X : T3) : out1 X (ix2 s f) = X (ix3 0 s f) := by
  pointwise [out1]
theorem out2_at (X : T3) : out2 X (ix2 s f) = X (ix3 0 s f) := by
  pointwise [out2]
theorem outR_at (X : T3) : outR X (ix2 0 f) = ∑ s : Fin 16384, X (ix3 0 s f) := by
  refine Eq.trans ?_ (refSum_at X f)
  unfold outR
  generalize refSum X = Z
  pointwise []

end Reference

/-- All six results: the reference's terms over the kernel's arguments are the kernel's arrays. -/
theorem all_eq (m : (ℓ : Loc Cert.ConvBwdAIdeal.nD Cert.ConvBwdAIdeal.τ Cert.ConvBwdAIdeal.sig) → Buf (Elt Ideal) ℓ) (hpre : Cert.Pre_ConvBwdAIdeal_finite_conv_bwd_a m)
    (c : Dev Cert.ConvBwdAIdeal.nD) (a0 : FVec Ideal Cert.ConvBwdARefIdeal.S1x16384x2816 .f32) (a1 : FVec Ideal Cert.ConvBwdARefIdeal.S31x256 .f32)
    (a2 a3 a4 : FVec Ideal Cert.ConvBwdARefIdeal.S256 .f32) (a5 : T3)
    (h0 : A0 m c = a0) (h1 : A1 m c = a1) (h2 : A2 m c = a2) (h3 : A3 m c = a3) (h4 : A4 m c = a4) (h5 : A5 m c = a5)
    (hp : FVec Ideal Cert.ConvBwdARefIdeal.S1x16414x256 .f32) (ehp : hp = refHP (mulf (refA a0) (refSig (refB a0)))) (Y : T3) (eY : Y = refY hp a1 a2)
    (DZ : T3) (eDZ : DZ = refDZ Y a0 a3 a4 a5) (DY : T3) (eDY : DY = refDYs Y (mulf DZ (refRow a3))) :
    out1 DY = (Cert.ConvBwdAIdeal.Gen.dats m 0 c).arrAt 11 Cert.ConvBwdAIdeal.cfg0.N
      ∧ out2 (refDG Y a0 a3 a4 a5) = (Cert.ConvBwdAIdeal.Gen.dats m 0 c).arrAt 12 Cert.ConvBwdAIdeal.cfg0.N
      ∧ accW hp DY 30 (by decide) = (Cert.ConvBwdAIdeal.Gen.dats m 0 c).arrAt 13 Cert.ConvBwdAIdeal.cfg0.N
      ∧ outR DY = (Cert.ConvBwdAIdeal.Gen.dats m 0 c).arrAt 14 Cert.ConvBwdAIdeal.cfg0.N
      ∧ outR (mulf (refN (refCen Y) (Host.rsqrt (refVar (refCen Y)))) DZ) = (Cert.ConvBwdAIdeal.Gen.dats m 0 c).arrAt 15 Cert.ConvBwdAIdeal.cfg0.N
      ∧ outR DZ = (Cert.ConvBwdAIdeal.Gen.dats m 0 c).arrAt 16 Cert.ConvBwdAIdeal.cfg0.N := by
  subst h0 h1 h2 h3 h4 h5 ehp eY eDZ eDY
  obtain ⟨r0, r1, r2, r3, r4, r5⟩ := real_args _ _ _ _ _ _ (hpre c)
  have hY : ∀ s f, IsR (yArr m c (ix3 0 s f)) := refY_real _ _ _
    (fun s f => by rw [refHP_at]; exact hrow_real _ (fun i => ⟨_, congrFun r0 i⟩) _ _) (fun k f => ⟨_, congrFun r1 _⟩) (fun f => ⟨_, congrFun r2 _⟩)
  choose y hy using hY
  have hDZ := refDZ_at y _ _ _ _ hy r0 r3 r4 r5
  have hDY := refDYs_at y _ _ _ _ hy r0 r3 r4 r5
  rw [final11 m c y _ _ _ _ hy r0 r3 r4 r5, final12 m c y _ _ _ _ hy r0 r3 r4 r5, final13 m c y _ _ _ _ hy r0 r3 r4 r5,
    final14 m c y _ _ _ _ hy r0 r3 r4 r5, final15 m c y _ _ _ _ hy r0 r3 r4 r5, final16 m c y _ _ _ _ hy r0 r3 r4 r5]
  refine ⟨?_, ?_, ?_, ?_, ?_, ?_⟩
  · funext i
    obtain ⟨s, f, rfl⟩ : ∃ (s : Fin 16384) (f : Fin 256), i = ix2 s f := ⟨i 0, i 1, eq_ix2 i⟩
    exact (out1_at s f _).trans (hDY s f)
  · funext i
    obtain ⟨s, f, rfl⟩ : ∃ (s : Fin 16384) (f : Fin 256), i = ix2 s f := ⟨i 0, i 1, eq_ix2 i⟩
    exact (out2_at s f _).trans (refDG_at y _ _ _ _ hy r0 r3 r4 r5 s f)
  · funext i
    obtain ⟨k, f, rfl⟩ : ∃ (k : Fin 31) (f : Fin 256), i = ix2 k f := ⟨i 0, i 1, eq_ix2 i⟩
    refine (accW_at _ _ k f 30 (by decide)).trans ((if_pos (Nat.zero_le _)).trans (Finset.sum_congr rfl fun s _ => ?_))
    rw [hDY, refHP_at, mul_comm]
    exact congrArg (fun n => _ * hrow (A0 m c) n f) (show k.val + s.val + 1 = s.val + (k.val + 1) by omega)
  · funext i
    obtain ⟨f, rfl⟩ : ∃ f : Fin 256, i = ix2 0 f := ⟨i 1, by idx_ext⟩
    exact (outR_at f _).trans (Finset.sum_congr rfl fun s _ => hDY s f)
  · funext i
    obtain ⟨f, rfl⟩ : ∃ f : Fin 256, i = ix2 0 f := ⟨i 1, by idx_ext⟩
    refine (outR_at f _).trans (Finset.sum_congr rfl fun s _ => ?_)
    rw [mul_at, hDZ, refNY y hy, mul_comm]
    exact rfl
  · funext i
    obtain ⟨f, rfl⟩ : ∃ f : Fin 256, i = ix2 0 f := ⟨i 1, by idx_ext⟩
    exact (outR_at f _).trans (Finset.sum_congr rfl fun s _ => hDZ s f)

set_option maxHeartbeats 4000000 in
/-- The kernel's six results are the vector-Jacobian product's. -/
theorem algebraic : Cert.algebraic_ConvBwdAIdeal_ConvBwdARefIdeal_pre_finite_conv_bwd_a := by
  pair_intro
  · run_from Cert.ConvBwdAIdeal.Value.run_blocks m g
  · run_from Cert.ConvBwdARefIdeal.Value.run m' g'
    · obtain ⟨h0, h1, h2, h3, h4, h5⟩ := hagree c
      exact Eq.trans rfl (all_eq m hpre c _ _ _ _ _ _ h0.symm h1.symm h2.symm h3.symm h4.symm h5.symm _ rfl _ rfl _ rfl _ rfl).1
    · obtain ⟨h0, h1, h2, h3, h4, h5⟩ := hagree c
      exact Eq.trans rfl (all_eq m hpre c _ _ _ _ _ _ h0.symm h1.symm h2.symm h3.symm h4.symm h5.symm _ rfl _ rfl _ rfl _ rfl).2.1
    · obtain ⟨h0, h1, h2, h3, h4, h5⟩ := hagree c
      exact Eq.trans rfl (all_eq m hpre c _ _ _ _ _ _ h0.symm h1.symm h2.symm h3.symm h4.symm h5.symm _ rfl _ rfl _ rfl _ rfl).2.2.1
    · obtain ⟨h0, h1, h2, h3, h4, h5⟩ := hagree c
      exact Eq.trans rfl (all_eq m hpre c _ _ _ _ _ _ h0.symm h1.symm h2.symm h3.symm h4.symm h5.symm _ rfl _ rfl _ rfl _ rfl).2.2.2.1
    · obtain ⟨h0, h1, h2, h3, h4, h5⟩ := hagree c
      exact Eq.trans rfl (all_eq m hpre c _ _ _ _ _ _ h0.symm h1.symm h2.symm h3.symm h4.symm h5.symm _ rfl _ rfl _ rfl _ rfl).2.2.2.2.1
    · obtain ⟨h0, h1, h2, h3, h4, h5⟩ := hagree c
      exact Eq.trans rfl (all_eq m hpre c _ _ _ _ _ _ h0.symm h1.symm h2.symm h3.symm h4.symm h5.symm _ rfl _ rfl _ rfl _ rfl).2.2.2.2.2

/-- The reference's frame: it is host operations alone, none of which writes an argument, and it declares no semaphore. -/
theorem frame_ref : Cert.quiescent_ConvBwdARefIdeal := fun m ρ _ =>
  (θ_run Cert.ConvBwdARefIdeal.defs _ _).mono
    (fun r h => ⟨fun c => (h c).2.2.2.2.2.2, sem_eq_zero_of_no_sems (by decide) r.2⟩)
    (Cert.ConvBwdARefIdeal.Value.run (F := Ideal) m ρ)

end Cert.ConvBwdAClaims

end
-- ==== Proof.SguMath.lean ====
/-
  The spatial gating unit over the reals: the exact GELU and its derivative, the mix of a chunk's rows by a matrix for each
  head, and the gradients of a chunk.
-/
module

public import proofs.«01_k».proof.Proof.LnMath
public import Idealize.ShloMosaic.PureOps.Ideal.Laws

@[expose] public section

noncomputable section

namespace Cert.Sgu

open Idealize.ShloMosaic Cert.Reals Cert.Ln

/-! ## The exact GELU -/

/-- The error function of a real. -/
def erfR (x : ℝ) : ℝ := 2 / Real.sqrt Real.pi * ∫ t in (0 : ℝ)..x, Real.exp (-(t ^ 2))
theorem erf_real (x : ℝ) : Ideal.erf (x : EReal) = (erfR x : EReal) := rfl

/-- The normal distribution function. -/
def cdf (x : ℝ) : ℝ := 1 / 2 * (1 + erfR (x * (Real.sqrt 2)⁻¹))
/-- The exact GELU. -/
def gelu (x : ℝ) : ℝ := x * cdf x
/-- Its derivative. -/
def dgelu (x : ℝ) : ℝ := cdf x + x * (Real.exp (-(1 / 2) * x * x) * (Real.sqrt (2 * Real.pi))⁻¹)

theorem word_half : Ideal.ofBits .f32 0x3F000000#32 = ((1 / 2 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_neg_two : Ideal.ofBits .f32 0xC0000000#32 = ((-2 : ℝ) : EReal) := by
  simp [Ideal.ofBits, Ideal.ieee, -EReal.coe_mul]; norm_num
theorem word_neg_one : Ideal.ofBits .f32 0xBF800000#32 = ((-1 : ℝ) : EReal) := by
  simp [Ideal.ofBits, Ideal.ieee, -EReal.coe_mul]; norm_num

/-- The distribution function as the kernel writes it. -/
theorem cdf_kernel (x : ℝ) : ((1 / 2 : ℝ) : EReal) * (1 + Ideal.erf ((x : EReal) * (((Real.sqrt 2)⁻¹ : ℝ) : EReal))) = (cdf x : EReal) := by
  rw [← EReal.coe_mul, erf_real, ← EReal.coe_one, ← EReal.coe_add, ← EReal.coe_mul]; rfl

theorem gelu_kernel (x : ℝ) : (x : EReal) * (cdf x : EReal) = (gelu x : EReal) := by
  rw [← EReal.coe_mul]; rfl

theorem dgelu_kernel (x : ℝ) : (cdf x : EReal) + (x : EReal) * (Ideal.exp (((-(1 / 2) : ℝ) : EReal) * (x : EReal) * (x : EReal)) * (((Real.sqrt (2 * Real.pi))⁻¹ : ℝ) : EReal)) = (dgelu x : EReal) := by
  rw [← EReal.coe_mul, ← EReal.coe_mul, Ideal.exp_coe, ← EReal.coe_mul, ← EReal.coe_mul, ← EReal.coe_add]; rfl

theorem sqrt_two : Ideal.sqrt ((2 : ℝ) : EReal) = (Real.sqrt 2 : EReal) := by
  rw [Ideal.sqrt_coe, if_neg (by norm_num)]

theorem sqrt_two_ne : Real.sqrt 2 ≠ 0 := (Real.sqrt_pos.2 two_pos).ne'
theorem sqrt_pi_ne : Real.sqrt Real.pi ≠ 0 := (Real.sqrt_pos.2 Real.pi_pos).ne'

/-- The reference's argument of the complementary error function. -/
theorem arg_host (x : ℝ) : Ideal.div (-(x : EReal)) (Real.sqrt 2 : EReal) = ((-(x * (Real.sqrt 2)⁻¹) : ℝ) : EReal) := by
  rw [← EReal.coe_neg, div_coe_coe sqrt_two_ne]
  exact congrArg Real.toEReal (by rw [neg_div, div_eq_mul_inv])

theorem erfc_host (x : ℝ) : Ideal.erfc ((-(x * (Real.sqrt 2)⁻¹) : ℝ) : EReal) = ((1 + erfR (x * (Real.sqrt 2)⁻¹) : ℝ) : EReal) := by
  rw [EReal.coe_neg, Ideal.erfc_neg, erf_real, EReal.coe_add, EReal.coe_one]

theorem gelu_host (x : ℝ) : ((1 / 2 * x : ℝ) : EReal) * ((1 + erfR (x * (Real.sqrt 2)⁻¹) : ℝ) : EReal) = (gelu x : EReal) := by
  rw [← EReal.coe_mul]
  exact congrArg Real.toEReal (by unfold gelu cdf; ring)

/-- The constant of the complementary error function's derivative. -/
theorem const_host : Ideal.div ((-2 : ℝ) : EReal) (Ideal.sqrt (Ideal.acos ((-1 : ℝ) : EReal))) = ((-2 / Real.sqrt Real.pi : ℝ) : EReal) := by
  rw [Ideal.acos_coe, if_pos (by norm_num), Real.arccos_neg_one, Ideal.sqrt_coe, if_neg (not_lt.2 Real.pi_pos.le), div_coe_coe sqrt_pi_ne]

/-- The cotangent `q` through the GELU, as the vector-Jacobian product writes it. -/
theorem dgelu_host (x q : ℝ) :
    -(((-2 / Real.sqrt Real.pi * Real.exp (-(-(x * (Real.sqrt 2)⁻¹)) * -(x * (Real.sqrt 2)⁻¹)) * (1 / 2 * x * q)) / Real.sqrt 2)) + 1 / 2 * (q * (1 + erfR (x * (Real.sqrt 2)⁻¹)))
      = q * dgelu x := by
  have h : -(-(x * (Real.sqrt 2)⁻¹)) * -(x * (Real.sqrt 2)⁻¹) = -(1 / 2) * x * x := by
    have h2 : (Real.sqrt 2)⁻¹ * (Real.sqrt 2)⁻¹ = 1 / 2 := by
      rw [← mul_inv, Real.mul_self_sqrt two_pos.le, one_div]
    calc -(-(x * (Real.sqrt 2)⁻¹)) * -(x * (Real.sqrt 2)⁻¹) = -((Real.sqrt 2)⁻¹ * (Real.sqrt 2)⁻¹) * x * x := by ring
      _ = _ := by rw [h2]
  rw [h]
  unfold dgelu cdf
  rw [Real.sqrt_mul two_pos.le, mul_inv]
  generalize Real.exp (-(1 / 2) * x * x) = e
  have h1 := sqrt_two_ne
  have h2 := sqrt_pi_ne
  field_simp
  ring

/-! ## A chunk -/

/-- The head of a feature. -/
def hd (f : Fin 256) : Fin 4 := ⟨f.val / 64, by omega⟩

/-- The rows of a chunk mixed by the matrix of each feature's head. -/
def mix (W : Fin 4 → Fin 128 → Fin 128 → ℝ) (X : Fin 128 → Fin 256 → ℝ) (a : Fin 128) (f : Fin 256) : ℝ := ∑ k, W (hd f) a k * X k f

/-- A sum of one selected term for each head is the term of the head. -/
theorem select_heads (h : Fin 4) (T : Fin 4 → EReal) :
    (if h = 0 then T 0 else 0) + (if h = 1 then T 1 else 0) + (if h = 2 then T 2 else 0) + (if h = 3 then T 3 else 0) = T h := by
  fin_cases h <;> simp

section Chunk
variable (u v q d : Fin 128 → Fin 256 → ℝ) (g b : Fin 256 → ℝ) (w : Fin 4 → Fin 128 → Fin 128 → ℝ) (bias : Fin 128 → Fin 256 → ℝ)

/-- The normed rows with gain and offset. -/
def vln (a : Fin 128) (f : Fin 256) : ℝ := zOf (fun k => gelu (v a k)) g b f
/-- The mixed rows with the bias. -/
def mixed (a : Fin 128) (f : Fin 256) : ℝ := mix w (vln v g b) a f + bias a f
/-- The cotangent of the mixed rows. -/
def dmix (a : Fin 128) (f : Fin 256) : ℝ := d a f * gelu (u a f) * (q a f * sg (q a f))
/-- The gate's gradient. -/
def dgt (a : Fin 128) (f : Fin 256) : ℝ := d a f * gelu (u a f) * mixed v g b w bias a f * (sg (q a f) * (1 + q a f * (1 - sg (q a f))))
/-- The first half's gradient. -/
def dup (a : Fin 128) (f : Fin 256) : ℝ := d a f * mixed v g b w bias a f * (q a f * sg (q a f)) * dgelu (u a f)
/-- The normed rows' cotangent. -/
def dvln (a : Fin 128) (f : Fin 256) : ℝ := mix (fun h k s => w h s k) (dmix u q d) a f
/-- The second half's gradient. -/
def dvp (a : Fin 128) (f : Fin 256) : ℝ := lnBwd (fun k => gelu (v a k)) (fun k => dvln u q d w a k * g k) f * dgelu (v a f)

end Chunk

end Cert.Sgu

end
-- ==== Proof.SguBody.lean ====
/- The spatial gating unit's backward body: what the operations on one chunk of 128 rows leave, over rows of reals. -/
module

public import proofs.«01_k».proof.Proof.SguMath
public import proofs.«01_k».proof.Proof.Gen.SguBwdIdeal.Value
public import Idealize.ShloMosaic.Lib.Pointwise
public import Idealize.ShloMosaic.Lib.Pipeline.ValueKit
public import Idealize.ShloMosaic.Lib.Pipeline.ReadBack
public import Idealize.ShloMosaic.Lib.Pipeline.CanonAppend

@[expose] public section

noncomputable section

open Idealize.ShloMosaic Idealize.ShloMosaic.TcCoe Idealize.SL.Sem Idealize.ShloMosaic.StableHlo Idealize.ShloMosaic.IdealRules

namespace Cert.SguBwdClaims

open Cert.Reals Cert.Ln Cert.Sgu
open Cert.SguBwdIdeal Cert.SguBwdIdeal.Gen

theorem inv2 : (Named.named (F := Ideal) κ "inv_sqrt_2" (φ := .f32) 0x3F3504F3#32 : EReal) = (((Real.sqrt 2)⁻¹ : ℝ) : EReal) :=
  IdealRules.named_const.ideal_named_scalar _ _ _ _ rfl
theorem inv2pi : (Named.named (F := Ideal) κ "inv_sqrt_2pi" (φ := .f32) 0x3ECC422A#32 : EReal) = (((Real.sqrt (2 * Real.pi))⁻¹ : ℝ) : EReal) :=
  IdealRules.named_const.ideal_named_scalar _ _ _ _ rfl

abbrev C2 := FVec Ideal S128x256 .f32
abbrev R2 := FVec Ideal S1x256 .f32
abbrev M3 := FVec Ideal S1x128x128 .bf16

def one : Ideal .f32 := Scalar.ofBits .f32 0x3F800000#32

def kUg (U : C2) : C2 := k0_pay15 (F := Ideal) (k0_pay12 U) (k0_pay13 U) one
def kDug (U : C2) : C2 := k0_pay16 (F := Ideal) (k0_pay12 U) (k0_pay13 U) one
def kVn (V : C2) : C2 := k0_pay22 (F := Ideal) (k0_pay20 V) (k0_pay21 V)
def kVln (V : C2) (G B : R2) : FVec Ideal S128x256 .bf16 := k0_pay23 (F := Ideal) (k0_pay20 V) (k0_pay21 V) G B
def kMixA (V : C2) (G B : R2) (W0 W1 W2 : M3) : C2 := k0_pay24 (F := Ideal) k0_pay8 k0_pay9 k0_pay10 (k0_pay20 V) (k0_pay21 V) G B W0 W1 W2
def kMixB (V : C2) (G B : R2) (W3 : M3) : C2 := k0_pay25 (F := Ideal) k0_pay11 (k0_pay20 V) (k0_pay21 V) G B W3
def kDm (U Q D : C2) : C2 := k0_pay33 (F := Ideal) (kUg U) Q D
def kDv (X : FVec Ideal S128x256 .bf16) (W0 W1 W2 W3 : M3) : C2 := k0_pay41 (F := Ideal) k0_pay8 k0_pay9 k0_pay10 k0_pay11 X W0 W1 W2 W3

theorem pay12_at (X : C2) (a : Fin 128) (f : Fin 256) : k0_pay12 (F := Ideal) X (ix2 a f) = X (ix2 a f) := by
  pointwise [k0_pay12]
theorem pay17_at (X : C2) (a : Fin 128) (f : Fin 256) : k0_pay17 (F := Ideal) X (ix2 a f) = X (ix2 a f) := by
  pointwise [k0_pay17]
theorem pay27_at (X : C2) (a : Fin 128) (f : Fin 256) : k0_pay27 (F := Ideal) X (ix2 a f) = X (ix2 a f) := by
  pointwise [k0_pay27]
theorem pay30_at (X : C2) (a : Fin 128) (f : Fin 256) : k0_pay30 (F := Ideal) X (ix2 a f) = X (ix2 a f) := by
  pointwise [k0_pay30]

section Act
variable (X : C2) (x : ℝ) (a : Fin 128) (f : Fin 256) (h : X (ix2 a f) = (x : EReal))
include h

theorem pay14_at : k0_pay14 (F := Ideal) (k0_pay13 X) one (ix2 a f) = (cdf x : EReal) := by
  have h12 := (pay12_at X a f).trans h
  pointwise [k0_pay14, k0_pay13, one]
  rw [word_half, inv2, h12]
  exact cdf_kernel x

theorem kUg_at : kUg X (ix2 a f) = (gelu x : EReal) := by
  have h12 := (pay12_at X a f).trans h
  have h14 := pay14_at X x a f h
  unfold kUg
  generalize k0_pay13 (F := Ideal) X = Y at h14 ⊢
  pointwise [k0_pay15]
  rw [h14, h12]
  exact gelu_kernel x

theorem kDug_at : kDug X (ix2 a f) = (dgelu x : EReal) := by
  have h12 := (pay12_at X a f).trans h
  have h14 := pay14_at X x a f h
  unfold kDug
  generalize k0_pay13 (F := Ideal) X = Y at h14 ⊢
  pointwise [k0_pay16]
  rw [h14, h12, word_neg_half, inv2pi]
  exact dgelu_kernel x

theorem pay18_at : k0_pay18 (F := Ideal) X (ix2 a f) = (cdf x : EReal) := by
  have h12 := (pay17_at X a f).trans h
  pointwise [k0_pay18]
  rw [word_half, inv2, h12]
  exact cdf_kernel x

theorem pay19_at : k0_pay19 (F := Ideal) X (ix2 a f) = (dgelu x : EReal) := by
  have h12 := (pay17_at X a f).trans h
  have h14 := pay18_at X x a f h
  pointwise [k0_pay19]
  rw [h14, h12, word_neg_half, inv2pi]
  exact dgelu_kernel x

theorem pay28_at : k0_pay28 (F := Ideal) X (ix2 a f) = (sg x : EReal) := by
  have h12 := (pay27_at X a f).trans h
  pointwise [k0_pay28]
  rw [h12]
  exact sg_kernel x

theorem pay29_at : k0_pay29 (F := Ideal) X (ix2 a f) = ((x * sg x : ℝ) : EReal) := by
  have h12 := (pay27_at X a f).trans h
  have h14 := pay28_at X x a f h
  pointwise [k0_pay29]
  rw [h12, h14, EReal.coe_mul]

end Act

section Row
variable (V : C2) (v : Fin 256 → ℝ) (a : Fin 128) (f : Fin 256) (h : ∀ k, V (ix2 a k) = (v k : EReal))
include h

theorem pay20_at : k0_pay20 (F := Ideal) V (ix2 a f) = (cen (fun k => gelu (v k)) f : EReal) := by
  have h17 : ∀ k, k0_pay17 (F := Ideal) V (ix2 a k) = (v k : EReal) := fun k => (pay17_at V a k).trans (h k)
  have h18 : ∀ k, k0_pay18 (F := Ideal) V (ix2 a k) = (cdf (v k) : EReal) := fun k => pay18_at V (v k) a k (h k)
  pointwise [k0_pay20]
  rw [word_256]
  simp only [h17, h18, gelu_kernel]
  exact cen_eq (fun k => gelu (v k)) f (fun _ => rfl)

theorem pay21_at : k0_pay21 (F := Ideal) V (ix2 a 0) = (rms 256 (cen (fun k => gelu (v k))) : EReal) := by
  have h20 : ∀ k, k0_pay20 (F := Ideal) V (ix2 a k) = (cen (fun k => gelu (v k)) k : EReal) := fun k => pay20_at V v a k h
  pointwise [k0_pay21]
  rw [word_256, word_eps]
  simp only [h20]
  exact rms_eq (by norm_num) _

theorem kVn_at : kVn V (ix2 a f) = (nrm (fun k => gelu (v k)) f : EReal) := by
  have h20 := pay20_at V v a f h
  have h21 := pay21_at V v a h
  unfold kVn
  generalize k0_pay20 (F := Ideal) V = C at h20 ⊢
  generalize k0_pay21 (F := Ideal) V = R at h21 ⊢
  pointwise [k0_pay22]
  rw [h20, h21]
  exact nrm_eq _ f

theorem kVln_at (G B : R2) (g b : Fin 256 → ℝ) (hg : ∀ k, G (ix2 0 k) = (g k : EReal)) (hb : ∀ k, B (ix2 0 k) = (b k : EReal)) :
    kVln V G B (ix2 a f) = (zOf (fun k => gelu (v k)) g b f : EReal) := by
  have h22 := kVn_at V v a f h
  unfold kVn at h22
  unfold kVln
  generalize k0_pay20 (F := Ideal) V = C at h22 ⊢
  generalize k0_pay21 (F := Ideal) V = R at h22 ⊢
  pointwise [k0_pay23]
  rw [h22, hg, hb]
  exact z_eq _ g b f

end Row

/-! ## The heads' masks and the mixes -/

theorem mask_at (a : Fin 128) (f : Fin 256) : k0_pay7 (ix2 a f) = BitVec.ofNat 32 (hd f).val := by
  pointwise [k0_pay7]
  revert f
  decide

abbrev M1 := IVec S128x256 1

/-- The mask of a head. -/
def IsMask (m : M1) (h : Fin 4) : Prop := ∀ (a : Fin 128) (f : Fin 256), (m (ix2 a f) = 1#1) = (hd f = h)

theorem mask_eq (h : Fin 4) (f : Fin 256) : (IntOp.cmpi .eq (BitVec.ofNat 32 (hd f).val) (BitVec.ofNat 32 h.val) = 1#1) = (hd f = h) := by
  generalize hd f = k
  revert k h
  decide

theorem pay8_mask : IsMask k0_pay8 0 := fun a f => by
  have h := mask_at a f
  generalize k0_pay7 = M at h ⊢
  have e : k0_pay8 (ix2 a f) = IntOp.cmpi .eq (k0_pay7 (ix2 a f)) 0#32 := rfl
  rw [e, mask_at]
  exact mask_eq 0 f
theorem pay9_mask : IsMask k0_pay9 1 := fun a f => by
  have e : k0_pay9 (ix2 a f) = IntOp.cmpi .eq (k0_pay7 (ix2 a f)) 1#32 := rfl
  rw [e, mask_at]
  exact mask_eq 1 f
theorem pay10_mask : IsMask k0_pay10 2 := fun a f => by
  have e : k0_pay10 (ix2 a f) = IntOp.cmpi .eq (k0_pay7 (ix2 a f)) 2#32 := rfl
  rw [e, mask_at]
  exact mask_eq 2 f
theorem pay11_mask : IsMask k0_pay11 3 := fun a f => by
  have e : k0_pay11 (ix2 a f) = IntOp.cmpi .eq (k0_pay7 (ix2 a f)) 3#32 := rfl
  rw [e, mask_at]
  exact mask_eq 3 f

theorem sel_at {m : BitVec 1} {k h : Fin 4} (e : (m = 1#1) = (k = h)) (x y : EReal) : Scalar.select m x y = if k = h then x else y := by
  unfold Scalar.select
  by_cases hk : k = h
  · rw [if_pos hk]; exact if_pos (e.mpr hk)
  · rw [if_neg hk]; exact if_neg (fun h' => hk (e.mp h'))

section Mix
variable (m0 m1 m2 m3 : M1) (h0 : IsMask m0 0) (h1 : IsMask m1 1) (h2 : IsMask m2 2) (h3 : IsMask m3 3)
  (X : FVec Ideal S128x256 .bf16) (W0 W1 W2 W3 : M3) (x : Fin 128 → Fin 256 → ℝ) (w : Fin 4 → Fin 128 → Fin 128 → ℝ)
  (hX : ∀ a f, X (ix2 a f) = (x a f : EReal))
  (hW0 : ∀ a k, W0 (ix3 0 a k) = (w 0 a k : EReal)) (hW1 : ∀ a k, W1 (ix3 0 a k) = (w 1 a k : EReal))
  (hW2 : ∀ a k, W2 (ix3 0 a k) = (w 2 a k : EReal)) (hW3 : ∀ a k, W3 (ix3 0 a k) = (w 3 a k : EReal))
  (a : Fin 128) (f : Fin 256)

/-- The term of each head. -/
def term (w : Fin 4 → Fin 128 → Fin 128 → ℝ) (x : Fin 128 → Fin 256 → ℝ) (a : Fin 128) (f : Fin 256) (h : Fin 4) : EReal := ∑ k, (w h a k : EReal) * (x k f : EReal)

theorem term_hd : term w x a f (hd f) = (mix w x a f : EReal) := by
  unfold term mix
  simp only [← EReal.coe_mul, coe_sum]

include h0 h1 h2 h3 hX hW0 hW1 hW2 hW3 in
theorem pay41_at : k0_pay41 (F := Ideal) m0 m1 m2 m3 X W0 W1 W2 W3 (ix2 a f) = (mix w x a f : EReal) := by
  have e0 := h0 a f
  have e1 := h1 a f
  have e2 := h2 a f
  have e3 := h3 a f
  pointwise [k0_pay41]
  rw [sel_at e0, sel_at e1, sel_at e2, sel_at e3]
  simp only [hX, hW0, hW1, hW2, hW3]
  exact (select_heads (hd f) (term w x a f)).trans (term_hd x w a f)

end Mix

/-! ## A chunk -/

def kMixed (V : C2) (G B : R2) (W0 W1 W2 W3 : M3) (Bi : C2) : C2 := k0_pay26 (F := Ideal) (kMixA V G B W0 W1 W2) (kMixB V G B W3) Bi
def kDgt (U V Q D : C2) (G B : R2) (W0 W1 W2 W3 : M3) (Bi : C2) : FVec Ideal S128x256 .bf16 := k0_pay31 (F := Ideal) (kUg U) (kMixA V G B W0 W1 W2) (kMixB V G B W3) Bi Q D
def kDup (U V Q D : C2) (G B : R2) (W0 W1 W2 W3 : M3) (Bi : C2) : FVec Ideal S128x256 .bf16 := k0_pay32 (F := Ideal) (kDug U) (kMixA V G B W0 W1 W2) (kMixB V G B W3) Bi Q D
def kX (U Q D : C2) : FVec Ideal S128x256 .bf16 := k0_pay35 (F := Ideal) (kDm U Q D)
def kDvl (U Q D : C2) (T0 T1 T2 T3 : M3) : C2 := kDv (kX U Q D) T0 T1 T2 T3
def kDvp (U V Q D : C2) (G : R2) (T0 T1 T2 T3 : M3) : FVec Ideal S128x256 .bf16 := k0_pay44 (F := Ideal) (k0_pay19 V) (k0_pay21 V) (kVn V) (kDvl U Q D T0 T1 T2 T3) G
def kDg (U V Q D : C2) (T0 T1 T2 T3 : M3) (r : R2) : R2 := k0_pay42 (F := Ideal) (kVn V) (kDvl U Q D T0 T1 T2 T3) r
def kDb (U Q D : C2) (T0 T1 T2 T3 : M3) (r : R2) : R2 := k0_pay43 (F := Ideal) (kDvl U Q D T0 T1 T2 T3) r
def kAcc (U Q D : C2) (r : C2) : C2 := k0_pay34 (F := Ideal) (kUg U) Q D r

section Chunk
variable (U V Q D : C2) (G B : R2) (W0 W1 W2 W3 T0 T1 T2 T3 : M3) (Bi : C2)
  (u v q d : Fin 128 → Fin 256 → ℝ) (g b : Fin 256 → ℝ) (w : Fin 4 → Fin 128 → Fin 128 → ℝ) (bias : Fin 128 → Fin 256 → ℝ)
  (hU : ∀ a k, U (ix2 a k) = (u a k : EReal)) (hV : ∀ a k, V (ix2 a k) = (v a k : EReal))
  (hQ : ∀ a k, Q (ix2 a k) = (q a k : EReal)) (hD : ∀ a k, D (ix2 a k) = (d a k : EReal))
  (hG : ∀ k, G (ix2 0 k) = (g k : EReal)) (hB : ∀ k, B (ix2 0 k) = (b k : EReal))
  (hW0 : ∀ a k, W0 (ix3 0 a k) = (w 0 a k : EReal)) (hW1 : ∀ a k, W1 (ix3 0 a k) = (w 1 a k : EReal))
  (hW2 : ∀ a k, W2 (ix3 0 a k) = (w 2 a k : EReal)) (hW3 : ∀ a k, W3 (ix3 0 a k) = (w 3 a k : EReal))
  (hT0 : ∀ a k, T0 (ix3 0 a k) = (w 0 k a : EReal)) (hT1 : ∀ a k, T1 (ix3 0 a k) = (w 1 k a : EReal))
  (hT2 : ∀ a k, T2 (ix3 0 a k) = (w 2 k a : EReal)) (hT3 : ∀ a k, T3 (ix3 0 a k) = (w 3 k a : EReal))
  (hBi : ∀ a k, Bi (ix2 a k) = (bias a k : EReal))
  (a : Fin 128) (f : Fin 256)

include hV hG hB hW0 hW1 hW2 hW3 hBi in
theorem kMixed_at : kMixed V G B W0 W1 W2 W3 Bi (ix2 a f) = (mixed v g b w bias a f : EReal) := by
  have hX : ∀ k j, kVln V G B (ix2 k j) = (vln v g b k j : EReal) := fun k j => kVln_at V (v k) k j (hV k) G B g b hG hB
  have e0 := pay8_mask a f
  have e1 := pay9_mask a f
  have e2 := pay10_mask a f
  have e3 := pay11_mask a f
  unfold kMixed kMixA kMixB
  unfold kVln at hX
  generalize k0_pay20 (F := Ideal) V = A at hX ⊢
  generalize k0_pay21 (F := Ideal) V = R at hX ⊢
  generalize k0_pay8 = m0 at e0 ⊢
  generalize k0_pay9 = m1 at e1 ⊢
  generalize k0_pay10 = m2 at e2 ⊢
  generalize k0_pay11 = m3 at e3 ⊢
  pointwise [k0_pay26, k0_pay24, k0_pay25]
  rw [sel_at e0, sel_at e1, sel_at e2, sel_at e3]
  simp only [hX, hW0, hW1, hW2, hW3, hBi]
  exact (Ideal.add_congr ((select_heads (hd f) (term w (vln v g b) a f)).trans (term_hd _ w a f)) rfl).trans (EReal.coe_add _ _).symm

include hU hQ hD in
theorem kDm_at : kDm U Q D (ix2 a f) = (dmix u q d a f : EReal) := by
  have h1 := kUg_at U (u a f) a f (hU a f)
  have h2 := pay29_at Q (q a f) a f (hQ a f)
  have h3 := (pay30_at D a f).trans (hD a f)
  unfold kDm
  generalize kUg U = A at h1 ⊢
  pointwise [k0_pay33]
  rw [h1, h2, h3]
  simp only [← EReal.coe_mul]
  rfl

include hU hQ hD in
theorem kX_at : kX U Q D (ix2 a f) = (dmix u q d a f : EReal) := by
  have h1 := kDm_at U Q D u q d hU hQ hD a f
  unfold kX
  generalize kDm U Q D = A at h1 ⊢
  pointwise [k0_pay35]
  exact h1

include hU hQ hD hT0 hT1 hT2 hT3 in
theorem kDvl_at : kDvl U Q D T0 T1 T2 T3 (ix2 a f) = (dvln u q d w a f : EReal) :=
  pay41_at _ _ _ _ pay8_mask pay9_mask pay10_mask pay11_mask (kX U Q D) T0 T1 T2 T3 (dmix u q d) (fun h k s => w h s k) (fun a f => kX_at U Q D u q d hU hQ hD a f) hT0 hT1 hT2 hT3 a f

include hU hV hQ hD hG hB hW0 hW1 hW2 hW3 hBi in
theorem kDgt_at : kDgt U V Q D G B W0 W1 W2 W3 Bi (ix2 a f) = (dgt u v q d g b w bias a f : EReal) := by
  have h1 := kUg_at U (u a f) a f (hU a f)
  have h2 := kMixed_at V G B W0 W1 W2 W3 Bi v g b w bias hV hG hB hW0 hW1 hW2 hW3 hBi a f
  have h3 := (pay30_at D a f).trans (hD a f)
  have h4 := pay28_at Q (q a f) a f (hQ a f)
  have h5 := (pay27_at Q a f).trans (hQ a f)
  unfold kDgt
  unfold kMixed at h2
  generalize kUg U = A at h1 ⊢
  generalize kMixA V G B W0 W1 W2 = MA at h2 ⊢
  generalize kMixB V G B W3 = MB at h2 ⊢
  pointwise [k0_pay31]
  rw [h1, h2, h3, h4, h5, dact_eq]
  simp only [← EReal.coe_mul]
  rfl

include hU hV hQ hD hG hB hW0 hW1 hW2 hW3 hBi in
theorem kDup_at : kDup U V Q D G B W0 W1 W2 W3 Bi (ix2 a f) = (dup u v q d g b w bias a f : EReal) := by
  have h1 := kDug_at U (u a f) a f (hU a f)
  have h2 := kMixed_at V G B W0 W1 W2 W3 Bi v g b w bias hV hG hB hW0 hW1 hW2 hW3 hBi a f
  have h3 := (pay30_at D a f).trans (hD a f)
  have h4 := pay29_at Q (q a f) a f (hQ a f)
  unfold kDup
  unfold kMixed at h2
  generalize kDug U = A at h1 ⊢
  generalize kMixA V G B W0 W1 W2 = MA at h2 ⊢
  generalize kMixB V G B W3 = MB at h2 ⊢
  pointwise [k0_pay32]
  rw [h1, h2, h3, h4]
  simp only [← EReal.coe_mul]
  rfl

include hU hV hQ hD hG hT0 hT1 hT2 hT3 in
theorem kDvp_at : kDvp U V Q D G T0 T1 T2 T3 (ix2 a f) = (dvp u v q d g w a f : EReal) := by
  have h1 := pay19_at V (v a f) a f (hV a f)
  have h2 := pay21_at V (v a) a (hV a)
  have h3 : ∀ k, kVn V (ix2 a k) = _ := fun k => kVn_at V (v a) a k (hV a)
  have h4 : ∀ k, kDvl U Q D T0 T1 T2 T3 (ix2 a k) = _ := fun k => kDvl_at U Q D T0 T1 T2 T3 u q d w hU hQ hD hT0 hT1 hT2 hT3 a k
  unfold kDvp
  generalize k0_pay19 (F := Ideal) V = A at h1 ⊢
  generalize k0_pay21 (F := Ideal) V = R at h2 ⊢
  generalize kVn V = N at h3 ⊢
  generalize kDvl U Q D T0 T1 T2 T3 = E at h4 ⊢
  pointwise [k0_pay44]
  rw [word_256]
  simp only [h1, h2, h3, h4, hG, ← EReal.coe_mul]
  exact (Ideal.mul_congr (lnBwd_kernel (fun k => gelu (v a k)) (fun k => dvln u q d w a k * g k) f) rfl).trans (EReal.coe_mul _ _).symm

include hU hV hQ hD hT0 hT1 hT2 hT3 in
theorem kDg_at (r : R2) : kDg U V Q D T0 T1 T2 T3 r (ix2 0 f) = r (ix2 0 f) + ∑ a : Fin 128, (dvln u q d w a f : EReal) * (nrm (fun k => gelu (v a k)) f : EReal) := by
  have h3 : ∀ a, kVn V (ix2 a f) = _ := fun a => kVn_at V (v a) a f (hV a)
  have h4 : ∀ a, kDvl U Q D T0 T1 T2 T3 (ix2 a f) = _ := fun a => kDvl_at U Q D T0 T1 T2 T3 u q d w hU hQ hD hT0 hT1 hT2 hT3 a f
  unfold kDg
  generalize kVn V = N at h3 ⊢
  generalize kDvl U Q D T0 T1 T2 T3 = E at h4 ⊢
  pointwise [k0_pay42]
  simp only [h3, h4]

include hU hQ hD hT0 hT1 hT2 hT3 in
theorem kDb_at (r : R2) : kDb U Q D T0 T1 T2 T3 r (ix2 0 f) = r (ix2 0 f) + ∑ a : Fin 128, (dvln u q d w a f : EReal) := by
  have h4 : ∀ a, kDvl U Q D T0 T1 T2 T3 (ix2 a f) = _ := fun a => kDvl_at U Q D T0 T1 T2 T3 u q d w hU hQ hD hT0 hT1 hT2 hT3 a f
  unfold kDb
  generalize kDvl U Q D T0 T1 T2 T3 = E at h4 ⊢
  pointwise [k0_pay43]
  simp only [h4]

include hU hQ hD in
theorem kAcc_at (r : C2) : kAcc U Q D r (ix2 a f) = r (ix2 a f) + (dmix u q d a f : EReal) := by
  have h1 := kDm_at U Q D u q d hU hQ hD a f
  unfold kDm at h1
  unfold kAcc
  generalize kUg U = A at h1 ⊢
  pointwise [k0_pay34]
  rw [h1]

end Chunk

/-! ## The mixes' gradient -/

section DW
variable (X Z : FVec Ideal S128x256 .bf16) (M : C2) (r : FVec Ideal S1x128x128 .f32) (m : M1) (h : Fin 4) (hm : IsMask m h)
  (x z : Fin 128 → Fin 256 → ℝ) (hX : ∀ a f, M (ix2 a f) = (x a f : EReal)) (hZ : ∀ a f, Z (ix2 a f) = (z a f : EReal)) (a k : Fin 128)

/-- A chunk's share of a head's gradient. -/
def dwR (x z : Fin 128 → Fin 256 → ℝ) (h : Fin 4) (a k : Fin 128) : EReal := ∑ f : Fin 256, (if hd f = h then (x a f : EReal) * (z k f : EReal) else 0)

include hm hX hZ in
theorem pay36_at : k0_pay36 (F := Ideal) m Z M r (ix3 0 a k) = r (ix3 0 a k) + dwR x z h a k := by
  have e0 : ∀ f, (m (ix2 a f) = 1#1) = (hd f = h) := hm a
  pointwise [k0_pay36, k0_pay35]
  simp only [sel_at (e0 _), hX, hZ, ite_mul, zero_mul]
  rfl
end DW

end Cert.SguBwdClaims

end
-- ==== Proof.SguRef.lean ====
/- The spatial gating unit backward's reference, read over the reals. -/
module

public import proofs.«01_k».proof.Proof.SguMath
public import proofs.«01_k».proof.Proof.ConvBwdARef
public import proofs.«01_k».proof.Proof.Gen.SguBwdRefIdeal.Run
public import Idealize.ShloMosaic.Lib.Pointwise

@[expose] public section

set_option maxRecDepth 16384

noncomputable section

open Idealize.ShloMosaic Idealize.ShloMosaic.TcCoe Idealize.SL.Sem

namespace Cert.SguBwdClaims

open Cert.Reals Cert.Ln Cert.Sgu
open Cert.ConvBwdAClaims (T3 C3 refSig refSig_at refCen refCen_at refVar refN refN_at refRow refRow_at refDAct refDAct_at refC refDC refDY refDY_at refSum refSum_at)
open Cert.SguBwdRefIdeal Cert.SguBwdRefIdeal.Facts₀

abbrev T5 := FVec Ideal S1x128x128x4x64 .f32
abbrev D5 := FVec Ideal S4x1x128x64x128 .f32

def refU (p : FVec Ideal S1x16384x2816 .f32) : T3 := extractStridedSlice S1x16384x256 ![0, 0, 2048] p slices_S1x16384x2816_S1x16384x256_0_0_2048
def refV (p : FVec Ideal S1x16384x2816 .f32) : T3 := extractStridedSlice S1x16384x256 ![0, 0, 2304] p slices_S1x16384x2816_S1x16384x256_0_0_2304
def refQ (p : FVec Ideal S1x16384x2816 .f32) : T3 := extractStridedSlice S1x16384x256 ![0, 0, 2560] p slices_S1x16384x2816_S1x16384x256_0_0_2560

theorem refU_at (p : FVec Ideal S1x16384x2816 .f32) (s : Fin 16384) (f : Fin 256) : refU p (ix3 0 s f) = p (ix3 0 s ⟨2048 + f.val, by omega⟩) := by
  pointwise [refU]
theorem refV_at (p : FVec Ideal S1x16384x2816 .f32) (s : Fin 16384) (f : Fin 256) : refV p (ix3 0 s f) = p (ix3 0 s ⟨2304 + f.val, by omega⟩) := by
  pointwise [refV]
theorem refQ_at (p : FVec Ideal S1x16384x2816 .f32) (s : Fin 16384) (f : Fin 256) : refQ p (ix3 0 s f) = p (ix3 0 s ⟨2560 + f.val, by omega⟩) := by
  pointwise [refQ]

/-! ## The GELU -/

def refTwo : FVec Ideal S_ .f32 := id (Host.sqrt (constant S_ .f32 0x40000000#32))
def refArg (x : T3) : T3 := Host.divf (Host.negf x) (broadcastInDim S1x16384x256 ![] bcast_S_S1x16384x256 refTwo)
def refErfc (x : T3) : T3 := Host.erfc (refArg x)
def refHalf (x : T3) : T3 := mulf (broadcastInDim S1x16384x256 ![] bcast_S_S1x16384x256 (constant S_ .f32 0x3F000000#32)) x
def refGelu (x : T3) : T3 := mulf (refHalf x) (refErfc x)
def refExp (x : T3) : T3 := mulf (broadcastInDim S1x16384x256 ![] bcast_S_S1x16384x256 (id (Host.divf (constant S_ .f32 0xC0000000#32) (Host.sqrt (Host.acos (constant S_ .f32 0xBF800000#32)))))) (Host.exp (mulf (Host.negf (refArg x)) (refArg x)))
/-- The cotangent `q` through the GELU at `x`. -/
def refDGelu (x q : T3) : T3 :=
  addf (Host.negf (Host.divf (mulf (refExp x) (mulf (refHalf x) q)) (broadcastInDim S1x16384x256 ![] bcast_S_S1x16384x256 refTwo))) (mulf (broadcastInDim S1x16384x256 ![] bcast_S_S1x16384x256 (constant S_ .f32 0x3F000000#32)) (mulf q (refErfc x)))

section Gelu
variable (x q : T3) (r t : ℝ) (s : Fin 16384) (f : Fin 256) (hx : x (ix3 0 s f) = (r : EReal))
include hx

theorem refArg_at : refArg x (ix3 0 s f) = ((-(r * (Real.sqrt 2)⁻¹) : ℝ) : EReal) := by
  pointwise [refArg, refTwo]
  rw [hx]
  refine Eq.trans ?_ (arg_host r)
  rw [← sqrt_two, ← word_two]
  rfl
theorem refErfc_at : refErfc x (ix3 0 s f) = ((1 + erfR (r * (Real.sqrt 2)⁻¹) : ℝ) : EReal) :=
  (congrArg Ideal.erfc (refArg_at x r s f hx)).trans (erfc_host r)
theorem refHalf_at : refHalf x (ix3 0 s f) = ((1 / 2 * r : ℝ) : EReal) := by
  pointwise [refHalf]
  rw [word_half, hx, EReal.coe_mul]
theorem refGelu_at : refGelu x (ix3 0 s f) = (gelu r : EReal) := by
  have h1 := refHalf_at x r s f hx
  have h2 := refErfc_at x r s f hx
  unfold refGelu
  generalize refHalf x = A at h1 ⊢
  generalize refErfc x = B at h2 ⊢
  pointwise []
  rw [h1, h2, gelu_host]
theorem refExp_at : refExp x (ix3 0 s f) = ((-2 / Real.sqrt Real.pi * Real.exp (-(-(r * (Real.sqrt 2)⁻¹)) * -(r * (Real.sqrt 2)⁻¹)) : ℝ) : EReal) := by
  have h1 := refArg_at x r s f hx
  unfold refExp
  generalize refArg x = A at h1 ⊢
  have h2 : (mulf (broadcastInDim S1x16384x256 ![] bcast_S_S1x16384x256 (id (Host.divf (constant S_ .f32 0xC0000000#32) (Host.sqrt (Host.acos (constant S_ .f32 0xBF800000#32)))))) (Host.exp (mulf (Host.negf A) A)) : T3) (ix3 0 s f)
      = Ideal.div (Ideal.ofBits .f32 0xC0000000#32) (Ideal.sqrt (Ideal.acos (Ideal.ofBits .f32 0xBF800000#32))) * Ideal.exp (-(A (ix3 0 s f)) * A (ix3 0 s f)) := rfl
  rw [h2, word_neg_two, word_neg_one, const_host, h1, ← EReal.coe_neg, ← EReal.coe_mul, Ideal.exp_coe, ← EReal.coe_mul]
include hx in
theorem refDGelu_at (hq : q (ix3 0 s f) = (t : EReal)) : refDGelu x q (ix3 0 s f) = ((t * dgelu r : ℝ) : EReal) := by
  have h1 := refExp_at x r s f hx
  have h2 := refErfc_at x r s f hx
  have h3 := refHalf_at x r s f hx
  unfold refDGelu
  generalize refExp x = A at h1 ⊢
  generalize refErfc x = B at h2 ⊢
  generalize refHalf x = C at h3 ⊢
  have h4 : (addf (Host.negf (Host.divf (mulf A (mulf C q)) (broadcastInDim S1x16384x256 ![] bcast_S_S1x16384x256 refTwo))) (mulf (broadcastInDim S1x16384x256 ![] bcast_S_S1x16384x256 (constant S_ .f32 0x3F000000#32)) (mulf q B)) : T3) (ix3 0 s f)
      = -(Ideal.div (A (ix3 0 s f) * (C (ix3 0 s f) * q (ix3 0 s f))) (Ideal.sqrt (Ideal.ofBits .f32 0x40000000#32))) + Ideal.ofBits .f32 0x3F000000#32 * (q (ix3 0 s f) * B (ix3 0 s f)) := rfl
  rw [h4, h1, h2, h3, hq, word_half, word_two, sqrt_two]
  simp only [← EReal.coe_mul]
  rw [div_coe_coe sqrt_two_ne, ← EReal.coe_neg, ← EReal.coe_add, dgelu_host]
end Gelu

/-! ## The chunks -/

def ref5 (X : T3) : T5 := shapeCast _ X shapeCasts_S1x16384x256_S1x128x128x4x64
def ref3 (X : T5) : T3 := shapeCast _ X shapeCasts_S1x128x128x4x64_S1x16384x256
def refT (X : T5) : D5 := transpose S4x1x128x64x128 [3, 0, 1, 4, 2] X transposes_S1x128x128x4x64_S4x1x128x64x128_3_0_1_4_2
def refMix (X : T5) (w : FVec Ideal S4x128x128 .f32) : T5 :=
  transpose S1x128x128x4x64 [1, 2, 4, 0, 3] (Host.dotGeneral dot_S1x128x128x4x64_S4x128x128_S4x1x128x64x128_2_2_014_1_3_0 none X w) transposes_S4x1x128x64x128_S1x128x128x4x64_1_2_4_0_3
def refBack (X : D5) (w : FVec Ideal S4x128x128 .f32) : T5 :=
  transpose S1x128x128x4x64 [1, 2, 4, 0, 3] (Host.dotGeneral dot_S4x1x128x64x128_S4x128x128_S4x1x128x64x128_4_1_123_2_0_0 none X w) transposes_S4x1x128x64x128_S1x128x128x4x64_1_2_4_0_3
def refBias (b : FVec Ideal S4x128 .f32) : T5 :=
  broadcastInDim S1x128x128x4x64 ![0, 1, 2, 3, 4] bcast_S1x1x128x4x1_S1x128x128x4x64_0_1_2_3_4 (broadcastInDim S1x1x128x4x1 ![2, 3] bcast_S128x4_S1x1x128x4x1_2_3 (transpose S128x4 [1, 0] b transposes_S4x128_S128x4_1_0))
def refDW (X : D5) (Z : T5) : FVec Ideal S4x128x128 .f32 := Host.dotGeneral dot_S4x1x128x64x128_S1x128x128x4x64_S4x128x128_123_014_4_2_0_3 none X Z

/-- A row of a chunk. -/
def row (n a : Fin 128) : Fin 16384 := ⟨n.val * 128 + a.val, by omega⟩
/-- A feature of a head. -/
def feat (h : Fin 4) (l : Fin 64) : Fin 256 := ⟨h.val * 64 + l.val, by omega⟩
/-- The place of a feature in its head. -/
def ln (f : Fin 256) : Fin 64 := ⟨f.val % 64, by omega⟩
theorem feat_hd (f : Fin 256) : feat (hd f) (ln f) = f := Fin.ext (show f.val / 64 * 64 + f.val % 64 = f.val by omega)
theorem hd_feat (h : Fin 4) (l : Fin 64) : hd (feat h l) = h := Fin.ext (show (h.val * 64 + l.val) / 64 = h.val by omega)

theorem ref5_at (X : T3) (n a : Fin 128) (h : Fin 4) (l : Fin 64) : ref5 X (ix5 0 n a h l) = X (ix3 0 (row n a) (feat h l)) := by
  pointwise [ref5]
  rfl
theorem ref3_at (X : T5) (n a : Fin 128) (f : Fin 256) : ref3 X (ix3 0 (row n a) f) = X (ix5 0 n a (hd f) (ln f)) := by
  pointwise [ref3]
  have e1 : (⟨(row n a).val / 128, by omega⟩ : Fin 128) = n := Fin.ext (show (n.val * 128 + a.val) / 128 = n.val by omega)
  have e2 : (⟨(row n a).val % 128, by omega⟩ : Fin 128) = a := Fin.ext (show (n.val * 128 + a.val) % 128 = a.val by omega)
  rw [e1, e2]
  rfl
theorem refT_at (X : T5) (n a : Fin 128) (h : Fin 4) (l : Fin 64) : refT X (ix5 h 0 n l a) = X (ix5 0 n a h l) := by
  pointwise [refT]
theorem refMix_at (X : T5) (w : FVec Ideal S4x128x128 .f32) (n a : Fin 128) (h : Fin 4) (l : Fin 64) : refMix X w (ix5 0 n a h l) = ∑ k : Fin 128, X (ix5 0 n k h l) * w (ix3 h a k) := by
  pointwise [refMix]
theorem refBack_at (X : D5) (w : FVec Ideal S4x128x128 .f32) (n a : Fin 128) (h : Fin 4) (l : Fin 64) : refBack X w (ix5 0 n a h l) = ∑ k : Fin 128, X (ix5 h 0 n l k) * w (ix3 h k a) := by
  pointwise [refBack]
theorem refBias_at (b : FVec Ideal S4x128 .f32) (n a : Fin 128) (h : Fin 4) (l : Fin 64) : refBias b (ix5 0 n a h l) = b (ix2 h a) := by
  pointwise [refBias]

/-- A sequence of rows by chunks. -/
def ch (X : Fin 16384 → Fin 256 → ℝ) (n a : Fin 128) (f : Fin 256) : ℝ := X (row n a) f

def refVln (V : T3) (G B : FVec Ideal S256 .f32) : T3 :=
  addf (mulf (refN (refCen (refGelu V)) (Host.rsqrt (refVar (refCen (refGelu V))))) (refRow G)) (refRow B)
def refMixed (V : T3) (G B : FVec Ideal S256 .f32) (W : FVec Ideal S4x128x128 .f32) (b : FVec Ideal S4x128 .f32) : T3 :=
  ref3 (addf (refMix (ref5 (refVln V G B)) W) (refBias b))
/-- The output's cotangent times the gate. -/
def refDS (Q D : T3) : T3 := mulf D (mulf Q (refSig Q))
def refDMix (U Q D : T3) : T3 := mulf (refGelu U) (refDS Q D)
def refDVln (U Q D : T3) (W : FVec Ideal S4x128x128 .f32) : T3 := ref3 (refBack (refT (ref5 (refDMix U Q D))) W)
def refDUp (U V Q D : T3) (G B : FVec Ideal S256 .f32) (W : FVec Ideal S4x128x128 .f32) (b : FVec Ideal S4x128 .f32) : T3 :=
  refDGelu U (mulf (refDS Q D) (refMixed V G B W b))
def refDGt (U V Q D : T3) (G B : FVec Ideal S256 .f32) (W : FVec Ideal S4x128x128 .f32) (b : FVec Ideal S4x128 .f32) : T3 :=
  refDAct Q (refSig Q) (mulf (mulf (refGelu U) (refMixed V G B W b)) D)
def refDVp (V E : T3) : T3 :=
  refDGelu V (refDY (refDC (refCen (refGelu V)) E (refC (refCen (refGelu V)) E (refVar (refCen (refGelu V))) (Host.rsqrt (refVar (refCen (refGelu V))))) (Host.rsqrt (refVar (refCen (refGelu V))))))

section Chunks
variable (U V Q D : T3) (G B : FVec Ideal S256 .f32) (W : FVec Ideal S4x128x128 .f32) (b4 : FVec Ideal S4x128 .f32)
  (u v q d : Fin 16384 → Fin 256 → ℝ) (g b : Fin 256 → ℝ) (w : Fin 4 → Fin 128 → Fin 128 → ℝ) (bb : Fin 4 → Fin 128 → ℝ)
  (hU : ∀ s k, U (ix3 0 s k) = (u s k : EReal)) (hV : ∀ s k, V (ix3 0 s k) = (v s k : EReal))
  (hQ : ∀ s k, Q (ix3 0 s k) = (q s k : EReal)) (hD : ∀ s k, D (ix3 0 s k) = (d s k : EReal))
  (hG : ∀ k, G (ix1 k) = (g k : EReal)) (hB : ∀ k, B (ix1 k) = (b k : EReal))
  (hW : ∀ h a k, W (ix3 h a k) = (w h a k : EReal)) (hb : ∀ h a, b4 (ix2 h a) = (bb h a : EReal))
  (n a : Fin 128) (f : Fin 256)

include hV in
theorem refNrm_at (s : Fin 16384) (f : Fin 256) : refN (refCen (refGelu V)) (Host.rsqrt (refVar (refCen (refGelu V)))) (ix3 0 s f) = (nrm (fun k => gelu (v s k)) f : EReal) :=
  refN_at (fun k => gelu (v s k)) s f fun k => refCen_at (fun k => gelu (v s k)) s k (refGelu V) fun k => refGelu_at V (v s k) s k (hV s k)

include hV hG hB in
theorem refVln_at : refVln V G B (ix3 0 (row n a) f) = (vln (ch v n) g b a f : EReal) := by
  have h1 := refNrm_at V v hV (row n a) f
  have h2 := (refRow_at (row n a) f G).trans (hG f)
  have h3 := (refRow_at (row n a) f B).trans (hB f)
  unfold refVln
  generalize refN (refCen (refGelu V)) (Host.rsqrt (refVar (refCen (refGelu V)))) = X at h1 ⊢
  generalize refRow G = Y at h2 ⊢
  generalize refRow B = Z at h3 ⊢
  pointwise []
  rw [h1, h2, h3]
  exact z_eq _ g b f

include hV hG hB hW hb in
theorem refMixed_at : refMixed V G B W b4 (ix3 0 (row n a) f) = (mixed (ch v n) g b w (fun a f => bb (hd f) a) a f : EReal) := by
  have h1 : ∀ k h l, ref5 (refVln V G B) (ix5 0 n k h l) = (vln (ch v n) g b k (feat h l) : EReal) := fun k h l =>
    (ref5_at _ n k h l).trans (refVln_at V G B v g b hV hG hB n k _)
  unfold refMixed
  generalize ref5 (refVln V G B) = X at h1 ⊢
  rw [ref3_at]
  have e : (addf (refMix X W) (refBias b4) : T5) (ix5 0 n a (hd f) (ln f)) = refMix X W (ix5 0 n a (hd f) (ln f)) + refBias b4 (ix5 0 n a (hd f) (ln f)) := rfl
  rw [e, refMix_at, refBias_at, hb]
  simp only [h1, hW, feat_hd, ← EReal.coe_mul, coe_sum]
  rw [← EReal.coe_add]
  exact congrArg Real.toEReal (congrArg (· + bb (hd f) a) (Finset.sum_congr rfl fun k _ => mul_comm _ _))

include hQ hD in
theorem refDS_at (s : Fin 16384) (f : Fin 256) : refDS Q D (ix3 0 s f) = ((d s f * (q s f * sg (q s f)) : ℝ) : EReal) := by
  have h1 := refSig_at Q s f
  unfold refDS
  generalize refSig Q = S at h1 ⊢
  pointwise []
  rw [h1, hQ, hD, sgE_coe, ← EReal.coe_mul, ← EReal.coe_mul]

include hU hQ hD in
theorem refDMix_at : refDMix U Q D (ix3 0 (row n a) f) = (dmix (ch u n) (ch q n) (ch d n) a f : EReal) := by
  have h1 := refDS_at Q D q d hQ hD (row n a) f
  have h2 := refGelu_at U _ (row n a) f (hU (row n a) f)
  unfold refDMix
  generalize refDS Q D = S at h1 ⊢
  generalize refGelu U = T at h2 ⊢
  pointwise []
  rw [h1, h2, ← EReal.coe_mul]
  exact congrArg Real.toEReal (by unfold dmix ch; ring)

include hU hQ hD hW in
theorem refDVln_at : refDVln U Q D W (ix3 0 (row n a) f) = (dvln (ch u n) (ch q n) (ch d n) w a f : EReal) := by
  have h1 : ∀ k h l, refT (ref5 (refDMix U Q D)) (ix5 h 0 n l k) = (dmix (ch u n) (ch q n) (ch d n) k (feat h l) : EReal) := fun k h l =>
    (refT_at _ n k h l).trans ((ref5_at _ n k h l).trans (refDMix_at U Q D u q d hU hQ hD n k _))
  unfold refDVln
  generalize refT (ref5 (refDMix U Q D)) = X at h1 ⊢
  rw [ref3_at, refBack_at]
  simp only [h1, hW, feat_hd, ← EReal.coe_mul, coe_sum]
  exact congrArg Real.toEReal (Finset.sum_congr rfl fun k _ => mul_comm _ _)

include hU hV hQ hD hG hB hW hb in
theorem refDUp_at : refDUp U V Q D G B W b4 (ix3 0 (row n a) f) = (dup (ch u n) (ch v n) (ch q n) (ch d n) g b w (fun a f => bb (hd f) a) a f : EReal) := by
  refine (refDGelu_at U _ (u (row n a) f) (d (row n a) f * (q (row n a) f * sg (q (row n a) f)) * mixed (ch v n) g b w (fun a f => bb (hd f) a) a f) (row n a) f (hU _ _) ?_).trans (congrArg Real.toEReal (by unfold dup ch; ring))
  have h1 := refDS_at Q D q d hQ hD (row n a) f
  have h2 := refMixed_at V G B W b4 v g b w bb hV hG hB hW hb n a f
  generalize refDS Q D = S at h1 ⊢
  generalize refMixed V G B W b4 = T at h2 ⊢
  pointwise []
  rw [h1, h2, ← EReal.coe_mul]

include hU hV hQ hD hG hB hW hb in
theorem refDGt_at : refDGt U V Q D G B W b4 (ix3 0 (row n a) f) = (dgt (ch u n) (ch v n) (ch q n) (ch d n) g b w (fun a f => bb (hd f) a) a f : EReal) := by
  refine (refDAct_at (row n a) f Q _ _ (q (row n a) f) (gelu (u (row n a) f) * mixed (ch v n) g b w (fun a f => bb (hd f) a) a f * d (row n a) f) (hQ _ _) ((refSig_at _ _ _).trans (by rw [hQ, sgE_coe])) ?_).trans (congrArg Real.toEReal (by unfold dgt ch; ring))
  have h1 := refGelu_at U _ (row n a) f (hU (row n a) f)
  have h2 := refMixed_at V G B W b4 v g b w bb hV hG hB hW hb n a f
  generalize refGelu U = S at h1 ⊢
  generalize refMixed V G B W b4 = T at h2 ⊢
  pointwise []
  rw [h1, h2, hD, ← EReal.coe_mul, ← EReal.coe_mul]

include hU hV hQ hD hG hW in
theorem refDVp_at : refDVp V (mulf (refDVln U Q D W) (refRow G)) (ix3 0 (row n a) f) = (dvp (ch u n) (ch v n) (ch q n) (ch d n) g w a f : EReal) := by
  have hE : ∀ k, (mulf (refDVln U Q D W) (refRow G) : T3) (ix3 0 (row n a) k) = ((dvln (ch u n) (ch q n) (ch d n) w a k * g k : ℝ) : EReal) := fun k => by
    have h1 := refDVln_at U Q D W u q d w hU hQ hD hW n a k
    have h2 := (refRow_at (row n a) k G).trans (hG k)
    generalize refDVln U Q D W = S at h1 ⊢
    generalize refRow G = T at h2 ⊢
    pointwise []
    rw [h1, h2, ← EReal.coe_mul]
  generalize (mulf (refDVln U Q D W) (refRow G) : T3) = E at hE ⊢
  exact refDGelu_at V _ (v (row n a) f) _ (row n a) f (hV _ _)
    (refDY_at (fun k => gelu (v (row n a) k)) (fun k => dvln (ch u n) (ch q n) (ch d n) w a k * g k) (row n a) f
      (fun k => refCen_at (fun k => gelu (v (row n a) k)) (row n a) k (refGelu V) fun k => refGelu_at V _ (row n a) k (hV _ _)) hE)

end Chunks

abbrev dwD := dot_S4x1x128x64x128_S1x128x128x4x64_S4x128x128_123_014_4_2_0_3

/-- The contraction's index of a chunk and a feature. -/
def dwIdx (p : Fin 128 × Fin 64) : dwD.contr.Idx
  | ⟨0, _⟩ => (0 : Fin 1)
  | ⟨1, _⟩ => (p.1 : Fin 128)
  | ⟨2, _⟩ => (p.2 : Fin 64)
  | ⟨_ + 3, h⟩ => absurd (show _ < 3 from h) (by omega)

def dwEquiv : Fin 128 × Fin 64 ≃ dwD.contr.Idx where
  toFun := dwIdx
  invFun q := ((q ⟨1, by decide⟩ : Fin 128), (q ⟨2, by decide⟩ : Fin 64))
  left_inv p := rfl
  right_inv q := by
    funext i
    match i with
    | ⟨0, _⟩ => exact Fin.ext (by have h : (q ⟨0, by decide⟩ : Fin 1).val < 1 := (q ⟨0, by decide⟩ : Fin 1).isLt; show 0 = (q ⟨0, by decide⟩ : Fin 1).val; omega)
    | ⟨1, _⟩ => rfl
    | ⟨2, _⟩ => rfl
    | ⟨_ + 3, h⟩ => exact absurd (show _ < 3 from h) (by omega)

theorem refDW_at (X : D5) (Z : T5) (h : Fin 4) (a k : Fin 128) : refDW X Z (ix3 h a k) = ∑ n : Fin 128, ∑ l : Fin 64, X (ix5 h 0 n l a) * Z (ix5 0 n k h l) := by
  unfold refDW
  have e : ∀ p : Fin 128 × Fin 64, X (dwD.lhsIdx (ix3 h a k) (dwIdx p)) * Z (dwD.rhsIdx (ix3 h a k) (dwIdx p)) = X (ix5 h 0 p.1 p.2 a) * Z (ix5 0 p.1 k h p.2) := fun p => by
    have e1 : dwD.lhsIdx (ix3 h a k) (dwIdx p) = ix5 h 0 p.1 p.2 a := by
      funext i
      match i with
      | 0 => rfl
      | 1 => rfl
      | 2 => rfl
      | 3 => rfl
      | 4 => rfl
    have e2 : dwD.rhsIdx (ix3 h a k) (dwIdx p) = ix5 0 p.1 k h p.2 := by
      funext i
      match i with
      | 0 => rfl
      | 1 => rfl
      | 2 => rfl
      | 3 => rfl
      | 4 => rfl
    rw [e1, e2]
  refine (Ideal.dotGeneral_apply _ _ _ _ _ _).trans ?_
  rw [← Equiv.sum_comp dwEquiv, Fintype.sum_prod_type]
  exact Finset.sum_congr rfl fun n _ => Finset.sum_congr rfl fun l _ => e (n, l)

def refDBa (X : T5) : FVec Ideal S1x128x4 .f32 := Host.reduceAdd X (constant S_ .f32 0x00000000#32) reducesTo_S1x128x128x4x64_S1x128x4_d1_4 h_S_
theorem refDBa_at (X : T5) (a : Fin 128) (h : Fin 4) : refDBa X (ix3 0 a h) = ∑ n : Fin 128, ∑ l : Fin 64, X (ix5 0 n a h l) := by
  have e : refDBa X (ix3 0 a h) = Ideal.ofBits .f32 0#32 + ∑ i ∈ Finset.univ.filter (fun i => reducesTo_S1x128x128x4x64_S1x128x4_d1_4.drop i = ix3 0 a h), X i := rfl
  rw [e, Ideal.ofBits_zero_f32, zero_add, ← Fintype.sum_prod_type']
  refine (Finset.sum_bij (fun (p : Fin 128 × Fin 64) _ => (ix5 0 p.1 a h p.2 : S1x128x128x4x64.Idx)) ?_ ?_ ?_ ?_).symm
  · intro p _
    refine Finset.mem_filter.mpr ⟨Finset.mem_univ _, ?_⟩
    funext i
    match i with
    | 0 => rfl
    | 1 => rfl
    | 2 => rfl
  · intro p _ q _ h'
    exact Prod.ext (congrFun h' 1) (congrFun h' 4)
  · intro i hi
    have hd := (Finset.mem_filter.mp hi).2
    refine ⟨(i 1, i 4), Finset.mem_univ _, ?_⟩
    funext j
    match j with
    | 0 => exact (congrFun hd 0).symm
    | 1 => rfl
    | 2 => exact (congrFun hd 1).symm
    | 3 => exact (congrFun hd 2).symm
    | 4 => rfl
  · intro p _
    rfl
def refDBr (Y : FVec Ideal S1x128x4 .f32) : FVec Ideal S128x4 .f32 :=
  Host.reduceAdd (shapeCast _ Y shapeCasts_S1x128x4_S1x1x128x4x1) (constant S_ .f32 0x00000000#32) reducesTo_S1x1x128x4x1_S128x4_d0_1_4 h_S_
theorem refDBr_at (Y : FVec Ideal S1x128x4 .f32) (a : Fin 128) (h : Fin 4) : refDBr Y (ix2 a h) = Y (ix3 0 a h) := by
  have e2 : (shapeCast _ Y shapeCasts_S1x128x4_S1x1x128x4x1 : FVec Ideal S1x1x128x4x1 .f32) (ix5 0 0 a h 0) = Y (ix3 0 a h) := by
    pointwise []
  unfold refDBr
  generalize (shapeCast _ Y shapeCasts_S1x128x4_S1x1x128x4x1 : FVec Ideal S1x1x128x4x1 .f32) = X at e2 ⊢
  have e : (Host.reduceAdd X (constant S_ .f32 0x00000000#32) reducesTo_S1x1x128x4x1_S128x4_d0_1_4 h_S_ : FVec Ideal S128x4 .f32) (ix2 a h) = Ideal.ofBits .f32 0#32 + ∑ i ∈ Finset.univ.filter (fun i => reducesTo_S1x1x128x4x1_S128x4_d0_1_4.drop i = ix2 a h), X i := rfl
  rw [e, Ideal.ofBits_zero_f32, zero_add, ← e2]
  have hs : Finset.univ.filter (fun i => reducesTo_S1x1x128x4x1_S128x4_d0_1_4.drop i = ix2 a h) = {(ix5 0 0 a h 0 : S1x1x128x4x1.Idx)} := by
    ext i
    refine ⟨fun hi => Finset.mem_singleton.mpr ?_, fun hi => ?_⟩
    · have hd := (Finset.mem_filter.mp hi).2
      funext j
      match j with
      | 0 => exact Fin.ext (by have h : (i 0).val < 1 := (i 0).isLt; show (i 0).val = 0; omega)
      | 1 => exact Fin.ext (by have h : (i 1).val < 1 := (i 1).isLt; show (i 1).val = 0; omega)
      | 2 => exact congrFun hd 0
      | 3 => exact congrFun hd 1
      | 4 => exact Fin.ext (by have h : (i 4).val < 1 := (i 4).isLt; show (i 4).val = 0; omega)
    · rw [Finset.mem_singleton.mp hi]
      refine Finset.mem_filter.mpr ⟨Finset.mem_univ _, ?_⟩
      funext j
      match j with
      | 0 => rfl
      | 1 => rfl
  rw [hs, Finset.sum_singleton]
def refDB (Y : FVec Ideal S1x128x4 .f32) : FVec Ideal S128x128 .f32 :=
  pad S128x128 ![0, 0] ![0, 124] ![0, 0] (transpose S128x4 [1, 0] (transpose S4x128 [1, 0] (refDBr Y) transposes_S128x4_S4x128_1_0) transposes_S4x128_S128x4_1_0) (sitofp .f32 (constantI S_ 32 0#32)) pads_S128x4_S128x128_000_01240 h_S_
theorem refDB_at (Y : FVec Ideal S1x128x4 .f32) (a k : Fin 128) : refDB Y (ix2 a k) = if hk : k.val < 4 then Y (ix3 0 a ⟨k.val, hk⟩) else 0 := by
  have hr := fun h => refDBr_at Y a h
  unfold refDB
  generalize refDBr Y = R at hr ⊢
  pointwise []
  simp only [hr]
  have e0 : (FloatOps.sitofp FTy.f32 0#32 : Ideal .f32) = (0 : EReal) := by
    show (((0#32 : BitVec 32).toInt : ℝ) : EReal) = 0
    simp
  rw [e0]
end Cert.SguBwdClaims

end
-- ==== Proof.SguBlk.lean ====
/- The arrays the kernel's windows read, element by element, over the call's arguments. -/
module

public import proofs.«01_k».proof.Proof.SguBody
public import proofs.«01_k».proof.Proof.SguRef
public import proofs.«01_k».proof.Proof.Gen.SguBwdIdeal.Value
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SguBwdClaims

open Cert.Reals Cert.Ln Cert.Sgu
open Cert.SguBwdIdeal Cert.SguBwdIdeal.Gen

theorem idx : ∀ t : Fin cfg0.N, win0_0.index t = ![t.val, 8] ∧ win0_1.index t = ![t.val, 9] ∧ win0_2.index t = ![t.val, 10] ∧ win0_3.index t = ![t.val, 0]
    ∧ win0_4.index t = ![0, 0] ∧ win0_5.index t = ![0, 0] ∧ win0_6.index t = ![0, 0, 0] ∧ win0_7.index t = ![0, 0, 0] ∧ win0_8.index t = ![0, 0] ∧ win0_9.index t = ![0, 0]
    ∧ win0_10.index t = ![t.val, 0] ∧ win0_11.index t = ![t.val, 0] ∧ win0_12.index t = ![t.val, 0] ∧ win0_13.index t = ![0, 0] ∧ win0_14.index t = ![0, 0]
    ∧ win0_15.index t = ![0, 0, 0] ∧ win0_16.index t = ![0, 0] :=
  (by decide +kernel : ∀ t : Fin grid0.N, _)
theorem crd : ∀ t : Fin cfg0.N, ((grid0.coords t) 0).val = t.val ∧ t.val < 32 := (by decide +kernel : ∀ t : Fin grid0.N, _)

variable (m : (ℓ : Loc nD τ sig) → Buf (Elt Ideal) ℓ) (c : Dev nD)

/-- The row of the array a tile's row is. -/
abbrev rowOf (t : Fin cfg0.N) (a : Fin 512) : Fin 16384 := ⟨t.val * 512 + a.val, by have := (crd t).2; omega⟩

abbrev A0 : FVec Ideal S1x16384x2816 .f32 := m ((c.tc : Thread nD τ).loc main_arg0)
abbrev A1 : FVec Ideal S256 .f32 := m ((c.tc : Thread nD τ).loc main_arg1)
abbrev A2 : FVec Ideal S256 .f32 := m ((c.tc : Thread nD τ).loc main_arg2)
abbrev A3 : FVec Ideal S4x128x128 .f32 := m ((c.tc : Thread nD τ).loc main_arg3)
abbrev A4 : FVec Ideal S4x128 .f32 := m ((c.tc : Thread nD τ).loc main_arg4)
abbrev A5 : FVec Ideal S1x16384x256 .f32 := m ((c.tc : Thread nD τ).loc main_arg5)

theorem V9 : V m c main_v9 = shapeCast _ (A0 m c) shapeCasts_S1x16384x2816_S16384x2816 := by
  unfold V; simp only [hostOps0, hostOps0_1, hostOps0_2, List.flatten_cons, List.flatten_nil, List.append_nil, List.cons_append, List.nil_append]
  after_results
  rfl
theorem V10 : V m c main_v10 = shapeCast _ (A5 m c) shapeCasts_S1x16384x256_S16384x256 := by
  unfold V; simp only [hostOps0, hostOps0_1, hostOps0_2, List.flatten_cons, List.flatten_nil, List.append_nil, List.cons_append, List.nil_append]
  after_results
  rfl
theorem V11 : V m c main_v11 = shapeCast _ (A1 m c) shapeCasts_S256_S1x256 := by
  unfold V; simp only [hostOps0, hostOps0_1, hostOps0_2, List.flatten_cons, List.flatten_nil, List.append_nil, List.cons_append, List.nil_append]
  after_results
  rfl
theorem V12 : V m c main_v12 = shapeCast _ (A2 m c) shapeCasts_S256_S1x256 := by
  unfold V; simp only [hostOps0, hostOps0_1, hostOps0_2, List.flatten_cons, List.flatten_nil, List.append_nil, List.cons_append, List.nil_append]
  after_results
  rfl
theorem V13 : V m c main_v13 = truncf (F := Ideal) .bf16 (A3 m c) bitsLt_bf16_f32 := by
  unfold V; simp only [hostOps0, hostOps0_1, hostOps0_2, List.flatten_cons, List.flatten_nil, List.append_nil, List.cons_append, List.nil_append]
  after_results
theorem V15 : V m c main_v15 = truncf (F := Ideal) .bf16 (transpose S4x128x128 [0, 2, 1] (A3 m c) transposes_S4x128x128_S4x128x128_0_2_1) bitsLt_bf16_f32 := by
  unfold V; simp only [hostOps0, hostOps0_1, hostOps0_2, List.flatten_cons, List.flatten_nil, List.append_nil, List.cons_append, List.nil_append]
  after_results
theorem V18 : V m c main_v18 = shapeCast _ (broadcastInDim S128x4x64 ![0, 1] bcast_S128x4_S128x4x64_0_1 (transpose S128x4 [1, 0] (A4 m c) transposes_S4x128_S128x4_1_0)) shapeCasts_S128x4x64_S128x256 := by
  unfold V; simp only [hostOps0, hostOps0_1, hostOps0_2, List.flatten_cons, List.flatten_nil, List.append_nil, List.cons_append, List.nil_append]
  after_results
  rfl

theorem p2_at (x : FVec Ideal S1x16384x2816 .f32) (s : Fin 16384) (k : Fin 2816) : (shapeCast S16384x2816 x shapeCasts_S1x16384x2816_S16384x2816 : FVec Ideal S16384x2816 .f32) (ix2 s k) = x (ix3 0 s k) := by
  pointwise []
theorem y2_at (x : FVec Ideal S1x16384x256 .f32) (s : Fin 16384) (k : Fin 256) : (shapeCast S16384x256 x shapeCasts_S1x16384x256_S16384x256 : FVec Ideal S16384x256 .f32) (ix2 s k) = x (ix3 0 s k) := by
  pointwise []
theorem g2_at (x : FVec Ideal S256 .f32) (k : Fin 256) : (shapeCast S1x256 x shapeCasts_S256_S1x256 : FVec Ideal S1x256 .f32) (ix2 0 k) = x (ix1 k) := by
  pointwise []
theorem w_at (x : FVec Ideal S4x128x128 .f32) (h : Fin 4) (a k : Fin 128) : (truncf .bf16 x bitsLt_bf16_f32 : FVec Ideal S4x128x128 .bf16) (ix3 h a k) = x (ix3 h a k) := by
  pointwise []
theorem wT_at (x : FVec Ideal S4x128x128 .f32) (h : Fin 4) (a k : Fin 128) : (truncf .bf16 (transpose S4x128x128 [0, 2, 1] x transposes_S4x128x128_S4x128x128_0_2_1) bitsLt_bf16_f32 : FVec Ideal S4x128x128 .bf16) (ix3 h a k) = x (ix3 h k a) := by
  pointwise []
theorem bias_at (x : FVec Ideal S4x128 .f32) (a : Fin 128) (f : Fin 256) : (shapeCast S128x256 (broadcastInDim S128x4x64 ![0, 1] bcast_S128x4_S128x4x64_0_1 (transpose S128x4 [1, 0] x transposes_S4x128_S128x4_1_0)) shapeCasts_S128x4x64_S128x256 : FVec Ideal S128x256 .f32) (ix2 a f) = x (ix2 (hd f) a) := by
  pointwise []
  rfl

theorem blk0 (t : Fin cfg0.N) (a : Fin 512) (f : Fin 256) : (show EReal from iblk m c 0 t (ix2 a f)) = A0 m c (ix3 0 (rowOf t a) ⟨2048 + f.val, by omega⟩) := by
  have e : ((cfg0.win 0).blk t).view.emb (ix2 a f) = ix2 (rowOf t a) (⟨2048 + f.val, by omega⟩ : Fin 2816) := by blk_ext [idx t]
  unfold iblk
  show (V m c main_v9) (((cfg0.win 0).blk t).view.emb (ix2 a f)) = _
  rw [V9, e]
  exact p2_at _ _ _
theorem blk1 (t : Fin cfg0.N) (a : Fin 512) (f : Fin 256) : (show EReal from iblk m c 1 t (ix2 a f)) = A0 m c (ix3 0 (rowOf t a) ⟨2304 + f.val, by omega⟩) := by
  have e : ((cfg0.win 1).blk t).view.emb (ix2 a f) = ix2 (rowOf t a) (⟨2304 + f.val, by omega⟩ : Fin 2816) := by blk_ext [idx t]
  unfold iblk
  show (V m c main_v9) (((cfg0.win 1).blk t).view.emb (ix2 a f)) = _
  rw [V9, e]
  exact p2_at _ _ _
theorem blk2 (t : Fin cfg0.N) (a : Fin 512) (f : Fin 256) : (show EReal from iblk m c 2 t (ix2 a f)) = A0 m c (ix3 0 (rowOf t a) ⟨2560 + f.val, by omega⟩) := by
  have e : ((cfg0.win 2).blk t).view.emb (ix2 a f) = ix2 (rowOf t a) (⟨2560 + f.val, by omega⟩ : Fin 2816) := by blk_ext [idx t]
  unfold iblk
  show (V m c main_v9) (((cfg0.win 2).blk t).view.emb (ix2 a f)) = _
  rw [V9, e]
  exact p2_at _ _ _
theorem blk3 (t : Fin cfg0.N) (a : Fin 512) (f : Fin 256) : (show EReal from iblk m c 3 t (ix2 a f)) = A5 m c (ix3 0 (rowOf t a) f) := by
  have e : ((cfg0.win 3).blk t).view.emb (ix2 a f) = ix2 (rowOf t a) f := by blk_ext [idx t]
  unfold iblk
  show (V m c main_v10) (((cfg0.win 3).blk t).view.emb (ix2 a f)) = _
  rw [V10, e]
  exact y2_at _ _ _
theorem blk4 (t : Fin cfg0.N) (f : Fin 256) : (show EReal from iblk m c 4 t (ix2 0 f)) = A1 m c (ix1 f) := by
  have e : ((cfg0.win 4).blk t).view.emb (ix2 0 f) = ix2 0 f := by blk_ext [idx t]
  unfold iblk
  show (V m c main_v11) (((cfg0.win 4).blk t).view.emb (ix2 0 f)) = _
  rw [V11, e]
  exact g2_at _ _
theorem blk5 (t : Fin cfg0.N) (f : Fin 256) : (show EReal from iblk m c 5 t (ix2 0 f)) = A2 m c (ix1 f) := by
  have e : ((cfg0.win 5).blk t).view.emb (ix2 0 f) = ix2 0 f := by blk_ext [idx t]
  unfold iblk
  show (V m c main_v12) (((cfg0.win 5).blk t).view.emb (ix2 0 f)) = _
  rw [V12, e]
  exact g2_at _ _
theorem blk6 (t : Fin cfg0.N) (h : Fin 4) (a k : Fin 128) : (show EReal from iblk m c 6 t (ix3 h a k)) = A3 m c (ix3 h a k) := by
  have e : ((cfg0.win 6).blk t).view.emb (ix3 h a k) = ix3 h a k := by blk_ext [idx t]
  unfold iblk
  show (V m c main_v13) (((cfg0.win 6).blk t).view.emb (ix3 h a k)) = _
  rw [V13, e]
  exact w_at _ _ _ _
theorem blk7 (t : Fin cfg0.N) (h : Fin 4) (a k : Fin 128) : (show EReal from iblk m c 7 t (ix3 h a k)) = A3 m c (ix3 h k a) := by
  have e : ((cfg0.win 7).blk t).view.emb (ix3 h a k) = ix3 h a k := by blk_ext [idx t]
  unfold iblk
  show (V m c main_v15) (((cfg0.win 7).blk t).view.emb (ix3 h a k)) = _
  rw [V15, e]
  exact wT_at _ _ _ _
theorem blk8 (t : Fin cfg0.N) (a : Fin 128) (f : Fin 256) : (show EReal from iblk m c 8 t (ix2 a f)) = A4 m c (ix2 (hd f) a) := by
  have e : ((cfg0.win 8).blk t).view.emb (ix2 a f) = ix2 a f := by blk_ext [idx t]
  unfold iblk
  show (V m c main_v18) (((cfg0.win 8).blk t).view.emb (ix2 a f)) = _
  rw [V18, e]
  exact bias_at _ _ _

/-! ## The matrix that sums a head's features -/

abbrev iota256 : IVec S256x1 32 := broadcastInDim S256x1 ![0] bcast_S256_S256x1_0 (iotaInDim S256 32 0)
abbrev fill (n : BitVec 32) : IVec S256x1 32 := broadcastInDim S256x1 ![] bcast_S_S256x1 (constantI S_ 32 n)
abbrev quo : IVec S256x1 32 := Host.divsi iota256 (fill 64#32)
/-- A feature's head, as the host's floor division computes it. -/
def headOf : IVec S256x1 32 :=
  select (andi (cmpi .ne (signi iota256) (broadcastInDim S256x1 ![] bcast_S_S256x1 (signi (constantI S_ 32 64#32)))) (cmpi .ne (Host.remsi iota256 (fill 64#32)) (fill 0#32))) (subi quo (fill 1#32)) quo
theorem headOf_at (f : Fin 256) : headOf (ix2 f 0) = BitVec.ofNat 32 (hd f).val := by
  pointwise [headOf]
  revert f
  decide +kernel
def foldM : FVec Ideal S256x128 .bf16 :=
  uitofp .bf16 (cmpi .eq (broadcastInDim S256x128 ![0, 1] bcast_S256x1_S256x128_0_1 headOf) (broadcastInDim S256x128 ![0, 1] bcast_S1x128_S256x128_0_1 (broadcastInDim S1x128 ![1] bcast_S128_S1x128_1 (iotaInDim S128 32 0))))
theorem V8 : V m c main_v8 = foldM := by
  unfold V; simp only [hostOps0, hostOps0_1, hostOps0_2, List.flatten_cons, List.flatten_nil, List.append_nil, List.cons_append, List.nil_append]
  after_results
  rfl
theorem bit_at (x y : ℕ) (hx : x < 128) (hy : y < 128) : ((((IntOp.cmpi .eq (BitVec.ofNat 32 x) (BitVec.ofNat 32 y)).toNat : ℝ)) : EReal) = if x = y then 1 else 0 := by
  by_cases h : x = y
  · subst h; simp [IntOp.cmpi]
  · have : BitVec.ofNat 32 x ≠ BitVec.ofNat 32 y := fun e => h (by have := congrArg BitVec.toNat e; simp at this; omega)
    simp [IntOp.cmpi, this, h]
theorem foldM_at (f : Fin 256) (k : Fin 128) : foldM (ix2 f k) = if (hd f).val = k.val then (1 : EReal) else 0 := by
  have h := headOf_at f
  unfold foldM
  generalize headOf = H at h ⊢
  pointwise []
  rw [h]
  exact bit_at _ _ (by have := (hd f).isLt; omega) k.isLt
theorem blk9 (t : Fin cfg0.N) (f : Fin 256) (k : Fin 128) : (show EReal from iblk m c 9 t (ix2 f k)) = if (hd f).val = k.val then (1 : EReal) else 0 := by
  have e : ((cfg0.win 9).blk t).view.emb (ix2 f k) = ix2 f k := by blk_ext [idx t]
  unfold iblk
  show (V m c main_v8) (((cfg0.win 9).blk t).view.emb (ix2 f k)) = _
  rw [V8, e]
  exact foldM_at _ _

end Cert.SguBwdClaims
-- ==== Proof.SguTile.lean ====
/- One tile of the kernel: the four unrolled chunks are one function of the chunk's rows, and what a tile adds to each accumulator. -/
module

public import proofs.«01_k».proof.Proof.SguBody
public import proofs.«01_k».proof.Proof.SguBlk
public import proofs.«01_k».proof.Proof.Gen.SguBwdIdeal.Value
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SguBwdClaims

open Cert.Reals Cert.Ln Cert.Sgu
open Cert.SguBwdIdeal Cert.SguBwdIdeal.Gen

/-! ## The four chunks of a tile are written out with different intermediate terms; each is the first chunk's function -/

section Same
variable (U V Q D : C2) (G B : R2) (W0 W1 W2 W3 T0 T1 T2 T3 : M3) (Bi : C2)

theorem du3 : k0_pay140 (k0_pay123 U) (k0_pay136 Q) (k0_pay139 k0_pay10 k0_pay11 (k0_pay131 (k0_pay126 V) G B) (k0_pay132 k0_pay8 k0_pay9 (k0_pay126 V) G B W0 W1) W2 W3 Bi D) = kDup U V Q D G B W0 W1 W2 W3 Bi := rfl
theorem du2 : k0_pay101 k0_pay10 k0_pay11 (k0_pay82 U) (k0_pay91 (k0_pay85 V) (k0_pay87 V) G B) (k0_pay92 k0_pay8 k0_pay9 (k0_pay85 V) (k0_pay87 V) G B W0 W1) (k0_pay93 (k0_pay85 V) (k0_pay87 V) G B W2) k0_pay94 W3 Bi Q D = kDup U V Q D G B W0 W1 W2 W3 Bi := rfl
theorem du1 : k0_pay64 k0_pay11 (k0_pay48 U) (k0_pay56 (k0_pay52 V) (k0_pay53 V) (Scalar.ofBits .f32 0x43800000#32) G B) (k0_pay57 k0_pay8 k0_pay9 k0_pay10 (k0_pay52 V) (k0_pay53 V) (Scalar.ofBits .f32 0x43800000#32) G B W0 W1 W2) W3 Bi Q D = kDup U V Q D G B W0 W1 W2 W3 Bi := rfl
theorem du0 : k0_pay32 (k0_pay16 (k0_pay12 U) (k0_pay13 U) (Scalar.ofBits .f32 0x3F800000#32)) (k0_pay24 k0_pay8 k0_pay9 k0_pay10 (k0_pay20 V) (k0_pay21 V) G B W0 W1 W2) (k0_pay25 k0_pay11 (k0_pay20 V) (k0_pay21 V) G B W3) Bi Q D = kDup U V Q D G B W0 W1 W2 W3 Bi := rfl
theorem dv3 : k0_pay1 (k0_pay127 V) (k0_pay129 (k0_pay126 V)) (k0_pay130 (k0_pay126 V)) (k0_pay154 k0_pay10 k0_pay11 (k0_pay143 (k0_pay122 U) (k0_pay136 Q) (k0_pay137 D)) (k0_pay149 k0_pay8 k0_pay9 (k0_pay143 (k0_pay122 U) (k0_pay136 Q) (k0_pay137 D)) T0 T1) T2 T3 G) (k0_pay155 k0_pay10 k0_pay11 (k0_pay130 (k0_pay126 V)) (k0_pay143 (k0_pay122 U) (k0_pay136 Q) (k0_pay137 D)) (k0_pay149 k0_pay8 k0_pay9 (k0_pay143 (k0_pay122 U) (k0_pay136 Q) (k0_pay137 D)) T0 T1) T2 T3 G) = kDvp U V Q D G T0 T1 T2 T3 := rfl
theorem dv2 : k0_pay119 (k0_pay86 V) (k0_pay89 (k0_pay85 V) (k0_pay87 V)) (k0_pay117 k0_pay11 (k0_pay104 (k0_pay81 U) (k0_pay98 Q) (k0_pay99 D)) (k0_pay111 k0_pay8 k0_pay9 (k0_pay104 (k0_pay81 U) (k0_pay98 Q) (k0_pay99 D)) T0 T1) (k0_pay112 k0_pay10 (k0_pay104 (k0_pay81 U) (k0_pay98 Q) (k0_pay99 D)) T2) T3 G) (k0_pay118 k0_pay11 (k0_pay90 (k0_pay85 V) (k0_pay87 V)) (k0_pay104 (k0_pay81 U) (k0_pay98 Q) (k0_pay99 D)) (k0_pay111 k0_pay8 k0_pay9 (k0_pay104 (k0_pay81 U) (k0_pay98 Q) (k0_pay99 D)) T0 T1) (k0_pay112 k0_pay10 (k0_pay104 (k0_pay81 U) (k0_pay98 Q) (k0_pay99 D)) T2) T3 G) = kDvp U V Q D G T0 T1 T2 T3 := rfl
theorem dv1 : k0_pay78 k0_pay11 (k0_pay51 V) (k0_pay54 (k0_pay53 V) (Scalar.ofBits .f32 0x43800000#32)) (k0_pay55 (k0_pay52 V) (k0_pay53 V) (Scalar.ofBits .f32 0x43800000#32)) (k0_pay67 (k0_pay65 (k0_pay47 U) Q D)) (k0_pay73 k0_pay8 k0_pay9 k0_pay10 (k0_pay67 (k0_pay65 (k0_pay47 U) Q D)) T0 T1 T2) (k0_pay74 T3) G = kDvp U V Q D G T0 T1 T2 T3 := rfl
theorem dv0 : k0_pay44 (k0_pay19 V) (k0_pay21 V) (k0_pay22 (k0_pay20 V) (k0_pay21 V)) (k0_pay41 k0_pay8 k0_pay9 k0_pay10 k0_pay11 (k0_pay35 (k0_pay33 (k0_pay15 (k0_pay12 U) (k0_pay13 U) (Scalar.ofBits .f32 0x3F800000#32)) Q D)) T0 T1 T2 T3) G = kDvp U V Q D G T0 T1 T2 T3 := rfl
theorem dg3 : k0_pay138 k0_pay10 k0_pay11 (k0_pay122 U) (k0_pay131 (k0_pay126 V) G B) (k0_pay132 k0_pay8 k0_pay9 (k0_pay126 V) G B W0 W1) W2 W3 Bi Q D = kDgt U V Q D G B W0 W1 W2 W3 Bi := rfl
theorem dg2 : k0_pay100 k0_pay10 k0_pay11 (k0_pay81 U) (k0_pay91 (k0_pay85 V) (k0_pay87 V) G B) (k0_pay92 k0_pay8 k0_pay9 (k0_pay85 V) (k0_pay87 V) G B W0 W1) (k0_pay93 (k0_pay85 V) (k0_pay87 V) G B W2) k0_pay94 W3 Bi Q D = kDgt U V Q D G B W0 W1 W2 W3 Bi := rfl
theorem dg1 : k0_pay63 k0_pay11 (k0_pay47 U) (k0_pay56 (k0_pay52 V) (k0_pay53 V) (Scalar.ofBits .f32 0x43800000#32) G B) (k0_pay57 k0_pay8 k0_pay9 k0_pay10 (k0_pay52 V) (k0_pay53 V) (Scalar.ofBits .f32 0x43800000#32) G B W0 W1 W2) W3 Bi Q D = kDgt U V Q D G B W0 W1 W2 W3 Bi := rfl
theorem dg0 : k0_pay31 (k0_pay15 (k0_pay12 U) (k0_pay13 U) (Scalar.ofBits .f32 0x3F800000#32)) (k0_pay24 k0_pay8 k0_pay9 k0_pay10 (k0_pay20 V) (k0_pay21 V) G B W0 W1 W2) (k0_pay25 k0_pay11 (k0_pay20 V) (k0_pay21 V) G B W3) Bi Q D = kDgt U V Q D G B W0 W1 W2 W3 Bi := rfl
theorem dgain3 (r : R2) : k0_pay151 k0_pay10 k0_pay11 (k0_pay130 (k0_pay126 V)) (k0_pay143 (k0_pay122 U) (k0_pay136 Q) (k0_pay137 D)) (k0_pay149 k0_pay8 k0_pay9 (k0_pay143 (k0_pay122 U) (k0_pay136 Q) (k0_pay137 D)) T0 T1) T2 T3 r = kDg U V Q D T0 T1 T2 T3 r := rfl
theorem dgain2 (r : R2) : k0_pay114 k0_pay11 (k0_pay90 (k0_pay85 V) (k0_pay87 V)) (k0_pay104 (k0_pay81 U) (k0_pay98 Q) (k0_pay99 D)) (k0_pay111 k0_pay8 k0_pay9 (k0_pay104 (k0_pay81 U) (k0_pay98 Q) (k0_pay99 D)) T0 T1) (k0_pay112 k0_pay10 (k0_pay104 (k0_pay81 U) (k0_pay98 Q) (k0_pay99 D)) T2) T3 r = kDg U V Q D T0 T1 T2 T3 r := rfl
theorem dgain1 (r : R2) : k0_pay76 k0_pay11 (k0_pay55 (k0_pay52 V) (k0_pay53 V) (Scalar.ofBits .f32 0x43800000#32)) (k0_pay67 (k0_pay65 (k0_pay47 U) Q D)) (k0_pay73 k0_pay8 k0_pay9 k0_pay10 (k0_pay67 (k0_pay65 (k0_pay47 U) Q D)) T0 T1 T2) (k0_pay74 T3) r = kDg U V Q D T0 T1 T2 T3 r := rfl
theorem dgain0 (r : R2) : k0_pay42 (k0_pay22 (k0_pay20 V) (k0_pay21 V)) (k0_pay41 k0_pay8 k0_pay9 k0_pay10 k0_pay11 (k0_pay35 (k0_pay33 (k0_pay15 (k0_pay12 U) (k0_pay13 U) (Scalar.ofBits .f32 0x3F800000#32)) Q D)) T0 T1 T2 T3) r = kDg U V Q D T0 T1 T2 T3 r := rfl
theorem dbeta3 (r : R2) : k0_pay152 k0_pay10 k0_pay11 (k0_pay143 (k0_pay122 U) (k0_pay136 Q) (k0_pay137 D)) (k0_pay149 k0_pay8 k0_pay9 (k0_pay143 (k0_pay122 U) (k0_pay136 Q) (k0_pay137 D)) T0 T1) T2 T3 r = kDb U Q D T0 T1 T2 T3 r := rfl
theorem dbeta2 (r : R2) : k0_pay115 k0_pay11 (k0_pay104 (k0_pay81 U) (k0_pay98 Q) (k0_pay99 D)) (k0_pay111 k0_pay8 k0_pay9 (k0_pay104 (k0_pay81 U) (k0_pay98 Q) (k0_pay99 D)) T0 T1) (k0_pay112 k0_pay10 (k0_pay104 (k0_pay81 U) (k0_pay98 Q) (k0_pay99 D)) T2) T3 r = kDb U Q D T0 T1 T2 T3 r := rfl
theorem dbeta1 (r : R2) : k0_pay77 k0_pay11 (k0_pay67 (k0_pay65 (k0_pay47 U) Q D)) (k0_pay73 k0_pay8 k0_pay9 k0_pay10 (k0_pay67 (k0_pay65 (k0_pay47 U) Q D)) T0 T1 T2) (k0_pay74 T3) r = kDb U Q D T0 T1 T2 T3 r := rfl
theorem dbeta0 (r : R2) : k0_pay43 (k0_pay41 k0_pay8 k0_pay9 k0_pay10 k0_pay11 (k0_pay35 (k0_pay33 (k0_pay15 (k0_pay12 U) (k0_pay13 U) (Scalar.ofBits .f32 0x3F800000#32)) Q D)) T0 T1 T2 T3) r = kDb U Q D T0 T1 T2 T3 r := rfl
theorem acc3 (r : C2) : k0_pay142 (k0_pay122 U) (k0_pay136 Q) (k0_pay137 D) r = kAcc U Q D r := rfl
theorem acc2 (r : C2) : k0_pay103 (k0_pay81 U) (k0_pay98 Q) (k0_pay99 D) r = kAcc U Q D r := rfl
theorem acc1 (r : C2) : k0_pay66 (k0_pay65 (k0_pay47 U) Q D) r = kAcc U Q D r := rfl
theorem acc0 (r : C2) : k0_pay34 (k0_pay15 (k0_pay12 U) (k0_pay13 U) (Scalar.ofBits .f32 0x3F800000#32)) Q D r = kAcc U Q D r := rfl
theorem dw30 (r : FVec Ideal S1x128x128 .f32) : k0_pay144 k0_pay8 (k0_pay122 U) (k0_pay131 (k0_pay126 V) G B) (k0_pay136 Q) (k0_pay137 D) r = k0_pay36 (F := Ideal) k0_pay8 (kVln V G B) (kDm U Q D) r := rfl
theorem dw31 (r : FVec Ideal S1x128x128 .f32) : k0_pay145 k0_pay9 (k0_pay122 U) (k0_pay131 (k0_pay126 V) G B) (k0_pay136 Q) (k0_pay137 D) r = k0_pay36 (F := Ideal) k0_pay9 (kVln V G B) (kDm U Q D) r := rfl
theorem dw32 (r : FVec Ideal S1x128x128 .f32) : k0_pay147 (k0_pay131 (k0_pay126 V) G B) (k0_pay146 k0_pay10 (k0_pay122 U) (k0_pay136 Q) (k0_pay137 D)) r = k0_pay36 (F := Ideal) k0_pay10 (kVln V G B) (kDm U Q D) r := rfl
theorem dw33 (r : FVec Ideal S1x128x128 .f32) : k0_pay148 k0_pay11 (k0_pay131 (k0_pay126 V) G B) (k0_pay143 (k0_pay122 U) (k0_pay136 Q) (k0_pay137 D)) r = k0_pay36 (F := Ideal) k0_pay11 (kVln V G B) (kDm U Q D) r := rfl
theorem dw20 (r : FVec Ideal S1x128x128 .f32) : k0_pay105 k0_pay8 (k0_pay81 U) (k0_pay91 (k0_pay85 V) (k0_pay87 V) G B) (k0_pay98 Q) (k0_pay99 D) r = k0_pay36 (F := Ideal) k0_pay8 (kVln V G B) (kDm U Q D) r := rfl
theorem dw21 (r : FVec Ideal S1x128x128 .f32) : k0_pay106 k0_pay9 (k0_pay81 U) (k0_pay91 (k0_pay85 V) (k0_pay87 V) G B) (k0_pay98 Q) (k0_pay99 D) r = k0_pay36 (F := Ideal) k0_pay9 (kVln V G B) (kDm U Q D) r := rfl
theorem dw22 (r : FVec Ideal S1x128x128 .f32) : k0_pay109 (k0_pay107 r) (k0_pay108 k0_pay10 (k0_pay81 U) (k0_pay91 (k0_pay85 V) (k0_pay87 V) G B) (k0_pay98 Q) (k0_pay99 D)) = k0_pay36 (F := Ideal) k0_pay10 (kVln V G B) (kDm U Q D) r := rfl
theorem dw23 (r : FVec Ideal S1x128x128 .f32) : k0_pay110 k0_pay11 (k0_pay91 (k0_pay85 V) (k0_pay87 V) G B) (k0_pay104 (k0_pay81 U) (k0_pay98 Q) (k0_pay99 D)) r = k0_pay36 (F := Ideal) k0_pay11 (kVln V G B) (kDm U Q D) r := rfl
theorem dw10 (r : FVec Ideal S1x128x128 .f32) : k0_pay68 k0_pay8 (k0_pay56 (k0_pay52 V) (k0_pay53 V) (Scalar.ofBits .f32 0x43800000#32) G B) (k0_pay65 (k0_pay47 U) Q D) r = k0_pay36 (F := Ideal) k0_pay8 (kVln V G B) (kDm U Q D) r := rfl
theorem dw11 (r : FVec Ideal S1x128x128 .f32) : k0_pay69 k0_pay9 (k0_pay56 (k0_pay52 V) (k0_pay53 V) (Scalar.ofBits .f32 0x43800000#32) G B) (k0_pay65 (k0_pay47 U) Q D) r = k0_pay36 (F := Ideal) k0_pay9 (kVln V G B) (kDm U Q D) r := rfl
theorem dw12 (r : FVec Ideal S1x128x128 .f32) : k0_pay71 (k0_pay70 k0_pay10 (k0_pay56 (k0_pay52 V) (k0_pay53 V) (Scalar.ofBits .f32 0x43800000#32) G B) (k0_pay65 (k0_pay47 U) Q D) r) = k0_pay36 (F := Ideal) k0_pay10 (kVln V G B) (kDm U Q D) r := rfl
theorem dw13 (r : FVec Ideal S1x128x128 .f32) : k0_pay72 k0_pay11 (k0_pay56 (k0_pay52 V) (k0_pay53 V) (Scalar.ofBits .f32 0x43800000#32) G B) (k0_pay67 (k0_pay65 (k0_pay47 U) Q D)) r = k0_pay36 (F := Ideal) k0_pay11 (kVln V G B) (kDm U Q D) r := rfl
theorem dw00 (r : FVec Ideal S1x128x128 .f32) : k0_pay36 k0_pay8 (k0_pay23 (k0_pay20 V) (k0_pay21 V) G B) (k0_pay33 (k0_pay15 (k0_pay12 U) (k0_pay13 U) (Scalar.ofBits .f32 0x3F800000#32)) Q D) r = k0_pay36 (F := Ideal) k0_pay8 (kVln V G B) (kDm U Q D) r := rfl
theorem dw01 (r : FVec Ideal S1x128x128 .f32) : k0_pay37 k0_pay9 (k0_pay23 (k0_pay20 V) (k0_pay21 V) G B) (k0_pay33 (k0_pay15 (k0_pay12 U) (k0_pay13 U) (Scalar.ofBits .f32 0x3F800000#32)) Q D) r = k0_pay36 (F := Ideal) k0_pay9 (kVln V G B) (kDm U Q D) r := rfl
theorem dw02 (r : FVec Ideal S1x128x128 .f32) : k0_pay38 k0_pay10 (k0_pay23 (k0_pay20 V) (k0_pay21 V) G B) (k0_pay33 (k0_pay15 (k0_pay12 U) (k0_pay13 U) (Scalar.ofBits .f32 0x3F800000#32)) Q D) r = k0_pay36 (F := Ideal) k0_pay10 (kVln V G B) (kDm U Q D) r := rfl
theorem dw03 (r : FVec Ideal S1x128x128 .f32) : k0_pay40 (k0_pay23 (k0_pay20 V) (k0_pay21 V) G B) (k0_pay39 k0_pay11 (k0_pay33 (k0_pay15 (k0_pay12 U) (k0_pay13 U) (Scalar.ofBits .f32 0x3F800000#32)) Q D)) r = k0_pay36 (F := Ideal) k0_pay11 (kVln V G B) (kDm U Q D) r := rfl

end Same

/-! ## Loads and stores of a chunk's rows and of a head's matrix -/

theorem inbC (i : Fin 4) : ∀ j, (![128 * i.val, 0] : Fin 2 → ℕ) j + (![128, 256] : Fin 2 → ℕ) j ≤ S512x256.size j := by
  intro j; fin_cases j
  · show 128 * i.val + 128 ≤ 512; omega
  · show 0 + 256 ≤ 256; omega
theorem inbH (i : Fin 4) : ∀ j, (![i.val, 0, 0] : Fin 3 → ℕ) j + (![1, 128, 128] : Fin 3 → ℕ) j ≤ S4x128x128.size j := by
  intro j; fin_cases j
  · show i.val + 1 ≤ 4; omega
  · show 0 + 128 ≤ 128; omega
  · show 0 + 128 ≤ 128; omega
/-- A chunk's rows of a tile. -/
def cl (X : S512x256.Idx → Elt Ideal .f32) (i : Fin 4) : C2 := View.ld X (Rect.unit (s := S512x256) ![128 * i.val, 0] ![128, 256] (inbC i))
/-- A head's matrix. -/
def sl {e : EltTy} (X : S4x128x128.Idx → Elt Ideal e) (h : Fin 4) : S1x128x128.Idx → Elt Ideal e := View.ld X (Rect.unit (s := S4x128x128) ![h.val, 0, 0] ![1, 128, 128] (inbH h))
theorem cl_at (X : S512x256.Idx → Elt Ideal .f32) (i : Fin 4) (a : Fin 128) (f : Fin 256) : cl X i (ix2 a f) = X (ix2 ⟨128 * i.val + a.val, by omega⟩ f) := by
  unfold cl
  refine congrArg X ?_
  idx_ext
theorem sl_at {e : EltTy} (X : S4x128x128.Idx → Elt Ideal e) (h : Fin 4) (a k : Fin 128) : sl X h (ix3 0 a k) = X (ix3 h a k) := by
  unfold sl
  refine congrArg X ?_
  idx_ext

theorem readCov_self {sg : RefSig} {κ : Kind} {sp : Space} {s : Shape} {e : EltTy} (v : View sg κ sp s e) (r : Rect s) (w : r.shape.Idx → Elt Ideal e) (L : List (View.Piece (Elt Ideal) s e)) :
    v.readCov (⟨r, w⟩ :: L) r.toLoadRect = w := by
  rw [View.readCov_eq_canon']
  funext j
  exact View.canon_cons_emb r w L j

/-- Four stored chunks of rows. -/
theorem canon_rows (e : EltTy) (P0 P1 P2 P3 : S128x256.Idx → Elt Ideal e) (i : Fin 4) (a : Fin 128) (f : Fin 256) (r : Fin 512) (hr : r.val = 128 * i.val + a.val) :
    View.canon (Val := Elt Ideal) (e := e) [
      ⟨Rect.unit (s := S512x256) ![384, 0] ![128, 256] inb_S512x256_S128x256_384_0, P3⟩, ⟨Rect.unit (s := S512x256) ![256, 0] ![128, 256] inb_S512x256_S128x256_256_0, P2⟩,
      ⟨Rect.unit (s := S512x256) ![128, 0] ![128, 256] inb_S512x256_S128x256_128_0, P1⟩, ⟨Rect.unit (s := S512x256) ![0, 0] ![128, 256] inb_S512x256_S128x256_0_0, P0⟩]
      (ix2 r f) = (![P0, P1, P2, P3] i) (ix2 a f) := by
  have miss : ∀ (o : ℕ) (inb : ∀ j, (![o, 0] : Fin 2 → ℕ) j + (![128, 256] : Fin 2 → ℕ) j ≤ S512x256.size j) (P : S128x256.Idx → Elt Ideal e) (M : List (View.Piece (Elt Ideal) S512x256 e)), ¬ (o ≤ r.val ∧ r.val < o + 128) →
      View.canon (Val := Elt Ideal) (e := e) (⟨Rect.unit (s := S512x256) ![o, 0] ![128, 256] inb, P⟩ :: M) (ix2 r f) = View.canon (Val := Elt Ideal) (e := e) M (ix2 r f) := fun o inb P M h =>
    View.canon_cons_of_not_mem _ M (fun hm => h (((Rect.mem_set_unit (inb := inb)).mp hm) 0))
  have hit : ∀ (o : ℕ) (inb : ∀ j, (![o, 0] : Fin 2 → ℕ) j + (![128, 256] : Fin 2 → ℕ) j ≤ S512x256.size j) (P : S128x256.Idx → Elt Ideal e) (M : List (View.Piece (Elt Ideal) S512x256 e)), r.val = o + a.val →
      View.canon (Val := Elt Ideal) (e := e) (⟨Rect.unit (s := S512x256) ![o, 0] ![128, 256] inb, P⟩ :: M) (ix2 r f) = P (ix2 a f) := fun o inb P M h => by
    have e1 : (ix2 r f : S512x256.Idx) = (Rect.unit (s := S512x256) ![o, 0] ![128, 256] inb).emb (ix2 a f) := by
      funext j
      fin_cases j
      · exact Fin.ext (show r.val = o + 1 * a.val by omega)
      · exact Fin.ext (show f.val = 0 + 1 * f.val by omega)
    exact (congrArg (View.canon (Val := Elt Ideal) (e := e) (⟨Rect.unit (s := S512x256) ![o, 0] ![128, 256] inb, P⟩ :: M)) e1).trans (View.canon_cons_emb (Rect.unit (s := S512x256) ![o, 0] ![128, 256] inb) P M (ix2 a f))
  obtain ⟨i, hi⟩ := i
  match i, hi with
  | 0, _ => rw [miss 384 _ _ _ (by simp at hr; omega), miss 256 _ _ _ (by simp at hr; omega), miss 128 _ _ _ (by simp at hr; omega)]; exact hit 0 _ _ _ (by simp at hr; omega)
  | 1, _ => rw [miss 384 _ _ _ (by simp at hr; omega), miss 256 _ _ _ (by simp at hr; omega)]; exact hit 128 _ _ _ (by simp at hr; omega)
  | 2, _ => rw [miss 384 _ _ _ (by simp at hr; omega)]; exact hit 256 _ _ _ (by simp at hr; omega)
  | 3, _ => exact hit 384 _ _ _ (by simp at hr; omega)

/-- Four stored heads, over any earlier stores. -/
theorem canon_heads (P0 P1 P2 P3 : S1x128x128.Idx → Elt Ideal .f32) (L : List (View.Piece (Elt Ideal) S4x128x128 .f32)) (h : Fin 4) (a k : Fin 128) :
    View.canon (Val := Elt Ideal) (e := .f32) (
      ⟨Rect.unit (s := S4x128x128) ![3, 0, 0] ![1, 128, 128] inb_S4x128x128_S1x128x128_3_0_0, P3⟩ :: ⟨Rect.unit (s := S4x128x128) ![2, 0, 0] ![1, 128, 128] inb_S4x128x128_S1x128x128_2_0_0, P2⟩ ::
      ⟨Rect.unit (s := S4x128x128) ![1, 0, 0] ![1, 128, 128] inb_S4x128x128_S1x128x128_1_0_0, P1⟩ :: ⟨Rect.unit (s := S4x128x128) ![0, 0, 0] ![1, 128, 128] inb_S4x128x128_S1x128x128_0_0_0, P0⟩ :: L)
      (ix3 h a k) = (![P0, P1, P2, P3] h) (ix3 0 a k) := by
  have miss : ∀ (o : ℕ) (inb : ∀ j, (![o, 0, 0] : Fin 3 → ℕ) j + (![1, 128, 128] : Fin 3 → ℕ) j ≤ S4x128x128.size j) (P : S1x128x128.Idx → Elt Ideal .f32) (M : List (View.Piece (Elt Ideal) S4x128x128 .f32)), ¬ (o ≤ h.val ∧ h.val < o + 1) →
      View.canon (Val := Elt Ideal) (e := .f32) (⟨Rect.unit (s := S4x128x128) ![o, 0, 0] ![1, 128, 128] inb, P⟩ :: M) (ix3 h a k) = View.canon (Val := Elt Ideal) (e := .f32) M (ix3 h a k) := fun o inb P M hn =>
    View.canon_cons_of_not_mem _ M (fun hm => hn (((Rect.mem_set_unit (inb := inb)).mp hm) 0))
  have hit : ∀ (o : ℕ) (inb : ∀ j, (![o, 0, 0] : Fin 3 → ℕ) j + (![1, 128, 128] : Fin 3 → ℕ) j ≤ S4x128x128.size j) (P : S1x128x128.Idx → Elt Ideal .f32) (M : List (View.Piece (Elt Ideal) S4x128x128 .f32)), h.val = o →
      View.canon (Val := Elt Ideal) (e := .f32) (⟨Rect.unit (s := S4x128x128) ![o, 0, 0] ![1, 128, 128] inb, P⟩ :: M) (ix3 h a k) = P (ix3 0 a k) := fun o inb P M hh => by
    have e1 : (ix3 h a k : S4x128x128.Idx) = (Rect.unit (s := S4x128x128) ![o, 0, 0] ![1, 128, 128] inb).emb (ix3 0 a k) := by
      funext j
      fin_cases j
      · exact Fin.ext (show h.val = o + 1 * 0 by omega)
      · exact Fin.ext (show a.val = 0 + 1 * a.val by omega)
      · exact Fin.ext (show k.val = 0 + 1 * k.val by omega)
    exact (congrArg (View.canon (Val := Elt Ideal) (e := .f32) (⟨Rect.unit (s := S4x128x128) ![o, 0, 0] ![1, 128, 128] inb, P⟩ :: M)) e1).trans (View.canon_cons_emb (Rect.unit (s := S4x128x128) ![o, 0, 0] ![1, 128, 128] inb) P M (ix3 0 a k))
  obtain ⟨h, hh⟩ := h
  match h, hh with
  | 0, _ => rw [miss 3 _ _ _ (by simp), miss 2 _ _ _ (by simp), miss 1 _ _ _ (by simp)]; exact hit 0 _ _ _ rfl
  | 1, _ => rw [miss 3 _ _ _ (by simp), miss 2 _ _ _ (by simp)]; exact hit 1 _ _ _ rfl
  | 2, _ => rw [miss 3 _ _ _ (by simp)]; exact hit 2 _ _ _ rfl
  | 3, _ => exact hit 3 _ _ _ rfl

end Cert.SguBwdClaims

end
-- ==== Proof.SguVal.lean ====
/- What a tile writes, and what it adds to each accumulator: then every array the call leaves. -/
module

public import proofs.«01_k».proof.Proof.SguBody
public import proofs.«01_k».proof.Proof.SguTile
public import proofs.«01_k».proof.Proof.Gen.SguBwdIdeal.Value
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SguBwdClaims

open Cert.Reals Cert.Ln Cert.Sgu
open Cert.SguBwdIdeal Cert.SguBwdIdeal.Gen

variable (m : (ℓ : Loc nD τ sig) → Buf (Elt Ideal) ℓ) (c : Dev nD)

/-- The call's arguments are the reals named. -/
structure Args (u v q d : Fin 16384 → Fin 256 → ℝ) (g b : Fin 256 → ℝ) (w : Fin 4 → Fin 128 → Fin 128 → ℝ) (bb : Fin 4 → Fin 128 → ℝ) : Prop where
  hu : ∀ (s : Fin 16384) (f : Fin 256), A0 m c (ix3 0 s ⟨2048 + f.val, by omega⟩) = (u s f : EReal)
  hv : ∀ (s : Fin 16384) (f : Fin 256), A0 m c (ix3 0 s ⟨2304 + f.val, by omega⟩) = (v s f : EReal)
  hq : ∀ (s : Fin 16384) (f : Fin 256), A0 m c (ix3 0 s ⟨2560 + f.val, by omega⟩) = (q s f : EReal)
  hd : ∀ (s : Fin 16384) (f : Fin 256), A5 m c (ix3 0 s f) = (d s f : EReal)
  hg : ∀ f : Fin 256, A1 m c (ix1 f) = (g f : EReal)
  hb : ∀ f : Fin 256, A2 m c (ix1 f) = (b f : EReal)
  hw : ∀ (h : Fin 4) (a k : Fin 128), A3 m c (ix3 h a k) = (w h a k : EReal)
  hbb : ∀ (h : Fin 4) (a : Fin 128), A4 m c (ix2 h a) = (bb h a : EReal)

/-- The chunk of the sequence a tile's chunk is. -/
def nOf (t : Fin cfg0.N) (i : Fin 4) : Fin 128 := ⟨t.val * 4 + i.val, by have := (crd t).2; omega⟩
theorem row_eq (t : Fin cfg0.N) (i : Fin 4) (a : Fin 128) : rowOf t ⟨128 * i.val + a.val, by omega⟩ = row (nOf t i) a :=
  Fin.ext (show t.val * 512 + (128 * i.val + a.val) = (t.val * 4 + i.val) * 128 + a.val by omega)

section Val
variable {u v q d : Fin 16384 → Fin 256 → ℝ} {g b : Fin 256 → ℝ} {w : Fin 4 → Fin 128 → Fin 128 → ℝ} {bb : Fin 4 → Fin 128 → ℝ} (H : Args m c u v q d g b w bb) (t : Fin cfg0.N)
include H

theorem tU (i : Fin 4) (a : Fin 128) (k : Fin 256) : (cl (iblk m c 0 t) i) (ix2 a k) = (ch u (nOf t i) a k : EReal) :=
  (cl_at _ i a k).trans ((blk0 m c t _ k).trans ((congrArg (fun s => A0 m c (ix3 0 s ⟨2048 + k.val, by omega⟩)) (row_eq t i a)).trans (H.hu _ k)))
theorem tV (i : Fin 4) (a : Fin 128) (k : Fin 256) : (cl (iblk m c 1 t) i) (ix2 a k) = (ch v (nOf t i) a k : EReal) :=
  (cl_at _ i a k).trans ((blk1 m c t _ k).trans ((congrArg (fun s => A0 m c (ix3 0 s ⟨2304 + k.val, by omega⟩)) (row_eq t i a)).trans (H.hv _ k)))
theorem tQ (i : Fin 4) (a : Fin 128) (k : Fin 256) : (cl (iblk m c 2 t) i) (ix2 a k) = (ch q (nOf t i) a k : EReal) :=
  (cl_at _ i a k).trans ((blk2 m c t _ k).trans ((congrArg (fun s => A0 m c (ix3 0 s ⟨2560 + k.val, by omega⟩)) (row_eq t i a)).trans (H.hq _ k)))
theorem tD (i : Fin 4) (a : Fin 128) (k : Fin 256) : (cl (iblk m c 3 t) i) (ix2 a k) = (ch d (nOf t i) a k : EReal) :=
  (cl_at _ i a k).trans ((blk3 m c t _ k).trans ((congrArg (fun s => A5 m c (ix3 0 s k)) (row_eq t i a)).trans (H.hd _ k)))
theorem tG (k : Fin 256) : (iblk m c 4 t : R2) (ix2 0 k) = (g k : EReal) := (blk4 m c t k).trans (H.hg k)
theorem tB (k : Fin 256) : (iblk m c 5 t : R2) (ix2 0 k) = (b k : EReal) := (blk5 m c t k).trans (H.hb k)
theorem tW (h : Fin 4) (a k : Fin 128) : (sl (iblk m c 6 t) h : M3) (ix3 0 a k) = (w h a k : EReal) := (sl_at _ h a k).trans ((blk6 m c t h a k).trans (H.hw h a k))
theorem tT (h : Fin 4) (a k : Fin 128) : (sl (iblk m c 7 t) h : M3) (ix3 0 a k) = (w h k a : EReal) := (sl_at _ h a k).trans ((blk7 m c t h a k).trans (H.hw h k a))
theorem tBi (a : Fin 128) (f : Fin 256) : (iblk m c 8 t : C2) (ix2 a f) = (bb (hd f) a : EReal) := (blk8 m c t a f).trans (H.hbb (Cert.Sgu.hd f) a)

/-! ## A chunk of a tile -/

theorem dupT (i : Fin 4) (a : Fin 128) (f : Fin 256) : kDup (cl (iblk m c 0 t) i) (cl (iblk m c 1 t) i) (cl (iblk m c 2 t) i) (cl (iblk m c 3 t) i) (iblk m c 4 t) (iblk m c 5 t) (sl (iblk m c 6 t) 0) (sl (iblk m c 6 t) 1) (sl (iblk m c 6 t) 2) (sl (iblk m c 6 t) 3) (iblk m c 8 t) (ix2 a f) = (dup (ch u (nOf t i)) (ch v (nOf t i)) (ch q (nOf t i)) (ch d (nOf t i)) g b w (fun a f => bb (hd f) a) a f : EReal) :=
  kDup_at _ _ _ _ _ _ _ _ _ _ _ _ _ _ _ _ _ _ _ (tU m c H t i) (tV m c H t i) (tQ m c H t i) (tD m c H t i) (tG m c H t) (tB m c H t) (tW m c H t 0) (tW m c H t 1) (tW m c H t 2) (tW m c H t 3) (tBi m c H t) a f
theorem dgtT (i : Fin 4) (a : Fin 128) (f : Fin 256) : kDgt (cl (iblk m c 0 t) i) (cl (iblk m c 1 t) i) (cl (iblk m c 2 t) i) (cl (iblk m c 3 t) i) (iblk m c 4 t) (iblk m c 5 t) (sl (iblk m c 6 t) 0) (sl (iblk m c 6 t) 1) (sl (iblk m c 6 t) 2) (sl (iblk m c 6 t) 3) (iblk m c 8 t) (ix2 a f) = (dgt (ch u (nOf t i)) (ch v (nOf t i)) (ch q (nOf t i)) (ch d (nOf t i)) g b w (fun a f => bb (hd f) a) a f : EReal) :=
  kDgt_at _ _ _ _ _ _ _ _ _ _ _ _ _ _ _ _ _ _ _ (tU m c H t i) (tV m c H t i) (tQ m c H t i) (tD m c H t i) (tG m c H t) (tB m c H t) (tW m c H t 0) (tW m c H t 1) (tW m c H t 2) (tW m c H t 3) (tBi m c H t) a f
theorem dvpT (i : Fin 4) (a : Fin 128) (f : Fin 256) : kDvp (cl (iblk m c 0 t) i) (cl (iblk m c 1 t) i) (cl (iblk m c 2 t) i) (cl (iblk m c 3 t) i) (iblk m c 4 t) (sl (iblk m c 7 t) 0) (sl (iblk m c 7 t) 1) (sl (iblk m c 7 t) 2) (sl (iblk m c 7 t) 3) (ix2 a f) = (dvp (ch u (nOf t i)) (ch v (nOf t i)) (ch q (nOf t i)) (ch d (nOf t i)) g w a f : EReal) :=
  kDvp_at (hU := tU m c H t i) (hV := tV m c H t i) (hQ := tQ m c H t i) (hD := tD m c H t i) (hG := tG m c H t) (hT0 := tT m c H t 0) (hT1 := tT m c H t 1) (hT2 := tT m c H t 2) (hT3 := tT m c H t 3) ..
theorem dgT (i : Fin 4) (f : Fin 256) (r : R2) : kDg (cl (iblk m c 0 t) i) (cl (iblk m c 1 t) i) (cl (iblk m c 2 t) i) (cl (iblk m c 3 t) i) (sl (iblk m c 7 t) 0) (sl (iblk m c 7 t) 1) (sl (iblk m c 7 t) 2) (sl (iblk m c 7 t) 3) r (ix2 0 f) = r (ix2 0 f) + ∑ a : Fin 128, (dvln (ch u (nOf t i)) (ch q (nOf t i)) (ch d (nOf t i)) w a f : EReal) * (nrm (fun k => gelu (ch v (nOf t i) a k)) f : EReal) :=
  kDg_at (hU := tU m c H t i) (hV := tV m c H t i) (hQ := tQ m c H t i) (hD := tD m c H t i) (hT0 := tT m c H t 0) (hT1 := tT m c H t 1) (hT2 := tT m c H t 2) (hT3 := tT m c H t 3) ..
theorem dbT (i : Fin 4) (f : Fin 256) (r : R2) : kDb (cl (iblk m c 0 t) i) (cl (iblk m c 2 t) i) (cl (iblk m c 3 t) i) (sl (iblk m c 7 t) 0) (sl (iblk m c 7 t) 1) (sl (iblk m c 7 t) 2) (sl (iblk m c 7 t) 3) r (ix2 0 f) = r (ix2 0 f) + ∑ a : Fin 128, (dvln (ch u (nOf t i)) (ch q (nOf t i)) (ch d (nOf t i)) w a f : EReal) :=
  kDb_at (hU := tU m c H t i) (hQ := tQ m c H t i) (hD := tD m c H t i) (hT0 := tT m c H t 0) (hT1 := tT m c H t 1) (hT2 := tT m c H t 2) (hT3 := tT m c H t 3) ..
theorem accT (i : Fin 4) (a : Fin 128) (f : Fin 256) (r : C2) : kAcc (cl (iblk m c 0 t) i) (cl (iblk m c 2 t) i) (cl (iblk m c 3 t) i) r (ix2 a f) = r (ix2 a f) + ((dmix (ch u (nOf t i)) (ch q (nOf t i)) (ch d (nOf t i))) a f : EReal) :=
  kAcc_at (hU := tU m c H t i) (hQ := tQ m c H t i) (hD := tD m c H t i) ..
theorem dwT (i h : Fin 4) (k0 : M1) (hm : IsMask k0 h) (a k : Fin 128) (r : FVec Ideal S1x128x128 .f32) :
    k0_pay36 (F := Ideal) k0 (kVln (cl (iblk m c 1 t) i) (iblk m c 4 t) (iblk m c 5 t)) (kDm (cl (iblk m c 0 t) i) (cl (iblk m c 2 t) i) (cl (iblk m c 3 t) i)) r (ix3 0 a k) = r (ix3 0 a k) + dwR (dmix (ch u (nOf t i)) (ch q (nOf t i)) (ch d (nOf t i))) (vln (ch v (nOf t i)) g b) h a k :=
  pay36_at _ _ _ _ h hm _ _ (fun a f => kDm_at (hU := tU m c H t i) (hQ := tQ m c H t i) (hD := tD m c H t i) ..) (fun k j => kVln_at _ _ k j (tV m c H t i k) _ _ _ _ (tG m c H t) (tB m c H t)) a k

/-! ## A tile: its four chunks one after another -/

theorem dg4 (f : Fin 256) (r : R2) : (kDg (cl (iblk m c 0 t) 3) (cl (iblk m c 1 t) 3) (cl (iblk m c 2 t) 3) (cl (iblk m c 3 t) 3) (sl (iblk m c 7 t) 0) (sl (iblk m c 7 t) 1) (sl (iblk m c 7 t) 2) (sl (iblk m c 7 t) 3) (kDg (cl (iblk m c 0 t) 2) (cl (iblk m c 1 t) 2) (cl (iblk m c 2 t) 2) (cl (iblk m c 3 t) 2) (sl (iblk m c 7 t) 0) (sl (iblk m c 7 t) 1) (sl (iblk m c 7 t) 2) (sl (iblk m c 7 t) 3) (kDg (cl (iblk m c 0 t) 1) (cl (iblk m c 1 t) 1) (cl (iblk m c 2 t) 1) (cl (iblk m c 3 t) 1) (sl (iblk m c 7 t) 0) (sl (iblk m c 7 t) 1) (sl (iblk m c 7 t) 2) (sl (iblk m c 7 t) 3) (kDg (cl (iblk m c 0 t) 0) (cl (iblk m c 1 t) 0) (cl (iblk m c 2 t) 0) (cl (iblk m c 3 t) 0) (sl (iblk m c 7 t) 0) (sl (iblk m c 7 t) 1) (sl (iblk m c 7 t) 2) (sl (iblk m c 7 t) 3) r)))) (ix2 0 f) = r (ix2 0 f) + ∑ i : Fin 4, ∑ a : Fin 128, (dvln (ch u (nOf t i)) (ch q (nOf t i)) (ch d (nOf t i)) w a f : EReal) * (nrm (fun k => gelu (ch v (nOf t i) a k)) f : EReal) := by
  rw [dgT m c H t 3, dgT m c H t 2, dgT m c H t 1, dgT m c H t 0, Fin.sum_univ_four]
  simp only [add_assoc]
theorem db4 (f : Fin 256) (r : R2) : (kDb (cl (iblk m c 0 t) 3) (cl (iblk m c 2 t) 3) (cl (iblk m c 3 t) 3) (sl (iblk m c 7 t) 0) (sl (iblk m c 7 t) 1) (sl (iblk m c 7 t) 2) (sl (iblk m c 7 t) 3) (kDb (cl (iblk m c 0 t) 2) (cl (iblk m c 2 t) 2) (cl (iblk m c 3 t) 2) (sl (iblk m c 7 t) 0) (sl (iblk m c 7 t) 1) (sl (iblk m c 7 t) 2) (sl (iblk m c 7 t) 3) (kDb (cl (iblk m c 0 t) 1) (cl (iblk m c 2 t) 1) (cl (iblk m c 3 t) 1) (sl (iblk m c 7 t) 0) (sl (iblk m c 7 t) 1) (sl (iblk m c 7 t) 2) (sl (iblk m c 7 t) 3) (kDb (cl (iblk m c 0 t) 0) (cl (iblk m c 2 t) 0) (cl (iblk m c 3 t) 0) (sl (iblk m c 7 t) 0) (sl (iblk m c 7 t) 1) (sl (iblk m c 7 t) 2) (sl (iblk m c 7 t) 3) r)))) (ix2 0 f) = r (ix2 0 f) + ∑ i : Fin 4, ∑ a : Fin 128, (dvln (ch u (nOf t i)) (ch q (nOf t i)) (ch d (nOf t i)) w a f : EReal) := by
  rw [dbT m c H t 3, dbT m c H t 2, dbT m c H t 1, dbT m c H t 0, Fin.sum_univ_four]
  simp only [add_assoc]
theorem acc4 (a : Fin 128) (f : Fin 256) (r : C2) : (kAcc (cl (iblk m c 0 t) 3) (cl (iblk m c 2 t) 3) (cl (iblk m c 3 t) 3) (kAcc (cl (iblk m c 0 t) 2) (cl (iblk m c 2 t) 2) (cl (iblk m c 3 t) 2) (kAcc (cl (iblk m c 0 t) 1) (cl (iblk m c 2 t) 1) (cl (iblk m c 3 t) 1) (kAcc (cl (iblk m c 0 t) 0) (cl (iblk m c 2 t) 0) (cl (iblk m c 3 t) 0) r)))) (ix2 a f) = r (ix2 a f) + ∑ i : Fin 4, ((dmix (ch u (nOf t i)) (ch q (nOf t i)) (ch d (nOf t i))) a f : EReal) := by
  rw [accT m c H t 3, accT m c H t 2, accT m c H t 1, accT m c H t 0, Fin.sum_univ_four]
  simp only [add_assoc]
theorem dw4 (h : Fin 4) (k0 : M1) (hm : IsMask k0 h) (a k : Fin 128) (r : FVec Ideal S1x128x128 .f32) :
    (k0_pay36 (F := Ideal) k0 (kVln (cl (iblk m c 1 t) 3) (iblk m c 4 t) (iblk m c 5 t)) (kDm (cl (iblk m c 0 t) 3) (cl (iblk m c 2 t) 3) (cl (iblk m c 3 t) 3)) (k0_pay36 (F := Ideal) k0 (kVln (cl (iblk m c 1 t) 2) (iblk m c 4 t) (iblk m c 5 t)) (kDm (cl (iblk m c 0 t) 2) (cl (iblk m c 2 t) 2) (cl (iblk m c 3 t) 2)) (k0_pay36 (F := Ideal) k0 (kVln (cl (iblk m c 1 t) 1) (iblk m c 4 t) (iblk m c 5 t)) (kDm (cl (iblk m c 0 t) 1) (cl (iblk m c 2 t) 1) (cl (iblk m c 3 t) 1)) (k0_pay36 (F := Ideal) k0 (kVln (cl (iblk m c 1 t) 0) (iblk m c 4 t) (iblk m c 5 t)) (kDm (cl (iblk m c 0 t) 0) (cl (iblk m c 2 t) 0) (cl (iblk m c 3 t) 0)) r)))) (ix3 0 a k) = r (ix3 0 a k) + ∑ i : Fin 4, dwR (dmix (ch u (nOf t i)) (ch q (nOf t i)) (ch d (nOf t i))) (vln (ch v (nOf t i)) g b) h a k := by
  rw [dwT m c H t 3 h k0 hm, dwT m c H t 2 h k0 hm, dwT m c H t 1 h k0 hm, dwT m c H t 0 h k0 hm, Fin.sum_univ_four]
  simp only [add_assoc]

/-! ## What a tile writes -/

theorem w10A (h0 : t.val % 32 = 0) (h1 : ¬ t.val % 32 = 31) (i : Fin 4) (a : Fin 128) (f : Fin 256) (r : Fin 512) (hr : r.val = 128 * i.val + a.val) : (show EReal from (outsAt0 m c t.val t.isLt).1 (ix2 r f)) = (dup (ch u (nOf t i)) (ch v (nOf t i)) (ch q (nOf t i)) (ch d (nOf t i)) g b w (fun a f => bb (hd f) a) a f : EReal) := by
  rw [outsAt0_A m c t h0 h1]; frame_out
  rw [du0, du1, du2, du3]
  refine (canon_rows _ _ _ _ _ i a f r hr).trans ?_
  obtain ⟨i, hi⟩ := i
  match i, hi with
  | 0, _ => exact dupT m c H t 0 a f
  | 1, _ => exact dupT m c H t 1 a f
  | 2, _ => exact dupT m c H t 2 a f
  | 3, _ => exact dupT m c H t 3 a f
theorem w10B (h0 : ¬ t.val % 32 = 0) (h1 : ¬ t.val % 32 = 31) (i : Fin 4) (a : Fin 128) (f : Fin 256) (r : Fin 512) (hr : r.val = 128 * i.val + a.val) : (show EReal from (outsAt0 m c t.val t.isLt).1 (ix2 r f)) = (dup (ch u (nOf t i)) (ch v (nOf t i)) (ch q (nOf t i)) (ch d (nOf t i)) g b w (fun a f => bb (hd f) a) a f : EReal) := by
  rw [outsAt0_B m c t h0 h1]; frame_out
  rw [du0, du1, du2, du3]
  refine (canon_rows _ _ _ _ _ i a f r hr).trans ?_
  obtain ⟨i, hi⟩ := i
  match i, hi with
  | 0, _ => exact dupT m c H t 0 a f
  | 1, _ => exact dupT m c H t 1 a f
  | 2, _ => exact dupT m c H t 2 a f
  | 3, _ => exact dupT m c H t 3 a f
theorem w10C (h0 : ¬ t.val % 32 = 0) (h1 : t.val % 32 = 31) (i : Fin 4) (a : Fin 128) (f : Fin 256) (r : Fin 512) (hr : r.val = 128 * i.val + a.val) : (show EReal from (outsAt0 m c t.val t.isLt).1 (ix2 r f)) = (dup (ch u (nOf t i)) (ch v (nOf t i)) (ch q (nOf t i)) (ch d (nOf t i)) g b w (fun a f => bb (hd f) a) a f : EReal) := by
  rw [outsAt0_C m c t h0 h1]; frame_out
  rw [du0, du1, du2, du3]
  refine (canon_rows _ _ _ _ _ i a f r hr).trans ?_
  obtain ⟨i, hi⟩ := i
  match i, hi with
  | 0, _ => exact dupT m c H t 0 a f
  | 1, _ => exact dupT m c H t 1 a f
  | 2, _ => exact dupT m c H t 2 a f
  | 3, _ => exact dupT m c H t 3 a f
theorem w10 (i : Fin 4) (a : Fin 128) (f : Fin 256) (r : Fin 512) (hr : r.val = 128 * i.val + a.val) : (show EReal from (outsAt0 m c t.val t.isLt).1 (ix2 r f)) = (dup (ch u (nOf t i)) (ch v (nOf t i)) (ch q (nOf t i)) (ch d (nOf t i)) g b w (fun a f => bb (hd f) a) a f : EReal) := by
  by_cases h0 : t.val % 32 = 0
  · have h1 : ¬ t.val % 32 = 31 := by omega
    exact w10A m c H t h0 h1 i a f r hr
  · by_cases h1 : t.val % 32 = 31
    · exact w10C m c H t h0 h1 i a f r hr
    · exact w10B m c H t h0 h1 i a f r hr

theorem w11A (h0 : t.val % 32 = 0) (h1 : ¬ t.val % 32 = 31) (i : Fin 4) (a : Fin 128) (f : Fin 256) (r : Fin 512) (hr : r.val = 128 * i.val + a.val) : (show EReal from (outsAt0 m c t.val t.isLt).2.1 (ix2 r f)) = (dvp (ch u (nOf t i)) (ch v (nOf t i)) (ch q (nOf t i)) (ch d (nOf t i)) g w a f : EReal) := by
  rw [outsAt0_A m c t h0 h1]; frame_out
  rw [dv0, dv1, dv2, dv3]
  refine (canon_rows _ _ _ _ _ i a f r hr).trans ?_
  obtain ⟨i, hi⟩ := i
  match i, hi with
  | 0, _ => exact dvpT m c H t 0 a f
  | 1, _ => exact dvpT m c H t 1 a f
  | 2, _ => exact dvpT m c H t 2 a f
  | 3, _ => exact dvpT m c H t 3 a f
theorem w11B (h0 : ¬ t.val % 32 = 0) (h1 : ¬ t.val % 32 = 31) (i : Fin 4) (a : Fin 128) (f : Fin 256) (r : Fin 512) (hr : r.val = 128 * i.val + a.val) : (show EReal from (outsAt0 m c t.val t.isLt).2.1 (ix2 r f)) = (dvp (ch u (nOf t i)) (ch v (nOf t i)) (ch q (nOf t i)) (ch d (nOf t i)) g w a f : EReal) := by
  rw [outsAt0_B m c t h0 h1]; frame_out
  rw [dv0, dv1, dv2, dv3]
  refine (canon_rows _ _ _ _ _ i a f r hr).trans ?_
  obtain ⟨i, hi⟩ := i
  match i, hi with
  | 0, _ => exact dvpT m c H t 0 a f
  | 1, _ => exact dvpT m c H t 1 a f
  | 2, _ => exact dvpT m c H t 2 a f
  | 3, _ => exact dvpT m c H t 3 a f
theorem w11C (h0 : ¬ t.val % 32 = 0) (h1 : t.val % 32 = 31) (i : Fin 4) (a : Fin 128) (f : Fin 256) (r : Fin 512) (hr : r.val = 128 * i.val + a.val) : (show EReal from (outsAt0 m c t.val t.isLt).2.1 (ix2 r f)) = (dvp (ch u (nOf t i)) (ch v (nOf t i)) (ch q (nOf t i)) (ch d (nOf t i)) g w a f : EReal) := by
  rw [outsAt0_C m c t h0 h1]; frame_out
  rw [dv0, dv1, dv2, dv3]
  refine (canon_rows _ _ _ _ _ i a f r hr).trans ?_
  obtain ⟨i, hi⟩ := i
  match i, hi with
  | 0, _ => exact dvpT m c H t 0 a f
  | 1, _ => exact dvpT m c H t 1 a f
  | 2, _ => exact dvpT m c H t 2 a f
  | 3, _ => exact dvpT m c H t 3 a f
theorem w11 (i : Fin 4) (a : Fin 128) (f : Fin 256) (r : Fin 512) (hr : r.val = 128 * i.val + a.val) : (show EReal from (outsAt0 m c t.val t.isLt).2.1 (ix2 r f)) = (dvp (ch u (nOf t i)) (ch v (nOf t i)) (ch q (nOf t i)) (ch d (nOf t i)) g w a f : EReal) := by
  by_cases h0 : t.val % 32 = 0
  · have h1 : ¬ t.val % 32 = 31 := by omega
    exact w11A m c H t h0 h1 i a f r hr
  · by_cases h1 : t.val % 32 = 31
    · exact w11C m c H t h0 h1 i a f r hr
    · exact w11B m c H t h0 h1 i a f r hr

theorem w12A (h0 : t.val % 32 = 0) (h1 : ¬ t.val % 32 = 31) (i : Fin 4) (a : Fin 128) (f : Fin 256) (r : Fin 512) (hr : r.val = 128 * i.val + a.val) : (show EReal from (outsAt0 m c t.val t.isLt).2.2.1 (ix2 r f)) = (dgt (ch u (nOf t i)) (ch v (nOf t i)) (ch q (nOf t i)) (ch d (nOf t i)) g b w (fun a f => bb (hd f) a) a f : EReal) := by
  rw [outsAt0_A m c t h0 h1]; frame_out
  rw [dg0, dg1, dg2, dg3]
  refine (canon_rows _ _ _ _ _ i a f r hr).trans ?_
  obtain ⟨i, hi⟩ := i
  match i, hi with
  | 0, _ => exact dgtT m c H t 0 a f
  | 1, _ => exact dgtT m c H t 1 a f
  | 2, _ => exact dgtT m c H t 2 a f
  | 3, _ => exact dgtT m c H t 3 a f
theorem w12B (h0 : ¬ t.val % 32 = 0) (h1 : ¬ t.val % 32 = 31) (i : Fin 4) (a : Fin 128) (f : Fin 256) (r : Fin 512) (hr : r.val = 128 * i.val + a.val) : (show EReal from (outsAt0 m c t.val t.isLt).2.2.1 (ix2 r f)) = (dgt (ch u (nOf t i)) (ch v (nOf t i)) (ch q (nOf t i)) (ch d (nOf t i)) g b w (fun a f => bb (hd f) a) a f : EReal) := by
  rw [outsAt0_B m c t h0 h1]; frame_out
  rw [dg0, dg1, dg2, dg3]
  refine (canon_rows _ _ _ _ _ i a f r hr).trans ?_
  obtain ⟨i, hi⟩ := i
  match i, hi with
  | 0, _ => exact dgtT m c H t 0 a f
  | 1, _ => exact dgtT m c H t 1 a f
  | 2, _ => exact dgtT m c H t 2 a f
  | 3, _ => exact dgtT m c H t 3 a f
theorem w12C (h0 : ¬ t.val % 32 = 0) (h1 : t.val % 32 = 31) (i : Fin 4) (a : Fin 128) (f : Fin 256) (r : Fin 512) (hr : r.val = 128 * i.val + a.val) : (show EReal from (outsAt0 m c t.val t.isLt).2.2.1 (ix2 r f)) = (dgt (ch u (nOf t i)) (ch v (nOf t i)) (ch q (nOf t i)) (ch d (nOf t i)) g b w (fun a f => bb (hd f) a) a f : EReal) := by
  rw [outsAt0_C m c t h0 h1]; frame_out
  rw [dg0, dg1, dg2, dg3]
  refine (canon_rows _ _ _ _ _ i a f r hr).trans ?_
  obtain ⟨i, hi⟩ := i
  match i, hi with
  | 0, _ => exact dgtT m c H t 0 a f
  | 1, _ => exact dgtT m c H t 1 a f
  | 2, _ => exact dgtT m c H t 2 a f
  | 3, _ => exact dgtT m c H t 3 a f
theorem w12 (i : Fin 4) (a : Fin 128) (f : Fin 256) (r : Fin 512) (hr : r.val = 128 * i.val + a.val) : (show EReal from (outsAt0 m c t.val t.isLt).2.2.1 (ix2 r f)) = (dgt (ch u (nOf t i)) (ch v (nOf t i)) (ch q (nOf t i)) (ch d (nOf t i)) g b w (fun a f => bb (hd f) a) a f : EReal) := by
  by_cases h0 : t.val % 32 = 0
  · have h1 : ¬ t.val % 32 = 31 := by omega
    exact w12A m c H t h0 h1 i a f r hr
  · by_cases h1 : t.val % 32 = 31
    · exact w12C m c H t h0 h1 i a f r hr
    · exact w12B m c H t h0 h1 i a f r hr

omit H in
theorem zero3 (f : Fin 256) : k0_pay3 (F := Ideal) (ix2 0 f) = 0 := by pointwise [k0_pay3]
omit H in
theorem zero4 (f : Fin 256) : k0_pay4 (F := Ideal) (ix2 0 f) = 0 := by pointwise [k0_pay4]
omit H in
theorem zero5 (h : Fin 4) (a k : Fin 128) : k0_pay5 (F := Ideal) (ix3 h a k) = 0 := by pointwise [k0_pay5]
omit H in
theorem slz (h : Fin 4) (a k : Fin 128) : sl (e := .f32) (k0_pay5 (F := Ideal)) h (ix3 0 a k) = (0 : EReal) := (sl_at (e := .f32) _ h a k).trans (zero5 h a k)
omit H in
theorem zero6 (a : Fin 128) (f : Fin 256) : k0_pay6 (F := Ideal) (ix2 a f) = 0 := by pointwise [k0_pay6]

theorem s3A (h0 : t.val % 32 = 0) (h1 : ¬ t.val % 32 = 31) (f : Fin 256) : (show EReal from (outsAt0 m c t.val t.isLt).2.2.2.1 (ix2 0 f)) = 0 + ∑ i : Fin 4, ∑ a : Fin 128, (dvln (ch u (nOf t i)) (ch q (nOf t i)) (ch d (nOf t i)) w a f : EReal) * (nrm (fun k => gelu (ch v (nOf t i) a k)) f : EReal) := by
  rw [outsAt0_A m c t h0 h1]; frame_out
  rw [dgain3, dgain2, dgain1, dgain0]
  exact (dg4 m c H t f _).trans (Ideal.add_congr (zero3 f) rfl)
theorem s3B (h0 : ¬ t.val % 32 = 0) (h1 : ¬ t.val % 32 = 31) (f : Fin 256) : (show EReal from (outsAt0 m c t.val t.isLt).2.2.2.1 (ix2 0 f)) = (show EReal from (outsAt0 m c (t.val - 1) (by have := t.isLt; omega)).2.2.2.1 (ix2 0 f)) + ∑ i : Fin 4, ∑ a : Fin 128, (dvln (ch u (nOf t i)) (ch q (nOf t i)) (ch d (nOf t i)) w a f : EReal) * (nrm (fun k => gelu (ch v (nOf t i) a k)) f : EReal) := by
  rw [outsAt0_B m c t h0 h1]; frame_out
  rw [dgain3, dgain2, dgain1, dgain0]
  exact dg4 m c H t f _
theorem s3C (h0 : ¬ t.val % 32 = 0) (h1 : t.val % 32 = 31) (f : Fin 256) : (show EReal from (outsAt0 m c t.val t.isLt).2.2.2.1 (ix2 0 f)) = (show EReal from (outsAt0 m c (t.val - 1) (by have := t.isLt; omega)).2.2.2.1 (ix2 0 f)) + ∑ i : Fin 4, ∑ a : Fin 128, (dvln (ch u (nOf t i)) (ch q (nOf t i)) (ch d (nOf t i)) w a f : EReal) * (nrm (fun k => gelu (ch v (nOf t i) a k)) f : EReal) := by
  rw [outsAt0_C m c t h0 h1]; frame_out
  rw [dgain3, dgain2, dgain1, dgain0]
  exact dg4 m c H t f _
theorem s3BC (h0 : ¬ t.val % 32 = 0) (f : Fin 256) : (show EReal from (outsAt0 m c t.val t.isLt).2.2.2.1 (ix2 0 f)) = (show EReal from (outsAt0 m c (t.val - 1) (by have := t.isLt; omega)).2.2.2.1 (ix2 0 f)) + ∑ i : Fin 4, ∑ a : Fin 128, (dvln (ch u (nOf t i)) (ch q (nOf t i)) (ch d (nOf t i)) w a f : EReal) * (nrm (fun k => gelu (ch v (nOf t i) a k)) f : EReal) := by
  by_cases h1 : t.val % 32 = 31
  · exact s3C m c H t h0 h1 f
  · exact s3B m c H t h0 h1 f

theorem s4A (h0 : t.val % 32 = 0) (h1 : ¬ t.val % 32 = 31) (f : Fin 256) : (show EReal from (outsAt0 m c t.val t.isLt).2.2.2.2.1 (ix2 0 f)) = 0 + ∑ i : Fin 4, ∑ a : Fin 128, (dvln (ch u (nOf t i)) (ch q (nOf t i)) (ch d (nOf t i)) w a f : EReal) := by
  rw [outsAt0_A m c t h0 h1]; frame_out
  rw [dbeta3, dbeta2, dbeta1, dbeta0]
  exact (db4 m c H t f _).trans (Ideal.add_congr (zero4 f) rfl)
theorem s4B (h0 : ¬ t.val % 32 = 0) (h1 : ¬ t.val % 32 = 31) (f : Fin 256) : (show EReal from (outsAt0 m c t.val t.isLt).2.2.2.2.1 (ix2 0 f)) = (show EReal from (outsAt0 m c (t.val - 1) (by have := t.isLt; omega)).2.2.2.2.1 (ix2 0 f)) + ∑ i : Fin 4, ∑ a : Fin 128, (dvln (ch u (nOf t i)) (ch q (nOf t i)) (ch d (nOf t i)) w a f : EReal) := by
  rw [outsAt0_B m c t h0 h1]; frame_out
  rw [dbeta3, dbeta2, dbeta1, dbeta0]
  exact db4 m c H t f _
theorem s4C (h0 : ¬ t.val % 32 = 0) (h1 : t.val % 32 = 31) (f : Fin 256) : (show EReal from (outsAt0 m c t.val t.isLt).2.2.2.2.1 (ix2 0 f)) = (show EReal from (outsAt0 m c (t.val - 1) (by have := t.isLt; omega)).2.2.2.2.1 (ix2 0 f)) + ∑ i : Fin 4, ∑ a : Fin 128, (dvln (ch u (nOf t i)) (ch q (nOf t i)) (ch d (nOf t i)) w a f : EReal) := by
  rw [outsAt0_C m c t h0 h1]; frame_out
  rw [dbeta3, dbeta2, dbeta1, dbeta0]
  exact db4 m c H t f _
theorem s4BC (h0 : ¬ t.val % 32 = 0) (f : Fin 256) : (show EReal from (outsAt0 m c t.val t.isLt).2.2.2.2.1 (ix2 0 f)) = (show EReal from (outsAt0 m c (t.val - 1) (by have := t.isLt; omega)).2.2.2.2.1 (ix2 0 f)) + ∑ i : Fin 4, ∑ a : Fin 128, (dvln (ch u (nOf t i)) (ch q (nOf t i)) (ch d (nOf t i)) w a f : EReal) := by
  by_cases h1 : t.val % 32 = 31
  · exact s4C m c H t h0 h1 f
  · exact s4B m c H t h0 h1 f

theorem s7A (h0 : t.val % 32 = 0) (h1 : ¬ t.val % 32 = 31) (a : Fin 128) (f : Fin 256) : (show EReal from (outsAt0 m c t.val t.isLt).2.2.2.2.2.2.2 (ix2 a f)) = 0 + ∑ i : Fin 4, ((dmix (ch u (nOf t i)) (ch q (nOf t i)) (ch d (nOf t i))) a f : EReal) := by
  rw [outsAt0_A m c t h0 h1]; frame_out
  rw [acc3, acc2, acc1, acc0]
  exact (acc4 m c H t a f _).trans (Ideal.add_congr (zero6 a f) rfl)
theorem s7B (h0 : ¬ t.val % 32 = 0) (h1 : ¬ t.val % 32 = 31) (a : Fin 128) (f : Fin 256) : (show EReal from (outsAt0 m c t.val t.isLt).2.2.2.2.2.2.2 (ix2 a f)) = (show EReal from (outsAt0 m c (t.val - 1) (by have := t.isLt; omega)).2.2.2.2.2.2.2 (ix2 a f)) + ∑ i : Fin 4, ((dmix (ch u (nOf t i)) (ch q (nOf t i)) (ch d (nOf t i))) a f : EReal) := by
  rw [outsAt0_B m c t h0 h1]; frame_out
  rw [read_unread_whole]
  rw [acc3, acc2, acc1, acc0]
  exact acc4 m c H t a f _
theorem s7C (h0 : ¬ t.val % 32 = 0) (h1 : t.val % 32 = 31) (a : Fin 128) (f : Fin 256) : (show EReal from (outsAt0 m c t.val t.isLt).2.2.2.2.2.2.2 (ix2 a f)) = (show EReal from (outsAt0 m c (t.val - 1) (by have := t.isLt; omega)).2.2.2.2.2.2.2 (ix2 a f)) + ∑ i : Fin 4, ((dmix (ch u (nOf t i)) (ch q (nOf t i)) (ch d (nOf t i))) a f : EReal) := by
  rw [outsAt0_C m c t h0 h1]; frame_out
  rw [read_unread_whole]
  rw [acc3, acc2, acc1, acc0]
  exact acc4 m c H t a f _
theorem s7BC (h0 : ¬ t.val % 32 = 0) (a : Fin 128) (f : Fin 256) : (show EReal from (outsAt0 m c t.val t.isLt).2.2.2.2.2.2.2 (ix2 a f)) = (show EReal from (outsAt0 m c (t.val - 1) (by have := t.isLt; omega)).2.2.2.2.2.2.2 (ix2 a f)) + ∑ i : Fin 4, ((dmix (ch u (nOf t i)) (ch q (nOf t i)) (ch d (nOf t i))) a f : EReal) := by
  by_cases h1 : t.val % 32 = 31
  · exact s7C m c H t h0 h1 a f
  · exact s7B m c H t h0 h1 a f

theorem s5A (h0 : t.val % 32 = 0) (h1 : ¬ t.val % 32 = 31) (h : Fin 4) (a k : Fin 128) : (show EReal from (outsAt0 m c t.val t.isLt).2.2.2.2.2.1 (ix3 h a k)) = 0 + ∑ i : Fin 4, dwR (dmix (ch u (nOf t i)) (ch q (nOf t i)) (ch d (nOf t i))) (vln (ch v (nOf t i)) g b) h a k := by
  rw [outsAt0_A m c t h0 h1]; frame_out
  simp (disch := decide) only [View.readCov_skip (s := S4x128x128), View.readCov_fill (s := S4x128x128), readCov_self (s := S4x128x128)]
  rw [dw30, dw31, dw32, dw33, dw20, dw21, dw22, dw23, dw10, dw11, dw12, dw13, dw00, dw01, dw02, dw03]
  refine (canon_heads _ _ _ _ _ h a k).trans ?_
  obtain ⟨h, hh⟩ := h
  match h, hh with
  | 0, _ => exact (dw4 m c H t 0 k0_pay8 pay8_mask a k _).trans (Ideal.add_congr (slz 0 a k) rfl)
  | 1, _ => exact (dw4 m c H t 1 k0_pay9 pay9_mask a k _).trans (Ideal.add_congr (slz 1 a k) rfl)
  | 2, _ => exact (dw4 m c H t 2 k0_pay10 pay10_mask a k _).trans (Ideal.add_congr (slz 2 a k) rfl)
  | 3, _ => exact (dw4 m c H t 3 k0_pay11 pay11_mask a k _).trans (Ideal.add_congr (slz 3 a k) rfl)
theorem s5B (h0 : ¬ t.val % 32 = 0) (h1 : ¬ t.val % 32 = 31) (h : Fin 4) (a k : Fin 128) : (show EReal from (outsAt0 m c t.val t.isLt).2.2.2.2.2.1 (ix3 h a k)) = (show EReal from (outsAt0 m c (t.val - 1) (by have := t.isLt; omega)).2.2.2.2.2.1 (ix3 h a k)) + ∑ i : Fin 4, dwR (dmix (ch u (nOf t i)) (ch q (nOf t i)) (ch d (nOf t i))) (vln (ch v (nOf t i)) g b) h a k := by
  rw [outsAt0_B m c t h0 h1]; frame_out
  simp (disch := decide) only [View.readCov_skip (s := S4x128x128), View.readCov_fill (s := S4x128x128), readCov_self (s := S4x128x128)]
  rw [dw30, dw31, dw32, dw33, dw20, dw21, dw22, dw23, dw10, dw11, dw12, dw13, dw00, dw01, dw02, dw03]
  refine (canon_heads _ _ _ _ _ h a k).trans ?_
  obtain ⟨h, hh⟩ := h
  match h, hh with
  | 0, _ => exact (dw4 m c H t 0 k0_pay8 pay8_mask a k _).trans (Ideal.add_congr (sl_at ((outsAt0 m c (t.val - 1) (by have := t.isLt; omega)).2.2.2.2.2.1) 0 a k) rfl)
  | 1, _ => exact (dw4 m c H t 1 k0_pay9 pay9_mask a k _).trans (Ideal.add_congr (sl_at ((outsAt0 m c (t.val - 1) (by have := t.isLt; omega)).2.2.2.2.2.1) 1 a k) rfl)
  | 2, _ => exact (dw4 m c H t 2 k0_pay10 pay10_mask a k _).trans (Ideal.add_congr (sl_at ((outsAt0 m c (t.val - 1) (by have := t.isLt; omega)).2.2.2.2.2.1) 2 a k) rfl)
  | 3, _ => exact (dw4 m c H t 3 k0_pay11 pay11_mask a k _).trans (Ideal.add_congr (sl_at ((outsAt0 m c (t.val - 1) (by have := t.isLt; omega)).2.2.2.2.2.1) 3 a k) rfl)
theorem s5C (h0 : ¬ t.val % 32 = 0) (h1 : t.val % 32 = 31) (h : Fin 4) (a k : Fin 128) : (show EReal from (outsAt0 m c t.val t.isLt).2.2.2.2.2.1 (ix3 h a k)) = (show EReal from (outsAt0 m c (t.val - 1) (by have := t.isLt; omega)).2.2.2.2.2.1 (ix3 h a k)) + ∑ i : Fin 4, dwR (dmix (ch u (nOf t i)) (ch q (nOf t i)) (ch d (nOf t i))) (vln (ch v (nOf t i)) g b) h a k := by
  rw [outsAt0_C m c t h0 h1]; frame_out
  simp (disch := decide) only [View.readCov_skip (s := S4x128x128), View.readCov_fill (s := S4x128x128), readCov_self (s := S4x128x128)]
  rw [dw30, dw31, dw32, dw33, dw20, dw21, dw22, dw23, dw10, dw11, dw12, dw13, dw00, dw01, dw02, dw03]
  refine (canon_heads _ _ _ _ _ h a k).trans ?_
  obtain ⟨h, hh⟩ := h
  match h, hh with
  | 0, _ => exact (dw4 m c H t 0 k0_pay8 pay8_mask a k _).trans (Ideal.add_congr (sl_at ((outsAt0 m c (t.val - 1) (by have := t.isLt; omega)).2.2.2.2.2.1) 0 a k) rfl)
  | 1, _ => exact (dw4 m c H t 1 k0_pay9 pay9_mask a k _).trans (Ideal.add_congr (sl_at ((outsAt0 m c (t.val - 1) (by have := t.isLt; omega)).2.2.2.2.2.1) 1 a k) rfl)
  | 2, _ => exact (dw4 m c H t 2 k0_pay10 pay10_mask a k _).trans (Ideal.add_congr (sl_at ((outsAt0 m c (t.val - 1) (by have := t.isLt; omega)).2.2.2.2.2.1) 2 a k) rfl)
  | 3, _ => exact (dw4 m c H t 3 k0_pay11 pay11_mask a k _).trans (Ideal.add_congr (sl_at ((outsAt0 m c (t.val - 1) (by have := t.isLt; omega)).2.2.2.2.2.1) 3 a k) rfl)
theorem s5BC (h0 : ¬ t.val % 32 = 0) (h : Fin 4) (a k : Fin 128) : (show EReal from (outsAt0 m c t.val t.isLt).2.2.2.2.2.1 (ix3 h a k)) = (show EReal from (outsAt0 m c (t.val - 1) (by have := t.isLt; omega)).2.2.2.2.2.1 (ix3 h a k)) + ∑ i : Fin 4, dwR (dmix (ch u (nOf t i)) (ch q (nOf t i)) (ch d (nOf t i))) (vln (ch v (nOf t i)) g b) h a k := by
  by_cases h1 : t.val % 32 = 31
  · exact s5C m c H t h0 h1 h a k
  · exact s5B m c H t h0 h1 h a k

end Val

end Cert.SguBwdClaims

end
-- ==== Proof.SguFin.lean ====
/- The arrays the call leaves, over the call's arguments. -/
module

public import proofs.«01_k».proof.Proof.SguBody
public import proofs.«01_k».proof.Proof.SguVal
public import proofs.«01_k».proof.Proof.Gen.SguBwdIdeal.Value
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SguBwdClaims

open Cert.Reals Cert.Ln Cert.Sgu
open Cert.SguBwdIdeal Cert.SguBwdIdeal.Gen

variable (m : (ℓ : Loc nD τ sig) → Buf (Elt Ideal) ℓ) (c : Dev nD)

/-- The chunk of a row. -/
def nn (s : Fin 16384) : Fin 128 := ⟨s.val / 128, by omega⟩
/-- The row within its chunk. -/
def aa (s : Fin 16384) : Fin 128 := ⟨s.val % 128, by omega⟩
theorem row_nn (s : Fin 16384) : row (nn s) (aa s) = s := Fin.ext (show s.val / 128 * 128 + s.val % 128 = s.val by omega)

/-- The tiles' chunks are the sequence's. -/
theorem sum4 (X : Fin 128 → EReal) (t : Fin cfg0.N) (h : ∀ s : Fin 32, 32 * (t.val / 32) + s.val < cfg0.N) :
    ∑ s : Fin 32, ∑ i : Fin 4, X (nOf ⟨32 * (t.val / 32) + s.val, h s⟩ i) = ∑ n : Fin 128, X n :=
  Fin.sum_mul_add_congr (f := X) fun s i hl => congrArg X (Fin.ext (show (32 * (t.val / 32) + s.val) * 4 + i.val = s.val * 4 + i.val by have := (crd t).2; omega))

theorem pay2_at (X : C2) (M : FVec Ideal S256x128 .f32) (x : Fin 256 → ℝ) (a k : Fin 128) (hX : ∀ f, X (ix2 a f) = (x f : EReal)) :
    k0_pay2 (F := Ideal) X M (ix2 a k) = ∑ f : Fin 256, (x f : EReal) * M (ix2 f k) := by
  pointwise [k0_pay2]
  simp only [hX, ← EReal.coe_sub, sub_self, EReal.coe_zero, zero_mul, Finset.sum_const_zero, add_zero]

/-- A sum over the features of one head. -/
theorem sum_head (F : Fin 256 → EReal) (h : Fin 4) : ∑ f : Fin 256, (if hd f = h then F f else 0) = ∑ l : Fin 64, F (feat h l) := by
  have e : ∑ s : Fin 4, ∑ l : Fin 64, (if hd (feat s l) = h then F (feat s l) else 0) = ∑ f : Fin 256, (if hd f = h then F f else 0) :=
    Fin.sum_mul_add_congr (f := fun f : Fin 256 => if hd f = h then F f else 0) fun s l hl => rfl
  rw [← e, Finset.sum_eq_single h]
  · exact Finset.sum_congr rfl fun l _ => if_pos (hd_feat h l)
  · exact fun s _ hs => Finset.sum_eq_zero fun l _ => if_neg (fun he => hs ((hd_feat s l).symm.trans he))
  · exact fun hn => absurd (Finset.mem_univ h) hn
/-- A sum over the rows, chunk by chunk. -/
theorem sum_rows (F : Fin 16384 → EReal) : ∑ s : Fin 16384, F s = ∑ n : Fin 128, ∑ a : Fin 128, F (row n a) :=
  (Fin.sum_mul_add_congr (f := F) fun n a hl => rfl).symm

section Fin
variable {u v q d : Fin 16384 → Fin 256 → ℝ} {g b : Fin 256 → ℝ} {w : Fin 4 → Fin 128 → Fin 128 → ℝ} {bb : Fin 4 → Fin 128 → ℝ} (H : Args m c u v q d g b w bb)
include H

/-- The first result: the gate's input's gradient. -/
theorem final10 : (dats m 0 c).arrAt 10 cfg0.N = (fun i => (dup (ch u (nn (i 0))) (ch v (nn (i 0))) (ch q (nn (i 0))) (ch d (nn (i 0))) g b w (fun a f => bb (hd f) a) (aa (i 0)) (i 1) : EReal) : FVec Ideal S16384x256 .bf16) := by
  refine (dats m 0 c).arrAt_eq_of_covers 10 _ (by decide +kernel) fun t hf z => ?_
  obtain ⟨r, f, rfl⟩ : ∃ (r : Fin 512) (f : Fin 256), z = ix2 r f := ⟨z 0, z 1, eq_ix2 z⟩
  have e : ((cfg0.win 10).blk t).view.emb (ix2 r f) = ix2 (rowOf t r) f := by blk_ext [idx t]
  rw [e]
  blk_simp
  rw [after0_10]
  have en : nn (rowOf t r) = nOf t ⟨r.val / 128, by omega⟩ := Fin.ext (show (t.val * 512 + r.val) / 128 = t.val * 4 + r.val / 128 by omega)
  have ea : aa (rowOf t r) = ⟨r.val % 128, by omega⟩ := Fin.ext (show (t.val * 512 + r.val) % 128 = r.val % 128 by omega)
  refine (w10 m c H t ⟨r.val / 128, by omega⟩ ⟨r.val % 128, by omega⟩ f r (show r.val = 128 * (r.val / 128) + r.val % 128 by omega)).trans ?_
  show _ = (dup (ch u (nn (rowOf t r))) (ch v (nn (rowOf t r))) (ch q (nn (rowOf t r))) (ch d (nn (rowOf t r))) g b w (fun a f => bb (hd f) a) (aa (rowOf t r)) f : EReal)
  rw [en, ea]

/-- The second: the mixed input's. -/
theorem final11 : (dats m 0 c).arrAt 11 cfg0.N = (fun i => (dvp (ch u (nn (i 0))) (ch v (nn (i 0))) (ch q (nn (i 0))) (ch d (nn (i 0))) g w (aa (i 0)) (i 1) : EReal) : FVec Ideal S16384x256 .bf16) := by
  refine (dats m 0 c).arrAt_eq_of_covers 11 _ (by decide +kernel) fun t hf z => ?_
  obtain ⟨r, f, rfl⟩ : ∃ (r : Fin 512) (f : Fin 256), z = ix2 r f := ⟨z 0, z 1, eq_ix2 z⟩
  have e : ((cfg0.win 11).blk t).view.emb (ix2 r f) = ix2 (rowOf t r) f := by blk_ext [idx t]
  rw [e]
  blk_simp
  rw [after0_11]
  have en : nn (rowOf t r) = nOf t ⟨r.val / 128, by omega⟩ := Fin.ext (show (t.val * 512 + r.val) / 128 = t.val * 4 + r.val / 128 by omega)
  have ea : aa (rowOf t r) = ⟨r.val % 128, by omega⟩ := Fin.ext (show (t.val * 512 + r.val) % 128 = r.val % 128 by omega)
  refine (w11 m c H t ⟨r.val / 128, by omega⟩ ⟨r.val % 128, by omega⟩ f r (show r.val = 128 * (r.val / 128) + r.val % 128 by omega)).trans ?_
  show _ = (dvp (ch u (nn (rowOf t r))) (ch v (nn (rowOf t r))) (ch q (nn (rowOf t r))) (ch d (nn (rowOf t r))) g w (aa (rowOf t r)) f : EReal)
  rw [en, ea]

/-- The third: the second gate's. -/
theorem final12 : (dats m 0 c).arrAt 12 cfg0.N = (fun i => (dgt (ch u (nn (i 0))) (ch v (nn (i 0))) (ch q (nn (i 0))) (ch d (nn (i 0))) g b w (fun a f => bb (hd f) a) (aa (i 0)) (i 1) : EReal) : FVec Ideal S16384x256 .bf16) := by
  refine (dats m 0 c).arrAt_eq_of_covers 12 _ (by decide +kernel) fun t hf z => ?_
  obtain ⟨r, f, rfl⟩ : ∃ (r : Fin 512) (f : Fin 256), z = ix2 r f := ⟨z 0, z 1, eq_ix2 z⟩
  have e : ((cfg0.win 12).blk t).view.emb (ix2 r f) = ix2 (rowOf t r) f := by blk_ext [idx t]
  rw [e]
  blk_simp
  rw [after0_12]
  have en : nn (rowOf t r) = nOf t ⟨r.val / 128, by omega⟩ := Fin.ext (show (t.val * 512 + r.val) / 128 = t.val * 4 + r.val / 128 by omega)
  have ea : aa (rowOf t r) = ⟨r.val % 128, by omega⟩ := Fin.ext (show (t.val * 512 + r.val) % 128 = r.val % 128 by omega)
  refine (w12 m c H t ⟨r.val / 128, by omega⟩ ⟨r.val % 128, by omega⟩ f r (show r.val = 128 * (r.val / 128) + r.val % 128 by omega)).trans ?_
  show _ = (dgt (ch u (nn (rowOf t r))) (ch v (nn (rowOf t r))) (ch q (nn (rowOf t r))) (ch d (nn (rowOf t r))) g b w (fun a f => bb (hd f) a) (aa (rowOf t r)) f : EReal)
  rw [en, ea]

/-- The fourth: the norm's gain's. -/
theorem final13 : (dats m 0 c).arrAt 13 cfg0.N = (fun i => ∑ n : Fin 128, ∑ a : Fin 128, (dvln (ch u n) (ch q n) (ch d n) w a (i 1) : EReal) * (nrm (fun k => gelu (ch v n a k)) (i 1) : EReal) : FVec Ideal S1x256 .f32) := by
  refine (dats m 0 c).arrAt_eq_of_covers 13 _ (by decide +kernel) fun t hf z => ?_
  obtain ⟨f, rfl⟩ : ∃ f : Fin 256, z = ix2 0 f := ⟨z 1, by idx_ext⟩
  have e : ((cfg0.win 13).blk t).view.emb (ix2 0 f) = ix2 0 f := by blk_ext [idx t]
  rw [e]
  blk_simp
  rw [after0_13, Pipeline.eq_sum_fin_of_reset_step_apply_of_flush (fun n h => (outsAt0 m c n h).2.2.2.1) 32 (fun _ => (0 : EReal))
    (fun t j => ∑ i : Fin 4, ∑ a : Fin 128, (dvln (ch u (nOf t i)) (ch q (nOf t i)) (ch d (nOf t i)) w a (j 1) : EReal) * (nrm (fun k => gelu (ch v (nOf t i) a k)) (j 1) : EReal))
    (fun t h j => by
      obtain ⟨f, rfl⟩ : ∃ f : Fin 256, j = ix2 0 f := ⟨j 1, by idx_ext⟩
      exact s3A m c H t h (by omega) f)
    (fun t h j => by
      obtain ⟨f, rfl⟩ : ∃ f : Fin 256, j = ix2 0 f := ⟨j 1, by idx_ext⟩
      exact s3BC m c H t h f)
    t ((flush0_13 t).mp hf) (ix2 0 f), zero_add]
  exact sum4 (fun n => ∑ a : Fin 128, (dvln (ch u n) (ch q n) (ch d n) w a f : EReal) * (nrm (fun k => gelu (ch v n a k)) f : EReal)) t _

/-- The fifth: the norm's bias's. -/
theorem final14 : (dats m 0 c).arrAt 14 cfg0.N = (fun i => ∑ n : Fin 128, ∑ a : Fin 128, (dvln (ch u n) (ch q n) (ch d n) w a (i 1) : EReal) : FVec Ideal S1x256 .f32) := by
  refine (dats m 0 c).arrAt_eq_of_covers 14 _ (by decide +kernel) fun t hf z => ?_
  obtain ⟨f, rfl⟩ : ∃ f : Fin 256, z = ix2 0 f := ⟨z 1, by idx_ext⟩
  have e : ((cfg0.win 14).blk t).view.emb (ix2 0 f) = ix2 0 f := by blk_ext [idx t]
  rw [e]
  blk_simp
  rw [after0_14, Pipeline.eq_sum_fin_of_reset_step_apply_of_flush (fun n h => (outsAt0 m c n h).2.2.2.2.1) 32 (fun _ => (0 : EReal))
    (fun t j => ∑ i : Fin 4, ∑ a : Fin 128, (dvln (ch u (nOf t i)) (ch q (nOf t i)) (ch d (nOf t i)) w a (j 1) : EReal))
    (fun t h j => by
      obtain ⟨f, rfl⟩ : ∃ f : Fin 256, j = ix2 0 f := ⟨j 1, by idx_ext⟩
      exact s4A m c H t h (by omega) f)
    (fun t h j => by
      obtain ⟨f, rfl⟩ : ∃ f : Fin 256, j = ix2 0 f := ⟨j 1, by idx_ext⟩
      exact s4BC m c H t h f)
    t ((flush0_14 t).mp hf) (ix2 0 f), zero_add]
  exact sum4 (fun n => ∑ a : Fin 128, (dvln (ch u n) (ch q n) (ch d n) w a f : EReal)) t _

/-- The sixth: the mixes'. -/
theorem final15 : (dats m 0 c).arrAt 15 cfg0.N = (fun i => ∑ n : Fin 128, dwR (dmix (ch u n) (ch q n) (ch d n)) (vln (ch v n) g b) (i 0) (i 1) (i 2) : FVec Ideal S4x128x128 .f32) := by
  refine (dats m 0 c).arrAt_eq_of_covers 15 _ (by decide +kernel) fun t hf z => ?_
  obtain ⟨h, a, k, rfl⟩ : ∃ (h : Fin 4) (a k : Fin 128), z = ix3 h a k := ⟨z 0, z 1, z 2, eq_ix3 z⟩
  have e : ((cfg0.win 15).blk t).view.emb (ix3 h a k) = ix3 h a k := by blk_ext [idx t]
  rw [e]
  blk_simp
  rw [after0_15, Pipeline.eq_sum_fin_of_reset_step_apply_of_flush (fun n h => (outsAt0 m c n h).2.2.2.2.2.1) 32 (fun _ => (0 : EReal))
    (fun t j => ∑ i : Fin 4, dwR (dmix (ch u (nOf t i)) (ch q (nOf t i)) (ch d (nOf t i))) (vln (ch v (nOf t i)) g b) (j 0) (j 1) (j 2))
    (fun t h j => by
      obtain ⟨h', a, k, rfl⟩ : ∃ (h : Fin 4) (a k : Fin 128), j = ix3 h a k := ⟨j 0, j 1, j 2, eq_ix3 j⟩
      exact s5A m c H t h (by omega) h' a k)
    (fun t h j => by
      obtain ⟨h', a, k, rfl⟩ : ∃ (h : Fin 4) (a k : Fin 128), j = ix3 h a k := ⟨j 0, j 1, j 2, eq_ix3 j⟩
      exact s5BC m c H t h h' a k)
    t ((flush0_15 t).mp hf) (ix3 h a k), zero_add]
  exact sum4 (fun n => dwR (dmix (ch u n) (ch q n) (ch d n)) (vln (ch v n) g b) h a k) t _

/-- The scratch at the last tile: the mixed rows' gradient summed over the sequence's chunks. -/
theorem scratch (t : Fin cfg0.N) (hf : t.val % 32 = 31) (a : Fin 128) (f : Fin 256) :
    (show EReal from (outsAt0 m c t.val t.isLt).2.2.2.2.2.2.2 (ix2 a f)) = ∑ n : Fin 128, ((dmix (ch u n) (ch q n) (ch d n)) a f : EReal) := by
  show (outsAt0 m c t.val t.isLt).2.2.2.2.2.2.2 (ix2 a f) = _
  rw [Pipeline.eq_sum_fin_of_reset_step_apply_of_flush (fun n h => (outsAt0 m c n h).2.2.2.2.2.2.2) 32 (fun _ => (0 : EReal))
    (fun t j => ∑ i : Fin 4, ((dmix (ch u (nOf t i)) (ch q (nOf t i)) (ch d (nOf t i))) (j 0) (j 1) : EReal))
    (fun t h j => by
      obtain ⟨a, f, rfl⟩ : ∃ (a : Fin 128) (f : Fin 256), j = ix2 a f := ⟨j 0, j 1, eq_ix2 j⟩
      exact s7A m c H t h (by omega) a f)
    (fun t h j => by
      obtain ⟨a, f, rfl⟩ : ∃ (a : Fin 128) (f : Fin 256), j = ix2 a f := ⟨j 0, j 1, eq_ix2 j⟩
      exact s7BC m c H t h a f)
    t hf (ix2 a f), zero_add]
  exact sum4 (fun n => ((dmix (ch u n) (ch q n) (ch d n)) a f : EReal)) t _

/-- The seventh: the mixes' bias's, folded over each head's features. -/
theorem final16 : (dats m 0 c).arrAt 16 cfg0.N = (fun i => ∑ f : Fin 256, (∑ n : Fin 128, ((dmix (ch u n) (ch q n) (ch d n)) (i 0) f : EReal)) * (if (hd f).val = (i 1).val then (1 : EReal) else 0) : FVec Ideal S128x128 .f32) := by
  refine (dats m 0 c).arrAt_eq_of_covers 16 _ (by decide +kernel) fun t hf z => ?_
  obtain ⟨a, k, rfl⟩ : ∃ (a k : Fin 128), z = ix2 a k := ⟨z 0, z 1, eq_ix2 z⟩
  have e : ((cfg0.win 16).blk t).view.emb (ix2 a k) = ix2 a k := by blk_ext [idx t]
  rw [e]
  blk_simp
  have h1 : t.val % 32 = 31 := (flush0_16 t).mp hf
  have h0 : ¬ t.val % 32 = 0 := by omega
  rw [after0_16, outsAt0_C m c t h0 h1]; frame_out
  rw [read_unread_whole]
  rw [acc3, acc2, acc1, acc0]
  refine (pay2_at _ _ (fun f => ∑ n : Fin 128, dmix (ch u n) (ch q n) (ch d n) a f) a k fun f => ?_).trans (Finset.sum_congr rfl fun f _ => Ideal.mul_congr (coe_sum _ _).symm (blk9 m c t f k))
  exact (acc4 m c H t a f _).trans ((s7C m c H t h0 h1 a f).symm.trans ((scratch m c H t h1 a f).trans (coe_sum _ _)))

end Fin

end Cert.SguBwdClaims

end
-- ==== Proof.SguBwd.lean ====
/- The spatial gating unit's gradient call: what the kernel's seven result arrays hold is the
   vector-Jacobian product's seven gradients. -/
module

public import proofs.«01_k».proof.Proof.SguFin
public import proofs.«01_k».proof.Defs
public import proofs.«01_k».proof.Proof.Gen.Pre_finite_sgu_bwd
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SguBwdClaims

open Cert.Reals Cert.Ln Cert.Sgu
open Cert.ConvBwdAClaims (T3 refSig refCen refVar refN refRow refSum refSum_at)

/-- The precondition makes every argument real. -/
theorem real_args (a0 : FVec Ideal Cert.Pre_finite_sgu_bwd.S1x16384x2816 .f32) (a1 a2 : FVec Ideal Cert.Pre_finite_sgu_bwd.S256 .f32)
    (a3 : FVec Ideal Cert.Pre_finite_sgu_bwd.S4x128x128 .f32) (a4 : FVec Ideal Cert.Pre_finite_sgu_bwd.S4x128 .f32) (a5 : FVec Ideal Cert.Pre_finite_sgu_bwd.S1x16384x256 .f32) (h : Cert.Pre_finite_sgu_bwd.fn (F := Ideal) a0 a1 a2 a3 a4 a5 = fun _ => 1#1) :
    a0 = (fun i => ((a0 i).toReal : EReal)) ∧ a1 = (fun i => ((a1 i).toReal : EReal)) ∧ a2 = (fun i => ((a2 i).toReal : EReal))
      ∧ a3 = (fun i => ((a3 i).toReal : EReal)) ∧ a4 = (fun i => ((a4 i).toReal : EReal)) ∧ a5 = (fun i => ((a5 i).toReal : EReal)) := by
  have h := congrFun h ix0
  unfold Cert.Pre_finite_sgu_bwd.fn Cert.Pre_finite_sgu_bwd.fn_part1 at h
  simp only [andi_apply, and_true_iff] at h
  obtain ⟨⟨⟨⟨⟨h0, h1⟩, h2⟩, h3⟩, h4⟩, h5⟩ := h
  exact ⟨real_of_all a0 _ (fun _ => word_inf) _ _ _ (by decide) _ h0, real_of_all a1 _ (fun _ => word_inf) _ _ _ (by decide) _ h1,
    real_of_all a2 _ (fun _ => word_inf) _ _ _ (by decide) _ h2, real_of_all a3 _ (fun _ => word_inf) _ _ _ (by decide) _ h3,
    real_of_all a4 _ (fun _ => word_inf) _ _ _ (by decide) _ h4, real_of_all a5 _ (fun _ => word_inf) _ _ _ (by decide) _ h5⟩

section Reference
open Cert.SguBwdRefIdeal Cert.SguBwdRefIdeal.Facts₀

def out2 (X : T3) : FVec Ideal S16384x256 .bf16 := truncf .bf16 (shapeCast _ X shapeCasts_S1x16384x256_S16384x256) bitsLt_bf16_f32
def outR (X : T3) : FVec Ideal S1x256 .f32 := shapeCast _ (refSum X) shapeCasts_S256_S1x256
/-- The normalised rows. -/
def refNm (V : T3) : T3 := refN (refCen (refGelu V)) (Host.rsqrt (refVar (refCen (refGelu V))))

theorem out2_at (X : T3) (s : Fin 16384) (f : Fin 256) : out2 X (ix2 s f) = X (ix3 0 s f) := by
  pointwise [out2]
theorem outR_at (X : T3) (f : Fin 256) : outR X (ix2 0 f) = ∑ s : Fin 16384, X (ix3 0 s f) := by
  refine Eq.trans ?_ (refSum_at X f)
  unfold outR
  generalize refSum X = Z
  pointwise []
theorem mul_at (A B : T3) (s : Fin 16384) (f : Fin 256) : (mulf A B : T3) (ix3 0 s f) = A (ix3 0 s f) * B (ix3 0 s f) := by
  pointwise []

end Reference

set_option maxHeartbeats 4000000 in
/-- All seven results: the reference's terms over the kernel's arguments are the kernel's arrays. -/
theorem all_eq (m : (ℓ : Loc Cert.SguBwdIdeal.nD Cert.SguBwdIdeal.τ Cert.SguBwdIdeal.sig) → Buf (Elt Ideal) ℓ) (hpre : Cert.Pre_SguBwdIdeal_finite_sgu_bwd m)
    (c : Dev Cert.SguBwdIdeal.nD) (a0 : FVec Ideal Cert.SguBwdRefIdeal.S1x16384x2816 .f32) (a1 a2 : FVec Ideal Cert.SguBwdRefIdeal.S256 .f32)
    (a3 : FVec Ideal Cert.SguBwdRefIdeal.S4x128x128 .f32) (a4 : FVec Ideal Cert.SguBwdRefIdeal.S4x128 .f32) (a5 : T3)
    (h0 : A0 m c = a0) (h1 : A1 m c = a1) (h2 : A2 m c = a2) (h3 : A3 m c = a3) (h4 : A4 m c = a4) (h5 : A5 m c = a5)
    (U : T3) (eU : U = refU a0) (V : T3) (eV : V = refV a0) (Q : T3) (eQ : Q = refQ a0) :
    out2 (refDUp U V Q a5 a1 a2 a3 a4) = (Cert.SguBwdIdeal.Gen.dats m 0 c).arrAt 10 Cert.SguBwdIdeal.cfg0.N
      ∧ out2 (refDVp V (mulf (refDVln U Q a5 a3) (refRow a1))) = (Cert.SguBwdIdeal.Gen.dats m 0 c).arrAt 11 Cert.SguBwdIdeal.cfg0.N
      ∧ out2 (refDGt U V Q a5 a1 a2 a3 a4) = (Cert.SguBwdIdeal.Gen.dats m 0 c).arrAt 12 Cert.SguBwdIdeal.cfg0.N
      ∧ outR (mulf (refNm V) (refDVln U Q a5 a3)) = (Cert.SguBwdIdeal.Gen.dats m 0 c).arrAt 13 Cert.SguBwdIdeal.cfg0.N
      ∧ outR (refDVln U Q a5 a3) = (Cert.SguBwdIdeal.Gen.dats m 0 c).arrAt 14 Cert.SguBwdIdeal.cfg0.N
      ∧ refDW (refT (ref5 (refDMix U Q a5))) (ref5 (refVln V a1 a2)) = (Cert.SguBwdIdeal.Gen.dats m 0 c).arrAt 15 Cert.SguBwdIdeal.cfg0.N
      ∧ refDB (refDBa (ref5 (refDMix U Q a5))) = (Cert.SguBwdIdeal.Gen.dats m 0 c).arrAt 16 Cert.SguBwdIdeal.cfg0.N := by
  obtain ⟨r0, r1, r2, r3, r4, r5⟩ := real_args _ _ _ _ _ _ (hpre c)
  obtain ⟨u, hu⟩ : ∃ u : Fin 16384 → Fin 256 → ℝ, ∀ (s : Fin 16384) (f : Fin 256), A0 m c (ix3 0 s ⟨2048 + f.val, by omega⟩) = (u s f : EReal) := ⟨_, fun s f => congrFun r0 _⟩
  obtain ⟨v, hv⟩ : ∃ v : Fin 16384 → Fin 256 → ℝ, ∀ (s : Fin 16384) (f : Fin 256), A0 m c (ix3 0 s ⟨2304 + f.val, by omega⟩) = (v s f : EReal) := ⟨_, fun s f => congrFun r0 _⟩
  obtain ⟨q, hq⟩ : ∃ q : Fin 16384 → Fin 256 → ℝ, ∀ (s : Fin 16384) (f : Fin 256), A0 m c (ix3 0 s ⟨2560 + f.val, by omega⟩) = (q s f : EReal) := ⟨_, fun s f => congrFun r0 _⟩
  obtain ⟨d, hd5⟩ : ∃ d : Fin 16384 → Fin 256 → ℝ, ∀ (s : Fin 16384) (f : Fin 256), A5 m c (ix3 0 s f) = (d s f : EReal) := ⟨_, fun s f => congrFun r5 _⟩
  obtain ⟨g, hg⟩ : ∃ g : Fin 256 → ℝ, ∀ f : Fin 256, A1 m c (ix1 f) = (g f : EReal) := ⟨_, fun f => congrFun r1 _⟩
  obtain ⟨b, hb⟩ : ∃ b : Fin 256 → ℝ, ∀ f : Fin 256, A2 m c (ix1 f) = (b f : EReal) := ⟨_, fun f => congrFun r2 _⟩
  obtain ⟨w, hw⟩ : ∃ w : Fin 4 → Fin 128 → Fin 128 → ℝ, ∀ (h : Fin 4) (a k : Fin 128), A3 m c (ix3 h a k) = (w h a k : EReal) := ⟨_, fun h a k => congrFun r3 _⟩
  obtain ⟨bb, hbb⟩ : ∃ bb : Fin 4 → Fin 128 → ℝ, ∀ (h : Fin 4) (a : Fin 128), A4 m c (ix2 h a) = (bb h a : EReal) := ⟨_, fun h a => congrFun r4 _⟩
  have H : Args m c u v q d g b w bb := ⟨hu, hv, hq, hd5, hg, hb, hw, hbb⟩
  clear r0 r1 r2 r3 r4 r5 hpre
  rw [h0] at hu hv hq
  rw [h1] at hg
  rw [h2] at hb
  rw [h3] at hw
  rw [h4] at hbb
  rw [h5] at hd5
  have hU : ∀ s k, U (ix3 0 s k) = (u s k : EReal) := fun s k => (congrFun eU _).trans ((refU_at a0 s k).trans (hu s k))
  have hV : ∀ s k, V (ix3 0 s k) = (v s k : EReal) := fun s k => (congrFun eV _).trans ((refV_at a0 s k).trans (hv s k))
  have hQ : ∀ s k, Q (ix3 0 s k) = (q s k : EReal) := fun s k => (congrFun eQ _).trans ((refQ_at a0 s k).trans (hq s k))
  have hX : ∀ n a h l, ref5 (refDMix U Q a5) (ix5 0 n a h l) = (dmix (ch u n) (ch q n) (ch d n) a (feat h l) : EReal) := fun n a h l =>
    (ref5_at _ n a h l).trans (refDMix_at U Q a5 u q d hU hQ hd5 n a _)
  have hZ : ∀ n a h l, ref5 (refVln V a1 a2) (ix5 0 n a h l) = (vln (ch v n) g b a (feat h l) : EReal) := fun n a h l =>
    (ref5_at _ n a h l).trans (refVln_at V a1 a2 v g b hV hg hb n a _)
  have hL := refDVln_at U Q a5 a3 u q d w hU hQ hd5 hw
  refine ⟨Eq.trans ?_ (final10 m c H).symm, Eq.trans ?_ (final11 m c H).symm, Eq.trans ?_ (final12 m c H).symm, Eq.trans ?_ (final13 m c H).symm, Eq.trans ?_ (final14 m c H).symm, Eq.trans ?_ (final15 m c H).symm, Eq.trans ?_ (final16 m c H).symm⟩
  · funext i
    obtain ⟨s, f, rfl⟩ : ∃ (s : Fin 16384) (f : Fin 256), i = ix2 s f := ⟨i 0, i 1, eq_ix2 i⟩
    have k := refDUp_at (hU := hU) (hV := hV) (hQ := hQ) (hD := hd5) (hG := hg) (hB := hb) (hW := hw) (hb := hbb) (n := nn s) (a := aa s) (f := f) ..
    rw [row_nn] at k
    exact (out2_at _ s f).trans k
  · funext i
    obtain ⟨s, f, rfl⟩ : ∃ (s : Fin 16384) (f : Fin 256), i = ix2 s f := ⟨i 0, i 1, eq_ix2 i⟩
    have k := refDVp_at (hU := hU) (hV := hV) (hQ := hQ) (hD := hd5) (hG := hg) (hW := hw) (n := nn s) (a := aa s) (f := f) ..
    rw [row_nn] at k
    exact (out2_at _ s f).trans k
  · funext i
    obtain ⟨s, f, rfl⟩ : ∃ (s : Fin 16384) (f : Fin 256), i = ix2 s f := ⟨i 0, i 1, eq_ix2 i⟩
    have k := refDGt_at (hU := hU) (hV := hV) (hQ := hQ) (hD := hd5) (hG := hg) (hB := hb) (hW := hw) (hb := hbb) (n := nn s) (a := aa s) (f := f) ..
    rw [row_nn] at k
    exact (out2_at _ s f).trans k
  · funext i
    obtain ⟨f, rfl⟩ : ∃ f : Fin 256, i = ix2 0 f := ⟨i 1, by idx_ext⟩
    refine (outR_at _ f).trans ((sum_rows _).trans (Finset.sum_congr rfl fun n _ => Finset.sum_congr rfl fun a _ => ?_))
    refine (mul_at _ _ _ f).trans ((mul_comm _ _).trans (Ideal.mul_congr (hL n a f) ?_))
    exact refNrm_at V v hV (row n a) f
  · funext i
    obtain ⟨f, rfl⟩ : ∃ f : Fin 256, i = ix2 0 f := ⟨i 1, by idx_ext⟩
    exact (outR_at _ f).trans ((sum_rows _).trans (Finset.sum_congr rfl fun n _ => Finset.sum_congr rfl fun a _ => hL n a f))
  · funext i
    obtain ⟨h, a, k, rfl⟩ : ∃ (h : Fin 4) (a k : Fin 128), i = ix3 h a k := ⟨i 0, i 1, i 2, eq_ix3 i⟩
    refine (refDW_at _ _ h a k).trans (Finset.sum_congr rfl fun n _ => ?_)
    refine Eq.trans (Finset.sum_congr rfl fun l _ => ?_) (sum_head (fun f => (dmix (ch u n) (ch q n) (ch d n) a f : EReal) * (vln (ch v n) g b k f : EReal)) h).symm
    exact Ideal.mul_congr ((refT_at _ n a h l).trans (hX n a h l)) (hZ n k h l)
  · funext i
    obtain ⟨a, k, rfl⟩ : ∃ (a k : Fin 128), i = ix2 a k := ⟨i 0, i 1, eq_ix2 i⟩
    refine (refDB_at _ a k).trans ?_
    show _ = ∑ f : Fin 256, (∑ n : Fin 128, (dmix (ch u n) (ch q n) (ch d n) a f : EReal)) * (if (hd f).val = k.val then (1 : EReal) else 0)
    by_cases hk : k.val < 4
    · rw [dif_pos hk]
      have e : ∀ f : Fin 256, (∑ n : Fin 128, (dmix (ch u n) (ch q n) (ch d n) a f : EReal)) * (if (hd f).val = k.val then (1 : EReal) else 0)
          = if hd f = ⟨k.val, hk⟩ then ∑ n : Fin 128, (dmix (ch u n) (ch q n) (ch d n) a f : EReal) else 0 := fun f => by
        by_cases hf : hd f = ⟨k.val, hk⟩
        · rw [if_pos hf, if_pos (congrArg Fin.val hf), mul_one]
        · rw [if_neg hf, if_neg (fun h => hf (Fin.ext h)), mul_zero]
      rw [Finset.sum_congr rfl fun f _ => e f, sum_head]
      refine (refDBa_at _ a ⟨k.val, hk⟩).trans ?_
      rw [Finset.sum_comm]
      exact Finset.sum_congr rfl fun l _ => Finset.sum_congr rfl fun n _ => hX n a _ l
    · rw [dif_neg hk]
      refine (Finset.sum_eq_zero fun f _ => ?_).symm
      rw [if_neg (fun h : (hd f).val = k.val => hk (h ▸ (hd f).isLt)), mul_zero]

set_option maxHeartbeats 4000000 in
/-- The kernel's seven results are the vector-Jacobian product's. -/
theorem algebraic : Cert.algebraic_SguBwdIdeal_SguBwdRefIdeal_pre_finite_sgu_bwd := by
  pair_intro
  · run_from Cert.SguBwdIdeal.Value.run_blocks m g
  · run_from Cert.SguBwdRefIdeal.Value.run m' g'
    · obtain ⟨h0, h1, h2, h3, h4, h5⟩ := hagree c
      exact Eq.trans rfl (all_eq m hpre c _ _ _ _ _ _ h0.symm h1.symm h2.symm h3.symm h4.symm h5.symm _ rfl _ rfl _ rfl).1
    · obtain ⟨h0, h1, h2, h3, h4, h5⟩ := hagree c
      exact Eq.trans rfl (all_eq m hpre c _ _ _ _ _ _ h0.symm h1.symm h2.symm h3.symm h4.symm h5.symm _ rfl _ rfl _ rfl).2.1
    · obtain ⟨h0, h1, h2, h3, h4, h5⟩ := hagree c
      exact Eq.trans rfl (all_eq m hpre c _ _ _ _ _ _ h0.symm h1.symm h2.symm h3.symm h4.symm h5.symm _ rfl _ rfl _ rfl).2.2.1
    · obtain ⟨h0, h1, h2, h3, h4, h5⟩ := hagree c
      exact Eq.trans rfl (all_eq m hpre c _ _ _ _ _ _ h0.symm h1.symm h2.symm h3.symm h4.symm h5.symm _ rfl _ rfl _ rfl).2.2.2.1
    · obtain ⟨h0, h1, h2, h3, h4, h5⟩ := hagree c
      exact Eq.trans rfl (all_eq m hpre c _ _ _ _ _ _ h0.symm h1.symm h2.symm h3.symm h4.symm h5.symm _ rfl _ rfl _ rfl).2.2.2.2.1
    · obtain ⟨h0, h1, h2, h3, h4, h5⟩ := hagree c
      exact Eq.trans rfl (all_eq m hpre c _ _ _ _ _ _ h0.symm h1.symm h2.symm h3.symm h4.symm h5.symm _ rfl _ rfl _ rfl).2.2.2.2.2.1
    · obtain ⟨h0, h1, h2, h3, h4, h5⟩ := hagree c
      exact Eq.trans rfl (all_eq m hpre c _ _ _ _ _ _ h0.symm h1.symm h2.symm h3.symm h4.symm h5.symm _ rfl _ rfl _ rfl).2.2.2.2.2.2

/-- The reference's frame: it is host operations alone, none of which writes an argument, and it declares no semaphore. -/
theorem frame_ref : Cert.quiescent_SguBwdRefIdeal := fun m ρ _ =>
  (θ_run Cert.SguBwdRefIdeal.defs _ _).mono
    (fun r h => ⟨fun c => (h c).2.2.2.2.2.2.2, sem_eq_zero_of_no_sems (by decide) r.2⟩)
    (Cert.SguBwdRefIdeal.Value.run (F := Ideal) m ρ)

end Cert.SguBwdClaims

end
-- ==== Proof.lean ====
module

public import proofs.«01_k».proof.Defs
public import proofs.«01_k».proof.Proof.Gen.ProjBwd.Frame
public import proofs.«01_k».proof.Proof.Gen.ProjBwdIdeal.Value
public import proofs.«01_k».proof.Proof.Gen.ProjBwdRefIdeal.Run
public import proofs.«01_k».proof.Proof.Gen.Pre_finite_proj_bwd
public import proofs.«01_k».proof.Proof.ProjBwd
public import proofs.«01_k».proof.Proof.Gen.OutBwd.Frame
public import proofs.«01_k».proof.Proof.Gen.OutBwdIdeal.Value
public import proofs.«01_k».proof.Proof.Gen.OutBwdRefIdeal.Run
public import proofs.«01_k».proof.Proof.Gen.Pre_finite_out_bwd
public import proofs.«01_k».proof.Proof.OutBwd
public import proofs.«01_k».proof.Proof.Gen.AttnBwd.Loops
public import proofs.«01_k».proof.Proof.Gen.AttnBwd.Frame
public import proofs.«01_k».proof.Proof.Gen.AttnBwdIdeal.Loops
public import proofs.«01_k».proof.Proof.Gen.AttnBwdIdeal.Frame
public import proofs.«01_k».proof.Proof.Gen.AttnBwdRefIdeal.Run
public import proofs.«01_k».proof.Proof.Gen.Pre_finite_attn_bwd
public import proofs.«01_k».proof.Proof.AttnFrame
public import proofs.«01_k».proof.Proof.AttnRun
public import proofs.«01_k».proof.Proof.AttnVal
public import proofs.«01_k».proof.Proof.Gen.QPrepBwd.Frame
public import proofs.«01_k».proof.Proof.Gen.QPrepBwdIdeal.Value
public import proofs.«01_k».proof.Proof.Gen.QPrepBwdRefIdeal.Run
public import proofs.«01_k».proof.Proof.Gen.Pre_finite_q_prep_bwd
public import proofs.«01_k».proof.Proof.QPrepBwd
public import proofs.«01_k».proof.Proof.Gen.KPrepBwd.Frame
public import proofs.«01_k».proof.Proof.Gen.KPrepBwdIdeal.Value
public import proofs.«01_k».proof.Proof.Gen.KPrepBwdRefIdeal.Run
public import proofs.«01_k».proof.Proof.Gen.Pre_finite_k_prep_bwd
public import proofs.«01_k».proof.Proof.KPrepBwd
public import proofs.«01_k».proof.Proof.Gen.ConvBwdB.Frame
public import proofs.«01_k».proof.Proof.Gen.ConvBwdBIdeal.Value
public import proofs.«01_k».proof.Proof.Gen.ConvBwdBRefIdeal.Run
public import proofs.«01_k».proof.Proof.ConvBwdB
public import proofs.«01_k».proof.Proof.Gen.ConvBwdA.Frame
public import proofs.«01_k».proof.Proof.Gen.ConvBwdAIdeal.Value
public import proofs.«01_k».proof.Proof.Gen.ConvBwdARefIdeal.Run
public import proofs.«01_k».proof.Proof.Gen.Pre_finite_conv_bwd_a
public import proofs.«01_k».proof.Proof.ConvBwdA
public import proofs.«01_k».proof.Proof.Gen.SguBwd.Frame
public import proofs.«01_k».proof.Proof.Gen.SguBwdIdeal.Value
public import proofs.«01_k».proof.Proof.Gen.SguBwdRefIdeal.Run
public import proofs.«01_k».proof.Proof.Gen.Pre_finite_sgu_bwd
public import proofs.«01_k».proof.Proof.SguBwd

@[expose] public section

noncomputable section

open Idealize.ShloMosaic Idealize.SL.Sem

namespace Cert.Proof

/-- Every claim of the statement. -/
theorem claim : Cert.Claim :=
  ⟨Cert.ProjBwd.Gen.facts, Cert.ProjBwdIdeal.Gen.facts, Cert.ProjBwdRefIdeal.Gen.facts,
    Cert.OutBwd.Gen.facts, Cert.OutBwdIdeal.Gen.facts, Cert.OutBwdRefIdeal.Gen.facts,
    Cert.AttnBwd.Gen.facts, Cert.AttnBwdIdeal.Gen.facts, Cert.AttnBwdRefIdeal.Gen.facts,
    Cert.QPrepBwd.Gen.facts, Cert.QPrepBwdIdeal.Gen.facts, Cert.QPrepBwdRefIdeal.Gen.facts,
    Cert.KPrepBwd.Gen.facts, Cert.KPrepBwdIdeal.Gen.facts, Cert.KPrepBwdRefIdeal.Gen.facts,
    Cert.ConvBwdB.Gen.facts, Cert.ConvBwdBIdeal.Gen.facts, Cert.ConvBwdBRefIdeal.Gen.facts,
    Cert.ConvBwdA.Gen.facts, Cert.ConvBwdAIdeal.Gen.facts, Cert.ConvBwdARefIdeal.Gen.facts,
    Cert.SguBwd.Gen.facts, Cert.SguBwdIdeal.Gen.facts, Cert.SguBwdRefIdeal.Gen.facts,
    Cert.Pre_finite_proj_bwd.Gen.facts,
    Cert.Pre_finite_out_bwd.Gen.facts,
    Cert.Pre_finite_attn_bwd.Gen.facts,
    Cert.Pre_finite_q_prep_bwd.Gen.facts,
    Cert.Pre_finite_k_prep_bwd.Gen.facts,
    Cert.Pre_finite_conv_bwd_a.Gen.facts,
    Cert.Pre_finite_sgu_bwd.Gen.facts,
    fun m ρ _ => Cert.ProjBwd.Gen.frame m ρ,
    fun m ρ _ => Cert.ProjBwdIdeal.Gen.frame m ρ,
    fun m ρ _ => Cert.ProjBwdIdeal.Gen.frame m ρ,
    Cert.ProjBwdClaims.frame_ref,
    fun m ρ _ => Cert.ProjBwdClaims.frame_ref m ρ trivial,
    fun m ρ _ => Cert.OutBwd.Gen.frame m ρ,
    fun m ρ _ => Cert.OutBwdIdeal.Gen.frame m ρ,
    fun m ρ _ => Cert.OutBwdIdeal.Gen.frame m ρ,
    Cert.OutBwdClaims.frame_ref,
    fun m ρ _ => Cert.OutBwdClaims.frame_ref m ρ trivial,
    fun m ρ _ => Cert.AttnBwdFrame.frame m ρ,
    fun m ρ _ => Cert.AttnBwdClaims.frame_ideal m ρ,
    fun m ρ _ => Cert.AttnBwdClaims.frame_ideal m ρ,
    Cert.AttnBwdClaims.frame_ref,
    fun m ρ _ => Cert.AttnBwdClaims.frame_ref m ρ trivial,
    fun m ρ _ => Cert.QPrepBwd.Gen.frame m ρ,
    fun m ρ _ => Cert.QPrepBwdIdeal.Gen.frame m ρ,
    fun m ρ _ => Cert.QPrepBwdIdeal.Gen.frame m ρ,
    Cert.QPrepBwdClaims.frame_ref,
    fun m ρ _ => Cert.QPrepBwdClaims.frame_ref m ρ trivial,
    fun m ρ _ => Cert.KPrepBwd.Gen.frame m ρ,
    fun m ρ _ => Cert.KPrepBwdIdeal.Gen.frame m ρ,
    fun m ρ _ => Cert.KPrepBwdIdeal.Gen.frame m ρ,
    Cert.KPrepBwdClaims.frame_ref,
    fun m ρ _ => Cert.KPrepBwdClaims.frame_ref m ρ trivial,
    fun m ρ _ => Cert.ConvBwdB.Gen.frame m ρ,
    fun m ρ _ => Cert.ConvBwdBIdeal.Gen.frame m ρ,
    Cert.ConvBwdBClaims.frame_ref,
    fun m ρ _ => Cert.ConvBwdA.Gen.frame m ρ,
    fun m ρ _ => Cert.ConvBwdAIdeal.Gen.frame m ρ,
    fun m ρ _ => Cert.ConvBwdAIdeal.Gen.frame m ρ,
    Cert.ConvBwdAClaims.frame_ref,
    fun m ρ _ => Cert.ConvBwdAClaims.frame_ref m ρ trivial,
    fun m ρ _ => Cert.SguBwd.Gen.frame m ρ,
    fun m ρ _ => Cert.SguBwdIdeal.Gen.frame m ρ,
    fun m ρ _ => Cert.SguBwdIdeal.Gen.frame m ρ,
    Cert.SguBwdClaims.frame_ref,
    fun m ρ _ => Cert.SguBwdClaims.frame_ref m ρ trivial,
    trivial,
    Cert.ProjBwdClaims.algebraic,
    trivial,
    Cert.OutBwdClaims.algebraic,
    IdealRules.named_const.statement Cert.AttnBwdIdeal.κ "ln_2" .f32 0x3F317218#32 ((Real.log 2 : ℝ) : EReal) rfl,
    Cert.AttnBwdClaims.algebraic,
    trivial,
    Cert.QPrepBwdClaims.algebraic,
    trivial,
    Cert.KPrepBwdClaims.algebraic,
    trivial,
    Cert.ConvBwdBClaims.algebraic,
    trivial,
    Cert.ConvBwdAClaims.algebraic,
    ⟨IdealRules.named_const.statement Cert.SguBwdIdeal.κ "inv_sqrt_2" .f32 0x3F3504F3#32 (((Real.sqrt 2)⁻¹ : ℝ) : EReal) rfl,
      IdealRules.named_const.statement Cert.SguBwdIdeal.κ "inv_sqrt_2pi" .f32 0x3ECC422A#32 (((Real.sqrt (2 * Real.pi))⁻¹ : ℝ) : EReal) rfl⟩,
    Cert.SguBwdClaims.algebraic⟩

end Cert.Proof

end
